-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_UpFwd0 (m : (ℓ : Loc Cert.UpFwd0.nD Cert.UpFwd0.τ Cert.UpFwd0.sig) → Buf (Elt Bits) ℓ) : Prop :=
  True

def Pre_UpFwd0Ideal (m : (ℓ : Loc Cert.UpFwd0Ideal.nD Cert.UpFwd0Ideal.τ Cert.UpFwd0Ideal.sig) → Buf (Elt Ideal) ℓ) : Prop :=
  True

def Pre_UpFwd0ReferenceIdeal (m : (ℓ : Loc Cert.UpFwd0ReferenceIdeal.nD Cert.UpFwd0ReferenceIdeal.τ Cert.UpFwd0ReferenceIdeal.sig) → Buf (Elt Ideal) ℓ) : Prop :=
  True

def Pre_UpFwd1 (m : (ℓ : Loc Cert.UpFwd1.nD Cert.UpFwd1.τ Cert.UpFwd1.sig) → Buf (Elt Bits) ℓ) : Prop :=
  True

def Pre_UpFwd1Ideal (m : (ℓ : Loc Cert.UpFwd1Ideal.nD Cert.UpFwd1Ideal.τ Cert.UpFwd1Ideal.sig) → Buf (Elt Ideal) ℓ) : Prop :=
  True

def Pre_UpFwd1ReferenceIdeal (m : (ℓ : Loc Cert.UpFwd1ReferenceIdeal.nD Cert.UpFwd1ReferenceIdeal.τ Cert.UpFwd1ReferenceIdeal.sig) → Buf (Elt Ideal) ℓ) : Prop :=
  True

def Pre_UpFwd2 (m : (ℓ : Loc Cert.UpFwd2.nD Cert.UpFwd2.τ Cert.UpFwd2.sig) → Buf (Elt Bits) ℓ) : Prop :=
  True

def Pre_UpFwd2Ideal (m : (ℓ : Loc Cert.UpFwd2Ideal.nD Cert.UpFwd2Ideal.τ Cert.UpFwd2Ideal.sig) → Buf (Elt Ideal) ℓ) : Prop :=
  True

def Pre_UpFwd2ReferenceIdeal (m : (ℓ : Loc Cert.UpFwd2ReferenceIdeal.nD Cert.UpFwd2ReferenceIdeal.τ Cert.UpFwd2ReferenceIdeal.sig) → Buf (Elt Ideal) ℓ) : Prop :=
  True

def Pre_UpFwd3 (m : (ℓ : Loc Cert.UpFwd3.nD Cert.UpFwd3.τ Cert.UpFwd3.sig) → Buf (Elt Bits) ℓ) : Prop :=
  True

def Pre_UpFwd3Ideal (m : (ℓ : Loc Cert.UpFwd3Ideal.nD Cert.UpFwd3Ideal.τ Cert.UpFwd3Ideal.sig) → Buf (Elt Ideal) ℓ) : Prop :=
  True

def Pre_UpFwd3ReferenceIdeal (m : (ℓ : Loc Cert.UpFwd3ReferenceIdeal.nD Cert.UpFwd3ReferenceIdeal.τ Cert.UpFwd3ReferenceIdeal.sig) → Buf (Elt Ideal) ℓ) : Prop :=
  True

def Pre_DownFwd0 (m : (ℓ : Loc Cert.DownFwd0.nD Cert.DownFwd0.τ Cert.DownFwd0.sig) → Buf (Elt Bits) ℓ) : Prop :=
  True

def Pre_DownFwd0Ideal (m : (ℓ : Loc Cert.DownFwd0Ideal.nD Cert.DownFwd0Ideal.τ Cert.DownFwd0Ideal.sig) → Buf (Elt Ideal) ℓ) : Prop :=
  True

def Pre_DownFwd0ReferenceIdeal (m : (ℓ : Loc Cert.DownFwd0ReferenceIdeal.nD Cert.DownFwd0ReferenceIdeal.τ Cert.DownFwd0ReferenceIdeal.sig) → Buf (Elt Ideal) ℓ) : Prop :=
  True

def Pre_DownFwd1 (m : (ℓ : Loc Cert.DownFwd1.nD Cert.DownFwd1.τ Cert.DownFwd1.sig) → Buf (Elt Bits) ℓ) : Prop :=
  True

def Pre_DownFwd1Ideal (m : (ℓ : Loc Cert.DownFwd1Ideal.nD Cert.DownFwd1Ideal.τ Cert.DownFwd1Ideal.sig) → Buf (Elt Ideal) ℓ) : Prop :=
  True

def Pre_DownFwd1ReferenceIdeal (m : (ℓ : Loc Cert.DownFwd1ReferenceIdeal.nD Cert.DownFwd1ReferenceIdeal.τ Cert.DownFwd1ReferenceIdeal.sig) → Buf (Elt Ideal) ℓ) : Prop :=
  True

def Pre_DownFwd2 (m : (ℓ : Loc Cert.DownFwd2.nD Cert.DownFwd2.τ Cert.DownFwd2.sig) → Buf (Elt Bits) ℓ) : Prop :=
  True

def Pre_DownFwd2Ideal (m : (ℓ : Loc Cert.DownFwd2Ideal.nD Cert.DownFwd2Ideal.τ Cert.DownFwd2Ideal.sig) → Buf (Elt Ideal) ℓ) : Prop :=
  True

def Pre_DownFwd2ReferenceIdeal (m : (ℓ : Loc Cert.DownFwd2ReferenceIdeal.nD Cert.DownFwd2ReferenceIdeal.τ Cert.DownFwd2ReferenceIdeal.sig) → Buf (Elt Ideal) ℓ) : Prop :=
  True

def Pre_DownFwd3 (m : (ℓ : Loc Cert.DownFwd3.nD Cert.DownFwd3.τ Cert.DownFwd3.sig) → Buf (Elt Bits) ℓ) : Prop :=
  True

def Pre_DownFwd3Ideal (m : (ℓ : Loc Cert.DownFwd3Ideal.nD Cert.DownFwd3Ideal.τ Cert.DownFwd3Ideal.sig) → Buf (Elt Ideal) ℓ) : Prop :=
  True

def Pre_DownFwd3ReferenceIdeal (m : (ℓ : Loc Cert.DownFwd3ReferenceIdeal.nD Cert.DownFwd3ReferenceIdeal.τ Cert.DownFwd3ReferenceIdeal.sig) → Buf (Elt Ideal) ℓ) : Prop :=
  True

def Pre_AttnInFwd0 (m : (ℓ : Loc Cert.AttnInFwd0.nD Cert.AttnInFwd0.τ Cert.AttnInFwd0.sig) → Buf (Elt Bits) ℓ) : Prop :=
  True

def Pre_AttnInFwd0Ideal (m : (ℓ : Loc Cert.AttnInFwd0Ideal.nD Cert.AttnInFwd0Ideal.τ Cert.AttnInFwd0Ideal.sig) → Buf (Elt Ideal) ℓ) : Prop :=
  True

def Pre_AttnInFwd0ReferenceIdeal (m : (ℓ : Loc Cert.AttnInFwd0ReferenceIdeal.nD Cert.AttnInFwd0ReferenceIdeal.τ Cert.AttnInFwd0ReferenceIdeal.sig) → Buf (Elt Ideal) ℓ) : Prop :=
  True

def Pre_AttnInFwd1 (m : (ℓ : Loc Cert.AttnInFwd1.nD Cert.AttnInFwd1.τ Cert.AttnInFwd1.sig) → Buf (Elt Bits) ℓ) : Prop :=
  True

def Pre_AttnInFwd1Ideal (m : (ℓ : Loc Cert.AttnInFwd1Ideal.nD Cert.AttnInFwd1Ideal.τ Cert.AttnInFwd1Ideal.sig) → Buf (Elt Ideal) ℓ) : Prop :=
  True

def Pre_AttnInFwd1ReferenceIdeal (m : (ℓ : Loc Cert.AttnInFwd1ReferenceIdeal.nD Cert.AttnInFwd1ReferenceIdeal.τ Cert.AttnInFwd1ReferenceIdeal.sig) → Buf (Elt Ideal) ℓ) : Prop :=
  True

def Pre_HgrnInFwd0 (m : (ℓ : Loc Cert.HgrnInFwd0.nD Cert.HgrnInFwd0.τ Cert.HgrnInFwd0.sig) → Buf (Elt Bits) ℓ) : Prop :=
  True

def Pre_HgrnInFwd0Ideal (m : (ℓ : Loc Cert.HgrnInFwd0Ideal.nD Cert.HgrnInFwd0Ideal.τ Cert.HgrnInFwd0Ideal.sig) → Buf (Elt Ideal) ℓ) : Prop :=
  True

def Pre_HgrnInFwd0ReferenceIdeal (m : (ℓ : Loc Cert.HgrnInFwd0ReferenceIdeal.nD Cert.HgrnInFwd0ReferenceIdeal.τ Cert.HgrnInFwd0ReferenceIdeal.sig) → Buf (Elt Ideal) ℓ) : Prop :=
  True

def Pre_HgrnInFwd1 (m : (ℓ : Loc Cert.HgrnInFwd1.nD Cert.HgrnInFwd1.τ Cert.HgrnInFwd1.sig) → Buf (Elt Bits) ℓ) : Prop :=
  True

def Pre_HgrnInFwd1Ideal (m : (ℓ : Loc Cert.HgrnInFwd1Ideal.nD Cert.HgrnInFwd1Ideal.τ Cert.HgrnInFwd1Ideal.sig) → Buf (Elt Ideal) ℓ) : Prop :=
  True

def Pre_HgrnInFwd1ReferenceIdeal (m : (ℓ : Loc Cert.HgrnInFwd1ReferenceIdeal.nD Cert.HgrnInFwd1ReferenceIdeal.τ Cert.HgrnInFwd1ReferenceIdeal.sig) → Buf (Elt Ideal) ℓ) : Prop :=
  True

def Pre_OutFwd0 (m : (ℓ : Loc Cert.OutFwd0.nD Cert.OutFwd0.τ Cert.OutFwd0.sig) → Buf (Elt Bits) ℓ) : Prop :=
  True

def Pre_OutFwd0Ideal (m : (ℓ : Loc Cert.OutFwd0Ideal.nD Cert.OutFwd0Ideal.τ Cert.OutFwd0Ideal.sig) → Buf (Elt Ideal) ℓ) : Prop :=
  True

def Pre_OutFwd0ReferenceIdeal (m : (ℓ : Loc Cert.OutFwd0ReferenceIdeal.nD Cert.OutFwd0ReferenceIdeal.τ Cert.OutFwd0ReferenceIdeal.sig) → Buf (Elt Ideal) ℓ) : Prop :=
  True

def Pre_OutFwd1 (m : (ℓ : Loc Cert.OutFwd1.nD Cert.OutFwd1.τ Cert.OutFwd1.sig) → Buf (Elt Bits) ℓ) : Prop :=
  True

def Pre_OutFwd1Ideal (m : (ℓ : Loc Cert.OutFwd1Ideal.nD Cert.OutFwd1Ideal.τ Cert.OutFwd1Ideal.sig) → Buf (Elt Ideal) ℓ) : Prop :=
  True

def Pre_OutFwd1ReferenceIdeal (m : (ℓ : Loc Cert.OutFwd1ReferenceIdeal.nD Cert.OutFwd1ReferenceIdeal.τ Cert.OutFwd1ReferenceIdeal.sig) → Buf (Elt Ideal) ℓ) : Prop :=
  True

def Pre_DownDx0 (m : (ℓ : Loc Cert.DownDx0.nD Cert.DownDx0.τ Cert.DownDx0.sig) → Buf (Elt Bits) ℓ) : Prop :=
  True

def Pre_DownDx0Ideal (m : (ℓ : Loc Cert.DownDx0Ideal.nD Cert.DownDx0Ideal.τ Cert.DownDx0Ideal.sig) → Buf (Elt Ideal) ℓ) : Prop :=
  True

def Pre_DownDx0ReferenceIdeal (m : (ℓ : Loc Cert.DownDx0ReferenceIdeal.nD Cert.DownDx0ReferenceIdeal.τ Cert.DownDx0ReferenceIdeal.sig) → Buf (Elt Ideal) ℓ) : Prop :=
  True

def Pre_DownDx1 (m : (ℓ : Loc Cert.DownDx1.nD Cert.DownDx1.τ Cert.DownDx1.sig) → Buf (Elt Bits) ℓ) : Prop :=
  True

def Pre_DownDx1Ideal (m : (ℓ : Loc Cert.DownDx1Ideal.nD Cert.DownDx1Ideal.τ Cert.DownDx1Ideal.sig) → Buf (Elt Ideal) ℓ) : Prop :=
  True

def Pre_DownDx1ReferenceIdeal (m : (ℓ : Loc Cert.DownDx1ReferenceIdeal.nD Cert.DownDx1ReferenceIdeal.τ Cert.DownDx1ReferenceIdeal.sig) → Buf (Elt Ideal) ℓ) : Prop :=
  True

def Pre_DownDx2 (m : (ℓ : Loc Cert.DownDx2.nD Cert.DownDx2.τ Cert.DownDx2.sig) → Buf (Elt Bits) ℓ) : Prop :=
  True

def Pre_DownDx2Ideal (m : (ℓ : Loc Cert.DownDx2Ideal.nD Cert.DownDx2Ideal.τ Cert.DownDx2Ideal.sig) → Buf (Elt Ideal) ℓ) : Prop :=
  True

def Pre_DownDx2ReferenceIdeal (m : (ℓ : Loc Cert.DownDx2ReferenceIdeal.nD Cert.DownDx2ReferenceIdeal.τ Cert.DownDx2ReferenceIdeal.sig) → Buf (Elt Ideal) ℓ) : Prop :=
  True

def Pre_DownDx3 (m : (ℓ : Loc Cert.DownDx3.nD Cert.DownDx3.τ Cert.DownDx3.sig) → Buf (Elt Bits) ℓ) : Prop :=
  True

def Pre_DownDx3Ideal (m : (ℓ : Loc Cert.DownDx3Ideal.nD Cert.DownDx3Ideal.τ Cert.DownDx3Ideal.sig) → Buf (Elt Ideal) ℓ) : Prop :=
  True

def Pre_DownDx3ReferenceIdeal (m : (ℓ : Loc Cert.DownDx3ReferenceIdeal.nD Cert.DownDx3ReferenceIdeal.τ Cert.DownDx3ReferenceIdeal.sig) → Buf (Elt Ideal) ℓ) : Prop :=
  True

def Pre_HgrnOutDx0 (m : (ℓ : Loc Cert.HgrnOutDx0.nD Cert.HgrnOutDx0.τ Cert.HgrnOutDx0.sig) → Buf (Elt Bits) ℓ) : Prop :=
  True

def Pre_HgrnOutDx0Ideal (m : (ℓ : Loc Cert.HgrnOutDx0Ideal.nD Cert.HgrnOutDx0Ideal.τ Cert.HgrnOutDx0Ideal.sig) → Buf (Elt Ideal) ℓ) : Prop :=
  True

def Pre_HgrnOutDx0ReferenceIdeal (m : (ℓ : Loc Cert.HgrnOutDx0ReferenceIdeal.nD Cert.HgrnOutDx0ReferenceIdeal.τ Cert.HgrnOutDx0ReferenceIdeal.sig) → Buf (Elt Ideal) ℓ) : Prop :=
  True

def Pre_HgrnOutDx1 (m : (ℓ : Loc Cert.HgrnOutDx1.nD Cert.HgrnOutDx1.τ Cert.HgrnOutDx1.sig) → Buf (Elt Bits) ℓ) : Prop :=
  True

def Pre_HgrnOutDx1Ideal (m : (ℓ : Loc Cert.HgrnOutDx1Ideal.nD Cert.HgrnOutDx1Ideal.τ Cert.HgrnOutDx1Ideal.sig) → Buf (Elt Ideal) ℓ) : Prop :=
  True

def Pre_HgrnOutDx1ReferenceIdeal (m : (ℓ : Loc Cert.HgrnOutDx1ReferenceIdeal.nD Cert.HgrnOutDx1ReferenceIdeal.τ Cert.HgrnOutDx1ReferenceIdeal.sig) → Buf (Elt Ideal) ℓ) : Prop :=
  True

def Pre_AttnOutDx0 (m : (ℓ : Loc Cert.AttnOutDx0.nD Cert.AttnOutDx0.τ Cert.AttnOutDx0.sig) → Buf (Elt Bits) ℓ) : Prop :=
  True

def Pre_AttnOutDx0Ideal (m : (ℓ : Loc Cert.AttnOutDx0Ideal.nD Cert.AttnOutDx0Ideal.τ Cert.AttnOutDx0Ideal.sig) → Buf (Elt Ideal) ℓ) : Prop :=
  True

def Pre_AttnOutDx0ReferenceIdeal (m : (ℓ : Loc Cert.AttnOutDx0ReferenceIdeal.nD Cert.AttnOutDx0ReferenceIdeal.τ Cert.AttnOutDx0ReferenceIdeal.sig) → Buf (Elt Ideal) ℓ) : Prop :=
  True

def Pre_AttnOutDx1 (m : (ℓ : Loc Cert.AttnOutDx1.nD Cert.AttnOutDx1.τ Cert.AttnOutDx1.sig) → Buf (Elt Bits) ℓ) : Prop :=
  True

def Pre_AttnOutDx1Ideal (m : (ℓ : Loc Cert.AttnOutDx1Ideal.nD Cert.AttnOutDx1Ideal.τ Cert.AttnOutDx1Ideal.sig) → Buf (Elt Ideal) ℓ) : Prop :=
  True

def Pre_AttnOutDx1ReferenceIdeal (m : (ℓ : Loc Cert.AttnOutDx1ReferenceIdeal.nD Cert.AttnOutDx1ReferenceIdeal.τ Cert.AttnOutDx1ReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_AttnInDw (m : (ℓ : Loc Cert.AttnInDw.nD Cert.AttnInDw.τ Cert.AttnInDw.sig) → Buf (Elt Bits) ℓ) : Prop :=
  True

def Pre_AttnInDwIdeal (m : (ℓ : Loc Cert.AttnInDwIdeal.nD Cert.AttnInDwIdeal.τ Cert.AttnInDwIdeal.sig) → Buf (Elt Ideal) ℓ) : Prop :=
  True

def Pre_AttnInDwReferenceIdeal (m : (ℓ : Loc Cert.AttnInDwReferenceIdeal.nD Cert.AttnInDwReferenceIdeal.τ Cert.AttnInDwReferenceIdeal.sig) → Buf (Elt Ideal) ℓ) : Prop :=
  True

def Pre_HgrnInDw (m : (ℓ : Loc Cert.HgrnInDw.nD Cert.HgrnInDw.τ Cert.HgrnInDw.sig) → Buf (Elt Bits) ℓ) : Prop :=
  True

def Pre_HgrnInDwIdeal (m : (ℓ : Loc Cert.HgrnInDwIdeal.nD Cert.HgrnInDwIdeal.τ Cert.HgrnInDwIdeal.sig) → Buf (Elt Ideal) ℓ) : Prop :=
  True

def Pre_HgrnInDwReferenceIdeal (m : (ℓ : Loc Cert.HgrnInDwReferenceIdeal.nD Cert.HgrnInDwReferenceIdeal.τ Cert.HgrnInDwReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_UpDx0 (m : (ℓ : Loc Cert.UpDx0.nD Cert.UpDx0.τ Cert.UpDx0.sig) → Buf (Elt Bits) ℓ) : Prop :=
  True

def Pre_UpDx0Ideal (m : (ℓ : Loc Cert.UpDx0Ideal.nD Cert.UpDx0Ideal.τ Cert.UpDx0Ideal.sig) → Buf (Elt Ideal) ℓ) : Prop :=
  True

def Pre_UpDx0ReferenceIdeal (m : (ℓ : Loc Cert.UpDx0ReferenceIdeal.nD Cert.UpDx0ReferenceIdeal.τ Cert.UpDx0ReferenceIdeal.sig) → Buf (Elt Ideal) ℓ) : Prop :=
  True

def Pre_UpDx1 (m : (ℓ : Loc Cert.UpDx1.nD Cert.UpDx1.τ Cert.UpDx1.sig) → Buf (Elt Bits) ℓ) : Prop :=
  True

def Pre_UpDx1Ideal (m : (ℓ : Loc Cert.UpDx1Ideal.nD Cert.UpDx1Ideal.τ Cert.UpDx1Ideal.sig) → Buf (Elt Ideal) ℓ) : Prop :=
  True

def Pre_UpDx1ReferenceIdeal (m : (ℓ : Loc Cert.UpDx1ReferenceIdeal.nD Cert.UpDx1ReferenceIdeal.τ Cert.UpDx1ReferenceIdeal.sig) → Buf (Elt Ideal) ℓ) : Prop :=
  True

def Pre_UpDx2 (m : (ℓ : Loc Cert.UpDx2.nD Cert.UpDx2.τ Cert.UpDx2.sig) → Buf (Elt Bits) ℓ) : Prop :=
  True

def Pre_UpDx2Ideal (m : (ℓ : Loc Cert.UpDx2Ideal.nD Cert.UpDx2Ideal.τ Cert.UpDx2Ideal.sig) → Buf (Elt Ideal) ℓ) : Prop :=
  True

def Pre_UpDx2ReferenceIdeal (m : (ℓ : Loc Cert.UpDx2ReferenceIdeal.nD Cert.UpDx2ReferenceIdeal.τ Cert.UpDx2ReferenceIdeal.sig) → Buf (Elt Ideal) ℓ) : Prop :=
  True

def Pre_UpDx3 (m : (ℓ : Loc Cert.UpDx3.nD Cert.UpDx3.τ Cert.UpDx3.sig) → Buf (Elt Bits) ℓ) : Prop :=
  True

def Pre_UpDx3Ideal (m : (ℓ : Loc Cert.UpDx3Ideal.nD Cert.UpDx3Ideal.τ Cert.UpDx3Ideal.sig) → Buf (Elt Ideal) ℓ) : Prop :=
  True

def Pre_UpDx3ReferenceIdeal (m : (ℓ : Loc Cert.UpDx3ReferenceIdeal.nD Cert.UpDx3ReferenceIdeal.τ Cert.UpDx3ReferenceIdeal.sig) → Buf (Elt Ideal) ℓ) : Prop :=
  True

def Pre_AttnInDx0 (m : (ℓ : Loc Cert.AttnInDx0.nD Cert.AttnInDx0.τ Cert.AttnInDx0.sig) → Buf (Elt Bits) ℓ) : Prop :=
  True

def Pre_AttnInDx0Ideal (m : (ℓ : Loc Cert.AttnInDx0Ideal.nD Cert.AttnInDx0Ideal.τ Cert.AttnInDx0Ideal.sig) → Buf (Elt Ideal) ℓ) : Prop :=
  True

def Pre_AttnInDx0ReferenceIdeal (m : (ℓ : Loc Cert.AttnInDx0ReferenceIdeal.nD Cert.AttnInDx0ReferenceIdeal.τ Cert.AttnInDx0ReferenceIdeal.sig) → Buf (Elt Ideal) ℓ) : Prop :=
  True

def Pre_AttnInDx1 (m : (ℓ : Loc Cert.AttnInDx1.nD Cert.AttnInDx1.τ Cert.AttnInDx1.sig) → Buf (Elt Bits) ℓ) : Prop :=
  True

def Pre_AttnInDx1Ideal (m : (ℓ : Loc Cert.AttnInDx1Ideal.nD Cert.AttnInDx1Ideal.τ Cert.AttnInDx1Ideal.sig) → Buf (Elt Ideal) ℓ) : Prop :=
  True

def Pre_AttnInDx1ReferenceIdeal (m : (ℓ : Loc Cert.AttnInDx1ReferenceIdeal.nD Cert.AttnInDx1ReferenceIdeal.τ Cert.AttnInDx1ReferenceIdeal.sig) → Buf (Elt Ideal) ℓ) : Prop :=
  True

def Pre_HgrnInDx0 (m : (ℓ : Loc Cert.HgrnInDx0.nD Cert.HgrnInDx0.τ Cert.HgrnInDx0.sig) → Buf (Elt Bits) ℓ) : Prop :=
  True

def Pre_HgrnInDx0Ideal (m : (ℓ : Loc Cert.HgrnInDx0Ideal.nD Cert.HgrnInDx0Ideal.τ Cert.HgrnInDx0Ideal.sig) → Buf (Elt Ideal) ℓ) : Prop :=
  True

def Pre_HgrnInDx0ReferenceIdeal (m : (ℓ : Loc Cert.HgrnInDx0ReferenceIdeal.nD Cert.HgrnInDx0ReferenceIdeal.τ Cert.HgrnInDx0ReferenceIdeal.sig) → Buf (Elt Ideal) ℓ) : Prop :=
  True

def Pre_HgrnInDx1 (m : (ℓ : Loc Cert.HgrnInDx1.nD Cert.HgrnInDx1.τ Cert.HgrnInDx1.sig) → Buf (Elt Bits) ℓ) : Prop :=
  True

def Pre_HgrnInDx1Ideal (m : (ℓ : Loc Cert.HgrnInDx1Ideal.nD Cert.HgrnInDx1Ideal.τ Cert.HgrnInDx1Ideal.sig) → Buf (Elt Ideal) ℓ) : Prop :=
  True

def Pre_HgrnInDx1ReferenceIdeal (m : (ℓ : Loc Cert.HgrnInDx1ReferenceIdeal.nD Cert.HgrnInDx1ReferenceIdeal.τ Cert.HgrnInDx1ReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_AdamAttnIn (m : (ℓ : Loc Cert.AdamAttnIn.nD Cert.AdamAttnIn.τ Cert.AdamAttnIn.sig) → Buf (Elt Bits) ℓ) : Prop :=
  True

def Pre_AdamAttnInIdeal (m : (ℓ : Loc Cert.AdamAttnInIdeal.nD Cert.AdamAttnInIdeal.τ Cert.AdamAttnInIdeal.sig) → Buf (Elt Ideal) ℓ) : Prop :=
  True

def Pre_AdamAttnInReferenceIdeal (m : (ℓ : Loc Cert.AdamAttnInReferenceIdeal.nD Cert.AdamAttnInReferenceIdeal.τ Cert.AdamAttnInReferenceIdeal.sig) → Buf (Elt Ideal) ℓ) : Prop :=
  True

def Pre_AdamHgrnIn (m : (ℓ : Loc Cert.AdamHgrnIn.nD Cert.AdamHgrnIn.τ Cert.AdamHgrnIn.sig) → Buf (Elt Bits) ℓ) : Prop :=
  True

def Pre_AdamHgrnInIdeal (m : (ℓ : Loc Cert.AdamHgrnInIdeal.nD Cert.AdamHgrnInIdeal.τ Cert.AdamHgrnInIdeal.sig) → Buf (Elt Ideal) ℓ) : Prop :=
  True

def Pre_AdamHgrnInReferenceIdeal (m : (ℓ : Loc Cert.AdamHgrnInReferenceIdeal.nD Cert.AdamHgrnInReferenceIdeal.τ Cert.AdamHgrnInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UpFwd0 [hUpFwd0 : Cert.UpFwd0.Facts] : Prop :=
  ∀ (m : (ℓ : Loc Cert.UpFwd0.nD Cert.UpFwd0.τ Cert.UpFwd0.sig) → Buf (Elt Bits) ℓ) (g : Dev Cert.UpFwd0.nD → PrngReg), Pre_UpFwd0 m →
    θ_run (Cert.UpFwd0.defs (F := Bits)) (onTc (τ := Cert.UpFwd0.τ) (Cert.UpFwd0.main (F := Bits))) ⟨m, fun _ => 0, g⟩ (fun r => (∀ c : Dev Cert.UpFwd0.nD,
      r.2.mem ((c.tc : Thread Cert.UpFwd0.nD Cert.UpFwd0.τ).loc Cert.UpFwd0.main_arg0) = m ((c.tc : Thread Cert.UpFwd0.nD Cert.UpFwd0.τ).loc Cert.UpFwd0.main_arg0)
      ∧ r.2.mem ((c.tc : Thread Cert.UpFwd0.nD Cert.UpFwd0.τ).loc Cert.UpFwd0.main_arg1) = m ((c.tc : Thread Cert.UpFwd0.nD Cert.UpFwd0.τ).loc Cert.UpFwd0.main_arg1))
      ∧ r.2.sem = fun _ => 0)

def quiescent_UpFwd0Ideal [hUpFwd0Ideal : Cert.UpFwd0Ideal.Facts] : Prop :=
  ∀ (m : (ℓ : Loc Cert.UpFwd0Ideal.nD Cert.UpFwd0Ideal.τ Cert.UpFwd0Ideal.sig) → Buf (Elt Ideal) ℓ) (g : Dev Cert.UpFwd0Ideal.nD → PrngReg), Pre_UpFwd0Ideal m →
    θ_run (Cert.UpFwd0Ideal.defs (F := Ideal)) (onTc (τ := Cert.UpFwd0Ideal.τ) (Cert.UpFwd0Ideal.main (F := Ideal))) ⟨m, fun _ => 0, g⟩ (fun r => (∀ c : Dev Cert.UpFwd0Ideal.nD,
      r.2.mem ((c.tc : Thread Cert.UpFwd0Ideal.nD Cert.UpFwd0Ideal.τ).loc Cert.UpFwd0Ideal.main_arg0) = m ((c.tc : Thread Cert.UpFwd0Ideal.nD Cert.UpFwd0Ideal.τ).loc Cert.UpFwd0Ideal.main_arg0)
      ∧ r.2.mem ((c.tc : Thread Cert.UpFwd0Ideal.nD Cert.UpFwd0Ideal.τ).loc Cert.UpFwd0Ideal.main_arg1) = m ((c.tc : Thread Cert.UpFwd0Ideal.nD Cert.UpFwd0Ideal.τ).loc Cert.UpFwd0Ideal.main_arg1))
      ∧ r.2.sem = fun _ => 0)

def quiescent_UpFwd0ReferenceIdeal [hUpFwd0ReferenceIdeal : Cert.UpFwd0ReferenceIdeal.Facts] : Prop :=
  ∀ (m : (ℓ : Loc Cert.UpFwd0ReferenceIdeal.nD Cert.UpFwd0ReferenceIdeal.τ Cert.UpFwd0ReferenceIdeal.sig) → Buf (Elt Ideal) ℓ) (g : Dev Cert.UpFwd0ReferenceIdeal.nD → PrngReg), Pre_UpFwd0ReferenceIdeal m →
    θ_run (Cert.UpFwd0ReferenceIdeal.defs (F := Ideal)) (onTc (τ := Cert.UpFwd0ReferenceIdeal.τ) (Cert.UpFwd0ReferenceIdeal.main (F := Ideal))) ⟨m, fun _ => 0, g⟩ (fun r => (∀ c : Dev Cert.UpFwd0ReferenceIdeal.nD,
      r.2.mem ((c.tc : Thread Cert.UpFwd0ReferenceIdeal.nD Cert.UpFwd0ReferenceIdeal.τ).loc Cert.UpFwd0ReferenceIdeal.main_arg0) = m ((c.tc : Thread Cert.UpFwd0ReferenceIdeal.nD Cert.UpFwd0ReferenceIdeal.τ).loc Cert.UpFwd0ReferenceIdeal.main_arg0)
      ∧ r.2.mem ((c.tc : Thread Cert.UpFwd0ReferenceIdeal.nD Cert.UpFwd0ReferenceIdeal.τ).loc Cert.UpFwd0ReferenceIdeal.main_arg1) = m ((c.tc : Thread Cert.UpFwd0ReferenceIdeal.nD Cert.UpFwd0ReferenceIdeal.τ).loc Cert.UpFwd0ReferenceIdeal.main_arg1))
      ∧ r.2.sem = fun _ => 0)

def quiescent_UpFwd1 [hUpFwd1 : Cert.UpFwd1.Facts] : Prop :=
  ∀ (m : (ℓ : Loc Cert.UpFwd1.nD Cert.UpFwd1.τ Cert.UpFwd1.sig) → Buf (Elt Bits) ℓ) (g : Dev Cert.UpFwd1.nD → PrngReg), Pre_UpFwd1 m →
    θ_run (Cert.UpFwd1.defs (F := Bits)) (onTc (τ := Cert.UpFwd1.τ) (Cert.UpFwd1.main (F := Bits))) ⟨m, fun _ => 0, g⟩ (fun r => (∀ c : Dev Cert.UpFwd1.nD,
      r.2.mem ((c.tc : Thread Cert.UpFwd1.nD Cert.UpFwd1.τ).loc Cert.UpFwd1.main_arg0) = m ((c.tc : Thread Cert.UpFwd1.nD Cert.UpFwd1.τ).loc Cert.UpFwd1.main_arg0)
      ∧ r.2.mem ((c.tc : Thread Cert.UpFwd1.nD Cert.UpFwd1.τ).loc Cert.UpFwd1.main_arg1) = m ((c.tc : Thread Cert.UpFwd1.nD Cert.UpFwd1.τ).loc Cert.UpFwd1.main_arg1))
      ∧ r.2.sem = fun _ => 0)

def quiescent_UpFwd1Ideal [hUpFwd1Ideal : Cert.UpFwd1Ideal.Facts] : Prop :=
  ∀ (m : (ℓ : Loc Cert.UpFwd1Ideal.nD Cert.UpFwd1Ideal.τ Cert.UpFwd1Ideal.sig) → Buf (Elt Ideal) ℓ) (g : Dev Cert.UpFwd1Ideal.nD → PrngReg), Pre_UpFwd1Ideal m →
    θ_run (Cert.UpFwd1Ideal.defs (F := Ideal)) (onTc (τ := Cert.UpFwd1Ideal.τ) (Cert.UpFwd1Ideal.main (F := Ideal))) ⟨m, fun _ => 0, g⟩ (fun r => (∀ c : Dev Cert.UpFwd1Ideal.nD,
      r.2.mem ((c.tc : Thread Cert.UpFwd1Ideal.nD Cert.UpFwd1Ideal.τ).loc Cert.UpFwd1Ideal.main_arg0) = m ((c.tc : Thread Cert.UpFwd1Ideal.nD Cert.UpFwd1Ideal.τ).loc Cert.UpFwd1Ideal.main_arg0)
      ∧ r.2.mem ((c.tc : Thread Cert.UpFwd1Ideal.nD Cert.UpFwd1Ideal.τ).loc Cert.UpFwd1Ideal.main_arg1) = m ((c.tc : Thread Cert.UpFwd1Ideal.nD Cert.UpFwd1Ideal.τ).loc Cert.UpFwd1Ideal.main_arg1))
      ∧ r.2.sem = fun _ => 0)

def quiescent_UpFwd1ReferenceIdeal [hUpFwd1ReferenceIdeal : Cert.UpFwd1ReferenceIdeal.Facts] : Prop :=
  ∀ (m : (ℓ : Loc Cert.UpFwd1ReferenceIdeal.nD Cert.UpFwd1ReferenceIdeal.τ Cert.UpFwd1ReferenceIdeal.sig) → Buf (Elt Ideal) ℓ) (g : Dev Cert.UpFwd1ReferenceIdeal.nD → PrngReg), Pre_UpFwd1ReferenceIdeal m →
    θ_run (Cert.UpFwd1ReferenceIdeal.defs (F := Ideal)) (onTc (τ := Cert.UpFwd1ReferenceIdeal.τ) (Cert.UpFwd1ReferenceIdeal.main (F := Ideal))) ⟨m, fun _ => 0, g⟩ (fun r => (∀ c : Dev Cert.UpFwd1ReferenceIdeal.nD,
      r.2.mem ((c.tc : Thread Cert.UpFwd1ReferenceIdeal.nD Cert.UpFwd1ReferenceIdeal.τ).loc Cert.UpFwd1ReferenceIdeal.main_arg0) = m ((c.tc : Thread Cert.UpFwd1ReferenceIdeal.nD Cert.UpFwd1ReferenceIdeal.τ).loc Cert.UpFwd1ReferenceIdeal.main_arg0)
      ∧ r.2.mem ((c.tc : Thread Cert.UpFwd1ReferenceIdeal.nD Cert.UpFwd1ReferenceIdeal.τ).loc Cert.UpFwd1ReferenceIdeal.main_arg1) = m ((c.tc : Thread Cert.UpFwd1ReferenceIdeal.nD Cert.UpFwd1ReferenceIdeal.τ).loc Cert.UpFwd1ReferenceIdeal.main_arg1))
      ∧ r.2.sem = fun _ => 0)

def quiescent_UpFwd2 [hUpFwd2 : Cert.UpFwd2.Facts] : Prop :=
  ∀ (m : (ℓ : Loc Cert.UpFwd2.nD Cert.UpFwd2.τ Cert.UpFwd2.sig) → Buf (Elt Bits) ℓ) (g : Dev Cert.UpFwd2.nD → PrngReg), Pre_UpFwd2 m →
    θ_run (Cert.UpFwd2.defs (F := Bits)) (onTc (τ := Cert.UpFwd2.τ) (Cert.UpFwd2.main (F := Bits))) ⟨m, fun _ => 0, g⟩ (fun r => (∀ c : Dev Cert.UpFwd2.nD,
      r.2.mem ((c.tc : Thread Cert.UpFwd2.nD Cert.UpFwd2.τ).loc Cert.UpFwd2.main_arg0) = m ((c.tc : Thread Cert.UpFwd2.nD Cert.UpFwd2.τ).loc Cert.UpFwd2.main_arg0)
      ∧ r.2.mem ((c.tc : Thread Cert.UpFwd2.nD Cert.UpFwd2.τ).loc Cert.UpFwd2.main_arg1) = m ((c.tc : Thread Cert.UpFwd2.nD Cert.UpFwd2.τ).loc Cert.UpFwd2.main_arg1))
      ∧ r.2.sem = fun _ => 0)

def quiescent_UpFwd2Ideal [hUpFwd2Ideal : Cert.UpFwd2Ideal.Facts] : Prop :=
  ∀ (m : (ℓ : Loc Cert.UpFwd2Ideal.nD Cert.UpFwd2Ideal.τ Cert.UpFwd2Ideal.sig) → Buf (Elt Ideal) ℓ) (g : Dev Cert.UpFwd2Ideal.nD → PrngReg), Pre_UpFwd2Ideal m →
    θ_run (Cert.UpFwd2Ideal.defs (F := Ideal)) (onTc (τ := Cert.UpFwd2Ideal.τ) (Cert.UpFwd2Ideal.main (F := Ideal))) ⟨m, fun _ => 0, g⟩ (fun r => (∀ c : Dev Cert.UpFwd2Ideal.nD,
      r.2.mem ((c.tc : Thread Cert.UpFwd2Ideal.nD Cert.UpFwd2Ideal.τ).loc Cert.UpFwd2Ideal.main_arg0) = m ((c.tc : Thread Cert.UpFwd2Ideal.nD Cert.UpFwd2Ideal.τ).loc Cert.UpFwd2Ideal.main_arg0)
      ∧ r.2.mem ((c.tc : Thread Cert.UpFwd2Ideal.nD Cert.UpFwd2Ideal.τ).loc Cert.UpFwd2Ideal.main_arg1) = m ((c.tc : Thread Cert.UpFwd2Ideal.nD Cert.UpFwd2Ideal.τ).loc Cert.UpFwd2Ideal.main_arg1))
      ∧ r.2.sem = fun _ => 0)

def quiescent_UpFwd2ReferenceIdeal [hUpFwd2ReferenceIdeal : Cert.UpFwd2ReferenceIdeal.Facts] : Prop :=
  ∀ (m : (ℓ : Loc Cert.UpFwd2ReferenceIdeal.nD Cert.UpFwd2ReferenceIdeal.τ Cert.UpFwd2ReferenceIdeal.sig) → Buf (Elt Ideal) ℓ) (g : Dev Cert.UpFwd2ReferenceIdeal.nD → PrngReg), Pre_UpFwd2ReferenceIdeal m →
    θ_run (Cert.UpFwd2ReferenceIdeal.defs (F := Ideal)) (onTc (τ := Cert.UpFwd2ReferenceIdeal.τ) (Cert.UpFwd2ReferenceIdeal.main (F := Ideal))) ⟨m, fun _ => 0, g⟩ (fun r => (∀ c : Dev Cert.UpFwd2ReferenceIdeal.nD,
      r.2.mem ((c.tc : Thread Cert.UpFwd2ReferenceIdeal.nD Cert.UpFwd2ReferenceIdeal.τ).loc Cert.UpFwd2ReferenceIdeal.main_arg0) = m ((c.tc : Thread Cert.UpFwd2ReferenceIdeal.nD Cert.UpFwd2ReferenceIdeal.τ).loc Cert.UpFwd2ReferenceIdeal.main_arg0)
      ∧ r.2.mem ((c.tc : Thread Cert.UpFwd2ReferenceIdeal.nD Cert.UpFwd2ReferenceIdeal.τ).loc Cert.UpFwd2ReferenceIdeal.main_arg1) = m ((c.tc : Thread Cert.UpFwd2ReferenceIdeal.nD Cert.UpFwd2ReferenceIdeal.τ).loc Cert.UpFwd2ReferenceIdeal.main_arg1))
      ∧ r.2.sem = fun _ => 0)

def quiescent_UpFwd3 [hUpFwd3 : Cert.UpFwd3.Facts] : Prop :=
  ∀ (m : (ℓ : Loc Cert.UpFwd3.nD Cert.UpFwd3.τ Cert.UpFwd3.sig) → Buf (Elt Bits) ℓ) (g : Dev Cert.UpFwd3.nD → PrngReg), Pre_UpFwd3 m →
    θ_run (Cert.UpFwd3.defs (F := Bits)) (onTc (τ := Cert.UpFwd3.τ) (Cert.UpFwd3.main (F := Bits))) ⟨m, fun _ => 0, g⟩ (fun r => (∀ c : Dev Cert.UpFwd3.nD,
      r.2.mem ((c.tc : Thread Cert.UpFwd3.nD Cert.UpFwd3.τ).loc Cert.UpFwd3.main_arg0) = m ((c.tc : Thread Cert.UpFwd3.nD Cert.UpFwd3.τ).loc Cert.UpFwd3.main_arg0)
      ∧ r.2.mem ((c.tc : Thread Cert.UpFwd3.nD Cert.UpFwd3.τ).loc Cert.UpFwd3.main_arg1) = m ((c.tc : Thread Cert.UpFwd3.nD Cert.UpFwd3.τ).loc Cert.UpFwd3.main_arg1))
      ∧ r.2.sem = fun _ => 0)

def quiescent_UpFwd3Ideal [hUpFwd3Ideal : Cert.UpFwd3Ideal.Facts] : Prop :=
  ∀ (m : (ℓ : Loc Cert.UpFwd3Ideal.nD Cert.UpFwd3Ideal.τ Cert.UpFwd3Ideal.sig) → Buf (Elt Ideal) ℓ) (g : Dev Cert.UpFwd3Ideal.nD → PrngReg), Pre_UpFwd3Ideal m →
    θ_run (Cert.UpFwd3Ideal.defs (F := Ideal)) (onTc (τ := Cert.UpFwd3Ideal.τ) (Cert.UpFwd3Ideal.main (F := Ideal))) ⟨m, fun _ => 0, g⟩ (fun r => (∀ c : Dev Cert.UpFwd3Ideal.nD,
      r.2.mem ((c.tc : Thread Cert.UpFwd3Ideal.nD Cert.UpFwd3Ideal.τ).loc Cert.UpFwd3Ideal.main_arg0) = m ((c.tc : Thread Cert.UpFwd3Ideal.nD Cert.UpFwd3Ideal.τ).loc Cert.UpFwd3Ideal.main_arg0)
      ∧ r.2.mem ((c.tc : Thread Cert.UpFwd3Ideal.nD Cert.UpFwd3Ideal.τ).loc Cert.UpFwd3Ideal.main_arg1) = m ((c.tc : Thread Cert.UpFwd3Ideal.nD Cert.UpFwd3Ideal.τ).loc Cert.UpFwd3Ideal.main_arg1))
      ∧ r.2.sem = fun _ => 0)

def quiescent_UpFwd3ReferenceIdeal [hUpFwd3ReferenceIdeal : Cert.UpFwd3ReferenceIdeal.Facts] : Prop :=
  ∀ (m : (ℓ : Loc Cert.UpFwd3ReferenceIdeal.nD Cert.UpFwd3ReferenceIdeal.τ Cert.UpFwd3ReferenceIdeal.sig) → Buf (Elt Ideal) ℓ) (g : Dev Cert.UpFwd3ReferenceIdeal.nD → PrngReg), Pre_UpFwd3ReferenceIdeal m →
    θ_run (Cert.UpFwd3ReferenceIdeal.defs (F := Ideal)) (onTc (τ := Cert.UpFwd3ReferenceIdeal.τ) (Cert.UpFwd3ReferenceIdeal.main (F := Ideal))) ⟨m, fun _ => 0, g⟩ (fun r => (∀ c : Dev Cert.UpFwd3ReferenceIdeal.nD,
      r.2.mem ((c.tc : Thread Cert.UpFwd3ReferenceIdeal.nD Cert.UpFwd3ReferenceIdeal.τ).loc Cert.UpFwd3ReferenceIdeal.main_arg0) = m ((c.tc : Thread Cert.UpFwd3ReferenceIdeal.nD Cert.UpFwd3ReferenceIdeal.τ).loc Cert.UpFwd3ReferenceIdeal.main_arg0)
      ∧ r.2.mem ((c.tc : Thread Cert.UpFwd3ReferenceIdeal.nD Cert.UpFwd3ReferenceIdeal.τ).loc Cert.UpFwd3ReferenceIdeal.main_arg1) = m ((c.tc : Thread Cert.UpFwd3ReferenceIdeal.nD Cert.UpFwd3ReferenceIdeal.τ).loc Cert.UpFwd3ReferenceIdeal.main_arg1))
      ∧ r.2.sem = fun _ => 0)

def quiescent_DownFwd0 [hDownFwd0 : Cert.DownFwd0.Facts] : Prop :=
  ∀ (m : (ℓ : Loc Cert.DownFwd0.nD Cert.DownFwd0.τ Cert.DownFwd0.sig) → Buf (Elt Bits) ℓ) (g : Dev Cert.DownFwd0.nD → PrngReg), Pre_DownFwd0 m →
    θ_run (Cert.DownFwd0.defs (F := Bits)) (onTc (τ := Cert.DownFwd0.τ) (Cert.DownFwd0.main (F := Bits))) ⟨m, fun _ => 0, g⟩ (fun r => (∀ c : Dev Cert.DownFwd0.nD,
      r.2.mem ((c.tc : Thread Cert.DownFwd0.nD Cert.DownFwd0.τ).loc Cert.DownFwd0.main_arg0) = m ((c.tc : Thread Cert.DownFwd0.nD Cert.DownFwd0.τ).loc Cert.DownFwd0.main_arg0)
      ∧ r.2.mem ((c.tc : Thread Cert.DownFwd0.nD Cert.DownFwd0.τ).loc Cert.DownFwd0.main_arg1) = m ((c.tc : Thread Cert.DownFwd0.nD Cert.DownFwd0.τ).loc Cert.DownFwd0.main_arg1)
      ∧ r.2.mem ((c.tc : Thread Cert.DownFwd0.nD Cert.DownFwd0.τ).loc Cert.DownFwd0.main_arg2) = m ((c.tc : Thread Cert.DownFwd0.nD Cert.DownFwd0.τ).loc Cert.DownFwd0.main_arg2))
      ∧ r.2.sem = fun _ => 0)

def quiescent_DownFwd0Ideal [hDownFwd0Ideal : Cert.DownFwd0Ideal.Facts] : Prop :=
  ∀ (m : (ℓ : Loc Cert.DownFwd0Ideal.nD Cert.DownFwd0Ideal.τ Cert.DownFwd0Ideal.sig) → Buf (Elt Ideal) ℓ) (g : Dev Cert.DownFwd0Ideal.nD → PrngReg), Pre_DownFwd0Ideal m →
    θ_run (Cert.DownFwd0Ideal.defs (F := Ideal)) (onTc (τ := Cert.DownFwd0Ideal.τ) (Cert.DownFwd0Ideal.main (F := Ideal))) ⟨m, fun _ => 0, g⟩ (fun r => (∀ c : Dev Cert.DownFwd0Ideal.nD,
      r.2.mem ((c.tc : Thread Cert.DownFwd0Ideal.nD Cert.DownFwd0Ideal.τ).loc Cert.DownFwd0Ideal.main_arg0) = m ((c.tc : Thread Cert.DownFwd0Ideal.nD Cert.DownFwd0Ideal.τ).loc Cert.DownFwd0Ideal.main_arg0)
      ∧ r.2.mem ((c.tc : Thread Cert.DownFwd0Ideal.nD Cert.DownFwd0Ideal.τ).loc Cert.DownFwd0Ideal.main_arg1) = m ((c.tc : Thread Cert.DownFwd0Ideal.nD Cert.DownFwd0Ideal.τ).loc Cert.DownFwd0Ideal.main_arg1)
      ∧ r.2.mem ((c.tc : Thread Cert.DownFwd0Ideal.nD Cert.DownFwd0Ideal.τ).loc Cert.DownFwd0Ideal.main_arg2) = m ((c.tc : Thread Cert.DownFwd0Ideal.nD Cert.DownFwd0Ideal.τ).loc Cert.DownFwd0Ideal.main_arg2))
      ∧ r.2.sem = fun _ => 0)

def quiescent_DownFwd0ReferenceIdeal [hDownFwd0ReferenceIdeal : Cert.DownFwd0ReferenceIdeal.Facts] : Prop :=
  ∀ (m : (ℓ : Loc Cert.DownFwd0ReferenceIdeal.nD Cert.DownFwd0ReferenceIdeal.τ Cert.DownFwd0ReferenceIdeal.sig) → Buf (Elt Ideal) ℓ) (g : Dev Cert.DownFwd0ReferenceIdeal.nD → PrngReg), Pre_DownFwd0ReferenceIdeal m →
    θ_run (Cert.DownFwd0ReferenceIdeal.defs (F := Ideal)) (onTc (τ := Cert.DownFwd0ReferenceIdeal.τ) (Cert.DownFwd0ReferenceIdeal.main (F := Ideal))) ⟨m, fun _ => 0, g⟩ (fun r => (∀ c : Dev Cert.DownFwd0ReferenceIdeal.nD,
      r.2.mem ((c.tc : Thread Cert.DownFwd0ReferenceIdeal.nD Cert.DownFwd0ReferenceIdeal.τ).loc Cert.DownFwd0ReferenceIdeal.main_arg0) = m ((c.tc : Thread Cert.DownFwd0ReferenceIdeal.nD Cert.DownFwd0ReferenceIdeal.τ).loc Cert.DownFwd0ReferenceIdeal.main_arg0)
      ∧ r.2.mem ((c.tc : Thread Cert.DownFwd0ReferenceIdeal.nD Cert.DownFwd0ReferenceIdeal.τ).loc Cert.DownFwd0ReferenceIdeal.main_arg1) = m ((c.tc : Thread Cert.DownFwd0ReferenceIdeal.nD Cert.DownFwd0ReferenceIdeal.τ).loc Cert.DownFwd0ReferenceIdeal.main_arg1)
      ∧ r.2.mem ((c.tc : Thread Cert.DownFwd0ReferenceIdeal.nD Cert.DownFwd0ReferenceIdeal.τ).loc Cert.DownFwd0ReferenceIdeal.main_arg2) = m ((c.tc : Thread Cert.DownFwd0ReferenceIdeal.nD Cert.DownFwd0ReferenceIdeal.τ).loc Cert.DownFwd0ReferenceIdeal.main_arg2))
      ∧ r.2.sem = fun _ => 0)

def quiescent_DownFwd1 [hDownFwd1 : Cert.DownFwd1.Facts] : Prop :=
  ∀ (m : (ℓ : Loc Cert.DownFwd1.nD Cert.DownFwd1.τ Cert.DownFwd1.sig) → Buf (Elt Bits) ℓ) (g : Dev Cert.DownFwd1.nD → PrngReg), Pre_DownFwd1 m →
    θ_run (Cert.DownFwd1.defs (F := Bits)) (onTc (τ := Cert.DownFwd1.τ) (Cert.DownFwd1.main (F := Bits))) ⟨m, fun _ => 0, g⟩ (fun r => (∀ c : Dev Cert.DownFwd1.nD,
      r.2.mem ((c.tc : Thread Cert.DownFwd1.nD Cert.DownFwd1.τ).loc Cert.DownFwd1.main_arg0) = m ((c.tc : Thread Cert.DownFwd1.nD Cert.DownFwd1.τ).loc Cert.DownFwd1.main_arg0)
      ∧ r.2.mem ((c.tc : Thread Cert.DownFwd1.nD Cert.DownFwd1.τ).loc Cert.DownFwd1.main_arg1) = m ((c.tc : Thread Cert.DownFwd1.nD Cert.DownFwd1.τ).loc Cert.DownFwd1.main_arg1)
      ∧ r.2.mem ((c.tc : Thread Cert.DownFwd1.nD Cert.DownFwd1.τ).loc Cert.DownFwd1.main_arg2) = m ((c.tc : Thread Cert.DownFwd1.nD Cert.DownFwd1.τ).loc Cert.DownFwd1.main_arg2))
      ∧ r.2.sem = fun _ => 0)

def quiescent_DownFwd1Ideal [hDownFwd1Ideal : Cert.DownFwd1Ideal.Facts] : Prop :=
  ∀ (m : (ℓ : Loc Cert.DownFwd1Ideal.nD Cert.DownFwd1Ideal.τ Cert.DownFwd1Ideal.sig) → Buf (Elt Ideal) ℓ) (g : Dev Cert.DownFwd1Ideal.nD → PrngReg), Pre_DownFwd1Ideal m →
    θ_run (Cert.DownFwd1Ideal.defs (F := Ideal)) (onTc (τ := Cert.DownFwd1Ideal.τ) (Cert.DownFwd1Ideal.main (F := Ideal))) ⟨m, fun _ => 0, g⟩ (fun r => (∀ c : Dev Cert.DownFwd1Ideal.nD,
      r.2.mem ((c.tc : Thread Cert.DownFwd1Ideal.nD Cert.DownFwd1Ideal.τ).loc Cert.DownFwd1Ideal.main_arg0) = m ((c.tc : Thread Cert.DownFwd1Ideal.nD Cert.DownFwd1Ideal.τ).loc Cert.DownFwd1Ideal.main_arg0)
      ∧ r.2.mem ((c.tc : Thread Cert.DownFwd1Ideal.nD Cert.DownFwd1Ideal.τ).loc Cert.DownFwd1Ideal.main_arg1) = m ((c.tc : Thread Cert.DownFwd1Ideal.nD Cert.DownFwd1Ideal.τ).loc Cert.DownFwd1Ideal.main_arg1)
      ∧ r.2.mem ((c.tc : Thread Cert.DownFwd1Ideal.nD Cert.DownFwd1Ideal.τ).loc Cert.DownFwd1Ideal.main_arg2) = m ((c.tc : Thread Cert.DownFwd1Ideal.nD Cert.DownFwd1Ideal.τ).loc Cert.DownFwd1Ideal.main_arg2))
      ∧ r.2.sem = fun _ => 0)

def quiescent_DownFwd1ReferenceIdeal [hDownFwd1ReferenceIdeal : Cert.DownFwd1ReferenceIdeal.Facts] : Prop :=
  ∀ (m : (ℓ : Loc Cert.DownFwd1ReferenceIdeal.nD Cert.DownFwd1ReferenceIdeal.τ Cert.DownFwd1ReferenceIdeal.sig) → Buf (Elt Ideal) ℓ) (g : Dev Cert.DownFwd1ReferenceIdeal.nD → PrngReg), Pre_DownFwd1ReferenceIdeal m →
    θ_run (Cert.DownFwd1ReferenceIdeal.defs (F := Ideal)) (onTc (τ := Cert.DownFwd1ReferenceIdeal.τ) (Cert.DownFwd1ReferenceIdeal.main (F := Ideal))) ⟨m, fun _ => 0, g⟩ (fun r => (∀ c : Dev Cert.DownFwd1ReferenceIdeal.nD,
      r.2.mem ((c.tc : Thread Cert.DownFwd1ReferenceIdeal.nD Cert.DownFwd1ReferenceIdeal.τ).loc Cert.DownFwd1ReferenceIdeal.main_arg0) = m ((c.tc : Thread Cert.DownFwd1ReferenceIdeal.nD Cert.DownFwd1ReferenceIdeal.τ).loc Cert.DownFwd1ReferenceIdeal.main_arg0)
      ∧ r.2.mem ((c.tc : Thread Cert.DownFwd1ReferenceIdeal.nD Cert.DownFwd1ReferenceIdeal.τ).loc Cert.DownFwd1ReferenceIdeal.main_arg1) = m ((c.tc : Thread Cert.DownFwd1ReferenceIdeal.nD Cert.DownFwd1ReferenceIdeal.τ).loc Cert.DownFwd1ReferenceIdeal.main_arg1)
      ∧ r.2.mem ((c.tc : Thread Cert.DownFwd1ReferenceIdeal.nD Cert.DownFwd1ReferenceIdeal.τ).loc Cert.DownFwd1ReferenceIdeal.main_arg2) = m ((c.tc : Thread Cert.DownFwd1ReferenceIdeal.nD Cert.DownFwd1ReferenceIdeal.τ).loc Cert.DownFwd1ReferenceIdeal.main_arg2))
      ∧ r.2.sem = fun _ => 0)

def quiescent_DownFwd2 [hDownFwd2 : Cert.DownFwd2.Facts] : Prop :=
  ∀ (m : (ℓ : Loc Cert.DownFwd2.nD Cert.DownFwd2.τ Cert.DownFwd2.sig) → Buf (Elt Bits) ℓ) (g : Dev Cert.DownFwd2.nD → PrngReg), Pre_DownFwd2 m →
    θ_run (Cert.DownFwd2.defs (F := Bits)) (onTc (τ := Cert.DownFwd2.τ) (Cert.DownFwd2.main (F := Bits))) ⟨m, fun _ => 0, g⟩ (fun r => (∀ c : Dev Cert.DownFwd2.nD,
      r.2.mem ((c.tc : Thread Cert.DownFwd2.nD Cert.DownFwd2.τ).loc Cert.DownFwd2.main_arg0) = m ((c.tc : Thread Cert.DownFwd2.nD Cert.DownFwd2.τ).loc Cert.DownFwd2.main_arg0)
      ∧ r.2.mem ((c.tc : Thread Cert.DownFwd2.nD Cert.DownFwd2.τ).loc Cert.DownFwd2.main_arg1) = m ((c.tc : Thread Cert.DownFwd2.nD Cert.DownFwd2.τ).loc Cert.DownFwd2.main_arg1)
      ∧ r.2.mem ((c.tc : Thread Cert.DownFwd2.nD Cert.DownFwd2.τ).loc Cert.DownFwd2.main_arg2) = m ((c.tc : Thread Cert.DownFwd2.nD Cert.DownFwd2.τ).loc Cert.DownFwd2.main_arg2))
      ∧ r.2.sem = fun _ => 0)

def quiescent_DownFwd2Ideal [hDownFwd2Ideal : Cert.DownFwd2Ideal.Facts] : Prop :=
  ∀ (m : (ℓ : Loc Cert.DownFwd2Ideal.nD Cert.DownFwd2Ideal.τ Cert.DownFwd2Ideal.sig) → Buf (Elt Ideal) ℓ) (g : Dev Cert.DownFwd2Ideal.nD → PrngReg), Pre_DownFwd2Ideal m →
    θ_run (Cert.DownFwd2Ideal.defs (F := Ideal)) (onTc (τ := Cert.DownFwd2Ideal.τ) (Cert.DownFwd2Ideal.main (F := Ideal))) ⟨m, fun _ => 0, g⟩ (fun r => (∀ c : Dev Cert.DownFwd2Ideal.nD,
      r.2.mem ((c.tc : Thread Cert.DownFwd2Ideal.nD Cert.DownFwd2Ideal.τ).loc Cert.DownFwd2Ideal.main_arg0) = m ((c.tc : Thread Cert.DownFwd2Ideal.nD Cert.DownFwd2Ideal.τ).loc Cert.DownFwd2Ideal.main_arg0)
      ∧ r.2.mem ((c.tc : Thread Cert.DownFwd2Ideal.nD Cert.DownFwd2Ideal.τ).loc Cert.DownFwd2Ideal.main_arg1) = m ((c.tc : Thread Cert.DownFwd2Ideal.nD Cert.DownFwd2Ideal.τ).loc Cert.DownFwd2Ideal.main_arg1)
      ∧ r.2.mem ((c.tc : Thread Cert.DownFwd2Ideal.nD Cert.DownFwd2Ideal.τ).loc Cert.DownFwd2Ideal.main_arg2) = m ((c.tc : Thread Cert.DownFwd2Ideal.nD Cert.DownFwd2Ideal.τ).loc Cert.DownFwd2Ideal.main_arg2))
      ∧ r.2.sem = fun _ => 0)

def quiescent_DownFwd2ReferenceIdeal [hDownFwd2ReferenceIdeal : Cert.DownFwd2ReferenceIdeal.Facts] : Prop :=
  ∀ (m : (ℓ : Loc Cert.DownFwd2ReferenceIdeal.nD Cert.DownFwd2ReferenceIdeal.τ Cert.DownFwd2ReferenceIdeal.sig) → Buf (Elt Ideal) ℓ) (g : Dev Cert.DownFwd2ReferenceIdeal.nD → PrngReg), Pre_DownFwd2ReferenceIdeal m →
    θ_run (Cert.DownFwd2ReferenceIdeal.defs (F := Ideal)) (onTc (τ := Cert.DownFwd2ReferenceIdeal.τ) (Cert.DownFwd2ReferenceIdeal.main (F := Ideal))) ⟨m, fun _ => 0, g⟩ (fun r => (∀ c : Dev Cert.DownFwd2ReferenceIdeal.nD,
      r.2.mem ((c.tc : Thread Cert.DownFwd2ReferenceIdeal.nD Cert.DownFwd2ReferenceIdeal.τ).loc Cert.DownFwd2ReferenceIdeal.main_arg0) = m ((c.tc : Thread Cert.DownFwd2ReferenceIdeal.nD Cert.DownFwd2ReferenceIdeal.τ).loc Cert.DownFwd2ReferenceIdeal.main_arg0)
      ∧ r.2.mem ((c.tc : Thread Cert.DownFwd2ReferenceIdeal.nD Cert.DownFwd2ReferenceIdeal.τ).loc Cert.DownFwd2ReferenceIdeal.main_arg1) = m ((c.tc : Thread Cert.DownFwd2ReferenceIdeal.nD Cert.DownFwd2ReferenceIdeal.τ).loc Cert.DownFwd2ReferenceIdeal.main_arg1)
      ∧ r.2.mem ((c.tc : Thread Cert.DownFwd2ReferenceIdeal.nD Cert.DownFwd2ReferenceIdeal.τ).loc Cert.DownFwd2ReferenceIdeal.main_arg2) = m ((c.tc : Thread Cert.DownFwd2ReferenceIdeal.nD Cert.DownFwd2ReferenceIdeal.τ).loc Cert.DownFwd2ReferenceIdeal.main_arg2))
      ∧ r.2.sem = fun _ => 0)

def quiescent_DownFwd3 [hDownFwd3 : Cert.DownFwd3.Facts] : Prop :=
  ∀ (m : (ℓ : Loc Cert.DownFwd3.nD Cert.DownFwd3.τ Cert.DownFwd3.sig) → Buf (Elt Bits) ℓ) (g : Dev Cert.DownFwd3.nD → PrngReg), Pre_DownFwd3 m →
    θ_run (Cert.DownFwd3.defs (F := Bits)) (onTc (τ := Cert.DownFwd3.τ) (Cert.DownFwd3.main (F := Bits))) ⟨m, fun _ => 0, g⟩ (fun r => (∀ c : Dev Cert.DownFwd3.nD,
      r.2.mem ((c.tc : Thread Cert.DownFwd3.nD Cert.DownFwd3.τ).loc Cert.DownFwd3.main_arg0) = m ((c.tc : Thread Cert.DownFwd3.nD Cert.DownFwd3.τ).loc Cert.DownFwd3.main_arg0)
      ∧ r.2.mem ((c.tc : Thread Cert.DownFwd3.nD Cert.DownFwd3.τ).loc Cert.DownFwd3.main_arg1) = m ((c.tc : Thread Cert.DownFwd3.nD Cert.DownFwd3.τ).loc Cert.DownFwd3.main_arg1)
      ∧ r.2.mem ((c.tc : Thread Cert.DownFwd3.nD Cert.DownFwd3.τ).loc Cert.DownFwd3.main_arg2) = m ((c.tc : Thread Cert.DownFwd3.nD Cert.DownFwd3.τ).loc Cert.DownFwd3.main_arg2))
      ∧ r.2.sem = fun _ => 0)

def quiescent_DownFwd3Ideal [hDownFwd3Ideal : Cert.DownFwd3Ideal.Facts] : Prop :=
  ∀ (m : (ℓ : Loc Cert.DownFwd3Ideal.nD Cert.DownFwd3Ideal.τ Cert.DownFwd3Ideal.sig) → Buf (Elt Ideal) ℓ) (g : Dev Cert.DownFwd3Ideal.nD → PrngReg), Pre_DownFwd3Ideal m →
    θ_run (Cert.DownFwd3Ideal.defs (F := Ideal)) (onTc (τ := Cert.DownFwd3Ideal.τ) (Cert.DownFwd3Ideal.main (F := Ideal))) ⟨m, fun _ => 0, g⟩ (fun r => (∀ c : Dev Cert.DownFwd3Ideal.nD,
      r.2.mem ((c.tc : Thread Cert.DownFwd3Ideal.nD Cert.DownFwd3Ideal.τ).loc Cert.DownFwd3Ideal.main_arg0) = m ((c.tc : Thread Cert.DownFwd3Ideal.nD Cert.DownFwd3Ideal.τ).loc Cert.DownFwd3Ideal.main_arg0)
      ∧ r.2.mem ((c.tc : Thread Cert.DownFwd3Ideal.nD Cert.DownFwd3Ideal.τ).loc Cert.DownFwd3Ideal.main_arg1) = m ((c.tc : Thread Cert.DownFwd3Ideal.nD Cert.DownFwd3Ideal.τ).loc Cert.DownFwd3Ideal.main_arg1)
      ∧ r.2.mem ((c.tc : Thread Cert.DownFwd3Ideal.nD Cert.DownFwd3Ideal.τ).loc Cert.DownFwd3Ideal.main_arg2) = m ((c.tc : Thread Cert.DownFwd3Ideal.nD Cert.DownFwd3Ideal.τ).loc Cert.DownFwd3Ideal.main_arg2))
      ∧ r.2.sem = fun _ => 0)

def quiescent_DownFwd3ReferenceIdeal [hDownFwd3ReferenceIdeal : Cert.DownFwd3ReferenceIdeal.Facts] : Prop :=
  ∀ (m : (ℓ : Loc Cert.DownFwd3ReferenceIdeal.nD Cert.DownFwd3ReferenceIdeal.τ Cert.DownFwd3ReferenceIdeal.sig) → Buf (Elt Ideal) ℓ) (g : Dev Cert.DownFwd3ReferenceIdeal.nD → PrngReg), Pre_DownFwd3ReferenceIdeal m →
    θ_run (Cert.DownFwd3ReferenceIdeal.defs (F := Ideal)) (onTc (τ := Cert.DownFwd3ReferenceIdeal.τ) (Cert.DownFwd3ReferenceIdeal.main (F := Ideal))) ⟨m, fun _ => 0, g⟩ (fun r => (∀ c : Dev Cert.DownFwd3ReferenceIdeal.nD,
      r.2.mem ((c.tc : Thread Cert.DownFwd3ReferenceIdeal.nD Cert.DownFwd3ReferenceIdeal.τ).loc Cert.DownFwd3ReferenceIdeal.main_arg0) = m ((c.tc : Thread Cert.DownFwd3ReferenceIdeal.nD Cert.DownFwd3ReferenceIdeal.τ).loc Cert.DownFwd3ReferenceIdeal.main_arg0)
      ∧ r.2.mem ((c.tc : Thread Cert.DownFwd3ReferenceIdeal.nD Cert.DownFwd3ReferenceIdeal.τ).loc Cert.DownFwd3ReferenceIdeal.main_arg1) = m ((c.tc : Thread Cert.DownFwd3ReferenceIdeal.nD Cert.DownFwd3ReferenceIdeal.τ).loc Cert.DownFwd3ReferenceIdeal.main_arg1)
      ∧ r.2.mem ((c.tc : Thread Cert.DownFwd3ReferenceIdeal.nD Cert.DownFwd3ReferenceIdeal.τ).loc Cert.DownFwd3ReferenceIdeal.main_arg2) = m ((c.tc : Thread Cert.DownFwd3ReferenceIdeal.nD Cert.DownFwd3ReferenceIdeal.τ).loc Cert.DownFwd3ReferenceIdeal.main_arg2))
      ∧ r.2.sem = fun _ => 0)

def quiescent_AttnInFwd0 [hAttnInFwd0 : Cert.AttnInFwd0.Facts] : Prop :=
  ∀ (m : (ℓ : Loc Cert.AttnInFwd0.nD Cert.AttnInFwd0.τ Cert.AttnInFwd0.sig) → Buf (Elt Bits) ℓ) (g : Dev Cert.AttnInFwd0.nD → PrngReg), Pre_AttnInFwd0 m →
    θ_run (Cert.AttnInFwd0.defs (F := Bits)) (onTc (τ := Cert.AttnInFwd0.τ) (Cert.AttnInFwd0.main (F := Bits))) ⟨m, fun _ => 0, g⟩ (fun r => (∀ c : Dev Cert.AttnInFwd0.nD,
      r.2.mem ((c.tc : Thread Cert.AttnInFwd0.nD Cert.AttnInFwd0.τ).loc Cert.AttnInFwd0.main_arg0) = m ((c.tc : Thread Cert.AttnInFwd0.nD Cert.AttnInFwd0.τ).loc Cert.AttnInFwd0.main_arg0)
      ∧ r.2.mem ((c.tc : Thread Cert.AttnInFwd0.nD Cert.AttnInFwd0.τ).loc Cert.AttnInFwd0.main_arg1) = m ((c.tc : Thread Cert.AttnInFwd0.nD Cert.AttnInFwd0.τ).loc Cert.AttnInFwd0.main_arg1))
      ∧ r.2.sem = fun _ => 0)

def quiescent_AttnInFwd0Ideal [hAttnInFwd0Ideal : Cert.AttnInFwd0Ideal.Facts] : Prop :=
  ∀ (m : (ℓ : Loc Cert.AttnInFwd0Ideal.nD Cert.AttnInFwd0Ideal.τ Cert.AttnInFwd0Ideal.sig) → Buf (Elt Ideal) ℓ) (g : Dev Cert.AttnInFwd0Ideal.nD → PrngReg), Pre_AttnInFwd0Ideal m →
    θ_run (Cert.AttnInFwd0Ideal.defs (F := Ideal)) (onTc (τ := Cert.AttnInFwd0Ideal.τ) (Cert.AttnInFwd0Ideal.main (F := Ideal))) ⟨m, fun _ => 0, g⟩ (fun r => (∀ c : Dev Cert.AttnInFwd0Ideal.nD,
      r.2.mem ((c.tc : Thread Cert.AttnInFwd0Ideal.nD Cert.AttnInFwd0Ideal.τ).loc Cert.AttnInFwd0Ideal.main_arg0) = m ((c.tc : Thread Cert.AttnInFwd0Ideal.nD Cert.AttnInFwd0Ideal.τ).loc Cert.AttnInFwd0Ideal.main_arg0)
      ∧ r.2.mem ((c.tc : Thread Cert.AttnInFwd0Ideal.nD Cert.AttnInFwd0Ideal.τ).loc Cert.AttnInFwd0Ideal.main_arg1) = m ((c.tc : Thread Cert.AttnInFwd0Ideal.nD Cert.AttnInFwd0Ideal.τ).loc Cert.AttnInFwd0Ideal.main_arg1))
      ∧ r.2.sem = fun _ => 0)

def quiescent_AttnInFwd0ReferenceIdeal [hAttnInFwd0ReferenceIdeal : Cert.AttnInFwd0ReferenceIdeal.Facts] : Prop :=
  ∀ (m : (ℓ : Loc Cert.AttnInFwd0ReferenceIdeal.nD Cert.AttnInFwd0ReferenceIdeal.τ Cert.AttnInFwd0ReferenceIdeal.sig) → Buf (Elt Ideal) ℓ) (g : Dev Cert.AttnInFwd0ReferenceIdeal.nD → PrngReg), Pre_AttnInFwd0ReferenceIdeal m →
    θ_run (Cert.AttnInFwd0ReferenceIdeal.defs (F := Ideal)) (onTc (τ := Cert.AttnInFwd0ReferenceIdeal.τ) (Cert.AttnInFwd0ReferenceIdeal.main (F := Ideal))) ⟨m, fun _ => 0, g⟩ (fun r => (∀ c : Dev Cert.AttnInFwd0ReferenceIdeal.nD,
      r.2.mem ((c.tc : Thread Cert.AttnInFwd0ReferenceIdeal.nD Cert.AttnInFwd0ReferenceIdeal.τ).loc Cert.AttnInFwd0ReferenceIdeal.main_arg0) = m ((c.tc : Thread Cert.AttnInFwd0ReferenceIdeal.nD Cert.AttnInFwd0ReferenceIdeal.τ).loc Cert.AttnInFwd0ReferenceIdeal.main_arg0)
      ∧ r.2.mem ((c.tc : Thread Cert.AttnInFwd0ReferenceIdeal.nD Cert.AttnInFwd0ReferenceIdeal.τ).loc Cert.AttnInFwd0ReferenceIdeal.main_arg1) = m ((c.tc : Thread Cert.AttnInFwd0ReferenceIdeal.nD Cert.AttnInFwd0ReferenceIdeal.τ).loc Cert.AttnInFwd0ReferenceIdeal.main_arg1))
      ∧ r.2.sem = fun _ => 0)

def quiescent_AttnInFwd1 [hAttnInFwd1 : Cert.AttnInFwd1.Facts] : Prop :=
  ∀ (m : (ℓ : Loc Cert.AttnInFwd1.nD Cert.AttnInFwd1.τ Cert.AttnInFwd1.sig) → Buf (Elt Bits) ℓ) (g : Dev Cert.AttnInFwd1.nD → PrngReg), Pre_AttnInFwd1 m →
    θ_run (Cert.AttnInFwd1.defs (F := Bits)) (onTc (τ := Cert.AttnInFwd1.τ) (Cert.AttnInFwd1.main (F := Bits))) ⟨m, fun _ => 0, g⟩ (fun r => (∀ c : Dev Cert.AttnInFwd1.nD,
      r.2.mem ((c.tc : Thread Cert.AttnInFwd1.nD Cert.AttnInFwd1.τ).loc Cert.AttnInFwd1.main_arg0) = m ((c.tc : Thread Cert.AttnInFwd1.nD Cert.AttnInFwd1.τ).loc Cert.AttnInFwd1.main_arg0)
      ∧ r.2.mem ((c.tc : Thread Cert.AttnInFwd1.nD Cert.AttnInFwd1.τ).loc Cert.AttnInFwd1.main_arg1) = m ((c.tc : Thread Cert.AttnInFwd1.nD Cert.AttnInFwd1.τ).loc Cert.AttnInFwd1.main_arg1))
      ∧ r.2.sem = fun _ => 0)

def quiescent_AttnInFwd1Ideal [hAttnInFwd1Ideal : Cert.AttnInFwd1Ideal.Facts] : Prop :=
  ∀ (m : (ℓ : Loc Cert.AttnInFwd1Ideal.nD Cert.AttnInFwd1Ideal.τ Cert.AttnInFwd1Ideal.sig) → Buf (Elt Ideal) ℓ) (g : Dev Cert.AttnInFwd1Ideal.nD → PrngReg), Pre_AttnInFwd1Ideal m →
    θ_run (Cert.AttnInFwd1Ideal.defs (F := Ideal)) (onTc (τ := Cert.AttnInFwd1Ideal.τ) (Cert.AttnInFwd1Ideal.main (F := Ideal))) ⟨m, fun _ => 0, g⟩ (fun r => (∀ c : Dev Cert.AttnInFwd1Ideal.nD,
      r.2.mem ((c.tc : Thread Cert.AttnInFwd1Ideal.nD Cert.AttnInFwd1Ideal.τ).loc Cert.AttnInFwd1Ideal.main_arg0) = m ((c.tc : Thread Cert.AttnInFwd1Ideal.nD Cert.AttnInFwd1Ideal.τ).loc Cert.AttnInFwd1Ideal.main_arg0)
      ∧ r.2.mem ((c.tc : Thread Cert.AttnInFwd1Ideal.nD Cert.AttnInFwd1Ideal.τ).loc Cert.AttnInFwd1Ideal.main_arg1) = m ((c.tc : Thread Cert.AttnInFwd1Ideal.nD Cert.AttnInFwd1Ideal.τ).loc Cert.AttnInFwd1Ideal.main_arg1))
      ∧ r.2.sem = fun _ => 0)

def quiescent_AttnInFwd1ReferenceIdeal [hAttnInFwd1ReferenceIdeal : Cert.AttnInFwd1ReferenceIdeal.Facts] : Prop :=
  ∀ (m : (ℓ : Loc Cert.AttnInFwd1ReferenceIdeal.nD Cert.AttnInFwd1ReferenceIdeal.τ Cert.AttnInFwd1ReferenceIdeal.sig) → Buf (Elt Ideal) ℓ) (g : Dev Cert.AttnInFwd1ReferenceIdeal.nD → PrngReg), Pre_AttnInFwd1ReferenceIdeal m →
    θ_run (Cert.AttnInFwd1ReferenceIdeal.defs (F := Ideal)) (onTc (τ := Cert.AttnInFwd1ReferenceIdeal.τ) (Cert.AttnInFwd1ReferenceIdeal.main (F := Ideal))) ⟨m, fun _ => 0, g⟩ (fun r => (∀ c : Dev Cert.AttnInFwd1ReferenceIdeal.nD,
      r.2.mem ((c.tc : Thread Cert.AttnInFwd1ReferenceIdeal.nD Cert.AttnInFwd1ReferenceIdeal.τ).loc Cert.AttnInFwd1ReferenceIdeal.main_arg0) = m ((c.tc : Thread Cert.AttnInFwd1ReferenceIdeal.nD Cert.AttnInFwd1ReferenceIdeal.τ).loc Cert.AttnInFwd1ReferenceIdeal.main_arg0)
      ∧ r.2.mem ((c.tc : Thread Cert.AttnInFwd1ReferenceIdeal.nD Cert.AttnInFwd1ReferenceIdeal.τ).loc Cert.AttnInFwd1ReferenceIdeal.main_arg1) = m ((c.tc : Thread Cert.AttnInFwd1ReferenceIdeal.nD Cert.AttnInFwd1ReferenceIdeal.τ).loc Cert.AttnInFwd1ReferenceIdeal.main_arg1))
      ∧ r.2.sem = fun _ => 0)

def quiescent_HgrnInFwd0 [hHgrnInFwd0 : Cert.HgrnInFwd0.Facts] : Prop :=
  ∀ (m : (ℓ : Loc Cert.HgrnInFwd0.nD Cert.HgrnInFwd0.τ Cert.HgrnInFwd0.sig) → Buf (Elt Bits) ℓ) (g : Dev Cert.HgrnInFwd0.nD → PrngReg), Pre_HgrnInFwd0 m →
    θ_run (Cert.HgrnInFwd0.defs (F := Bits)) (onTc (τ := Cert.HgrnInFwd0.τ) (Cert.HgrnInFwd0.main (F := Bits))) ⟨m, fun _ => 0, g⟩ (fun r => (∀ c : Dev Cert.HgrnInFwd0.nD,
      r.2.mem ((c.tc : Thread Cert.HgrnInFwd0.nD Cert.HgrnInFwd0.τ).loc Cert.HgrnInFwd0.main_arg0) = m ((c.tc : Thread Cert.HgrnInFwd0.nD Cert.HgrnInFwd0.τ).loc Cert.HgrnInFwd0.main_arg0)
      ∧ r.2.mem ((c.tc : Thread Cert.HgrnInFwd0.nD Cert.HgrnInFwd0.τ).loc Cert.HgrnInFwd0.main_arg1) = m ((c.tc : Thread Cert.HgrnInFwd0.nD Cert.HgrnInFwd0.τ).loc Cert.HgrnInFwd0.main_arg1))
      ∧ r.2.sem = fun _ => 0)

def quiescent_HgrnInFwd0Ideal [hHgrnInFwd0Ideal : Cert.HgrnInFwd0Ideal.Facts] : Prop :=
  ∀ (m : (ℓ : Loc Cert.HgrnInFwd0Ideal.nD Cert.HgrnInFwd0Ideal.τ Cert.HgrnInFwd0Ideal.sig) → Buf (Elt Ideal) ℓ) (g : Dev Cert.HgrnInFwd0Ideal.nD → PrngReg), Pre_HgrnInFwd0Ideal m →
    θ_run (Cert.HgrnInFwd0Ideal.defs (F := Ideal)) (onTc (τ := Cert.HgrnInFwd0Ideal.τ) (Cert.HgrnInFwd0Ideal.main (F := Ideal))) ⟨m, fun _ => 0, g⟩ (fun r => (∀ c : Dev Cert.HgrnInFwd0Ideal.nD,
      r.2.mem ((c.tc : Thread Cert.HgrnInFwd0Ideal.nD Cert.HgrnInFwd0Ideal.τ).loc Cert.HgrnInFwd0Ideal.main_arg0) = m ((c.tc : Thread Cert.HgrnInFwd0Ideal.nD Cert.HgrnInFwd0Ideal.τ).loc Cert.HgrnInFwd0Ideal.main_arg0)
      ∧ r.2.mem ((c.tc : Thread Cert.HgrnInFwd0Ideal.nD Cert.HgrnInFwd0Ideal.τ).loc Cert.HgrnInFwd0Ideal.main_arg1) = m ((c.tc : Thread Cert.HgrnInFwd0Ideal.nD Cert.HgrnInFwd0Ideal.τ).loc Cert.HgrnInFwd0Ideal.main_arg1))
      ∧ r.2.sem = fun _ => 0)

def quiescent_HgrnInFwd0ReferenceIdeal [hHgrnInFwd0ReferenceIdeal : Cert.HgrnInFwd0ReferenceIdeal.Facts] : Prop :=
  ∀ (m : (ℓ : Loc Cert.HgrnInFwd0ReferenceIdeal.nD Cert.HgrnInFwd0ReferenceIdeal.τ Cert.HgrnInFwd0ReferenceIdeal.sig) → Buf (Elt Ideal) ℓ) (g : Dev Cert.HgrnInFwd0ReferenceIdeal.nD → PrngReg), Pre_HgrnInFwd0ReferenceIdeal m →
    θ_run (Cert.HgrnInFwd0ReferenceIdeal.defs (F := Ideal)) (onTc (τ := Cert.HgrnInFwd0ReferenceIdeal.τ) (Cert.HgrnInFwd0ReferenceIdeal.main (F := Ideal))) ⟨m, fun _ => 0, g⟩ (fun r => (∀ c : Dev Cert.HgrnInFwd0ReferenceIdeal.nD,
      r.2.mem ((c.tc : Thread Cert.HgrnInFwd0ReferenceIdeal.nD Cert.HgrnInFwd0ReferenceIdeal.τ).loc Cert.HgrnInFwd0ReferenceIdeal.main_arg0) = m ((c.tc : Thread Cert.HgrnInFwd0ReferenceIdeal.nD Cert.HgrnInFwd0ReferenceIdeal.τ).loc Cert.HgrnInFwd0ReferenceIdeal.main_arg0)
      ∧ r.2.mem ((c.tc : Thread Cert.HgrnInFwd0ReferenceIdeal.nD Cert.HgrnInFwd0ReferenceIdeal.τ).loc Cert.HgrnInFwd0ReferenceIdeal.main_arg1) = m ((c.tc : Thread Cert.HgrnInFwd0ReferenceIdeal.nD Cert.HgrnInFwd0ReferenceIdeal.τ).loc Cert.HgrnInFwd0ReferenceIdeal.main_arg1))
      ∧ r.2.sem = fun _ => 0)

def quiescent_HgrnInFwd1 [hHgrnInFwd1 : Cert.HgrnInFwd1.Facts] : Prop :=
  ∀ (m : (ℓ : Loc Cert.HgrnInFwd1.nD Cert.HgrnInFwd1.τ Cert.HgrnInFwd1.sig) → Buf (Elt Bits) ℓ) (g : Dev Cert.HgrnInFwd1.nD → PrngReg), Pre_HgrnInFwd1 m →
    θ_run (Cert.HgrnInFwd1.defs (F := Bits)) (onTc (τ := Cert.HgrnInFwd1.τ) (Cert.HgrnInFwd1.main (F := Bits))) ⟨m, fun _ => 0, g⟩ (fun r => (∀ c : Dev Cert.HgrnInFwd1.nD,
      r.2.mem ((c.tc : Thread Cert.HgrnInFwd1.nD Cert.HgrnInFwd1.τ).loc Cert.HgrnInFwd1.main_arg0) = m ((c.tc : Thread Cert.HgrnInFwd1.nD Cert.HgrnInFwd1.τ).loc Cert.HgrnInFwd1.main_arg0)
      ∧ r.2.mem ((c.tc : Thread Cert.HgrnInFwd1.nD Cert.HgrnInFwd1.τ).loc Cert.HgrnInFwd1.main_arg1) = m ((c.tc : Thread Cert.HgrnInFwd1.nD Cert.HgrnInFwd1.τ).loc Cert.HgrnInFwd1.main_arg1))
      ∧ r.2.sem = fun _ => 0)

def quiescent_HgrnInFwd1Ideal [hHgrnInFwd1Ideal : Cert.HgrnInFwd1Ideal.Facts] : Prop :=
  ∀ (m : (ℓ : Loc Cert.HgrnInFwd1Ideal.nD Cert.HgrnInFwd1Ideal.τ Cert.HgrnInFwd1Ideal.sig) → Buf (Elt Ideal) ℓ) (g : Dev Cert.HgrnInFwd1Ideal.nD → PrngReg), Pre_HgrnInFwd1Ideal m →
    θ_run (Cert.HgrnInFwd1Ideal.defs (F := Ideal)) (onTc (τ := Cert.HgrnInFwd1Ideal.τ) (Cert.HgrnInFwd1Ideal.main (F := Ideal))) ⟨m, fun _ => 0, g⟩ (fun r => (∀ c : Dev Cert.HgrnInFwd1Ideal.nD,
      r.2.mem ((c.tc : Thread Cert.HgrnInFwd1Ideal.nD Cert.HgrnInFwd1Ideal.τ).loc Cert.HgrnInFwd1Ideal.main_arg0) = m ((c.tc : Thread Cert.HgrnInFwd1Ideal.nD Cert.HgrnInFwd1Ideal.τ).loc Cert.HgrnInFwd1Ideal.main_arg0)
      ∧ r.2.mem ((c.tc : Thread Cert.HgrnInFwd1Ideal.nD Cert.HgrnInFwd1Ideal.τ).loc Cert.HgrnInFwd1Ideal.main_arg1) = m ((c.tc : Thread Cert.HgrnInFwd1Ideal.nD Cert.HgrnInFwd1Ideal.τ).loc Cert.HgrnInFwd1Ideal.main_arg1))
      ∧ r.2.sem = fun _ => 0)

def quiescent_HgrnInFwd1ReferenceIdeal [hHgrnInFwd1ReferenceIdeal : Cert.HgrnInFwd1ReferenceIdeal.Facts] : Prop :=
  ∀ (m : (ℓ : Loc Cert.HgrnInFwd1ReferenceIdeal.nD Cert.HgrnInFwd1ReferenceIdeal.τ Cert.HgrnInFwd1ReferenceIdeal.sig) → Buf (Elt Ideal) ℓ) (g : Dev Cert.HgrnInFwd1ReferenceIdeal.nD → PrngReg), Pre_HgrnInFwd1ReferenceIdeal m →
    θ_run (Cert.HgrnInFwd1ReferenceIdeal.defs (F := Ideal)) (onTc (τ := Cert.HgrnInFwd1ReferenceIdeal.τ) (Cert.HgrnInFwd1ReferenceIdeal.main (F := Ideal))) ⟨m, fun _ => 0, g⟩ (fun r => (∀ c : Dev Cert.HgrnInFwd1ReferenceIdeal.nD,
      r.2.mem ((c.tc : Thread Cert.HgrnInFwd1ReferenceIdeal.nD Cert.HgrnInFwd1ReferenceIdeal.τ).loc Cert.HgrnInFwd1ReferenceIdeal.main_arg0) = m ((c.tc : Thread Cert.HgrnInFwd1ReferenceIdeal.nD Cert.HgrnInFwd1ReferenceIdeal.τ).loc Cert.HgrnInFwd1ReferenceIdeal.main_arg0)
      ∧ r.2.mem ((c.tc : Thread Cert.HgrnInFwd1ReferenceIdeal.nD Cert.HgrnInFwd1ReferenceIdeal.τ).loc Cert.HgrnInFwd1ReferenceIdeal.main_arg1) = m ((c.tc : Thread Cert.HgrnInFwd1ReferenceIdeal.nD Cert.HgrnInFwd1ReferenceIdeal.τ).loc Cert.HgrnInFwd1ReferenceIdeal.main_arg1))
      ∧ r.2.sem = fun _ => 0)

def quiescent_OutFwd0 [hOutFwd0 : Cert.OutFwd0.Facts] : Prop :=
  ∀ (m : (ℓ : Loc Cert.OutFwd0.nD Cert.OutFwd0.τ Cert.OutFwd0.sig) → Buf (Elt Bits) ℓ) (g : Dev Cert.OutFwd0.nD → PrngReg), Pre_OutFwd0 m →
    θ_run (Cert.OutFwd0.defs (F := Bits)) (onTc (τ := Cert.OutFwd0.τ) (Cert.OutFwd0.main (F := Bits))) ⟨m, fun _ => 0, g⟩ (fun r => (∀ c : Dev Cert.OutFwd0.nD,
      r.2.mem ((c.tc : Thread Cert.OutFwd0.nD Cert.OutFwd0.τ).loc Cert.OutFwd0.main_arg0) = m ((c.tc : Thread Cert.OutFwd0.nD Cert.OutFwd0.τ).loc Cert.OutFwd0.main_arg0)
      ∧ r.2.mem ((c.tc : Thread Cert.OutFwd0.nD Cert.OutFwd0.τ).loc Cert.OutFwd0.main_arg1) = m ((c.tc : Thread Cert.OutFwd0.nD Cert.OutFwd0.τ).loc Cert.OutFwd0.main_arg1)
      ∧ r.2.mem ((c.tc : Thread Cert.OutFwd0.nD Cert.OutFwd0.τ).loc Cert.OutFwd0.main_arg2) = m ((c.tc : Thread Cert.OutFwd0.nD Cert.OutFwd0.τ).loc Cert.OutFwd0.main_arg2))
      ∧ r.2.sem = fun _ => 0)

def quiescent_OutFwd0Ideal [hOutFwd0Ideal : Cert.OutFwd0Ideal.Facts] : Prop :=
  ∀ (m : (ℓ : Loc Cert.OutFwd0Ideal.nD Cert.OutFwd0Ideal.τ Cert.OutFwd0Ideal.sig) → Buf (Elt Ideal) ℓ) (g : Dev Cert.OutFwd0Ideal.nD → PrngReg), Pre_OutFwd0Ideal m →
    θ_run (Cert.OutFwd0Ideal.defs (F := Ideal)) (onTc (τ := Cert.OutFwd0Ideal.τ) (Cert.OutFwd0Ideal.main (F := Ideal))) ⟨m, fun _ => 0, g⟩ (fun r => (∀ c : Dev Cert.OutFwd0Ideal.nD,
      r.2.mem ((c.tc : Thread Cert.OutFwd0Ideal.nD Cert.OutFwd0Ideal.τ).loc Cert.OutFwd0Ideal.main_arg0) = m ((c.tc : Thread Cert.OutFwd0Ideal.nD Cert.OutFwd0Ideal.τ).loc Cert.OutFwd0Ideal.main_arg0)
      ∧ r.2.mem ((c.tc : Thread Cert.OutFwd0Ideal.nD Cert.OutFwd0Ideal.τ).loc Cert.OutFwd0Ideal.main_arg1) = m ((c.tc : Thread Cert.OutFwd0Ideal.nD Cert.OutFwd0Ideal.τ).loc Cert.OutFwd0Ideal.main_arg1)
      ∧ r.2.mem ((c.tc : Thread Cert.OutFwd0Ideal.nD Cert.OutFwd0Ideal.τ).loc Cert.OutFwd0Ideal.main_arg2) = m ((c.tc : Thread Cert.OutFwd0Ideal.nD Cert.OutFwd0Ideal.τ).loc Cert.OutFwd0Ideal.main_arg2))
      ∧ r.2.sem = fun _ => 0)

def quiescent_OutFwd0ReferenceIdeal [hOutFwd0ReferenceIdeal : Cert.OutFwd0ReferenceIdeal.Facts] : Prop :=
  ∀ (m : (ℓ : Loc Cert.OutFwd0ReferenceIdeal.nD Cert.OutFwd0ReferenceIdeal.τ Cert.OutFwd0ReferenceIdeal.sig) → Buf (Elt Ideal) ℓ) (g : Dev Cert.OutFwd0ReferenceIdeal.nD → PrngReg), Pre_OutFwd0ReferenceIdeal m →
    θ_run (Cert.OutFwd0ReferenceIdeal.defs (F := Ideal)) (onTc (τ := Cert.OutFwd0ReferenceIdeal.τ) (Cert.OutFwd0ReferenceIdeal.main (F := Ideal))) ⟨m, fun _ => 0, g⟩ (fun r => (∀ c : Dev Cert.OutFwd0ReferenceIdeal.nD,
      r.2.mem ((c.tc : Thread Cert.OutFwd0ReferenceIdeal.nD Cert.OutFwd0ReferenceIdeal.τ).loc Cert.OutFwd0ReferenceIdeal.main_arg0) = m ((c.tc : Thread Cert.OutFwd0ReferenceIdeal.nD Cert.OutFwd0ReferenceIdeal.τ).loc Cert.OutFwd0ReferenceIdeal.main_arg0)
      ∧ r.2.mem ((c.tc : Thread Cert.OutFwd0ReferenceIdeal.nD Cert.OutFwd0ReferenceIdeal.τ).loc Cert.OutFwd0ReferenceIdeal.main_arg1) = m ((c.tc : Thread Cert.OutFwd0ReferenceIdeal.nD Cert.OutFwd0ReferenceIdeal.τ).loc Cert.OutFwd0ReferenceIdeal.main_arg1)
      ∧ r.2.mem ((c.tc : Thread Cert.OutFwd0ReferenceIdeal.nD Cert.OutFwd0ReferenceIdeal.τ).loc Cert.OutFwd0ReferenceIdeal.main_arg2) = m ((c.tc : Thread Cert.OutFwd0ReferenceIdeal.nD Cert.OutFwd0ReferenceIdeal.τ).loc Cert.OutFwd0ReferenceIdeal.main_arg2))
      ∧ r.2.sem = fun _ => 0)

def quiescent_OutFwd1 [hOutFwd1 : Cert.OutFwd1.Facts] : Prop :=
  ∀ (m : (ℓ : Loc Cert.OutFwd1.nD Cert.OutFwd1.τ Cert.OutFwd1.sig) → Buf (Elt Bits) ℓ) (g : Dev Cert.OutFwd1.nD → PrngReg), Pre_OutFwd1 m →
    θ_run (Cert.OutFwd1.defs (F := Bits)) (onTc (τ := Cert.OutFwd1.τ) (Cert.OutFwd1.main (F := Bits))) ⟨m, fun _ => 0, g⟩ (fun r => (∀ c : Dev Cert.OutFwd1.nD,
      r.2.mem ((c.tc : Thread Cert.OutFwd1.nD Cert.OutFwd1.τ).loc Cert.OutFwd1.main_arg0) = m ((c.tc : Thread Cert.OutFwd1.nD Cert.OutFwd1.τ).loc Cert.OutFwd1.main_arg0)
      ∧ r.2.mem ((c.tc : Thread Cert.OutFwd1.nD Cert.OutFwd1.τ).loc Cert.OutFwd1.main_arg1) = m ((c.tc : Thread Cert.OutFwd1.nD Cert.OutFwd1.τ).loc Cert.OutFwd1.main_arg1)
      ∧ r.2.mem ((c.tc : Thread Cert.OutFwd1.nD Cert.OutFwd1.τ).loc Cert.OutFwd1.main_arg2) = m ((c.tc : Thread Cert.OutFwd1.nD Cert.OutFwd1.τ).loc Cert.OutFwd1.main_arg2))
      ∧ r.2.sem = fun _ => 0)

def quiescent_OutFwd1Ideal [hOutFwd1Ideal : Cert.OutFwd1Ideal.Facts] : Prop :=
  ∀ (m : (ℓ : Loc Cert.OutFwd1Ideal.nD Cert.OutFwd1Ideal.τ Cert.OutFwd1Ideal.sig) → Buf (Elt Ideal) ℓ) (g : Dev Cert.OutFwd1Ideal.nD → PrngReg), Pre_OutFwd1Ideal m →
    θ_run (Cert.OutFwd1Ideal.defs (F := Ideal)) (onTc (τ := Cert.OutFwd1Ideal.τ) (Cert.OutFwd1Ideal.main (F := Ideal))) ⟨m, fun _ => 0, g⟩ (fun r => (∀ c : Dev Cert.OutFwd1Ideal.nD,
      r.2.mem ((c.tc : Thread Cert.OutFwd1Ideal.nD Cert.OutFwd1Ideal.τ).loc Cert.OutFwd1Ideal.main_arg0) = m ((c.tc : Thread Cert.OutFwd1Ideal.nD Cert.OutFwd1Ideal.τ).loc Cert.OutFwd1Ideal.main_arg0)
      ∧ r.2.mem ((c.tc : Thread Cert.OutFwd1Ideal.nD Cert.OutFwd1Ideal.τ).loc Cert.OutFwd1Ideal.main_arg1) = m ((c.tc : Thread Cert.OutFwd1Ideal.nD Cert.OutFwd1Ideal.τ).loc Cert.OutFwd1Ideal.main_arg1)
      ∧ r.2.mem ((c.tc : Thread Cert.OutFwd1Ideal.nD Cert.OutFwd1Ideal.τ).loc Cert.OutFwd1Ideal.main_arg2) = m ((c.tc : Thread Cert.OutFwd1Ideal.nD Cert.OutFwd1Ideal.τ).loc Cert.OutFwd1Ideal.main_arg2))
      ∧ r.2.sem = fun _ => 0)

def quiescent_OutFwd1ReferenceIdeal [hOutFwd1ReferenceIdeal : Cert.OutFwd1ReferenceIdeal.Facts] : Prop :=
  ∀ (m : (ℓ : Loc Cert.OutFwd1ReferenceIdeal.nD Cert.OutFwd1ReferenceIdeal.τ Cert.OutFwd1ReferenceIdeal.sig) → Buf (Elt Ideal) ℓ) (g : Dev Cert.OutFwd1ReferenceIdeal.nD → PrngReg), Pre_OutFwd1ReferenceIdeal m →
    θ_run (Cert.OutFwd1ReferenceIdeal.defs (F := Ideal)) (onTc (τ := Cert.OutFwd1ReferenceIdeal.τ) (Cert.OutFwd1ReferenceIdeal.main (F := Ideal))) ⟨m, fun _ => 0, g⟩ (fun r => (∀ c : Dev Cert.OutFwd1ReferenceIdeal.nD,
      r.2.mem ((c.tc : Thread Cert.OutFwd1ReferenceIdeal.nD Cert.OutFwd1ReferenceIdeal.τ).loc Cert.OutFwd1ReferenceIdeal.main_arg0) = m ((c.tc : Thread Cert.OutFwd1ReferenceIdeal.nD Cert.OutFwd1ReferenceIdeal.τ).loc Cert.OutFwd1ReferenceIdeal.main_arg0)
      ∧ r.2.mem ((c.tc : Thread Cert.OutFwd1ReferenceIdeal.nD Cert.OutFwd1ReferenceIdeal.τ).loc Cert.OutFwd1ReferenceIdeal.main_arg1) = m ((c.tc : Thread Cert.OutFwd1ReferenceIdeal.nD Cert.OutFwd1ReferenceIdeal.τ).loc Cert.OutFwd1ReferenceIdeal.main_arg1)
      ∧ r.2.mem ((c.tc : Thread Cert.OutFwd1ReferenceIdeal.nD Cert.OutFwd1ReferenceIdeal.τ).loc Cert.OutFwd1ReferenceIdeal.main_arg2) = m ((c.tc : Thread Cert.OutFwd1ReferenceIdeal.nD Cert.OutFwd1ReferenceIdeal.τ).loc Cert.OutFwd1ReferenceIdeal.main_arg2))
      ∧ r.2.sem = fun _ => 0)

def quiescent_DownDx0 [hDownDx0 : Cert.DownDx0.Facts] : Prop :=
  ∀ (m : (ℓ : Loc Cert.DownDx0.nD Cert.DownDx0.τ Cert.DownDx0.sig) → Buf (Elt Bits) ℓ) (g : Dev Cert.DownDx0.nD → PrngReg), Pre_DownDx0 m →
    θ_run (Cert.DownDx0.defs (F := Bits)) (onTc (τ := Cert.DownDx0.τ) (Cert.DownDx0.main (F := Bits))) ⟨m, fun _ => 0, g⟩ (fun r => (∀ c : Dev Cert.DownDx0.nD,
      r.2.mem ((c.tc : Thread Cert.DownDx0.nD Cert.DownDx0.τ).loc Cert.DownDx0.main_arg0) = m ((c.tc : Thread Cert.DownDx0.nD Cert.DownDx0.τ).loc Cert.DownDx0.main_arg0)
      ∧ r.2.mem ((c.tc : Thread Cert.DownDx0.nD Cert.DownDx0.τ).loc Cert.DownDx0.main_arg1) = m ((c.tc : Thread Cert.DownDx0.nD Cert.DownDx0.τ).loc Cert.DownDx0.main_arg1))
      ∧ r.2.sem = fun _ => 0)

def quiescent_DownDx0Ideal [hDownDx0Ideal : Cert.DownDx0Ideal.Facts] : Prop :=
  ∀ (m : (ℓ : Loc Cert.DownDx0Ideal.nD Cert.DownDx0Ideal.τ Cert.DownDx0Ideal.sig) → Buf (Elt Ideal) ℓ) (g : Dev Cert.DownDx0Ideal.nD → PrngReg), Pre_DownDx0Ideal m →
    θ_run (Cert.DownDx0Ideal.defs (F := Ideal)) (onTc (τ := Cert.DownDx0Ideal.τ) (Cert.DownDx0Ideal.main (F := Ideal))) ⟨m, fun _ => 0, g⟩ (fun r => (∀ c : Dev Cert.DownDx0Ideal.nD,
      r.2.mem ((c.tc : Thread Cert.DownDx0Ideal.nD Cert.DownDx0Ideal.τ).loc Cert.DownDx0Ideal.main_arg0) = m ((c.tc : Thread Cert.DownDx0Ideal.nD Cert.DownDx0Ideal.τ).loc Cert.DownDx0Ideal.main_arg0)
      ∧ r.2.mem ((c.tc : Thread Cert.DownDx0Ideal.nD Cert.DownDx0Ideal.τ).loc Cert.DownDx0Ideal.main_arg1) = m ((c.tc : Thread Cert.DownDx0Ideal.nD Cert.DownDx0Ideal.τ).loc Cert.DownDx0Ideal.main_arg1))
      ∧ r.2.sem = fun _ => 0)

def quiescent_DownDx0ReferenceIdeal [hDownDx0ReferenceIdeal : Cert.DownDx0ReferenceIdeal.Facts] : Prop :=
  ∀ (m : (ℓ : Loc Cert.DownDx0ReferenceIdeal.nD Cert.DownDx0ReferenceIdeal.τ Cert.DownDx0ReferenceIdeal.sig) → Buf (Elt Ideal) ℓ) (g : Dev Cert.DownDx0ReferenceIdeal.nD → PrngReg), Pre_DownDx0ReferenceIdeal m →
    θ_run (Cert.DownDx0ReferenceIdeal.defs (F := Ideal)) (onTc (τ := Cert.DownDx0ReferenceIdeal.τ) (Cert.DownDx0ReferenceIdeal.main (F := Ideal))) ⟨m, fun _ => 0, g⟩ (fun r => (∀ c : Dev Cert.DownDx0ReferenceIdeal.nD,
      r.2.mem ((c.tc : Thread Cert.DownDx0ReferenceIdeal.nD Cert.DownDx0ReferenceIdeal.τ).loc Cert.DownDx0ReferenceIdeal.main_arg0) = m ((c.tc : Thread Cert.DownDx0ReferenceIdeal.nD Cert.DownDx0ReferenceIdeal.τ).loc Cert.DownDx0ReferenceIdeal.main_arg0)
      ∧ r.2.mem ((c.tc : Thread Cert.DownDx0ReferenceIdeal.nD Cert.DownDx0ReferenceIdeal.τ).loc Cert.DownDx0ReferenceIdeal.main_arg1) = m ((c.tc : Thread Cert.DownDx0ReferenceIdeal.nD Cert.DownDx0ReferenceIdeal.τ).loc Cert.DownDx0ReferenceIdeal.main_arg1))
      ∧ r.2.sem = fun _ => 0)

def quiescent_DownDx1 [hDownDx1 : Cert.DownDx1.Facts] : Prop :=
  ∀ (m : (ℓ : Loc Cert.DownDx1.nD Cert.DownDx1.τ Cert.DownDx1.sig) → Buf (Elt Bits) ℓ) (g : Dev Cert.DownDx1.nD → PrngReg), Pre_DownDx1 m →
    θ_run (Cert.DownDx1.defs (F := Bits)) (onTc (τ := Cert.DownDx1.τ) (Cert.DownDx1.main (F := Bits))) ⟨m, fun _ => 0, g⟩ (fun r => (∀ c : Dev Cert.DownDx1.nD,
      r.2.mem ((c.tc : Thread Cert.DownDx1.nD Cert.DownDx1.τ).loc Cert.DownDx1.main_arg0) = m ((c.tc : Thread Cert.DownDx1.nD Cert.DownDx1.τ).loc Cert.DownDx1.main_arg0)
      ∧ r.2.mem ((c.tc : Thread Cert.DownDx1.nD Cert.DownDx1.τ).loc Cert.DownDx1.main_arg1) = m ((c.tc : Thread Cert.DownDx1.nD Cert.DownDx1.τ).loc Cert.DownDx1.main_arg1))
      ∧ r.2.sem = fun _ => 0)

def quiescent_DownDx1Ideal [hDownDx1Ideal : Cert.DownDx1Ideal.Facts] : Prop :=
  ∀ (m : (ℓ : Loc Cert.DownDx1Ideal.nD Cert.DownDx1Ideal.τ Cert.DownDx1Ideal.sig) → Buf (Elt Ideal) ℓ) (g : Dev Cert.DownDx1Ideal.nD → PrngReg), Pre_DownDx1Ideal m →
    θ_run (Cert.DownDx1Ideal.defs (F := Ideal)) (onTc (τ := Cert.DownDx1Ideal.τ) (Cert.DownDx1Ideal.main (F := Ideal))) ⟨m, fun _ => 0, g⟩ (fun r => (∀ c : Dev Cert.DownDx1Ideal.nD,
      r.2.mem ((c.tc : Thread Cert.DownDx1Ideal.nD Cert.DownDx1Ideal.τ).loc Cert.DownDx1Ideal.main_arg0) = m ((c.tc : Thread Cert.DownDx1Ideal.nD Cert.DownDx1Ideal.τ).loc Cert.DownDx1Ideal.main_arg0)
      ∧ r.2.mem ((c.tc : Thread Cert.DownDx1Ideal.nD Cert.DownDx1Ideal.τ).loc Cert.DownDx1Ideal.main_arg1) = m ((c.tc : Thread Cert.DownDx1Ideal.nD Cert.DownDx1Ideal.τ).loc Cert.DownDx1Ideal.main_arg1))
      ∧ r.2.sem = fun _ => 0)

def quiescent_DownDx1ReferenceIdeal [hDownDx1ReferenceIdeal : Cert.DownDx1ReferenceIdeal.Facts] : Prop :=
  ∀ (m : (ℓ : Loc Cert.DownDx1ReferenceIdeal.nD Cert.DownDx1ReferenceIdeal.τ Cert.DownDx1ReferenceIdeal.sig) → Buf (Elt Ideal) ℓ) (g : Dev Cert.DownDx1ReferenceIdeal.nD → PrngReg), Pre_DownDx1ReferenceIdeal m →
    θ_run (Cert.DownDx1ReferenceIdeal.defs (F := Ideal)) (onTc (τ := Cert.DownDx1ReferenceIdeal.τ) (Cert.DownDx1ReferenceIdeal.main (F := Ideal))) ⟨m, fun _ => 0, g⟩ (fun r => (∀ c : Dev Cert.DownDx1ReferenceIdeal.nD,
      r.2.mem ((c.tc : Thread Cert.DownDx1ReferenceIdeal.nD Cert.DownDx1ReferenceIdeal.τ).loc Cert.DownDx1ReferenceIdeal.main_arg0) = m ((c.tc : Thread Cert.DownDx1ReferenceIdeal.nD Cert.DownDx1ReferenceIdeal.τ).loc Cert.DownDx1ReferenceIdeal.main_arg0)
      ∧ r.2.mem ((c.tc : Thread Cert.DownDx1ReferenceIdeal.nD Cert.DownDx1ReferenceIdeal.τ).loc Cert.DownDx1ReferenceIdeal.main_arg1) = m ((c.tc : Thread Cert.DownDx1ReferenceIdeal.nD Cert.DownDx1ReferenceIdeal.τ).loc Cert.DownDx1ReferenceIdeal.main_arg1))
      ∧ r.2.sem = fun _ => 0)

def quiescent_DownDx2 [hDownDx2 : Cert.DownDx2.Facts] : Prop :=
  ∀ (m : (ℓ : Loc Cert.DownDx2.nD Cert.DownDx2.τ Cert.DownDx2.sig) → Buf (Elt Bits) ℓ) (g : Dev Cert.DownDx2.nD → PrngReg), Pre_DownDx2 m →
    θ_run (Cert.DownDx2.defs (F := Bits)) (onTc (τ := Cert.DownDx2.τ) (Cert.DownDx2.main (F := Bits))) ⟨m, fun _ => 0, g⟩ (fun r => (∀ c : Dev Cert.DownDx2.nD,
      r.2.mem ((c.tc : Thread Cert.DownDx2.nD Cert.DownDx2.τ).loc Cert.DownDx2.main_arg0) = m ((c.tc : Thread Cert.DownDx2.nD Cert.DownDx2.τ).loc Cert.DownDx2.main_arg0)
      ∧ r.2.mem ((c.tc : Thread Cert.DownDx2.nD Cert.DownDx2.τ).loc Cert.DownDx2.main_arg1) = m ((c.tc : Thread Cert.DownDx2.nD Cert.DownDx2.τ).loc Cert.DownDx2.main_arg1))
      ∧ r.2.sem = fun _ => 0)

def quiescent_DownDx2Ideal [hDownDx2Ideal : Cert.DownDx2Ideal.Facts] : Prop :=
  ∀ (m : (ℓ : Loc Cert.DownDx2Ideal.nD Cert.DownDx2Ideal.τ Cert.DownDx2Ideal.sig) → Buf (Elt Ideal) ℓ) (g : Dev Cert.DownDx2Ideal.nD → PrngReg), Pre_DownDx2Ideal m →
    θ_run (Cert.DownDx2Ideal.defs (F := Ideal)) (onTc (τ := Cert.DownDx2Ideal.τ) (Cert.DownDx2Ideal.main (F := Ideal))) ⟨m, fun _ => 0, g⟩ (fun r => (∀ c : Dev Cert.DownDx2Ideal.nD,
      r.2.mem ((c.tc : Thread Cert.DownDx2Ideal.nD Cert.DownDx2Ideal.τ).loc Cert.DownDx2Ideal.main_arg0) = m ((c.tc : Thread Cert.DownDx2Ideal.nD Cert.DownDx2Ideal.τ).loc Cert.DownDx2Ideal.main_arg0)
      ∧ r.2.mem ((c.tc : Thread Cert.DownDx2Ideal.nD Cert.DownDx2Ideal.τ).loc Cert.DownDx2Ideal.main_arg1) = m ((c.tc : Thread Cert.DownDx2Ideal.nD Cert.DownDx2Ideal.τ).loc Cert.DownDx2Ideal.main_arg1))
      ∧ r.2.sem = fun _ => 0)

def quiescent_DownDx2ReferenceIdeal [hDownDx2ReferenceIdeal : Cert.DownDx2ReferenceIdeal.Facts] : Prop :=
  ∀ (m : (ℓ : Loc Cert.DownDx2ReferenceIdeal.nD Cert.DownDx2ReferenceIdeal.τ Cert.DownDx2ReferenceIdeal.sig) → Buf (Elt Ideal) ℓ) (g : Dev Cert.DownDx2ReferenceIdeal.nD → PrngReg), Pre_DownDx2ReferenceIdeal m →
    θ_run (Cert.DownDx2ReferenceIdeal.defs (F := Ideal)) (onTc (τ := Cert.DownDx2ReferenceIdeal.τ) (Cert.DownDx2ReferenceIdeal.main (F := Ideal))) ⟨m, fun _ => 0, g⟩ (fun r => (∀ c : Dev Cert.DownDx2ReferenceIdeal.nD,
      r.2.mem ((c.tc : Thread Cert.DownDx2ReferenceIdeal.nD Cert.DownDx2ReferenceIdeal.τ).loc Cert.DownDx2ReferenceIdeal.main_arg0) = m ((c.tc : Thread Cert.DownDx2ReferenceIdeal.nD Cert.DownDx2ReferenceIdeal.τ).loc Cert.DownDx2ReferenceIdeal.main_arg0)
      ∧ r.2.mem ((c.tc : Thread Cert.DownDx2ReferenceIdeal.nD Cert.DownDx2ReferenceIdeal.τ).loc Cert.DownDx2ReferenceIdeal.main_arg1) = m ((c.tc : Thread Cert.DownDx2ReferenceIdeal.nD Cert.DownDx2ReferenceIdeal.τ).loc Cert.DownDx2ReferenceIdeal.main_arg1))
      ∧ r.2.sem = fun _ => 0)

def quiescent_DownDx3 [hDownDx3 : Cert.DownDx3.Facts] : Prop :=
  ∀ (m : (ℓ : Loc Cert.DownDx3.nD Cert.DownDx3.τ Cert.DownDx3.sig) → Buf (Elt Bits) ℓ) (g : Dev Cert.DownDx3.nD → PrngReg), Pre_DownDx3 m →
    θ_run (Cert.DownDx3.defs (F := Bits)) (onTc (τ := Cert.DownDx3.τ) (Cert.DownDx3.main (F := Bits))) ⟨m, fun _ => 0, g⟩ (fun r => (∀ c : Dev Cert.DownDx3.nD,
      r.2.mem ((c.tc : Thread Cert.DownDx3.nD Cert.DownDx3.τ).loc Cert.DownDx3.main_arg0) = m ((c.tc : Thread Cert.DownDx3.nD Cert.DownDx3.τ).loc Cert.DownDx3.main_arg0)
      ∧ r.2.mem ((c.tc : Thread Cert.DownDx3.nD Cert.DownDx3.τ).loc Cert.DownDx3.main_arg1) = m ((c.tc : Thread Cert.DownDx3.nD Cert.DownDx3.τ).loc Cert.DownDx3.main_arg1))
      ∧ r.2.sem = fun _ => 0)

def quiescent_DownDx3Ideal [hDownDx3Ideal : Cert.DownDx3Ideal.Facts] : Prop :=
  ∀ (m : (ℓ : Loc Cert.DownDx3Ideal.nD Cert.DownDx3Ideal.τ Cert.DownDx3Ideal.sig) → Buf (Elt Ideal) ℓ) (g : Dev Cert.DownDx3Ideal.nD → PrngReg), Pre_DownDx3Ideal m →
    θ_run (Cert.DownDx3Ideal.defs (F := Ideal)) (onTc (τ := Cert.DownDx3Ideal.τ) (Cert.DownDx3Ideal.main (F := Ideal))) ⟨m, fun _ => 0, g⟩ (fun r => (∀ c : Dev Cert.DownDx3Ideal.nD,
      r.2.mem ((c.tc : Thread Cert.DownDx3Ideal.nD Cert.DownDx3Ideal.τ).loc Cert.DownDx3Ideal.main_arg0) = m ((c.tc : Thread Cert.DownDx3Ideal.nD Cert.DownDx3Ideal.τ).loc Cert.DownDx3Ideal.main_arg0)
      ∧ r.2.mem ((c.tc : Thread Cert.DownDx3Ideal.nD Cert.DownDx3Ideal.τ).loc Cert.DownDx3Ideal.main_arg1) = m ((c.tc : Thread Cert.DownDx3Ideal.nD Cert.DownDx3Ideal.τ).loc Cert.DownDx3Ideal.main_arg1))
      ∧ r.2.sem = fun _ => 0)

def quiescent_DownDx3ReferenceIdeal [hDownDx3ReferenceIdeal : Cert.DownDx3ReferenceIdeal.Facts] : Prop :=
  ∀ (m : (ℓ : Loc Cert.DownDx3ReferenceIdeal.nD Cert.DownDx3ReferenceIdeal.τ Cert.DownDx3ReferenceIdeal.sig) → Buf (Elt Ideal) ℓ) (g : Dev Cert.DownDx3ReferenceIdeal.nD → PrngReg), Pre_DownDx3ReferenceIdeal m →
    θ_run (Cert.DownDx3ReferenceIdeal.defs (F := Ideal)) (onTc (τ := Cert.DownDx3ReferenceIdeal.τ) (Cert.DownDx3ReferenceIdeal.main (F := Ideal))) ⟨m, fun _ => 0, g⟩ (fun r => (∀ c : Dev Cert.DownDx3ReferenceIdeal.nD,
      r.2.mem ((c.tc : Thread Cert.DownDx3ReferenceIdeal.nD Cert.DownDx3ReferenceIdeal.τ).loc Cert.DownDx3ReferenceIdeal.main_arg0) = m ((c.tc : Thread Cert.DownDx3ReferenceIdeal.nD Cert.DownDx3ReferenceIdeal.τ).loc Cert.DownDx3ReferenceIdeal.main_arg0)
      ∧ r.2.mem ((c.tc : Thread Cert.DownDx3ReferenceIdeal.nD Cert.DownDx3ReferenceIdeal.τ).loc Cert.DownDx3ReferenceIdeal.main_arg1) = m ((c.tc : Thread Cert.DownDx3ReferenceIdeal.nD Cert.DownDx3ReferenceIdeal.τ).loc Cert.DownDx3ReferenceIdeal.main_arg1))
      ∧ r.2.sem = fun _ => 0)

def quiescent_HgrnOutDx0 [hHgrnOutDx0 : Cert.HgrnOutDx0.Facts] : Prop :=
  ∀ (m : (ℓ : Loc Cert.HgrnOutDx0.nD Cert.HgrnOutDx0.τ Cert.HgrnOutDx0.sig) → Buf (Elt Bits) ℓ) (g : Dev Cert.HgrnOutDx0.nD → PrngReg), Pre_HgrnOutDx0 m →
    θ_run (Cert.HgrnOutDx0.defs (F := Bits)) (onTc (τ := Cert.HgrnOutDx0.τ) (Cert.HgrnOutDx0.main (F := Bits))) ⟨m, fun _ => 0, g⟩ (fun r => (∀ c : Dev Cert.HgrnOutDx0.nD,
      r.2.mem ((c.tc : Thread Cert.HgrnOutDx0.nD Cert.HgrnOutDx0.τ).loc Cert.HgrnOutDx0.main_arg0) = m ((c.tc : Thread Cert.HgrnOutDx0.nD Cert.HgrnOutDx0.τ).loc Cert.HgrnOutDx0.main_arg0)
      ∧ r.2.mem ((c.tc : Thread Cert.HgrnOutDx0.nD Cert.HgrnOutDx0.τ).loc Cert.HgrnOutDx0.main_arg1) = m ((c.tc : Thread Cert.HgrnOutDx0.nD Cert.HgrnOutDx0.τ).loc Cert.HgrnOutDx0.main_arg1))
      ∧ r.2.sem = fun _ => 0)

def quiescent_HgrnOutDx0Ideal [hHgrnOutDx0Ideal : Cert.HgrnOutDx0Ideal.Facts] : Prop :=
  ∀ (m : (ℓ : Loc Cert.HgrnOutDx0Ideal.nD Cert.HgrnOutDx0Ideal.τ Cert.HgrnOutDx0Ideal.sig) → Buf (Elt Ideal) ℓ) (g : Dev Cert.HgrnOutDx0Ideal.nD → PrngReg), Pre_HgrnOutDx0Ideal m →
    θ_run (Cert.HgrnOutDx0Ideal.defs (F := Ideal)) (onTc (τ := Cert.HgrnOutDx0Ideal.τ) (Cert.HgrnOutDx0Ideal.main (F := Ideal))) ⟨m, fun _ => 0, g⟩ (fun r => (∀ c : Dev Cert.HgrnOutDx0Ideal.nD,
      r.2.mem ((c.tc : Thread Cert.HgrnOutDx0Ideal.nD Cert.HgrnOutDx0Ideal.τ).loc Cert.HgrnOutDx0Ideal.main_arg0) = m ((c.tc : Thread Cert.HgrnOutDx0Ideal.nD Cert.HgrnOutDx0Ideal.τ).loc Cert.HgrnOutDx0Ideal.main_arg0)
      ∧ r.2.mem ((c.tc : Thread Cert.HgrnOutDx0Ideal.nD Cert.HgrnOutDx0Ideal.τ).loc Cert.HgrnOutDx0Ideal.main_arg1) = m ((c.tc : Thread Cert.HgrnOutDx0Ideal.nD Cert.HgrnOutDx0Ideal.τ).loc Cert.HgrnOutDx0Ideal.main_arg1))
      ∧ r.2.sem = fun _ => 0)

def quiescent_HgrnOutDx0ReferenceIdeal [hHgrnOutDx0ReferenceIdeal : Cert.HgrnOutDx0ReferenceIdeal.Facts] : Prop :=
  ∀ (m : (ℓ : Loc Cert.HgrnOutDx0ReferenceIdeal.nD Cert.HgrnOutDx0ReferenceIdeal.τ Cert.HgrnOutDx0ReferenceIdeal.sig) → Buf (Elt Ideal) ℓ) (g : Dev Cert.HgrnOutDx0ReferenceIdeal.nD → PrngReg), Pre_HgrnOutDx0ReferenceIdeal m →
    θ_run (Cert.HgrnOutDx0ReferenceIdeal.defs (F := Ideal)) (onTc (τ := Cert.HgrnOutDx0ReferenceIdeal.τ) (Cert.HgrnOutDx0ReferenceIdeal.main (F := Ideal))) ⟨m, fun _ => 0, g⟩ (fun r => (∀ c : Dev Cert.HgrnOutDx0ReferenceIdeal.nD,
      r.2.mem ((c.tc : Thread Cert.HgrnOutDx0ReferenceIdeal.nD Cert.HgrnOutDx0ReferenceIdeal.τ).loc Cert.HgrnOutDx0ReferenceIdeal.main_arg0) = m ((c.tc : Thread Cert.HgrnOutDx0ReferenceIdeal.nD Cert.HgrnOutDx0ReferenceIdeal.τ).loc Cert.HgrnOutDx0ReferenceIdeal.main_arg0)
      ∧ r.2.mem ((c.tc : Thread Cert.HgrnOutDx0ReferenceIdeal.nD Cert.HgrnOutDx0ReferenceIdeal.τ).loc Cert.HgrnOutDx0ReferenceIdeal.main_arg1) = m ((c.tc : Thread Cert.HgrnOutDx0ReferenceIdeal.nD Cert.HgrnOutDx0ReferenceIdeal.τ).loc Cert.HgrnOutDx0ReferenceIdeal.main_arg1))
      ∧ r.2.sem = fun _ => 0)

def quiescent_HgrnOutDx1 [hHgrnOutDx1 : Cert.HgrnOutDx1.Facts] : Prop :=
  ∀ (m : (ℓ : Loc Cert.HgrnOutDx1.nD Cert.HgrnOutDx1.τ Cert.HgrnOutDx1.sig) → Buf (Elt Bits) ℓ) (g : Dev Cert.HgrnOutDx1.nD → PrngReg), Pre_HgrnOutDx1 m →
    θ_run (Cert.HgrnOutDx1.defs (F := Bits)) (onTc (τ := Cert.HgrnOutDx1.τ) (Cert.HgrnOutDx1.main (F := Bits))) ⟨m, fun _ => 0, g⟩ (fun r => (∀ c : Dev Cert.HgrnOutDx1.nD,
      r.2.mem ((c.tc : Thread Cert.HgrnOutDx1.nD Cert.HgrnOutDx1.τ).loc Cert.HgrnOutDx1.main_arg0) = m ((c.tc : Thread Cert.HgrnOutDx1.nD Cert.HgrnOutDx1.τ).loc Cert.HgrnOutDx1.main_arg0)
      ∧ r.2.mem ((c.tc : Thread Cert.HgrnOutDx1.nD Cert.HgrnOutDx1.τ).loc Cert.HgrnOutDx1.main_arg1) = m ((c.tc : Thread Cert.HgrnOutDx1.nD Cert.HgrnOutDx1.τ).loc Cert.HgrnOutDx1.main_arg1))
      ∧ r.2.sem = fun _ => 0)

def quiescent_HgrnOutDx1Ideal [hHgrnOutDx1Ideal : Cert.HgrnOutDx1Ideal.Facts] : Prop :=
  ∀ (m : (ℓ : Loc Cert.HgrnOutDx1Ideal.nD Cert.HgrnOutDx1Ideal.τ Cert.HgrnOutDx1Ideal.sig) → Buf (Elt Ideal) ℓ) (g : Dev Cert.HgrnOutDx1Ideal.nD → PrngReg), Pre_HgrnOutDx1Ideal m →
    θ_run (Cert.HgrnOutDx1Ideal.defs (F := Ideal)) (onTc (τ := Cert.HgrnOutDx1Ideal.τ) (Cert.HgrnOutDx1Ideal.main (F := Ideal))) ⟨m, fun _ => 0, g⟩ (fun r => (∀ c : Dev Cert.HgrnOutDx1Ideal.nD,
      r.2.mem ((c.tc : Thread Cert.HgrnOutDx1Ideal.nD Cert.HgrnOutDx1Ideal.τ).loc Cert.HgrnOutDx1Ideal.main_arg0) = m ((c.tc : Thread Cert.HgrnOutDx1Ideal.nD Cert.HgrnOutDx1Ideal.τ).loc Cert.HgrnOutDx1Ideal.main_arg0)
      ∧ r.2.mem ((c.tc : Thread Cert.HgrnOutDx1Ideal.nD Cert.HgrnOutDx1Ideal.τ).loc Cert.HgrnOutDx1Ideal.main_arg1) = m ((c.tc : Thread Cert.HgrnOutDx1Ideal.nD Cert.HgrnOutDx1Ideal.τ).loc Cert.HgrnOutDx1Ideal.main_arg1))
      ∧ r.2.sem = fun _ => 0)

def quiescent_HgrnOutDx1ReferenceIdeal [hHgrnOutDx1ReferenceIdeal : Cert.HgrnOutDx1ReferenceIdeal.Facts] : Prop :=
  ∀ (m : (ℓ : Loc Cert.HgrnOutDx1ReferenceIdeal.nD Cert.HgrnOutDx1ReferenceIdeal.τ Cert.HgrnOutDx1ReferenceIdeal.sig) → Buf (Elt Ideal) ℓ) (g : Dev Cert.HgrnOutDx1ReferenceIdeal.nD → PrngReg), Pre_HgrnOutDx1ReferenceIdeal m →
    θ_run (Cert.HgrnOutDx1ReferenceIdeal.defs (F := Ideal)) (onTc (τ := Cert.HgrnOutDx1ReferenceIdeal.τ) (Cert.HgrnOutDx1ReferenceIdeal.main (F := Ideal))) ⟨m, fun _ => 0, g⟩ (fun r => (∀ c : Dev Cert.HgrnOutDx1ReferenceIdeal.nD,
      r.2.mem ((c.tc : Thread Cert.HgrnOutDx1ReferenceIdeal.nD Cert.HgrnOutDx1ReferenceIdeal.τ).loc Cert.HgrnOutDx1ReferenceIdeal.main_arg0) = m ((c.tc : Thread Cert.HgrnOutDx1ReferenceIdeal.nD Cert.HgrnOutDx1ReferenceIdeal.τ).loc Cert.HgrnOutDx1ReferenceIdeal.main_arg0)
      ∧ r.2.mem ((c.tc : Thread Cert.HgrnOutDx1ReferenceIdeal.nD Cert.HgrnOutDx1ReferenceIdeal.τ).loc Cert.HgrnOutDx1ReferenceIdeal.main_arg1) = m ((c.tc : Thread Cert.HgrnOutDx1ReferenceIdeal.nD Cert.HgrnOutDx1ReferenceIdeal.τ).loc Cert.HgrnOutDx1ReferenceIdeal.main_arg1))
      ∧ r.2.sem = fun _ => 0)

def quiescent_AttnOutDx0 [hAttnOutDx0 : Cert.AttnOutDx0.Facts] : Prop :=
  ∀ (m : (ℓ : Loc Cert.AttnOutDx0.nD Cert.AttnOutDx0.τ Cert.AttnOutDx0.sig) → Buf (Elt Bits) ℓ) (g : Dev Cert.AttnOutDx0.nD → PrngReg), Pre_AttnOutDx0 m →
    θ_run (Cert.AttnOutDx0.defs (F := Bits)) (onTc (τ := Cert.AttnOutDx0.τ) (Cert.AttnOutDx0.main (F := Bits))) ⟨m, fun _ => 0, g⟩ (fun r => (∀ c : Dev Cert.AttnOutDx0.nD,
      r.2.mem ((c.tc : Thread Cert.AttnOutDx0.nD Cert.AttnOutDx0.τ).loc Cert.AttnOutDx0.main_arg0) = m ((c.tc : Thread Cert.AttnOutDx0.nD Cert.AttnOutDx0.τ).loc Cert.AttnOutDx0.main_arg0)
      ∧ r.2.mem ((c.tc : Thread Cert.AttnOutDx0.nD Cert.AttnOutDx0.τ).loc Cert.AttnOutDx0.main_arg1) = m ((c.tc : Thread Cert.AttnOutDx0.nD Cert.AttnOutDx0.τ).loc Cert.AttnOutDx0.main_arg1))
      ∧ r.2.sem = fun _ => 0)

def quiescent_AttnOutDx0Ideal [hAttnOutDx0Ideal : Cert.AttnOutDx0Ideal.Facts] : Prop :=
  ∀ (m : (ℓ : Loc Cert.AttnOutDx0Ideal.nD Cert.AttnOutDx0Ideal.τ Cert.AttnOutDx0Ideal.sig) → Buf (Elt Ideal) ℓ) (g : Dev Cert.AttnOutDx0Ideal.nD → PrngReg), Pre_AttnOutDx0Ideal m →
    θ_run (Cert.AttnOutDx0Ideal.defs (F := Ideal)) (onTc (τ := Cert.AttnOutDx0Ideal.τ) (Cert.AttnOutDx0Ideal.main (F := Ideal))) ⟨m, fun _ => 0, g⟩ (fun r => (∀ c : Dev Cert.AttnOutDx0Ideal.nD,
      r.2.mem ((c.tc : Thread Cert.AttnOutDx0Ideal.nD Cert.AttnOutDx0Ideal.τ).loc Cert.AttnOutDx0Ideal.main_arg0) = m ((c.tc : Thread Cert.AttnOutDx0Ideal.nD Cert.AttnOutDx0Ideal.τ).loc Cert.AttnOutDx0Ideal.main_arg0)
      ∧ r.2.mem ((c.tc : Thread Cert.AttnOutDx0Ideal.nD Cert.AttnOutDx0Ideal.τ).loc Cert.AttnOutDx0Ideal.main_arg1) = m ((c.tc : Thread Cert.AttnOutDx0Ideal.nD Cert.AttnOutDx0Ideal.τ).loc Cert.AttnOutDx0Ideal.main_arg1))
      ∧ r.2.sem = fun _ => 0)

def quiescent_AttnOutDx0ReferenceIdeal [hAttnOutDx0ReferenceIdeal : Cert.AttnOutDx0ReferenceIdeal.Facts] : Prop :=
  ∀ (m : (ℓ : Loc Cert.AttnOutDx0ReferenceIdeal.nD Cert.AttnOutDx0ReferenceIdeal.τ Cert.AttnOutDx0ReferenceIdeal.sig) → Buf (Elt Ideal) ℓ) (g : Dev Cert.AttnOutDx0ReferenceIdeal.nD → PrngReg), Pre_AttnOutDx0ReferenceIdeal m →
    θ_run (Cert.AttnOutDx0ReferenceIdeal.defs (F := Ideal)) (onTc (τ := Cert.AttnOutDx0ReferenceIdeal.τ) (Cert.AttnOutDx0ReferenceIdeal.main (F := Ideal))) ⟨m, fun _ => 0, g⟩ (fun r => (∀ c : Dev Cert.AttnOutDx0ReferenceIdeal.nD,
      r.2.mem ((c.tc : Thread Cert.AttnOutDx0ReferenceIdeal.nD Cert.AttnOutDx0ReferenceIdeal.τ).loc Cert.AttnOutDx0ReferenceIdeal.main_arg0) = m ((c.tc : Thread Cert.AttnOutDx0ReferenceIdeal.nD Cert.AttnOutDx0ReferenceIdeal.τ).loc Cert.AttnOutDx0ReferenceIdeal.main_arg0)
      ∧ r.2.mem ((c.tc : Thread Cert.AttnOutDx0ReferenceIdeal.nD Cert.AttnOutDx0ReferenceIdeal.τ).loc Cert.AttnOutDx0ReferenceIdeal.main_arg1) = m ((c.tc : Thread Cert.AttnOutDx0ReferenceIdeal.nD Cert.AttnOutDx0ReferenceIdeal.τ).loc Cert.AttnOutDx0ReferenceIdeal.main_arg1))
      ∧ r.2.sem = fun _ => 0)

def quiescent_AttnOutDx1 [hAttnOutDx1 : Cert.AttnOutDx1.Facts] : Prop :=
  ∀ (m : (ℓ : Loc Cert.AttnOutDx1.nD Cert.AttnOutDx1.τ Cert.AttnOutDx1.sig) → Buf (Elt Bits) ℓ) (g : Dev Cert.AttnOutDx1.nD → PrngReg), Pre_AttnOutDx1 m →
    θ_run (Cert.AttnOutDx1.defs (F := Bits)) (onTc (τ := Cert.AttnOutDx1.τ) (Cert.AttnOutDx1.main (F := Bits))) ⟨m, fun _ => 0, g⟩ (fun r => (∀ c : Dev Cert.AttnOutDx1.nD,
      r.2.mem ((c.tc : Thread Cert.AttnOutDx1.nD Cert.AttnOutDx1.τ).loc Cert.AttnOutDx1.main_arg0) = m ((c.tc : Thread Cert.AttnOutDx1.nD Cert.AttnOutDx1.τ).loc Cert.AttnOutDx1.main_arg0)
      ∧ r.2.mem ((c.tc : Thread Cert.AttnOutDx1.nD Cert.AttnOutDx1.τ).loc Cert.AttnOutDx1.main_arg1) = m ((c.tc : Thread Cert.AttnOutDx1.nD Cert.AttnOutDx1.τ).loc Cert.AttnOutDx1.main_arg1))
      ∧ r.2.sem = fun _ => 0)

def quiescent_AttnOutDx1Ideal [hAttnOutDx1Ideal : Cert.AttnOutDx1Ideal.Facts] : Prop :=
  ∀ (m : (ℓ : Loc Cert.AttnOutDx1Ideal.nD Cert.AttnOutDx1Ideal.τ Cert.AttnOutDx1Ideal.sig) → Buf (Elt Ideal) ℓ) (g : Dev Cert.AttnOutDx1Ideal.nD → PrngReg), Pre_AttnOutDx1Ideal m →
    θ_run (Cert.AttnOutDx1Ideal.defs (F := Ideal)) (onTc (τ := Cert.AttnOutDx1Ideal.τ) (Cert.AttnOutDx1Ideal.main (F := Ideal))) ⟨m, fun _ => 0, g⟩ (fun r => (∀ c : Dev Cert.AttnOutDx1Ideal.nD,
      r.2.mem ((c.tc : Thread Cert.AttnOutDx1Ideal.nD Cert.AttnOutDx1Ideal.τ).loc Cert.AttnOutDx1Ideal.main_arg0) = m ((c.tc : Thread Cert.AttnOutDx1Ideal.nD Cert.AttnOutDx1Ideal.τ).loc Cert.AttnOutDx1Ideal.main_arg0)
      ∧ r.2.mem ((c.tc : Thread Cert.AttnOutDx1Ideal.nD Cert.AttnOutDx1Ideal.τ).loc Cert.AttnOutDx1Ideal.main_arg1) = m ((c.tc : Thread Cert.AttnOutDx1Ideal.nD Cert.AttnOutDx1Ideal.τ).loc Cert.AttnOutDx1Ideal.main_arg1))
      ∧ r.2.sem = fun _ => 0)

def quiescent_AttnOutDx1ReferenceIdeal [hAttnOutDx1ReferenceIdeal : Cert.AttnOutDx1ReferenceIdeal.Facts] : Prop :=
  ∀ (m : (ℓ : Loc Cert.AttnOutDx1ReferenceIdeal.nD Cert.AttnOutDx1ReferenceIdeal.τ Cert.AttnOutDx1ReferenceIdeal.sig) → Buf (Elt Ideal) ℓ) (g : Dev Cert.AttnOutDx1ReferenceIdeal.nD → PrngReg), Pre_AttnOutDx1ReferenceIdeal m →
    θ_run (Cert.AttnOutDx1ReferenceIdeal.defs (F := Ideal)) (onTc (τ := Cert.AttnOutDx1ReferenceIdeal.τ) (Cert.AttnOutDx1ReferenceIdeal.main (F := Ideal))) ⟨m, fun _ => 0, g⟩ (fun r => (∀ c : Dev Cert.AttnOutDx1ReferenceIdeal.nD,
      r.2.mem ((c.tc : Thread Cert.AttnOutDx1ReferenceIdeal.nD Cert.AttnOutDx1ReferenceIdeal.τ).loc Cert.AttnOutDx1ReferenceIdeal.main_arg0) = m ((c.tc : Thread Cert.AttnOutDx1ReferenceIdeal.nD Cert.AttnOutDx1ReferenceIdeal.τ).loc Cert.AttnOutDx1ReferenceIdeal.main_arg0)
      ∧ r.2.mem ((c.tc : Thread Cert.AttnOutDx1ReferenceIdeal.nD Cert.AttnOutDx1ReferenceIdeal.τ).loc Cert.AttnOutDx1ReferenceIdeal.main_arg1) = m ((c.tc : Thread Cert.AttnOutDx1ReferenceIdeal.nD Cert.AttnOutDx1ReferenceIdeal.τ).loc Cert.AttnOutDx1ReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_AttnInDw [hAttnInDw : Cert.AttnInDw.Facts] : Prop :=
  ∀ (m : (ℓ : Loc Cert.AttnInDw.nD Cert.AttnInDw.τ Cert.AttnInDw.sig) → Buf (Elt Bits) ℓ) (g : Dev Cert.AttnInDw.nD → PrngReg), Pre_AttnInDw m →
    θ_run (Cert.AttnInDw.defs (F := Bits)) (onTc (τ := Cert.AttnInDw.τ) (Cert.AttnInDw.main (F := Bits))) ⟨m, fun _ => 0, g⟩ (fun r => (∀ c : Dev Cert.AttnInDw.nD,
      r.2.mem ((c.tc : Thread Cert.AttnInDw.nD Cert.AttnInDw.τ).loc Cert.AttnInDw.main_arg0) = m ((c.tc : Thread Cert.AttnInDw.nD Cert.AttnInDw.τ).loc Cert.AttnInDw.main_arg0)
      ∧ r.2.mem ((c.tc : Thread Cert.AttnInDw.nD Cert.AttnInDw.τ).loc Cert.AttnInDw.main_arg1) = m ((c.tc : Thread Cert.AttnInDw.nD Cert.AttnInDw.τ).loc Cert.AttnInDw.main_arg1))
      ∧ r.2.sem = fun _ => 0)

def quiescent_AttnInDwIdeal [hAttnInDwIdeal : Cert.AttnInDwIdeal.Facts] : Prop :=
  ∀ (m : (ℓ : Loc Cert.AttnInDwIdeal.nD Cert.AttnInDwIdeal.τ Cert.AttnInDwIdeal.sig) → Buf (Elt Ideal) ℓ) (g : Dev Cert.AttnInDwIdeal.nD → PrngReg), Pre_AttnInDwIdeal m →
    θ_run (Cert.AttnInDwIdeal.defs (F := Ideal)) (onTc (τ := Cert.AttnInDwIdeal.τ) (Cert.AttnInDwIdeal.main (F := Ideal))) ⟨m, fun _ => 0, g⟩ (fun r => (∀ c : Dev Cert.AttnInDwIdeal.nD,
      r.2.mem ((c.tc : Thread Cert.AttnInDwIdeal.nD Cert.AttnInDwIdeal.τ).loc Cert.AttnInDwIdeal.main_arg0) = m ((c.tc : Thread Cert.AttnInDwIdeal.nD Cert.AttnInDwIdeal.τ).loc Cert.AttnInDwIdeal.main_arg0)
      ∧ r.2.mem ((c.tc : Thread Cert.AttnInDwIdeal.nD Cert.AttnInDwIdeal.τ).loc Cert.AttnInDwIdeal.main_arg1) = m ((c.tc : Thread Cert.AttnInDwIdeal.nD Cert.AttnInDwIdeal.τ).loc Cert.AttnInDwIdeal.main_arg1))
      ∧ r.2.sem = fun _ => 0)

def quiescent_AttnInDwReferenceIdeal [hAttnInDwReferenceIdeal : Cert.AttnInDwReferenceIdeal.Facts] : Prop :=
  ∀ (m : (ℓ : Loc Cert.AttnInDwReferenceIdeal.nD Cert.AttnInDwReferenceIdeal.τ Cert.AttnInDwReferenceIdeal.sig) → Buf (Elt Ideal) ℓ) (g : Dev Cert.AttnInDwReferenceIdeal.nD → PrngReg), Pre_AttnInDwReferenceIdeal m →
    θ_run (Cert.AttnInDwReferenceIdeal.defs (F := Ideal)) (onTc (τ := Cert.AttnInDwReferenceIdeal.τ) (Cert.AttnInDwReferenceIdeal.main (F := Ideal))) ⟨m, fun _ => 0, g⟩ (fun r => (∀ c : Dev Cert.AttnInDwReferenceIdeal.nD,
      r.2.mem ((c.tc : Thread Cert.AttnInDwReferenceIdeal.nD Cert.AttnInDwReferenceIdeal.τ).loc Cert.AttnInDwReferenceIdeal.main_arg0) = m ((c.tc : Thread Cert.AttnInDwReferenceIdeal.nD Cert.AttnInDwReferenceIdeal.τ).loc Cert.AttnInDwReferenceIdeal.main_arg0)
      ∧ r.2.mem ((c.tc : Thread Cert.AttnInDwReferenceIdeal.nD Cert.AttnInDwReferenceIdeal.τ).loc Cert.AttnInDwReferenceIdeal.main_arg1) = m ((c.tc : Thread Cert.AttnInDwReferenceIdeal.nD Cert.AttnInDwReferenceIdeal.τ).loc Cert.AttnInDwReferenceIdeal.main_arg1))
      ∧ r.2.sem = fun _ => 0)

def quiescent_HgrnInDw [hHgrnInDw : Cert.HgrnInDw.Facts] : Prop :=
  ∀ (m : (ℓ : Loc Cert.HgrnInDw.nD Cert.HgrnInDw.τ Cert.HgrnInDw.sig) → Buf (Elt Bits) ℓ) (g : Dev Cert.HgrnInDw.nD → PrngReg), Pre_HgrnInDw m →
    θ_run (Cert.HgrnInDw.defs (F := Bits)) (onTc (τ := Cert.HgrnInDw.τ) (Cert.HgrnInDw.main (F := Bits))) ⟨m, fun _ => 0, g⟩ (fun r => (∀ c : Dev Cert.HgrnInDw.nD,
      r.2.mem ((c.tc : Thread Cert.HgrnInDw.nD Cert.HgrnInDw.τ).loc Cert.HgrnInDw.main_arg0) = m ((c.tc : Thread Cert.HgrnInDw.nD Cert.HgrnInDw.τ).loc Cert.HgrnInDw.main_arg0)
      ∧ r.2.mem ((c.tc : Thread Cert.HgrnInDw.nD Cert.HgrnInDw.τ).loc Cert.HgrnInDw.main_arg1) = m ((c.tc : Thread Cert.HgrnInDw.nD Cert.HgrnInDw.τ).loc Cert.HgrnInDw.main_arg1))
      ∧ r.2.sem = fun _ => 0)

def quiescent_HgrnInDwIdeal [hHgrnInDwIdeal : Cert.HgrnInDwIdeal.Facts] : Prop :=
  ∀ (m : (ℓ : Loc Cert.HgrnInDwIdeal.nD Cert.HgrnInDwIdeal.τ Cert.HgrnInDwIdeal.sig) → Buf (Elt Ideal) ℓ) (g : Dev Cert.HgrnInDwIdeal.nD → PrngReg), Pre_HgrnInDwIdeal m →
    θ_run (Cert.HgrnInDwIdeal.defs (F := Ideal)) (onTc (τ := Cert.HgrnInDwIdeal.τ) (Cert.HgrnInDwIdeal.main (F := Ideal))) ⟨m, fun _ => 0, g⟩ (fun r => (∀ c : Dev Cert.HgrnInDwIdeal.nD,
      r.2.mem ((c.tc : Thread Cert.HgrnInDwIdeal.nD Cert.HgrnInDwIdeal.τ).loc Cert.HgrnInDwIdeal.main_arg0) = m ((c.tc : Thread Cert.HgrnInDwIdeal.nD Cert.HgrnInDwIdeal.τ).loc Cert.HgrnInDwIdeal.main_arg0)
      ∧ r.2.mem ((c.tc : Thread Cert.HgrnInDwIdeal.nD Cert.HgrnInDwIdeal.τ).loc Cert.HgrnInDwIdeal.main_arg1) = m ((c.tc : Thread Cert.HgrnInDwIdeal.nD Cert.HgrnInDwIdeal.τ).loc Cert.HgrnInDwIdeal.main_arg1))
      ∧ r.2.sem = fun _ => 0)

def quiescent_HgrnInDwReferenceIdeal [hHgrnInDwReferenceIdeal : Cert.HgrnInDwReferenceIdeal.Facts] : Prop :=
  ∀ (m : (ℓ : Loc Cert.HgrnInDwReferenceIdeal.nD Cert.HgrnInDwReferenceIdeal.τ Cert.HgrnInDwReferenceIdeal.sig) → Buf (Elt Ideal) ℓ) (g : Dev Cert.HgrnInDwReferenceIdeal.nD → PrngReg), Pre_HgrnInDwReferenceIdeal m →
    θ_run (Cert.HgrnInDwReferenceIdeal.defs (F := Ideal)) (onTc (τ := Cert.HgrnInDwReferenceIdeal.τ) (Cert.HgrnInDwReferenceIdeal.main (F := Ideal))) ⟨m, fun _ => 0, g⟩ (fun r => (∀ c : Dev Cert.HgrnInDwReferenceIdeal.nD,
      r.2.mem ((c.tc : Thread Cert.HgrnInDwReferenceIdeal.nD Cert.HgrnInDwReferenceIdeal.τ).loc Cert.HgrnInDwReferenceIdeal.main_arg0) = m ((c.tc : Thread Cert.HgrnInDwReferenceIdeal.nD Cert.HgrnInDwReferenceIdeal.τ).loc Cert.HgrnInDwReferenceIdeal.main_arg0)
      ∧ r.2.mem ((c.tc : Thread Cert.HgrnInDwReferenceIdeal.nD Cert.HgrnInDwReferenceIdeal.τ).loc Cert.HgrnInDwReferenceIdeal.main_arg1) = m ((c.tc : Thread Cert.HgrnInDwReferenceIdeal.nD Cert.HgrnInDwReferenceIdeal.τ).loc Cert.HgrnInDwReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_UpDx0 [hUpDx0 : Cert.UpDx0.Facts] : Prop :=
  ∀ (m : (ℓ : Loc Cert.UpDx0.nD Cert.UpDx0.τ Cert.UpDx0.sig) → Buf (Elt Bits) ℓ) (g : Dev Cert.UpDx0.nD → PrngReg), Pre_UpDx0 m →
    θ_run (Cert.UpDx0.defs (F := Bits)) (onTc (τ := Cert.UpDx0.τ) (Cert.UpDx0.main (F := Bits))) ⟨m, fun _ => 0, g⟩ (fun r => (∀ c : Dev Cert.UpDx0.nD,
      r.2.mem ((c.tc : Thread Cert.UpDx0.nD Cert.UpDx0.τ).loc Cert.UpDx0.main_arg0) = m ((c.tc : Thread Cert.UpDx0.nD Cert.UpDx0.τ).loc Cert.UpDx0.main_arg0)
      ∧ r.2.mem ((c.tc : Thread Cert.UpDx0.nD Cert.UpDx0.τ).loc Cert.UpDx0.main_arg1) = m ((c.tc : Thread Cert.UpDx0.nD Cert.UpDx0.τ).loc Cert.UpDx0.main_arg1)
      ∧ r.2.mem ((c.tc : Thread Cert.UpDx0.nD Cert.UpDx0.τ).loc Cert.UpDx0.main_arg2) = m ((c.tc : Thread Cert.UpDx0.nD Cert.UpDx0.τ).loc Cert.UpDx0.main_arg2)
      ∧ r.2.mem ((c.tc : Thread Cert.UpDx0.nD Cert.UpDx0.τ).loc Cert.UpDx0.main_arg3) = m ((c.tc : Thread Cert.UpDx0.nD Cert.UpDx0.τ).loc Cert.UpDx0.main_arg3)
      ∧ r.2.mem ((c.tc : Thread Cert.UpDx0.nD Cert.UpDx0.τ).loc Cert.UpDx0.main_arg4) = m ((c.tc : Thread Cert.UpDx0.nD Cert.UpDx0.τ).loc Cert.UpDx0.main_arg4))
      ∧ r.2.sem = fun _ => 0)

def quiescent_UpDx0Ideal [hUpDx0Ideal : Cert.UpDx0Ideal.Facts] : Prop :=
  ∀ (m : (ℓ : Loc Cert.UpDx0Ideal.nD Cert.UpDx0Ideal.τ Cert.UpDx0Ideal.sig) → Buf (Elt Ideal) ℓ) (g : Dev Cert.UpDx0Ideal.nD → PrngReg), Pre_UpDx0Ideal m →
    θ_run (Cert.UpDx0Ideal.defs (F := Ideal)) (onTc (τ := Cert.UpDx0Ideal.τ) (Cert.UpDx0Ideal.main (F := Ideal))) ⟨m, fun _ => 0, g⟩ (fun r => (∀ c : Dev Cert.UpDx0Ideal.nD,
      r.2.mem ((c.tc : Thread Cert.UpDx0Ideal.nD Cert.UpDx0Ideal.τ).loc Cert.UpDx0Ideal.main_arg0) = m ((c.tc : Thread Cert.UpDx0Ideal.nD Cert.UpDx0Ideal.τ).loc Cert.UpDx0Ideal.main_arg0)
      ∧ r.2.mem ((c.tc : Thread Cert.UpDx0Ideal.nD Cert.UpDx0Ideal.τ).loc Cert.UpDx0Ideal.main_arg1) = m ((c.tc : Thread Cert.UpDx0Ideal.nD Cert.UpDx0Ideal.τ).loc Cert.UpDx0Ideal.main_arg1)
      ∧ r.2.mem ((c.tc : Thread Cert.UpDx0Ideal.nD Cert.UpDx0Ideal.τ).loc Cert.UpDx0Ideal.main_arg2) = m ((c.tc : Thread Cert.UpDx0Ideal.nD Cert.UpDx0Ideal.τ).loc Cert.UpDx0Ideal.main_arg2)
      ∧ r.2.mem ((c.tc : Thread Cert.UpDx0Ideal.nD Cert.UpDx0Ideal.τ).loc Cert.UpDx0Ideal.main_arg3) = m ((c.tc : Thread Cert.UpDx0Ideal.nD Cert.UpDx0Ideal.τ).loc Cert.UpDx0Ideal.main_arg3)
      ∧ r.2.mem ((c.tc : Thread Cert.UpDx0Ideal.nD Cert.UpDx0Ideal.τ).loc Cert.UpDx0Ideal.main_arg4) = m ((c.tc : Thread Cert.UpDx0Ideal.nD Cert.UpDx0Ideal.τ).loc Cert.UpDx0Ideal.main_arg4))
      ∧ r.2.sem = fun _ => 0)

def quiescent_UpDx0ReferenceIdeal [hUpDx0ReferenceIdeal : Cert.UpDx0ReferenceIdeal.Facts] : Prop :=
  ∀ (m : (ℓ : Loc Cert.UpDx0ReferenceIdeal.nD Cert.UpDx0ReferenceIdeal.τ Cert.UpDx0ReferenceIdeal.sig) → Buf (Elt Ideal) ℓ) (g : Dev Cert.UpDx0ReferenceIdeal.nD → PrngReg), Pre_UpDx0ReferenceIdeal m →
    θ_run (Cert.UpDx0ReferenceIdeal.defs (F := Ideal)) (onTc (τ := Cert.UpDx0ReferenceIdeal.τ) (Cert.UpDx0ReferenceIdeal.main (F := Ideal))) ⟨m, fun _ => 0, g⟩ (fun r => (∀ c : Dev Cert.UpDx0ReferenceIdeal.nD,
      r.2.mem ((c.tc : Thread Cert.UpDx0ReferenceIdeal.nD Cert.UpDx0ReferenceIdeal.τ).loc Cert.UpDx0ReferenceIdeal.main_arg0) = m ((c.tc : Thread Cert.UpDx0ReferenceIdeal.nD Cert.UpDx0ReferenceIdeal.τ).loc Cert.UpDx0ReferenceIdeal.main_arg0)
      ∧ r.2.mem ((c.tc : Thread Cert.UpDx0ReferenceIdeal.nD Cert.UpDx0ReferenceIdeal.τ).loc Cert.UpDx0ReferenceIdeal.main_arg1) = m ((c.tc : Thread Cert.UpDx0ReferenceIdeal.nD Cert.UpDx0ReferenceIdeal.τ).loc Cert.UpDx0ReferenceIdeal.main_arg1)
      ∧ r.2.mem ((c.tc : Thread Cert.UpDx0ReferenceIdeal.nD Cert.UpDx0ReferenceIdeal.τ).loc Cert.UpDx0ReferenceIdeal.main_arg2) = m ((c.tc : Thread Cert.UpDx0ReferenceIdeal.nD Cert.UpDx0ReferenceIdeal.τ).loc Cert.UpDx0ReferenceIdeal.main_arg2)
      ∧ r.2.mem ((c.tc : Thread Cert.UpDx0ReferenceIdeal.nD Cert.UpDx0ReferenceIdeal.τ).loc Cert.UpDx0ReferenceIdeal.main_arg3) = m ((c.tc : Thread Cert.UpDx0ReferenceIdeal.nD Cert.UpDx0ReferenceIdeal.τ).loc Cert.UpDx0ReferenceIdeal.main_arg3)
      ∧ r.2.mem ((c.tc : Thread Cert.UpDx0ReferenceIdeal.nD Cert.UpDx0ReferenceIdeal.τ).loc Cert.UpDx0ReferenceIdeal.main_arg4) = m ((c.tc : Thread Cert.UpDx0ReferenceIdeal.nD Cert.UpDx0ReferenceIdeal.τ).loc Cert.UpDx0ReferenceIdeal.main_arg4))
      ∧ r.2.sem = fun _ => 0)

def quiescent_UpDx1 [hUpDx1 : Cert.UpDx1.Facts] : Prop :=
  ∀ (m : (ℓ : Loc Cert.UpDx1.nD Cert.UpDx1.τ Cert.UpDx1.sig) → Buf (Elt Bits) ℓ) (g : Dev Cert.UpDx1.nD → PrngReg), Pre_UpDx1 m →
    θ_run (Cert.UpDx1.defs (F := Bits)) (onTc (τ := Cert.UpDx1.τ) (Cert.UpDx1.main (F := Bits))) ⟨m, fun _ => 0, g⟩ (fun r => (∀ c : Dev Cert.UpDx1.nD,
      r.2.mem ((c.tc : Thread Cert.UpDx1.nD Cert.UpDx1.τ).loc Cert.UpDx1.main_arg0) = m ((c.tc : Thread Cert.UpDx1.nD Cert.UpDx1.τ).loc Cert.UpDx1.main_arg0)
      ∧ r.2.mem ((c.tc : Thread Cert.UpDx1.nD Cert.UpDx1.τ).loc Cert.UpDx1.main_arg1) = m ((c.tc : Thread Cert.UpDx1.nD Cert.UpDx1.τ).loc Cert.UpDx1.main_arg1)
      ∧ r.2.mem ((c.tc : Thread Cert.UpDx1.nD Cert.UpDx1.τ).loc Cert.UpDx1.main_arg2) = m ((c.tc : Thread Cert.UpDx1.nD Cert.UpDx1.τ).loc Cert.UpDx1.main_arg2)
      ∧ r.2.mem ((c.tc : Thread Cert.UpDx1.nD Cert.UpDx1.τ).loc Cert.UpDx1.main_arg3) = m ((c.tc : Thread Cert.UpDx1.nD Cert.UpDx1.τ).loc Cert.UpDx1.main_arg3)
      ∧ r.2.mem ((c.tc : Thread Cert.UpDx1.nD Cert.UpDx1.τ).loc Cert.UpDx1.main_arg4) = m ((c.tc : Thread Cert.UpDx1.nD Cert.UpDx1.τ).loc Cert.UpDx1.main_arg4))
      ∧ r.2.sem = fun _ => 0)

def quiescent_UpDx1Ideal [hUpDx1Ideal : Cert.UpDx1Ideal.Facts] : Prop :=
  ∀ (m : (ℓ : Loc Cert.UpDx1Ideal.nD Cert.UpDx1Ideal.τ Cert.UpDx1Ideal.sig) → Buf (Elt Ideal) ℓ) (g : Dev Cert.UpDx1Ideal.nD → PrngReg), Pre_UpDx1Ideal m →
    θ_run (Cert.UpDx1Ideal.defs (F := Ideal)) (onTc (τ := Cert.UpDx1Ideal.τ) (Cert.UpDx1Ideal.main (F := Ideal))) ⟨m, fun _ => 0, g⟩ (fun r => (∀ c : Dev Cert.UpDx1Ideal.nD,
      r.2.mem ((c.tc : Thread Cert.UpDx1Ideal.nD Cert.UpDx1Ideal.τ).loc Cert.UpDx1Ideal.main_arg0) = m ((c.tc : Thread Cert.UpDx1Ideal.nD Cert.UpDx1Ideal.τ).loc Cert.UpDx1Ideal.main_arg0)
      ∧ r.2.mem ((c.tc : Thread Cert.UpDx1Ideal.nD Cert.UpDx1Ideal.τ).loc Cert.UpDx1Ideal.main_arg1) = m ((c.tc : Thread Cert.UpDx1Ideal.nD Cert.UpDx1Ideal.τ).loc Cert.UpDx1Ideal.main_arg1)
      ∧ r.2.mem ((c.tc : Thread Cert.UpDx1Ideal.nD Cert.UpDx1Ideal.τ).loc Cert.UpDx1Ideal.main_arg2) = m ((c.tc : Thread Cert.UpDx1Ideal.nD Cert.UpDx1Ideal.τ).loc Cert.UpDx1Ideal.main_arg2)
      ∧ r.2.mem ((c.tc : Thread Cert.UpDx1Ideal.nD Cert.UpDx1Ideal.τ).loc Cert.UpDx1Ideal.main_arg3) = m ((c.tc : Thread Cert.UpDx1Ideal.nD Cert.UpDx1Ideal.τ).loc Cert.UpDx1Ideal.main_arg3)
      ∧ r.2.mem ((c.tc : Thread Cert.UpDx1Ideal.nD Cert.UpDx1Ideal.τ).loc Cert.UpDx1Ideal.main_arg4) = m ((c.tc : Thread Cert.UpDx1Ideal.nD Cert.UpDx1Ideal.τ).loc Cert.UpDx1Ideal.main_arg4))
      ∧ r.2.sem = fun _ => 0)

def quiescent_UpDx1ReferenceIdeal [hUpDx1ReferenceIdeal : Cert.UpDx1ReferenceIdeal.Facts] : Prop :=
  ∀ (m : (ℓ : Loc Cert.UpDx1ReferenceIdeal.nD Cert.UpDx1ReferenceIdeal.τ Cert.UpDx1ReferenceIdeal.sig) → Buf (Elt Ideal) ℓ) (g : Dev Cert.UpDx1ReferenceIdeal.nD → PrngReg), Pre_UpDx1ReferenceIdeal m →
    θ_run (Cert.UpDx1ReferenceIdeal.defs (F := Ideal)) (onTc (τ := Cert.UpDx1ReferenceIdeal.τ) (Cert.UpDx1ReferenceIdeal.main (F := Ideal))) ⟨m, fun _ => 0, g⟩ (fun r => (∀ c : Dev Cert.UpDx1ReferenceIdeal.nD,
      r.2.mem ((c.tc : Thread Cert.UpDx1ReferenceIdeal.nD Cert.UpDx1ReferenceIdeal.τ).loc Cert.UpDx1ReferenceIdeal.main_arg0) = m ((c.tc : Thread Cert.UpDx1ReferenceIdeal.nD Cert.UpDx1ReferenceIdeal.τ).loc Cert.UpDx1ReferenceIdeal.main_arg0)
      ∧ r.2.mem ((c.tc : Thread Cert.UpDx1ReferenceIdeal.nD Cert.UpDx1ReferenceIdeal.τ).loc Cert.UpDx1ReferenceIdeal.main_arg1) = m ((c.tc : Thread Cert.UpDx1ReferenceIdeal.nD Cert.UpDx1ReferenceIdeal.τ).loc Cert.UpDx1ReferenceIdeal.main_arg1)
      ∧ r.2.mem ((c.tc : Thread Cert.UpDx1ReferenceIdeal.nD Cert.UpDx1ReferenceIdeal.τ).loc Cert.UpDx1ReferenceIdeal.main_arg2) = m ((c.tc : Thread Cert.UpDx1ReferenceIdeal.nD Cert.UpDx1ReferenceIdeal.τ).loc Cert.UpDx1ReferenceIdeal.main_arg2)
      ∧ r.2.mem ((c.tc : Thread Cert.UpDx1ReferenceIdeal.nD Cert.UpDx1ReferenceIdeal.τ).loc Cert.UpDx1ReferenceIdeal.main_arg3) = m ((c.tc : Thread Cert.UpDx1ReferenceIdeal.nD Cert.UpDx1ReferenceIdeal.τ).loc Cert.UpDx1ReferenceIdeal.main_arg3)
      ∧ r.2.mem ((c.tc : Thread Cert.UpDx1ReferenceIdeal.nD Cert.UpDx1ReferenceIdeal.τ).loc Cert.UpDx1ReferenceIdeal.main_arg4) = m ((c.tc : Thread Cert.UpDx1ReferenceIdeal.nD Cert.UpDx1ReferenceIdeal.τ).loc Cert.UpDx1ReferenceIdeal.main_arg4))
      ∧ r.2.sem = fun _ => 0)

def quiescent_UpDx2 [hUpDx2 : Cert.UpDx2.Facts] : Prop :=
  ∀ (m : (ℓ : Loc Cert.UpDx2.nD Cert.UpDx2.τ Cert.UpDx2.sig) → Buf (Elt Bits) ℓ) (g : Dev Cert.UpDx2.nD → PrngReg), Pre_UpDx2 m →
    θ_run (Cert.UpDx2.defs (F := Bits)) (onTc (τ := Cert.UpDx2.τ) (Cert.UpDx2.main (F := Bits))) ⟨m, fun _ => 0, g⟩ (fun r => (∀ c : Dev Cert.UpDx2.nD,
      r.2.mem ((c.tc : Thread Cert.UpDx2.nD Cert.UpDx2.τ).loc Cert.UpDx2.main_arg0) = m ((c.tc : Thread Cert.UpDx2.nD Cert.UpDx2.τ).loc Cert.UpDx2.main_arg0)
      ∧ r.2.mem ((c.tc : Thread Cert.UpDx2.nD Cert.UpDx2.τ).loc Cert.UpDx2.main_arg1) = m ((c.tc : Thread Cert.UpDx2.nD Cert.UpDx2.τ).loc Cert.UpDx2.main_arg1)
      ∧ r.2.mem ((c.tc : Thread Cert.UpDx2.nD Cert.UpDx2.τ).loc Cert.UpDx2.main_arg2) = m ((c.tc : Thread Cert.UpDx2.nD Cert.UpDx2.τ).loc Cert.UpDx2.main_arg2)
      ∧ r.2.mem ((c.tc : Thread Cert.UpDx2.nD Cert.UpDx2.τ).loc Cert.UpDx2.main_arg3) = m ((c.tc : Thread Cert.UpDx2.nD Cert.UpDx2.τ).loc Cert.UpDx2.main_arg3)
      ∧ r.2.mem ((c.tc : Thread Cert.UpDx2.nD Cert.UpDx2.τ).loc Cert.UpDx2.main_arg4) = m ((c.tc : Thread Cert.UpDx2.nD Cert.UpDx2.τ).loc Cert.UpDx2.main_arg4))
      ∧ r.2.sem = fun _ => 0)

def quiescent_UpDx2Ideal [hUpDx2Ideal : Cert.UpDx2Ideal.Facts] : Prop :=
  ∀ (m : (ℓ : Loc Cert.UpDx2Ideal.nD Cert.UpDx2Ideal.τ Cert.UpDx2Ideal.sig) → Buf (Elt Ideal) ℓ) (g : Dev Cert.UpDx2Ideal.nD → PrngReg), Pre_UpDx2Ideal m →
    θ_run (Cert.UpDx2Ideal.defs (F := Ideal)) (onTc (τ := Cert.UpDx2Ideal.τ) (Cert.UpDx2Ideal.main (F := Ideal))) ⟨m, fun _ => 0, g⟩ (fun r => (∀ c : Dev Cert.UpDx2Ideal.nD,
      r.2.mem ((c.tc : Thread Cert.UpDx2Ideal.nD Cert.UpDx2Ideal.τ).loc Cert.UpDx2Ideal.main_arg0) = m ((c.tc : Thread Cert.UpDx2Ideal.nD Cert.UpDx2Ideal.τ).loc Cert.UpDx2Ideal.main_arg0)
      ∧ r.2.mem ((c.tc : Thread Cert.UpDx2Ideal.nD Cert.UpDx2Ideal.τ).loc Cert.UpDx2Ideal.main_arg1) = m ((c.tc : Thread Cert.UpDx2Ideal.nD Cert.UpDx2Ideal.τ).loc Cert.UpDx2Ideal.main_arg1)
      ∧ r.2.mem ((c.tc : Thread Cert.UpDx2Ideal.nD Cert.UpDx2Ideal.τ).loc Cert.UpDx2Ideal.main_arg2) = m ((c.tc : Thread Cert.UpDx2Ideal.nD Cert.UpDx2Ideal.τ).loc Cert.UpDx2Ideal.main_arg2)
      ∧ r.2.mem ((c.tc : Thread Cert.UpDx2Ideal.nD Cert.UpDx2Ideal.τ).loc Cert.UpDx2Ideal.main_arg3) = m ((c.tc : Thread Cert.UpDx2Ideal.nD Cert.UpDx2Ideal.τ).loc Cert.UpDx2Ideal.main_arg3)
      ∧ r.2.mem ((c.tc : Thread Cert.UpDx2Ideal.nD Cert.UpDx2Ideal.τ).loc Cert.UpDx2Ideal.main_arg4) = m ((c.tc : Thread Cert.UpDx2Ideal.nD Cert.UpDx2Ideal.τ).loc Cert.UpDx2Ideal.main_arg4))
      ∧ r.2.sem = fun _ => 0)

def quiescent_UpDx2ReferenceIdeal [hUpDx2ReferenceIdeal : Cert.UpDx2ReferenceIdeal.Facts] : Prop :=
  ∀ (m : (ℓ : Loc Cert.UpDx2ReferenceIdeal.nD Cert.UpDx2ReferenceIdeal.τ Cert.UpDx2ReferenceIdeal.sig) → Buf (Elt Ideal) ℓ) (g : Dev Cert.UpDx2ReferenceIdeal.nD → PrngReg), Pre_UpDx2ReferenceIdeal m →
    θ_run (Cert.UpDx2ReferenceIdeal.defs (F := Ideal)) (onTc (τ := Cert.UpDx2ReferenceIdeal.τ) (Cert.UpDx2ReferenceIdeal.main (F := Ideal))) ⟨m, fun _ => 0, g⟩ (fun r => (∀ c : Dev Cert.UpDx2ReferenceIdeal.nD,
      r.2.mem ((c.tc : Thread Cert.UpDx2ReferenceIdeal.nD Cert.UpDx2ReferenceIdeal.τ).loc Cert.UpDx2ReferenceIdeal.main_arg0) = m ((c.tc : Thread Cert.UpDx2ReferenceIdeal.nD Cert.UpDx2ReferenceIdeal.τ).loc Cert.UpDx2ReferenceIdeal.main_arg0)
      ∧ r.2.mem ((c.tc : Thread Cert.UpDx2ReferenceIdeal.nD Cert.UpDx2ReferenceIdeal.τ).loc Cert.UpDx2ReferenceIdeal.main_arg1) = m ((c.tc : Thread Cert.UpDx2ReferenceIdeal.nD Cert.UpDx2ReferenceIdeal.τ).loc Cert.UpDx2ReferenceIdeal.main_arg1)
      ∧ r.2.mem ((c.tc : Thread Cert.UpDx2ReferenceIdeal.nD Cert.UpDx2ReferenceIdeal.τ).loc Cert.UpDx2ReferenceIdeal.main_arg2) = m ((c.tc : Thread Cert.UpDx2ReferenceIdeal.nD Cert.UpDx2ReferenceIdeal.τ).loc Cert.UpDx2ReferenceIdeal.main_arg2)
      ∧ r.2.mem ((c.tc : Thread Cert.UpDx2ReferenceIdeal.nD Cert.UpDx2ReferenceIdeal.τ).loc Cert.UpDx2ReferenceIdeal.main_arg3) = m ((c.tc : Thread Cert.UpDx2ReferenceIdeal.nD Cert.UpDx2ReferenceIdeal.τ).loc Cert.UpDx2ReferenceIdeal.main_arg3)
      ∧ r.2.mem ((c.tc : Thread Cert.UpDx2ReferenceIdeal.nD Cert.UpDx2ReferenceIdeal.τ).loc Cert.UpDx2ReferenceIdeal.main_arg4) = m ((c.tc : Thread Cert.UpDx2ReferenceIdeal.nD Cert.UpDx2ReferenceIdeal.τ).loc Cert.UpDx2ReferenceIdeal.main_arg4))
      ∧ r.2.sem = fun _ => 0)

def quiescent_UpDx3 [hUpDx3 : Cert.UpDx3.Facts] : Prop :=
  ∀ (m : (ℓ : Loc Cert.UpDx3.nD Cert.UpDx3.τ Cert.UpDx3.sig) → Buf (Elt Bits) ℓ) (g : Dev Cert.UpDx3.nD → PrngReg), Pre_UpDx3 m →
    θ_run (Cert.UpDx3.defs (F := Bits)) (onTc (τ := Cert.UpDx3.τ) (Cert.UpDx3.main (F := Bits))) ⟨m, fun _ => 0, g⟩ (fun r => (∀ c : Dev Cert.UpDx3.nD,
      r.2.mem ((c.tc : Thread Cert.UpDx3.nD Cert.UpDx3.τ).loc Cert.UpDx3.main_arg0) = m ((c.tc : Thread Cert.UpDx3.nD Cert.UpDx3.τ).loc Cert.UpDx3.main_arg0)
      ∧ r.2.mem ((c.tc : Thread Cert.UpDx3.nD Cert.UpDx3.τ).loc Cert.UpDx3.main_arg1) = m ((c.tc : Thread Cert.UpDx3.nD Cert.UpDx3.τ).loc Cert.UpDx3.main_arg1)
      ∧ r.2.mem ((c.tc : Thread Cert.UpDx3.nD Cert.UpDx3.τ).loc Cert.UpDx3.main_arg2) = m ((c.tc : Thread Cert.UpDx3.nD Cert.UpDx3.τ).loc Cert.UpDx3.main_arg2)
      ∧ r.2.mem ((c.tc : Thread Cert.UpDx3.nD Cert.UpDx3.τ).loc Cert.UpDx3.main_arg3) = m ((c.tc : Thread Cert.UpDx3.nD Cert.UpDx3.τ).loc Cert.UpDx3.main_arg3)
      ∧ r.2.mem ((c.tc : Thread Cert.UpDx3.nD Cert.UpDx3.τ).loc Cert.UpDx3.main_arg4) = m ((c.tc : Thread Cert.UpDx3.nD Cert.UpDx3.τ).loc Cert.UpDx3.main_arg4))
      ∧ r.2.sem = fun _ => 0)

def quiescent_UpDx3Ideal [hUpDx3Ideal : Cert.UpDx3Ideal.Facts] : Prop :=
  ∀ (m : (ℓ : Loc Cert.UpDx3Ideal.nD Cert.UpDx3Ideal.τ Cert.UpDx3Ideal.sig) → Buf (Elt Ideal) ℓ) (g : Dev Cert.UpDx3Ideal.nD → PrngReg), Pre_UpDx3Ideal m →
    θ_run (Cert.UpDx3Ideal.defs (F := Ideal)) (onTc (τ := Cert.UpDx3Ideal.τ) (Cert.UpDx3Ideal.main (F := Ideal))) ⟨m, fun _ => 0, g⟩ (fun r => (∀ c : Dev Cert.UpDx3Ideal.nD,
      r.2.mem ((c.tc : Thread Cert.UpDx3Ideal.nD Cert.UpDx3Ideal.τ).loc Cert.UpDx3Ideal.main_arg0) = m ((c.tc : Thread Cert.UpDx3Ideal.nD Cert.UpDx3Ideal.τ).loc Cert.UpDx3Ideal.main_arg0)
      ∧ r.2.mem ((c.tc : Thread Cert.UpDx3Ideal.nD Cert.UpDx3Ideal.τ).loc Cert.UpDx3Ideal.main_arg1) = m ((c.tc : Thread Cert.UpDx3Ideal.nD Cert.UpDx3Ideal.τ).loc Cert.UpDx3Ideal.main_arg1)
      ∧ r.2.mem ((c.tc : Thread Cert.UpDx3Ideal.nD Cert.UpDx3Ideal.τ).loc Cert.UpDx3Ideal.main_arg2) = m ((c.tc : Thread Cert.UpDx3Ideal.nD Cert.UpDx3Ideal.τ).loc Cert.UpDx3Ideal.main_arg2)
      ∧ r.2.mem ((c.tc : Thread Cert.UpDx3Ideal.nD Cert.UpDx3Ideal.τ).loc Cert.UpDx3Ideal.main_arg3) = m ((c.tc : Thread Cert.UpDx3Ideal.nD Cert.UpDx3Ideal.τ).loc Cert.UpDx3Ideal.main_arg3)
      ∧ r.2.mem ((c.tc : Thread Cert.UpDx3Ideal.nD Cert.UpDx3Ideal.τ).loc Cert.UpDx3Ideal.main_arg4) = m ((c.tc : Thread Cert.UpDx3Ideal.nD Cert.UpDx3Ideal.τ).loc Cert.UpDx3Ideal.main_arg4))
      ∧ r.2.sem = fun _ => 0)

def quiescent_UpDx3ReferenceIdeal [hUpDx3ReferenceIdeal : Cert.UpDx3ReferenceIdeal.Facts] : Prop :=
  ∀ (m : (ℓ : Loc Cert.UpDx3ReferenceIdeal.nD Cert.UpDx3ReferenceIdeal.τ Cert.UpDx3ReferenceIdeal.sig) → Buf (Elt Ideal) ℓ) (g : Dev Cert.UpDx3ReferenceIdeal.nD → PrngReg), Pre_UpDx3ReferenceIdeal m →
    θ_run (Cert.UpDx3ReferenceIdeal.defs (F := Ideal)) (onTc (τ := Cert.UpDx3ReferenceIdeal.τ) (Cert.UpDx3ReferenceIdeal.main (F := Ideal))) ⟨m, fun _ => 0, g⟩ (fun r => (∀ c : Dev Cert.UpDx3ReferenceIdeal.nD,
      r.2.mem ((c.tc : Thread Cert.UpDx3ReferenceIdeal.nD Cert.UpDx3ReferenceIdeal.τ).loc Cert.UpDx3ReferenceIdeal.main_arg0) = m ((c.tc : Thread Cert.UpDx3ReferenceIdeal.nD Cert.UpDx3ReferenceIdeal.τ).loc Cert.UpDx3ReferenceIdeal.main_arg0)
      ∧ r.2.mem ((c.tc : Thread Cert.UpDx3ReferenceIdeal.nD Cert.UpDx3ReferenceIdeal.τ).loc Cert.UpDx3ReferenceIdeal.main_arg1) = m ((c.tc : Thread Cert.UpDx3ReferenceIdeal.nD Cert.UpDx3ReferenceIdeal.τ).loc Cert.UpDx3ReferenceIdeal.main_arg1)
      ∧ r.2.mem ((c.tc : Thread Cert.UpDx3ReferenceIdeal.nD Cert.UpDx3ReferenceIdeal.τ).loc Cert.UpDx3ReferenceIdeal.main_arg2) = m ((c.tc : Thread Cert.UpDx3ReferenceIdeal.nD Cert.UpDx3ReferenceIdeal.τ).loc Cert.UpDx3ReferenceIdeal.main_arg2)
      ∧ r.2.mem ((c.tc : Thread Cert.UpDx3ReferenceIdeal.nD Cert.UpDx3ReferenceIdeal.τ).loc Cert.UpDx3ReferenceIdeal.main_arg3) = m ((c.tc : Thread Cert.UpDx3ReferenceIdeal.nD Cert.UpDx3ReferenceIdeal.τ).loc Cert.UpDx3ReferenceIdeal.main_arg3)
      ∧ r.2.mem ((c.tc : Thread Cert.UpDx3ReferenceIdeal.nD Cert.UpDx3ReferenceIdeal.τ).loc Cert.UpDx3ReferenceIdeal.main_arg4) = m ((c.tc : Thread Cert.UpDx3ReferenceIdeal.nD Cert.UpDx3ReferenceIdeal.τ).loc Cert.UpDx3ReferenceIdeal.main_arg4))
      ∧ r.2.sem = fun _ => 0)

def quiescent_AttnInDx0 [hAttnInDx0 : Cert.AttnInDx0.Facts] : Prop :=
  ∀ (m : (ℓ : Loc Cert.AttnInDx0.nD Cert.AttnInDx0.τ Cert.AttnInDx0.sig) → Buf (Elt Bits) ℓ) (g : Dev Cert.AttnInDx0.nD → PrngReg), Pre_AttnInDx0 m →
    θ_run (Cert.AttnInDx0.defs (F := Bits)) (onTc (τ := Cert.AttnInDx0.τ) (Cert.AttnInDx0.main (F := Bits))) ⟨m, fun _ => 0, g⟩ (fun r => (∀ c : Dev Cert.AttnInDx0.nD,
      r.2.mem ((c.tc : Thread Cert.AttnInDx0.nD Cert.AttnInDx0.τ).loc Cert.AttnInDx0.main_arg0) = m ((c.tc : Thread Cert.AttnInDx0.nD Cert.AttnInDx0.τ).loc Cert.AttnInDx0.main_arg0)
      ∧ r.2.mem ((c.tc : Thread Cert.AttnInDx0.nD Cert.AttnInDx0.τ).loc Cert.AttnInDx0.main_arg1) = m ((c.tc : Thread Cert.AttnInDx0.nD Cert.AttnInDx0.τ).loc Cert.AttnInDx0.main_arg1)
      ∧ r.2.mem ((c.tc : Thread Cert.AttnInDx0.nD Cert.AttnInDx0.τ).loc Cert.AttnInDx0.main_arg2) = m ((c.tc : Thread Cert.AttnInDx0.nD Cert.AttnInDx0.τ).loc Cert.AttnInDx0.main_arg2)
      ∧ r.2.mem ((c.tc : Thread Cert.AttnInDx0.nD Cert.AttnInDx0.τ).loc Cert.AttnInDx0.main_arg3) = m ((c.tc : Thread Cert.AttnInDx0.nD Cert.AttnInDx0.τ).loc Cert.AttnInDx0.main_arg3)
      ∧ r.2.mem ((c.tc : Thread Cert.AttnInDx0.nD Cert.AttnInDx0.τ).loc Cert.AttnInDx0.main_arg4) = m ((c.tc : Thread Cert.AttnInDx0.nD Cert.AttnInDx0.τ).loc Cert.AttnInDx0.main_arg4))
      ∧ r.2.sem = fun _ => 0)

def quiescent_AttnInDx0Ideal [hAttnInDx0Ideal : Cert.AttnInDx0Ideal.Facts] : Prop :=
  ∀ (m : (ℓ : Loc Cert.AttnInDx0Ideal.nD Cert.AttnInDx0Ideal.τ Cert.AttnInDx0Ideal.sig) → Buf (Elt Ideal) ℓ) (g : Dev Cert.AttnInDx0Ideal.nD → PrngReg), Pre_AttnInDx0Ideal m →
    θ_run (Cert.AttnInDx0Ideal.defs (F := Ideal)) (onTc (τ := Cert.AttnInDx0Ideal.τ) (Cert.AttnInDx0Ideal.main (F := Ideal))) ⟨m, fun _ => 0, g⟩ (fun r => (∀ c : Dev Cert.AttnInDx0Ideal.nD,
      r.2.mem ((c.tc : Thread Cert.AttnInDx0Ideal.nD Cert.AttnInDx0Ideal.τ).loc Cert.AttnInDx0Ideal.main_arg0) = m ((c.tc : Thread Cert.AttnInDx0Ideal.nD Cert.AttnInDx0Ideal.τ).loc Cert.AttnInDx0Ideal.main_arg0)
      ∧ r.2.mem ((c.tc : Thread Cert.AttnInDx0Ideal.nD Cert.AttnInDx0Ideal.τ).loc Cert.AttnInDx0Ideal.main_arg1) = m ((c.tc : Thread Cert.AttnInDx0Ideal.nD Cert.AttnInDx0Ideal.τ).loc Cert.AttnInDx0Ideal.main_arg1)
      ∧ r.2.mem ((c.tc : Thread Cert.AttnInDx0Ideal.nD Cert.AttnInDx0Ideal.τ).loc Cert.AttnInDx0Ideal.main_arg2) = m ((c.tc : Thread Cert.AttnInDx0Ideal.nD Cert.AttnInDx0Ideal.τ).loc Cert.AttnInDx0Ideal.main_arg2)
      ∧ r.2.mem ((c.tc : Thread Cert.AttnInDx0Ideal.nD Cert.AttnInDx0Ideal.τ).loc Cert.AttnInDx0Ideal.main_arg3) = m ((c.tc : Thread Cert.AttnInDx0Ideal.nD Cert.AttnInDx0Ideal.τ).loc Cert.AttnInDx0Ideal.main_arg3)
      ∧ r.2.mem ((c.tc : Thread Cert.AttnInDx0Ideal.nD Cert.AttnInDx0Ideal.τ).loc Cert.AttnInDx0Ideal.main_arg4) = m ((c.tc : Thread Cert.AttnInDx0Ideal.nD Cert.AttnInDx0Ideal.τ).loc Cert.AttnInDx0Ideal.main_arg4))
      ∧ r.2.sem = fun _ => 0)

def quiescent_AttnInDx0ReferenceIdeal [hAttnInDx0ReferenceIdeal : Cert.AttnInDx0ReferenceIdeal.Facts] : Prop :=
  ∀ (m : (ℓ : Loc Cert.AttnInDx0ReferenceIdeal.nD Cert.AttnInDx0ReferenceIdeal.τ Cert.AttnInDx0ReferenceIdeal.sig) → Buf (Elt Ideal) ℓ) (g : Dev Cert.AttnInDx0ReferenceIdeal.nD → PrngReg), Pre_AttnInDx0ReferenceIdeal m →
    θ_run (Cert.AttnInDx0ReferenceIdeal.defs (F := Ideal)) (onTc (τ := Cert.AttnInDx0ReferenceIdeal.τ) (Cert.AttnInDx0ReferenceIdeal.main (F := Ideal))) ⟨m, fun _ => 0, g⟩ (fun r => (∀ c : Dev Cert.AttnInDx0ReferenceIdeal.nD,
      r.2.mem ((c.tc : Thread Cert.AttnInDx0ReferenceIdeal.nD Cert.AttnInDx0ReferenceIdeal.τ).loc Cert.AttnInDx0ReferenceIdeal.main_arg0) = m ((c.tc : Thread Cert.AttnInDx0ReferenceIdeal.nD Cert.AttnInDx0ReferenceIdeal.τ).loc Cert.AttnInDx0ReferenceIdeal.main_arg0)
      ∧ r.2.mem ((c.tc : Thread Cert.AttnInDx0ReferenceIdeal.nD Cert.AttnInDx0ReferenceIdeal.τ).loc Cert.AttnInDx0ReferenceIdeal.main_arg1) = m ((c.tc : Thread Cert.AttnInDx0ReferenceIdeal.nD Cert.AttnInDx0ReferenceIdeal.τ).loc Cert.AttnInDx0ReferenceIdeal.main_arg1)
      ∧ r.2.mem ((c.tc : Thread Cert.AttnInDx0ReferenceIdeal.nD Cert.AttnInDx0ReferenceIdeal.τ).loc Cert.AttnInDx0ReferenceIdeal.main_arg2) = m ((c.tc : Thread Cert.AttnInDx0ReferenceIdeal.nD Cert.AttnInDx0ReferenceIdeal.τ).loc Cert.AttnInDx0ReferenceIdeal.main_arg2)
      ∧ r.2.mem ((c.tc : Thread Cert.AttnInDx0ReferenceIdeal.nD Cert.AttnInDx0ReferenceIdeal.τ).loc Cert.AttnInDx0ReferenceIdeal.main_arg3) = m ((c.tc : Thread Cert.AttnInDx0ReferenceIdeal.nD Cert.AttnInDx0ReferenceIdeal.τ).loc Cert.AttnInDx0ReferenceIdeal.main_arg3)
      ∧ r.2.mem ((c.tc : Thread Cert.AttnInDx0ReferenceIdeal.nD Cert.AttnInDx0ReferenceIdeal.τ).loc Cert.AttnInDx0ReferenceIdeal.main_arg4) = m ((c.tc : Thread Cert.AttnInDx0ReferenceIdeal.nD Cert.AttnInDx0ReferenceIdeal.τ).loc Cert.AttnInDx0ReferenceIdeal.main_arg4))
      ∧ r.2.sem = fun _ => 0)

def quiescent_AttnInDx1 [hAttnInDx1 : Cert.AttnInDx1.Facts] : Prop :=
  ∀ (m : (ℓ : Loc Cert.AttnInDx1.nD Cert.AttnInDx1.τ Cert.AttnInDx1.sig) → Buf (Elt Bits) ℓ) (g : Dev Cert.AttnInDx1.nD → PrngReg), Pre_AttnInDx1 m →
    θ_run (Cert.AttnInDx1.defs (F := Bits)) (onTc (τ := Cert.AttnInDx1.τ) (Cert.AttnInDx1.main (F := Bits))) ⟨m, fun _ => 0, g⟩ (fun r => (∀ c : Dev Cert.AttnInDx1.nD,
      r.2.mem ((c.tc : Thread Cert.AttnInDx1.nD Cert.AttnInDx1.τ).loc Cert.AttnInDx1.main_arg0) = m ((c.tc : Thread Cert.AttnInDx1.nD Cert.AttnInDx1.τ).loc Cert.AttnInDx1.main_arg0)
      ∧ r.2.mem ((c.tc : Thread Cert.AttnInDx1.nD Cert.AttnInDx1.τ).loc Cert.AttnInDx1.main_arg1) = m ((c.tc : Thread Cert.AttnInDx1.nD Cert.AttnInDx1.τ).loc Cert.AttnInDx1.main_arg1)
      ∧ r.2.mem ((c.tc : Thread Cert.AttnInDx1.nD Cert.AttnInDx1.τ).loc Cert.AttnInDx1.main_arg2) = m ((c.tc : Thread Cert.AttnInDx1.nD Cert.AttnInDx1.τ).loc Cert.AttnInDx1.main_arg2)
      ∧ r.2.mem ((c.tc : Thread Cert.AttnInDx1.nD Cert.AttnInDx1.τ).loc Cert.AttnInDx1.main_arg3) = m ((c.tc : Thread Cert.AttnInDx1.nD Cert.AttnInDx1.τ).loc Cert.AttnInDx1.main_arg3)
      ∧ r.2.mem ((c.tc : Thread Cert.AttnInDx1.nD Cert.AttnInDx1.τ).loc Cert.AttnInDx1.main_arg4) = m ((c.tc : Thread Cert.AttnInDx1.nD Cert.AttnInDx1.τ).loc Cert.AttnInDx1.main_arg4))
      ∧ r.2.sem = fun _ => 0)

def quiescent_AttnInDx1Ideal [hAttnInDx1Ideal : Cert.AttnInDx1Ideal.Facts] : Prop :=
  ∀ (m : (ℓ : Loc Cert.AttnInDx1Ideal.nD Cert.AttnInDx1Ideal.τ Cert.AttnInDx1Ideal.sig) → Buf (Elt Ideal) ℓ) (g : Dev Cert.AttnInDx1Ideal.nD → PrngReg), Pre_AttnInDx1Ideal m →
    θ_run (Cert.AttnInDx1Ideal.defs (F := Ideal)) (onTc (τ := Cert.AttnInDx1Ideal.τ) (Cert.AttnInDx1Ideal.main (F := Ideal))) ⟨m, fun _ => 0, g⟩ (fun r => (∀ c : Dev Cert.AttnInDx1Ideal.nD,
      r.2.mem ((c.tc : Thread Cert.AttnInDx1Ideal.nD Cert.AttnInDx1Ideal.τ).loc Cert.AttnInDx1Ideal.main_arg0) = m ((c.tc : Thread Cert.AttnInDx1Ideal.nD Cert.AttnInDx1Ideal.τ).loc Cert.AttnInDx1Ideal.main_arg0)
      ∧ r.2.mem ((c.tc : Thread Cert.AttnInDx1Ideal.nD Cert.AttnInDx1Ideal.τ).loc Cert.AttnInDx1Ideal.main_arg1) = m ((c.tc : Thread Cert.AttnInDx1Ideal.nD Cert.AttnInDx1Ideal.τ).loc Cert.AttnInDx1Ideal.main_arg1)
      ∧ r.2.mem ((c.tc : Thread Cert.AttnInDx1Ideal.nD Cert.AttnInDx1Ideal.τ).loc Cert.AttnInDx1Ideal.main_arg2) = m ((c.tc : Thread Cert.AttnInDx1Ideal.nD Cert.AttnInDx1Ideal.τ).loc Cert.AttnInDx1Ideal.main_arg2)
      ∧ r.2.mem ((c.tc : Thread Cert.AttnInDx1Ideal.nD Cert.AttnInDx1Ideal.τ).loc Cert.AttnInDx1Ideal.main_arg3) = m ((c.tc : Thread Cert.AttnInDx1Ideal.nD Cert.AttnInDx1Ideal.τ).loc Cert.AttnInDx1Ideal.main_arg3)
      ∧ r.2.mem ((c.tc : Thread Cert.AttnInDx1Ideal.nD Cert.AttnInDx1Ideal.τ).loc Cert.AttnInDx1Ideal.main_arg4) = m ((c.tc : Thread Cert.AttnInDx1Ideal.nD Cert.AttnInDx1Ideal.τ).loc Cert.AttnInDx1Ideal.main_arg4))
      ∧ r.2.sem = fun _ => 0)

def quiescent_AttnInDx1ReferenceIdeal [hAttnInDx1ReferenceIdeal : Cert.AttnInDx1ReferenceIdeal.Facts] : Prop :=
  ∀ (m : (ℓ : Loc Cert.AttnInDx1ReferenceIdeal.nD Cert.AttnInDx1ReferenceIdeal.τ Cert.AttnInDx1ReferenceIdeal.sig) → Buf (Elt Ideal) ℓ) (g : Dev Cert.AttnInDx1ReferenceIdeal.nD → PrngReg), Pre_AttnInDx1ReferenceIdeal m →
    θ_run (Cert.AttnInDx1ReferenceIdeal.defs (F := Ideal)) (onTc (τ := Cert.AttnInDx1ReferenceIdeal.τ) (Cert.AttnInDx1ReferenceIdeal.main (F := Ideal))) ⟨m, fun _ => 0, g⟩ (fun r => (∀ c : Dev Cert.AttnInDx1ReferenceIdeal.nD,
      r.2.mem ((c.tc : Thread Cert.AttnInDx1ReferenceIdeal.nD Cert.AttnInDx1ReferenceIdeal.τ).loc Cert.AttnInDx1ReferenceIdeal.main_arg0) = m ((c.tc : Thread Cert.AttnInDx1ReferenceIdeal.nD Cert.AttnInDx1ReferenceIdeal.τ).loc Cert.AttnInDx1ReferenceIdeal.main_arg0)
      ∧ r.2.mem ((c.tc : Thread Cert.AttnInDx1ReferenceIdeal.nD Cert.AttnInDx1ReferenceIdeal.τ).loc Cert.AttnInDx1ReferenceIdeal.main_arg1) = m ((c.tc : Thread Cert.AttnInDx1ReferenceIdeal.nD Cert.AttnInDx1ReferenceIdeal.τ).loc Cert.AttnInDx1ReferenceIdeal.main_arg1)
      ∧ r.2.mem ((c.tc : Thread Cert.AttnInDx1ReferenceIdeal.nD Cert.AttnInDx1ReferenceIdeal.τ).loc Cert.AttnInDx1ReferenceIdeal.main_arg2) = m ((c.tc : Thread Cert.AttnInDx1ReferenceIdeal.nD Cert.AttnInDx1ReferenceIdeal.τ).loc Cert.AttnInDx1ReferenceIdeal.main_arg2)
      ∧ r.2.mem ((c.tc : Thread Cert.AttnInDx1ReferenceIdeal.nD Cert.AttnInDx1ReferenceIdeal.τ).loc Cert.AttnInDx1ReferenceIdeal.main_arg3) = m ((c.tc : Thread Cert.AttnInDx1ReferenceIdeal.nD Cert.AttnInDx1ReferenceIdeal.τ).loc Cert.AttnInDx1ReferenceIdeal.main_arg3)
      ∧ r.2.mem ((c.tc : Thread Cert.AttnInDx1ReferenceIdeal.nD Cert.AttnInDx1ReferenceIdeal.τ).loc Cert.AttnInDx1ReferenceIdeal.main_arg4) = m ((c.tc : Thread Cert.AttnInDx1ReferenceIdeal.nD Cert.AttnInDx1ReferenceIdeal.τ).loc Cert.AttnInDx1ReferenceIdeal.main_arg4))
      ∧ r.2.sem = fun _ => 0)

def quiescent_HgrnInDx0 [hHgrnInDx0 : Cert.HgrnInDx0.Facts] : Prop :=
  ∀ (m : (ℓ : Loc Cert.HgrnInDx0.nD Cert.HgrnInDx0.τ Cert.HgrnInDx0.sig) → Buf (Elt Bits) ℓ) (g : Dev Cert.HgrnInDx0.nD → PrngReg), Pre_HgrnInDx0 m →
    θ_run (Cert.HgrnInDx0.defs (F := Bits)) (onTc (τ := Cert.HgrnInDx0.τ) (Cert.HgrnInDx0.main (F := Bits))) ⟨m, fun _ => 0, g⟩ (fun r => (∀ c : Dev Cert.HgrnInDx0.nD,
      r.2.mem ((c.tc : Thread Cert.HgrnInDx0.nD Cert.HgrnInDx0.τ).loc Cert.HgrnInDx0.main_arg0) = m ((c.tc : Thread Cert.HgrnInDx0.nD Cert.HgrnInDx0.τ).loc Cert.HgrnInDx0.main_arg0)
      ∧ r.2.mem ((c.tc : Thread Cert.HgrnInDx0.nD Cert.HgrnInDx0.τ).loc Cert.HgrnInDx0.main_arg1) = m ((c.tc : Thread Cert.HgrnInDx0.nD Cert.HgrnInDx0.τ).loc Cert.HgrnInDx0.main_arg1)
      ∧ r.2.mem ((c.tc : Thread Cert.HgrnInDx0.nD Cert.HgrnInDx0.τ).loc Cert.HgrnInDx0.main_arg2) = m ((c.tc : Thread Cert.HgrnInDx0.nD Cert.HgrnInDx0.τ).loc Cert.HgrnInDx0.main_arg2)
      ∧ r.2.mem ((c.tc : Thread Cert.HgrnInDx0.nD Cert.HgrnInDx0.τ).loc Cert.HgrnInDx0.main_arg3) = m ((c.tc : Thread Cert.HgrnInDx0.nD Cert.HgrnInDx0.τ).loc Cert.HgrnInDx0.main_arg3)
      ∧ r.2.mem ((c.tc : Thread Cert.HgrnInDx0.nD Cert.HgrnInDx0.τ).loc Cert.HgrnInDx0.main_arg4) = m ((c.tc : Thread Cert.HgrnInDx0.nD Cert.HgrnInDx0.τ).loc Cert.HgrnInDx0.main_arg4))
      ∧ r.2.sem = fun _ => 0)

def quiescent_HgrnInDx0Ideal [hHgrnInDx0Ideal : Cert.HgrnInDx0Ideal.Facts] : Prop :=
  ∀ (m : (ℓ : Loc Cert.HgrnInDx0Ideal.nD Cert.HgrnInDx0Ideal.τ Cert.HgrnInDx0Ideal.sig) → Buf (Elt Ideal) ℓ) (g : Dev Cert.HgrnInDx0Ideal.nD → PrngReg), Pre_HgrnInDx0Ideal m →
    θ_run (Cert.HgrnInDx0Ideal.defs (F := Ideal)) (onTc (τ := Cert.HgrnInDx0Ideal.τ) (Cert.HgrnInDx0Ideal.main (F := Ideal))) ⟨m, fun _ => 0, g⟩ (fun r => (∀ c : Dev Cert.HgrnInDx0Ideal.nD,
      r.2.mem ((c.tc : Thread Cert.HgrnInDx0Ideal.nD Cert.HgrnInDx0Ideal.τ).loc Cert.HgrnInDx0Ideal.main_arg0) = m ((c.tc : Thread Cert.HgrnInDx0Ideal.nD Cert.HgrnInDx0Ideal.τ).loc Cert.HgrnInDx0Ideal.main_arg0)
      ∧ r.2.mem ((c.tc : Thread Cert.HgrnInDx0Ideal.nD Cert.HgrnInDx0Ideal.τ).loc Cert.HgrnInDx0Ideal.main_arg1) = m ((c.tc : Thread Cert.HgrnInDx0Ideal.nD Cert.HgrnInDx0Ideal.τ).loc Cert.HgrnInDx0Ideal.main_arg1)
      ∧ r.2.mem ((c.tc : Thread Cert.HgrnInDx0Ideal.nD Cert.HgrnInDx0Ideal.τ).loc Cert.HgrnInDx0Ideal.main_arg2) = m ((c.tc : Thread Cert.HgrnInDx0Ideal.nD Cert.HgrnInDx0Ideal.τ).loc Cert.HgrnInDx0Ideal.main_arg2)
      ∧ r.2.mem ((c.tc : Thread Cert.HgrnInDx0Ideal.nD Cert.HgrnInDx0Ideal.τ).loc Cert.HgrnInDx0Ideal.main_arg3) = m ((c.tc : Thread Cert.HgrnInDx0Ideal.nD Cert.HgrnInDx0Ideal.τ).loc Cert.HgrnInDx0Ideal.main_arg3)
      ∧ r.2.mem ((c.tc : Thread Cert.HgrnInDx0Ideal.nD Cert.HgrnInDx0Ideal.τ).loc Cert.HgrnInDx0Ideal.main_arg4) = m ((c.tc : Thread Cert.HgrnInDx0Ideal.nD Cert.HgrnInDx0Ideal.τ).loc Cert.HgrnInDx0Ideal.main_arg4))
      ∧ r.2.sem = fun _ => 0)

def quiescent_HgrnInDx0ReferenceIdeal [hHgrnInDx0ReferenceIdeal : Cert.HgrnInDx0ReferenceIdeal.Facts] : Prop :=
  ∀ (m : (ℓ : Loc Cert.HgrnInDx0ReferenceIdeal.nD Cert.HgrnInDx0ReferenceIdeal.τ Cert.HgrnInDx0ReferenceIdeal.sig) → Buf (Elt Ideal) ℓ) (g : Dev Cert.HgrnInDx0ReferenceIdeal.nD → PrngReg), Pre_HgrnInDx0ReferenceIdeal m →
    θ_run (Cert.HgrnInDx0ReferenceIdeal.defs (F := Ideal)) (onTc (τ := Cert.HgrnInDx0ReferenceIdeal.τ) (Cert.HgrnInDx0ReferenceIdeal.main (F := Ideal))) ⟨m, fun _ => 0, g⟩ (fun r => (∀ c : Dev Cert.HgrnInDx0ReferenceIdeal.nD,
      r.2.mem ((c.tc : Thread Cert.HgrnInDx0ReferenceIdeal.nD Cert.HgrnInDx0ReferenceIdeal.τ).loc Cert.HgrnInDx0ReferenceIdeal.main_arg0) = m ((c.tc : Thread Cert.HgrnInDx0ReferenceIdeal.nD Cert.HgrnInDx0ReferenceIdeal.τ).loc Cert.HgrnInDx0ReferenceIdeal.main_arg0)
      ∧ r.2.mem ((c.tc : Thread Cert.HgrnInDx0ReferenceIdeal.nD Cert.HgrnInDx0ReferenceIdeal.τ).loc Cert.HgrnInDx0ReferenceIdeal.main_arg1) = m ((c.tc : Thread Cert.HgrnInDx0ReferenceIdeal.nD Cert.HgrnInDx0ReferenceIdeal.τ).loc Cert.HgrnInDx0ReferenceIdeal.main_arg1)
      ∧ r.2.mem ((c.tc : Thread Cert.HgrnInDx0ReferenceIdeal.nD Cert.HgrnInDx0ReferenceIdeal.τ).loc Cert.HgrnInDx0ReferenceIdeal.main_arg2) = m ((c.tc : Thread Cert.HgrnInDx0ReferenceIdeal.nD Cert.HgrnInDx0ReferenceIdeal.τ).loc Cert.HgrnInDx0ReferenceIdeal.main_arg2)
      ∧ r.2.mem ((c.tc : Thread Cert.HgrnInDx0ReferenceIdeal.nD Cert.HgrnInDx0ReferenceIdeal.τ).loc Cert.HgrnInDx0ReferenceIdeal.main_arg3) = m ((c.tc : Thread Cert.HgrnInDx0ReferenceIdeal.nD Cert.HgrnInDx0ReferenceIdeal.τ).loc Cert.HgrnInDx0ReferenceIdeal.main_arg3)
      ∧ r.2.mem ((c.tc : Thread Cert.HgrnInDx0ReferenceIdeal.nD Cert.HgrnInDx0ReferenceIdeal.τ).loc Cert.HgrnInDx0ReferenceIdeal.main_arg4) = m ((c.tc : Thread Cert.HgrnInDx0ReferenceIdeal.nD Cert.HgrnInDx0ReferenceIdeal.τ).loc Cert.HgrnInDx0ReferenceIdeal.main_arg4))
      ∧ r.2.sem = fun _ => 0)

def quiescent_HgrnInDx1 [hHgrnInDx1 : Cert.HgrnInDx1.Facts] : Prop :=
  ∀ (m : (ℓ : Loc Cert.HgrnInDx1.nD Cert.HgrnInDx1.τ Cert.HgrnInDx1.sig) → Buf (Elt Bits) ℓ) (g : Dev Cert.HgrnInDx1.nD → PrngReg), Pre_HgrnInDx1 m →
    θ_run (Cert.HgrnInDx1.defs (F := Bits)) (onTc (τ := Cert.HgrnInDx1.τ) (Cert.HgrnInDx1.main (F := Bits))) ⟨m, fun _ => 0, g⟩ (fun r => (∀ c : Dev Cert.HgrnInDx1.nD,
      r.2.mem ((c.tc : Thread Cert.HgrnInDx1.nD Cert.HgrnInDx1.τ).loc Cert.HgrnInDx1.main_arg0) = m ((c.tc : Thread Cert.HgrnInDx1.nD Cert.HgrnInDx1.τ).loc Cert.HgrnInDx1.main_arg0)
      ∧ r.2.mem ((c.tc : Thread Cert.HgrnInDx1.nD Cert.HgrnInDx1.τ).loc Cert.HgrnInDx1.main_arg1) = m ((c.tc : Thread Cert.HgrnInDx1.nD Cert.HgrnInDx1.τ).loc Cert.HgrnInDx1.main_arg1)
      ∧ r.2.mem ((c.tc : Thread Cert.HgrnInDx1.nD Cert.HgrnInDx1.τ).loc Cert.HgrnInDx1.main_arg2) = m ((c.tc : Thread Cert.HgrnInDx1.nD Cert.HgrnInDx1.τ).loc Cert.HgrnInDx1.main_arg2)
      ∧ r.2.mem ((c.tc : Thread Cert.HgrnInDx1.nD Cert.HgrnInDx1.τ).loc Cert.HgrnInDx1.main_arg3) = m ((c.tc : Thread Cert.HgrnInDx1.nD Cert.HgrnInDx1.τ).loc Cert.HgrnInDx1.main_arg3)
      ∧ r.2.mem ((c.tc : Thread Cert.HgrnInDx1.nD Cert.HgrnInDx1.τ).loc Cert.HgrnInDx1.main_arg4) = m ((c.tc : Thread Cert.HgrnInDx1.nD Cert.HgrnInDx1.τ).loc Cert.HgrnInDx1.main_arg4))
      ∧ r.2.sem = fun _ => 0)

def quiescent_HgrnInDx1Ideal [hHgrnInDx1Ideal : Cert.HgrnInDx1Ideal.Facts] : Prop :=
  ∀ (m : (ℓ : Loc Cert.HgrnInDx1Ideal.nD Cert.HgrnInDx1Ideal.τ Cert.HgrnInDx1Ideal.sig) → Buf (Elt Ideal) ℓ) (g : Dev Cert.HgrnInDx1Ideal.nD → PrngReg), Pre_HgrnInDx1Ideal m →
    θ_run (Cert.HgrnInDx1Ideal.defs (F := Ideal)) (onTc (τ := Cert.HgrnInDx1Ideal.τ) (Cert.HgrnInDx1Ideal.main (F := Ideal))) ⟨m, fun _ => 0, g⟩ (fun r => (∀ c : Dev Cert.HgrnInDx1Ideal.nD,
      r.2.mem ((c.tc : Thread Cert.HgrnInDx1Ideal.nD Cert.HgrnInDx1Ideal.τ).loc Cert.HgrnInDx1Ideal.main_arg0) = m ((c.tc : Thread Cert.HgrnInDx1Ideal.nD Cert.HgrnInDx1Ideal.τ).loc Cert.HgrnInDx1Ideal.main_arg0)
      ∧ r.2.mem ((c.tc : Thread Cert.HgrnInDx1Ideal.nD Cert.HgrnInDx1Ideal.τ).loc Cert.HgrnInDx1Ideal.main_arg1) = m ((c.tc : Thread Cert.HgrnInDx1Ideal.nD Cert.HgrnInDx1Ideal.τ).loc Cert.HgrnInDx1Ideal.main_arg1)
      ∧ r.2.mem ((c.tc : Thread Cert.HgrnInDx1Ideal.nD Cert.HgrnInDx1Ideal.τ).loc Cert.HgrnInDx1Ideal.main_arg2) = m ((c.tc : Thread Cert.HgrnInDx1Ideal.nD Cert.HgrnInDx1Ideal.τ).loc Cert.HgrnInDx1Ideal.main_arg2)
      ∧ r.2.mem ((c.tc : Thread Cert.HgrnInDx1Ideal.nD Cert.HgrnInDx1Ideal.τ).loc Cert.HgrnInDx1Ideal.main_arg3) = m ((c.tc : Thread Cert.HgrnInDx1Ideal.nD Cert.HgrnInDx1Ideal.τ).loc Cert.HgrnInDx1Ideal.main_arg3)
      ∧ r.2.mem ((c.tc : Thread Cert.HgrnInDx1Ideal.nD Cert.HgrnInDx1Ideal.τ).loc Cert.HgrnInDx1Ideal.main_arg4) = m ((c.tc : Thread Cert.HgrnInDx1Ideal.nD Cert.HgrnInDx1Ideal.τ).loc Cert.HgrnInDx1Ideal.main_arg4))
      ∧ r.2.sem = fun _ => 0)

def quiescent_HgrnInDx1ReferenceIdeal [hHgrnInDx1ReferenceIdeal : Cert.HgrnInDx1ReferenceIdeal.Facts] : Prop :=
  ∀ (m : (ℓ : Loc Cert.HgrnInDx1ReferenceIdeal.nD Cert.HgrnInDx1ReferenceIdeal.τ Cert.HgrnInDx1ReferenceIdeal.sig) → Buf (Elt Ideal) ℓ) (g : Dev Cert.HgrnInDx1ReferenceIdeal.nD → PrngReg), Pre_HgrnInDx1ReferenceIdeal m →
    θ_run (Cert.HgrnInDx1ReferenceIdeal.defs (F := Ideal)) (onTc (τ := Cert.HgrnInDx1ReferenceIdeal.τ) (Cert.HgrnInDx1ReferenceIdeal.main (F := Ideal))) ⟨m, fun _ => 0, g⟩ (fun r => (∀ c : Dev Cert.HgrnInDx1ReferenceIdeal.nD,
      r.2.mem ((c.tc : Thread Cert.HgrnInDx1ReferenceIdeal.nD Cert.HgrnInDx1ReferenceIdeal.τ).loc Cert.HgrnInDx1ReferenceIdeal.main_arg0) = m ((c.tc : Thread Cert.HgrnInDx1ReferenceIdeal.nD Cert.HgrnInDx1ReferenceIdeal.τ).loc Cert.HgrnInDx1ReferenceIdeal.main_arg0)
      ∧ r.2.mem ((c.tc : Thread Cert.HgrnInDx1ReferenceIdeal.nD Cert.HgrnInDx1ReferenceIdeal.τ).loc Cert.HgrnInDx1ReferenceIdeal.main_arg1) = m ((c.tc : Thread Cert.HgrnInDx1ReferenceIdeal.nD Cert.HgrnInDx1ReferenceIdeal.τ).loc Cert.HgrnInDx1ReferenceIdeal.main_arg1)
      ∧ r.2.mem ((c.tc : Thread Cert.HgrnInDx1ReferenceIdeal.nD Cert.HgrnInDx1ReferenceIdeal.τ).loc Cert.HgrnInDx1ReferenceIdeal.main_arg2) = m ((c.tc : Thread Cert.HgrnInDx1ReferenceIdeal.nD Cert.HgrnInDx1ReferenceIdeal.τ).loc Cert.HgrnInDx1ReferenceIdeal.main_arg2)
      ∧ r.2.mem ((c.tc : Thread Cert.HgrnInDx1ReferenceIdeal.nD Cert.HgrnInDx1ReferenceIdeal.τ).loc Cert.HgrnInDx1ReferenceIdeal.main_arg3) = m ((c.tc : Thread Cert.HgrnInDx1ReferenceIdeal.nD Cert.HgrnInDx1ReferenceIdeal.τ).loc Cert.HgrnInDx1ReferenceIdeal.main_arg3)
      ∧ r.2.mem ((c.tc : Thread Cert.HgrnInDx1ReferenceIdeal.nD Cert.HgrnInDx1ReferenceIdeal.τ).loc Cert.HgrnInDx1ReferenceIdeal.main_arg4) = m ((c.tc : Thread Cert.HgrnInDx1ReferenceIdeal.nD Cert.HgrnInDx1ReferenceIdeal.τ).loc Cert.HgrnInDx1ReferenceIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2))
      ∧ r.2.sem = fun _ => 0)

def quiescent_AdamAttnIn [hAdamAttnIn : Cert.AdamAttnIn.Facts] : Prop :=
  ∀ (m : (ℓ : Loc Cert.AdamAttnIn.nD Cert.AdamAttnIn.τ Cert.AdamAttnIn.sig) → Buf (Elt Bits) ℓ) (g : Dev Cert.AdamAttnIn.nD → PrngReg), Pre_AdamAttnIn m →
    θ_run (Cert.AdamAttnIn.defs (F := Bits)) (onTc (τ := Cert.AdamAttnIn.τ) (Cert.AdamAttnIn.main (F := Bits))) ⟨m, fun _ => 0, g⟩ (fun r => (∀ c : Dev Cert.AdamAttnIn.nD,
      r.2.mem ((c.tc : Thread Cert.AdamAttnIn.nD Cert.AdamAttnIn.τ).loc Cert.AdamAttnIn.main_arg0) = m ((c.tc : Thread Cert.AdamAttnIn.nD Cert.AdamAttnIn.τ).loc Cert.AdamAttnIn.main_arg0)
      ∧ r.2.mem ((c.tc : Thread Cert.AdamAttnIn.nD Cert.AdamAttnIn.τ).loc Cert.AdamAttnIn.main_arg1) = m ((c.tc : Thread Cert.AdamAttnIn.nD Cert.AdamAttnIn.τ).loc Cert.AdamAttnIn.main_arg1)
      ∧ r.2.mem ((c.tc : Thread Cert.AdamAttnIn.nD Cert.AdamAttnIn.τ).loc Cert.AdamAttnIn.main_arg2) = m ((c.tc : Thread Cert.AdamAttnIn.nD Cert.AdamAttnIn.τ).loc Cert.AdamAttnIn.main_arg2)
      ∧ r.2.mem ((c.tc : Thread Cert.AdamAttnIn.nD Cert.AdamAttnIn.τ).loc Cert.AdamAttnIn.main_arg3) = m ((c.tc : Thread Cert.AdamAttnIn.nD Cert.AdamAttnIn.τ).loc Cert.AdamAttnIn.main_arg3))
      ∧ r.2.sem = fun _ => 0)

def quiescent_AdamAttnInIdeal [hAdamAttnInIdeal : Cert.AdamAttnInIdeal.Facts] : Prop :=
  ∀ (m : (ℓ : Loc Cert.AdamAttnInIdeal.nD Cert.AdamAttnInIdeal.τ Cert.AdamAttnInIdeal.sig) → Buf (Elt Ideal) ℓ) (g : Dev Cert.AdamAttnInIdeal.nD → PrngReg), Pre_AdamAttnInIdeal m →
    θ_run (Cert.AdamAttnInIdeal.defs (F := Ideal)) (onTc (τ := Cert.AdamAttnInIdeal.τ) (Cert.AdamAttnInIdeal.main (F := Ideal))) ⟨m, fun _ => 0, g⟩ (fun r => (∀ c : Dev Cert.AdamAttnInIdeal.nD,
      r.2.mem ((c.tc : Thread Cert.AdamAttnInIdeal.nD Cert.AdamAttnInIdeal.τ).loc Cert.AdamAttnInIdeal.main_arg0) = m ((c.tc : Thread Cert.AdamAttnInIdeal.nD Cert.AdamAttnInIdeal.τ).loc Cert.AdamAttnInIdeal.main_arg0)
      ∧ r.2.mem ((c.tc : Thread Cert.AdamAttnInIdeal.nD Cert.AdamAttnInIdeal.τ).loc Cert.AdamAttnInIdeal.main_arg1) = m ((c.tc : Thread Cert.AdamAttnInIdeal.nD Cert.AdamAttnInIdeal.τ).loc Cert.AdamAttnInIdeal.main_arg1)
      ∧ r.2.mem ((c.tc : Thread Cert.AdamAttnInIdeal.nD Cert.AdamAttnInIdeal.τ).loc Cert.AdamAttnInIdeal.main_arg2) = m ((c.tc : Thread Cert.AdamAttnInIdeal.nD Cert.AdamAttnInIdeal.τ).loc Cert.AdamAttnInIdeal.main_arg2)
      ∧ r.2.mem ((c.tc : Thread Cert.AdamAttnInIdeal.nD Cert.AdamAttnInIdeal.τ).loc Cert.AdamAttnInIdeal.main_arg3) = m ((c.tc : Thread Cert.AdamAttnInIdeal.nD Cert.AdamAttnInIdeal.τ).loc Cert.AdamAttnInIdeal.main_arg3))
      ∧ r.2.sem = fun _ => 0)

def quiescent_AdamAttnInReferenceIdeal [hAdamAttnInReferenceIdeal : Cert.AdamAttnInReferenceIdeal.Facts] : Prop :=
  ∀ (m : (ℓ : Loc Cert.AdamAttnInReferenceIdeal.nD Cert.AdamAttnInReferenceIdeal.τ Cert.AdamAttnInReferenceIdeal.sig) → Buf (Elt Ideal) ℓ) (g : Dev Cert.AdamAttnInReferenceIdeal.nD → PrngReg), Pre_AdamAttnInReferenceIdeal m →
    θ_run (Cert.AdamAttnInReferenceIdeal.defs (F := Ideal)) (onTc (τ := Cert.AdamAttnInReferenceIdeal.τ) (Cert.AdamAttnInReferenceIdeal.main (F := Ideal))) ⟨m, fun _ => 0, g⟩ (fun r => (∀ c : Dev Cert.AdamAttnInReferenceIdeal.nD,
      r.2.mem ((c.tc : Thread Cert.AdamAttnInReferenceIdeal.nD Cert.AdamAttnInReferenceIdeal.τ).loc Cert.AdamAttnInReferenceIdeal.main_arg0) = m ((c.tc : Thread Cert.AdamAttnInReferenceIdeal.nD Cert.AdamAttnInReferenceIdeal.τ).loc Cert.AdamAttnInReferenceIdeal.main_arg0)
      ∧ r.2.mem ((c.tc : Thread Cert.AdamAttnInReferenceIdeal.nD Cert.AdamAttnInReferenceIdeal.τ).loc Cert.AdamAttnInReferenceIdeal.main_arg1) = m ((c.tc : Thread Cert.AdamAttnInReferenceIdeal.nD Cert.AdamAttnInReferenceIdeal.τ).loc Cert.AdamAttnInReferenceIdeal.main_arg1)
      ∧ r.2.mem ((c.tc : Thread Cert.AdamAttnInReferenceIdeal.nD Cert.AdamAttnInReferenceIdeal.τ).loc Cert.AdamAttnInReferenceIdeal.main_arg2) = m ((c.tc : Thread Cert.AdamAttnInReferenceIdeal.nD Cert.AdamAttnInReferenceIdeal.τ).loc Cert.AdamAttnInReferenceIdeal.main_arg2)
      ∧ r.2.mem ((c.tc : Thread Cert.AdamAttnInReferenceIdeal.nD Cert.AdamAttnInReferenceIdeal.τ).loc Cert.AdamAttnInReferenceIdeal.main_arg3) = m ((c.tc : Thread Cert.AdamAttnInReferenceIdeal.nD Cert.AdamAttnInReferenceIdeal.τ).loc Cert.AdamAttnInReferenceIdeal.main_arg3))
      ∧ r.2.sem = fun _ => 0)

def quiescent_AdamHgrnIn [hAdamHgrnIn : Cert.AdamHgrnIn.Facts] : Prop :=
  ∀ (m : (ℓ : Loc Cert.AdamHgrnIn.nD Cert.AdamHgrnIn.τ Cert.AdamHgrnIn.sig) → Buf (Elt Bits) ℓ) (g : Dev Cert.AdamHgrnIn.nD → PrngReg), Pre_AdamHgrnIn m →
    θ_run (Cert.AdamHgrnIn.defs (F := Bits)) (onTc (τ := Cert.AdamHgrnIn.τ) (Cert.AdamHgrnIn.main (F := Bits))) ⟨m, fun _ => 0, g⟩ (fun r => (∀ c : Dev Cert.AdamHgrnIn.nD,
      r.2.mem ((c.tc : Thread Cert.AdamHgrnIn.nD Cert.AdamHgrnIn.τ).loc Cert.AdamHgrnIn.main_arg0) = m ((c.tc : Thread Cert.AdamHgrnIn.nD Cert.AdamHgrnIn.τ).loc Cert.AdamHgrnIn.main_arg0)
      ∧ r.2.mem ((c.tc : Thread Cert.AdamHgrnIn.nD Cert.AdamHgrnIn.τ).loc Cert.AdamHgrnIn.main_arg1) = m ((c.tc : Thread Cert.AdamHgrnIn.nD Cert.AdamHgrnIn.τ).loc Cert.AdamHgrnIn.main_arg1)
      ∧ r.2.mem ((c.tc : Thread Cert.AdamHgrnIn.nD Cert.AdamHgrnIn.τ).loc Cert.AdamHgrnIn.main_arg2) = m ((c.tc : Thread Cert.AdamHgrnIn.nD Cert.AdamHgrnIn.τ).loc Cert.AdamHgrnIn.main_arg2)
      ∧ r.2.mem ((c.tc : Thread Cert.AdamHgrnIn.nD Cert.AdamHgrnIn.τ).loc Cert.AdamHgrnIn.main_arg3) = m ((c.tc : Thread Cert.AdamHgrnIn.nD Cert.AdamHgrnIn.τ).loc Cert.AdamHgrnIn.main_arg3))
      ∧ r.2.sem = fun _ => 0)

def quiescent_AdamHgrnInIdeal [hAdamHgrnInIdeal : Cert.AdamHgrnInIdeal.Facts] : Prop :=
  ∀ (m : (ℓ : Loc Cert.AdamHgrnInIdeal.nD Cert.AdamHgrnInIdeal.τ Cert.AdamHgrnInIdeal.sig) → Buf (Elt Ideal) ℓ) (g : Dev Cert.AdamHgrnInIdeal.nD → PrngReg), Pre_AdamHgrnInIdeal m →
    θ_run (Cert.AdamHgrnInIdeal.defs (F := Ideal)) (onTc (τ := Cert.AdamHgrnInIdeal.τ) (Cert.AdamHgrnInIdeal.main (F := Ideal))) ⟨m, fun _ => 0, g⟩ (fun r => (∀ c : Dev Cert.AdamHgrnInIdeal.nD,
      r.2.mem ((c.tc : Thread Cert.AdamHgrnInIdeal.nD Cert.AdamHgrnInIdeal.τ).loc Cert.AdamHgrnInIdeal.main_arg0) = m ((c.tc : Thread Cert.AdamHgrnInIdeal.nD Cert.AdamHgrnInIdeal.τ).loc Cert.AdamHgrnInIdeal.main_arg0)
      ∧ r.2.mem ((c.tc : Thread Cert.AdamHgrnInIdeal.nD Cert.AdamHgrnInIdeal.τ).loc Cert.AdamHgrnInIdeal.main_arg1) = m ((c.tc : Thread Cert.AdamHgrnInIdeal.nD Cert.AdamHgrnInIdeal.τ).loc Cert.AdamHgrnInIdeal.main_arg1)
      ∧ r.2.mem ((c.tc : Thread Cert.AdamHgrnInIdeal.nD Cert.AdamHgrnInIdeal.τ).loc Cert.AdamHgrnInIdeal.main_arg2) = m ((c.tc : Thread Cert.AdamHgrnInIdeal.nD Cert.AdamHgrnInIdeal.τ).loc Cert.AdamHgrnInIdeal.main_arg2)
      ∧ r.2.mem ((c.tc : Thread Cert.AdamHgrnInIdeal.nD Cert.AdamHgrnInIdeal.τ).loc Cert.AdamHgrnInIdeal.main_arg3) = m ((c.tc : Thread Cert.AdamHgrnInIdeal.nD Cert.AdamHgrnInIdeal.τ).loc Cert.AdamHgrnInIdeal.main_arg3))
      ∧ r.2.sem = fun _ => 0)

def quiescent_AdamHgrnInReferenceIdeal [hAdamHgrnInReferenceIdeal : Cert.AdamHgrnInReferenceIdeal.Facts] : Prop :=
  ∀ (m : (ℓ : Loc Cert.AdamHgrnInReferenceIdeal.nD Cert.AdamHgrnInReferenceIdeal.τ Cert.AdamHgrnInReferenceIdeal.sig) → Buf (Elt Ideal) ℓ) (g : Dev Cert.AdamHgrnInReferenceIdeal.nD → PrngReg), Pre_AdamHgrnInReferenceIdeal m →
    θ_run (Cert.AdamHgrnInReferenceIdeal.defs (F := Ideal)) (onTc (τ := Cert.AdamHgrnInReferenceIdeal.τ) (Cert.AdamHgrnInReferenceIdeal.main (F := Ideal))) ⟨m, fun _ => 0, g⟩ (fun r => (∀ c : Dev Cert.AdamHgrnInReferenceIdeal.nD,
      r.2.mem ((c.tc : Thread Cert.AdamHgrnInReferenceIdeal.nD Cert.AdamHgrnInReferenceIdeal.τ).loc Cert.AdamHgrnInReferenceIdeal.main_arg0) = m ((c.tc : Thread Cert.AdamHgrnInReferenceIdeal.nD Cert.AdamHgrnInReferenceIdeal.τ).loc Cert.AdamHgrnInReferenceIdeal.main_arg0)
      ∧ r.2.mem ((c.tc : Thread Cert.AdamHgrnInReferenceIdeal.nD Cert.AdamHgrnInReferenceIdeal.τ).loc Cert.AdamHgrnInReferenceIdeal.main_arg1) = m ((c.tc : Thread Cert.AdamHgrnInReferenceIdeal.nD Cert.AdamHgrnInReferenceIdeal.τ).loc Cert.AdamHgrnInReferenceIdeal.main_arg1)
      ∧ r.2.mem ((c.tc : Thread Cert.AdamHgrnInReferenceIdeal.nD Cert.AdamHgrnInReferenceIdeal.τ).loc Cert.AdamHgrnInReferenceIdeal.main_arg2) = m ((c.tc : Thread Cert.AdamHgrnInReferenceIdeal.nD Cert.AdamHgrnInReferenceIdeal.τ).loc Cert.AdamHgrnInReferenceIdeal.main_arg2)
      ∧ r.2.mem ((c.tc : Thread Cert.AdamHgrnInReferenceIdeal.nD Cert.AdamHgrnInReferenceIdeal.τ).loc Cert.AdamHgrnInReferenceIdeal.main_arg3) = m ((c.tc : Thread Cert.AdamHgrnInReferenceIdeal.nD Cert.AdamHgrnInReferenceIdeal.τ).loc Cert.AdamHgrnInReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_UpFwd0_UpFwd0Ideal : Prop :=
  True

def algebraic_UpFwd0Ideal_UpFwd0ReferenceIdeal [hUpFwd0Ideal : Cert.UpFwd0Ideal.Facts] [hUpFwd0ReferenceIdeal : Cert.UpFwd0ReferenceIdeal.Facts] : Prop :=
  ∀ (m : (ℓ : Loc Cert.UpFwd0Ideal.nD Cert.UpFwd0Ideal.τ Cert.UpFwd0Ideal.sig) → Buf (Elt Ideal) ℓ) (g : Dev Cert.UpFwd0Ideal.nD → PrngReg)
    (m' : (ℓ : Loc Cert.UpFwd0ReferenceIdeal.nD Cert.UpFwd0ReferenceIdeal.τ Cert.UpFwd0ReferenceIdeal.sig) → Buf (Elt Ideal) ℓ) (g' : Dev Cert.UpFwd0ReferenceIdeal.nD → PrngReg), Pre_UpFwd0Ideal m →
    (∀ c : Dev Cert.UpFwd0Ideal.nD,
      m' ((c.tc : Thread Cert.UpFwd0ReferenceIdeal.nD Cert.UpFwd0ReferenceIdeal.τ).loc Cert.UpFwd0ReferenceIdeal.main_arg0) = m ((c.tc : Thread Cert.UpFwd0Ideal.nD Cert.UpFwd0Ideal.τ).loc Cert.UpFwd0Ideal.main_arg0)
      ∧ m' ((c.tc : Thread Cert.UpFwd0ReferenceIdeal.nD Cert.UpFwd0ReferenceIdeal.τ).loc Cert.UpFwd0ReferenceIdeal.main_arg1) = m ((c.tc : Thread Cert.UpFwd0Ideal.nD Cert.UpFwd0Ideal.τ).loc Cert.UpFwd0Ideal.main_arg1)) →
    ∃ (v0 : (c : Dev Cert.UpFwd0Ideal.nD) → Buf (Elt Ideal) ((c.tc : Thread Cert.UpFwd0Ideal.nD Cert.UpFwd0Ideal.τ).loc Cert.UpFwd0Ideal.main_v0)),
      θ_run (Cert.UpFwd0Ideal.defs (F := Ideal)) (onTc (τ := Cert.UpFwd0Ideal.τ) (Cert.UpFwd0Ideal.main (F := Ideal))) ⟨m, fun _ => 0, g⟩ (fun r => ∀ c : Dev Cert.UpFwd0Ideal.nD,
          r.2.mem ((c.tc : Thread Cert.UpFwd0Ideal.nD Cert.UpFwd0Ideal.τ).loc Cert.UpFwd0Ideal.main_v0) = v0 c
          ∧ r.2.mem ((c.tc : Thread Cert.UpFwd0Ideal.nD Cert.UpFwd0Ideal.τ).loc Cert.UpFwd0Ideal.main_arg0) = m ((c.tc : Thread Cert.UpFwd0Ideal.nD Cert.UpFwd0Ideal.τ).loc Cert.UpFwd0Ideal.main_arg0)
          ∧ r.2.mem ((c.tc : Thread Cert.UpFwd0Ideal.nD Cert.UpFwd0Ideal.τ).loc Cert.UpFwd0Ideal.main_arg1) = m ((c.tc : Thread Cert.UpFwd0Ideal.nD Cert.UpFwd0Ideal.τ).loc Cert.UpFwd0Ideal.main_arg1))
      ∧ θ_run (Cert.UpFwd0ReferenceIdeal.defs (F := Ideal)) (onTc (τ := Cert.UpFwd0ReferenceIdeal.τ) (Cert.UpFwd0ReferenceIdeal.main (F := Ideal))) ⟨m', fun _ => 0, g'⟩ (fun r => ∀ c : Dev Cert.UpFwd0ReferenceIdeal.nD,
          r.2.mem ((c.tc : Thread Cert.UpFwd0ReferenceIdeal.nD Cert.UpFwd0ReferenceIdeal.τ).loc Cert.UpFwd0ReferenceIdeal.main_v7) = v0 c
          ∧ r.2.mem ((c.tc : Thread Cert.UpFwd0ReferenceIdeal.nD Cert.UpFwd0ReferenceIdeal.τ).loc Cert.UpFwd0ReferenceIdeal.main_arg0) = m' ((c.tc : Thread Cert.UpFwd0ReferenceIdeal.nD Cert.UpFwd0ReferenceIdeal.τ).loc Cert.UpFwd0ReferenceIdeal.main_arg0)
          ∧ r.2.mem ((c.tc : Thread Cert.UpFwd0ReferenceIdeal.nD Cert.UpFwd0ReferenceIdeal.τ).loc Cert.UpFwd0ReferenceIdeal.main_arg1) = m' ((c.tc : Thread Cert.UpFwd0ReferenceIdeal.nD Cert.UpFwd0ReferenceIdeal.τ).loc Cert.UpFwd0ReferenceIdeal.main_arg1))

def preserves_UpFwd1_UpFwd1Ideal : Prop :=
  True

def algebraic_UpFwd1Ideal_UpFwd1ReferenceIdeal [hUpFwd1Ideal : Cert.UpFwd1Ideal.Facts] [hUpFwd1ReferenceIdeal : Cert.UpFwd1ReferenceIdeal.Facts] : Prop :=
  ∀ (m : (ℓ : Loc Cert.UpFwd1Ideal.nD Cert.UpFwd1Ideal.τ Cert.UpFwd1Ideal.sig) → Buf (Elt Ideal) ℓ) (g : Dev Cert.UpFwd1Ideal.nD → PrngReg)
    (m' : (ℓ : Loc Cert.UpFwd1ReferenceIdeal.nD Cert.UpFwd1ReferenceIdeal.τ Cert.UpFwd1ReferenceIdeal.sig) → Buf (Elt Ideal) ℓ) (g' : Dev Cert.UpFwd1ReferenceIdeal.nD → PrngReg), Pre_UpFwd1Ideal m →
    (∀ c : Dev Cert.UpFwd1Ideal.nD,
      m' ((c.tc : Thread Cert.UpFwd1ReferenceIdeal.nD Cert.UpFwd1ReferenceIdeal.τ).loc Cert.UpFwd1ReferenceIdeal.main_arg0) = m ((c.tc : Thread Cert.UpFwd1Ideal.nD Cert.UpFwd1Ideal.τ).loc Cert.UpFwd1Ideal.main_arg0)
      ∧ m' ((c.tc : Thread Cert.UpFwd1ReferenceIdeal.nD Cert.UpFwd1ReferenceIdeal.τ).loc Cert.UpFwd1ReferenceIdeal.main_arg1) = m ((c.tc : Thread Cert.UpFwd1Ideal.nD Cert.UpFwd1Ideal.τ).loc Cert.UpFwd1Ideal.main_arg1)) →
    ∃ (v0 : (c : Dev Cert.UpFwd1Ideal.nD) → Buf (Elt Ideal) ((c.tc : Thread Cert.UpFwd1Ideal.nD Cert.UpFwd1Ideal.τ).loc Cert.UpFwd1Ideal.main_v0)),
      θ_run (Cert.UpFwd1Ideal.defs (F := Ideal)) (onTc (τ := Cert.UpFwd1Ideal.τ) (Cert.UpFwd1Ideal.main (F := Ideal))) ⟨m, fun _ => 0, g⟩ (fun r => ∀ c : Dev Cert.UpFwd1Ideal.nD,
          r.2.mem ((c.tc : Thread Cert.UpFwd1Ideal.nD Cert.UpFwd1Ideal.τ).loc Cert.UpFwd1Ideal.main_v0) = v0 c
          ∧ r.2.mem ((c.tc : Thread Cert.UpFwd1Ideal.nD Cert.UpFwd1Ideal.τ).loc Cert.UpFwd1Ideal.main_arg0) = m ((c.tc : Thread Cert.UpFwd1Ideal.nD Cert.UpFwd1Ideal.τ).loc Cert.UpFwd1Ideal.main_arg0)
          ∧ r.2.mem ((c.tc : Thread Cert.UpFwd1Ideal.nD Cert.UpFwd1Ideal.τ).loc Cert.UpFwd1Ideal.main_arg1) = m ((c.tc : Thread Cert.UpFwd1Ideal.nD Cert.UpFwd1Ideal.τ).loc Cert.UpFwd1Ideal.main_arg1))
      ∧ θ_run (Cert.UpFwd1ReferenceIdeal.defs (F := Ideal)) (onTc (τ := Cert.UpFwd1ReferenceIdeal.τ) (Cert.UpFwd1ReferenceIdeal.main (F := Ideal))) ⟨m', fun _ => 0, g'⟩ (fun r => ∀ c : Dev Cert.UpFwd1ReferenceIdeal.nD,
          r.2.mem ((c.tc : Thread Cert.UpFwd1ReferenceIdeal.nD Cert.UpFwd1ReferenceIdeal.τ).loc Cert.UpFwd1ReferenceIdeal.main_v7) = v0 c
          ∧ r.2.mem ((c.tc : Thread Cert.UpFwd1ReferenceIdeal.nD Cert.UpFwd1ReferenceIdeal.τ).loc Cert.UpFwd1ReferenceIdeal.main_arg0) = m' ((c.tc : Thread Cert.UpFwd1ReferenceIdeal.nD Cert.UpFwd1ReferenceIdeal.τ).loc Cert.UpFwd1ReferenceIdeal.main_arg0)
          ∧ r.2.mem ((c.tc : Thread Cert.UpFwd1ReferenceIdeal.nD Cert.UpFwd1ReferenceIdeal.τ).loc Cert.UpFwd1ReferenceIdeal.main_arg1) = m' ((c.tc : Thread Cert.UpFwd1ReferenceIdeal.nD Cert.UpFwd1ReferenceIdeal.τ).loc Cert.UpFwd1ReferenceIdeal.main_arg1))

def preserves_UpFwd2_UpFwd2Ideal : Prop :=
  True

def algebraic_UpFwd2Ideal_UpFwd2ReferenceIdeal [hUpFwd2Ideal : Cert.UpFwd2Ideal.Facts] [hUpFwd2ReferenceIdeal : Cert.UpFwd2ReferenceIdeal.Facts] : Prop :=
  ∀ (m : (ℓ : Loc Cert.UpFwd2Ideal.nD Cert.UpFwd2Ideal.τ Cert.UpFwd2Ideal.sig) → Buf (Elt Ideal) ℓ) (g : Dev Cert.UpFwd2Ideal.nD → PrngReg)
    (m' : (ℓ : Loc Cert.UpFwd2ReferenceIdeal.nD Cert.UpFwd2ReferenceIdeal.τ Cert.UpFwd2ReferenceIdeal.sig) → Buf (Elt Ideal) ℓ) (g' : Dev Cert.UpFwd2ReferenceIdeal.nD → PrngReg), Pre_UpFwd2Ideal m →
    (∀ c : Dev Cert.UpFwd2Ideal.nD,
      m' ((c.tc : Thread Cert.UpFwd2ReferenceIdeal.nD Cert.UpFwd2ReferenceIdeal.τ).loc Cert.UpFwd2ReferenceIdeal.main_arg0) = m ((c.tc : Thread Cert.UpFwd2Ideal.nD Cert.UpFwd2Ideal.τ).loc Cert.UpFwd2Ideal.main_arg0)
      ∧ m' ((c.tc : Thread Cert.UpFwd2ReferenceIdeal.nD Cert.UpFwd2ReferenceIdeal.τ).loc Cert.UpFwd2ReferenceIdeal.main_arg1) = m ((c.tc : Thread Cert.UpFwd2Ideal.nD Cert.UpFwd2Ideal.τ).loc Cert.UpFwd2Ideal.main_arg1)) →
    ∃ (v0 : (c : Dev Cert.UpFwd2Ideal.nD) → Buf (Elt Ideal) ((c.tc : Thread Cert.UpFwd2Ideal.nD Cert.UpFwd2Ideal.τ).loc Cert.UpFwd2Ideal.main_v0)),
      θ_run (Cert.UpFwd2Ideal.defs (F := Ideal)) (onTc (τ := Cert.UpFwd2Ideal.τ) (Cert.UpFwd2Ideal.main (F := Ideal))) ⟨m, fun _ => 0, g⟩ (fun r => ∀ c : Dev Cert.UpFwd2Ideal.nD,
          r.2.mem ((c.tc : Thread Cert.UpFwd2Ideal.nD Cert.UpFwd2Ideal.τ).loc Cert.UpFwd2Ideal.main_v0) = v0 c
          ∧ r.2.mem ((c.tc : Thread Cert.UpFwd2Ideal.nD Cert.UpFwd2Ideal.τ).loc Cert.UpFwd2Ideal.main_arg0) = m ((c.tc : Thread Cert.UpFwd2Ideal.nD Cert.UpFwd2Ideal.τ).loc Cert.UpFwd2Ideal.main_arg0)
          ∧ r.2.mem ((c.tc : Thread Cert.UpFwd2Ideal.nD Cert.UpFwd2Ideal.τ).loc Cert.UpFwd2Ideal.main_arg1) = m ((c.tc : Thread Cert.UpFwd2Ideal.nD Cert.UpFwd2Ideal.τ).loc Cert.UpFwd2Ideal.main_arg1))
      ∧ θ_run (Cert.UpFwd2ReferenceIdeal.defs (F := Ideal)) (onTc (τ := Cert.UpFwd2ReferenceIdeal.τ) (Cert.UpFwd2ReferenceIdeal.main (F := Ideal))) ⟨m', fun _ => 0, g'⟩ (fun r => ∀ c : Dev Cert.UpFwd2ReferenceIdeal.nD,
          r.2.mem ((c.tc : Thread Cert.UpFwd2ReferenceIdeal.nD Cert.UpFwd2ReferenceIdeal.τ).loc Cert.UpFwd2ReferenceIdeal.main_v7) = v0 c
          ∧ r.2.mem ((c.tc : Thread Cert.UpFwd2ReferenceIdeal.nD Cert.UpFwd2ReferenceIdeal.τ).loc Cert.UpFwd2ReferenceIdeal.main_arg0) = m' ((c.tc : Thread Cert.UpFwd2ReferenceIdeal.nD Cert.UpFwd2ReferenceIdeal.τ).loc Cert.UpFwd2ReferenceIdeal.main_arg0)
          ∧ r.2.mem ((c.tc : Thread Cert.UpFwd2ReferenceIdeal.nD Cert.UpFwd2ReferenceIdeal.τ).loc Cert.UpFwd2ReferenceIdeal.main_arg1) = m' ((c.tc : Thread Cert.UpFwd2ReferenceIdeal.nD Cert.UpFwd2ReferenceIdeal.τ).loc Cert.UpFwd2ReferenceIdeal.main_arg1))

def preserves_UpFwd3_UpFwd3Ideal : Prop :=
  True

def algebraic_UpFwd3Ideal_UpFwd3ReferenceIdeal [hUpFwd3Ideal : Cert.UpFwd3Ideal.Facts] [hUpFwd3ReferenceIdeal : Cert.UpFwd3ReferenceIdeal.Facts] : Prop :=
  ∀ (m : (ℓ : Loc Cert.UpFwd3Ideal.nD Cert.UpFwd3Ideal.τ Cert.UpFwd3Ideal.sig) → Buf (Elt Ideal) ℓ) (g : Dev Cert.UpFwd3Ideal.nD → PrngReg)
    (m' : (ℓ : Loc Cert.UpFwd3ReferenceIdeal.nD Cert.UpFwd3ReferenceIdeal.τ Cert.UpFwd3ReferenceIdeal.sig) → Buf (Elt Ideal) ℓ) (g' : Dev Cert.UpFwd3ReferenceIdeal.nD → PrngReg), Pre_UpFwd3Ideal m →
    (∀ c : Dev Cert.UpFwd3Ideal.nD,
      m' ((c.tc : Thread Cert.UpFwd3ReferenceIdeal.nD Cert.UpFwd3ReferenceIdeal.τ).loc Cert.UpFwd3ReferenceIdeal.main_arg0) = m ((c.tc : Thread Cert.UpFwd3Ideal.nD Cert.UpFwd3Ideal.τ).loc Cert.UpFwd3Ideal.main_arg0)
      ∧ m' ((c.tc : Thread Cert.UpFwd3ReferenceIdeal.nD Cert.UpFwd3ReferenceIdeal.τ).loc Cert.UpFwd3ReferenceIdeal.main_arg1) = m ((c.tc : Thread Cert.UpFwd3Ideal.nD Cert.UpFwd3Ideal.τ).loc Cert.UpFwd3Ideal.main_arg1)) →
    ∃ (v0 : (c : Dev Cert.UpFwd3Ideal.nD) → Buf (Elt Ideal) ((c.tc : Thread Cert.UpFwd3Ideal.nD Cert.UpFwd3Ideal.τ).loc Cert.UpFwd3Ideal.main_v0)),
      θ_run (Cert.UpFwd3Ideal.defs (F := Ideal)) (onTc (τ := Cert.UpFwd3Ideal.τ) (Cert.UpFwd3Ideal.main (F := Ideal))) ⟨m, fun _ => 0, g⟩ (fun r => ∀ c : Dev Cert.UpFwd3Ideal.nD,
          r.2.mem ((c.tc : Thread Cert.UpFwd3Ideal.nD Cert.UpFwd3Ideal.τ).loc Cert.UpFwd3Ideal.main_v0) = v0 c
          ∧ r.2.mem ((c.tc : Thread Cert.UpFwd3Ideal.nD Cert.UpFwd3Ideal.τ).loc Cert.UpFwd3Ideal.main_arg0) = m ((c.tc : Thread Cert.UpFwd3Ideal.nD Cert.UpFwd3Ideal.τ).loc Cert.UpFwd3Ideal.main_arg0)
          ∧ r.2.mem ((c.tc : Thread Cert.UpFwd3Ideal.nD Cert.UpFwd3Ideal.τ).loc Cert.UpFwd3Ideal.main_arg1) = m ((c.tc : Thread Cert.UpFwd3Ideal.nD Cert.UpFwd3Ideal.τ).loc Cert.UpFwd3Ideal.main_arg1))
      ∧ θ_run (Cert.UpFwd3ReferenceIdeal.defs (F := Ideal)) (onTc (τ := Cert.UpFwd3ReferenceIdeal.τ) (Cert.UpFwd3ReferenceIdeal.main (F := Ideal))) ⟨m', fun _ => 0, g'⟩ (fun r => ∀ c : Dev Cert.UpFwd3ReferenceIdeal.nD,
          r.2.mem ((c.tc : Thread Cert.UpFwd3ReferenceIdeal.nD Cert.UpFwd3ReferenceIdeal.τ).loc Cert.UpFwd3ReferenceIdeal.main_v7) = v0 c
          ∧ r.2.mem ((c.tc : Thread Cert.UpFwd3ReferenceIdeal.nD Cert.UpFwd3ReferenceIdeal.τ).loc Cert.UpFwd3ReferenceIdeal.main_arg0) = m' ((c.tc : Thread Cert.UpFwd3ReferenceIdeal.nD Cert.UpFwd3ReferenceIdeal.τ).loc Cert.UpFwd3ReferenceIdeal.main_arg0)
          ∧ r.2.mem ((c.tc : Thread Cert.UpFwd3ReferenceIdeal.nD Cert.UpFwd3ReferenceIdeal.τ).loc Cert.UpFwd3ReferenceIdeal.main_arg1) = m' ((c.tc : Thread Cert.UpFwd3ReferenceIdeal.nD Cert.UpFwd3ReferenceIdeal.τ).loc Cert.UpFwd3ReferenceIdeal.main_arg1))

def preserves_DownFwd0_DownFwd0Ideal : Prop :=
  True

def algebraic_DownFwd0Ideal_DownFwd0ReferenceIdeal [hDownFwd0Ideal : Cert.DownFwd0Ideal.Facts] [hDownFwd0ReferenceIdeal : Cert.DownFwd0ReferenceIdeal.Facts] : Prop :=
  ∀ (m : (ℓ : Loc Cert.DownFwd0Ideal.nD Cert.DownFwd0Ideal.τ Cert.DownFwd0Ideal.sig) → Buf (Elt Ideal) ℓ) (g : Dev Cert.DownFwd0Ideal.nD → PrngReg)
    (m' : (ℓ : Loc Cert.DownFwd0ReferenceIdeal.nD Cert.DownFwd0ReferenceIdeal.τ Cert.DownFwd0ReferenceIdeal.sig) → Buf (Elt Ideal) ℓ) (g' : Dev Cert.DownFwd0ReferenceIdeal.nD → PrngReg), Pre_DownFwd0Ideal m →
    (∀ c : Dev Cert.DownFwd0Ideal.nD,
      m' ((c.tc : Thread Cert.DownFwd0ReferenceIdeal.nD Cert.DownFwd0ReferenceIdeal.τ).loc Cert.DownFwd0ReferenceIdeal.main_arg0) = m ((c.tc : Thread Cert.DownFwd0Ideal.nD Cert.DownFwd0Ideal.τ).loc Cert.DownFwd0Ideal.main_arg0)
      ∧ m' ((c.tc : Thread Cert.DownFwd0ReferenceIdeal.nD Cert.DownFwd0ReferenceIdeal.τ).loc Cert.DownFwd0ReferenceIdeal.main_arg1) = m ((c.tc : Thread Cert.DownFwd0Ideal.nD Cert.DownFwd0Ideal.τ).loc Cert.DownFwd0Ideal.main_arg1)
      ∧ m' ((c.tc : Thread Cert.DownFwd0ReferenceIdeal.nD Cert.DownFwd0ReferenceIdeal.τ).loc Cert.DownFwd0ReferenceIdeal.main_arg2) = m ((c.tc : Thread Cert.DownFwd0Ideal.nD Cert.DownFwd0Ideal.τ).loc Cert.DownFwd0Ideal.main_arg2)) →
    ∃ (v0 : (c : Dev Cert.DownFwd0Ideal.nD) → Buf (Elt Ideal) ((c.tc : Thread Cert.DownFwd0Ideal.nD Cert.DownFwd0Ideal.τ).loc Cert.DownFwd0Ideal.main_v0)),
      θ_run (Cert.DownFwd0Ideal.defs (F := Ideal)) (onTc (τ := Cert.DownFwd0Ideal.τ) (Cert.DownFwd0Ideal.main (F := Ideal))) ⟨m, fun _ => 0, g⟩ (fun r => ∀ c : Dev Cert.DownFwd0Ideal.nD,
          r.2.mem ((c.tc : Thread Cert.DownFwd0Ideal.nD Cert.DownFwd0Ideal.τ).loc Cert.DownFwd0Ideal.main_v0) = v0 c
          ∧ r.2.mem ((c.tc : Thread Cert.DownFwd0Ideal.nD Cert.DownFwd0Ideal.τ).loc Cert.DownFwd0Ideal.main_arg0) = m ((c.tc : Thread Cert.DownFwd0Ideal.nD Cert.DownFwd0Ideal.τ).loc Cert.DownFwd0Ideal.main_arg0)
          ∧ r.2.mem ((c.tc : Thread Cert.DownFwd0Ideal.nD Cert.DownFwd0Ideal.τ).loc Cert.DownFwd0Ideal.main_arg1) = m ((c.tc : Thread Cert.DownFwd0Ideal.nD Cert.DownFwd0Ideal.τ).loc Cert.DownFwd0Ideal.main_arg1)
          ∧ r.2.mem ((c.tc : Thread Cert.DownFwd0Ideal.nD Cert.DownFwd0Ideal.τ).loc Cert.DownFwd0Ideal.main_arg2) = m ((c.tc : Thread Cert.DownFwd0Ideal.nD Cert.DownFwd0Ideal.τ).loc Cert.DownFwd0Ideal.main_arg2))
      ∧ θ_run (Cert.DownFwd0ReferenceIdeal.defs (F := Ideal)) (onTc (τ := Cert.DownFwd0ReferenceIdeal.τ) (Cert.DownFwd0ReferenceIdeal.main (F := Ideal))) ⟨m', fun _ => 0, g'⟩ (fun r => ∀ c : Dev Cert.DownFwd0ReferenceIdeal.nD,
          r.2.mem ((c.tc : Thread Cert.DownFwd0ReferenceIdeal.nD Cert.DownFwd0ReferenceIdeal.τ).loc Cert.DownFwd0ReferenceIdeal.main_v5) = v0 c
          ∧ r.2.mem ((c.tc : Thread Cert.DownFwd0ReferenceIdeal.nD Cert.DownFwd0ReferenceIdeal.τ).loc Cert.DownFwd0ReferenceIdeal.main_arg0) = m' ((c.tc : Thread Cert.DownFwd0ReferenceIdeal.nD Cert.DownFwd0ReferenceIdeal.τ).loc Cert.DownFwd0ReferenceIdeal.main_arg0)
          ∧ r.2.mem ((c.tc : Thread Cert.DownFwd0ReferenceIdeal.nD Cert.DownFwd0ReferenceIdeal.τ).loc Cert.DownFwd0ReferenceIdeal.main_arg1) = m' ((c.tc : Thread Cert.DownFwd0ReferenceIdeal.nD Cert.DownFwd0ReferenceIdeal.τ).loc Cert.DownFwd0ReferenceIdeal.main_arg1)
          ∧ r.2.mem ((c.tc : Thread Cert.DownFwd0ReferenceIdeal.nD Cert.DownFwd0ReferenceIdeal.τ).loc Cert.DownFwd0ReferenceIdeal.main_arg2) = m' ((c.tc : Thread Cert.DownFwd0ReferenceIdeal.nD Cert.DownFwd0ReferenceIdeal.τ).loc Cert.DownFwd0ReferenceIdeal.main_arg2))

def preserves_DownFwd1_DownFwd1Ideal : Prop :=
  True

def algebraic_DownFwd1Ideal_DownFwd1ReferenceIdeal [hDownFwd1Ideal : Cert.DownFwd1Ideal.Facts] [hDownFwd1ReferenceIdeal : Cert.DownFwd1ReferenceIdeal.Facts] : Prop :=
  ∀ (m : (ℓ : Loc Cert.DownFwd1Ideal.nD Cert.DownFwd1Ideal.τ Cert.DownFwd1Ideal.sig) → Buf (Elt Ideal) ℓ) (g : Dev Cert.DownFwd1Ideal.nD → PrngReg)
    (m' : (ℓ : Loc Cert.DownFwd1ReferenceIdeal.nD Cert.DownFwd1ReferenceIdeal.τ Cert.DownFwd1ReferenceIdeal.sig) → Buf (Elt Ideal) ℓ) (g' : Dev Cert.DownFwd1ReferenceIdeal.nD → PrngReg), Pre_DownFwd1Ideal m →
    (∀ c : Dev Cert.DownFwd1Ideal.nD,
      m' ((c.tc : Thread Cert.DownFwd1ReferenceIdeal.nD Cert.DownFwd1ReferenceIdeal.τ).loc Cert.DownFwd1ReferenceIdeal.main_arg0) = m ((c.tc : Thread Cert.DownFwd1Ideal.nD Cert.DownFwd1Ideal.τ).loc Cert.DownFwd1Ideal.main_arg0)
      ∧ m' ((c.tc : Thread Cert.DownFwd1ReferenceIdeal.nD Cert.DownFwd1ReferenceIdeal.τ).loc Cert.DownFwd1ReferenceIdeal.main_arg1) = m ((c.tc : Thread Cert.DownFwd1Ideal.nD Cert.DownFwd1Ideal.τ).loc Cert.DownFwd1Ideal.main_arg1)
      ∧ m' ((c.tc : Thread Cert.DownFwd1ReferenceIdeal.nD Cert.DownFwd1ReferenceIdeal.τ).loc Cert.DownFwd1ReferenceIdeal.main_arg2) = m ((c.tc : Thread Cert.DownFwd1Ideal.nD Cert.DownFwd1Ideal.τ).loc Cert.DownFwd1Ideal.main_arg2)) →
    ∃ (v0 : (c : Dev Cert.DownFwd1Ideal.nD) → Buf (Elt Ideal) ((c.tc : Thread Cert.DownFwd1Ideal.nD Cert.DownFwd1Ideal.τ).loc Cert.DownFwd1Ideal.main_v0)),
      θ_run (Cert.DownFwd1Ideal.defs (F := Ideal)) (onTc (τ := Cert.DownFwd1Ideal.τ) (Cert.DownFwd1Ideal.main (F := Ideal))) ⟨m, fun _ => 0, g⟩ (fun r => ∀ c : Dev Cert.DownFwd1Ideal.nD,
          r.2.mem ((c.tc : Thread Cert.DownFwd1Ideal.nD Cert.DownFwd1Ideal.τ).loc Cert.DownFwd1Ideal.main_v0) = v0 c
          ∧ r.2.mem ((c.tc : Thread Cert.DownFwd1Ideal.nD Cert.DownFwd1Ideal.τ).loc Cert.DownFwd1Ideal.main_arg0) = m ((c.tc : Thread Cert.DownFwd1Ideal.nD Cert.DownFwd1Ideal.τ).loc Cert.DownFwd1Ideal.main_arg0)
          ∧ r.2.mem ((c.tc : Thread Cert.DownFwd1Ideal.nD Cert.DownFwd1Ideal.τ).loc Cert.DownFwd1Ideal.main_arg1) = m ((c.tc : Thread Cert.DownFwd1Ideal.nD Cert.DownFwd1Ideal.τ).loc Cert.DownFwd1Ideal.main_arg1)
          ∧ r.2.mem ((c.tc : Thread Cert.DownFwd1Ideal.nD Cert.DownFwd1Ideal.τ).loc Cert.DownFwd1Ideal.main_arg2) = m ((c.tc : Thread Cert.DownFwd1Ideal.nD Cert.DownFwd1Ideal.τ).loc Cert.DownFwd1Ideal.main_arg2))
      ∧ θ_run (Cert.DownFwd1ReferenceIdeal.defs (F := Ideal)) (onTc (τ := Cert.DownFwd1ReferenceIdeal.τ) (Cert.DownFwd1ReferenceIdeal.main (F := Ideal))) ⟨m', fun _ => 0, g'⟩ (fun r => ∀ c : Dev Cert.DownFwd1ReferenceIdeal.nD,
          r.2.mem ((c.tc : Thread Cert.DownFwd1ReferenceIdeal.nD Cert.DownFwd1ReferenceIdeal.τ).loc Cert.DownFwd1ReferenceIdeal.main_v5) = v0 c
          ∧ r.2.mem ((c.tc : Thread Cert.DownFwd1ReferenceIdeal.nD Cert.DownFwd1ReferenceIdeal.τ).loc Cert.DownFwd1ReferenceIdeal.main_arg0) = m' ((c.tc : Thread Cert.DownFwd1ReferenceIdeal.nD Cert.DownFwd1ReferenceIdeal.τ).loc Cert.DownFwd1ReferenceIdeal.main_arg0)
          ∧ r.2.mem ((c.tc : Thread Cert.DownFwd1ReferenceIdeal.nD Cert.DownFwd1ReferenceIdeal.τ).loc Cert.DownFwd1ReferenceIdeal.main_arg1) = m' ((c.tc : Thread Cert.DownFwd1ReferenceIdeal.nD Cert.DownFwd1ReferenceIdeal.τ).loc Cert.DownFwd1ReferenceIdeal.main_arg1)
          ∧ r.2.mem ((c.tc : Thread Cert.DownFwd1ReferenceIdeal.nD Cert.DownFwd1ReferenceIdeal.τ).loc Cert.DownFwd1ReferenceIdeal.main_arg2) = m' ((c.tc : Thread Cert.DownFwd1ReferenceIdeal.nD Cert.DownFwd1ReferenceIdeal.τ).loc Cert.DownFwd1ReferenceIdeal.main_arg2))

def preserves_DownFwd2_DownFwd2Ideal : Prop :=
  True

def algebraic_DownFwd2Ideal_DownFwd2ReferenceIdeal [hDownFwd2Ideal : Cert.DownFwd2Ideal.Facts] [hDownFwd2ReferenceIdeal : Cert.DownFwd2ReferenceIdeal.Facts] : Prop :=
  ∀ (m : (ℓ : Loc Cert.DownFwd2Ideal.nD Cert.DownFwd2Ideal.τ Cert.DownFwd2Ideal.sig) → Buf (Elt Ideal) ℓ) (g : Dev Cert.DownFwd2Ideal.nD → PrngReg)
    (m' : (ℓ : Loc Cert.DownFwd2ReferenceIdeal.nD Cert.DownFwd2ReferenceIdeal.τ Cert.DownFwd2ReferenceIdeal.sig) → Buf (Elt Ideal) ℓ) (g' : Dev Cert.DownFwd2ReferenceIdeal.nD → PrngReg), Pre_DownFwd2Ideal m →
    (∀ c : Dev Cert.DownFwd2Ideal.nD,
      m' ((c.tc : Thread Cert.DownFwd2ReferenceIdeal.nD Cert.DownFwd2ReferenceIdeal.τ).loc Cert.DownFwd2ReferenceIdeal.main_arg0) = m ((c.tc : Thread Cert.DownFwd2Ideal.nD Cert.DownFwd2Ideal.τ).loc Cert.DownFwd2Ideal.main_arg0)
      ∧ m' ((c.tc : Thread Cert.DownFwd2ReferenceIdeal.nD Cert.DownFwd2ReferenceIdeal.τ).loc Cert.DownFwd2ReferenceIdeal.main_arg1) = m ((c.tc : Thread Cert.DownFwd2Ideal.nD Cert.DownFwd2Ideal.τ).loc Cert.DownFwd2Ideal.main_arg1)
      ∧ m' ((c.tc : Thread Cert.DownFwd2ReferenceIdeal.nD Cert.DownFwd2ReferenceIdeal.τ).loc Cert.DownFwd2ReferenceIdeal.main_arg2) = m ((c.tc : Thread Cert.DownFwd2Ideal.nD Cert.DownFwd2Ideal.τ).loc Cert.DownFwd2Ideal.main_arg2)) →
    ∃ (v0 : (c : Dev Cert.DownFwd2Ideal.nD) → Buf (Elt Ideal) ((c.tc : Thread Cert.DownFwd2Ideal.nD Cert.DownFwd2Ideal.τ).loc Cert.DownFwd2Ideal.main_v0)),
      θ_run (Cert.DownFwd2Ideal.defs (F := Ideal)) (onTc (τ := Cert.DownFwd2Ideal.τ) (Cert.DownFwd2Ideal.main (F := Ideal))) ⟨m, fun _ => 0, g⟩ (fun r => ∀ c : Dev Cert.DownFwd2Ideal.nD,
          r.2.mem ((c.tc : Thread Cert.DownFwd2Ideal.nD Cert.DownFwd2Ideal.τ).loc Cert.DownFwd2Ideal.main_v0) = v0 c
          ∧ r.2.mem ((c.tc : Thread Cert.DownFwd2Ideal.nD Cert.DownFwd2Ideal.τ).loc Cert.DownFwd2Ideal.main_arg0) = m ((c.tc : Thread Cert.DownFwd2Ideal.nD Cert.DownFwd2Ideal.τ).loc Cert.DownFwd2Ideal.main_arg0)
          ∧ r.2.mem ((c.tc : Thread Cert.DownFwd2Ideal.nD Cert.DownFwd2Ideal.τ).loc Cert.DownFwd2Ideal.main_arg1) = m ((c.tc : Thread Cert.DownFwd2Ideal.nD Cert.DownFwd2Ideal.τ).loc Cert.DownFwd2Ideal.main_arg1)
          ∧ r.2.mem ((c.tc : Thread Cert.DownFwd2Ideal.nD Cert.DownFwd2Ideal.τ).loc Cert.DownFwd2Ideal.main_arg2) = m ((c.tc : Thread Cert.DownFwd2Ideal.nD Cert.DownFwd2Ideal.τ).loc Cert.DownFwd2Ideal.main_arg2))
      ∧ θ_run (Cert.DownFwd2ReferenceIdeal.defs (F := Ideal)) (onTc (τ := Cert.DownFwd2ReferenceIdeal.τ) (Cert.DownFwd2ReferenceIdeal.main (F := Ideal))) ⟨m', fun _ => 0, g'⟩ (fun r => ∀ c : Dev Cert.DownFwd2ReferenceIdeal.nD,
          r.2.mem ((c.tc : Thread Cert.DownFwd2ReferenceIdeal.nD Cert.DownFwd2ReferenceIdeal.τ).loc Cert.DownFwd2ReferenceIdeal.main_v5) = v0 c
          ∧ r.2.mem ((c.tc : Thread Cert.DownFwd2ReferenceIdeal.nD Cert.DownFwd2ReferenceIdeal.τ).loc Cert.DownFwd2ReferenceIdeal.main_arg0) = m' ((c.tc : Thread Cert.DownFwd2ReferenceIdeal.nD Cert.DownFwd2ReferenceIdeal.τ).loc Cert.DownFwd2ReferenceIdeal.main_arg0)
          ∧ r.2.mem ((c.tc : Thread Cert.DownFwd2ReferenceIdeal.nD Cert.DownFwd2ReferenceIdeal.τ).loc Cert.DownFwd2ReferenceIdeal.main_arg1) = m' ((c.tc : Thread Cert.DownFwd2ReferenceIdeal.nD Cert.DownFwd2ReferenceIdeal.τ).loc Cert.DownFwd2ReferenceIdeal.main_arg1)
          ∧ r.2.mem ((c.tc : Thread Cert.DownFwd2ReferenceIdeal.nD Cert.DownFwd2ReferenceIdeal.τ).loc Cert.DownFwd2ReferenceIdeal.main_arg2) = m' ((c.tc : Thread Cert.DownFwd2ReferenceIdeal.nD Cert.DownFwd2ReferenceIdeal.τ).loc Cert.DownFwd2ReferenceIdeal.main_arg2))

def preserves_DownFwd3_DownFwd3Ideal : Prop :=
  True

def algebraic_DownFwd3Ideal_DownFwd3ReferenceIdeal [hDownFwd3Ideal : Cert.DownFwd3Ideal.Facts] [hDownFwd3ReferenceIdeal : Cert.DownFwd3ReferenceIdeal.Facts] : Prop :=
  ∀ (m : (ℓ : Loc Cert.DownFwd3Ideal.nD Cert.DownFwd3Ideal.τ Cert.DownFwd3Ideal.sig) → Buf (Elt Ideal) ℓ) (g : Dev Cert.DownFwd3Ideal.nD → PrngReg)
    (m' : (ℓ : Loc Cert.DownFwd3ReferenceIdeal.nD Cert.DownFwd3ReferenceIdeal.τ Cert.DownFwd3ReferenceIdeal.sig) → Buf (Elt Ideal) ℓ) (g' : Dev Cert.DownFwd3ReferenceIdeal.nD → PrngReg), Pre_DownFwd3Ideal m →
    (∀ c : Dev Cert.DownFwd3Ideal.nD,
      m' ((c.tc : Thread Cert.DownFwd3ReferenceIdeal.nD Cert.DownFwd3ReferenceIdeal.τ).loc Cert.DownFwd3ReferenceIdeal.main_arg0) = m ((c.tc : Thread Cert.DownFwd3Ideal.nD Cert.DownFwd3Ideal.τ).loc Cert.DownFwd3Ideal.main_arg0)
      ∧ m' ((c.tc : Thread Cert.DownFwd3ReferenceIdeal.nD Cert.DownFwd3ReferenceIdeal.τ).loc Cert.DownFwd3ReferenceIdeal.main_arg1) = m ((c.tc : Thread Cert.DownFwd3Ideal.nD Cert.DownFwd3Ideal.τ).loc Cert.DownFwd3Ideal.main_arg1)
      ∧ m' ((c.tc : Thread Cert.DownFwd3ReferenceIdeal.nD Cert.DownFwd3ReferenceIdeal.τ).loc Cert.DownFwd3ReferenceIdeal.main_arg2) = m ((c.tc : Thread Cert.DownFwd3Ideal.nD Cert.DownFwd3Ideal.τ).loc Cert.DownFwd3Ideal.main_arg2)) →
    ∃ (v0 : (c : Dev Cert.DownFwd3Ideal.nD) → Buf (Elt Ideal) ((c.tc : Thread Cert.DownFwd3Ideal.nD Cert.DownFwd3Ideal.τ).loc Cert.DownFwd3Ideal.main_v0)),
      θ_run (Cert.DownFwd3Ideal.defs (F := Ideal)) (onTc (τ := Cert.DownFwd3Ideal.τ) (Cert.DownFwd3Ideal.main (F := Ideal))) ⟨m, fun _ => 0, g⟩ (fun r => ∀ c : Dev Cert.DownFwd3Ideal.nD,
          r.2.mem ((c.tc : Thread Cert.DownFwd3Ideal.nD Cert.DownFwd3Ideal.τ).loc Cert.DownFwd3Ideal.main_v0) = v0 c
          ∧ r.2.mem ((c.tc : Thread Cert.DownFwd3Ideal.nD Cert.DownFwd3Ideal.τ).loc Cert.DownFwd3Ideal.main_arg0) = m ((c.tc : Thread Cert.DownFwd3Ideal.nD Cert.DownFwd3Ideal.τ).loc Cert.DownFwd3Ideal.main_arg0)
          ∧ r.2.mem ((c.tc : Thread Cert.DownFwd3Ideal.nD Cert.DownFwd3Ideal.τ).loc Cert.DownFwd3Ideal.main_arg1) = m ((c.tc : Thread Cert.DownFwd3Ideal.nD Cert.DownFwd3Ideal.τ).loc Cert.DownFwd3Ideal.main_arg1)
          ∧ r.2.mem ((c.tc : Thread Cert.DownFwd3Ideal.nD Cert.DownFwd3Ideal.τ).loc Cert.DownFwd3Ideal.main_arg2) = m ((c.tc : Thread Cert.DownFwd3Ideal.nD Cert.DownFwd3Ideal.τ).loc Cert.DownFwd3Ideal.main_arg2))
      ∧ θ_run (Cert.DownFwd3ReferenceIdeal.defs (F := Ideal)) (onTc (τ := Cert.DownFwd3ReferenceIdeal.τ) (Cert.DownFwd3ReferenceIdeal.main (F := Ideal))) ⟨m', fun _ => 0, g'⟩ (fun r => ∀ c : Dev Cert.DownFwd3ReferenceIdeal.nD,
          r.2.mem ((c.tc : Thread Cert.DownFwd3ReferenceIdeal.nD Cert.DownFwd3ReferenceIdeal.τ).loc Cert.DownFwd3ReferenceIdeal.main_v5) = v0 c
          ∧ r.2.mem ((c.tc : Thread Cert.DownFwd3ReferenceIdeal.nD Cert.DownFwd3ReferenceIdeal.τ).loc Cert.DownFwd3ReferenceIdeal.main_arg0) = m' ((c.tc : Thread Cert.DownFwd3ReferenceIdeal.nD Cert.DownFwd3ReferenceIdeal.τ).loc Cert.DownFwd3ReferenceIdeal.main_arg0)
          ∧ r.2.mem ((c.tc : Thread Cert.DownFwd3ReferenceIdeal.nD Cert.DownFwd3ReferenceIdeal.τ).loc Cert.DownFwd3ReferenceIdeal.main_arg1) = m' ((c.tc : Thread Cert.DownFwd3ReferenceIdeal.nD Cert.DownFwd3ReferenceIdeal.τ).loc Cert.DownFwd3ReferenceIdeal.main_arg1)
          ∧ r.2.mem ((c.tc : Thread Cert.DownFwd3ReferenceIdeal.nD Cert.DownFwd3ReferenceIdeal.τ).loc Cert.DownFwd3ReferenceIdeal.main_arg2) = m' ((c.tc : Thread Cert.DownFwd3ReferenceIdeal.nD Cert.DownFwd3ReferenceIdeal.τ).loc Cert.DownFwd3ReferenceIdeal.main_arg2))

def preserves_AttnInFwd0_AttnInFwd0Ideal : Prop :=
  True

def algebraic_AttnInFwd0Ideal_AttnInFwd0ReferenceIdeal [hAttnInFwd0Ideal : Cert.AttnInFwd0Ideal.Facts] [hAttnInFwd0ReferenceIdeal : Cert.AttnInFwd0ReferenceIdeal.Facts] : Prop :=
  ∀ (m : (ℓ : Loc Cert.AttnInFwd0Ideal.nD Cert.AttnInFwd0Ideal.τ Cert.AttnInFwd0Ideal.sig) → Buf (Elt Ideal) ℓ) (g : Dev Cert.AttnInFwd0Ideal.nD → PrngReg)
    (m' : (ℓ : Loc Cert.AttnInFwd0ReferenceIdeal.nD Cert.AttnInFwd0ReferenceIdeal.τ Cert.AttnInFwd0ReferenceIdeal.sig) → Buf (Elt Ideal) ℓ) (g' : Dev Cert.AttnInFwd0ReferenceIdeal.nD → PrngReg), Pre_AttnInFwd0Ideal m →
    (∀ c : Dev Cert.AttnInFwd0Ideal.nD,
      m' ((c.tc : Thread Cert.AttnInFwd0ReferenceIdeal.nD Cert.AttnInFwd0ReferenceIdeal.τ).loc Cert.AttnInFwd0ReferenceIdeal.main_arg0) = m ((c.tc : Thread Cert.AttnInFwd0Ideal.nD Cert.AttnInFwd0Ideal.τ).loc Cert.AttnInFwd0Ideal.main_arg0)
      ∧ m' ((c.tc : Thread Cert.AttnInFwd0ReferenceIdeal.nD Cert.AttnInFwd0ReferenceIdeal.τ).loc Cert.AttnInFwd0ReferenceIdeal.main_arg1) = m ((c.tc : Thread Cert.AttnInFwd0Ideal.nD Cert.AttnInFwd0Ideal.τ).loc Cert.AttnInFwd0Ideal.main_arg1)) →
    ∃ (v0 : (c : Dev Cert.AttnInFwd0Ideal.nD) → Buf (Elt Ideal) ((c.tc : Thread Cert.AttnInFwd0Ideal.nD Cert.AttnInFwd0Ideal.τ).loc Cert.AttnInFwd0Ideal.main_v0)),
      θ_run (Cert.AttnInFwd0Ideal.defs (F := Ideal)) (onTc (τ := Cert.AttnInFwd0Ideal.τ) (Cert.AttnInFwd0Ideal.main (F := Ideal))) ⟨m, fun _ => 0, g⟩ (fun r => ∀ c : Dev Cert.AttnInFwd0Ideal.nD,
          r.2.mem ((c.tc : Thread Cert.AttnInFwd0Ideal.nD Cert.AttnInFwd0Ideal.τ).loc Cert.AttnInFwd0Ideal.main_v0) = v0 c
          ∧ r.2.mem ((c.tc : Thread Cert.AttnInFwd0Ideal.nD Cert.AttnInFwd0Ideal.τ).loc Cert.AttnInFwd0Ideal.main_arg0) = m ((c.tc : Thread Cert.AttnInFwd0Ideal.nD Cert.AttnInFwd0Ideal.τ).loc Cert.AttnInFwd0Ideal.main_arg0)
          ∧ r.2.mem ((c.tc : Thread Cert.AttnInFwd0Ideal.nD Cert.AttnInFwd0Ideal.τ).loc Cert.AttnInFwd0Ideal.main_arg1) = m ((c.tc : Thread Cert.AttnInFwd0Ideal.nD Cert.AttnInFwd0Ideal.τ).loc Cert.AttnInFwd0Ideal.main_arg1))
      ∧ θ_run (Cert.AttnInFwd0ReferenceIdeal.defs (F := Ideal)) (onTc (τ := Cert.AttnInFwd0ReferenceIdeal.τ) (Cert.AttnInFwd0ReferenceIdeal.main (F := Ideal))) ⟨m', fun _ => 0, g'⟩ (fun r => ∀ c : Dev Cert.AttnInFwd0ReferenceIdeal.nD,
          r.2.mem ((c.tc : Thread Cert.AttnInFwd0ReferenceIdeal.nD Cert.AttnInFwd0ReferenceIdeal.τ).loc Cert.AttnInFwd0ReferenceIdeal.main_v5) = v0 c
          ∧ r.2.mem ((c.tc : Thread Cert.AttnInFwd0ReferenceIdeal.nD Cert.AttnInFwd0ReferenceIdeal.τ).loc Cert.AttnInFwd0ReferenceIdeal.main_arg0) = m' ((c.tc : Thread Cert.AttnInFwd0ReferenceIdeal.nD Cert.AttnInFwd0ReferenceIdeal.τ).loc Cert.AttnInFwd0ReferenceIdeal.main_arg0)
          ∧ r.2.mem ((c.tc : Thread Cert.AttnInFwd0ReferenceIdeal.nD Cert.AttnInFwd0ReferenceIdeal.τ).loc Cert.AttnInFwd0ReferenceIdeal.main_arg1) = m' ((c.tc : Thread Cert.AttnInFwd0ReferenceIdeal.nD Cert.AttnInFwd0ReferenceIdeal.τ).loc Cert.AttnInFwd0ReferenceIdeal.main_arg1))

def preserves_AttnInFwd1_AttnInFwd1Ideal : Prop :=
  True

def algebraic_AttnInFwd1Ideal_AttnInFwd1ReferenceIdeal [hAttnInFwd1Ideal : Cert.AttnInFwd1Ideal.Facts] [hAttnInFwd1ReferenceIdeal : Cert.AttnInFwd1ReferenceIdeal.Facts] : Prop :=
  ∀ (m : (ℓ : Loc Cert.AttnInFwd1Ideal.nD Cert.AttnInFwd1Ideal.τ Cert.AttnInFwd1Ideal.sig) → Buf (Elt Ideal) ℓ) (g : Dev Cert.AttnInFwd1Ideal.nD → PrngReg)
    (m' : (ℓ : Loc Cert.AttnInFwd1ReferenceIdeal.nD Cert.AttnInFwd1ReferenceIdeal.τ Cert.AttnInFwd1ReferenceIdeal.sig) → Buf (Elt Ideal) ℓ) (g' : Dev Cert.AttnInFwd1ReferenceIdeal.nD → PrngReg), Pre_AttnInFwd1Ideal m →
    (∀ c : Dev Cert.AttnInFwd1Ideal.nD,
      m' ((c.tc : Thread Cert.AttnInFwd1ReferenceIdeal.nD Cert.AttnInFwd1ReferenceIdeal.τ).loc Cert.AttnInFwd1ReferenceIdeal.main_arg0) = m ((c.tc : Thread Cert.AttnInFwd1Ideal.nD Cert.AttnInFwd1Ideal.τ).loc Cert.AttnInFwd1Ideal.main_arg0)
      ∧ m' ((c.tc : Thread Cert.AttnInFwd1ReferenceIdeal.nD Cert.AttnInFwd1ReferenceIdeal.τ).loc Cert.AttnInFwd1ReferenceIdeal.main_arg1) = m ((c.tc : Thread Cert.AttnInFwd1Ideal.nD Cert.AttnInFwd1Ideal.τ).loc Cert.AttnInFwd1Ideal.main_arg1)) →
    ∃ (v0 : (c : Dev Cert.AttnInFwd1Ideal.nD) → Buf (Elt Ideal) ((c.tc : Thread Cert.AttnInFwd1Ideal.nD Cert.AttnInFwd1Ideal.τ).loc Cert.AttnInFwd1Ideal.main_v0)),
      θ_run (Cert.AttnInFwd1Ideal.defs (F := Ideal)) (onTc (τ := Cert.AttnInFwd1Ideal.τ) (Cert.AttnInFwd1Ideal.main (F := Ideal))) ⟨m, fun _ => 0, g⟩ (fun r => ∀ c : Dev Cert.AttnInFwd1Ideal.nD,
          r.2.mem ((c.tc : Thread Cert.AttnInFwd1Ideal.nD Cert.AttnInFwd1Ideal.τ).loc Cert.AttnInFwd1Ideal.main_v0) = v0 c
          ∧ r.2.mem ((c.tc : Thread Cert.AttnInFwd1Ideal.nD Cert.AttnInFwd1Ideal.τ).loc Cert.AttnInFwd1Ideal.main_arg0) = m ((c.tc : Thread Cert.AttnInFwd1Ideal.nD Cert.AttnInFwd1Ideal.τ).loc Cert.AttnInFwd1Ideal.main_arg0)
          ∧ r.2.mem ((c.tc : Thread Cert.AttnInFwd1Ideal.nD Cert.AttnInFwd1Ideal.τ).loc Cert.AttnInFwd1Ideal.main_arg1) = m ((c.tc : Thread Cert.AttnInFwd1Ideal.nD Cert.AttnInFwd1Ideal.τ).loc Cert.AttnInFwd1Ideal.main_arg1))
      ∧ θ_run (Cert.AttnInFwd1ReferenceIdeal.defs (F := Ideal)) (onTc (τ := Cert.AttnInFwd1ReferenceIdeal.τ) (Cert.AttnInFwd1ReferenceIdeal.main (F := Ideal))) ⟨m', fun _ => 0, g'⟩ (fun r => ∀ c : Dev Cert.AttnInFwd1ReferenceIdeal.nD,
          r.2.mem ((c.tc : Thread Cert.AttnInFwd1ReferenceIdeal.nD Cert.AttnInFwd1ReferenceIdeal.τ).loc Cert.AttnInFwd1ReferenceIdeal.main_v5) = v0 c
          ∧ r.2.mem ((c.tc : Thread Cert.AttnInFwd1ReferenceIdeal.nD Cert.AttnInFwd1ReferenceIdeal.τ).loc Cert.AttnInFwd1ReferenceIdeal.main_arg0) = m' ((c.tc : Thread Cert.AttnInFwd1ReferenceIdeal.nD Cert.AttnInFwd1ReferenceIdeal.τ).loc Cert.AttnInFwd1ReferenceIdeal.main_arg0)
          ∧ r.2.mem ((c.tc : Thread Cert.AttnInFwd1ReferenceIdeal.nD Cert.AttnInFwd1ReferenceIdeal.τ).loc Cert.AttnInFwd1ReferenceIdeal.main_arg1) = m' ((c.tc : Thread Cert.AttnInFwd1ReferenceIdeal.nD Cert.AttnInFwd1ReferenceIdeal.τ).loc Cert.AttnInFwd1ReferenceIdeal.main_arg1))

def preserves_HgrnInFwd0_HgrnInFwd0Ideal : Prop :=
  True

def algebraic_HgrnInFwd0Ideal_HgrnInFwd0ReferenceIdeal [hHgrnInFwd0Ideal : Cert.HgrnInFwd0Ideal.Facts] [hHgrnInFwd0ReferenceIdeal : Cert.HgrnInFwd0ReferenceIdeal.Facts] : Prop :=
  ∀ (m : (ℓ : Loc Cert.HgrnInFwd0Ideal.nD Cert.HgrnInFwd0Ideal.τ Cert.HgrnInFwd0Ideal.sig) → Buf (Elt Ideal) ℓ) (g : Dev Cert.HgrnInFwd0Ideal.nD → PrngReg)
    (m' : (ℓ : Loc Cert.HgrnInFwd0ReferenceIdeal.nD Cert.HgrnInFwd0ReferenceIdeal.τ Cert.HgrnInFwd0ReferenceIdeal.sig) → Buf (Elt Ideal) ℓ) (g' : Dev Cert.HgrnInFwd0ReferenceIdeal.nD → PrngReg), Pre_HgrnInFwd0Ideal m →
    (∀ c : Dev Cert.HgrnInFwd0Ideal.nD,
      m' ((c.tc : Thread Cert.HgrnInFwd0ReferenceIdeal.nD Cert.HgrnInFwd0ReferenceIdeal.τ).loc Cert.HgrnInFwd0ReferenceIdeal.main_arg0) = m ((c.tc : Thread Cert.HgrnInFwd0Ideal.nD Cert.HgrnInFwd0Ideal.τ).loc Cert.HgrnInFwd0Ideal.main_arg0)
      ∧ m' ((c.tc : Thread Cert.HgrnInFwd0ReferenceIdeal.nD Cert.HgrnInFwd0ReferenceIdeal.τ).loc Cert.HgrnInFwd0ReferenceIdeal.main_arg1) = m ((c.tc : Thread Cert.HgrnInFwd0Ideal.nD Cert.HgrnInFwd0Ideal.τ).loc Cert.HgrnInFwd0Ideal.main_arg1)) →
    ∃ (v0 : (c : Dev Cert.HgrnInFwd0Ideal.nD) → Buf (Elt Ideal) ((c.tc : Thread Cert.HgrnInFwd0Ideal.nD Cert.HgrnInFwd0Ideal.τ).loc Cert.HgrnInFwd0Ideal.main_v0)),
      θ_run (Cert.HgrnInFwd0Ideal.defs (F := Ideal)) (onTc (τ := Cert.HgrnInFwd0Ideal.τ) (Cert.HgrnInFwd0Ideal.main (F := Ideal))) ⟨m, fun _ => 0, g⟩ (fun r => ∀ c : Dev Cert.HgrnInFwd0Ideal.nD,
          r.2.mem ((c.tc : Thread Cert.HgrnInFwd0Ideal.nD Cert.HgrnInFwd0Ideal.τ).loc Cert.HgrnInFwd0Ideal.main_v0) = v0 c
          ∧ r.2.mem ((c.tc : Thread Cert.HgrnInFwd0Ideal.nD Cert.HgrnInFwd0Ideal.τ).loc Cert.HgrnInFwd0Ideal.main_arg0) = m ((c.tc : Thread Cert.HgrnInFwd0Ideal.nD Cert.HgrnInFwd0Ideal.τ).loc Cert.HgrnInFwd0Ideal.main_arg0)
          ∧ r.2.mem ((c.tc : Thread Cert.HgrnInFwd0Ideal.nD Cert.HgrnInFwd0Ideal.τ).loc Cert.HgrnInFwd0Ideal.main_arg1) = m ((c.tc : Thread Cert.HgrnInFwd0Ideal.nD Cert.HgrnInFwd0Ideal.τ).loc Cert.HgrnInFwd0Ideal.main_arg1))
      ∧ θ_run (Cert.HgrnInFwd0ReferenceIdeal.defs (F := Ideal)) (onTc (τ := Cert.HgrnInFwd0ReferenceIdeal.τ) (Cert.HgrnInFwd0ReferenceIdeal.main (F := Ideal))) ⟨m', fun _ => 0, g'⟩ (fun r => ∀ c : Dev Cert.HgrnInFwd0ReferenceIdeal.nD,
          r.2.mem ((c.tc : Thread Cert.HgrnInFwd0ReferenceIdeal.nD Cert.HgrnInFwd0ReferenceIdeal.τ).loc Cert.HgrnInFwd0ReferenceIdeal.main_v4) = v0 c
          ∧ r.2.mem ((c.tc : Thread Cert.HgrnInFwd0ReferenceIdeal.nD Cert.HgrnInFwd0ReferenceIdeal.τ).loc Cert.HgrnInFwd0ReferenceIdeal.main_arg0) = m' ((c.tc : Thread Cert.HgrnInFwd0ReferenceIdeal.nD Cert.HgrnInFwd0ReferenceIdeal.τ).loc Cert.HgrnInFwd0ReferenceIdeal.main_arg0)
          ∧ r.2.mem ((c.tc : Thread Cert.HgrnInFwd0ReferenceIdeal.nD Cert.HgrnInFwd0ReferenceIdeal.τ).loc Cert.HgrnInFwd0ReferenceIdeal.main_arg1) = m' ((c.tc : Thread Cert.HgrnInFwd0ReferenceIdeal.nD Cert.HgrnInFwd0ReferenceIdeal.τ).loc Cert.HgrnInFwd0ReferenceIdeal.main_arg1))

def preserves_HgrnInFwd1_HgrnInFwd1Ideal : Prop :=
  True

def algebraic_HgrnInFwd1Ideal_HgrnInFwd1ReferenceIdeal [hHgrnInFwd1Ideal : Cert.HgrnInFwd1Ideal.Facts] [hHgrnInFwd1ReferenceIdeal : Cert.HgrnInFwd1ReferenceIdeal.Facts] : Prop :=
  ∀ (m : (ℓ : Loc Cert.HgrnInFwd1Ideal.nD Cert.HgrnInFwd1Ideal.τ Cert.HgrnInFwd1Ideal.sig) → Buf (Elt Ideal) ℓ) (g : Dev Cert.HgrnInFwd1Ideal.nD → PrngReg)
    (m' : (ℓ : Loc Cert.HgrnInFwd1ReferenceIdeal.nD Cert.HgrnInFwd1ReferenceIdeal.τ Cert.HgrnInFwd1ReferenceIdeal.sig) → Buf (Elt Ideal) ℓ) (g' : Dev Cert.HgrnInFwd1ReferenceIdeal.nD → PrngReg), Pre_HgrnInFwd1Ideal m →
    (∀ c : Dev Cert.HgrnInFwd1Ideal.nD,
      m' ((c.tc : Thread Cert.HgrnInFwd1ReferenceIdeal.nD Cert.HgrnInFwd1ReferenceIdeal.τ).loc Cert.HgrnInFwd1ReferenceIdeal.main_arg0) = m ((c.tc : Thread Cert.HgrnInFwd1Ideal.nD Cert.HgrnInFwd1Ideal.τ).loc Cert.HgrnInFwd1Ideal.main_arg0)
      ∧ m' ((c.tc : Thread Cert.HgrnInFwd1ReferenceIdeal.nD Cert.HgrnInFwd1ReferenceIdeal.τ).loc Cert.HgrnInFwd1ReferenceIdeal.main_arg1) = m ((c.tc : Thread Cert.HgrnInFwd1Ideal.nD Cert.HgrnInFwd1Ideal.τ).loc Cert.HgrnInFwd1Ideal.main_arg1)) →
    ∃ (v0 : (c : Dev Cert.HgrnInFwd1Ideal.nD) → Buf (Elt Ideal) ((c.tc : Thread Cert.HgrnInFwd1Ideal.nD Cert.HgrnInFwd1Ideal.τ).loc Cert.HgrnInFwd1Ideal.main_v0)),
      θ_run (Cert.HgrnInFwd1Ideal.defs (F := Ideal)) (onTc (τ := Cert.HgrnInFwd1Ideal.τ) (Cert.HgrnInFwd1Ideal.main (F := Ideal))) ⟨m, fun _ => 0, g⟩ (fun r => ∀ c : Dev Cert.HgrnInFwd1Ideal.nD,
          r.2.mem ((c.tc : Thread Cert.HgrnInFwd1Ideal.nD Cert.HgrnInFwd1Ideal.τ).loc Cert.HgrnInFwd1Ideal.main_v0) = v0 c
          ∧ r.2.mem ((c.tc : Thread Cert.HgrnInFwd1Ideal.nD Cert.HgrnInFwd1Ideal.τ).loc Cert.HgrnInFwd1Ideal.main_arg0) = m ((c.tc : Thread Cert.HgrnInFwd1Ideal.nD Cert.HgrnInFwd1Ideal.τ).loc Cert.HgrnInFwd1Ideal.main_arg0)
          ∧ r.2.mem ((c.tc : Thread Cert.HgrnInFwd1Ideal.nD Cert.HgrnInFwd1Ideal.τ).loc Cert.HgrnInFwd1Ideal.main_arg1) = m ((c.tc : Thread Cert.HgrnInFwd1Ideal.nD Cert.HgrnInFwd1Ideal.τ).loc Cert.HgrnInFwd1Ideal.main_arg1))
      ∧ θ_run (Cert.HgrnInFwd1ReferenceIdeal.defs (F := Ideal)) (onTc (τ := Cert.HgrnInFwd1ReferenceIdeal.τ) (Cert.HgrnInFwd1ReferenceIdeal.main (F := Ideal))) ⟨m', fun _ => 0, g'⟩ (fun r => ∀ c : Dev Cert.HgrnInFwd1ReferenceIdeal.nD,
          r.2.mem ((c.tc : Thread Cert.HgrnInFwd1ReferenceIdeal.nD Cert.HgrnInFwd1ReferenceIdeal.τ).loc Cert.HgrnInFwd1ReferenceIdeal.main_v4) = v0 c
          ∧ r.2.mem ((c.tc : Thread Cert.HgrnInFwd1ReferenceIdeal.nD Cert.HgrnInFwd1ReferenceIdeal.τ).loc Cert.HgrnInFwd1ReferenceIdeal.main_arg0) = m' ((c.tc : Thread Cert.HgrnInFwd1ReferenceIdeal.nD Cert.HgrnInFwd1ReferenceIdeal.τ).loc Cert.HgrnInFwd1ReferenceIdeal.main_arg0)
          ∧ r.2.mem ((c.tc : Thread Cert.HgrnInFwd1ReferenceIdeal.nD Cert.HgrnInFwd1ReferenceIdeal.τ).loc Cert.HgrnInFwd1ReferenceIdeal.main_arg1) = m' ((c.tc : Thread Cert.HgrnInFwd1ReferenceIdeal.nD Cert.HgrnInFwd1ReferenceIdeal.τ).loc Cert.HgrnInFwd1ReferenceIdeal.main_arg1))

def preserves_OutFwd0_OutFwd0Ideal : Prop :=
  True

def algebraic_OutFwd0Ideal_OutFwd0ReferenceIdeal [hOutFwd0Ideal : Cert.OutFwd0Ideal.Facts] [hOutFwd0ReferenceIdeal : Cert.OutFwd0ReferenceIdeal.Facts] : Prop :=
  ∀ (m : (ℓ : Loc Cert.OutFwd0Ideal.nD Cert.OutFwd0Ideal.τ Cert.OutFwd0Ideal.sig) → Buf (Elt Ideal) ℓ) (g : Dev Cert.OutFwd0Ideal.nD → PrngReg)
    (m' : (ℓ : Loc Cert.OutFwd0ReferenceIdeal.nD Cert.OutFwd0ReferenceIdeal.τ Cert.OutFwd0ReferenceIdeal.sig) → Buf (Elt Ideal) ℓ) (g' : Dev Cert.OutFwd0ReferenceIdeal.nD → PrngReg), Pre_OutFwd0Ideal m →
    (∀ c : Dev Cert.OutFwd0Ideal.nD,
      m' ((c.tc : Thread Cert.OutFwd0ReferenceIdeal.nD Cert.OutFwd0ReferenceIdeal.τ).loc Cert.OutFwd0ReferenceIdeal.main_arg0) = m ((c.tc : Thread Cert.OutFwd0Ideal.nD Cert.OutFwd0Ideal.τ).loc Cert.OutFwd0Ideal.main_arg0)
      ∧ m' ((c.tc : Thread Cert.OutFwd0ReferenceIdeal.nD Cert.OutFwd0ReferenceIdeal.τ).loc Cert.OutFwd0ReferenceIdeal.main_arg1) = m ((c.tc : Thread Cert.OutFwd0Ideal.nD Cert.OutFwd0Ideal.τ).loc Cert.OutFwd0Ideal.main_arg1)
      ∧ m' ((c.tc : Thread Cert.OutFwd0ReferenceIdeal.nD Cert.OutFwd0ReferenceIdeal.τ).loc Cert.OutFwd0ReferenceIdeal.main_arg2) = m ((c.tc : Thread Cert.OutFwd0Ideal.nD Cert.OutFwd0Ideal.τ).loc Cert.OutFwd0Ideal.main_arg2)) →
    ∃ (v0 : (c : Dev Cert.OutFwd0Ideal.nD) → Buf (Elt Ideal) ((c.tc : Thread Cert.OutFwd0Ideal.nD Cert.OutFwd0Ideal.τ).loc Cert.OutFwd0Ideal.main_v0)),
      θ_run (Cert.OutFwd0Ideal.defs (F := Ideal)) (onTc (τ := Cert.OutFwd0Ideal.τ) (Cert.OutFwd0Ideal.main (F := Ideal))) ⟨m, fun _ => 0, g⟩ (fun r => ∀ c : Dev Cert.OutFwd0Ideal.nD,
          r.2.mem ((c.tc : Thread Cert.OutFwd0Ideal.nD Cert.OutFwd0Ideal.τ).loc Cert.OutFwd0Ideal.main_v0) = v0 c
          ∧ r.2.mem ((c.tc : Thread Cert.OutFwd0Ideal.nD Cert.OutFwd0Ideal.τ).loc Cert.OutFwd0Ideal.main_arg0) = m ((c.tc : Thread Cert.OutFwd0Ideal.nD Cert.OutFwd0Ideal.τ).loc Cert.OutFwd0Ideal.main_arg0)
          ∧ r.2.mem ((c.tc : Thread Cert.OutFwd0Ideal.nD Cert.OutFwd0Ideal.τ).loc Cert.OutFwd0Ideal.main_arg1) = m ((c.tc : Thread Cert.OutFwd0Ideal.nD Cert.OutFwd0Ideal.τ).loc Cert.OutFwd0Ideal.main_arg1)
          ∧ r.2.mem ((c.tc : Thread Cert.OutFwd0Ideal.nD Cert.OutFwd0Ideal.τ).loc Cert.OutFwd0Ideal.main_arg2) = m ((c.tc : Thread Cert.OutFwd0Ideal.nD Cert.OutFwd0Ideal.τ).loc Cert.OutFwd0Ideal.main_arg2))
      ∧ θ_run (Cert.OutFwd0ReferenceIdeal.defs (F := Ideal)) (onTc (τ := Cert.OutFwd0ReferenceIdeal.τ) (Cert.OutFwd0ReferenceIdeal.main (F := Ideal))) ⟨m', fun _ => 0, g'⟩ (fun r => ∀ c : Dev Cert.OutFwd0ReferenceIdeal.nD,
          r.2.mem ((c.tc : Thread Cert.OutFwd0ReferenceIdeal.nD Cert.OutFwd0ReferenceIdeal.τ).loc Cert.OutFwd0ReferenceIdeal.main_v5) = v0 c
          ∧ r.2.mem ((c.tc : Thread Cert.OutFwd0ReferenceIdeal.nD Cert.OutFwd0ReferenceIdeal.τ).loc Cert.OutFwd0ReferenceIdeal.main_arg0) = m' ((c.tc : Thread Cert.OutFwd0ReferenceIdeal.nD Cert.OutFwd0ReferenceIdeal.τ).loc Cert.OutFwd0ReferenceIdeal.main_arg0)
          ∧ r.2.mem ((c.tc : Thread Cert.OutFwd0ReferenceIdeal.nD Cert.OutFwd0ReferenceIdeal.τ).loc Cert.OutFwd0ReferenceIdeal.main_arg1) = m' ((c.tc : Thread Cert.OutFwd0ReferenceIdeal.nD Cert.OutFwd0ReferenceIdeal.τ).loc Cert.OutFwd0ReferenceIdeal.main_arg1)
          ∧ r.2.mem ((c.tc : Thread Cert.OutFwd0ReferenceIdeal.nD Cert.OutFwd0ReferenceIdeal.τ).loc Cert.OutFwd0ReferenceIdeal.main_arg2) = m' ((c.tc : Thread Cert.OutFwd0ReferenceIdeal.nD Cert.OutFwd0ReferenceIdeal.τ).loc Cert.OutFwd0ReferenceIdeal.main_arg2))

def preserves_OutFwd1_OutFwd1Ideal : Prop :=
  True

def algebraic_OutFwd1Ideal_OutFwd1ReferenceIdeal [hOutFwd1Ideal : Cert.OutFwd1Ideal.Facts] [hOutFwd1ReferenceIdeal : Cert.OutFwd1ReferenceIdeal.Facts] : Prop :=
  ∀ (m : (ℓ : Loc Cert.OutFwd1Ideal.nD Cert.OutFwd1Ideal.τ Cert.OutFwd1Ideal.sig) → Buf (Elt Ideal) ℓ) (g : Dev Cert.OutFwd1Ideal.nD → PrngReg)
    (m' : (ℓ : Loc Cert.OutFwd1ReferenceIdeal.nD Cert.OutFwd1ReferenceIdeal.τ Cert.OutFwd1ReferenceIdeal.sig) → Buf (Elt Ideal) ℓ) (g' : Dev Cert.OutFwd1ReferenceIdeal.nD → PrngReg), Pre_OutFwd1Ideal m →
    (∀ c : Dev Cert.OutFwd1Ideal.nD,
      m' ((c.tc : Thread Cert.OutFwd1ReferenceIdeal.nD Cert.OutFwd1ReferenceIdeal.τ).loc Cert.OutFwd1ReferenceIdeal.main_arg0) = m ((c.tc : Thread Cert.OutFwd1Ideal.nD Cert.OutFwd1Ideal.τ).loc Cert.OutFwd1Ideal.main_arg0)
      ∧ m' ((c.tc : Thread Cert.OutFwd1ReferenceIdeal.nD Cert.OutFwd1ReferenceIdeal.τ).loc Cert.OutFwd1ReferenceIdeal.main_arg1) = m ((c.tc : Thread Cert.OutFwd1Ideal.nD Cert.OutFwd1Ideal.τ).loc Cert.OutFwd1Ideal.main_arg1)
      ∧ m' ((c.tc : Thread Cert.OutFwd1ReferenceIdeal.nD Cert.OutFwd1ReferenceIdeal.τ).loc Cert.OutFwd1ReferenceIdeal.main_arg2) = m ((c.tc : Thread Cert.OutFwd1Ideal.nD Cert.OutFwd1Ideal.τ).loc Cert.OutFwd1Ideal.main_arg2)) →
    ∃ (v0 : (c : Dev Cert.OutFwd1Ideal.nD) → Buf (Elt Ideal) ((c.tc : Thread Cert.OutFwd1Ideal.nD Cert.OutFwd1Ideal.τ).loc Cert.OutFwd1Ideal.main_v0)),
      θ_run (Cert.OutFwd1Ideal.defs (F := Ideal)) (onTc (τ := Cert.OutFwd1Ideal.τ) (Cert.OutFwd1Ideal.main (F := Ideal))) ⟨m, fun _ => 0, g⟩ (fun r => ∀ c : Dev Cert.OutFwd1Ideal.nD,
          r.2.mem ((c.tc : Thread Cert.OutFwd1Ideal.nD Cert.OutFwd1Ideal.τ).loc Cert.OutFwd1Ideal.main_v0) = v0 c
          ∧ r.2.mem ((c.tc : Thread Cert.OutFwd1Ideal.nD Cert.OutFwd1Ideal.τ).loc Cert.OutFwd1Ideal.main_arg0) = m ((c.tc : Thread Cert.OutFwd1Ideal.nD Cert.OutFwd1Ideal.τ).loc Cert.OutFwd1Ideal.main_arg0)
          ∧ r.2.mem ((c.tc : Thread Cert.OutFwd1Ideal.nD Cert.OutFwd1Ideal.τ).loc Cert.OutFwd1Ideal.main_arg1) = m ((c.tc : Thread Cert.OutFwd1Ideal.nD Cert.OutFwd1Ideal.τ).loc Cert.OutFwd1Ideal.main_arg1)
          ∧ r.2.mem ((c.tc : Thread Cert.OutFwd1Ideal.nD Cert.OutFwd1Ideal.τ).loc Cert.OutFwd1Ideal.main_arg2) = m ((c.tc : Thread Cert.OutFwd1Ideal.nD Cert.OutFwd1Ideal.τ).loc Cert.OutFwd1Ideal.main_arg2))
      ∧ θ_run (Cert.OutFwd1ReferenceIdeal.defs (F := Ideal)) (onTc (τ := Cert.OutFwd1ReferenceIdeal.τ) (Cert.OutFwd1ReferenceIdeal.main (F := Ideal))) ⟨m', fun _ => 0, g'⟩ (fun r => ∀ c : Dev Cert.OutFwd1ReferenceIdeal.nD,
          r.2.mem ((c.tc : Thread Cert.OutFwd1ReferenceIdeal.nD Cert.OutFwd1ReferenceIdeal.τ).loc Cert.OutFwd1ReferenceIdeal.main_v5) = v0 c
          ∧ r.2.mem ((c.tc : Thread Cert.OutFwd1ReferenceIdeal.nD Cert.OutFwd1ReferenceIdeal.τ).loc Cert.OutFwd1ReferenceIdeal.main_arg0) = m' ((c.tc : Thread Cert.OutFwd1ReferenceIdeal.nD Cert.OutFwd1ReferenceIdeal.τ).loc Cert.OutFwd1ReferenceIdeal.main_arg0)
          ∧ r.2.mem ((c.tc : Thread Cert.OutFwd1ReferenceIdeal.nD Cert.OutFwd1ReferenceIdeal.τ).loc Cert.OutFwd1ReferenceIdeal.main_arg1) = m' ((c.tc : Thread Cert.OutFwd1ReferenceIdeal.nD Cert.OutFwd1ReferenceIdeal.τ).loc Cert.OutFwd1ReferenceIdeal.main_arg1)
          ∧ r.2.mem ((c.tc : Thread Cert.OutFwd1ReferenceIdeal.nD Cert.OutFwd1ReferenceIdeal.τ).loc Cert.OutFwd1ReferenceIdeal.main_arg2) = m' ((c.tc : Thread Cert.OutFwd1ReferenceIdeal.nD Cert.OutFwd1ReferenceIdeal.τ).loc Cert.OutFwd1ReferenceIdeal.main_arg2))

def preserves_DownDx0_DownDx0Ideal : Prop :=
  True

def algebraic_DownDx0Ideal_DownDx0ReferenceIdeal [hDownDx0Ideal : Cert.DownDx0Ideal.Facts] [hDownDx0ReferenceIdeal : Cert.DownDx0ReferenceIdeal.Facts] : Prop :=
  ∀ (m : (ℓ : Loc Cert.DownDx0Ideal.nD Cert.DownDx0Ideal.τ Cert.DownDx0Ideal.sig) → Buf (Elt Ideal) ℓ) (g : Dev Cert.DownDx0Ideal.nD → PrngReg)
    (m' : (ℓ : Loc Cert.DownDx0ReferenceIdeal.nD Cert.DownDx0ReferenceIdeal.τ Cert.DownDx0ReferenceIdeal.sig) → Buf (Elt Ideal) ℓ) (g' : Dev Cert.DownDx0ReferenceIdeal.nD → PrngReg), Pre_DownDx0Ideal m →
    (∀ c : Dev Cert.DownDx0Ideal.nD,
      m' ((c.tc : Thread Cert.DownDx0ReferenceIdeal.nD Cert.DownDx0ReferenceIdeal.τ).loc Cert.DownDx0ReferenceIdeal.main_arg0) = m ((c.tc : Thread Cert.DownDx0Ideal.nD Cert.DownDx0Ideal.τ).loc Cert.DownDx0Ideal.main_arg0)
      ∧ m' ((c.tc : Thread Cert.DownDx0ReferenceIdeal.nD Cert.DownDx0ReferenceIdeal.τ).loc Cert.DownDx0ReferenceIdeal.main_arg1) = m ((c.tc : Thread Cert.DownDx0Ideal.nD Cert.DownDx0Ideal.τ).loc Cert.DownDx0Ideal.main_arg1)) →
    ∃ (v0 : (c : Dev Cert.DownDx0Ideal.nD) → Buf (Elt Ideal) ((c.tc : Thread Cert.DownDx0Ideal.nD Cert.DownDx0Ideal.τ).loc Cert.DownDx0Ideal.main_v0)),
      θ_run (Cert.DownDx0Ideal.defs (F := Ideal)) (onTc (τ := Cert.DownDx0Ideal.τ) (Cert.DownDx0Ideal.main (F := Ideal))) ⟨m, fun _ => 0, g⟩ (fun r => ∀ c : Dev Cert.DownDx0Ideal.nD,
          r.2.mem ((c.tc : Thread Cert.DownDx0Ideal.nD Cert.DownDx0Ideal.τ).loc Cert.DownDx0Ideal.main_v0) = v0 c
          ∧ r.2.mem ((c.tc : Thread Cert.DownDx0Ideal.nD Cert.DownDx0Ideal.τ).loc Cert.DownDx0Ideal.main_arg0) = m ((c.tc : Thread Cert.DownDx0Ideal.nD Cert.DownDx0Ideal.τ).loc Cert.DownDx0Ideal.main_arg0)
          ∧ r.2.mem ((c.tc : Thread Cert.DownDx0Ideal.nD Cert.DownDx0Ideal.τ).loc Cert.DownDx0Ideal.main_arg1) = m ((c.tc : Thread Cert.DownDx0Ideal.nD Cert.DownDx0Ideal.τ).loc Cert.DownDx0Ideal.main_arg1))
      ∧ θ_run (Cert.DownDx0ReferenceIdeal.defs (F := Ideal)) (onTc (τ := Cert.DownDx0ReferenceIdeal.τ) (Cert.DownDx0ReferenceIdeal.main (F := Ideal))) ⟨m', fun _ => 0, g'⟩ (fun r => ∀ c : Dev Cert.DownDx0ReferenceIdeal.nD,
          r.2.mem ((c.tc : Thread Cert.DownDx0ReferenceIdeal.nD Cert.DownDx0ReferenceIdeal.τ).loc Cert.DownDx0ReferenceIdeal.main_v5) = v0 c
          ∧ r.2.mem ((c.tc : Thread Cert.DownDx0ReferenceIdeal.nD Cert.DownDx0ReferenceIdeal.τ).loc Cert.DownDx0ReferenceIdeal.main_arg0) = m' ((c.tc : Thread Cert.DownDx0ReferenceIdeal.nD Cert.DownDx0ReferenceIdeal.τ).loc Cert.DownDx0ReferenceIdeal.main_arg0)
          ∧ r.2.mem ((c.tc : Thread Cert.DownDx0ReferenceIdeal.nD Cert.DownDx0ReferenceIdeal.τ).loc Cert.DownDx0ReferenceIdeal.main_arg1) = m' ((c.tc : Thread Cert.DownDx0ReferenceIdeal.nD Cert.DownDx0ReferenceIdeal.τ).loc Cert.DownDx0ReferenceIdeal.main_arg1))

def preserves_DownDx1_DownDx1Ideal : Prop :=
  True

def algebraic_DownDx1Ideal_DownDx1ReferenceIdeal [hDownDx1Ideal : Cert.DownDx1Ideal.Facts] [hDownDx1ReferenceIdeal : Cert.DownDx1ReferenceIdeal.Facts] : Prop :=
  ∀ (m : (ℓ : Loc Cert.DownDx1Ideal.nD Cert.DownDx1Ideal.τ Cert.DownDx1Ideal.sig) → Buf (Elt Ideal) ℓ) (g : Dev Cert.DownDx1Ideal.nD → PrngReg)
    (m' : (ℓ : Loc Cert.DownDx1ReferenceIdeal.nD Cert.DownDx1ReferenceIdeal.τ Cert.DownDx1ReferenceIdeal.sig) → Buf (Elt Ideal) ℓ) (g' : Dev Cert.DownDx1ReferenceIdeal.nD → PrngReg), Pre_DownDx1Ideal m →
    (∀ c : Dev Cert.DownDx1Ideal.nD,
      m' ((c.tc : Thread Cert.DownDx1ReferenceIdeal.nD Cert.DownDx1ReferenceIdeal.τ).loc Cert.DownDx1ReferenceIdeal.main_arg0) = m ((c.tc : Thread Cert.DownDx1Ideal.nD Cert.DownDx1Ideal.τ).loc Cert.DownDx1Ideal.main_arg0)
      ∧ m' ((c.tc : Thread Cert.DownDx1ReferenceIdeal.nD Cert.DownDx1ReferenceIdeal.τ).loc Cert.DownDx1ReferenceIdeal.main_arg1) = m ((c.tc : Thread Cert.DownDx1Ideal.nD Cert.DownDx1Ideal.τ).loc Cert.DownDx1Ideal.main_arg1)) →
    ∃ (v0 : (c : Dev Cert.DownDx1Ideal.nD) → Buf (Elt Ideal) ((c.tc : Thread Cert.DownDx1Ideal.nD Cert.DownDx1Ideal.τ).loc Cert.DownDx1Ideal.main_v0)),
      θ_run (Cert.DownDx1Ideal.defs (F := Ideal)) (onTc (τ := Cert.DownDx1Ideal.τ) (Cert.DownDx1Ideal.main (F := Ideal))) ⟨m, fun _ => 0, g⟩ (fun r => ∀ c : Dev Cert.DownDx1Ideal.nD,
          r.2.mem ((c.tc : Thread Cert.DownDx1Ideal.nD Cert.DownDx1Ideal.τ).loc Cert.DownDx1Ideal.main_v0) = v0 c
          ∧ r.2.mem ((c.tc : Thread Cert.DownDx1Ideal.nD Cert.DownDx1Ideal.τ).loc Cert.DownDx1Ideal.main_arg0) = m ((c.tc : Thread Cert.DownDx1Ideal.nD Cert.DownDx1Ideal.τ).loc Cert.DownDx1Ideal.main_arg0)
          ∧ r.2.mem ((c.tc : Thread Cert.DownDx1Ideal.nD Cert.DownDx1Ideal.τ).loc Cert.DownDx1Ideal.main_arg1) = m ((c.tc : Thread Cert.DownDx1Ideal.nD Cert.DownDx1Ideal.τ).loc Cert.DownDx1Ideal.main_arg1))
      ∧ θ_run (Cert.DownDx1ReferenceIdeal.defs (F := Ideal)) (onTc (τ := Cert.DownDx1ReferenceIdeal.τ) (Cert.DownDx1ReferenceIdeal.main (F := Ideal))) ⟨m', fun _ => 0, g'⟩ (fun r => ∀ c : Dev Cert.DownDx1ReferenceIdeal.nD,
          r.2.mem ((c.tc : Thread Cert.DownDx1ReferenceIdeal.nD Cert.DownDx1ReferenceIdeal.τ).loc Cert.DownDx1ReferenceIdeal.main_v5) = v0 c
          ∧ r.2.mem ((c.tc : Thread Cert.DownDx1ReferenceIdeal.nD Cert.DownDx1ReferenceIdeal.τ).loc Cert.DownDx1ReferenceIdeal.main_arg0) = m' ((c.tc : Thread Cert.DownDx1ReferenceIdeal.nD Cert.DownDx1ReferenceIdeal.τ).loc Cert.DownDx1ReferenceIdeal.main_arg0)
          ∧ r.2.mem ((c.tc : Thread Cert.DownDx1ReferenceIdeal.nD Cert.DownDx1ReferenceIdeal.τ).loc Cert.DownDx1ReferenceIdeal.main_arg1) = m' ((c.tc : Thread Cert.DownDx1ReferenceIdeal.nD Cert.DownDx1ReferenceIdeal.τ).loc Cert.DownDx1ReferenceIdeal.main_arg1))

def preserves_DownDx2_DownDx2Ideal : Prop :=
  True

def algebraic_DownDx2Ideal_DownDx2ReferenceIdeal [hDownDx2Ideal : Cert.DownDx2Ideal.Facts] [hDownDx2ReferenceIdeal : Cert.DownDx2ReferenceIdeal.Facts] : Prop :=
  ∀ (m : (ℓ : Loc Cert.DownDx2Ideal.nD Cert.DownDx2Ideal.τ Cert.DownDx2Ideal.sig) → Buf (Elt Ideal) ℓ) (g : Dev Cert.DownDx2Ideal.nD → PrngReg)
    (m' : (ℓ : Loc Cert.DownDx2ReferenceIdeal.nD Cert.DownDx2ReferenceIdeal.τ Cert.DownDx2ReferenceIdeal.sig) → Buf (Elt Ideal) ℓ) (g' : Dev Cert.DownDx2ReferenceIdeal.nD → PrngReg), Pre_DownDx2Ideal m →
    (∀ c : Dev Cert.DownDx2Ideal.nD,
      m' ((c.tc : Thread Cert.DownDx2ReferenceIdeal.nD Cert.DownDx2ReferenceIdeal.τ).loc Cert.DownDx2ReferenceIdeal.main_arg0) = m ((c.tc : Thread Cert.DownDx2Ideal.nD Cert.DownDx2Ideal.τ).loc Cert.DownDx2Ideal.main_arg0)
      ∧ m' ((c.tc : Thread Cert.DownDx2ReferenceIdeal.nD Cert.DownDx2ReferenceIdeal.τ).loc Cert.DownDx2ReferenceIdeal.main_arg1) = m ((c.tc : Thread Cert.DownDx2Ideal.nD Cert.DownDx2Ideal.τ).loc Cert.DownDx2Ideal.main_arg1)) →
    ∃ (v0 : (c : Dev Cert.DownDx2Ideal.nD) → Buf (Elt Ideal) ((c.tc : Thread Cert.DownDx2Ideal.nD Cert.DownDx2Ideal.τ).loc Cert.DownDx2Ideal.main_v0)),
      θ_run (Cert.DownDx2Ideal.defs (F := Ideal)) (onTc (τ := Cert.DownDx2Ideal.τ) (Cert.DownDx2Ideal.main (F := Ideal))) ⟨m, fun _ => 0, g⟩ (fun r => ∀ c : Dev Cert.DownDx2Ideal.nD,
          r.2.mem ((c.tc : Thread Cert.DownDx2Ideal.nD Cert.DownDx2Ideal.τ).loc Cert.DownDx2Ideal.main_v0) = v0 c
          ∧ r.2.mem ((c.tc : Thread Cert.DownDx2Ideal.nD Cert.DownDx2Ideal.τ).loc Cert.DownDx2Ideal.main_arg0) = m ((c.tc : Thread Cert.DownDx2Ideal.nD Cert.DownDx2Ideal.τ).loc Cert.DownDx2Ideal.main_arg0)
          ∧ r.2.mem ((c.tc : Thread Cert.DownDx2Ideal.nD Cert.DownDx2Ideal.τ).loc Cert.DownDx2Ideal.main_arg1) = m ((c.tc : Thread Cert.DownDx2Ideal.nD Cert.DownDx2Ideal.τ).loc Cert.DownDx2Ideal.main_arg1))
      ∧ θ_run (Cert.DownDx2ReferenceIdeal.defs (F := Ideal)) (onTc (τ := Cert.DownDx2ReferenceIdeal.τ) (Cert.DownDx2ReferenceIdeal.main (F := Ideal))) ⟨m', fun _ => 0, g'⟩ (fun r => ∀ c : Dev Cert.DownDx2ReferenceIdeal.nD,
          r.2.mem ((c.tc : Thread Cert.DownDx2ReferenceIdeal.nD Cert.DownDx2ReferenceIdeal.τ).loc Cert.DownDx2ReferenceIdeal.main_v5) = v0 c
          ∧ r.2.mem ((c.tc : Thread Cert.DownDx2ReferenceIdeal.nD Cert.DownDx2ReferenceIdeal.τ).loc Cert.DownDx2ReferenceIdeal.main_arg0) = m' ((c.tc : Thread Cert.DownDx2ReferenceIdeal.nD Cert.DownDx2ReferenceIdeal.τ).loc Cert.DownDx2ReferenceIdeal.main_arg0)
          ∧ r.2.mem ((c.tc : Thread Cert.DownDx2ReferenceIdeal.nD Cert.DownDx2ReferenceIdeal.τ).loc Cert.DownDx2ReferenceIdeal.main_arg1) = m' ((c.tc : Thread Cert.DownDx2ReferenceIdeal.nD Cert.DownDx2ReferenceIdeal.τ).loc Cert.DownDx2ReferenceIdeal.main_arg1))

def preserves_DownDx3_DownDx3Ideal : Prop :=
  True

def algebraic_DownDx3Ideal_DownDx3ReferenceIdeal [hDownDx3Ideal : Cert.DownDx3Ideal.Facts] [hDownDx3ReferenceIdeal : Cert.DownDx3ReferenceIdeal.Facts] : Prop :=
  ∀ (m : (ℓ : Loc Cert.DownDx3Ideal.nD Cert.DownDx3Ideal.τ Cert.DownDx3Ideal.sig) → Buf (Elt Ideal) ℓ) (g : Dev Cert.DownDx3Ideal.nD → PrngReg)
    (m' : (ℓ : Loc Cert.DownDx3ReferenceIdeal.nD Cert.DownDx3ReferenceIdeal.τ Cert.DownDx3ReferenceIdeal.sig) → Buf (Elt Ideal) ℓ) (g' : Dev Cert.DownDx3ReferenceIdeal.nD → PrngReg), Pre_DownDx3Ideal m →
    (∀ c : Dev Cert.DownDx3Ideal.nD,
      m' ((c.tc : Thread Cert.DownDx3ReferenceIdeal.nD Cert.DownDx3ReferenceIdeal.τ).loc Cert.DownDx3ReferenceIdeal.main_arg0) = m ((c.tc : Thread Cert.DownDx3Ideal.nD Cert.DownDx3Ideal.τ).loc Cert.DownDx3Ideal.main_arg0)
      ∧ m' ((c.tc : Thread Cert.DownDx3ReferenceIdeal.nD Cert.DownDx3ReferenceIdeal.τ).loc Cert.DownDx3ReferenceIdeal.main_arg1) = m ((c.tc : Thread Cert.DownDx3Ideal.nD Cert.DownDx3Ideal.τ).loc Cert.DownDx3Ideal.main_arg1)) →
    ∃ (v0 : (c : Dev Cert.DownDx3Ideal.nD) → Buf (Elt Ideal) ((c.tc : Thread Cert.DownDx3Ideal.nD Cert.DownDx3Ideal.τ).loc Cert.DownDx3Ideal.main_v0)),
      θ_run (Cert.DownDx3Ideal.defs (F := Ideal)) (onTc (τ := Cert.DownDx3Ideal.τ) (Cert.DownDx3Ideal.main (F := Ideal))) ⟨m, fun _ => 0, g⟩ (fun r => ∀ c : Dev Cert.DownDx3Ideal.nD,
          r.2.mem ((c.tc : Thread Cert.DownDx3Ideal.nD Cert.DownDx3Ideal.τ).loc Cert.DownDx3Ideal.main_v0) = v0 c
          ∧ r.2.mem ((c.tc : Thread Cert.DownDx3Ideal.nD Cert.DownDx3Ideal.τ).loc Cert.DownDx3Ideal.main_arg0) = m ((c.tc : Thread Cert.DownDx3Ideal.nD Cert.DownDx3Ideal.τ).loc Cert.DownDx3Ideal.main_arg0)
          ∧ r.2.mem ((c.tc : Thread Cert.DownDx3Ideal.nD Cert.DownDx3Ideal.τ).loc Cert.DownDx3Ideal.main_arg1) = m ((c.tc : Thread Cert.DownDx3Ideal.nD Cert.DownDx3Ideal.τ).loc Cert.DownDx3Ideal.main_arg1))
      ∧ θ_run (Cert.DownDx3ReferenceIdeal.defs (F := Ideal)) (onTc (τ := Cert.DownDx3ReferenceIdeal.τ) (Cert.DownDx3ReferenceIdeal.main (F := Ideal))) ⟨m', fun _ => 0, g'⟩ (fun r => ∀ c : Dev Cert.DownDx3ReferenceIdeal.nD,
          r.2.mem ((c.tc : Thread Cert.DownDx3ReferenceIdeal.nD Cert.DownDx3ReferenceIdeal.τ).loc Cert.DownDx3ReferenceIdeal.main_v5) = v0 c
          ∧ r.2.mem ((c.tc : Thread Cert.DownDx3ReferenceIdeal.nD Cert.DownDx3ReferenceIdeal.τ).loc Cert.DownDx3ReferenceIdeal.main_arg0) = m' ((c.tc : Thread Cert.DownDx3ReferenceIdeal.nD Cert.DownDx3ReferenceIdeal.τ).loc Cert.DownDx3ReferenceIdeal.main_arg0)
          ∧ r.2.mem ((c.tc : Thread Cert.DownDx3ReferenceIdeal.nD Cert.DownDx3ReferenceIdeal.τ).loc Cert.DownDx3ReferenceIdeal.main_arg1) = m' ((c.tc : Thread Cert.DownDx3ReferenceIdeal.nD Cert.DownDx3ReferenceIdeal.τ).loc Cert.DownDx3ReferenceIdeal.main_arg1))

def preserves_HgrnOutDx0_HgrnOutDx0Ideal : Prop :=
  True

def algebraic_HgrnOutDx0Ideal_HgrnOutDx0ReferenceIdeal [hHgrnOutDx0Ideal : Cert.HgrnOutDx0Ideal.Facts] [hHgrnOutDx0ReferenceIdeal : Cert.HgrnOutDx0ReferenceIdeal.Facts] : Prop :=
  ∀ (m : (ℓ : Loc Cert.HgrnOutDx0Ideal.nD Cert.HgrnOutDx0Ideal.τ Cert.HgrnOutDx0Ideal.sig) → Buf (Elt Ideal) ℓ) (g : Dev Cert.HgrnOutDx0Ideal.nD → PrngReg)
    (m' : (ℓ : Loc Cert.HgrnOutDx0ReferenceIdeal.nD Cert.HgrnOutDx0ReferenceIdeal.τ Cert.HgrnOutDx0ReferenceIdeal.sig) → Buf (Elt Ideal) ℓ) (g' : Dev Cert.HgrnOutDx0ReferenceIdeal.nD → PrngReg), Pre_HgrnOutDx0Ideal m →
    (∀ c : Dev Cert.HgrnOutDx0Ideal.nD,
      m' ((c.tc : Thread Cert.HgrnOutDx0ReferenceIdeal.nD Cert.HgrnOutDx0ReferenceIdeal.τ).loc Cert.HgrnOutDx0ReferenceIdeal.main_arg0) = m ((c.tc : Thread Cert.HgrnOutDx0Ideal.nD Cert.HgrnOutDx0Ideal.τ).loc Cert.HgrnOutDx0Ideal.main_arg0)
      ∧ m' ((c.tc : Thread Cert.HgrnOutDx0ReferenceIdeal.nD Cert.HgrnOutDx0ReferenceIdeal.τ).loc Cert.HgrnOutDx0ReferenceIdeal.main_arg1) = m ((c.tc : Thread Cert.HgrnOutDx0Ideal.nD Cert.HgrnOutDx0Ideal.τ).loc Cert.HgrnOutDx0Ideal.main_arg1)) →
    ∃ (v0 : (c : Dev Cert.HgrnOutDx0Ideal.nD) → Buf (Elt Ideal) ((c.tc : Thread Cert.HgrnOutDx0Ideal.nD Cert.HgrnOutDx0Ideal.τ).loc Cert.HgrnOutDx0Ideal.main_v0)),
      θ_run (Cert.HgrnOutDx0Ideal.defs (F := Ideal)) (onTc (τ := Cert.HgrnOutDx0Ideal.τ) (Cert.HgrnOutDx0Ideal.main (F := Ideal))) ⟨m, fun _ => 0, g⟩ (fun r => ∀ c : Dev Cert.HgrnOutDx0Ideal.nD,
          r.2.mem ((c.tc : Thread Cert.HgrnOutDx0Ideal.nD Cert.HgrnOutDx0Ideal.τ).loc Cert.HgrnOutDx0Ideal.main_v0) = v0 c
          ∧ r.2.mem ((c.tc : Thread Cert.HgrnOutDx0Ideal.nD Cert.HgrnOutDx0Ideal.τ).loc Cert.HgrnOutDx0Ideal.main_arg0) = m ((c.tc : Thread Cert.HgrnOutDx0Ideal.nD Cert.HgrnOutDx0Ideal.τ).loc Cert.HgrnOutDx0Ideal.main_arg0)
          ∧ r.2.mem ((c.tc : Thread Cert.HgrnOutDx0Ideal.nD Cert.HgrnOutDx0Ideal.τ).loc Cert.HgrnOutDx0Ideal.main_arg1) = m ((c.tc : Thread Cert.HgrnOutDx0Ideal.nD Cert.HgrnOutDx0Ideal.τ).loc Cert.HgrnOutDx0Ideal.main_arg1))
      ∧ θ_run (Cert.HgrnOutDx0ReferenceIdeal.defs (F := Ideal)) (onTc (τ := Cert.HgrnOutDx0ReferenceIdeal.τ) (Cert.HgrnOutDx0ReferenceIdeal.main (F := Ideal))) ⟨m', fun _ => 0, g'⟩ (fun r => ∀ c : Dev Cert.HgrnOutDx0ReferenceIdeal.nD,
          r.2.mem ((c.tc : Thread Cert.HgrnOutDx0ReferenceIdeal.nD Cert.HgrnOutDx0ReferenceIdeal.τ).loc Cert.HgrnOutDx0ReferenceIdeal.main_v5) = v0 c
          ∧ r.2.mem ((c.tc : Thread Cert.HgrnOutDx0ReferenceIdeal.nD Cert.HgrnOutDx0ReferenceIdeal.τ).loc Cert.HgrnOutDx0ReferenceIdeal.main_arg0) = m' ((c.tc : Thread Cert.HgrnOutDx0ReferenceIdeal.nD Cert.HgrnOutDx0ReferenceIdeal.τ).loc Cert.HgrnOutDx0ReferenceIdeal.main_arg0)
          ∧ r.2.mem ((c.tc : Thread Cert.HgrnOutDx0ReferenceIdeal.nD Cert.HgrnOutDx0ReferenceIdeal.τ).loc Cert.HgrnOutDx0ReferenceIdeal.main_arg1) = m' ((c.tc : Thread Cert.HgrnOutDx0ReferenceIdeal.nD Cert.HgrnOutDx0ReferenceIdeal.τ).loc Cert.HgrnOutDx0ReferenceIdeal.main_arg1))

def preserves_HgrnOutDx1_HgrnOutDx1Ideal : Prop :=
  True

def algebraic_HgrnOutDx1Ideal_HgrnOutDx1ReferenceIdeal [hHgrnOutDx1Ideal : Cert.HgrnOutDx1Ideal.Facts] [hHgrnOutDx1ReferenceIdeal : Cert.HgrnOutDx1ReferenceIdeal.Facts] : Prop :=
  ∀ (m : (ℓ : Loc Cert.HgrnOutDx1Ideal.nD Cert.HgrnOutDx1Ideal.τ Cert.HgrnOutDx1Ideal.sig) → Buf (Elt Ideal) ℓ) (g : Dev Cert.HgrnOutDx1Ideal.nD → PrngReg)
    (m' : (ℓ : Loc Cert.HgrnOutDx1ReferenceIdeal.nD Cert.HgrnOutDx1ReferenceIdeal.τ Cert.HgrnOutDx1ReferenceIdeal.sig) → Buf (Elt Ideal) ℓ) (g' : Dev Cert.HgrnOutDx1ReferenceIdeal.nD → PrngReg), Pre_HgrnOutDx1Ideal m →
    (∀ c : Dev Cert.HgrnOutDx1Ideal.nD,
      m' ((c.tc : Thread Cert.HgrnOutDx1ReferenceIdeal.nD Cert.HgrnOutDx1ReferenceIdeal.τ).loc Cert.HgrnOutDx1ReferenceIdeal.main_arg0) = m ((c.tc : Thread Cert.HgrnOutDx1Ideal.nD Cert.HgrnOutDx1Ideal.τ).loc Cert.HgrnOutDx1Ideal.main_arg0)
      ∧ m' ((c.tc : Thread Cert.HgrnOutDx1ReferenceIdeal.nD Cert.HgrnOutDx1ReferenceIdeal.τ).loc Cert.HgrnOutDx1ReferenceIdeal.main_arg1) = m ((c.tc : Thread Cert.HgrnOutDx1Ideal.nD Cert.HgrnOutDx1Ideal.τ).loc Cert.HgrnOutDx1Ideal.main_arg1)) →
    ∃ (v0 : (c : Dev Cert.HgrnOutDx1Ideal.nD) → Buf (Elt Ideal) ((c.tc : Thread Cert.HgrnOutDx1Ideal.nD Cert.HgrnOutDx1Ideal.τ).loc Cert.HgrnOutDx1Ideal.main_v0)),
      θ_run (Cert.HgrnOutDx1Ideal.defs (F := Ideal)) (onTc (τ := Cert.HgrnOutDx1Ideal.τ) (Cert.HgrnOutDx1Ideal.main (F := Ideal))) ⟨m, fun _ => 0, g⟩ (fun r => ∀ c : Dev Cert.HgrnOutDx1Ideal.nD,
          r.2.mem ((c.tc : Thread Cert.HgrnOutDx1Ideal.nD Cert.HgrnOutDx1Ideal.τ).loc Cert.HgrnOutDx1Ideal.main_v0) = v0 c
          ∧ r.2.mem ((c.tc : Thread Cert.HgrnOutDx1Ideal.nD Cert.HgrnOutDx1Ideal.τ).loc Cert.HgrnOutDx1Ideal.main_arg0) = m ((c.tc : Thread Cert.HgrnOutDx1Ideal.nD Cert.HgrnOutDx1Ideal.τ).loc Cert.HgrnOutDx1Ideal.main_arg0)
          ∧ r.2.mem ((c.tc : Thread Cert.HgrnOutDx1Ideal.nD Cert.HgrnOutDx1Ideal.τ).loc Cert.HgrnOutDx1Ideal.main_arg1) = m ((c.tc : Thread Cert.HgrnOutDx1Ideal.nD Cert.HgrnOutDx1Ideal.τ).loc Cert.HgrnOutDx1Ideal.main_arg1))
      ∧ θ_run (Cert.HgrnOutDx1ReferenceIdeal.defs (F := Ideal)) (onTc (τ := Cert.HgrnOutDx1ReferenceIdeal.τ) (Cert.HgrnOutDx1ReferenceIdeal.main (F := Ideal))) ⟨m', fun _ => 0, g'⟩ (fun r => ∀ c : Dev Cert.HgrnOutDx1ReferenceIdeal.nD,
          r.2.mem ((c.tc : Thread Cert.HgrnOutDx1ReferenceIdeal.nD Cert.HgrnOutDx1ReferenceIdeal.τ).loc Cert.HgrnOutDx1ReferenceIdeal.main_v5) = v0 c
          ∧ r.2.mem ((c.tc : Thread Cert.HgrnOutDx1ReferenceIdeal.nD Cert.HgrnOutDx1ReferenceIdeal.τ).loc Cert.HgrnOutDx1ReferenceIdeal.main_arg0) = m' ((c.tc : Thread Cert.HgrnOutDx1ReferenceIdeal.nD Cert.HgrnOutDx1ReferenceIdeal.τ).loc Cert.HgrnOutDx1ReferenceIdeal.main_arg0)
          ∧ r.2.mem ((c.tc : Thread Cert.HgrnOutDx1ReferenceIdeal.nD Cert.HgrnOutDx1ReferenceIdeal.τ).loc Cert.HgrnOutDx1ReferenceIdeal.main_arg1) = m' ((c.tc : Thread Cert.HgrnOutDx1ReferenceIdeal.nD Cert.HgrnOutDx1ReferenceIdeal.τ).loc Cert.HgrnOutDx1ReferenceIdeal.main_arg1))

def preserves_AttnOutDx0_AttnOutDx0Ideal : Prop :=
  True

def algebraic_AttnOutDx0Ideal_AttnOutDx0ReferenceIdeal [hAttnOutDx0Ideal : Cert.AttnOutDx0Ideal.Facts] [hAttnOutDx0ReferenceIdeal : Cert.AttnOutDx0ReferenceIdeal.Facts] : Prop :=
  ∀ (m : (ℓ : Loc Cert.AttnOutDx0Ideal.nD Cert.AttnOutDx0Ideal.τ Cert.AttnOutDx0Ideal.sig) → Buf (Elt Ideal) ℓ) (g : Dev Cert.AttnOutDx0Ideal.nD → PrngReg)
    (m' : (ℓ : Loc Cert.AttnOutDx0ReferenceIdeal.nD Cert.AttnOutDx0ReferenceIdeal.τ Cert.AttnOutDx0ReferenceIdeal.sig) → Buf (Elt Ideal) ℓ) (g' : Dev Cert.AttnOutDx0ReferenceIdeal.nD → PrngReg), Pre_AttnOutDx0Ideal m →
    (∀ c : Dev Cert.AttnOutDx0Ideal.nD,
      m' ((c.tc : Thread Cert.AttnOutDx0ReferenceIdeal.nD Cert.AttnOutDx0ReferenceIdeal.τ).loc Cert.AttnOutDx0ReferenceIdeal.main_arg0) = m ((c.tc : Thread Cert.AttnOutDx0Ideal.nD Cert.AttnOutDx0Ideal.τ).loc Cert.AttnOutDx0Ideal.main_arg0)
      ∧ m' ((c.tc : Thread Cert.AttnOutDx0ReferenceIdeal.nD Cert.AttnOutDx0ReferenceIdeal.τ).loc Cert.AttnOutDx0ReferenceIdeal.main_arg1) = m ((c.tc : Thread Cert.AttnOutDx0Ideal.nD Cert.AttnOutDx0Ideal.τ).loc Cert.AttnOutDx0Ideal.main_arg1)) →
    ∃ (v0 : (c : Dev Cert.AttnOutDx0Ideal.nD) → Buf (Elt Ideal) ((c.tc : Thread Cert.AttnOutDx0Ideal.nD Cert.AttnOutDx0Ideal.τ).loc Cert.AttnOutDx0Ideal.main_v0)),
      θ_run (Cert.AttnOutDx0Ideal.defs (F := Ideal)) (onTc (τ := Cert.AttnOutDx0Ideal.τ) (Cert.AttnOutDx0Ideal.main (F := Ideal))) ⟨m, fun _ => 0, g⟩ (fun r => ∀ c : Dev Cert.AttnOutDx0Ideal.nD,
          r.2.mem ((c.tc : Thread Cert.AttnOutDx0Ideal.nD Cert.AttnOutDx0Ideal.τ).loc Cert.AttnOutDx0Ideal.main_v0) = v0 c
          ∧ r.2.mem ((c.tc : Thread Cert.AttnOutDx0Ideal.nD Cert.AttnOutDx0Ideal.τ).loc Cert.AttnOutDx0Ideal.main_arg0) = m ((c.tc : Thread Cert.AttnOutDx0Ideal.nD Cert.AttnOutDx0Ideal.τ).loc Cert.AttnOutDx0Ideal.main_arg0)
          ∧ r.2.mem ((c.tc : Thread Cert.AttnOutDx0Ideal.nD Cert.AttnOutDx0Ideal.τ).loc Cert.AttnOutDx0Ideal.main_arg1) = m ((c.tc : Thread Cert.AttnOutDx0Ideal.nD Cert.AttnOutDx0Ideal.τ).loc Cert.AttnOutDx0Ideal.main_arg1))
      ∧ θ_run (Cert.AttnOutDx0ReferenceIdeal.defs (F := Ideal)) (onTc (τ := Cert.AttnOutDx0ReferenceIdeal.τ) (Cert.AttnOutDx0ReferenceIdeal.main (F := Ideal))) ⟨m', fun _ => 0, g'⟩ (fun r => ∀ c : Dev Cert.AttnOutDx0ReferenceIdeal.nD,
          r.2.mem ((c.tc : Thread Cert.AttnOutDx0ReferenceIdeal.nD Cert.AttnOutDx0ReferenceIdeal.τ).loc Cert.AttnOutDx0ReferenceIdeal.main_v6) = v0 c
          ∧ r.2.mem ((c.tc : Thread Cert.AttnOutDx0ReferenceIdeal.nD Cert.AttnOutDx0ReferenceIdeal.τ).loc Cert.AttnOutDx0ReferenceIdeal.main_arg0) = m' ((c.tc : Thread Cert.AttnOutDx0ReferenceIdeal.nD Cert.AttnOutDx0ReferenceIdeal.τ).loc Cert.AttnOutDx0ReferenceIdeal.main_arg0)
          ∧ r.2.mem ((c.tc : Thread Cert.AttnOutDx0ReferenceIdeal.nD Cert.AttnOutDx0ReferenceIdeal.τ).loc Cert.AttnOutDx0ReferenceIdeal.main_arg1) = m' ((c.tc : Thread Cert.AttnOutDx0ReferenceIdeal.nD Cert.AttnOutDx0ReferenceIdeal.τ).loc Cert.AttnOutDx0ReferenceIdeal.main_arg1))

def preserves_AttnOutDx1_AttnOutDx1Ideal : Prop :=
  True

def algebraic_AttnOutDx1Ideal_AttnOutDx1ReferenceIdeal [hAttnOutDx1Ideal : Cert.AttnOutDx1Ideal.Facts] [hAttnOutDx1ReferenceIdeal : Cert.AttnOutDx1ReferenceIdeal.Facts] : Prop :=
  ∀ (m : (ℓ : Loc Cert.AttnOutDx1Ideal.nD Cert.AttnOutDx1Ideal.τ Cert.AttnOutDx1Ideal.sig) → Buf (Elt Ideal) ℓ) (g : Dev Cert.AttnOutDx1Ideal.nD → PrngReg)
    (m' : (ℓ : Loc Cert.AttnOutDx1ReferenceIdeal.nD Cert.AttnOutDx1ReferenceIdeal.τ Cert.AttnOutDx1ReferenceIdeal.sig) → Buf (Elt Ideal) ℓ) (g' : Dev Cert.AttnOutDx1ReferenceIdeal.nD → PrngReg), Pre_AttnOutDx1Ideal m →
    (∀ c : Dev Cert.AttnOutDx1Ideal.nD,
      m' ((c.tc : Thread Cert.AttnOutDx1ReferenceIdeal.nD Cert.AttnOutDx1ReferenceIdeal.τ).loc Cert.AttnOutDx1ReferenceIdeal.main_arg0) = m ((c.tc : Thread Cert.AttnOutDx1Ideal.nD Cert.AttnOutDx1Ideal.τ).loc Cert.AttnOutDx1Ideal.main_arg0)
      ∧ m' ((c.tc : Thread Cert.AttnOutDx1ReferenceIdeal.nD Cert.AttnOutDx1ReferenceIdeal.τ).loc Cert.AttnOutDx1ReferenceIdeal.main_arg1) = m ((c.tc : Thread Cert.AttnOutDx1Ideal.nD Cert.AttnOutDx1Ideal.τ).loc Cert.AttnOutDx1Ideal.main_arg1)) →
    ∃ (v0 : (c : Dev Cert.AttnOutDx1Ideal.nD) → Buf (Elt Ideal) ((c.tc : Thread Cert.AttnOutDx1Ideal.nD Cert.AttnOutDx1Ideal.τ).loc Cert.AttnOutDx1Ideal.main_v0)),
      θ_run (Cert.AttnOutDx1Ideal.defs (F := Ideal)) (onTc (τ := Cert.AttnOutDx1Ideal.τ) (Cert.AttnOutDx1Ideal.main (F := Ideal))) ⟨m, fun _ => 0, g⟩ (fun r => ∀ c : Dev Cert.AttnOutDx1Ideal.nD,
          r.2.mem ((c.tc : Thread Cert.AttnOutDx1Ideal.nD Cert.AttnOutDx1Ideal.τ).loc Cert.AttnOutDx1Ideal.main_v0) = v0 c
          ∧ r.2.mem ((c.tc : Thread Cert.AttnOutDx1Ideal.nD Cert.AttnOutDx1Ideal.τ).loc Cert.AttnOutDx1Ideal.main_arg0) = m ((c.tc : Thread Cert.AttnOutDx1Ideal.nD Cert.AttnOutDx1Ideal.τ).loc Cert.AttnOutDx1Ideal.main_arg0)
          ∧ r.2.mem ((c.tc : Thread Cert.AttnOutDx1Ideal.nD Cert.AttnOutDx1Ideal.τ).loc Cert.AttnOutDx1Ideal.main_arg1) = m ((c.tc : Thread Cert.AttnOutDx1Ideal.nD Cert.AttnOutDx1Ideal.τ).loc Cert.AttnOutDx1Ideal.main_arg1))
      ∧ θ_run (Cert.AttnOutDx1ReferenceIdeal.defs (F := Ideal)) (onTc (τ := Cert.AttnOutDx1ReferenceIdeal.τ) (Cert.AttnOutDx1ReferenceIdeal.main (F := Ideal))) ⟨m', fun _ => 0, g'⟩ (fun r => ∀ c : Dev Cert.AttnOutDx1ReferenceIdeal.nD,
          r.2.mem ((c.tc : Thread Cert.AttnOutDx1ReferenceIdeal.nD Cert.AttnOutDx1ReferenceIdeal.τ).loc Cert.AttnOutDx1ReferenceIdeal.main_v6) = v0 c
          ∧ r.2.mem ((c.tc : Thread Cert.AttnOutDx1ReferenceIdeal.nD Cert.AttnOutDx1ReferenceIdeal.τ).loc Cert.AttnOutDx1ReferenceIdeal.main_arg0) = m' ((c.tc : Thread Cert.AttnOutDx1ReferenceIdeal.nD Cert.AttnOutDx1ReferenceIdeal.τ).loc Cert.AttnOutDx1ReferenceIdeal.main_arg0)
          ∧ r.2.mem ((c.tc : Thread Cert.AttnOutDx1ReferenceIdeal.nD Cert.AttnOutDx1ReferenceIdeal.τ).loc Cert.AttnOutDx1ReferenceIdeal.main_arg1) = m' ((c.tc : Thread Cert.AttnOutDx1ReferenceIdeal.nD Cert.AttnOutDx1ReferenceIdeal.τ).loc Cert.AttnOutDx1ReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v9) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v6) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_AttnInDw_AttnInDwIdeal : Prop :=
  True

def algebraic_AttnInDwIdeal_AttnInDwReferenceIdeal [hAttnInDwIdeal : Cert.AttnInDwIdeal.Facts] [hAttnInDwReferenceIdeal : Cert.AttnInDwReferenceIdeal.Facts] : Prop :=
  ∀ (m : (ℓ : Loc Cert.AttnInDwIdeal.nD Cert.AttnInDwIdeal.τ Cert.AttnInDwIdeal.sig) → Buf (Elt Ideal) ℓ) (g : Dev Cert.AttnInDwIdeal.nD → PrngReg)
    (m' : (ℓ : Loc Cert.AttnInDwReferenceIdeal.nD Cert.AttnInDwReferenceIdeal.τ Cert.AttnInDwReferenceIdeal.sig) → Buf (Elt Ideal) ℓ) (g' : Dev Cert.AttnInDwReferenceIdeal.nD → PrngReg), Pre_AttnInDwIdeal m →
    (∀ c : Dev Cert.AttnInDwIdeal.nD,
      m' ((c.tc : Thread Cert.AttnInDwReferenceIdeal.nD Cert.AttnInDwReferenceIdeal.τ).loc Cert.AttnInDwReferenceIdeal.main_arg0) = m ((c.tc : Thread Cert.AttnInDwIdeal.nD Cert.AttnInDwIdeal.τ).loc Cert.AttnInDwIdeal.main_arg0)
      ∧ m' ((c.tc : Thread Cert.AttnInDwReferenceIdeal.nD Cert.AttnInDwReferenceIdeal.τ).loc Cert.AttnInDwReferenceIdeal.main_arg1) = m ((c.tc : Thread Cert.AttnInDwIdeal.nD Cert.AttnInDwIdeal.τ).loc Cert.AttnInDwIdeal.main_arg1)) →
    ∃ (v0 : (c : Dev Cert.AttnInDwIdeal.nD) → Buf (Elt Ideal) ((c.tc : Thread Cert.AttnInDwIdeal.nD Cert.AttnInDwIdeal.τ).loc Cert.AttnInDwIdeal.main_v0)),
      θ_run (Cert.AttnInDwIdeal.defs (F := Ideal)) (onTc (τ := Cert.AttnInDwIdeal.τ) (Cert.AttnInDwIdeal.main (F := Ideal))) ⟨m, fun _ => 0, g⟩ (fun r => ∀ c : Dev Cert.AttnInDwIdeal.nD,
          r.2.mem ((c.tc : Thread Cert.AttnInDwIdeal.nD Cert.AttnInDwIdeal.τ).loc Cert.AttnInDwIdeal.main_v0) = v0 c
          ∧ r.2.mem ((c.tc : Thread Cert.AttnInDwIdeal.nD Cert.AttnInDwIdeal.τ).loc Cert.AttnInDwIdeal.main_arg0) = m ((c.tc : Thread Cert.AttnInDwIdeal.nD Cert.AttnInDwIdeal.τ).loc Cert.AttnInDwIdeal.main_arg0)
          ∧ r.2.mem ((c.tc : Thread Cert.AttnInDwIdeal.nD Cert.AttnInDwIdeal.τ).loc Cert.AttnInDwIdeal.main_arg1) = m ((c.tc : Thread Cert.AttnInDwIdeal.nD Cert.AttnInDwIdeal.τ).loc Cert.AttnInDwIdeal.main_arg1))
      ∧ θ_run (Cert.AttnInDwReferenceIdeal.defs (F := Ideal)) (onTc (τ := Cert.AttnInDwReferenceIdeal.τ) (Cert.AttnInDwReferenceIdeal.main (F := Ideal))) ⟨m', fun _ => 0, g'⟩ (fun r => ∀ c : Dev Cert.AttnInDwReferenceIdeal.nD,
          r.2.mem ((c.tc : Thread Cert.AttnInDwReferenceIdeal.nD Cert.AttnInDwReferenceIdeal.τ).loc Cert.AttnInDwReferenceIdeal.main_v7) = v0 c
          ∧ r.2.mem ((c.tc : Thread Cert.AttnInDwReferenceIdeal.nD Cert.AttnInDwReferenceIdeal.τ).loc Cert.AttnInDwReferenceIdeal.main_arg0) = m' ((c.tc : Thread Cert.AttnInDwReferenceIdeal.nD Cert.AttnInDwReferenceIdeal.τ).loc Cert.AttnInDwReferenceIdeal.main_arg0)
          ∧ r.2.mem ((c.tc : Thread Cert.AttnInDwReferenceIdeal.nD Cert.AttnInDwReferenceIdeal.τ).loc Cert.AttnInDwReferenceIdeal.main_arg1) = m' ((c.tc : Thread Cert.AttnInDwReferenceIdeal.nD Cert.AttnInDwReferenceIdeal.τ).loc Cert.AttnInDwReferenceIdeal.main_arg1))

def preserves_HgrnInDw_HgrnInDwIdeal : Prop :=
  True

def algebraic_HgrnInDwIdeal_HgrnInDwReferenceIdeal [hHgrnInDwIdeal : Cert.HgrnInDwIdeal.Facts] [hHgrnInDwReferenceIdeal : Cert.HgrnInDwReferenceIdeal.Facts] : Prop :=
  ∀ (m : (ℓ : Loc Cert.HgrnInDwIdeal.nD Cert.HgrnInDwIdeal.τ Cert.HgrnInDwIdeal.sig) → Buf (Elt Ideal) ℓ) (g : Dev Cert.HgrnInDwIdeal.nD → PrngReg)
    (m' : (ℓ : Loc Cert.HgrnInDwReferenceIdeal.nD Cert.HgrnInDwReferenceIdeal.τ Cert.HgrnInDwReferenceIdeal.sig) → Buf (Elt Ideal) ℓ) (g' : Dev Cert.HgrnInDwReferenceIdeal.nD → PrngReg), Pre_HgrnInDwIdeal m →
    (∀ c : Dev Cert.HgrnInDwIdeal.nD,
      m' ((c.tc : Thread Cert.HgrnInDwReferenceIdeal.nD Cert.HgrnInDwReferenceIdeal.τ).loc Cert.HgrnInDwReferenceIdeal.main_arg0) = m ((c.tc : Thread Cert.HgrnInDwIdeal.nD Cert.HgrnInDwIdeal.τ).loc Cert.HgrnInDwIdeal.main_arg0)
      ∧ m' ((c.tc : Thread Cert.HgrnInDwReferenceIdeal.nD Cert.HgrnInDwReferenceIdeal.τ).loc Cert.HgrnInDwReferenceIdeal.main_arg1) = m ((c.tc : Thread Cert.HgrnInDwIdeal.nD Cert.HgrnInDwIdeal.τ).loc Cert.HgrnInDwIdeal.main_arg1)) →
    ∃ (v0 : (c : Dev Cert.HgrnInDwIdeal.nD) → Buf (Elt Ideal) ((c.tc : Thread Cert.HgrnInDwIdeal.nD Cert.HgrnInDwIdeal.τ).loc Cert.HgrnInDwIdeal.main_v0)),
      θ_run (Cert.HgrnInDwIdeal.defs (F := Ideal)) (onTc (τ := Cert.HgrnInDwIdeal.τ) (Cert.HgrnInDwIdeal.main (F := Ideal))) ⟨m, fun _ => 0, g⟩ (fun r => ∀ c : Dev Cert.HgrnInDwIdeal.nD,
          r.2.mem ((c.tc : Thread Cert.HgrnInDwIdeal.nD Cert.HgrnInDwIdeal.τ).loc Cert.HgrnInDwIdeal.main_v0) = v0 c
          ∧ r.2.mem ((c.tc : Thread Cert.HgrnInDwIdeal.nD Cert.HgrnInDwIdeal.τ).loc Cert.HgrnInDwIdeal.main_arg0) = m ((c.tc : Thread Cert.HgrnInDwIdeal.nD Cert.HgrnInDwIdeal.τ).loc Cert.HgrnInDwIdeal.main_arg0)
          ∧ r.2.mem ((c.tc : Thread Cert.HgrnInDwIdeal.nD Cert.HgrnInDwIdeal.τ).loc Cert.HgrnInDwIdeal.main_arg1) = m ((c.tc : Thread Cert.HgrnInDwIdeal.nD Cert.HgrnInDwIdeal.τ).loc Cert.HgrnInDwIdeal.main_arg1))
      ∧ θ_run (Cert.HgrnInDwReferenceIdeal.defs (F := Ideal)) (onTc (τ := Cert.HgrnInDwReferenceIdeal.τ) (Cert.HgrnInDwReferenceIdeal.main (F := Ideal))) ⟨m', fun _ => 0, g'⟩ (fun r => ∀ c : Dev Cert.HgrnInDwReferenceIdeal.nD,
          r.2.mem ((c.tc : Thread Cert.HgrnInDwReferenceIdeal.nD Cert.HgrnInDwReferenceIdeal.τ).loc Cert.HgrnInDwReferenceIdeal.main_v7) = v0 c
          ∧ r.2.mem ((c.tc : Thread Cert.HgrnInDwReferenceIdeal.nD Cert.HgrnInDwReferenceIdeal.τ).loc Cert.HgrnInDwReferenceIdeal.main_arg0) = m' ((c.tc : Thread Cert.HgrnInDwReferenceIdeal.nD Cert.HgrnInDwReferenceIdeal.τ).loc Cert.HgrnInDwReferenceIdeal.main_arg0)
          ∧ r.2.mem ((c.tc : Thread Cert.HgrnInDwReferenceIdeal.nD Cert.HgrnInDwReferenceIdeal.τ).loc Cert.HgrnInDwReferenceIdeal.main_arg1) = m' ((c.tc : Thread Cert.HgrnInDwReferenceIdeal.nD Cert.HgrnInDwReferenceIdeal.τ).loc Cert.HgrnInDwReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v5) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_UpDx0_UpDx0Ideal : Prop :=
  True

def algebraic_UpDx0Ideal_UpDx0ReferenceIdeal [hUpDx0Ideal : Cert.UpDx0Ideal.Facts] [hUpDx0ReferenceIdeal : Cert.UpDx0ReferenceIdeal.Facts] : Prop :=
  ∀ (m : (ℓ : Loc Cert.UpDx0Ideal.nD Cert.UpDx0Ideal.τ Cert.UpDx0Ideal.sig) → Buf (Elt Ideal) ℓ) (g : Dev Cert.UpDx0Ideal.nD → PrngReg)
    (m' : (ℓ : Loc Cert.UpDx0ReferenceIdeal.nD Cert.UpDx0ReferenceIdeal.τ Cert.UpDx0ReferenceIdeal.sig) → Buf (Elt Ideal) ℓ) (g' : Dev Cert.UpDx0ReferenceIdeal.nD → PrngReg), Pre_UpDx0Ideal m →
    (∀ c : Dev Cert.UpDx0Ideal.nD,
      m' ((c.tc : Thread Cert.UpDx0ReferenceIdeal.nD Cert.UpDx0ReferenceIdeal.τ).loc Cert.UpDx0ReferenceIdeal.main_arg0) = m ((c.tc : Thread Cert.UpDx0Ideal.nD Cert.UpDx0Ideal.τ).loc Cert.UpDx0Ideal.main_arg0)
      ∧ m' ((c.tc : Thread Cert.UpDx0ReferenceIdeal.nD Cert.UpDx0ReferenceIdeal.τ).loc Cert.UpDx0ReferenceIdeal.main_arg1) = m ((c.tc : Thread Cert.UpDx0Ideal.nD Cert.UpDx0Ideal.τ).loc Cert.UpDx0Ideal.main_arg1)
      ∧ m' ((c.tc : Thread Cert.UpDx0ReferenceIdeal.nD Cert.UpDx0ReferenceIdeal.τ).loc Cert.UpDx0ReferenceIdeal.main_arg2) = m ((c.tc : Thread Cert.UpDx0Ideal.nD Cert.UpDx0Ideal.τ).loc Cert.UpDx0Ideal.main_arg2)
      ∧ m' ((c.tc : Thread Cert.UpDx0ReferenceIdeal.nD Cert.UpDx0ReferenceIdeal.τ).loc Cert.UpDx0ReferenceIdeal.main_arg3) = m ((c.tc : Thread Cert.UpDx0Ideal.nD Cert.UpDx0Ideal.τ).loc Cert.UpDx0Ideal.main_arg3)
      ∧ m' ((c.tc : Thread Cert.UpDx0ReferenceIdeal.nD Cert.UpDx0ReferenceIdeal.τ).loc Cert.UpDx0ReferenceIdeal.main_arg4) = m ((c.tc : Thread Cert.UpDx0Ideal.nD Cert.UpDx0Ideal.τ).loc Cert.UpDx0Ideal.main_arg4)) →
    ∃ (v0 : (c : Dev Cert.UpDx0Ideal.nD) → Buf (Elt Ideal) ((c.tc : Thread Cert.UpDx0Ideal.nD Cert.UpDx0Ideal.τ).loc Cert.UpDx0Ideal.main_v0_0)) (v1 : (c : Dev Cert.UpDx0Ideal.nD) → Buf (Elt Ideal) ((c.tc : Thread Cert.UpDx0Ideal.nD Cert.UpDx0Ideal.τ).loc Cert.UpDx0Ideal.main_v0_1)),
      θ_run (Cert.UpDx0Ideal.defs (F := Ideal)) (onTc (τ := Cert.UpDx0Ideal.τ) (Cert.UpDx0Ideal.main (F := Ideal))) ⟨m, fun _ => 0, g⟩ (fun r => ∀ c : Dev Cert.UpDx0Ideal.nD,
          r.2.mem ((c.tc : Thread Cert.UpDx0Ideal.nD Cert.UpDx0Ideal.τ).loc Cert.UpDx0Ideal.main_v0_0) = v0 c
          ∧ r.2.mem ((c.tc : Thread Cert.UpDx0Ideal.nD Cert.UpDx0Ideal.τ).loc Cert.UpDx0Ideal.main_v0_1) = v1 c
          ∧ r.2.mem ((c.tc : Thread Cert.UpDx0Ideal.nD Cert.UpDx0Ideal.τ).loc Cert.UpDx0Ideal.main_arg0) = m ((c.tc : Thread Cert.UpDx0Ideal.nD Cert.UpDx0Ideal.τ).loc Cert.UpDx0Ideal.main_arg0)
          ∧ r.2.mem ((c.tc : Thread Cert.UpDx0Ideal.nD Cert.UpDx0Ideal.τ).loc Cert.UpDx0Ideal.main_arg1) = m ((c.tc : Thread Cert.UpDx0Ideal.nD Cert.UpDx0Ideal.τ).loc Cert.UpDx0Ideal.main_arg1)
          ∧ r.2.mem ((c.tc : Thread Cert.UpDx0Ideal.nD Cert.UpDx0Ideal.τ).loc Cert.UpDx0Ideal.main_arg2) = m ((c.tc : Thread Cert.UpDx0Ideal.nD Cert.UpDx0Ideal.τ).loc Cert.UpDx0Ideal.main_arg2)
          ∧ r.2.mem ((c.tc : Thread Cert.UpDx0Ideal.nD Cert.UpDx0Ideal.τ).loc Cert.UpDx0Ideal.main_arg3) = m ((c.tc : Thread Cert.UpDx0Ideal.nD Cert.UpDx0Ideal.τ).loc Cert.UpDx0Ideal.main_arg3)
          ∧ r.2.mem ((c.tc : Thread Cert.UpDx0Ideal.nD Cert.UpDx0Ideal.τ).loc Cert.UpDx0Ideal.main_arg4) = m ((c.tc : Thread Cert.UpDx0Ideal.nD Cert.UpDx0Ideal.τ).loc Cert.UpDx0Ideal.main_arg4))
      ∧ θ_run (Cert.UpDx0ReferenceIdeal.defs (F := Ideal)) (onTc (τ := Cert.UpDx0ReferenceIdeal.τ) (Cert.UpDx0ReferenceIdeal.main (F := Ideal))) ⟨m', fun _ => 0, g'⟩ (fun r => ∀ c : Dev Cert.UpDx0ReferenceIdeal.nD,
          r.2.mem ((c.tc : Thread Cert.UpDx0ReferenceIdeal.nD Cert.UpDx0ReferenceIdeal.τ).loc Cert.UpDx0ReferenceIdeal.main_v44) = v0 c
          ∧ r.2.mem ((c.tc : Thread Cert.UpDx0ReferenceIdeal.nD Cert.UpDx0ReferenceIdeal.τ).loc Cert.UpDx0ReferenceIdeal.main_v27) = v1 c
          ∧ r.2.mem ((c.tc : Thread Cert.UpDx0ReferenceIdeal.nD Cert.UpDx0ReferenceIdeal.τ).loc Cert.UpDx0ReferenceIdeal.main_arg0) = m' ((c.tc : Thread Cert.UpDx0ReferenceIdeal.nD Cert.UpDx0ReferenceIdeal.τ).loc Cert.UpDx0ReferenceIdeal.main_arg0)
          ∧ r.2.mem ((c.tc : Thread Cert.UpDx0ReferenceIdeal.nD Cert.UpDx0ReferenceIdeal.τ).loc Cert.UpDx0ReferenceIdeal.main_arg1) = m' ((c.tc : Thread Cert.UpDx0ReferenceIdeal.nD Cert.UpDx0ReferenceIdeal.τ).loc Cert.UpDx0ReferenceIdeal.main_arg1)
          ∧ r.2.mem ((c.tc : Thread Cert.UpDx0ReferenceIdeal.nD Cert.UpDx0ReferenceIdeal.τ).loc Cert.UpDx0ReferenceIdeal.main_arg2) = m' ((c.tc : Thread Cert.UpDx0ReferenceIdeal.nD Cert.UpDx0ReferenceIdeal.τ).loc Cert.UpDx0ReferenceIdeal.main_arg2)
          ∧ r.2.mem ((c.tc : Thread Cert.UpDx0ReferenceIdeal.nD Cert.UpDx0ReferenceIdeal.τ).loc Cert.UpDx0ReferenceIdeal.main_arg3) = m' ((c.tc : Thread Cert.UpDx0ReferenceIdeal.nD Cert.UpDx0ReferenceIdeal.τ).loc Cert.UpDx0ReferenceIdeal.main_arg3)
          ∧ r.2.mem ((c.tc : Thread Cert.UpDx0ReferenceIdeal.nD Cert.UpDx0ReferenceIdeal.τ).loc Cert.UpDx0ReferenceIdeal.main_arg4) = m' ((c.tc : Thread Cert.UpDx0ReferenceIdeal.nD Cert.UpDx0ReferenceIdeal.τ).loc Cert.UpDx0ReferenceIdeal.main_arg4))

def preserves_UpDx1_UpDx1Ideal : Prop :=
  True

def algebraic_UpDx1Ideal_UpDx1ReferenceIdeal [hUpDx1Ideal : Cert.UpDx1Ideal.Facts] [hUpDx1ReferenceIdeal : Cert.UpDx1ReferenceIdeal.Facts] : Prop :=
  ∀ (m : (ℓ : Loc Cert.UpDx1Ideal.nD Cert.UpDx1Ideal.τ Cert.UpDx1Ideal.sig) → Buf (Elt Ideal) ℓ) (g : Dev Cert.UpDx1Ideal.nD → PrngReg)
    (m' : (ℓ : Loc Cert.UpDx1ReferenceIdeal.nD Cert.UpDx1ReferenceIdeal.τ Cert.UpDx1ReferenceIdeal.sig) → Buf (Elt Ideal) ℓ) (g' : Dev Cert.UpDx1ReferenceIdeal.nD → PrngReg), Pre_UpDx1Ideal m →
    (∀ c : Dev Cert.UpDx1Ideal.nD,
      m' ((c.tc : Thread Cert.UpDx1ReferenceIdeal.nD Cert.UpDx1ReferenceIdeal.τ).loc Cert.UpDx1ReferenceIdeal.main_arg0) = m ((c.tc : Thread Cert.UpDx1Ideal.nD Cert.UpDx1Ideal.τ).loc Cert.UpDx1Ideal.main_arg0)
      ∧ m' ((c.tc : Thread Cert.UpDx1ReferenceIdeal.nD Cert.UpDx1ReferenceIdeal.τ).loc Cert.UpDx1ReferenceIdeal.main_arg1) = m ((c.tc : Thread Cert.UpDx1Ideal.nD Cert.UpDx1Ideal.τ).loc Cert.UpDx1Ideal.main_arg1)
      ∧ m' ((c.tc : Thread Cert.UpDx1ReferenceIdeal.nD Cert.UpDx1ReferenceIdeal.τ).loc Cert.UpDx1ReferenceIdeal.main_arg2) = m ((c.tc : Thread Cert.UpDx1Ideal.nD Cert.UpDx1Ideal.τ).loc Cert.UpDx1Ideal.main_arg2)
      ∧ m' ((c.tc : Thread Cert.UpDx1ReferenceIdeal.nD Cert.UpDx1ReferenceIdeal.τ).loc Cert.UpDx1ReferenceIdeal.main_arg3) = m ((c.tc : Thread Cert.UpDx1Ideal.nD Cert.UpDx1Ideal.τ).loc Cert.UpDx1Ideal.main_arg3)
      ∧ m' ((c.tc : Thread Cert.UpDx1ReferenceIdeal.nD Cert.UpDx1ReferenceIdeal.τ).loc Cert.UpDx1ReferenceIdeal.main_arg4) = m ((c.tc : Thread Cert.UpDx1Ideal.nD Cert.UpDx1Ideal.τ).loc Cert.UpDx1Ideal.main_arg4)) →
    ∃ (v0 : (c : Dev Cert.UpDx1Ideal.nD) → Buf (Elt Ideal) ((c.tc : Thread Cert.UpDx1Ideal.nD Cert.UpDx1Ideal.τ).loc Cert.UpDx1Ideal.main_v0_0)) (v1 : (c : Dev Cert.UpDx1Ideal.nD) → Buf (Elt Ideal) ((c.tc : Thread Cert.UpDx1Ideal.nD Cert.UpDx1Ideal.τ).loc Cert.UpDx1Ideal.main_v0_1)),
      θ_run (Cert.UpDx1Ideal.defs (F := Ideal)) (onTc (τ := Cert.UpDx1Ideal.τ) (Cert.UpDx1Ideal.main (F := Ideal))) ⟨m, fun _ => 0, g⟩ (fun r => ∀ c : Dev Cert.UpDx1Ideal.nD,
          r.2.mem ((c.tc : Thread Cert.UpDx1Ideal.nD Cert.UpDx1Ideal.τ).loc Cert.UpDx1Ideal.main_v0_0) = v0 c
          ∧ r.2.mem ((c.tc : Thread Cert.UpDx1Ideal.nD Cert.UpDx1Ideal.τ).loc Cert.UpDx1Ideal.main_v0_1) = v1 c
          ∧ r.2.mem ((c.tc : Thread Cert.UpDx1Ideal.nD Cert.UpDx1Ideal.τ).loc Cert.UpDx1Ideal.main_arg0) = m ((c.tc : Thread Cert.UpDx1Ideal.nD Cert.UpDx1Ideal.τ).loc Cert.UpDx1Ideal.main_arg0)
          ∧ r.2.mem ((c.tc : Thread Cert.UpDx1Ideal.nD Cert.UpDx1Ideal.τ).loc Cert.UpDx1Ideal.main_arg1) = m ((c.tc : Thread Cert.UpDx1Ideal.nD Cert.UpDx1Ideal.τ).loc Cert.UpDx1Ideal.main_arg1)
          ∧ r.2.mem ((c.tc : Thread Cert.UpDx1Ideal.nD Cert.UpDx1Ideal.τ).loc Cert.UpDx1Ideal.main_arg2) = m ((c.tc : Thread Cert.UpDx1Ideal.nD Cert.UpDx1Ideal.τ).loc Cert.UpDx1Ideal.main_arg2)
          ∧ r.2.mem ((c.tc : Thread Cert.UpDx1Ideal.nD Cert.UpDx1Ideal.τ).loc Cert.UpDx1Ideal.main_arg3) = m ((c.tc : Thread Cert.UpDx1Ideal.nD Cert.UpDx1Ideal.τ).loc Cert.UpDx1Ideal.main_arg3)
          ∧ r.2.mem ((c.tc : Thread Cert.UpDx1Ideal.nD Cert.UpDx1Ideal.τ).loc Cert.UpDx1Ideal.main_arg4) = m ((c.tc : Thread Cert.UpDx1Ideal.nD Cert.UpDx1Ideal.τ).loc Cert.UpDx1Ideal.main_arg4))
      ∧ θ_run (Cert.UpDx1ReferenceIdeal.defs (F := Ideal)) (onTc (τ := Cert.UpDx1ReferenceIdeal.τ) (Cert.UpDx1ReferenceIdeal.main (F := Ideal))) ⟨m', fun _ => 0, g'⟩ (fun r => ∀ c : Dev Cert.UpDx1ReferenceIdeal.nD,
          r.2.mem ((c.tc : Thread Cert.UpDx1ReferenceIdeal.nD Cert.UpDx1ReferenceIdeal.τ).loc Cert.UpDx1ReferenceIdeal.main_v44) = v0 c
          ∧ r.2.mem ((c.tc : Thread Cert.UpDx1ReferenceIdeal.nD Cert.UpDx1ReferenceIdeal.τ).loc Cert.UpDx1ReferenceIdeal.main_v27) = v1 c
          ∧ r.2.mem ((c.tc : Thread Cert.UpDx1ReferenceIdeal.nD Cert.UpDx1ReferenceIdeal.τ).loc Cert.UpDx1ReferenceIdeal.main_arg0) = m' ((c.tc : Thread Cert.UpDx1ReferenceIdeal.nD Cert.UpDx1ReferenceIdeal.τ).loc Cert.UpDx1ReferenceIdeal.main_arg0)
          ∧ r.2.mem ((c.tc : Thread Cert.UpDx1ReferenceIdeal.nD Cert.UpDx1ReferenceIdeal.τ).loc Cert.UpDx1ReferenceIdeal.main_arg1) = m' ((c.tc : Thread Cert.UpDx1ReferenceIdeal.nD Cert.UpDx1ReferenceIdeal.τ).loc Cert.UpDx1ReferenceIdeal.main_arg1)
          ∧ r.2.mem ((c.tc : Thread Cert.UpDx1ReferenceIdeal.nD Cert.UpDx1ReferenceIdeal.τ).loc Cert.UpDx1ReferenceIdeal.main_arg2) = m' ((c.tc : Thread Cert.UpDx1ReferenceIdeal.nD Cert.UpDx1ReferenceIdeal.τ).loc Cert.UpDx1ReferenceIdeal.main_arg2)
          ∧ r.2.mem ((c.tc : Thread Cert.UpDx1ReferenceIdeal.nD Cert.UpDx1ReferenceIdeal.τ).loc Cert.UpDx1ReferenceIdeal.main_arg3) = m' ((c.tc : Thread Cert.UpDx1ReferenceIdeal.nD Cert.UpDx1ReferenceIdeal.τ).loc Cert.UpDx1ReferenceIdeal.main_arg3)
          ∧ r.2.mem ((c.tc : Thread Cert.UpDx1ReferenceIdeal.nD Cert.UpDx1ReferenceIdeal.τ).loc Cert.UpDx1ReferenceIdeal.main_arg4) = m' ((c.tc : Thread Cert.UpDx1ReferenceIdeal.nD Cert.UpDx1ReferenceIdeal.τ).loc Cert.UpDx1ReferenceIdeal.main_arg4))

def preserves_UpDx2_UpDx2Ideal : Prop :=
  True

def algebraic_UpDx2Ideal_UpDx2ReferenceIdeal [hUpDx2Ideal : Cert.UpDx2Ideal.Facts] [hUpDx2ReferenceIdeal : Cert.UpDx2ReferenceIdeal.Facts] : Prop :=
  ∀ (m : (ℓ : Loc Cert.UpDx2Ideal.nD Cert.UpDx2Ideal.τ Cert.UpDx2Ideal.sig) → Buf (Elt Ideal) ℓ) (g : Dev Cert.UpDx2Ideal.nD → PrngReg)
    (m' : (ℓ : Loc Cert.UpDx2ReferenceIdeal.nD Cert.UpDx2ReferenceIdeal.τ Cert.UpDx2ReferenceIdeal.sig) → Buf (Elt Ideal) ℓ) (g' : Dev Cert.UpDx2ReferenceIdeal.nD → PrngReg), Pre_UpDx2Ideal m →
    (∀ c : Dev Cert.UpDx2Ideal.nD,
      m' ((c.tc : Thread Cert.UpDx2ReferenceIdeal.nD Cert.UpDx2ReferenceIdeal.τ).loc Cert.UpDx2ReferenceIdeal.main_arg0) = m ((c.tc : Thread Cert.UpDx2Ideal.nD Cert.UpDx2Ideal.τ).loc Cert.UpDx2Ideal.main_arg0)
      ∧ m' ((c.tc : Thread Cert.UpDx2ReferenceIdeal.nD Cert.UpDx2ReferenceIdeal.τ).loc Cert.UpDx2ReferenceIdeal.main_arg1) = m ((c.tc : Thread Cert.UpDx2Ideal.nD Cert.UpDx2Ideal.τ).loc Cert.UpDx2Ideal.main_arg1)
      ∧ m' ((c.tc : Thread Cert.UpDx2ReferenceIdeal.nD Cert.UpDx2ReferenceIdeal.τ).loc Cert.UpDx2ReferenceIdeal.main_arg2) = m ((c.tc : Thread Cert.UpDx2Ideal.nD Cert.UpDx2Ideal.τ).loc Cert.UpDx2Ideal.main_arg2)
      ∧ m' ((c.tc : Thread Cert.UpDx2ReferenceIdeal.nD Cert.UpDx2ReferenceIdeal.τ).loc Cert.UpDx2ReferenceIdeal.main_arg3) = m ((c.tc : Thread Cert.UpDx2Ideal.nD Cert.UpDx2Ideal.τ).loc Cert.UpDx2Ideal.main_arg3)
      ∧ m' ((c.tc : Thread Cert.UpDx2ReferenceIdeal.nD Cert.UpDx2ReferenceIdeal.τ).loc Cert.UpDx2ReferenceIdeal.main_arg4) = m ((c.tc : Thread Cert.UpDx2Ideal.nD Cert.UpDx2Ideal.τ).loc Cert.UpDx2Ideal.main_arg4)) →
    ∃ (v0 : (c : Dev Cert.UpDx2Ideal.nD) → Buf (Elt Ideal) ((c.tc : Thread Cert.UpDx2Ideal.nD Cert.UpDx2Ideal.τ).loc Cert.UpDx2Ideal.main_v0_0)) (v1 : (c : Dev Cert.UpDx2Ideal.nD) → Buf (Elt Ideal) ((c.tc : Thread Cert.UpDx2Ideal.nD Cert.UpDx2Ideal.τ).loc Cert.UpDx2Ideal.main_v0_1)),
      θ_run (Cert.UpDx2Ideal.defs (F := Ideal)) (onTc (τ := Cert.UpDx2Ideal.τ) (Cert.UpDx2Ideal.main (F := Ideal))) ⟨m, fun _ => 0, g⟩ (fun r => ∀ c : Dev Cert.UpDx2Ideal.nD,
          r.2.mem ((c.tc : Thread Cert.UpDx2Ideal.nD Cert.UpDx2Ideal.τ).loc Cert.UpDx2Ideal.main_v0_0) = v0 c
          ∧ r.2.mem ((c.tc : Thread Cert.UpDx2Ideal.nD Cert.UpDx2Ideal.τ).loc Cert.UpDx2Ideal.main_v0_1) = v1 c
          ∧ r.2.mem ((c.tc : Thread Cert.UpDx2Ideal.nD Cert.UpDx2Ideal.τ).loc Cert.UpDx2Ideal.main_arg0) = m ((c.tc : Thread Cert.UpDx2Ideal.nD Cert.UpDx2Ideal.τ).loc Cert.UpDx2Ideal.main_arg0)
          ∧ r.2.mem ((c.tc : Thread Cert.UpDx2Ideal.nD Cert.UpDx2Ideal.τ).loc Cert.UpDx2Ideal.main_arg1) = m ((c.tc : Thread Cert.UpDx2Ideal.nD Cert.UpDx2Ideal.τ).loc Cert.UpDx2Ideal.main_arg1)
          ∧ r.2.mem ((c.tc : Thread Cert.UpDx2Ideal.nD Cert.UpDx2Ideal.τ).loc Cert.UpDx2Ideal.main_arg2) = m ((c.tc : Thread Cert.UpDx2Ideal.nD Cert.UpDx2Ideal.τ).loc Cert.UpDx2Ideal.main_arg2)
          ∧ r.2.mem ((c.tc : Thread Cert.UpDx2Ideal.nD Cert.UpDx2Ideal.τ).loc Cert.UpDx2Ideal.main_arg3) = m ((c.tc : Thread Cert.UpDx2Ideal.nD Cert.UpDx2Ideal.τ).loc Cert.UpDx2Ideal.main_arg3)
          ∧ r.2.mem ((c.tc : Thread Cert.UpDx2Ideal.nD Cert.UpDx2Ideal.τ).loc Cert.UpDx2Ideal.main_arg4) = m ((c.tc : Thread Cert.UpDx2Ideal.nD Cert.UpDx2Ideal.τ).loc Cert.UpDx2Ideal.main_arg4))
      ∧ θ_run (Cert.UpDx2ReferenceIdeal.defs (F := Ideal)) (onTc (τ := Cert.UpDx2ReferenceIdeal.τ) (Cert.UpDx2ReferenceIdeal.main (F := Ideal))) ⟨m', fun _ => 0, g'⟩ (fun r => ∀ c : Dev Cert.UpDx2ReferenceIdeal.nD,
          r.2.mem ((c.tc : Thread Cert.UpDx2ReferenceIdeal.nD Cert.UpDx2ReferenceIdeal.τ).loc Cert.UpDx2ReferenceIdeal.main_v44) = v0 c
          ∧ r.2.mem ((c.tc : Thread Cert.UpDx2ReferenceIdeal.nD Cert.UpDx2ReferenceIdeal.τ).loc Cert.UpDx2ReferenceIdeal.main_v27) = v1 c
          ∧ r.2.mem ((c.tc : Thread Cert.UpDx2ReferenceIdeal.nD Cert.UpDx2ReferenceIdeal.τ).loc Cert.UpDx2ReferenceIdeal.main_arg0) = m' ((c.tc : Thread Cert.UpDx2ReferenceIdeal.nD Cert.UpDx2ReferenceIdeal.τ).loc Cert.UpDx2ReferenceIdeal.main_arg0)
          ∧ r.2.mem ((c.tc : Thread Cert.UpDx2ReferenceIdeal.nD Cert.UpDx2ReferenceIdeal.τ).loc Cert.UpDx2ReferenceIdeal.main_arg1) = m' ((c.tc : Thread Cert.UpDx2ReferenceIdeal.nD Cert.UpDx2ReferenceIdeal.τ).loc Cert.UpDx2ReferenceIdeal.main_arg1)
          ∧ r.2.mem ((c.tc : Thread Cert.UpDx2ReferenceIdeal.nD Cert.UpDx2ReferenceIdeal.τ).loc Cert.UpDx2ReferenceIdeal.main_arg2) = m' ((c.tc : Thread Cert.UpDx2ReferenceIdeal.nD Cert.UpDx2ReferenceIdeal.τ).loc Cert.UpDx2ReferenceIdeal.main_arg2)
          ∧ r.2.mem ((c.tc : Thread Cert.UpDx2ReferenceIdeal.nD Cert.UpDx2ReferenceIdeal.τ).loc Cert.UpDx2ReferenceIdeal.main_arg3) = m' ((c.tc : Thread Cert.UpDx2ReferenceIdeal.nD Cert.UpDx2ReferenceIdeal.τ).loc Cert.UpDx2ReferenceIdeal.main_arg3)
          ∧ r.2.mem ((c.tc : Thread Cert.UpDx2ReferenceIdeal.nD Cert.UpDx2ReferenceIdeal.τ).loc Cert.UpDx2ReferenceIdeal.main_arg4) = m' ((c.tc : Thread Cert.UpDx2ReferenceIdeal.nD Cert.UpDx2ReferenceIdeal.τ).loc Cert.UpDx2ReferenceIdeal.main_arg4))

def preserves_UpDx3_UpDx3Ideal : Prop :=
  True

def algebraic_UpDx3Ideal_UpDx3ReferenceIdeal [hUpDx3Ideal : Cert.UpDx3Ideal.Facts] [hUpDx3ReferenceIdeal : Cert.UpDx3ReferenceIdeal.Facts] : Prop :=
  ∀ (m : (ℓ : Loc Cert.UpDx3Ideal.nD Cert.UpDx3Ideal.τ Cert.UpDx3Ideal.sig) → Buf (Elt Ideal) ℓ) (g : Dev Cert.UpDx3Ideal.nD → PrngReg)
    (m' : (ℓ : Loc Cert.UpDx3ReferenceIdeal.nD Cert.UpDx3ReferenceIdeal.τ Cert.UpDx3ReferenceIdeal.sig) → Buf (Elt Ideal) ℓ) (g' : Dev Cert.UpDx3ReferenceIdeal.nD → PrngReg), Pre_UpDx3Ideal m →
    (∀ c : Dev Cert.UpDx3Ideal.nD,
      m' ((c.tc : Thread Cert.UpDx3ReferenceIdeal.nD Cert.UpDx3ReferenceIdeal.τ).loc Cert.UpDx3ReferenceIdeal.main_arg0) = m ((c.tc : Thread Cert.UpDx3Ideal.nD Cert.UpDx3Ideal.τ).loc Cert.UpDx3Ideal.main_arg0)
      ∧ m' ((c.tc : Thread Cert.UpDx3ReferenceIdeal.nD Cert.UpDx3ReferenceIdeal.τ).loc Cert.UpDx3ReferenceIdeal.main_arg1) = m ((c.tc : Thread Cert.UpDx3Ideal.nD Cert.UpDx3Ideal.τ).loc Cert.UpDx3Ideal.main_arg1)
      ∧ m' ((c.tc : Thread Cert.UpDx3ReferenceIdeal.nD Cert.UpDx3ReferenceIdeal.τ).loc Cert.UpDx3ReferenceIdeal.main_arg2) = m ((c.tc : Thread Cert.UpDx3Ideal.nD Cert.UpDx3Ideal.τ).loc Cert.UpDx3Ideal.main_arg2)
      ∧ m' ((c.tc : Thread Cert.UpDx3ReferenceIdeal.nD Cert.UpDx3ReferenceIdeal.τ).loc Cert.UpDx3ReferenceIdeal.main_arg3) = m ((c.tc : Thread Cert.UpDx3Ideal.nD Cert.UpDx3Ideal.τ).loc Cert.UpDx3Ideal.main_arg3)
      ∧ m' ((c.tc : Thread Cert.UpDx3ReferenceIdeal.nD Cert.UpDx3ReferenceIdeal.τ).loc Cert.UpDx3ReferenceIdeal.main_arg4) = m ((c.tc : Thread Cert.UpDx3Ideal.nD Cert.UpDx3Ideal.τ).loc Cert.UpDx3Ideal.main_arg4)) →
    ∃ (v0 : (c : Dev Cert.UpDx3Ideal.nD) → Buf (Elt Ideal) ((c.tc : Thread Cert.UpDx3Ideal.nD Cert.UpDx3Ideal.τ).loc Cert.UpDx3Ideal.main_v0_0)) (v1 : (c : Dev Cert.UpDx3Ideal.nD) → Buf (Elt Ideal) ((c.tc : Thread Cert.UpDx3Ideal.nD Cert.UpDx3Ideal.τ).loc Cert.UpDx3Ideal.main_v0_1)),
      θ_run (Cert.UpDx3Ideal.defs (F := Ideal)) (onTc (τ := Cert.UpDx3Ideal.τ) (Cert.UpDx3Ideal.main (F := Ideal))) ⟨m, fun _ => 0, g⟩ (fun r => ∀ c : Dev Cert.UpDx3Ideal.nD,
          r.2.mem ((c.tc : Thread Cert.UpDx3Ideal.nD Cert.UpDx3Ideal.τ).loc Cert.UpDx3Ideal.main_v0_0) = v0 c
          ∧ r.2.mem ((c.tc : Thread Cert.UpDx3Ideal.nD Cert.UpDx3Ideal.τ).loc Cert.UpDx3Ideal.main_v0_1) = v1 c
          ∧ r.2.mem ((c.tc : Thread Cert.UpDx3Ideal.nD Cert.UpDx3Ideal.τ).loc Cert.UpDx3Ideal.main_arg0) = m ((c.tc : Thread Cert.UpDx3Ideal.nD Cert.UpDx3Ideal.τ).loc Cert.UpDx3Ideal.main_arg0)
          ∧ r.2.mem ((c.tc : Thread Cert.UpDx3Ideal.nD Cert.UpDx3Ideal.τ).loc Cert.UpDx3Ideal.main_arg1) = m ((c.tc : Thread Cert.UpDx3Ideal.nD Cert.UpDx3Ideal.τ).loc Cert.UpDx3Ideal.main_arg1)
          ∧ r.2.mem ((c.tc : Thread Cert.UpDx3Ideal.nD Cert.UpDx3Ideal.τ).loc Cert.UpDx3Ideal.main_arg2) = m ((c.tc : Thread Cert.UpDx3Ideal.nD Cert.UpDx3Ideal.τ).loc Cert.UpDx3Ideal.main_arg2)
          ∧ r.2.mem ((c.tc : Thread Cert.UpDx3Ideal.nD Cert.UpDx3Ideal.τ).loc Cert.UpDx3Ideal.main_arg3) = m ((c.tc : Thread Cert.UpDx3Ideal.nD Cert.UpDx3Ideal.τ).loc Cert.UpDx3Ideal.main_arg3)
          ∧ r.2.mem ((c.tc : Thread Cert.UpDx3Ideal.nD Cert.UpDx3Ideal.τ).loc Cert.UpDx3Ideal.main_arg4) = m ((c.tc : Thread Cert.UpDx3Ideal.nD Cert.UpDx3Ideal.τ).loc Cert.UpDx3Ideal.main_arg4))
      ∧ θ_run (Cert.UpDx3ReferenceIdeal.defs (F := Ideal)) (onTc (τ := Cert.UpDx3ReferenceIdeal.τ) (Cert.UpDx3ReferenceIdeal.main (F := Ideal))) ⟨m', fun _ => 0, g'⟩ (fun r => ∀ c : Dev Cert.UpDx3ReferenceIdeal.nD,
          r.2.mem ((c.tc : Thread Cert.UpDx3ReferenceIdeal.nD Cert.UpDx3ReferenceIdeal.τ).loc Cert.UpDx3ReferenceIdeal.main_v44) = v0 c
          ∧ r.2.mem ((c.tc : Thread Cert.UpDx3ReferenceIdeal.nD Cert.UpDx3ReferenceIdeal.τ).loc Cert.UpDx3ReferenceIdeal.main_v27) = v1 c
          ∧ r.2.mem ((c.tc : Thread Cert.UpDx3ReferenceIdeal.nD Cert.UpDx3ReferenceIdeal.τ).loc Cert.UpDx3ReferenceIdeal.main_arg0) = m' ((c.tc : Thread Cert.UpDx3ReferenceIdeal.nD Cert.UpDx3ReferenceIdeal.τ).loc Cert.UpDx3ReferenceIdeal.main_arg0)
          ∧ r.2.mem ((c.tc : Thread Cert.UpDx3ReferenceIdeal.nD Cert.UpDx3ReferenceIdeal.τ).loc Cert.UpDx3ReferenceIdeal.main_arg1) = m' ((c.tc : Thread Cert.UpDx3ReferenceIdeal.nD Cert.UpDx3ReferenceIdeal.τ).loc Cert.UpDx3ReferenceIdeal.main_arg1)
          ∧ r.2.mem ((c.tc : Thread Cert.UpDx3ReferenceIdeal.nD Cert.UpDx3ReferenceIdeal.τ).loc Cert.UpDx3ReferenceIdeal.main_arg2) = m' ((c.tc : Thread Cert.UpDx3ReferenceIdeal.nD Cert.UpDx3ReferenceIdeal.τ).loc Cert.UpDx3ReferenceIdeal.main_arg2)
          ∧ r.2.mem ((c.tc : Thread Cert.UpDx3ReferenceIdeal.nD Cert.UpDx3ReferenceIdeal.τ).loc Cert.UpDx3ReferenceIdeal.main_arg3) = m' ((c.tc : Thread Cert.UpDx3ReferenceIdeal.nD Cert.UpDx3ReferenceIdeal.τ).loc Cert.UpDx3ReferenceIdeal.main_arg3)
          ∧ r.2.mem ((c.tc : Thread Cert.UpDx3ReferenceIdeal.nD Cert.UpDx3ReferenceIdeal.τ).loc Cert.UpDx3ReferenceIdeal.main_arg4) = m' ((c.tc : Thread Cert.UpDx3ReferenceIdeal.nD Cert.UpDx3ReferenceIdeal.τ).loc Cert.UpDx3ReferenceIdeal.main_arg4))

def preserves_AttnInDx0_AttnInDx0Ideal : Prop :=
  True

def algebraic_AttnInDx0Ideal_AttnInDx0ReferenceIdeal [hAttnInDx0Ideal : Cert.AttnInDx0Ideal.Facts] [hAttnInDx0ReferenceIdeal : Cert.AttnInDx0ReferenceIdeal.Facts] : Prop :=
  ∀ (m : (ℓ : Loc Cert.AttnInDx0Ideal.nD Cert.AttnInDx0Ideal.τ Cert.AttnInDx0Ideal.sig) → Buf (Elt Ideal) ℓ) (g : Dev Cert.AttnInDx0Ideal.nD → PrngReg)
    (m' : (ℓ : Loc Cert.AttnInDx0ReferenceIdeal.nD Cert.AttnInDx0ReferenceIdeal.τ Cert.AttnInDx0ReferenceIdeal.sig) → Buf (Elt Ideal) ℓ) (g' : Dev Cert.AttnInDx0ReferenceIdeal.nD → PrngReg), Pre_AttnInDx0Ideal m →
    (∀ c : Dev Cert.AttnInDx0Ideal.nD,
      m' ((c.tc : Thread Cert.AttnInDx0ReferenceIdeal.nD Cert.AttnInDx0ReferenceIdeal.τ).loc Cert.AttnInDx0ReferenceIdeal.main_arg0) = m ((c.tc : Thread Cert.AttnInDx0Ideal.nD Cert.AttnInDx0Ideal.τ).loc Cert.AttnInDx0Ideal.main_arg0)
      ∧ m' ((c.tc : Thread Cert.AttnInDx0ReferenceIdeal.nD Cert.AttnInDx0ReferenceIdeal.τ).loc Cert.AttnInDx0ReferenceIdeal.main_arg1) = m ((c.tc : Thread Cert.AttnInDx0Ideal.nD Cert.AttnInDx0Ideal.τ).loc Cert.AttnInDx0Ideal.main_arg1)
      ∧ m' ((c.tc : Thread Cert.AttnInDx0ReferenceIdeal.nD Cert.AttnInDx0ReferenceIdeal.τ).loc Cert.AttnInDx0ReferenceIdeal.main_arg2) = m ((c.tc : Thread Cert.AttnInDx0Ideal.nD Cert.AttnInDx0Ideal.τ).loc Cert.AttnInDx0Ideal.main_arg2)
      ∧ m' ((c.tc : Thread Cert.AttnInDx0ReferenceIdeal.nD Cert.AttnInDx0ReferenceIdeal.τ).loc Cert.AttnInDx0ReferenceIdeal.main_arg3) = m ((c.tc : Thread Cert.AttnInDx0Ideal.nD Cert.AttnInDx0Ideal.τ).loc Cert.AttnInDx0Ideal.main_arg3)
      ∧ m' ((c.tc : Thread Cert.AttnInDx0ReferenceIdeal.nD Cert.AttnInDx0ReferenceIdeal.τ).loc Cert.AttnInDx0ReferenceIdeal.main_arg4) = m ((c.tc : Thread Cert.AttnInDx0Ideal.nD Cert.AttnInDx0Ideal.τ).loc Cert.AttnInDx0Ideal.main_arg4)) →
    ∃ (v0 : (c : Dev Cert.AttnInDx0Ideal.nD) → Buf (Elt Ideal) ((c.tc : Thread Cert.AttnInDx0Ideal.nD Cert.AttnInDx0Ideal.τ).loc Cert.AttnInDx0Ideal.main_v0_0)) (v1 : (c : Dev Cert.AttnInDx0Ideal.nD) → Buf (Elt Ideal) ((c.tc : Thread Cert.AttnInDx0Ideal.nD Cert.AttnInDx0Ideal.τ).loc Cert.AttnInDx0Ideal.main_v0_1)),
      θ_run (Cert.AttnInDx0Ideal.defs (F := Ideal)) (onTc (τ := Cert.AttnInDx0Ideal.τ) (Cert.AttnInDx0Ideal.main (F := Ideal))) ⟨m, fun _ => 0, g⟩ (fun r => ∀ c : Dev Cert.AttnInDx0Ideal.nD,
          r.2.mem ((c.tc : Thread Cert.AttnInDx0Ideal.nD Cert.AttnInDx0Ideal.τ).loc Cert.AttnInDx0Ideal.main_v0_0) = v0 c
          ∧ r.2.mem ((c.tc : Thread Cert.AttnInDx0Ideal.nD Cert.AttnInDx0Ideal.τ).loc Cert.AttnInDx0Ideal.main_v0_1) = v1 c
          ∧ r.2.mem ((c.tc : Thread Cert.AttnInDx0Ideal.nD Cert.AttnInDx0Ideal.τ).loc Cert.AttnInDx0Ideal.main_arg0) = m ((c.tc : Thread Cert.AttnInDx0Ideal.nD Cert.AttnInDx0Ideal.τ).loc Cert.AttnInDx0Ideal.main_arg0)
          ∧ r.2.mem ((c.tc : Thread Cert.AttnInDx0Ideal.nD Cert.AttnInDx0Ideal.τ).loc Cert.AttnInDx0Ideal.main_arg1) = m ((c.tc : Thread Cert.AttnInDx0Ideal.nD Cert.AttnInDx0Ideal.τ).loc Cert.AttnInDx0Ideal.main_arg1)
          ∧ r.2.mem ((c.tc : Thread Cert.AttnInDx0Ideal.nD Cert.AttnInDx0Ideal.τ).loc Cert.AttnInDx0Ideal.main_arg2) = m ((c.tc : Thread Cert.AttnInDx0Ideal.nD Cert.AttnInDx0Ideal.τ).loc Cert.AttnInDx0Ideal.main_arg2)
          ∧ r.2.mem ((c.tc : Thread Cert.AttnInDx0Ideal.nD Cert.AttnInDx0Ideal.τ).loc Cert.AttnInDx0Ideal.main_arg3) = m ((c.tc : Thread Cert.AttnInDx0Ideal.nD Cert.AttnInDx0Ideal.τ).loc Cert.AttnInDx0Ideal.main_arg3)
          ∧ r.2.mem ((c.tc : Thread Cert.AttnInDx0Ideal.nD Cert.AttnInDx0Ideal.τ).loc Cert.AttnInDx0Ideal.main_arg4) = m ((c.tc : Thread Cert.AttnInDx0Ideal.nD Cert.AttnInDx0Ideal.τ).loc Cert.AttnInDx0Ideal.main_arg4))
      ∧ θ_run (Cert.AttnInDx0ReferenceIdeal.defs (F := Ideal)) (onTc (τ := Cert.AttnInDx0ReferenceIdeal.τ) (Cert.AttnInDx0ReferenceIdeal.main (F := Ideal))) ⟨m', fun _ => 0, g'⟩ (fun r => ∀ c : Dev Cert.AttnInDx0ReferenceIdeal.nD,
          r.2.mem ((c.tc : Thread Cert.AttnInDx0ReferenceIdeal.nD Cert.AttnInDx0ReferenceIdeal.τ).loc Cert.AttnInDx0ReferenceIdeal.main_v42) = v0 c
          ∧ r.2.mem ((c.tc : Thread Cert.AttnInDx0ReferenceIdeal.nD Cert.AttnInDx0ReferenceIdeal.τ).loc Cert.AttnInDx0ReferenceIdeal.main_v25) = v1 c
          ∧ r.2.mem ((c.tc : Thread Cert.AttnInDx0ReferenceIdeal.nD Cert.AttnInDx0ReferenceIdeal.τ).loc Cert.AttnInDx0ReferenceIdeal.main_arg0) = m' ((c.tc : Thread Cert.AttnInDx0ReferenceIdeal.nD Cert.AttnInDx0ReferenceIdeal.τ).loc Cert.AttnInDx0ReferenceIdeal.main_arg0)
          ∧ r.2.mem ((c.tc : Thread Cert.AttnInDx0ReferenceIdeal.nD Cert.AttnInDx0ReferenceIdeal.τ).loc Cert.AttnInDx0ReferenceIdeal.main_arg1) = m' ((c.tc : Thread Cert.AttnInDx0ReferenceIdeal.nD Cert.AttnInDx0ReferenceIdeal.τ).loc Cert.AttnInDx0ReferenceIdeal.main_arg1)
          ∧ r.2.mem ((c.tc : Thread Cert.AttnInDx0ReferenceIdeal.nD Cert.AttnInDx0ReferenceIdeal.τ).loc Cert.AttnInDx0ReferenceIdeal.main_arg2) = m' ((c.tc : Thread Cert.AttnInDx0ReferenceIdeal.nD Cert.AttnInDx0ReferenceIdeal.τ).loc Cert.AttnInDx0ReferenceIdeal.main_arg2)
          ∧ r.2.mem ((c.tc : Thread Cert.AttnInDx0ReferenceIdeal.nD Cert.AttnInDx0ReferenceIdeal.τ).loc Cert.AttnInDx0ReferenceIdeal.main_arg3) = m' ((c.tc : Thread Cert.AttnInDx0ReferenceIdeal.nD Cert.AttnInDx0ReferenceIdeal.τ).loc Cert.AttnInDx0ReferenceIdeal.main_arg3)
          ∧ r.2.mem ((c.tc : Thread Cert.AttnInDx0ReferenceIdeal.nD Cert.AttnInDx0ReferenceIdeal.τ).loc Cert.AttnInDx0ReferenceIdeal.main_arg4) = m' ((c.tc : Thread Cert.AttnInDx0ReferenceIdeal.nD Cert.AttnInDx0ReferenceIdeal.τ).loc Cert.AttnInDx0ReferenceIdeal.main_arg4))

def preserves_AttnInDx1_AttnInDx1Ideal : Prop :=
  True

def algebraic_AttnInDx1Ideal_AttnInDx1ReferenceIdeal [hAttnInDx1Ideal : Cert.AttnInDx1Ideal.Facts] [hAttnInDx1ReferenceIdeal : Cert.AttnInDx1ReferenceIdeal.Facts] : Prop :=
  ∀ (m : (ℓ : Loc Cert.AttnInDx1Ideal.nD Cert.AttnInDx1Ideal.τ Cert.AttnInDx1Ideal.sig) → Buf (Elt Ideal) ℓ) (g : Dev Cert.AttnInDx1Ideal.nD → PrngReg)
    (m' : (ℓ : Loc Cert.AttnInDx1ReferenceIdeal.nD Cert.AttnInDx1ReferenceIdeal.τ Cert.AttnInDx1ReferenceIdeal.sig) → Buf (Elt Ideal) ℓ) (g' : Dev Cert.AttnInDx1ReferenceIdeal.nD → PrngReg), Pre_AttnInDx1Ideal m →
    (∀ c : Dev Cert.AttnInDx1Ideal.nD,
      m' ((c.tc : Thread Cert.AttnInDx1ReferenceIdeal.nD Cert.AttnInDx1ReferenceIdeal.τ).loc Cert.AttnInDx1ReferenceIdeal.main_arg0) = m ((c.tc : Thread Cert.AttnInDx1Ideal.nD Cert.AttnInDx1Ideal.τ).loc Cert.AttnInDx1Ideal.main_arg0)
      ∧ m' ((c.tc : Thread Cert.AttnInDx1ReferenceIdeal.nD Cert.AttnInDx1ReferenceIdeal.τ).loc Cert.AttnInDx1ReferenceIdeal.main_arg1) = m ((c.tc : Thread Cert.AttnInDx1Ideal.nD Cert.AttnInDx1Ideal.τ).loc Cert.AttnInDx1Ideal.main_arg1)
      ∧ m' ((c.tc : Thread Cert.AttnInDx1ReferenceIdeal.nD Cert.AttnInDx1ReferenceIdeal.τ).loc Cert.AttnInDx1ReferenceIdeal.main_arg2) = m ((c.tc : Thread Cert.AttnInDx1Ideal.nD Cert.AttnInDx1Ideal.τ).loc Cert.AttnInDx1Ideal.main_arg2)
      ∧ m' ((c.tc : Thread Cert.AttnInDx1ReferenceIdeal.nD Cert.AttnInDx1ReferenceIdeal.τ).loc Cert.AttnInDx1ReferenceIdeal.main_arg3) = m ((c.tc : Thread Cert.AttnInDx1Ideal.nD Cert.AttnInDx1Ideal.τ).loc Cert.AttnInDx1Ideal.main_arg3)
      ∧ m' ((c.tc : Thread Cert.AttnInDx1ReferenceIdeal.nD Cert.AttnInDx1ReferenceIdeal.τ).loc Cert.AttnInDx1ReferenceIdeal.main_arg4) = m ((c.tc : Thread Cert.AttnInDx1Ideal.nD Cert.AttnInDx1Ideal.τ).loc Cert.AttnInDx1Ideal.main_arg4)) →
    ∃ (v0 : (c : Dev Cert.AttnInDx1Ideal.nD) → Buf (Elt Ideal) ((c.tc : Thread Cert.AttnInDx1Ideal.nD Cert.AttnInDx1Ideal.τ).loc Cert.AttnInDx1Ideal.main_v0_0)) (v1 : (c : Dev Cert.AttnInDx1Ideal.nD) → Buf (Elt Ideal) ((c.tc : Thread Cert.AttnInDx1Ideal.nD Cert.AttnInDx1Ideal.τ).loc Cert.AttnInDx1Ideal.main_v0_1)),
      θ_run (Cert.AttnInDx1Ideal.defs (F := Ideal)) (onTc (τ := Cert.AttnInDx1Ideal.τ) (Cert.AttnInDx1Ideal.main (F := Ideal))) ⟨m, fun _ => 0, g⟩ (fun r => ∀ c : Dev Cert.AttnInDx1Ideal.nD,
          r.2.mem ((c.tc : Thread Cert.AttnInDx1Ideal.nD Cert.AttnInDx1Ideal.τ).loc Cert.AttnInDx1Ideal.main_v0_0) = v0 c
          ∧ r.2.mem ((c.tc : Thread Cert.AttnInDx1Ideal.nD Cert.AttnInDx1Ideal.τ).loc Cert.AttnInDx1Ideal.main_v0_1) = v1 c
          ∧ r.2.mem ((c.tc : Thread Cert.AttnInDx1Ideal.nD Cert.AttnInDx1Ideal.τ).loc Cert.AttnInDx1Ideal.main_arg0) = m ((c.tc : Thread Cert.AttnInDx1Ideal.nD Cert.AttnInDx1Ideal.τ).loc Cert.AttnInDx1Ideal.main_arg0)
          ∧ r.2.mem ((c.tc : Thread Cert.AttnInDx1Ideal.nD Cert.AttnInDx1Ideal.τ).loc Cert.AttnInDx1Ideal.main_arg1) = m ((c.tc : Thread Cert.AttnInDx1Ideal.nD Cert.AttnInDx1Ideal.τ).loc Cert.AttnInDx1Ideal.main_arg1)
          ∧ r.2.mem ((c.tc : Thread Cert.AttnInDx1Ideal.nD Cert.AttnInDx1Ideal.τ).loc Cert.AttnInDx1Ideal.main_arg2) = m ((c.tc : Thread Cert.AttnInDx1Ideal.nD Cert.AttnInDx1Ideal.τ).loc Cert.AttnInDx1Ideal.main_arg2)
          ∧ r.2.mem ((c.tc : Thread Cert.AttnInDx1Ideal.nD Cert.AttnInDx1Ideal.τ).loc Cert.AttnInDx1Ideal.main_arg3) = m ((c.tc : Thread Cert.AttnInDx1Ideal.nD Cert.AttnInDx1Ideal.τ).loc Cert.AttnInDx1Ideal.main_arg3)
          ∧ r.2.mem ((c.tc : Thread Cert.AttnInDx1Ideal.nD Cert.AttnInDx1Ideal.τ).loc Cert.AttnInDx1Ideal.main_arg4) = m ((c.tc : Thread Cert.AttnInDx1Ideal.nD Cert.AttnInDx1Ideal.τ).loc Cert.AttnInDx1Ideal.main_arg4))
      ∧ θ_run (Cert.AttnInDx1ReferenceIdeal.defs (F := Ideal)) (onTc (τ := Cert.AttnInDx1ReferenceIdeal.τ) (Cert.AttnInDx1ReferenceIdeal.main (F := Ideal))) ⟨m', fun _ => 0, g'⟩ (fun r => ∀ c : Dev Cert.AttnInDx1ReferenceIdeal.nD,
          r.2.mem ((c.tc : Thread Cert.AttnInDx1ReferenceIdeal.nD Cert.AttnInDx1ReferenceIdeal.τ).loc Cert.AttnInDx1ReferenceIdeal.main_v42) = v0 c
          ∧ r.2.mem ((c.tc : Thread Cert.AttnInDx1ReferenceIdeal.nD Cert.AttnInDx1ReferenceIdeal.τ).loc Cert.AttnInDx1ReferenceIdeal.main_v25) = v1 c
          ∧ r.2.mem ((c.tc : Thread Cert.AttnInDx1ReferenceIdeal.nD Cert.AttnInDx1ReferenceIdeal.τ).loc Cert.AttnInDx1ReferenceIdeal.main_arg0) = m' ((c.tc : Thread Cert.AttnInDx1ReferenceIdeal.nD Cert.AttnInDx1ReferenceIdeal.τ).loc Cert.AttnInDx1ReferenceIdeal.main_arg0)
          ∧ r.2.mem ((c.tc : Thread Cert.AttnInDx1ReferenceIdeal.nD Cert.AttnInDx1ReferenceIdeal.τ).loc Cert.AttnInDx1ReferenceIdeal.main_arg1) = m' ((c.tc : Thread Cert.AttnInDx1ReferenceIdeal.nD Cert.AttnInDx1ReferenceIdeal.τ).loc Cert.AttnInDx1ReferenceIdeal.main_arg1)
          ∧ r.2.mem ((c.tc : Thread Cert.AttnInDx1ReferenceIdeal.nD Cert.AttnInDx1ReferenceIdeal.τ).loc Cert.AttnInDx1ReferenceIdeal.main_arg2) = m' ((c.tc : Thread Cert.AttnInDx1ReferenceIdeal.nD Cert.AttnInDx1ReferenceIdeal.τ).loc Cert.AttnInDx1ReferenceIdeal.main_arg2)
          ∧ r.2.mem ((c.tc : Thread Cert.AttnInDx1ReferenceIdeal.nD Cert.AttnInDx1ReferenceIdeal.τ).loc Cert.AttnInDx1ReferenceIdeal.main_arg3) = m' ((c.tc : Thread Cert.AttnInDx1ReferenceIdeal.nD Cert.AttnInDx1ReferenceIdeal.τ).loc Cert.AttnInDx1ReferenceIdeal.main_arg3)
          ∧ r.2.mem ((c.tc : Thread Cert.AttnInDx1ReferenceIdeal.nD Cert.AttnInDx1ReferenceIdeal.τ).loc Cert.AttnInDx1ReferenceIdeal.main_arg4) = m' ((c.tc : Thread Cert.AttnInDx1ReferenceIdeal.nD Cert.AttnInDx1ReferenceIdeal.τ).loc Cert.AttnInDx1ReferenceIdeal.main_arg4))

def preserves_HgrnInDx0_HgrnInDx0Ideal : Prop :=
  True

def algebraic_HgrnInDx0Ideal_HgrnInDx0ReferenceIdeal [hHgrnInDx0Ideal : Cert.HgrnInDx0Ideal.Facts] [hHgrnInDx0ReferenceIdeal : Cert.HgrnInDx0ReferenceIdeal.Facts] : Prop :=
  ∀ (m : (ℓ : Loc Cert.HgrnInDx0Ideal.nD Cert.HgrnInDx0Ideal.τ Cert.HgrnInDx0Ideal.sig) → Buf (Elt Ideal) ℓ) (g : Dev Cert.HgrnInDx0Ideal.nD → PrngReg)
    (m' : (ℓ : Loc Cert.HgrnInDx0ReferenceIdeal.nD Cert.HgrnInDx0ReferenceIdeal.τ Cert.HgrnInDx0ReferenceIdeal.sig) → Buf (Elt Ideal) ℓ) (g' : Dev Cert.HgrnInDx0ReferenceIdeal.nD → PrngReg), Pre_HgrnInDx0Ideal m →
    (∀ c : Dev Cert.HgrnInDx0Ideal.nD,
      m' ((c.tc : Thread Cert.HgrnInDx0ReferenceIdeal.nD Cert.HgrnInDx0ReferenceIdeal.τ).loc Cert.HgrnInDx0ReferenceIdeal.main_arg0) = m ((c.tc : Thread Cert.HgrnInDx0Ideal.nD Cert.HgrnInDx0Ideal.τ).loc Cert.HgrnInDx0Ideal.main_arg0)
      ∧ m' ((c.tc : Thread Cert.HgrnInDx0ReferenceIdeal.nD Cert.HgrnInDx0ReferenceIdeal.τ).loc Cert.HgrnInDx0ReferenceIdeal.main_arg1) = m ((c.tc : Thread Cert.HgrnInDx0Ideal.nD Cert.HgrnInDx0Ideal.τ).loc Cert.HgrnInDx0Ideal.main_arg1)
      ∧ m' ((c.tc : Thread Cert.HgrnInDx0ReferenceIdeal.nD Cert.HgrnInDx0ReferenceIdeal.τ).loc Cert.HgrnInDx0ReferenceIdeal.main_arg2) = m ((c.tc : Thread Cert.HgrnInDx0Ideal.nD Cert.HgrnInDx0Ideal.τ).loc Cert.HgrnInDx0Ideal.main_arg2)
      ∧ m' ((c.tc : Thread Cert.HgrnInDx0ReferenceIdeal.nD Cert.HgrnInDx0ReferenceIdeal.τ).loc Cert.HgrnInDx0ReferenceIdeal.main_arg3) = m ((c.tc : Thread Cert.HgrnInDx0Ideal.nD Cert.HgrnInDx0Ideal.τ).loc Cert.HgrnInDx0Ideal.main_arg3)
      ∧ m' ((c.tc : Thread Cert.HgrnInDx0ReferenceIdeal.nD Cert.HgrnInDx0ReferenceIdeal.τ).loc Cert.HgrnInDx0ReferenceIdeal.main_arg4) = m ((c.tc : Thread Cert.HgrnInDx0Ideal.nD Cert.HgrnInDx0Ideal.τ).loc Cert.HgrnInDx0Ideal.main_arg4)) →
    ∃ (v0 : (c : Dev Cert.HgrnInDx0Ideal.nD) → Buf (Elt Ideal) ((c.tc : Thread Cert.HgrnInDx0Ideal.nD Cert.HgrnInDx0Ideal.τ).loc Cert.HgrnInDx0Ideal.main_v0_0)) (v1 : (c : Dev Cert.HgrnInDx0Ideal.nD) → Buf (Elt Ideal) ((c.tc : Thread Cert.HgrnInDx0Ideal.nD Cert.HgrnInDx0Ideal.τ).loc Cert.HgrnInDx0Ideal.main_v0_1)),
      θ_run (Cert.HgrnInDx0Ideal.defs (F := Ideal)) (onTc (τ := Cert.HgrnInDx0Ideal.τ) (Cert.HgrnInDx0Ideal.main (F := Ideal))) ⟨m, fun _ => 0, g⟩ (fun r => ∀ c : Dev Cert.HgrnInDx0Ideal.nD,
          r.2.mem ((c.tc : Thread Cert.HgrnInDx0Ideal.nD Cert.HgrnInDx0Ideal.τ).loc Cert.HgrnInDx0Ideal.main_v0_0) = v0 c
          ∧ r.2.mem ((c.tc : Thread Cert.HgrnInDx0Ideal.nD Cert.HgrnInDx0Ideal.τ).loc Cert.HgrnInDx0Ideal.main_v0_1) = v1 c
          ∧ r.2.mem ((c.tc : Thread Cert.HgrnInDx0Ideal.nD Cert.HgrnInDx0Ideal.τ).loc Cert.HgrnInDx0Ideal.main_arg0) = m ((c.tc : Thread Cert.HgrnInDx0Ideal.nD Cert.HgrnInDx0Ideal.τ).loc Cert.HgrnInDx0Ideal.main_arg0)
          ∧ r.2.mem ((c.tc : Thread Cert.HgrnInDx0Ideal.nD Cert.HgrnInDx0Ideal.τ).loc Cert.HgrnInDx0Ideal.main_arg1) = m ((c.tc : Thread Cert.HgrnInDx0Ideal.nD Cert.HgrnInDx0Ideal.τ).loc Cert.HgrnInDx0Ideal.main_arg1)
          ∧ r.2.mem ((c.tc : Thread Cert.HgrnInDx0Ideal.nD Cert.HgrnInDx0Ideal.τ).loc Cert.HgrnInDx0Ideal.main_arg2) = m ((c.tc : Thread Cert.HgrnInDx0Ideal.nD Cert.HgrnInDx0Ideal.τ).loc Cert.HgrnInDx0Ideal.main_arg2)
          ∧ r.2.mem ((c.tc : Thread Cert.HgrnInDx0Ideal.nD Cert.HgrnInDx0Ideal.τ).loc Cert.HgrnInDx0Ideal.main_arg3) = m ((c.tc : Thread Cert.HgrnInDx0Ideal.nD Cert.HgrnInDx0Ideal.τ).loc Cert.HgrnInDx0Ideal.main_arg3)
          ∧ r.2.mem ((c.tc : Thread Cert.HgrnInDx0Ideal.nD Cert.HgrnInDx0Ideal.τ).loc Cert.HgrnInDx0Ideal.main_arg4) = m ((c.tc : Thread Cert.HgrnInDx0Ideal.nD Cert.HgrnInDx0Ideal.τ).loc Cert.HgrnInDx0Ideal.main_arg4))
      ∧ θ_run (Cert.HgrnInDx0ReferenceIdeal.defs (F := Ideal)) (onTc (τ := Cert.HgrnInDx0ReferenceIdeal.τ) (Cert.HgrnInDx0ReferenceIdeal.main (F := Ideal))) ⟨m', fun _ => 0, g'⟩ (fun r => ∀ c : Dev Cert.HgrnInDx0ReferenceIdeal.nD,
          r.2.mem ((c.tc : Thread Cert.HgrnInDx0ReferenceIdeal.nD Cert.HgrnInDx0ReferenceIdeal.τ).loc Cert.HgrnInDx0ReferenceIdeal.main_v42) = v0 c
          ∧ r.2.mem ((c.tc : Thread Cert.HgrnInDx0ReferenceIdeal.nD Cert.HgrnInDx0ReferenceIdeal.τ).loc Cert.HgrnInDx0ReferenceIdeal.main_v25) = v1 c
          ∧ r.2.mem ((c.tc : Thread Cert.HgrnInDx0ReferenceIdeal.nD Cert.HgrnInDx0ReferenceIdeal.τ).loc Cert.HgrnInDx0ReferenceIdeal.main_arg0) = m' ((c.tc : Thread Cert.HgrnInDx0ReferenceIdeal.nD Cert.HgrnInDx0ReferenceIdeal.τ).loc Cert.HgrnInDx0ReferenceIdeal.main_arg0)
          ∧ r.2.mem ((c.tc : Thread Cert.HgrnInDx0ReferenceIdeal.nD Cert.HgrnInDx0ReferenceIdeal.τ).loc Cert.HgrnInDx0ReferenceIdeal.main_arg1) = m' ((c.tc : Thread Cert.HgrnInDx0ReferenceIdeal.nD Cert.HgrnInDx0ReferenceIdeal.τ).loc Cert.HgrnInDx0ReferenceIdeal.main_arg1)
          ∧ r.2.mem ((c.tc : Thread Cert.HgrnInDx0ReferenceIdeal.nD Cert.HgrnInDx0ReferenceIdeal.τ).loc Cert.HgrnInDx0ReferenceIdeal.main_arg2) = m' ((c.tc : Thread Cert.HgrnInDx0ReferenceIdeal.nD Cert.HgrnInDx0ReferenceIdeal.τ).loc Cert.HgrnInDx0ReferenceIdeal.main_arg2)
          ∧ r.2.mem ((c.tc : Thread Cert.HgrnInDx0ReferenceIdeal.nD Cert.HgrnInDx0ReferenceIdeal.τ).loc Cert.HgrnInDx0ReferenceIdeal.main_arg3) = m' ((c.tc : Thread Cert.HgrnInDx0ReferenceIdeal.nD Cert.HgrnInDx0ReferenceIdeal.τ).loc Cert.HgrnInDx0ReferenceIdeal.main_arg3)
          ∧ r.2.mem ((c.tc : Thread Cert.HgrnInDx0ReferenceIdeal.nD Cert.HgrnInDx0ReferenceIdeal.τ).loc Cert.HgrnInDx0ReferenceIdeal.main_arg4) = m' ((c.tc : Thread Cert.HgrnInDx0ReferenceIdeal.nD Cert.HgrnInDx0ReferenceIdeal.τ).loc Cert.HgrnInDx0ReferenceIdeal.main_arg4))

def preserves_HgrnInDx1_HgrnInDx1Ideal : Prop :=
  True

def algebraic_HgrnInDx1Ideal_HgrnInDx1ReferenceIdeal [hHgrnInDx1Ideal : Cert.HgrnInDx1Ideal.Facts] [hHgrnInDx1ReferenceIdeal : Cert.HgrnInDx1ReferenceIdeal.Facts] : Prop :=
  ∀ (m : (ℓ : Loc Cert.HgrnInDx1Ideal.nD Cert.HgrnInDx1Ideal.τ Cert.HgrnInDx1Ideal.sig) → Buf (Elt Ideal) ℓ) (g : Dev Cert.HgrnInDx1Ideal.nD → PrngReg)
    (m' : (ℓ : Loc Cert.HgrnInDx1ReferenceIdeal.nD Cert.HgrnInDx1ReferenceIdeal.τ Cert.HgrnInDx1ReferenceIdeal.sig) → Buf (Elt Ideal) ℓ) (g' : Dev Cert.HgrnInDx1ReferenceIdeal.nD → PrngReg), Pre_HgrnInDx1Ideal m →
    (∀ c : Dev Cert.HgrnInDx1Ideal.nD,
      m' ((c.tc : Thread Cert.HgrnInDx1ReferenceIdeal.nD Cert.HgrnInDx1ReferenceIdeal.τ).loc Cert.HgrnInDx1ReferenceIdeal.main_arg0) = m ((c.tc : Thread Cert.HgrnInDx1Ideal.nD Cert.HgrnInDx1Ideal.τ).loc Cert.HgrnInDx1Ideal.main_arg0)
      ∧ m' ((c.tc : Thread Cert.HgrnInDx1ReferenceIdeal.nD Cert.HgrnInDx1ReferenceIdeal.τ).loc Cert.HgrnInDx1ReferenceIdeal.main_arg1) = m ((c.tc : Thread Cert.HgrnInDx1Ideal.nD Cert.HgrnInDx1Ideal.τ).loc Cert.HgrnInDx1Ideal.main_arg1)
      ∧ m' ((c.tc : Thread Cert.HgrnInDx1ReferenceIdeal.nD Cert.HgrnInDx1ReferenceIdeal.τ).loc Cert.HgrnInDx1ReferenceIdeal.main_arg2) = m ((c.tc : Thread Cert.HgrnInDx1Ideal.nD Cert.HgrnInDx1Ideal.τ).loc Cert.HgrnInDx1Ideal.main_arg2)
      ∧ m' ((c.tc : Thread Cert.HgrnInDx1ReferenceIdeal.nD Cert.HgrnInDx1ReferenceIdeal.τ).loc Cert.HgrnInDx1ReferenceIdeal.main_arg3) = m ((c.tc : Thread Cert.HgrnInDx1Ideal.nD Cert.HgrnInDx1Ideal.τ).loc Cert.HgrnInDx1Ideal.main_arg3)
      ∧ m' ((c.tc : Thread Cert.HgrnInDx1ReferenceIdeal.nD Cert.HgrnInDx1ReferenceIdeal.τ).loc Cert.HgrnInDx1ReferenceIdeal.main_arg4) = m ((c.tc : Thread Cert.HgrnInDx1Ideal.nD Cert.HgrnInDx1Ideal.τ).loc Cert.HgrnInDx1Ideal.main_arg4)) →
    ∃ (v0 : (c : Dev Cert.HgrnInDx1Ideal.nD) → Buf (Elt Ideal) ((c.tc : Thread Cert.HgrnInDx1Ideal.nD Cert.HgrnInDx1Ideal.τ).loc Cert.HgrnInDx1Ideal.main_v0_0)) (v1 : (c : Dev Cert.HgrnInDx1Ideal.nD) → Buf (Elt Ideal) ((c.tc : Thread Cert.HgrnInDx1Ideal.nD Cert.HgrnInDx1Ideal.τ).loc Cert.HgrnInDx1Ideal.main_v0_1)),
      θ_run (Cert.HgrnInDx1Ideal.defs (F := Ideal)) (onTc (τ := Cert.HgrnInDx1Ideal.τ) (Cert.HgrnInDx1Ideal.main (F := Ideal))) ⟨m, fun _ => 0, g⟩ (fun r => ∀ c : Dev Cert.HgrnInDx1Ideal.nD,
          r.2.mem ((c.tc : Thread Cert.HgrnInDx1Ideal.nD Cert.HgrnInDx1Ideal.τ).loc Cert.HgrnInDx1Ideal.main_v0_0) = v0 c
          ∧ r.2.mem ((c.tc : Thread Cert.HgrnInDx1Ideal.nD Cert.HgrnInDx1Ideal.τ).loc Cert.HgrnInDx1Ideal.main_v0_1) = v1 c
          ∧ r.2.mem ((c.tc : Thread Cert.HgrnInDx1Ideal.nD Cert.HgrnInDx1Ideal.τ).loc Cert.HgrnInDx1Ideal.main_arg0) = m ((c.tc : Thread Cert.HgrnInDx1Ideal.nD Cert.HgrnInDx1Ideal.τ).loc Cert.HgrnInDx1Ideal.main_arg0)
          ∧ r.2.mem ((c.tc : Thread Cert.HgrnInDx1Ideal.nD Cert.HgrnInDx1Ideal.τ).loc Cert.HgrnInDx1Ideal.main_arg1) = m ((c.tc : Thread Cert.HgrnInDx1Ideal.nD Cert.HgrnInDx1Ideal.τ).loc Cert.HgrnInDx1Ideal.main_arg1)
          ∧ r.2.mem ((c.tc : Thread Cert.HgrnInDx1Ideal.nD Cert.HgrnInDx1Ideal.τ).loc Cert.HgrnInDx1Ideal.main_arg2) = m ((c.tc : Thread Cert.HgrnInDx1Ideal.nD Cert.HgrnInDx1Ideal.τ).loc Cert.HgrnInDx1Ideal.main_arg2)
          ∧ r.2.mem ((c.tc : Thread Cert.HgrnInDx1Ideal.nD Cert.HgrnInDx1Ideal.τ).loc Cert.HgrnInDx1Ideal.main_arg3) = m ((c.tc : Thread Cert.HgrnInDx1Ideal.nD Cert.HgrnInDx1Ideal.τ).loc Cert.HgrnInDx1Ideal.main_arg3)
          ∧ r.2.mem ((c.tc : Thread Cert.HgrnInDx1Ideal.nD Cert.HgrnInDx1Ideal.τ).loc Cert.HgrnInDx1Ideal.main_arg4) = m ((c.tc : Thread Cert.HgrnInDx1Ideal.nD Cert.HgrnInDx1Ideal.τ).loc Cert.HgrnInDx1Ideal.main_arg4))
      ∧ θ_run (Cert.HgrnInDx1ReferenceIdeal.defs (F := Ideal)) (onTc (τ := Cert.HgrnInDx1ReferenceIdeal.τ) (Cert.HgrnInDx1ReferenceIdeal.main (F := Ideal))) ⟨m', fun _ => 0, g'⟩ (fun r => ∀ c : Dev Cert.HgrnInDx1ReferenceIdeal.nD,
          r.2.mem ((c.tc : Thread Cert.HgrnInDx1ReferenceIdeal.nD Cert.HgrnInDx1ReferenceIdeal.τ).loc Cert.HgrnInDx1ReferenceIdeal.main_v42) = v0 c
          ∧ r.2.mem ((c.tc : Thread Cert.HgrnInDx1ReferenceIdeal.nD Cert.HgrnInDx1ReferenceIdeal.τ).loc Cert.HgrnInDx1ReferenceIdeal.main_v25) = v1 c
          ∧ r.2.mem ((c.tc : Thread Cert.HgrnInDx1ReferenceIdeal.nD Cert.HgrnInDx1ReferenceIdeal.τ).loc Cert.HgrnInDx1ReferenceIdeal.main_arg0) = m' ((c.tc : Thread Cert.HgrnInDx1ReferenceIdeal.nD Cert.HgrnInDx1ReferenceIdeal.τ).loc Cert.HgrnInDx1ReferenceIdeal.main_arg0)
          ∧ r.2.mem ((c.tc : Thread Cert.HgrnInDx1ReferenceIdeal.nD Cert.HgrnInDx1ReferenceIdeal.τ).loc Cert.HgrnInDx1ReferenceIdeal.main_arg1) = m' ((c.tc : Thread Cert.HgrnInDx1ReferenceIdeal.nD Cert.HgrnInDx1ReferenceIdeal.τ).loc Cert.HgrnInDx1ReferenceIdeal.main_arg1)
          ∧ r.2.mem ((c.tc : Thread Cert.HgrnInDx1ReferenceIdeal.nD Cert.HgrnInDx1ReferenceIdeal.τ).loc Cert.HgrnInDx1ReferenceIdeal.main_arg2) = m' ((c.tc : Thread Cert.HgrnInDx1ReferenceIdeal.nD Cert.HgrnInDx1ReferenceIdeal.τ).loc Cert.HgrnInDx1ReferenceIdeal.main_arg2)
          ∧ r.2.mem ((c.tc : Thread Cert.HgrnInDx1ReferenceIdeal.nD Cert.HgrnInDx1ReferenceIdeal.τ).loc Cert.HgrnInDx1ReferenceIdeal.main_arg3) = m' ((c.tc : Thread Cert.HgrnInDx1ReferenceIdeal.nD Cert.HgrnInDx1ReferenceIdeal.τ).loc Cert.HgrnInDx1ReferenceIdeal.main_arg3)
          ∧ r.2.mem ((c.tc : Thread Cert.HgrnInDx1ReferenceIdeal.nD Cert.HgrnInDx1ReferenceIdeal.τ).loc Cert.HgrnInDx1ReferenceIdeal.main_arg4) = m' ((c.tc : Thread Cert.HgrnInDx1ReferenceIdeal.nD Cert.HgrnInDx1ReferenceIdeal.τ).loc Cert.HgrnInDx1ReferenceIdeal.main_arg4))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v53) = v0 c
          ∧ r.2.mem ((c.tc : Thread Cert.LossHeadReferenceIdeal.nD Cert.LossHeadReferenceIdeal.τ).loc Cert.LossHeadReferenceIdeal.main_v51) = v1 c
          ∧ r.2.mem ((c.tc : Thread Cert.LossHeadReferenceIdeal.nD Cert.LossHeadReferenceIdeal.τ).loc Cert.LossHeadReferenceIdeal.main_v52) = v2 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2))

def preserves_AdamAttnIn_AdamAttnInIdeal : Prop :=
  True

def algebraic_AdamAttnInIdeal_AdamAttnInReferenceIdeal [hAdamAttnInIdeal : Cert.AdamAttnInIdeal.Facts] [hAdamAttnInReferenceIdeal : Cert.AdamAttnInReferenceIdeal.Facts] : Prop :=
  ∀ (m : (ℓ : Loc Cert.AdamAttnInIdeal.nD Cert.AdamAttnInIdeal.τ Cert.AdamAttnInIdeal.sig) → Buf (Elt Ideal) ℓ) (g : Dev Cert.AdamAttnInIdeal.nD → PrngReg)
    (m' : (ℓ : Loc Cert.AdamAttnInReferenceIdeal.nD Cert.AdamAttnInReferenceIdeal.τ Cert.AdamAttnInReferenceIdeal.sig) → Buf (Elt Ideal) ℓ) (g' : Dev Cert.AdamAttnInReferenceIdeal.nD → PrngReg), Pre_AdamAttnInIdeal m →
    (∀ c : Dev Cert.AdamAttnInIdeal.nD,
      m' ((c.tc : Thread Cert.AdamAttnInReferenceIdeal.nD Cert.AdamAttnInReferenceIdeal.τ).loc Cert.AdamAttnInReferenceIdeal.main_arg0) = m ((c.tc : Thread Cert.AdamAttnInIdeal.nD Cert.AdamAttnInIdeal.τ).loc Cert.AdamAttnInIdeal.main_arg0)
      ∧ m' ((c.tc : Thread Cert.AdamAttnInReferenceIdeal.nD Cert.AdamAttnInReferenceIdeal.τ).loc Cert.AdamAttnInReferenceIdeal.main_arg1) = m ((c.tc : Thread Cert.AdamAttnInIdeal.nD Cert.AdamAttnInIdeal.τ).loc Cert.AdamAttnInIdeal.main_arg1)
      ∧ m' ((c.tc : Thread Cert.AdamAttnInReferenceIdeal.nD Cert.AdamAttnInReferenceIdeal.τ).loc Cert.AdamAttnInReferenceIdeal.main_arg2) = m ((c.tc : Thread Cert.AdamAttnInIdeal.nD Cert.AdamAttnInIdeal.τ).loc Cert.AdamAttnInIdeal.main_arg2)
      ∧ m' ((c.tc : Thread Cert.AdamAttnInReferenceIdeal.nD Cert.AdamAttnInReferenceIdeal.τ).loc Cert.AdamAttnInReferenceIdeal.main_arg3) = m ((c.tc : Thread Cert.AdamAttnInIdeal.nD Cert.AdamAttnInIdeal.τ).loc Cert.AdamAttnInIdeal.main_arg3)) →
    ∃ (v0 : (c : Dev Cert.AdamAttnInIdeal.nD) → Buf (Elt Ideal) ((c.tc : Thread Cert.AdamAttnInIdeal.nD Cert.AdamAttnInIdeal.τ).loc Cert.AdamAttnInIdeal.main_v0_0)) (v1 : (c : Dev Cert.AdamAttnInIdeal.nD) → Buf (Elt Ideal) ((c.tc : Thread Cert.AdamAttnInIdeal.nD Cert.AdamAttnInIdeal.τ).loc Cert.AdamAttnInIdeal.main_v0_1)) (v2 : (c : Dev Cert.AdamAttnInIdeal.nD) → Buf (Elt Ideal) ((c.tc : Thread Cert.AdamAttnInIdeal.nD Cert.AdamAttnInIdeal.τ).loc Cert.AdamAttnInIdeal.main_v0_2)),
      θ_run (Cert.AdamAttnInIdeal.defs (F := Ideal)) (onTc (τ := Cert.AdamAttnInIdeal.τ) (Cert.AdamAttnInIdeal.main (F := Ideal))) ⟨m, fun _ => 0, g⟩ (fun r => ∀ c : Dev Cert.AdamAttnInIdeal.nD,
          r.2.mem ((c.tc : Thread Cert.AdamAttnInIdeal.nD Cert.AdamAttnInIdeal.τ).loc Cert.AdamAttnInIdeal.main_v0_0) = v0 c
          ∧ r.2.mem ((c.tc : Thread Cert.AdamAttnInIdeal.nD Cert.AdamAttnInIdeal.τ).loc Cert.AdamAttnInIdeal.main_v0_1) = v1 c
          ∧ r.2.mem ((c.tc : Thread Cert.AdamAttnInIdeal.nD Cert.AdamAttnInIdeal.τ).loc Cert.AdamAttnInIdeal.main_v0_2) = v2 c
          ∧ r.2.mem ((c.tc : Thread Cert.AdamAttnInIdeal.nD Cert.AdamAttnInIdeal.τ).loc Cert.AdamAttnInIdeal.main_arg0) = m ((c.tc : Thread Cert.AdamAttnInIdeal.nD Cert.AdamAttnInIdeal.τ).loc Cert.AdamAttnInIdeal.main_arg0)
          ∧ r.2.mem ((c.tc : Thread Cert.AdamAttnInIdeal.nD Cert.AdamAttnInIdeal.τ).loc Cert.AdamAttnInIdeal.main_arg1) = m ((c.tc : Thread Cert.AdamAttnInIdeal.nD Cert.AdamAttnInIdeal.τ).loc Cert.AdamAttnInIdeal.main_arg1)
          ∧ r.2.mem ((c.tc : Thread Cert.AdamAttnInIdeal.nD Cert.AdamAttnInIdeal.τ).loc Cert.AdamAttnInIdeal.main_arg2) = m ((c.tc : Thread Cert.AdamAttnInIdeal.nD Cert.AdamAttnInIdeal.τ).loc Cert.AdamAttnInIdeal.main_arg2)
          ∧ r.2.mem ((c.tc : Thread Cert.AdamAttnInIdeal.nD Cert.AdamAttnInIdeal.τ).loc Cert.AdamAttnInIdeal.main_arg3) = m ((c.tc : Thread Cert.AdamAttnInIdeal.nD Cert.AdamAttnInIdeal.τ).loc Cert.AdamAttnInIdeal.main_arg3))
      ∧ θ_run (Cert.AdamAttnInReferenceIdeal.defs (F := Ideal)) (onTc (τ := Cert.AdamAttnInReferenceIdeal.τ) (Cert.AdamAttnInReferenceIdeal.main (F := Ideal))) ⟨m', fun _ => 0, g'⟩ (fun r => ∀ c : Dev Cert.AdamAttnInReferenceIdeal.nD,
          r.2.mem ((c.tc : Thread Cert.AdamAttnInReferenceIdeal.nD Cert.AdamAttnInReferenceIdeal.τ).loc Cert.AdamAttnInReferenceIdeal.main_v23) = v0 c
          ∧ r.2.mem ((c.tc : Thread Cert.AdamAttnInReferenceIdeal.nD Cert.AdamAttnInReferenceIdeal.τ).loc Cert.AdamAttnInReferenceIdeal.main_v4) = v1 c
          ∧ r.2.mem ((c.tc : Thread Cert.AdamAttnInReferenceIdeal.nD Cert.AdamAttnInReferenceIdeal.τ).loc Cert.AdamAttnInReferenceIdeal.main_v10) = v2 c
          ∧ r.2.mem ((c.tc : Thread Cert.AdamAttnInReferenceIdeal.nD Cert.AdamAttnInReferenceIdeal.τ).loc Cert.AdamAttnInReferenceIdeal.main_arg0) = m' ((c.tc : Thread Cert.AdamAttnInReferenceIdeal.nD Cert.AdamAttnInReferenceIdeal.τ).loc Cert.AdamAttnInReferenceIdeal.main_arg0)
          ∧ r.2.mem ((c.tc : Thread Cert.AdamAttnInReferenceIdeal.nD Cert.AdamAttnInReferenceIdeal.τ).loc Cert.AdamAttnInReferenceIdeal.main_arg1) = m' ((c.tc : Thread Cert.AdamAttnInReferenceIdeal.nD Cert.AdamAttnInReferenceIdeal.τ).loc Cert.AdamAttnInReferenceIdeal.main_arg1)
          ∧ r.2.mem ((c.tc : Thread Cert.AdamAttnInReferenceIdeal.nD Cert.AdamAttnInReferenceIdeal.τ).loc Cert.AdamAttnInReferenceIdeal.main_arg2) = m' ((c.tc : Thread Cert.AdamAttnInReferenceIdeal.nD Cert.AdamAttnInReferenceIdeal.τ).loc Cert.AdamAttnInReferenceIdeal.main_arg2)
          ∧ r.2.mem ((c.tc : Thread Cert.AdamAttnInReferenceIdeal.nD Cert.AdamAttnInReferenceIdeal.τ).loc Cert.AdamAttnInReferenceIdeal.main_arg3) = m' ((c.tc : Thread Cert.AdamAttnInReferenceIdeal.nD Cert.AdamAttnInReferenceIdeal.τ).loc Cert.AdamAttnInReferenceIdeal.main_arg3))

def preserves_AdamHgrnIn_AdamHgrnInIdeal : Prop :=
  True

def algebraic_AdamHgrnInIdeal_AdamHgrnInReferenceIdeal [hAdamHgrnInIdeal : Cert.AdamHgrnInIdeal.Facts] [hAdamHgrnInReferenceIdeal : Cert.AdamHgrnInReferenceIdeal.Facts] : Prop :=
  ∀ (m : (ℓ : Loc Cert.AdamHgrnInIdeal.nD Cert.AdamHgrnInIdeal.τ Cert.AdamHgrnInIdeal.sig) → Buf (Elt Ideal) ℓ) (g : Dev Cert.AdamHgrnInIdeal.nD → PrngReg)
    (m' : (ℓ : Loc Cert.AdamHgrnInReferenceIdeal.nD Cert.AdamHgrnInReferenceIdeal.τ Cert.AdamHgrnInReferenceIdeal.sig) → Buf (Elt Ideal) ℓ) (g' : Dev Cert.AdamHgrnInReferenceIdeal.nD → PrngReg), Pre_AdamHgrnInIdeal m →
    (∀ c : Dev Cert.AdamHgrnInIdeal.nD,
      m' ((c.tc : Thread Cert.AdamHgrnInReferenceIdeal.nD Cert.AdamHgrnInReferenceIdeal.τ).loc Cert.AdamHgrnInReferenceIdeal.main_arg0) = m ((c.tc : Thread Cert.AdamHgrnInIdeal.nD Cert.AdamHgrnInIdeal.τ).loc Cert.AdamHgrnInIdeal.main_arg0)
      ∧ m' ((c.tc : Thread Cert.AdamHgrnInReferenceIdeal.nD Cert.AdamHgrnInReferenceIdeal.τ).loc Cert.AdamHgrnInReferenceIdeal.main_arg1) = m ((c.tc : Thread Cert.AdamHgrnInIdeal.nD Cert.AdamHgrnInIdeal.τ).loc Cert.AdamHgrnInIdeal.main_arg1)
      ∧ m' ((c.tc : Thread Cert.AdamHgrnInReferenceIdeal.nD Cert.AdamHgrnInReferenceIdeal.τ).loc Cert.AdamHgrnInReferenceIdeal.main_arg2) = m ((c.tc : Thread Cert.AdamHgrnInIdeal.nD Cert.AdamHgrnInIdeal.τ).loc Cert.AdamHgrnInIdeal.main_arg2)
      ∧ m' ((c.tc : Thread Cert.AdamHgrnInReferenceIdeal.nD Cert.AdamHgrnInReferenceIdeal.τ).loc Cert.AdamHgrnInReferenceIdeal.main_arg3) = m ((c.tc : Thread Cert.AdamHgrnInIdeal.nD Cert.AdamHgrnInIdeal.τ).loc Cert.AdamHgrnInIdeal.main_arg3)) →
    ∃ (v0 : (c : Dev Cert.AdamHgrnInIdeal.nD) → Buf (Elt Ideal) ((c.tc : Thread Cert.AdamHgrnInIdeal.nD Cert.AdamHgrnInIdeal.τ).loc Cert.AdamHgrnInIdeal.main_v0_0)) (v1 : (c : Dev Cert.AdamHgrnInIdeal.nD) → Buf (Elt Ideal) ((c.tc : Thread Cert.AdamHgrnInIdeal.nD Cert.AdamHgrnInIdeal.τ).loc Cert.AdamHgrnInIdeal.main_v0_1)) (v2 : (c : Dev Cert.AdamHgrnInIdeal.nD) → Buf (Elt Ideal) ((c.tc : Thread Cert.AdamHgrnInIdeal.nD Cert.AdamHgrnInIdeal.τ).loc Cert.AdamHgrnInIdeal.main_v0_2)),
      θ_run (Cert.AdamHgrnInIdeal.defs (F := Ideal)) (onTc (τ := Cert.AdamHgrnInIdeal.τ) (Cert.AdamHgrnInIdeal.main (F := Ideal))) ⟨m, fun _ => 0, g⟩ (fun r => ∀ c : Dev Cert.AdamHgrnInIdeal.nD,
          r.2.mem ((c.tc : Thread Cert.AdamHgrnInIdeal.nD Cert.AdamHgrnInIdeal.τ).loc Cert.AdamHgrnInIdeal.main_v0_0) = v0 c
          ∧ r.2.mem ((c.tc : Thread Cert.AdamHgrnInIdeal.nD Cert.AdamHgrnInIdeal.τ).loc Cert.AdamHgrnInIdeal.main_v0_1) = v1 c
          ∧ r.2.mem ((c.tc : Thread Cert.AdamHgrnInIdeal.nD Cert.AdamHgrnInIdeal.τ).loc Cert.AdamHgrnInIdeal.main_v0_2) = v2 c
          ∧ r.2.mem ((c.tc : Thread Cert.AdamHgrnInIdeal.nD Cert.AdamHgrnInIdeal.τ).loc Cert.AdamHgrnInIdeal.main_arg0) = m ((c.tc : Thread Cert.AdamHgrnInIdeal.nD Cert.AdamHgrnInIdeal.τ).loc Cert.AdamHgrnInIdeal.main_arg0)
          ∧ r.2.mem ((c.tc : Thread Cert.AdamHgrnInIdeal.nD Cert.AdamHgrnInIdeal.τ).loc Cert.AdamHgrnInIdeal.main_arg1) = m ((c.tc : Thread Cert.AdamHgrnInIdeal.nD Cert.AdamHgrnInIdeal.τ).loc Cert.AdamHgrnInIdeal.main_arg1)
          ∧ r.2.mem ((c.tc : Thread Cert.AdamHgrnInIdeal.nD Cert.AdamHgrnInIdeal.τ).loc Cert.AdamHgrnInIdeal.main_arg2) = m ((c.tc : Thread Cert.AdamHgrnInIdeal.nD Cert.AdamHgrnInIdeal.τ).loc Cert.AdamHgrnInIdeal.main_arg2)
          ∧ r.2.mem ((c.tc : Thread Cert.AdamHgrnInIdeal.nD Cert.AdamHgrnInIdeal.τ).loc Cert.AdamHgrnInIdeal.main_arg3) = m ((c.tc : Thread Cert.AdamHgrnInIdeal.nD Cert.AdamHgrnInIdeal.τ).loc Cert.AdamHgrnInIdeal.main_arg3))
      ∧ θ_run (Cert.AdamHgrnInReferenceIdeal.defs (F := Ideal)) (onTc (τ := Cert.AdamHgrnInReferenceIdeal.τ) (Cert.AdamHgrnInReferenceIdeal.main (F := Ideal))) ⟨m', fun _ => 0, g'⟩ (fun r => ∀ c : Dev Cert.AdamHgrnInReferenceIdeal.nD,
          r.2.mem ((c.tc : Thread Cert.AdamHgrnInReferenceIdeal.nD Cert.AdamHgrnInReferenceIdeal.τ).loc Cert.AdamHgrnInReferenceIdeal.main_v23) = v0 c
          ∧ r.2.mem ((c.tc : Thread Cert.AdamHgrnInReferenceIdeal.nD Cert.AdamHgrnInReferenceIdeal.τ).loc Cert.AdamHgrnInReferenceIdeal.main_v4) = v1 c
          ∧ r.2.mem ((c.tc : Thread Cert.AdamHgrnInReferenceIdeal.nD Cert.AdamHgrnInReferenceIdeal.τ).loc Cert.AdamHgrnInReferenceIdeal.main_v10) = v2 c
          ∧ r.2.mem ((c.tc : Thread Cert.AdamHgrnInReferenceIdeal.nD Cert.AdamHgrnInReferenceIdeal.τ).loc Cert.AdamHgrnInReferenceIdeal.main_arg0) = m' ((c.tc : Thread Cert.AdamHgrnInReferenceIdeal.nD Cert.AdamHgrnInReferenceIdeal.τ).loc Cert.AdamHgrnInReferenceIdeal.main_arg0)
          ∧ r.2.mem ((c.tc : Thread Cert.AdamHgrnInReferenceIdeal.nD Cert.AdamHgrnInReferenceIdeal.τ).loc Cert.AdamHgrnInReferenceIdeal.main_arg1) = m' ((c.tc : Thread Cert.AdamHgrnInReferenceIdeal.nD Cert.AdamHgrnInReferenceIdeal.τ).loc Cert.AdamHgrnInReferenceIdeal.main_arg1)
          ∧ r.2.mem ((c.tc : Thread Cert.AdamHgrnInReferenceIdeal.nD Cert.AdamHgrnInReferenceIdeal.τ).loc Cert.AdamHgrnInReferenceIdeal.main_arg2) = m' ((c.tc : Thread Cert.AdamHgrnInReferenceIdeal.nD Cert.AdamHgrnInReferenceIdeal.τ).loc Cert.AdamHgrnInReferenceIdeal.main_arg2)
          ∧ r.2.mem ((c.tc : Thread Cert.AdamHgrnInReferenceIdeal.nD Cert.AdamHgrnInReferenceIdeal.τ).loc Cert.AdamHgrnInReferenceIdeal.main_arg3) = m' ((c.tc : Thread Cert.AdamHgrnInReferenceIdeal.nD Cert.AdamHgrnInReferenceIdeal.τ).loc Cert.AdamHgrnInReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v23) = v0 c
          ∧ r.2.mem ((c.tc : Thread Cert.AdamUpReferenceIdeal.nD Cert.AdamUpReferenceIdeal.τ).loc Cert.AdamUpReferenceIdeal.main_v4) = v1 c
          ∧ r.2.mem ((c.tc : Thread Cert.AdamUpReferenceIdeal.nD Cert.AdamUpReferenceIdeal.τ).loc Cert.AdamUpReferenceIdeal.main_v10) = v2 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v23) = v0 c
          ∧ r.2.mem ((c.tc : Thread Cert.AdamDownReferenceIdeal.nD Cert.AdamDownReferenceIdeal.τ).loc Cert.AdamDownReferenceIdeal.main_v4) = v1 c
          ∧ r.2.mem ((c.tc : Thread Cert.AdamDownReferenceIdeal.nD Cert.AdamDownReferenceIdeal.τ).loc Cert.AdamDownReferenceIdeal.main_v10) = v2 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def Claim : Prop :=
  ∃ (hKernel : Cert.Kernel.Facts) (hKernelIdeal : Cert.KernelIdeal.Facts) (hReferenceIdeal : Cert.ReferenceIdeal.Facts) (hUpFwd0 : Cert.UpFwd0.Facts) (hUpFwd0Ideal : Cert.UpFwd0Ideal.Facts) (hUpFwd0ReferenceIdeal : Cert.UpFwd0ReferenceIdeal.Facts) (hUpFwd1 : Cert.UpFwd1.Facts) (hUpFwd1Ideal : Cert.UpFwd1Ideal.Facts) (hUpFwd1ReferenceIdeal : Cert.UpFwd1ReferenceIdeal.Facts) (hUpFwd2 : Cert.UpFwd2.Facts) (hUpFwd2Ideal : Cert.UpFwd2Ideal.Facts) (hUpFwd2ReferenceIdeal : Cert.UpFwd2ReferenceIdeal.Facts) (hUpFwd3 : Cert.UpFwd3.Facts) (hUpFwd3Ideal : Cert.UpFwd3Ideal.Facts) (hUpFwd3ReferenceIdeal : Cert.UpFwd3ReferenceIdeal.Facts) (hDownFwd0 : Cert.DownFwd0.Facts) (hDownFwd0Ideal : Cert.DownFwd0Ideal.Facts) (hDownFwd0ReferenceIdeal : Cert.DownFwd0ReferenceIdeal.Facts) (hDownFwd1 : Cert.DownFwd1.Facts) (hDownFwd1Ideal : Cert.DownFwd1Ideal.Facts) (hDownFwd1ReferenceIdeal : Cert.DownFwd1ReferenceIdeal.Facts) (hDownFwd2 : Cert.DownFwd2.Facts) (hDownFwd2Ideal : Cert.DownFwd2Ideal.Facts) (hDownFwd2ReferenceIdeal : Cert.DownFwd2ReferenceIdeal.Facts) (hDownFwd3 : Cert.DownFwd3.Facts) (hDownFwd3Ideal : Cert.DownFwd3Ideal.Facts) (hDownFwd3ReferenceIdeal : Cert.DownFwd3ReferenceIdeal.Facts) (hAttnInFwd0 : Cert.AttnInFwd0.Facts) (hAttnInFwd0Ideal : Cert.AttnInFwd0Ideal.Facts) (hAttnInFwd0ReferenceIdeal : Cert.AttnInFwd0ReferenceIdeal.Facts) (hAttnInFwd1 : Cert.AttnInFwd1.Facts) (hAttnInFwd1Ideal : Cert.AttnInFwd1Ideal.Facts) (hAttnInFwd1ReferenceIdeal : Cert.AttnInFwd1ReferenceIdeal.Facts) (hHgrnInFwd0 : Cert.HgrnInFwd0.Facts) (hHgrnInFwd0Ideal : Cert.HgrnInFwd0Ideal.Facts) (hHgrnInFwd0ReferenceIdeal : Cert.HgrnInFwd0ReferenceIdeal.Facts) (hHgrnInFwd1 : Cert.HgrnInFwd1.Facts) (hHgrnInFwd1Ideal : Cert.HgrnInFwd1Ideal.Facts) (hHgrnInFwd1ReferenceIdeal : Cert.HgrnInFwd1ReferenceIdeal.Facts) (hOutFwd0 : Cert.OutFwd0.Facts) (hOutFwd0Ideal : Cert.OutFwd0Ideal.Facts) (hOutFwd0ReferenceIdeal : Cert.OutFwd0ReferenceIdeal.Facts) (hOutFwd1 : Cert.OutFwd1.Facts) (hOutFwd1Ideal : Cert.OutFwd1Ideal.Facts) (hOutFwd1ReferenceIdeal : Cert.OutFwd1ReferenceIdeal.Facts) (hDownDx0 : Cert.DownDx0.Facts) (hDownDx0Ideal : Cert.DownDx0Ideal.Facts) (hDownDx0ReferenceIdeal : Cert.DownDx0ReferenceIdeal.Facts) (hDownDx1 : Cert.DownDx1.Facts) (hDownDx1Ideal : Cert.DownDx1Ideal.Facts) (hDownDx1ReferenceIdeal : Cert.DownDx1ReferenceIdeal.Facts) (hDownDx2 : Cert.DownDx2.Facts) (hDownDx2Ideal : Cert.DownDx2Ideal.Facts) (hDownDx2ReferenceIdeal : Cert.DownDx2ReferenceIdeal.Facts) (hDownDx3 : Cert.DownDx3.Facts) (hDownDx3Ideal : Cert.DownDx3Ideal.Facts) (hDownDx3ReferenceIdeal : Cert.DownDx3ReferenceIdeal.Facts) (hHgrnOutDx0 : Cert.HgrnOutDx0.Facts) (hHgrnOutDx0Ideal : Cert.HgrnOutDx0Ideal.Facts) (hHgrnOutDx0ReferenceIdeal : Cert.HgrnOutDx0ReferenceIdeal.Facts) (hHgrnOutDx1 : Cert.HgrnOutDx1.Facts) (hHgrnOutDx1Ideal : Cert.HgrnOutDx1Ideal.Facts) (hHgrnOutDx1ReferenceIdeal : Cert.HgrnOutDx1ReferenceIdeal.Facts) (hAttnOutDx0 : Cert.AttnOutDx0.Facts) (hAttnOutDx0Ideal : Cert.AttnOutDx0Ideal.Facts) (hAttnOutDx0ReferenceIdeal : Cert.AttnOutDx0ReferenceIdeal.Facts) (hAttnOutDx1 : Cert.AttnOutDx1.Facts) (hAttnOutDx1Ideal : Cert.AttnOutDx1Ideal.Facts) (hAttnOutDx1ReferenceIdeal : Cert.AttnOutDx1ReferenceIdeal.Facts) (hUpDw : Cert.UpDw.Facts) (hUpDwIdeal : Cert.UpDwIdeal.Facts) (hUpDwReferenceIdeal : Cert.UpDwReferenceIdeal.Facts) (hDownDw : Cert.DownDw.Facts) (hDownDwIdeal : Cert.DownDwIdeal.Facts) (hDownDwReferenceIdeal : Cert.DownDwReferenceIdeal.Facts) (hAttnInDw : Cert.AttnInDw.Facts) (hAttnInDwIdeal : Cert.AttnInDwIdeal.Facts) (hAttnInDwReferenceIdeal : Cert.AttnInDwReferenceIdeal.Facts) (hHgrnInDw : Cert.HgrnInDw.Facts) (hHgrnInDwIdeal : Cert.HgrnInDwIdeal.Facts) (hHgrnInDwReferenceIdeal : Cert.HgrnInDwReferenceIdeal.Facts) (hOutDw : Cert.OutDw.Facts) (hOutDwIdeal : Cert.OutDwIdeal.Facts) (hOutDwReferenceIdeal : Cert.OutDwReferenceIdeal.Facts) (hUpDx0 : Cert.UpDx0.Facts) (hUpDx0Ideal : Cert.UpDx0Ideal.Facts) (hUpDx0ReferenceIdeal : Cert.UpDx0ReferenceIdeal.Facts) (hUpDx1 : Cert.UpDx1.Facts) (hUpDx1Ideal : Cert.UpDx1Ideal.Facts) (hUpDx1ReferenceIdeal : Cert.UpDx1ReferenceIdeal.Facts) (hUpDx2 : Cert.UpDx2.Facts) (hUpDx2Ideal : Cert.UpDx2Ideal.Facts) (hUpDx2ReferenceIdeal : Cert.UpDx2ReferenceIdeal.Facts) (hUpDx3 : Cert.UpDx3.Facts) (hUpDx3Ideal : Cert.UpDx3Ideal.Facts) (hUpDx3ReferenceIdeal : Cert.UpDx3ReferenceIdeal.Facts) (hAttnInDx0 : Cert.AttnInDx0.Facts) (hAttnInDx0Ideal : Cert.AttnInDx0Ideal.Facts) (hAttnInDx0ReferenceIdeal : Cert.AttnInDx0ReferenceIdeal.Facts) (hAttnInDx1 : Cert.AttnInDx1.Facts) (hAttnInDx1Ideal : Cert.AttnInDx1Ideal.Facts) (hAttnInDx1ReferenceIdeal : Cert.AttnInDx1ReferenceIdeal.Facts) (hHgrnInDx0 : Cert.HgrnInDx0.Facts) (hHgrnInDx0Ideal : Cert.HgrnInDx0Ideal.Facts) (hHgrnInDx0ReferenceIdeal : Cert.HgrnInDx0ReferenceIdeal.Facts) (hHgrnInDx1 : Cert.HgrnInDx1.Facts) (hHgrnInDx1Ideal : Cert.HgrnInDx1Ideal.Facts) (hHgrnInDx1ReferenceIdeal : Cert.HgrnInDx1ReferenceIdeal.Facts) (hLossHead : Cert.LossHead.Facts) (hLossHeadIdeal : Cert.LossHeadIdeal.Facts) (hLossHeadReferenceIdeal : Cert.LossHeadReferenceIdeal.Facts) (hAdamAttnIn : Cert.AdamAttnIn.Facts) (hAdamAttnInIdeal : Cert.AdamAttnInIdeal.Facts) (hAdamAttnInReferenceIdeal : Cert.AdamAttnInReferenceIdeal.Facts) (hAdamHgrnIn : Cert.AdamHgrnIn.Facts) (hAdamHgrnInIdeal : Cert.AdamHgrnInIdeal.Facts) (hAdamHgrnInReferenceIdeal : Cert.AdamHgrnInReferenceIdeal.Facts) (hAdamOut : Cert.AdamOut.Facts) (hAdamOutIdeal : Cert.AdamOutIdeal.Facts) (hAdamOutReferenceIdeal : Cert.AdamOutReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hAdamConv : Cert.AdamConv.Facts) (hAdamConvIdeal : Cert.AdamConvIdeal.Facts) (hAdamConvReferenceIdeal : Cert.AdamConvReferenceIdeal.Facts) (hAdamSmall : Cert.AdamSmall.Facts) (hAdamSmallIdeal : Cert.AdamSmallIdeal.Facts) (hAdamSmallReferenceIdeal : Cert.AdamSmallReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpFwd0 (hUpFwd0 := hUpFwd0)
    ∧ quiescent_UpFwd0Ideal (hUpFwd0Ideal := hUpFwd0Ideal)
    ∧ quiescent_UpFwd0ReferenceIdeal (hUpFwd0ReferenceIdeal := hUpFwd0ReferenceIdeal)
    ∧ quiescent_UpFwd1 (hUpFwd1 := hUpFwd1)
    ∧ quiescent_UpFwd1Ideal (hUpFwd1Ideal := hUpFwd1Ideal)
    ∧ quiescent_UpFwd1ReferenceIdeal (hUpFwd1ReferenceIdeal := hUpFwd1ReferenceIdeal)
    ∧ quiescent_UpFwd2 (hUpFwd2 := hUpFwd2)
    ∧ quiescent_UpFwd2Ideal (hUpFwd2Ideal := hUpFwd2Ideal)
    ∧ quiescent_UpFwd2ReferenceIdeal (hUpFwd2ReferenceIdeal := hUpFwd2ReferenceIdeal)
    ∧ quiescent_UpFwd3 (hUpFwd3 := hUpFwd3)
    ∧ quiescent_UpFwd3Ideal (hUpFwd3Ideal := hUpFwd3Ideal)
    ∧ quiescent_UpFwd3ReferenceIdeal (hUpFwd3ReferenceIdeal := hUpFwd3ReferenceIdeal)
    ∧ quiescent_DownFwd0 (hDownFwd0 := hDownFwd0)
    ∧ quiescent_DownFwd0Ideal (hDownFwd0Ideal := hDownFwd0Ideal)
    ∧ quiescent_DownFwd0ReferenceIdeal (hDownFwd0ReferenceIdeal := hDownFwd0ReferenceIdeal)
    ∧ quiescent_DownFwd1 (hDownFwd1 := hDownFwd1)
    ∧ quiescent_DownFwd1Ideal (hDownFwd1Ideal := hDownFwd1Ideal)
    ∧ quiescent_DownFwd1ReferenceIdeal (hDownFwd1ReferenceIdeal := hDownFwd1ReferenceIdeal)
    ∧ quiescent_DownFwd2 (hDownFwd2 := hDownFwd2)
    ∧ quiescent_DownFwd2Ideal (hDownFwd2Ideal := hDownFwd2Ideal)
    ∧ quiescent_DownFwd2ReferenceIdeal (hDownFwd2ReferenceIdeal := hDownFwd2ReferenceIdeal)
    ∧ quiescent_DownFwd3 (hDownFwd3 := hDownFwd3)
    ∧ quiescent_DownFwd3Ideal (hDownFwd3Ideal := hDownFwd3Ideal)
    ∧ quiescent_DownFwd3ReferenceIdeal (hDownFwd3ReferenceIdeal := hDownFwd3ReferenceIdeal)
    ∧ quiescent_AttnInFwd0 (hAttnInFwd0 := hAttnInFwd0)
    ∧ quiescent_AttnInFwd0Ideal (hAttnInFwd0Ideal := hAttnInFwd0Ideal)
    ∧ quiescent_AttnInFwd0ReferenceIdeal (hAttnInFwd0ReferenceIdeal := hAttnInFwd0ReferenceIdeal)
    ∧ quiescent_AttnInFwd1 (hAttnInFwd1 := hAttnInFwd1)
    ∧ quiescent_AttnInFwd1Ideal (hAttnInFwd1Ideal := hAttnInFwd1Ideal)
    ∧ quiescent_AttnInFwd1ReferenceIdeal (hAttnInFwd1ReferenceIdeal := hAttnInFwd1ReferenceIdeal)
    ∧ quiescent_HgrnInFwd0 (hHgrnInFwd0 := hHgrnInFwd0)
    ∧ quiescent_HgrnInFwd0Ideal (hHgrnInFwd0Ideal := hHgrnInFwd0Ideal)
    ∧ quiescent_HgrnInFwd0ReferenceIdeal (hHgrnInFwd0ReferenceIdeal := hHgrnInFwd0ReferenceIdeal)
    ∧ quiescent_HgrnInFwd1 (hHgrnInFwd1 := hHgrnInFwd1)
    ∧ quiescent_HgrnInFwd1Ideal (hHgrnInFwd1Ideal := hHgrnInFwd1Ideal)
    ∧ quiescent_HgrnInFwd1ReferenceIdeal (hHgrnInFwd1ReferenceIdeal := hHgrnInFwd1ReferenceIdeal)
    ∧ quiescent_OutFwd0 (hOutFwd0 := hOutFwd0)
    ∧ quiescent_OutFwd0Ideal (hOutFwd0Ideal := hOutFwd0Ideal)
    ∧ quiescent_OutFwd0ReferenceIdeal (hOutFwd0ReferenceIdeal := hOutFwd0ReferenceIdeal)
    ∧ quiescent_OutFwd1 (hOutFwd1 := hOutFwd1)
    ∧ quiescent_OutFwd1Ideal (hOutFwd1Ideal := hOutFwd1Ideal)
    ∧ quiescent_OutFwd1ReferenceIdeal (hOutFwd1ReferenceIdeal := hOutFwd1ReferenceIdeal)
    ∧ quiescent_DownDx0 (hDownDx0 := hDownDx0)
    ∧ quiescent_DownDx0Ideal (hDownDx0Ideal := hDownDx0Ideal)
    ∧ quiescent_DownDx0ReferenceIdeal (hDownDx0ReferenceIdeal := hDownDx0ReferenceIdeal)
    ∧ quiescent_DownDx1 (hDownDx1 := hDownDx1)
    ∧ quiescent_DownDx1Ideal (hDownDx1Ideal := hDownDx1Ideal)
    ∧ quiescent_DownDx1ReferenceIdeal (hDownDx1ReferenceIdeal := hDownDx1ReferenceIdeal)
    ∧ quiescent_DownDx2 (hDownDx2 := hDownDx2)
    ∧ quiescent_DownDx2Ideal (hDownDx2Ideal := hDownDx2Ideal)
    ∧ quiescent_DownDx2ReferenceIdeal (hDownDx2ReferenceIdeal := hDownDx2ReferenceIdeal)
    ∧ quiescent_DownDx3 (hDownDx3 := hDownDx3)
    ∧ quiescent_DownDx3Ideal (hDownDx3Ideal := hDownDx3Ideal)
    ∧ quiescent_DownDx3ReferenceIdeal (hDownDx3ReferenceIdeal := hDownDx3ReferenceIdeal)
    ∧ quiescent_HgrnOutDx0 (hHgrnOutDx0 := hHgrnOutDx0)
    ∧ quiescent_HgrnOutDx0Ideal (hHgrnOutDx0Ideal := hHgrnOutDx0Ideal)
    ∧ quiescent_HgrnOutDx0ReferenceIdeal (hHgrnOutDx0ReferenceIdeal := hHgrnOutDx0ReferenceIdeal)
    ∧ quiescent_HgrnOutDx1 (hHgrnOutDx1 := hHgrnOutDx1)
    ∧ quiescent_HgrnOutDx1Ideal (hHgrnOutDx1Ideal := hHgrnOutDx1Ideal)
    ∧ quiescent_HgrnOutDx1ReferenceIdeal (hHgrnOutDx1ReferenceIdeal := hHgrnOutDx1ReferenceIdeal)
    ∧ quiescent_AttnOutDx0 (hAttnOutDx0 := hAttnOutDx0)
    ∧ quiescent_AttnOutDx0Ideal (hAttnOutDx0Ideal := hAttnOutDx0Ideal)
    ∧ quiescent_AttnOutDx0ReferenceIdeal (hAttnOutDx0ReferenceIdeal := hAttnOutDx0ReferenceIdeal)
    ∧ quiescent_AttnOutDx1 (hAttnOutDx1 := hAttnOutDx1)
    ∧ quiescent_AttnOutDx1Ideal (hAttnOutDx1Ideal := hAttnOutDx1Ideal)
    ∧ quiescent_AttnOutDx1ReferenceIdeal (hAttnOutDx1ReferenceIdeal := hAttnOutDx1ReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_AttnInDw (hAttnInDw := hAttnInDw)
    ∧ quiescent_AttnInDwIdeal (hAttnInDwIdeal := hAttnInDwIdeal)
    ∧ quiescent_AttnInDwReferenceIdeal (hAttnInDwReferenceIdeal := hAttnInDwReferenceIdeal)
    ∧ quiescent_HgrnInDw (hHgrnInDw := hHgrnInDw)
    ∧ quiescent_HgrnInDwIdeal (hHgrnInDwIdeal := hHgrnInDwIdeal)
    ∧ quiescent_HgrnInDwReferenceIdeal (hHgrnInDwReferenceIdeal := hHgrnInDwReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_UpDx0 (hUpDx0 := hUpDx0)
    ∧ quiescent_UpDx0Ideal (hUpDx0Ideal := hUpDx0Ideal)
    ∧ quiescent_UpDx0ReferenceIdeal (hUpDx0ReferenceIdeal := hUpDx0ReferenceIdeal)
    ∧ quiescent_UpDx1 (hUpDx1 := hUpDx1)
    ∧ quiescent_UpDx1Ideal (hUpDx1Ideal := hUpDx1Ideal)
    ∧ quiescent_UpDx1ReferenceIdeal (hUpDx1ReferenceIdeal := hUpDx1ReferenceIdeal)
    ∧ quiescent_UpDx2 (hUpDx2 := hUpDx2)
    ∧ quiescent_UpDx2Ideal (hUpDx2Ideal := hUpDx2Ideal)
    ∧ quiescent_UpDx2ReferenceIdeal (hUpDx2ReferenceIdeal := hUpDx2ReferenceIdeal)
    ∧ quiescent_UpDx3 (hUpDx3 := hUpDx3)
    ∧ quiescent_UpDx3Ideal (hUpDx3Ideal := hUpDx3Ideal)
    ∧ quiescent_UpDx3ReferenceIdeal (hUpDx3ReferenceIdeal := hUpDx3ReferenceIdeal)
    ∧ quiescent_AttnInDx0 (hAttnInDx0 := hAttnInDx0)
    ∧ quiescent_AttnInDx0Ideal (hAttnInDx0Ideal := hAttnInDx0Ideal)
    ∧ quiescent_AttnInDx0ReferenceIdeal (hAttnInDx0ReferenceIdeal := hAttnInDx0ReferenceIdeal)
    ∧ quiescent_AttnInDx1 (hAttnInDx1 := hAttnInDx1)
    ∧ quiescent_AttnInDx1Ideal (hAttnInDx1Ideal := hAttnInDx1Ideal)
    ∧ quiescent_AttnInDx1ReferenceIdeal (hAttnInDx1ReferenceIdeal := hAttnInDx1ReferenceIdeal)
    ∧ quiescent_HgrnInDx0 (hHgrnInDx0 := hHgrnInDx0)
    ∧ quiescent_HgrnInDx0Ideal (hHgrnInDx0Ideal := hHgrnInDx0Ideal)
    ∧ quiescent_HgrnInDx0ReferenceIdeal (hHgrnInDx0ReferenceIdeal := hHgrnInDx0ReferenceIdeal)
    ∧ quiescent_HgrnInDx1 (hHgrnInDx1 := hHgrnInDx1)
    ∧ quiescent_HgrnInDx1Ideal (hHgrnInDx1Ideal := hHgrnInDx1Ideal)
    ∧ quiescent_HgrnInDx1ReferenceIdeal (hHgrnInDx1ReferenceIdeal := hHgrnInDx1ReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_AdamAttnIn (hAdamAttnIn := hAdamAttnIn)
    ∧ quiescent_AdamAttnInIdeal (hAdamAttnInIdeal := hAdamAttnInIdeal)
    ∧ quiescent_AdamAttnInReferenceIdeal (hAdamAttnInReferenceIdeal := hAdamAttnInReferenceIdeal)
    ∧ quiescent_AdamHgrnIn (hAdamHgrnIn := hAdamHgrnIn)
    ∧ quiescent_AdamHgrnInIdeal (hAdamHgrnInIdeal := hAdamHgrnInIdeal)
    ∧ quiescent_AdamHgrnInReferenceIdeal (hAdamHgrnInReferenceIdeal := hAdamHgrnInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpFwd0_UpFwd0Ideal
    ∧ algebraic_UpFwd0Ideal_UpFwd0ReferenceIdeal (hUpFwd0Ideal := hUpFwd0Ideal) (hUpFwd0ReferenceIdeal := hUpFwd0ReferenceIdeal)
    ∧ preserves_UpFwd1_UpFwd1Ideal
    ∧ algebraic_UpFwd1Ideal_UpFwd1ReferenceIdeal (hUpFwd1Ideal := hUpFwd1Ideal) (hUpFwd1ReferenceIdeal := hUpFwd1ReferenceIdeal)
    ∧ preserves_UpFwd2_UpFwd2Ideal
    ∧ algebraic_UpFwd2Ideal_UpFwd2ReferenceIdeal (hUpFwd2Ideal := hUpFwd2Ideal) (hUpFwd2ReferenceIdeal := hUpFwd2ReferenceIdeal)
    ∧ preserves_UpFwd3_UpFwd3Ideal
    ∧ algebraic_UpFwd3Ideal_UpFwd3ReferenceIdeal (hUpFwd3Ideal := hUpFwd3Ideal) (hUpFwd3ReferenceIdeal := hUpFwd3ReferenceIdeal)
    ∧ preserves_DownFwd0_DownFwd0Ideal
    ∧ algebraic_DownFwd0Ideal_DownFwd0ReferenceIdeal (hDownFwd0Ideal := hDownFwd0Ideal) (hDownFwd0ReferenceIdeal := hDownFwd0ReferenceIdeal)
    ∧ preserves_DownFwd1_DownFwd1Ideal
    ∧ algebraic_DownFwd1Ideal_DownFwd1ReferenceIdeal (hDownFwd1Ideal := hDownFwd1Ideal) (hDownFwd1ReferenceIdeal := hDownFwd1ReferenceIdeal)
    ∧ preserves_DownFwd2_DownFwd2Ideal
    ∧ algebraic_DownFwd2Ideal_DownFwd2ReferenceIdeal (hDownFwd2Ideal := hDownFwd2Ideal) (hDownFwd2ReferenceIdeal := hDownFwd2ReferenceIdeal)
    ∧ preserves_DownFwd3_DownFwd3Ideal
    ∧ algebraic_DownFwd3Ideal_DownFwd3ReferenceIdeal (hDownFwd3Ideal := hDownFwd3Ideal) (hDownFwd3ReferenceIdeal := hDownFwd3ReferenceIdeal)
    ∧ preserves_AttnInFwd0_AttnInFwd0Ideal
    ∧ algebraic_AttnInFwd0Ideal_AttnInFwd0ReferenceIdeal (hAttnInFwd0Ideal := hAttnInFwd0Ideal) (hAttnInFwd0ReferenceIdeal := hAttnInFwd0ReferenceIdeal)
    ∧ preserves_AttnInFwd1_AttnInFwd1Ideal
    ∧ algebraic_AttnInFwd1Ideal_AttnInFwd1ReferenceIdeal (hAttnInFwd1Ideal := hAttnInFwd1Ideal) (hAttnInFwd1ReferenceIdeal := hAttnInFwd1ReferenceIdeal)
    ∧ preserves_HgrnInFwd0_HgrnInFwd0Ideal
    ∧ algebraic_HgrnInFwd0Ideal_HgrnInFwd0ReferenceIdeal (hHgrnInFwd0Ideal := hHgrnInFwd0Ideal) (hHgrnInFwd0ReferenceIdeal := hHgrnInFwd0ReferenceIdeal)
    ∧ preserves_HgrnInFwd1_HgrnInFwd1Ideal
    ∧ algebraic_HgrnInFwd1Ideal_HgrnInFwd1ReferenceIdeal (hHgrnInFwd1Ideal := hHgrnInFwd1Ideal) (hHgrnInFwd1ReferenceIdeal := hHgrnInFwd1ReferenceIdeal)
    ∧ preserves_OutFwd0_OutFwd0Ideal
    ∧ algebraic_OutFwd0Ideal_OutFwd0ReferenceIdeal (hOutFwd0Ideal := hOutFwd0Ideal) (hOutFwd0ReferenceIdeal := hOutFwd0ReferenceIdeal)
    ∧ preserves_OutFwd1_OutFwd1Ideal
    ∧ algebraic_OutFwd1Ideal_OutFwd1ReferenceIdeal (hOutFwd1Ideal := hOutFwd1Ideal) (hOutFwd1ReferenceIdeal := hOutFwd1ReferenceIdeal)
    ∧ preserves_DownDx0_DownDx0Ideal
    ∧ algebraic_DownDx0Ideal_DownDx0ReferenceIdeal (hDownDx0Ideal := hDownDx0Ideal) (hDownDx0ReferenceIdeal := hDownDx0ReferenceIdeal)
    ∧ preserves_DownDx1_DownDx1Ideal
    ∧ algebraic_DownDx1Ideal_DownDx1ReferenceIdeal (hDownDx1Ideal := hDownDx1Ideal) (hDownDx1ReferenceIdeal := hDownDx1ReferenceIdeal)
    ∧ preserves_DownDx2_DownDx2Ideal
    ∧ algebraic_DownDx2Ideal_DownDx2ReferenceIdeal (hDownDx2Ideal := hDownDx2Ideal) (hDownDx2ReferenceIdeal := hDownDx2ReferenceIdeal)
    ∧ preserves_DownDx3_DownDx3Ideal
    ∧ algebraic_DownDx3Ideal_DownDx3ReferenceIdeal (hDownDx3Ideal := hDownDx3Ideal) (hDownDx3ReferenceIdeal := hDownDx3ReferenceIdeal)
    ∧ preserves_HgrnOutDx0_HgrnOutDx0Ideal
    ∧ algebraic_HgrnOutDx0Ideal_HgrnOutDx0ReferenceIdeal (hHgrnOutDx0Ideal := hHgrnOutDx0Ideal) (hHgrnOutDx0ReferenceIdeal := hHgrnOutDx0ReferenceIdeal)
    ∧ preserves_HgrnOutDx1_HgrnOutDx1Ideal
    ∧ algebraic_HgrnOutDx1Ideal_HgrnOutDx1ReferenceIdeal (hHgrnOutDx1Ideal := hHgrnOutDx1Ideal) (hHgrnOutDx1ReferenceIdeal := hHgrnOutDx1ReferenceIdeal)
    ∧ preserves_AttnOutDx0_AttnOutDx0Ideal
    ∧ algebraic_AttnOutDx0Ideal_AttnOutDx0ReferenceIdeal (hAttnOutDx0Ideal := hAttnOutDx0Ideal) (hAttnOutDx0ReferenceIdeal := hAttnOutDx0ReferenceIdeal)
    ∧ preserves_AttnOutDx1_AttnOutDx1Ideal
    ∧ algebraic_AttnOutDx1Ideal_AttnOutDx1ReferenceIdeal (hAttnOutDx1Ideal := hAttnOutDx1Ideal) (hAttnOutDx1ReferenceIdeal := hAttnOutDx1ReferenceIdeal)
    ∧ preserves_UpDw_UpDwIdeal
    ∧ algebraic_UpDwIdeal_UpDwReferenceIdeal (hUpDwIdeal := hUpDwIdeal) (hUpDwReferenceIdeal := hUpDwReferenceIdeal)
    ∧ preserves_DownDw_DownDwIdeal
    ∧ algebraic_DownDwIdeal_DownDwReferenceIdeal (hDownDwIdeal := hDownDwIdeal) (hDownDwReferenceIdeal := hDownDwReferenceIdeal)
    ∧ preserves_AttnInDw_AttnInDwIdeal
    ∧ algebraic_AttnInDwIdeal_AttnInDwReferenceIdeal (hAttnInDwIdeal := hAttnInDwIdeal) (hAttnInDwReferenceIdeal := hAttnInDwReferenceIdeal)
    ∧ preserves_HgrnInDw_HgrnInDwIdeal
    ∧ algebraic_HgrnInDwIdeal_HgrnInDwReferenceIdeal (hHgrnInDwIdeal := hHgrnInDwIdeal) (hHgrnInDwReferenceIdeal := hHgrnInDwReferenceIdeal)
    ∧ preserves_OutDw_OutDwIdeal
    ∧ algebraic_OutDwIdeal_OutDwReferenceIdeal (hOutDwIdeal := hOutDwIdeal) (hOutDwReferenceIdeal := hOutDwReferenceIdeal)
    ∧ preserves_UpDx0_UpDx0Ideal
    ∧ algebraic_UpDx0Ideal_UpDx0ReferenceIdeal (hUpDx0Ideal := hUpDx0Ideal) (hUpDx0ReferenceIdeal := hUpDx0ReferenceIdeal)
    ∧ preserves_UpDx1_UpDx1Ideal
    ∧ algebraic_UpDx1Ideal_UpDx1ReferenceIdeal (hUpDx1Ideal := hUpDx1Ideal) (hUpDx1ReferenceIdeal := hUpDx1ReferenceIdeal)
    ∧ preserves_UpDx2_UpDx2Ideal
    ∧ algebraic_UpDx2Ideal_UpDx2ReferenceIdeal (hUpDx2Ideal := hUpDx2Ideal) (hUpDx2ReferenceIdeal := hUpDx2ReferenceIdeal)
    ∧ preserves_UpDx3_UpDx3Ideal
    ∧ algebraic_UpDx3Ideal_UpDx3ReferenceIdeal (hUpDx3Ideal := hUpDx3Ideal) (hUpDx3ReferenceIdeal := hUpDx3ReferenceIdeal)
    ∧ preserves_AttnInDx0_AttnInDx0Ideal
    ∧ algebraic_AttnInDx0Ideal_AttnInDx0ReferenceIdeal (hAttnInDx0Ideal := hAttnInDx0Ideal) (hAttnInDx0ReferenceIdeal := hAttnInDx0ReferenceIdeal)
    ∧ preserves_AttnInDx1_AttnInDx1Ideal
    ∧ algebraic_AttnInDx1Ideal_AttnInDx1ReferenceIdeal (hAttnInDx1Ideal := hAttnInDx1Ideal) (hAttnInDx1ReferenceIdeal := hAttnInDx1ReferenceIdeal)
    ∧ preserves_HgrnInDx0_HgrnInDx0Ideal
    ∧ algebraic_HgrnInDx0Ideal_HgrnInDx0ReferenceIdeal (hHgrnInDx0Ideal := hHgrnInDx0Ideal) (hHgrnInDx0ReferenceIdeal := hHgrnInDx0ReferenceIdeal)
    ∧ preserves_HgrnInDx1_HgrnInDx1Ideal
    ∧ algebraic_HgrnInDx1Ideal_HgrnInDx1ReferenceIdeal (hHgrnInDx1Ideal := hHgrnInDx1Ideal) (hHgrnInDx1ReferenceIdeal := hHgrnInDx1ReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_AdamAttnIn_AdamAttnInIdeal
    ∧ algebraic_AdamAttnInIdeal_AdamAttnInReferenceIdeal (hAdamAttnInIdeal := hAdamAttnInIdeal) (hAdamAttnInReferenceIdeal := hAdamAttnInReferenceIdeal)
    ∧ preserves_AdamHgrnIn_AdamHgrnInIdeal
    ∧ algebraic_AdamHgrnInIdeal_AdamHgrnInReferenceIdeal (hAdamHgrnInIdeal := hAdamHgrnInIdeal) (hAdamHgrnInReferenceIdeal := hAdamHgrnInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
-- ==== Pre_finite.lean ====
abbrev S4096x1536 : Shape := ⟨2, ![4096, 1536]⟩
abbrev S16 : Shape := ⟨1, ![16]⟩
abbrev S4096x1024 : Shape := ⟨2, ![4096, 1024]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S4096x1536 .bf16) (main_arg1 : FVec F S16 .f32) (main_arg2 : FVec F S4096x1024 .bf16) : IVec S_ 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_c : IVec S_ 1 := constantI S_ 1 1#1
  let main_v4 : IVec S_ 1 := (fun x v => Host.reduce IntOp.andi x v reducesTo_S4096x1536_S_d0_1 h_S_) main_v3 main_c
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  main_v9
-- ==== Kernel.lean ====
abbrev S4096x1536 : Shape := ⟨2, ![4096, 1536]⟩
abbrev S16 : Shape := ⟨1, ![16]⟩
abbrev S4096x1024 : Shape := ⟨2, ![4096, 1024]⟩
abbrev S_ : Shape := ⟨0, ![]⟩
abbrev S4x4 : Shape := ⟨2, ![4, 4]⟩
abbrev S4x4x128 : Shape := ⟨3, ![4, 4, 128]⟩
abbrev S4x512 : Shape := ⟨2, ![4, 512]⟩
abbrev S4x512x1 : Shape := ⟨3, ![4, 512, 1]⟩
abbrev S4096x16x64 : Shape := ⟨3, ![4096, 16, 64]⟩
abbrev S16x4096x64 : Shape := ⟨3, ![16, 4096, 64]⟩
abbrev S4x4x4096x64 : Shape := ⟨4, ![4, 4, 4096, 64]⟩
abbrev S4096x256 : Shape := ⟨2, ![4096, 256]⟩
abbrev S4096x4x64 : Shape := ⟨3, ![4096, 4, 64]⟩
abbrev S4x4096x64 : Shape := ⟨3, ![4, 4096, 64]⟩
abbrev S4x4x128x64 : Shape := ⟨4, ![4, 4, 128, 64]⟩
abbrev S4x128x64 : Shape := ⟨3, ![4, 128, 64]⟩
abbrev S1x4x128x64 : Shape := ⟨4, ![1, 4, 128, 64]⟩
abbrev S512x64 : Shape := ⟨2, ![512, 64]⟩
abbrev S1x128x64 : Shape := ⟨3, ![1, 128, 64]⟩
abbrev S128x64 : Shape := ⟨2, ![128, 64]⟩
abbrev S256x64 : Shape := ⟨2, ![256, 64]⟩
abbrev S2048x1 : Shape := ⟨2, ![2048, 1]⟩
abbrev S512x256 : Shape := ⟨2, ![512, 256]⟩
abbrev S2048x256 : Shape := ⟨2, ![2048, 256]⟩
abbrev S2048 : Shape := ⟨1, ![2048]⟩
abbrev S1x256x64 : Shape := ⟨3, ![1, 256, 64]⟩
abbrev S4x256x64 : Shape := ⟨3, ![4, 256, 64]⟩

abbrev nBuf : Space → Nat
  | .hbm => 54
  | .vmem => 23
  | .smem => 0
  | _ => 0

abbrev bufTy : (tb : Table) → Fin (tcTables nBuf tb) → BufTy
  | .hbm, ⟨0, _⟩ => ⟨S4096x1536, .bf16⟩
  | .hbm, ⟨1, _⟩ => ⟨S16, .f32⟩
  | .hbm, ⟨2, _⟩ => ⟨S4096x1024, .bf16⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S4x4, .f32⟩
  | .hbm, ⟨18, _⟩ => ⟨S4x4x128, .f32⟩
  | .hbm, ⟨19, _⟩ => ⟨S4x512, .f32⟩
  | .hbm, ⟨20, _⟩ => ⟨S4x512x1, .f32⟩
  | .hbm, ⟨21, _⟩ => ⟨S4096x1024, .bf16⟩
  | .hbm, ⟨22, _⟩ => ⟨S4096x16x64, .bf16⟩
  | .hbm, ⟨23, _⟩ => ⟨S16x4096x64, .bf16⟩
  | .hbm, ⟨24, _⟩ => ⟨S4x4x4096x64, .bf16⟩
  | .hbm, ⟨25, _⟩ => ⟨S4096x256, .bf16⟩
  | .hbm, ⟨26, _⟩ => ⟨S4096x4x64, .bf16⟩
  | .hbm, ⟨27, _⟩ => ⟨S4x4096x64, .bf16⟩
  | .hbm, ⟨28, _⟩ => ⟨S4096x256, .bf16⟩
  | .hbm, ⟨29, _⟩ => ⟨S4096x4x64, .bf16⟩
  | .hbm, ⟨30, _⟩ => ⟨S4x4096x64, .bf16⟩
  | .hbm, ⟨31, _⟩ => ⟨S4x4, .f32⟩
  | .hbm, ⟨32, _⟩ => ⟨S4x4x128, .f32⟩
  | .hbm, ⟨33, _⟩ => ⟨S4x512, .f32⟩
  | .hbm, ⟨34, _⟩ => ⟨S4x512x1, .f32⟩
  | .hbm, ⟨35, _⟩ => ⟨S4096x16x64, .bf16⟩
  | .hbm, ⟨36, _⟩ => ⟨S16x4096x64, .bf16⟩
  | .hbm, ⟨37, _⟩ => ⟨S4x4x4096x64, .bf16⟩
  | .hbm, ⟨38, _⟩ => ⟨S4x4x4096x64, .bf16⟩
  | .hbm, ⟨39, _⟩ => ⟨S4x4096x64, .bf16⟩
  | .hbm, ⟨40, _⟩ => ⟨S4x4096x64, .bf16⟩
  | .hbm, ⟨41, _⟩ => ⟨S4x512x1, .f32⟩
  | .hbm, ⟨42, _⟩ => ⟨S16x4096x64, .bf16⟩
  | .hbm, ⟨43, _⟩ => ⟨S4096x16x64, .bf16⟩
  | .hbm, ⟨44, _⟩ => ⟨S4096x1024, .bf16⟩
  | .hbm, ⟨45, _⟩ => ⟨S4096x4x64, .bf16⟩
  | .hbm, ⟨46, _⟩ => ⟨S4096x256, .bf16⟩
  | .hbm, ⟨47, _⟩ => ⟨S4096x4x64, .bf16⟩
  | .hbm, ⟨48, _⟩ => ⟨S4096x256, .bf16⟩
  | .hbm, ⟨49, _⟩ => ⟨S4096x1536, .bf16⟩
  | .hbm, ⟨50, _⟩ => ⟨S4x4x128, .f32⟩
  | .hbm, ⟨51, _⟩ => ⟨S_, .f32⟩
  | .hbm, ⟨52, _⟩ => ⟨S4x4, .f32⟩
  | .hbm, ⟨53, _⟩ => ⟨S16, .f32⟩
  | .local _ .vmem, ⟨0, _⟩ => ⟨S4x4x128x64, .bf16⟩
  | .local _ .vmem, ⟨1, _⟩ => ⟨S4x4x128x64, .bf16⟩
  | .local _ .vmem, ⟨2, _⟩ => ⟨S4x128x64, .bf16⟩
  | .local _ .vmem, ⟨3, _⟩ => ⟨S4x128x64, .bf16⟩
  | .local _ .vmem, ⟨4, _⟩ => ⟨S4x128x64, .bf16⟩
  | .local _ .vmem, ⟨5, _⟩ => ⟨S4x128x64, .bf16⟩
  | .local _ .vmem, ⟨6, _⟩ => ⟨S4x128x64, .bf16⟩
  | .local _ .vmem, ⟨7, _⟩ => ⟨S4x128x64, .bf16⟩
  | .local _ .vmem, ⟨8, _⟩ => ⟨S4x128x64, .bf16⟩
  | .local _ .vmem, ⟨9, _⟩ => ⟨S4x128x64, .bf16⟩
  | .local _ .vmem, ⟨10, _⟩ => ⟨S4x512x1, .f32⟩
  | .local _ .vmem, ⟨11, _⟩ => ⟨S4x512x1, .f32⟩
  | .local _ .vmem, ⟨12, _⟩ => ⟨S4x4x128x64, .bf16⟩
  | .local _ .vmem, ⟨13, _⟩ => ⟨S4x4x128x64, .bf16⟩
  | .local _ .vmem, ⟨14, _⟩ => ⟨S4x4x128x64, .bf16⟩
  | .local _ .vmem, ⟨15, _⟩ => ⟨S4x4x128x64, .bf16⟩
  | .local _ .vmem, ⟨16, _⟩ => ⟨S4x128x64, .bf16⟩
  | .local _ .vmem, ⟨17, _⟩ => ⟨S4x128x64, .bf16⟩
  | .local _ .vmem, ⟨18, _⟩ => ⟨S4x128x64, .bf16⟩
  | .local _ .vmem, ⟨19, _⟩ => ⟨S4x128x64, .bf16⟩
  | .local _ .vmem, ⟨20, _⟩ => ⟨S4x512x1, .f32⟩
  | .local _ .vmem, ⟨21, _⟩ => ⟨S4x128x64, .f32⟩
  | .local _ .vmem, ⟨22, _⟩ => ⟨S4x128x64, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev main_v31_2 : Ref sig .tc := ⟨.hbm, 40, rfl⟩
abbrev main_v31_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_8 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_9 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x4x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x4x128x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x128x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x512x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x1536 : Shape := ⟨2, ![4096, 1536]⟩
abbrev S16 : Shape := ⟨1, ![16]⟩
abbrev S4096x1024 : Shape := ⟨2, ![4096, 1024]⟩
abbrev S4096x256 : Shape := ⟨2, ![4096, 256]⟩
abbrev S32x128x4x4x64 : Shape := ⟨5, ![32, 128, 4, 4, 64]⟩
abbrev S4096x4x64 : Shape := ⟨3, ![4096, 4, 64]⟩
abbrev S_ : Shape := ⟨0, ![]⟩
abbrev S128x4x64 : Shape := ⟨3, ![128, 4, 64]⟩
abbrev S4224x4x64 : Shape := ⟨3, ![4224, 4, 64]⟩
abbrev S33x128x4x64 : Shape := ⟨4, ![33, 128, 4, 64]⟩
abbrev S32x128x4x64 : Shape := ⟨4, ![32, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S32x1x1x128x256 : Shape := ⟨5, ![32, 1, 1, 128, 256]⟩
abbrev S1x4x4x128x256 : Shape := ⟨5, ![1, 4, 4, 128, 256]⟩
abbrev S1x4x4x1x1 : Shape := ⟨5, ![1, 4, 4, 1, 1]⟩
abbrev S32x4x4x128x1 : Shape := ⟨5, ![32, 4, 4, 128, 1]⟩
abbrev S32x4x4x128x257 : Shape := ⟨5, ![32, 4, 4, 128, 257]⟩
abbrev S32x4x4x128 : Shape := ⟨4, ![32, 4, 4, 128]⟩
abbrev S32x4x64x4x128 : Shape := ⟨5, ![32, 4, 64, 4, 128]⟩
abbrev S32x4x64x256 : Shape := ⟨4, ![32, 4, 64, 256]⟩
abbrev S32x4x128x4x64 : Shape := ⟨5, ![32, 4, 128, 4, 64]⟩
abbrev S32x4x256x64 : Shape := ⟨4, ![32, 4, 256, 64]⟩

abbrev nBuf : Space → Nat
  | .hbm => 209
  | .vmem => 0
  | .smem => 0
  | _ => 0

abbrev hbmTy0_0 (i : Nat) : BufTy := match i % 128 with
  | 0 => ⟨S4096x1536, .bf16⟩
  | 1 => ⟨S16, .f32⟩
  | 2 => ⟨S4096x1024, .bf16⟩
  | 3 => ⟨S4096x1536, .f32⟩
  | 4 => ⟨S4096x1024, .f32⟩
  | 5 => ⟨S4096x256, .f32⟩
  | 6 => ⟨S4096x256, .f32⟩
  | 7 => ⟨S32x128x4x4x64, .f32⟩
  | 8 => ⟨S4096x4x64, .f32⟩
  | 9 => ⟨S4096x4x64, .f32⟩
  | 10 => ⟨S_, .f32⟩
  | 11 => ⟨S128x4x64, .f32⟩
  | 12 => ⟨S4224x4x64, .f32⟩
  | 13 => ⟨S_, .f32⟩
  | 14 => ⟨S128x4x64, .f32⟩
  | 15 => ⟨S33x128x4x64, .f32⟩
  | 16 => ⟨S4224x4x64, .f32⟩
  | 17 => ⟨S_, .f32⟩
  | 18 => ⟨S128x4x64, .f32⟩
  | 19 => ⟨S33x128x4x64, .f32⟩
  | 20 => ⟨S32x128x4x64, .f32⟩
  | 21 => ⟨S32x128x4x64, .f32⟩
  | 22 => ⟨S32x256x4x64, .f32⟩
  | 23 => ⟨S32x128x4x64, .f32⟩
  | 24 => ⟨S32x128x4x64, .f32⟩
  | 25 => ⟨S32x256x4x64, .f32⟩
  | 26 => ⟨S32x4x256x128x4, .f32⟩
  | 27 => ⟨S32x4x4x128x256, .f32⟩
  | 28 => ⟨S_, .f32⟩
  | 29 => ⟨S32x4x4x128x256, .f32⟩
  | 30 => ⟨S32x4x4x128x256, .f32⟩
  | 31 => ⟨S128, .i32⟩
  | 32 => ⟨S128x1, .i32⟩
  | 33 => ⟨S256, .i32⟩
  | 34 => ⟨S1x256, .i32⟩
  | 35 => ⟨S_, .i32⟩
  | 36 => ⟨S128x1, .i32⟩
  | 37 => ⟨S128x1, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S32, .i32⟩
  | 49 => ⟨S_, .i32⟩
  | 50 => ⟨S32, .i32⟩
  | 51 => ⟨S32, .i32⟩
  | 52 => ⟨S_, .i32⟩
  | 53 => ⟨S32, .i32⟩
  | 54 => ⟨S32, .i32⟩
  | 55 => ⟨S32x1x1, .i32⟩
  | 56 => ⟨S1x1x256, .i32⟩
  | 57 => ⟨S32x1x256, .i32⟩
  | 58 => ⟨S32x1x256, .i32⟩
  | 59 => ⟨S32x1x256, .i32⟩
  | 60 => ⟨S1x128x256, .i1⟩
  | 61 => ⟨S_, .i32⟩
  | 62 => ⟨S32x1x256, .i32⟩
  | 63 => ⟨S32x1x256, .i1⟩
  | 64 => ⟨S32x128x256, .i1⟩
  | 65 => ⟨S32x128x256, .i1⟩
  | 66 => ⟨S32x128x256, .i1⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S16, .f32⟩
  | 81 => ⟨S4x4, .f32⟩
  | 82 => ⟨S4x4x1x1, .f32⟩
  | 83 => ⟨S4x4x1x1, .f32⟩
  | 84 => ⟨S128x256, .f32⟩
  | 85 => ⟨S1x1x128x256, .f32⟩
  | 86 => ⟨S4x4x128x256, .f32⟩
  | 87 => ⟨S4x4x128x256, .f32⟩
  | 88 => ⟨S4x4x128x256, .f32⟩
  | 89 => ⟨S32x1x1x128x256, .i1⟩
  | 90 => ⟨S1x4x4x128x256, .f32⟩
  | 91 => ⟨S32x4x4x128x256, .f32⟩
  | 92 => ⟨S32x4x4x128x256, .f32⟩
  | 93 => ⟨S_, .f32⟩
  | 94 => ⟨S_, .f32⟩
  | 95 => ⟨S32x4x4x128x256, .i1⟩
  | 96 => ⟨S32x4x4x128x256, .f32⟩
  | 97 => ⟨S32x4x4x128x256, .f32⟩
  | 98 => ⟨S_, .f32⟩
  | 99 => ⟨S32x4x4x128x256, .f32⟩
  | 100 => ⟨S1x4x4x1x1, .f32⟩
  | 101 => ⟨S32x4x4x128x1, .f32⟩
  | 102 => ⟨S32x4x4x128x257, .f32⟩
  | 103 => ⟨S_, .f32⟩
  | 104 => ⟨S32x4x4x128, .f32⟩
  | 105 => ⟨S32x4x4x128x1, .f32⟩
  | 106 => ⟨S32x4x4x128x257, .f32⟩
  | 107 => ⟨S32x4x4x128x257, .i1⟩
  | 108 => ⟨S32x4x4x128x257, .f32⟩
  | 109 => ⟨S_, .f32⟩
  | 110 => ⟨S32x4x4x128, .f32⟩
  | 111 => ⟨S_, .f32⟩
  | 112 => ⟨S32x4x4x128, .f32⟩
  | 113 => ⟨S32x4x4x128, .f32⟩
  | 114 => ⟨S_, .f32⟩
  | 115 => ⟨S32x4x4x128, .f32⟩
  | 116 => ⟨S32x4x4x128, .i1⟩
  | 117 => ⟨S_, .f32⟩
  | 118 => ⟨S32x4x4x128, .f32⟩
  | 119 => ⟨S32x4x4x128, .i1⟩
  | 120 => ⟨S_, .f32⟩
  | 121 => ⟨S32x4x4x128, .f32⟩
  | 122 => ⟨S_, .f32⟩
  | 123 => ⟨S32x4x4x128, .f32⟩
  | 124 => ⟨S_, .f32⟩
  | 125 => ⟨S32x4x4x128, .f32⟩
  | 126 => ⟨S32x4x4x128, .f32⟩
  | 127 => ⟨S32x4x4x128, .f32⟩
  | _ => ⟨S4096x1536, .bf16⟩

abbrev hbmTy0_1 (i : Nat) : BufTy := match i % 128 with
  | 0 => ⟨S32x4x4x128x1, .f32⟩
  | 1 => ⟨S32x4x4x128x257, .f32⟩
  | 2 => ⟨S32x4x4x128x257, .f32⟩
  | 3 => ⟨S32x4x4x128x257, .f32⟩
  | 4 => ⟨S_, .f32⟩
  | 5 => ⟨S32x4x4x128, .f32⟩
  | 6 => ⟨S32x4x4x128x1, .f32⟩
  | 7 => ⟨S32x4x4x128x257, .f32⟩
  | 8 => ⟨S32x4x4x128x257, .f32⟩
  | 9 => ⟨S32x4x4x128x1, .f32⟩
  | 10 => ⟨S_, .f32⟩
  | 11 => ⟨S32x4x4x128x1, .f32⟩
  | 12 => ⟨S32x4x4x128x1, .f32⟩
  | 13 => ⟨S32x4x4x128x256, .f32⟩
  | 14 => ⟨S32x4x64x4x128, .f32⟩
  | 15 => ⟨S32x128x4x4x64, .f32⟩
  | 16 => ⟨S4096x1024, .f32⟩
  | 17 => ⟨S4096x1024, .f32⟩
  | 18 => ⟨S32x128x4x4x64, .f32⟩
  | 19 => ⟨S32x4x64x4x128, .f32⟩
  | 20 => ⟨S32x4x4x128x256, .f32⟩
  | 21 => ⟨S32x4x64x256, .f32⟩
  | 22 => ⟨S32x256x4x64, .f32⟩
  | 23 => ⟨S_, .f32⟩
  | 24 => ⟨S32x4x4x128x257, .f32⟩
  | 25 => ⟨S32x4x4x128x257, .f32⟩
  | 26 => ⟨S32x4x4x128x257, .f32⟩
  | 27 => ⟨S32x4x4x128x257, .f32⟩
  | 28 => ⟨S_, .f32⟩
  | 29 => ⟨S32x4x4x128, .f32⟩
  | 30 => ⟨S32x4x4x128x1, .f32⟩
  | 31 => ⟨S32x4x4x128x1, .f32⟩
  | 32 => ⟨S32x4x4x128x257, .f32⟩
  | 33 => ⟨S32x4x4x128x257, .f32⟩
  | 34 => ⟨S_, .f32⟩
  | 35 => ⟨S32x4x4x128, .f32⟩
  | 36 => ⟨S32x4x4x128x257, .f32⟩
  | 37 => ⟨S32x4x4x128x257, .f32⟩
  | 38 => ⟨S32x4x4x128x257, .f32⟩
  | 39 => ⟨S32x4x4x128x256, .f32⟩
  | 40 => ⟨S32x4x4x128x1, .f32⟩
  | 41 => ⟨S_, .f32⟩
  | 42 => ⟨S4x4, .f32⟩
  | 43 => ⟨S1x4x4x1x1, .f32⟩
  | 44 => ⟨S16, .f32⟩
  | 45 => ⟨S_, .f32⟩
  | 46 => ⟨S32x4x4x128x256, .f32⟩
  | 47 => ⟨S32x4x4x128x256, .f32⟩
  | 48 => ⟨S_, .f32⟩
  | 49 => ⟨S32x4x4x128x256, .f32⟩
  | 50 => ⟨S32x4x4x128x256, .f32⟩
  | 51 => ⟨S32x4x256x128x4, .f32⟩
  | 52 => ⟨S32x4x128x4x64, .f32⟩
  | 53 => ⟨S32x128x4x4x64, .f32⟩
  | 54 => ⟨S32x4x256x64, .f32⟩
  | 55 => ⟨S32x256x4x64, .f32⟩
  | 56 => ⟨S32x128x4x64, .f32⟩
  | 57 => ⟨S32x128x4x64, .f32⟩
  | 58 => ⟨S_, .f32⟩
  | 59 => ⟨S33x128x4x64, .f32⟩
  | 60 => ⟨S_, .f32⟩
  | 61 => ⟨S33x128x4x64, .f32⟩
  | 62 => ⟨S33x128x4x64, .f32⟩
  | 63 => ⟨S32x128x4x64, .f32⟩
  | 64 => ⟨S32x128x4x64, .f32⟩
  | 65 => ⟨S_, .f32⟩
  | 66 => ⟨S33x128x4x64, .f32⟩
  | 67 => ⟨S_, .f32⟩
  | 68 => ⟨S33x128x4x64, .f32⟩
  | 69 => ⟨S33x128x4x64, .f32⟩
  | 70 => ⟨S4224x4x64, .f32⟩
  | 71 => ⟨S128x4x64, .f32⟩
  | 72 => ⟨S4096x4x64, .f32⟩
  | 73 => ⟨S4224x4x64, .f32⟩
  | 74 => ⟨S128x4x64, .f32⟩
  | 75 => ⟨S4096x4x64, .f32⟩
  | 76 => ⟨S4096x256, .f32⟩
  | 77 => ⟨S4096x256, .f32⟩
  | 78 => ⟨S4096x1024, .f32⟩
  | 79 => ⟨S4096x1536, .f32⟩
  | 80 => ⟨S4096x1536, .bf16⟩
  | _ => ⟨S4096x1536, .bf16⟩

abbrev hbmTy (i : Nat) : BufTy := match i / 128 with
  | 0 => hbmTy0_0 i
  | 1 => hbmTy0_1 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_v33 : Ref sig .tc := ⟨.hbm, 42, rfl⟩
abbrev main_v34 : Ref sig .tc := ⟨.hbm, 43, rfl⟩
abbrev main_c_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_5 : Ref sig .tc := ⟨.hbm, 49, rfl⟩
abbrev main_v39 : Ref sig .tc := ⟨.hbm, 50, rfl⟩
abbrev main_v40 : Ref sig .tc := ⟨.hbm, 51, rfl⟩
abbrev main_c_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_12 : Ref sig .tc := ⟨.hbm, 93, rfl⟩
abbrev main_call0_v0 : Ref sig .tc := ⟨.hbm, 94, rfl⟩
abbrev main_v76_1 : Ref sig .tc := ⟨.hbm, 95, rfl⟩
abbrev main_call0_v2 : Ref sig .tc := ⟨.hbm, 96, rfl⟩
abbrev main_v76_0 : Ref sig .tc := ⟨.hbm, 97, rfl⟩
abbrev main_call0_cst : Ref sig .tc := ⟨.hbm, 98, rfl⟩
abbrev main_v76_2 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_14 : Ref sig .tc := ⟨.hbm, 109, rfl⟩
abbrev main_v85 : Ref sig .tc := ⟨.hbm, 110, rfl⟩
abbrev main_cst_15 : Ref sig .tc := ⟨.hbm, 111, rfl⟩
abbrev main_v86 : Ref sig .tc := ⟨.hbm, 112, rfl⟩
abbrev main_v87 : Ref sig .tc := ⟨.hbm, 113, rfl⟩
abbrev main_cst_16 : Ref sig .tc := ⟨.hbm, 114, rfl⟩
abbrev main_v88 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_cst_18 : Ref sig .tc := ⟨.hbm, 120, rfl⟩
abbrev main_v92 : Ref sig .tc := ⟨.hbm, 121, rfl⟩
abbrev main_cst_19 : Ref sig .tc := ⟨.hbm, 122, rfl⟩
abbrev main_v93 : Ref sig .tc := ⟨.hbm, 123, rfl⟩
abbrev main_cst_20 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_22 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_23 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_24 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_25 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_26 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_call1_cst : Ref sig .tc := ⟨.hbm, 173, rfl⟩
abbrev main_call1_v0 : Ref sig .tc := ⟨.hbm, 174, rfl⟩
abbrev main_v136 : Ref sig .tc := ⟨.hbm, 175, rfl⟩
abbrev main_cst_27 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_28 : Ref sig .tc := ⟨.hbm, 186, rfl⟩
abbrev main_v146 : Ref sig .tc := ⟨.hbm, 187, rfl⟩
abbrev main_cst_29 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_30 : Ref sig .tc := ⟨.hbm, 193, rfl⟩
abbrev main_v151 : Ref sig .tc := ⟨.hbm, 194, rfl⟩
abbrev main_cst_31 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩

abbrev nD : Nat := 1
abbrev τ : Topo := Topo.v7x

variable {F : FTy → Type} [FloatOps F]
-- ==== UpFwd0.lean ====
abbrev S4096x1024 : Shape := ⟨2, ![4096, 1024]⟩
abbrev S4x1024x5632 : Shape := ⟨3, ![4, 1024, 5632]⟩
abbrev S2x4096x2816 : Shape := ⟨3, ![2, 4096, 2816]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwd0Ideal.lean ====
abbrev S4096x1024 : Shape := ⟨2, ![4096, 1024]⟩
abbrev S4x1024x5632 : Shape := ⟨3, ![4, 1024, 5632]⟩
abbrev S2x4096x2816 : Shape := ⟨3, ![2, 4096, 2816]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwd0ReferenceIdeal.lean ====
abbrev S4096x1024 : Shape := ⟨2, ![4096, 1024]⟩
abbrev S4x1024x5632 : Shape := ⟨3, ![4, 1024, 5632]⟩
abbrev S1x1024x5632 : Shape := ⟨3, ![1, 1024, 5632]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S1x1024x5632, .bf16⟩
  | .hbm, ⟨3, _⟩ => ⟨S1024x5632, .bf16⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x2x2816, .f32⟩
  | .hbm, ⟨8, _⟩ => ⟨S2x4096x2816, .f32⟩
  | .hbm, ⟨9, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== UpFwd1.lean ====
abbrev S4096x1024 : Shape := ⟨2, ![4096, 1024]⟩
abbrev S4x1024x5632 : Shape := ⟨3, ![4, 1024, 5632]⟩
abbrev S2x4096x2816 : Shape := ⟨3, ![2, 4096, 2816]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwd1Ideal.lean ====
abbrev S4096x1024 : Shape := ⟨2, ![4096, 1024]⟩
abbrev S4x1024x5632 : Shape := ⟨3, ![4, 1024, 5632]⟩
abbrev S2x4096x2816 : Shape := ⟨3, ![2, 4096, 2816]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwd1ReferenceIdeal.lean ====
abbrev S4096x1024 : Shape := ⟨2, ![4096, 1024]⟩
abbrev S4x1024x5632 : Shape := ⟨3, ![4, 1024, 5632]⟩
abbrev S1x1024x5632 : Shape := ⟨3, ![1, 1024, 5632]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S1x1024x5632, .bf16⟩
  | .hbm, ⟨3, _⟩ => ⟨S1024x5632, .bf16⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x2x2816, .f32⟩
  | .hbm, ⟨8, _⟩ => ⟨S2x4096x2816, .f32⟩
  | .hbm, ⟨9, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== UpFwd2.lean ====
abbrev S4096x1024 : Shape := ⟨2, ![4096, 1024]⟩
abbrev S4x1024x5632 : Shape := ⟨3, ![4, 1024, 5632]⟩
abbrev S2x4096x2816 : Shape := ⟨3, ![2, 4096, 2816]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwd2Ideal.lean ====
abbrev S4096x1024 : Shape := ⟨2, ![4096, 1024]⟩
abbrev S4x1024x5632 : Shape := ⟨3, ![4, 1024, 5632]⟩
abbrev S2x4096x2816 : Shape := ⟨3, ![2, 4096, 2816]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwd2ReferenceIdeal.lean ====
abbrev S4096x1024 : Shape := ⟨2, ![4096, 1024]⟩
abbrev S4x1024x5632 : Shape := ⟨3, ![4, 1024, 5632]⟩
abbrev S1x1024x5632 : Shape := ⟨3, ![1, 1024, 5632]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S1x1024x5632, .bf16⟩
  | .hbm, ⟨3, _⟩ => ⟨S1024x5632, .bf16⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x2x2816, .f32⟩
  | .hbm, ⟨8, _⟩ => ⟨S2x4096x2816, .f32⟩
  | .hbm, ⟨9, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== UpFwd3.lean ====
abbrev S4096x1024 : Shape := ⟨2, ![4096, 1024]⟩
abbrev S4x1024x5632 : Shape := ⟨3, ![4, 1024, 5632]⟩
abbrev S2x4096x2816 : Shape := ⟨3, ![2, 4096, 2816]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwd3Ideal.lean ====
abbrev S4096x1024 : Shape := ⟨2, ![4096, 1024]⟩
abbrev S4x1024x5632 : Shape := ⟨3, ![4, 1024, 5632]⟩
abbrev S2x4096x2816 : Shape := ⟨3, ![2, 4096, 2816]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwd3ReferenceIdeal.lean ====
abbrev S4096x1024 : Shape := ⟨2, ![4096, 1024]⟩
abbrev S4x1024x5632 : Shape := ⟨3, ![4, 1024, 5632]⟩
abbrev S1x1024x5632 : Shape := ⟨3, ![1, 1024, 5632]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S1x1024x5632, .bf16⟩
  | .hbm, ⟨3, _⟩ => ⟨S1024x5632, .bf16⟩
  | .hbm, ⟨4, _⟩ => ⟨S4096x1024, .f32⟩
  | .hbm, ⟨5, _⟩ => ⟨S1024x5632, .f32⟩
  | .hbm, ⟨6, _⟩ => ⟨S4096x5632, .f32⟩
  | .hbm, ⟨7, _⟩ => ⟨S4096x2x2816, .f32⟩
  | .hbm, ⟨8, _⟩ => ⟨S2x4096x2816, .f32⟩
  | .hbm, ⟨9, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== DownFwd0.lean ====
abbrev S4096x2816 : Shape := ⟨2, ![4096, 2816]⟩
abbrev S4x2816x1024 : Shape := ⟨3, ![4, 2816, 1024]⟩
abbrev S4096x1024 : Shape := ⟨2, ![4096, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwd0Ideal.lean ====
abbrev S4096x2816 : Shape := ⟨2, ![4096, 2816]⟩
abbrev S4x2816x1024 : Shape := ⟨3, ![4, 2816, 1024]⟩
abbrev S4096x1024 : Shape := ⟨2, ![4096, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwd0ReferenceIdeal.lean ====
abbrev S4096x2816 : Shape := ⟨2, ![4096, 2816]⟩
abbrev S4x2816x1024 : Shape := ⟨3, ![4, 2816, 1024]⟩
abbrev S4096x1024 : Shape := ⟨2, ![4096, 1024]⟩
abbrev S1x2816x1024 : Shape := ⟨3, ![1, 2816, 1024]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S1x2816x1024, .bf16⟩
  | .hbm, ⟨4, _⟩ => ⟨S2816x1024, .bf16⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownFwd1.lean ====
abbrev S4096x2816 : Shape := ⟨2, ![4096, 2816]⟩
abbrev S4x2816x1024 : Shape := ⟨3, ![4, 2816, 1024]⟩
abbrev S4096x1024 : Shape := ⟨2, ![4096, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwd1Ideal.lean ====
abbrev S4096x2816 : Shape := ⟨2, ![4096, 2816]⟩
abbrev S4x2816x1024 : Shape := ⟨3, ![4, 2816, 1024]⟩
abbrev S4096x1024 : Shape := ⟨2, ![4096, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwd1ReferenceIdeal.lean ====
abbrev S4096x2816 : Shape := ⟨2, ![4096, 2816]⟩
abbrev S4x2816x1024 : Shape := ⟨3, ![4, 2816, 1024]⟩
abbrev S4096x1024 : Shape := ⟨2, ![4096, 1024]⟩
abbrev S1x2816x1024 : Shape := ⟨3, ![1, 2816, 1024]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S1x2816x1024, .bf16⟩
  | .hbm, ⟨4, _⟩ => ⟨S2816x1024, .bf16⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownFwd2.lean ====
abbrev S4096x2816 : Shape := ⟨2, ![4096, 2816]⟩
abbrev S4x2816x1024 : Shape := ⟨3, ![4, 2816, 1024]⟩
abbrev S4096x1024 : Shape := ⟨2, ![4096, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwd2Ideal.lean ====
abbrev S4096x2816 : Shape := ⟨2, ![4096, 2816]⟩
abbrev S4x2816x1024 : Shape := ⟨3, ![4, 2816, 1024]⟩
abbrev S4096x1024 : Shape := ⟨2, ![4096, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwd2ReferenceIdeal.lean ====
abbrev S4096x2816 : Shape := ⟨2, ![4096, 2816]⟩
abbrev S4x2816x1024 : Shape := ⟨3, ![4, 2816, 1024]⟩
abbrev S4096x1024 : Shape := ⟨2, ![4096, 1024]⟩
abbrev S1x2816x1024 : Shape := ⟨3, ![1, 2816, 1024]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S1x2816x1024, .bf16⟩
  | .hbm, ⟨4, _⟩ => ⟨S2816x1024, .bf16⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownFwd3.lean ====
abbrev S4096x2816 : Shape := ⟨2, ![4096, 2816]⟩
abbrev S4x2816x1024 : Shape := ⟨3, ![4, 2816, 1024]⟩
abbrev S4096x1024 : Shape := ⟨2, ![4096, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwd3Ideal.lean ====
abbrev S4096x2816 : Shape := ⟨2, ![4096, 2816]⟩
abbrev S4x2816x1024 : Shape := ⟨3, ![4, 2816, 1024]⟩
abbrev S4096x1024 : Shape := ⟨2, ![4096, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwd3ReferenceIdeal.lean ====
abbrev S4096x2816 : Shape := ⟨2, ![4096, 2816]⟩
abbrev S4x2816x1024 : Shape := ⟨3, ![4, 2816, 1024]⟩
abbrev S4096x1024 : Shape := ⟨2, ![4096, 1024]⟩
abbrev S1x2816x1024 : Shape := ⟨3, ![1, 2816, 1024]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4x2816x1024, .bf16⟩
  | .hbm, ⟨2, _⟩ => ⟨S4096x1024, .f32⟩
  | .hbm, ⟨3, _⟩ => ⟨S1x2816x1024, .bf16⟩
  | .hbm, ⟨4, _⟩ => ⟨S2816x1024, .bf16⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnInFwd0.lean ====
abbrev S4096x1024 : Shape := ⟨2, ![4096, 1024]⟩
abbrev S2x1024x1536 : Shape := ⟨3, ![2, 1024, 1536]⟩
abbrev S4096x1536 : Shape := ⟨2, ![4096, 1536]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x1024x1536, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1024x1536, .bf16⟩
  | .local _ .vmem, ⟨4, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInFwd0Ideal.lean ====
abbrev S4096x1024 : Shape := ⟨2, ![4096, 1024]⟩
abbrev S2x1024x1536 : Shape := ⟨3, ![2, 1024, 1536]⟩
abbrev S4096x1536 : Shape := ⟨2, ![4096, 1536]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x1024x1536, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1024x1536, .bf16⟩
  | .local _ .vmem, ⟨4, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInFwd0ReferenceIdeal.lean ====
abbrev S4096x1024 : Shape := ⟨2, ![4096, 1024]⟩
abbrev S2x1024x1536 : Shape := ⟨3, ![2, 1024, 1536]⟩
abbrev S1x1024x1536 : Shape := ⟨3, ![1, 1024, 1536]⟩
abbrev S1024x1536 : Shape := ⟨2, ![1024, 1536]⟩
abbrev S4096x1536 : Shape := ⟨2, ![4096, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1536, .bf16⟩
  | .hbm, ⟨2, _⟩ => ⟨S1x1024x1536, .bf16⟩
  | .hbm, ⟨3, _⟩ => ⟨S1024x1536, .bf16⟩
  | .hbm, ⟨4, _⟩ => ⟨S4096x1024, .f32⟩
  | .hbm, ⟨5, _⟩ => ⟨S1024x1536, .f32⟩
  | .hbm, ⟨6, _⟩ => ⟨S4096x1536, .f32⟩
  | .hbm, ⟨7, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AttnInFwd1.lean ====
abbrev S4096x1024 : Shape := ⟨2, ![4096, 1024]⟩
abbrev S2x1024x1536 : Shape := ⟨3, ![2, 1024, 1536]⟩
abbrev S4096x1536 : Shape := ⟨2, ![4096, 1536]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x1024x1536, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1024x1536, .bf16⟩
  | .local _ .vmem, ⟨4, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInFwd1Ideal.lean ====
abbrev S4096x1024 : Shape := ⟨2, ![4096, 1024]⟩
abbrev S2x1024x1536 : Shape := ⟨3, ![2, 1024, 1536]⟩
abbrev S4096x1536 : Shape := ⟨2, ![4096, 1536]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x1024x1536, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1024x1536, .bf16⟩
  | .local _ .vmem, ⟨4, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInFwd1ReferenceIdeal.lean ====
abbrev S4096x1024 : Shape := ⟨2, ![4096, 1024]⟩
abbrev S2x1024x1536 : Shape := ⟨3, ![2, 1024, 1536]⟩
abbrev S1x1024x1536 : Shape := ⟨3, ![1, 1024, 1536]⟩
abbrev S1024x1536 : Shape := ⟨2, ![1024, 1536]⟩
abbrev S4096x1536 : Shape := ⟨2, ![4096, 1536]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1536, .bf16⟩
  | .hbm, ⟨2, _⟩ => ⟨S1x1024x1536, .bf16⟩
  | .hbm, ⟨3, _⟩ => ⟨S1024x1536, .bf16⟩
  | .hbm, ⟨4, _⟩ => ⟨S4096x1024, .f32⟩
  | .hbm, ⟨5, _⟩ => ⟨S1024x1536, .f32⟩
  | .hbm, ⟨6, _⟩ => ⟨S4096x1536, .f32⟩
  | .hbm, ⟨7, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== HgrnInFwd0.lean ====
abbrev S4096x1024 : Shape := ⟨2, ![4096, 1024]⟩
abbrev S2x1024x4096 : Shape := ⟨3, ![2, 1024, 4096]⟩
abbrev S4096x4096 : Shape := ⟨2, ![4096, 4096]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x2048, .f32⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnInFwd0Ideal.lean ====
abbrev S4096x1024 : Shape := ⟨2, ![4096, 1024]⟩
abbrev S2x1024x4096 : Shape := ⟨3, ![2, 1024, 4096]⟩
abbrev S4096x4096 : Shape := ⟨2, ![4096, 4096]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x2048, .f32⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnInFwd0ReferenceIdeal.lean ====
abbrev S4096x1024 : Shape := ⟨2, ![4096, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .bf16⟩
  | .hbm, ⟨2, _⟩ => ⟨S1x1024x4096, .bf16⟩
  | .hbm, ⟨3, _⟩ => ⟨S1024x4096, .bf16⟩
  | .hbm, ⟨4, _⟩ => ⟨S4096x1024, .f32⟩
  | .hbm, ⟨5, _⟩ => ⟨S1024x4096, .f32⟩
  | .hbm, ⟨6, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== HgrnInFwd1.lean ====
abbrev S4096x1024 : Shape := ⟨2, ![4096, 1024]⟩
abbrev S2x1024x4096 : Shape := ⟨3, ![2, 1024, 4096]⟩
abbrev S4096x4096 : Shape := ⟨2, ![4096, 4096]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x2048, .f32⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnInFwd1Ideal.lean ====
abbrev S4096x1024 : Shape := ⟨2, ![4096, 1024]⟩
abbrev S2x1024x4096 : Shape := ⟨3, ![2, 1024, 4096]⟩
abbrev S4096x4096 : Shape := ⟨2, ![4096, 4096]⟩
abbrev S1024x1024 : Shape := ⟨2, ![1024, 1024]⟩
abbrev S1x1024x2048 : Shape := ⟨3, ![1, 1024, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x2048, .f32⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnInFwd1ReferenceIdeal.lean ====
abbrev S4096x1024 : Shape := ⟨2, ![4096, 1024]⟩
abbrev S2x1024x4096 : Shape := ⟨3, ![2, 1024, 4096]⟩
abbrev S1x1024x4096 : Shape := ⟨3, ![1, 1024, 4096]⟩
abbrev S1024x4096 : Shape := ⟨2, ![1024, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x4096, .bf16⟩
  | .hbm, ⟨2, _⟩ => ⟨S1x1024x4096, .bf16⟩
  | .hbm, ⟨3, _⟩ => ⟨S1024x4096, .bf16⟩
  | .hbm, ⟨4, _⟩ => ⟨S4096x1024, .f32⟩
  | .hbm, ⟨5, _⟩ => ⟨S1024x4096, .f32⟩
  | .hbm, ⟨6, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutFwd0.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwd0Ideal.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwd0ReferenceIdeal.lean ====
abbrev S4096x1024 : Shape := ⟨2, ![4096, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutFwd1.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwd1Ideal.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwd1ReferenceIdeal.lean ====
abbrev S4096x1024 : Shape := ⟨2, ![4096, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx0.lean ====
abbrev S4096x1024 : Shape := ⟨2, ![4096, 1024]⟩
abbrev S4x2816x1024 : Shape := ⟨3, ![4, 2816, 1024]⟩
abbrev S4096x2816 : Shape := ⟨2, ![4096, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx0Ideal.lean ====
abbrev S4096x1024 : Shape := ⟨2, ![4096, 1024]⟩
abbrev S4x2816x1024 : Shape := ⟨3, ![4, 2816, 1024]⟩
abbrev S4096x2816 : Shape := ⟨2, ![4096, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx0ReferenceIdeal.lean ====
abbrev S4096x1024 : Shape := ⟨2, ![4096, 1024]⟩
abbrev S4x2816x1024 : Shape := ⟨3, ![4, 2816, 1024]⟩
abbrev S_ : Shape := ⟨0, ![]⟩
abbrev S4096x2816 : Shape := ⟨2, ![4096, 2816]⟩
abbrev S1x2816x1024 : Shape := ⟨3, ![1, 2816, 1024]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S_, .f32⟩
  | .hbm, ⟨3, _⟩ => ⟨S4096x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx1.lean ====
abbrev S4096x1024 : Shape := ⟨2, ![4096, 1024]⟩
abbrev S4x2816x1024 : Shape := ⟨3, ![4, 2816, 1024]⟩
abbrev S4096x2816 : Shape := ⟨2, ![4096, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx1Ideal.lean ====
abbrev S4096x1024 : Shape := ⟨2, ![4096, 1024]⟩
abbrev S4x2816x1024 : Shape := ⟨3, ![4, 2816, 1024]⟩
abbrev S4096x2816 : Shape := ⟨2, ![4096, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx1ReferenceIdeal.lean ====
abbrev S4096x1024 : Shape := ⟨2, ![4096, 1024]⟩
abbrev S4x2816x1024 : Shape := ⟨3, ![4, 2816, 1024]⟩
abbrev S_ : Shape := ⟨0, ![]⟩
abbrev S4096x2816 : Shape := ⟨2, ![4096, 2816]⟩
abbrev S1x2816x1024 : Shape := ⟨3, ![1, 2816, 1024]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S_, .f32⟩
  | .hbm, ⟨3, _⟩ => ⟨S4096x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx2.lean ====
abbrev S4096x1024 : Shape := ⟨2, ![4096, 1024]⟩
abbrev S4x2816x1024 : Shape := ⟨3, ![4, 2816, 1024]⟩
abbrev S4096x2816 : Shape := ⟨2, ![4096, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx2Ideal.lean ====
abbrev S4096x1024 : Shape := ⟨2, ![4096, 1024]⟩
abbrev S4x2816x1024 : Shape := ⟨3, ![4, 2816, 1024]⟩
abbrev S4096x2816 : Shape := ⟨2, ![4096, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx2ReferenceIdeal.lean ====
abbrev S4096x1024 : Shape := ⟨2, ![4096, 1024]⟩
abbrev S4x2816x1024 : Shape := ⟨3, ![4, 2816, 1024]⟩
abbrev S_ : Shape := ⟨0, ![]⟩
abbrev S4096x2816 : Shape := ⟨2, ![4096, 2816]⟩
abbrev S1x2816x1024 : Shape := ⟨3, ![1, 2816, 1024]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S_, .f32⟩
  | .hbm, ⟨3, _⟩ => ⟨S4096x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx3.lean ====
abbrev S4096x1024 : Shape := ⟨2, ![4096, 1024]⟩
abbrev S4x2816x1024 : Shape := ⟨3, ![4, 2816, 1024]⟩
abbrev S4096x2816 : Shape := ⟨2, ![4096, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx3Ideal.lean ====
abbrev S4096x1024 : Shape := ⟨2, ![4096, 1024]⟩
abbrev S4x2816x1024 : Shape := ⟨3, ![4, 2816, 1024]⟩
abbrev S4096x2816 : Shape := ⟨2, ![4096, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDx3ReferenceIdeal.lean ====
abbrev S4096x1024 : Shape := ⟨2, ![4096, 1024]⟩
abbrev S4x2816x1024 : Shape := ⟨3, ![4, 2816, 1024]⟩
abbrev S_ : Shape := ⟨0, ![]⟩
abbrev S4096x2816 : Shape := ⟨2, ![4096, 2816]⟩
abbrev S1x2816x1024 : Shape := ⟨3, ![1, 2816, 1024]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x2816x1024, .bf16⟩
  | .hbm, ⟨2, _⟩ => ⟨S_, .f32⟩
  | .hbm, ⟨3, _⟩ => ⟨S4096x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HgrnOutDx0.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutDx0Ideal.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutDx0ReferenceIdeal.lean ====
abbrev S4096x1024 : Shape := ⟨2, ![4096, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HgrnOutDx1.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutDx1Ideal.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnOutDx1ReferenceIdeal.lean ====
abbrev S4096x1024 : Shape := ⟨2, ![4096, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnOutDx0.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDx0Ideal.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDx0ReferenceIdeal.lean ====
abbrev S4096x1024 : Shape := ⟨2, ![4096, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnOutDx1.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDx1Ideal.lean ====
abbrev S4096x1024 : Shape := ⟨2, ![4096, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDx1ReferenceIdeal.lean ====
abbrev S4096x1024 : Shape := ⟨2, ![4096, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDw.lean ====
abbrev S1024x4096 : Shape := ⟨2, ![1024, 4096]⟩
abbrev S2x4096x2816 : Shape := ⟨3, ![2, 4096, 2816]⟩
abbrev S1x1024x5632 : Shape := ⟨3, ![1, 1024, 5632]⟩
abbrev S1x4096x256 : Shape := ⟨3, ![1, 4096, 256]⟩
abbrev S1x1024x256 : Shape := ⟨3, ![1, 1024, 256]⟩
abbrev S4096x256 : Shape := ⟨2, ![4096, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S2x4096x2816, .bf16⟩
  | .hbm, ⟨2, _⟩ => ⟨S1x1024x5632, .f32⟩
  | .local _ .vmem, ⟨0, _⟩ => ⟨S1024x4096, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x1024x256, .f32⟩
  | .local _ .vmem, ⟨4, _⟩ => ⟨S1x1024x256, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 22, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S1024x4096 : Shape := ⟨2, ![1024, 4096]⟩
abbrev S2x4096x2816 : Shape := ⟨3, ![2, 4096, 2816]⟩
abbrev S4096x2x2816 : Shape := ⟨3, ![4096, 2, 2816]⟩
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩
abbrev S1x1024x5632 : Shape := ⟨3, ![1, 1024, 5632]⟩

abbrev nBuf : Space → Nat
  | .hbm => 13
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S2x4096x2816, .bf16⟩
  | .hbm, ⟨2, _⟩ => ⟨S4096x2x2816, .bf16⟩
  | .hbm, ⟨3, _⟩ => ⟨S4096x5632, .bf16⟩
  | .hbm, ⟨4, _⟩ => ⟨S4096x1024, .bf16⟩
  | .hbm, ⟨5, _⟩ => ⟨S_, .f32⟩
  | .hbm, ⟨6, _⟩ => ⟨S1024x5632, .f32⟩
  | .hbm, ⟨7, _⟩ => ⟨S4096x1024, .f32⟩
  | .hbm, ⟨8, _⟩ => ⟨S4096x5632, .f32⟩
  | .hbm, ⟨9, _⟩ => ⟨S4096x5632, .f32⟩
  | .hbm, ⟨10, _⟩ => ⟨S5632x1024, .f32⟩
  | .hbm, ⟨11, _⟩ => ⟨S1024x5632, .f32⟩
  | .hbm, ⟨12, _⟩ => ⟨S1x1024x5632, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DownDw.lean ====
abbrev S2816x4096 : Shape := ⟨2, ![2816, 4096]⟩
abbrev S4096x1024 : Shape := ⟨2, ![4096, 1024]⟩
abbrev S1x2816x1024 : Shape := ⟨3, ![1, 2816, 1024]⟩
abbrev S1408x1024 : Shape := ⟨2, ![1408, 1024]⟩
abbrev S1024x1024 : Shape := ⟨2, ![1024, 1024]⟩
abbrev S1x1408x1024 : Shape := ⟨3, ![1, 1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .f32⟩
  | .hbm, ⟨2, _⟩ => ⟨S1x2816x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .f32⟩
  | .local _ .vmem, ⟨5, _⟩ => ⟨S1x1408x1024, .f32⟩
  | _, _ => ⟨S2816x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S2816x4096 : Shape := ⟨2, ![2816, 4096]⟩
abbrev S4096x1024 : Shape := ⟨2, ![4096, 1024]⟩
abbrev S1x2816x1024 : Shape := ⟨3, ![1, 2816, 1024]⟩
abbrev S1408x1024 : Shape := ⟨2, ![1408, 1024]⟩
abbrev S1024x1024 : Shape := ⟨2, ![1024, 1024]⟩
abbrev S1x1408x1024 : Shape := ⟨3, ![1, 1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .f32⟩
  | .hbm, ⟨2, _⟩ => ⟨S1x2816x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .f32⟩
  | .local _ .vmem, ⟨5, _⟩ => ⟨S1x1408x1024, .f32⟩
  | _, _ => ⟨S2816x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S2816x4096 : Shape := ⟨2, ![2816, 4096]⟩
abbrev S4096x1024 : Shape := ⟨2, ![4096, 1024]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .f32⟩
  | .hbm, ⟨2, _⟩ => ⟨S4096x2816, .bf16⟩
  | .hbm, ⟨3, _⟩ => ⟨S_, .f32⟩
  | .hbm, ⟨4, _⟩ => ⟨S2816x1024, .f32⟩
  | .hbm, ⟨5, _⟩ => ⟨S4096x2816, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | _, _ => ⟨S2816x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnInDw.lean ====
abbrev S1024x4096 : Shape := ⟨2, ![1024, 4096]⟩
abbrev S4096x1536 : Shape := ⟨2, ![4096, 1536]⟩
abbrev S1x1024x1536 : Shape := ⟨3, ![1, 1024, 1536]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x1536, .bf16⟩
  | .hbm, ⟨2, _⟩ => ⟨S1x1024x1536, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInDwIdeal.lean ====
abbrev S1024x4096 : Shape := ⟨2, ![1024, 4096]⟩
abbrev S4096x1536 : Shape := ⟨2, ![4096, 1536]⟩
abbrev S1x1024x1536 : Shape := ⟨3, ![1, 1024, 1536]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x1536, .bf16⟩
  | .hbm, ⟨2, _⟩ => ⟨S1x1024x1536, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInDwReferenceIdeal.lean ====
abbrev S1024x4096 : Shape := ⟨2, ![1024, 4096]⟩
abbrev S4096x1536 : Shape := ⟨2, ![4096, 1536]⟩
abbrev S4096x1024 : Shape := ⟨2, ![4096, 1024]⟩
abbrev S_ : Shape := ⟨0, ![]⟩
abbrev S1024x1536 : Shape := ⟨2, ![1024, 1536]⟩
abbrev S1536x1024 : Shape := ⟨2, ![1536, 1024]⟩
abbrev S1x1024x1536 : Shape := ⟨3, ![1, 1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1536, .bf16⟩
  | .hbm, ⟨2, _⟩ => ⟨S4096x1024, .bf16⟩
  | .hbm, ⟨3, _⟩ => ⟨S_, .f32⟩
  | .hbm, ⟨4, _⟩ => ⟨S1024x1536, .f32⟩
  | .hbm, ⟨5, _⟩ => ⟨S4096x1024, .f32⟩
  | .hbm, ⟨6, _⟩ => ⟨S4096x1536, .f32⟩
  | .hbm, ⟨7, _⟩ => ⟨S4096x1536, .f32⟩
  | .hbm, ⟨8, _⟩ => ⟨S1536x1024, .f32⟩
  | .hbm, ⟨9, _⟩ => ⟨S1024x1536, .f32⟩
  | .hbm, ⟨10, _⟩ => ⟨S1x1024x1536, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== HgrnInDw.lean ====
abbrev S1024x4096 : Shape := ⟨2, ![1024, 4096]⟩
abbrev S4096x4096 : Shape := ⟨2, ![4096, 4096]⟩
abbrev S1x1024x4096 : Shape := ⟨3, ![1, 1024, 4096]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S1x1024x4096, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgrnInDwReferenceIdeal.lean ====
abbrev S1024x4096 : Shape := ⟨2, ![1024, 4096]⟩
abbrev S4096x4096 : Shape := ⟨2, ![4096, 4096]⟩
abbrev S4096x1024 : Shape := ⟨2, ![4096, 1024]⟩
abbrev S_ : Shape := ⟨0, ![]⟩
abbrev S1x1024x4096 : Shape := ⟨3, ![1, 1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S4096x1024, .bf16⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1x1024x4096, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDw.lean ====
abbrev S4096x1024 : Shape := ⟨2, ![4096, 1024]⟩
abbrev S1x1024x1024 : Shape := ⟨3, ![1, 1024, 1024]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x512, .f32⟩
  | .local _ .vmem, ⟨3, _⟩ => ⟨S4096x512, .f32⟩
  | .local _ .vmem, ⟨4, _⟩ => ⟨S1x512x512, .f32⟩
  | .local _ .vmem, ⟨5, _⟩ => ⟨S1x512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDx0.lean ====
abbrev S2x4096x2816 : Shape := ⟨3, ![2, 4096, 2816]⟩
abbrev S4x1024x5632 : Shape := ⟨3, ![4, 1024, 5632]⟩
abbrev S4096x1024 : Shape := ⟨2, ![4096, 1024]⟩
abbrev S4x1x1024 : Shape := ⟨3, ![4, 1, 1024]⟩
abbrev S1x1024 : Shape := ⟨2, ![1, 1024]⟩
abbrev S1x512x2816 : Shape := ⟨3, ![1, 512, 2816]⟩
abbrev S1x1024x2816 : Shape := ⟨3, ![1, 1024, 2816]⟩
abbrev S512x1024 : Shape := ⟨2, ![512, 1024]⟩
abbrev S1x1x1024 : Shape := ⟨3, ![1, 1, 1024]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x5632, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c0_i32_28 : BitVec 32 := 0#32
  let v54 : BitVec 1 := Scalar.cmpi .eq arg1 c0_i32_28
  let v55 : BitVec 32 := Scalar.extui v54
  let c0_i32_29 : BitVec 32 := 0#32
  let v56 : BitVec 1 := Scalar.cmpi .ne v55 c0_i32_29
  v56

def k0_cond5 (i : grid0.Coords) : BitVec 1 :=
  let arg1 : BitVec 32 := BitVec.ofNat 32 (i 1).val
  let c0_i32_28 : BitVec 32 := 0#32
  let v54 : BitVec 1 := Scalar.cmpi .eq arg1 c0_i32_28
  let v_true : BitVec 1 := 1#1
  let v57 : BitVec 1 := Scalar.xori v54 v_true
  let v58 : BitVec 32 := Scalar.extui v57
  let c0_i32_30 : BitVec 32 := 0#32
  let v59 : BitVec 1 := Scalar.cmpi .ne v58 c0_i32_30
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpDx0Ideal.lean ====
abbrev S2x4096x2816 : Shape := ⟨3, ![2, 4096, 2816]⟩
abbrev S4x1024x5632 : Shape := ⟨3, ![4, 1024, 5632]⟩
abbrev S4096x1024 : Shape := ⟨2, ![4096, 1024]⟩
abbrev S4x1x1024 : Shape := ⟨3, ![4, 1, 1024]⟩
abbrev S1x1024 : Shape := ⟨2, ![1, 1024]⟩
abbrev S1x512x2816 : Shape := ⟨3, ![1, 512, 2816]⟩
abbrev S1x1024x2816 : Shape := ⟨3, ![1, 1024, 2816]⟩
abbrev S512x1024 : Shape := ⟨2, ![512, 1024]⟩
abbrev S1x1x1024 : Shape := ⟨3, ![1, 1, 1024]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x5632, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c0_i32_28 : BitVec 32 := 0#32
  let v54 : BitVec 1 := Scalar.cmpi .eq arg1 c0_i32_28
  let v55 : BitVec 32 := Scalar.extui v54
  let c0_i32_29 : BitVec 32 := 0#32
  let v56 : BitVec 1 := Scalar.cmpi .ne v55 c0_i32_29
  v56

def k0_cond5 (i : grid0.Coords) : BitVec 1 :=
  let arg1 : BitVec 32 := BitVec.ofNat 32 (i 1).val
  let c0_i32_28 : BitVec 32 := 0#32
  let v54 : BitVec 1 := Scalar.cmpi .eq arg1 c0_i32_28
  let v_true : BitVec 1 := 1#1
  let v57 : BitVec 1 := Scalar.xori v54 v_true
  let v58 : BitVec 32 := Scalar.extui v57
  let c0_i32_30 : BitVec 32 := 0#32
  let v59 : BitVec 1 := Scalar.cmpi .ne v58 c0_i32_30
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpDx0ReferenceIdeal.lean ====
abbrev S2x4096x2816 : Shape := ⟨3, ![2, 4096, 2816]⟩
abbrev S4x1024x5632 : Shape := ⟨3, ![4, 1024, 5632]⟩
abbrev S4096x1024 : Shape := ⟨2, ![4096, 1024]⟩
abbrev S4x1x1024 : Shape := ⟨3, ![4, 1, 1024]⟩
abbrev S4096x2x2816 : Shape := ⟨3, ![4096, 2, 2816]⟩
abbrev S4096x5632 : Shape := ⟨2, ![4096, 5632]⟩
abbrev S1x1024x5632 : Shape := ⟨3, ![1, 1024, 5632]⟩
abbrev S1024x5632 : Shape := ⟨2, ![1024, 5632]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x5632, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x2x2816, .bf16⟩
  | .hbm, ⟨6, _⟩ => ⟨S4096x5632, .bf16⟩
  | .hbm, ⟨7, _⟩ => ⟨S1x1024x5632, .bf16⟩
  | .hbm, ⟨8, _⟩ => ⟨S1024x5632, .bf16⟩
  | .hbm, ⟨9, _⟩ => ⟨S1x1x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x5632, .f32⟩
  | .hbm, ⟨31, _⟩ => ⟨S4096x5632, .f32⟩
  | .hbm, ⟨32, _⟩ => ⟨S4096x5632, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== UpDx1.lean ====
abbrev S2x4096x2816 : Shape := ⟨3, ![2, 4096, 2816]⟩
abbrev S4x1024x5632 : Shape := ⟨3, ![4, 1024, 5632]⟩
abbrev S4096x1024 : Shape := ⟨2, ![4096, 1024]⟩
abbrev S4x1x1024 : Shape := ⟨3, ![4, 1, 1024]⟩
abbrev S1x1024 : Shape := ⟨2, ![1, 1024]⟩
abbrev S1x512x2816 : Shape := ⟨3, ![1, 512, 2816]⟩
abbrev S1x1024x2816 : Shape := ⟨3, ![1, 1024, 2816]⟩
abbrev S512x1024 : Shape := ⟨2, ![512, 1024]⟩
abbrev S1x1x1024 : Shape := ⟨3, ![1, 1, 1024]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x5632, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c0_i32_28 : BitVec 32 := 0#32
  let v54 : BitVec 1 := Scalar.cmpi .eq arg1 c0_i32_28
  let v55 : BitVec 32 := Scalar.extui v54
  let c0_i32_29 : BitVec 32 := 0#32
  let v56 : BitVec 1 := Scalar.cmpi .ne v55 c0_i32_29
  v56

def k0_cond5 (i : grid0.Coords) : BitVec 1 :=
  let arg1 : BitVec 32 := BitVec.ofNat 32 (i 1).val
  let c0_i32_28 : BitVec 32 := 0#32
  let v54 : BitVec 1 := Scalar.cmpi .eq arg1 c0_i32_28
  let v_true : BitVec 1 := 1#1
  let v57 : BitVec 1 := Scalar.xori v54 v_true
  let v58 : BitVec 32 := Scalar.extui v57
  let c0_i32_30 : BitVec 32 := 0#32
  let v59 : BitVec 1 := Scalar.cmpi .ne v58 c0_i32_30
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpDx1Ideal.lean ====
abbrev S2x4096x2816 : Shape := ⟨3, ![2, 4096, 2816]⟩
abbrev S4x1024x5632 : Shape := ⟨3, ![4, 1024, 5632]⟩
abbrev S4096x1024 : Shape := ⟨2, ![4096, 1024]⟩
abbrev S4x1x1024 : Shape := ⟨3, ![4, 1, 1024]⟩
abbrev S1x1024 : Shape := ⟨2, ![1, 1024]⟩
abbrev S1x512x2816 : Shape := ⟨3, ![1, 512, 2816]⟩
abbrev S1x1024x2816 : Shape := ⟨3, ![1, 1024, 2816]⟩
abbrev S512x1024 : Shape := ⟨2, ![512, 1024]⟩
abbrev S1x1x1024 : Shape := ⟨3, ![1, 1, 1024]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x5632, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c0_i32_28 : BitVec 32 := 0#32
  let v54 : BitVec 1 := Scalar.cmpi .eq arg1 c0_i32_28
  let v55 : BitVec 32 := Scalar.extui v54
  let c0_i32_29 : BitVec 32 := 0#32
  let v56 : BitVec 1 := Scalar.cmpi .ne v55 c0_i32_29
  v56

def k0_cond5 (i : grid0.Coords) : BitVec 1 :=
  let arg1 : BitVec 32 := BitVec.ofNat 32 (i 1).val
  let c0_i32_28 : BitVec 32 := 0#32
  let v54 : BitVec 1 := Scalar.cmpi .eq arg1 c0_i32_28
  let v_true : BitVec 1 := 1#1
  let v57 : BitVec 1 := Scalar.xori v54 v_true
  let v58 : BitVec 32 := Scalar.extui v57
  let c0_i32_30 : BitVec 32 := 0#32
  let v59 : BitVec 1 := Scalar.cmpi .ne v58 c0_i32_30
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpDx1ReferenceIdeal.lean ====
abbrev S2x4096x2816 : Shape := ⟨3, ![2, 4096, 2816]⟩
abbrev S4x1024x5632 : Shape := ⟨3, ![4, 1024, 5632]⟩
abbrev S4096x1024 : Shape := ⟨2, ![4096, 1024]⟩
abbrev S4x1x1024 : Shape := ⟨3, ![4, 1, 1024]⟩
abbrev S4096x2x2816 : Shape := ⟨3, ![4096, 2, 2816]⟩
abbrev S4096x5632 : Shape := ⟨2, ![4096, 5632]⟩
abbrev S1x1024x5632 : Shape := ⟨3, ![1, 1024, 5632]⟩
abbrev S1024x5632 : Shape := ⟨2, ![1024, 5632]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x5632, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x2x2816, .bf16⟩
  | .hbm, ⟨6, _⟩ => ⟨S4096x5632, .bf16⟩
  | .hbm, ⟨7, _⟩ => ⟨S1x1024x5632, .bf16⟩
  | .hbm, ⟨8, _⟩ => ⟨S1024x5632, .bf16⟩
  | .hbm, ⟨9, _⟩ => ⟨S1x1x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x5632, .f32⟩
  | .hbm, ⟨31, _⟩ => ⟨S4096x5632, .f32⟩
  | .hbm, ⟨32, _⟩ => ⟨S4096x5632, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== UpDx2.lean ====
abbrev S2x4096x2816 : Shape := ⟨3, ![2, 4096, 2816]⟩
abbrev S4x1024x5632 : Shape := ⟨3, ![4, 1024, 5632]⟩
abbrev S4096x1024 : Shape := ⟨2, ![4096, 1024]⟩
abbrev S4x1x1024 : Shape := ⟨3, ![4, 1, 1024]⟩
abbrev S1x1024 : Shape := ⟨2, ![1, 1024]⟩
abbrev S1x512x2816 : Shape := ⟨3, ![1, 512, 2816]⟩
abbrev S1x1024x2816 : Shape := ⟨3, ![1, 1024, 2816]⟩
abbrev S512x1024 : Shape := ⟨2, ![512, 1024]⟩
abbrev S1x1x1024 : Shape := ⟨3, ![1, 1, 1024]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x5632, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c0_i32_28 : BitVec 32 := 0#32
  let v54 : BitVec 1 := Scalar.cmpi .eq arg1 c0_i32_28
  let v55 : BitVec 32 := Scalar.extui v54
  let c0_i32_29 : BitVec 32 := 0#32
  let v56 : BitVec 1 := Scalar.cmpi .ne v55 c0_i32_29
  v56

def k0_cond5 (i : grid0.Coords) : BitVec 1 :=
  let arg1 : BitVec 32 := BitVec.ofNat 32 (i 1).val
  let c0_i32_28 : BitVec 32 := 0#32
  let v54 : BitVec 1 := Scalar.cmpi .eq arg1 c0_i32_28
  let v_true : BitVec 1 := 1#1
  let v57 : BitVec 1 := Scalar.xori v54 v_true
  let v58 : BitVec 32 := Scalar.extui v57
  let c0_i32_30 : BitVec 32 := 0#32
  let v59 : BitVec 1 := Scalar.cmpi .ne v58 c0_i32_30
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpDx2Ideal.lean ====
abbrev S2x4096x2816 : Shape := ⟨3, ![2, 4096, 2816]⟩
abbrev S4x1024x5632 : Shape := ⟨3, ![4, 1024, 5632]⟩
abbrev S4096x1024 : Shape := ⟨2, ![4096, 1024]⟩
abbrev S4x1x1024 : Shape := ⟨3, ![4, 1, 1024]⟩
abbrev S1x1024 : Shape := ⟨2, ![1, 1024]⟩
abbrev S1x512x2816 : Shape := ⟨3, ![1, 512, 2816]⟩
abbrev S1x1024x2816 : Shape := ⟨3, ![1, 1024, 2816]⟩
abbrev S512x1024 : Shape := ⟨2, ![512, 1024]⟩
abbrev S1x1x1024 : Shape := ⟨3, ![1, 1, 1024]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x5632, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c0_i32_28 : BitVec 32 := 0#32
  let v54 : BitVec 1 := Scalar.cmpi .eq arg1 c0_i32_28
  let v55 : BitVec 32 := Scalar.extui v54
  let c0_i32_29 : BitVec 32 := 0#32
  let v56 : BitVec 1 := Scalar.cmpi .ne v55 c0_i32_29
  v56

def k0_cond5 (i : grid0.Coords) : BitVec 1 :=
  let arg1 : BitVec 32 := BitVec.ofNat 32 (i 1).val
  let c0_i32_28 : BitVec 32 := 0#32
  let v54 : BitVec 1 := Scalar.cmpi .eq arg1 c0_i32_28
  let v_true : BitVec 1 := 1#1
  let v57 : BitVec 1 := Scalar.xori v54 v_true
  let v58 : BitVec 32 := Scalar.extui v57
  let c0_i32_30 : BitVec 32 := 0#32
  let v59 : BitVec 1 := Scalar.cmpi .ne v58 c0_i32_30
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpDx2ReferenceIdeal.lean ====
abbrev S2x4096x2816 : Shape := ⟨3, ![2, 4096, 2816]⟩
abbrev S4x1024x5632 : Shape := ⟨3, ![4, 1024, 5632]⟩
abbrev S4096x1024 : Shape := ⟨2, ![4096, 1024]⟩
abbrev S4x1x1024 : Shape := ⟨3, ![4, 1, 1024]⟩
abbrev S4096x2x2816 : Shape := ⟨3, ![4096, 2, 2816]⟩
abbrev S4096x5632 : Shape := ⟨2, ![4096, 5632]⟩
abbrev S1x1024x5632 : Shape := ⟨3, ![1, 1024, 5632]⟩
abbrev S1024x5632 : Shape := ⟨2, ![1024, 5632]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x5632, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x2x2816, .bf16⟩
  | .hbm, ⟨6, _⟩ => ⟨S4096x5632, .bf16⟩
  | .hbm, ⟨7, _⟩ => ⟨S1x1024x5632, .bf16⟩
  | .hbm, ⟨8, _⟩ => ⟨S1024x5632, .bf16⟩
  | .hbm, ⟨9, _⟩ => ⟨S1x1x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x5632, .f32⟩
  | .hbm, ⟨31, _⟩ => ⟨S4096x5632, .f32⟩
  | .hbm, ⟨32, _⟩ => ⟨S4096x5632, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== UpDx3.lean ====
abbrev S2x4096x2816 : Shape := ⟨3, ![2, 4096, 2816]⟩
abbrev S4x1024x5632 : Shape := ⟨3, ![4, 1024, 5632]⟩
abbrev S4096x1024 : Shape := ⟨2, ![4096, 1024]⟩
abbrev S4x1x1024 : Shape := ⟨3, ![4, 1, 1024]⟩
abbrev S1x1024 : Shape := ⟨2, ![1, 1024]⟩
abbrev S1x512x2816 : Shape := ⟨3, ![1, 512, 2816]⟩
abbrev S1x1024x2816 : Shape := ⟨3, ![1, 1024, 2816]⟩
abbrev S512x1024 : Shape := ⟨2, ![512, 1024]⟩
abbrev S1x1x1024 : Shape := ⟨3, ![1, 1, 1024]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x5632, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c0_i32_28 : BitVec 32 := 0#32
  let v54 : BitVec 1 := Scalar.cmpi .eq arg1 c0_i32_28
  let v55 : BitVec 32 := Scalar.extui v54
  let c0_i32_29 : BitVec 32 := 0#32
  let v56 : BitVec 1 := Scalar.cmpi .ne v55 c0_i32_29
  v56

def k0_cond5 (i : grid0.Coords) : BitVec 1 :=
  let arg1 : BitVec 32 := BitVec.ofNat 32 (i 1).val
  let c0_i32_28 : BitVec 32 := 0#32
  let v54 : BitVec 1 := Scalar.cmpi .eq arg1 c0_i32_28
  let v_true : BitVec 1 := 1#1
  let v57 : BitVec 1 := Scalar.xori v54 v_true
  let v58 : BitVec 32 := Scalar.extui v57
  let c0_i32_30 : BitVec 32 := 0#32
  let v59 : BitVec 1 := Scalar.cmpi .ne v58 c0_i32_30
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpDx3Ideal.lean ====
abbrev S2x4096x2816 : Shape := ⟨3, ![2, 4096, 2816]⟩
abbrev S4x1024x5632 : Shape := ⟨3, ![4, 1024, 5632]⟩
abbrev S4096x1024 : Shape := ⟨2, ![4096, 1024]⟩
abbrev S4x1x1024 : Shape := ⟨3, ![4, 1, 1024]⟩
abbrev S1x1024 : Shape := ⟨2, ![1, 1024]⟩
abbrev S1x512x2816 : Shape := ⟨3, ![1, 512, 2816]⟩
abbrev S1x1024x2816 : Shape := ⟨3, ![1, 1024, 2816]⟩
abbrev S512x1024 : Shape := ⟨2, ![512, 1024]⟩
abbrev S1x1x1024 : Shape := ⟨3, ![1, 1, 1024]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x5632, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c0_i32_28 : BitVec 32 := 0#32
  let v54 : BitVec 1 := Scalar.cmpi .eq arg1 c0_i32_28
  let v55 : BitVec 32 := Scalar.extui v54
  let c0_i32_29 : BitVec 32 := 0#32
  let v56 : BitVec 1 := Scalar.cmpi .ne v55 c0_i32_29
  v56

def k0_cond5 (i : grid0.Coords) : BitVec 1 :=
  let arg1 : BitVec 32 := BitVec.ofNat 32 (i 1).val
  let c0_i32_28 : BitVec 32 := 0#32
  let v54 : BitVec 1 := Scalar.cmpi .eq arg1 c0_i32_28
  let v_true : BitVec 1 := 1#1
  let v57 : BitVec 1 := Scalar.xori v54 v_true
  let v58 : BitVec 32 := Scalar.extui v57
  let c0_i32_30 : BitVec 32 := 0#32
  let v59 : BitVec 1 := Scalar.cmpi .ne v58 c0_i32_30
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpDx3ReferenceIdeal.lean ====
abbrev S2x4096x2816 : Shape := ⟨3, ![2, 4096, 2816]⟩
abbrev S4x1024x5632 : Shape := ⟨3, ![4, 1024, 5632]⟩
abbrev S4096x1024 : Shape := ⟨2, ![4096, 1024]⟩
abbrev S4x1x1024 : Shape := ⟨3, ![4, 1, 1024]⟩
abbrev S4096x2x2816 : Shape := ⟨3, ![4096, 2, 2816]⟩
abbrev S4096x5632 : Shape := ⟨2, ![4096, 5632]⟩
abbrev S1x1024x5632 : Shape := ⟨3, ![1, 1024, 5632]⟩
abbrev S1024x5632 : Shape := ⟨2, ![1024, 5632]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x5632, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x2x2816, .bf16⟩
  | .hbm, ⟨6, _⟩ => ⟨S4096x5632, .bf16⟩
  | .hbm, ⟨7, _⟩ => ⟨S1x1024x5632, .bf16⟩
  | .hbm, ⟨8, _⟩ => ⟨S1024x5632, .bf16⟩
  | .hbm, ⟨9, _⟩ => ⟨S1x1x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x5632, .f32⟩
  | .hbm, ⟨31, _⟩ => ⟨S4096x5632, .f32⟩
  | .hbm, ⟨32, _⟩ => ⟨S4096x5632, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== AttnInDx0.lean ====
abbrev S4096x1536 : Shape := ⟨2, ![4096, 1536]⟩
abbrev S2x1024x1536 : Shape := ⟨3, ![2, 1024, 1536]⟩
abbrev S4096x1024 : Shape := ⟨2, ![4096, 1024]⟩
abbrev S4x1x1024 : Shape := ⟨3, ![4, 1, 1024]⟩
abbrev S1x1024 : Shape := ⟨2, ![1, 1024]⟩
abbrev S512x1536 : Shape := ⟨2, ![512, 1536]⟩
abbrev S1x1024x1536 : Shape := ⟨3, ![1, 1024, 1536]⟩
abbrev S512x1024 : Shape := ⟨2, ![512, 1024]⟩
abbrev S1x1x1024 : Shape := ⟨3, ![1, 1, 1024]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1536, .bf16⟩
  | .hbm, ⟨1, _⟩ => ⟨S2x1024x1536, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1x1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v43 : BitVec 1 := Scalar.cmpi .eq arg1 c0_i32
  let v44 : BitVec 32 := Scalar.extui v43
  let c0_i32_21 : BitVec 32 := 0#32
  let v45 : BitVec 1 := Scalar.cmpi .ne v44 c0_i32_21
  v45

def k0_cond2 (i : grid0.Coords) : BitVec 1 :=
  let arg1 : BitVec 32 := BitVec.ofNat 32 (i 1).val
  let c0_i32 : BitVec 32 := 0#32
  let v43 : BitVec 1 := Scalar.cmpi .eq arg1 c0_i32
  let v_true : BitVec 1 := 1#1
  let v46 : BitVec 1 := Scalar.xori v43 v_true
  let v47 : BitVec 32 := Scalar.extui v46
  let c0_i32_22 : BitVec 32 := 0#32
  let v48 : BitVec 1 := Scalar.cmpi .ne v47 c0_i32_22
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== AttnInDx0Ideal.lean ====
abbrev S4096x1536 : Shape := ⟨2, ![4096, 1536]⟩
abbrev S2x1024x1536 : Shape := ⟨3, ![2, 1024, 1536]⟩
abbrev S4096x1024 : Shape := ⟨2, ![4096, 1024]⟩
abbrev S4x1x1024 : Shape := ⟨3, ![4, 1, 1024]⟩
abbrev S1x1024 : Shape := ⟨2, ![1, 1024]⟩
abbrev S512x1536 : Shape := ⟨2, ![512, 1536]⟩
abbrev S1x1024x1536 : Shape := ⟨3, ![1, 1024, 1536]⟩
abbrev S512x1024 : Shape := ⟨2, ![512, 1024]⟩
abbrev S1x1x1024 : Shape := ⟨3, ![1, 1, 1024]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1536, .bf16⟩
  | .hbm, ⟨1, _⟩ => ⟨S2x1024x1536, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1x1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v43 : BitVec 1 := Scalar.cmpi .eq arg1 c0_i32
  let v44 : BitVec 32 := Scalar.extui v43
  let c0_i32_21 : BitVec 32 := 0#32
  let v45 : BitVec 1 := Scalar.cmpi .ne v44 c0_i32_21
  v45

def k0_cond2 (i : grid0.Coords) : BitVec 1 :=
  let arg1 : BitVec 32 := BitVec.ofNat 32 (i 1).val
  let c0_i32 : BitVec 32 := 0#32
  let v43 : BitVec 1 := Scalar.cmpi .eq arg1 c0_i32
  let v_true : BitVec 1 := 1#1
  let v46 : BitVec 1 := Scalar.xori v43 v_true
  let v47 : BitVec 32 := Scalar.extui v46
  let c0_i32_22 : BitVec 32 := 0#32
  let v48 : BitVec 1 := Scalar.cmpi .ne v47 c0_i32_22
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== AttnInDx0ReferenceIdeal.lean ====
abbrev S4096x1536 : Shape := ⟨2, ![4096, 1536]⟩
abbrev S2x1024x1536 : Shape := ⟨3, ![2, 1024, 1536]⟩
abbrev S4096x1024 : Shape := ⟨2, ![4096, 1024]⟩
abbrev S4x1x1024 : Shape := ⟨3, ![4, 1, 1024]⟩
abbrev S1x1024x1536 : Shape := ⟨3, ![1, 1024, 1536]⟩
abbrev S1024x1536 : Shape := ⟨2, ![1024, 1536]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S2x1024x1536, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S1x1024x1536, .bf16⟩
  | .hbm, ⟨6, _⟩ => ⟨S1024x1536, .bf16⟩
  | .hbm, ⟨7, _⟩ => ⟨S1x1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x1536, .f32⟩
  | .hbm, ⟨29, _⟩ => ⟨S4096x1536, .f32⟩
  | .hbm, ⟨30, _⟩ => ⟨S4096x1536, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== AttnInDx1.lean ====
abbrev S4096x1536 : Shape := ⟨2, ![4096, 1536]⟩
abbrev S2x1024x1536 : Shape := ⟨3, ![2, 1024, 1536]⟩
abbrev S4096x1024 : Shape := ⟨2, ![4096, 1024]⟩
abbrev S4x1x1024 : Shape := ⟨3, ![4, 1, 1024]⟩
abbrev S1x1024 : Shape := ⟨2, ![1, 1024]⟩
abbrev S512x1536 : Shape := ⟨2, ![512, 1536]⟩
abbrev S1x1024x1536 : Shape := ⟨3, ![1, 1024, 1536]⟩
abbrev S512x1024 : Shape := ⟨2, ![512, 1024]⟩
abbrev S1x1x1024 : Shape := ⟨3, ![1, 1, 1024]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1536, .bf16⟩
  | .hbm, ⟨1, _⟩ => ⟨S2x1024x1536, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1x1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v43 : BitVec 1 := Scalar.cmpi .eq arg1 c0_i32
  let v44 : BitVec 32 := Scalar.extui v43
  let c0_i32_21 : BitVec 32 := 0#32
  let v45 : BitVec 1 := Scalar.cmpi .ne v44 c0_i32_21
  v45

def k0_cond2 (i : grid0.Coords) : BitVec 1 :=
  let arg1 : BitVec 32 := BitVec.ofNat 32 (i 1).val
  let c0_i32 : BitVec 32 := 0#32
  let v43 : BitVec 1 := Scalar.cmpi .eq arg1 c0_i32
  let v_true : BitVec 1 := 1#1
  let v46 : BitVec 1 := Scalar.xori v43 v_true
  let v47 : BitVec 32 := Scalar.extui v46
  let c0_i32_22 : BitVec 32 := 0#32
  let v48 : BitVec 1 := Scalar.cmpi .ne v47 c0_i32_22
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== AttnInDx1Ideal.lean ====
abbrev S4096x1536 : Shape := ⟨2, ![4096, 1536]⟩
abbrev S2x1024x1536 : Shape := ⟨3, ![2, 1024, 1536]⟩
abbrev S4096x1024 : Shape := ⟨2, ![4096, 1024]⟩
abbrev S4x1x1024 : Shape := ⟨3, ![4, 1, 1024]⟩
abbrev S1x1024 : Shape := ⟨2, ![1, 1024]⟩
abbrev S512x1536 : Shape := ⟨2, ![512, 1536]⟩
abbrev S1x1024x1536 : Shape := ⟨3, ![1, 1024, 1536]⟩
abbrev S512x1024 : Shape := ⟨2, ![512, 1024]⟩
abbrev S1x1x1024 : Shape := ⟨3, ![1, 1, 1024]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1536, .bf16⟩
  | .hbm, ⟨1, _⟩ => ⟨S2x1024x1536, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1x1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v43 : BitVec 1 := Scalar.cmpi .eq arg1 c0_i32
  let v44 : BitVec 32 := Scalar.extui v43
  let c0_i32_21 : BitVec 32 := 0#32
  let v45 : BitVec 1 := Scalar.cmpi .ne v44 c0_i32_21
  v45

def k0_cond2 (i : grid0.Coords) : BitVec 1 :=
  let arg1 : BitVec 32 := BitVec.ofNat 32 (i 1).val
  let c0_i32 : BitVec 32 := 0#32
  let v43 : BitVec 1 := Scalar.cmpi .eq arg1 c0_i32
  let v_true : BitVec 1 := 1#1
  let v46 : BitVec 1 := Scalar.xori v43 v_true
  let v47 : BitVec 32 := Scalar.extui v46
  let c0_i32_22 : BitVec 32 := 0#32
  let v48 : BitVec 1 := Scalar.cmpi .ne v47 c0_i32_22
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== AttnInDx1ReferenceIdeal.lean ====
abbrev S4096x1536 : Shape := ⟨2, ![4096, 1536]⟩
abbrev S2x1024x1536 : Shape := ⟨3, ![2, 1024, 1536]⟩
abbrev S4096x1024 : Shape := ⟨2, ![4096, 1024]⟩
abbrev S4x1x1024 : Shape := ⟨3, ![4, 1, 1024]⟩
abbrev S1x1024x1536 : Shape := ⟨3, ![1, 1024, 1536]⟩
abbrev S1024x1536 : Shape := ⟨2, ![1024, 1536]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S2x1024x1536, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S1x1024x1536, .bf16⟩
  | .hbm, ⟨6, _⟩ => ⟨S1024x1536, .bf16⟩
  | .hbm, ⟨7, _⟩ => ⟨S1x1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x1536, .f32⟩
  | .hbm, ⟨29, _⟩ => ⟨S4096x1536, .f32⟩
  | .hbm, ⟨30, _⟩ => ⟨S4096x1536, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== HgrnInDx0.lean ====
abbrev S4096x4096 : Shape := ⟨2, ![4096, 4096]⟩
abbrev S2x1024x4096 : Shape := ⟨3, ![2, 1024, 4096]⟩
abbrev S4096x1024 : Shape := ⟨2, ![4096, 1024]⟩
abbrev S4x1x1024 : Shape := ⟨3, ![4, 1, 1024]⟩
abbrev S1x1024 : Shape := ⟨2, ![1, 1024]⟩
abbrev S512x2048 : Shape := ⟨2, ![512, 2048]⟩
abbrev S1x1024x2048 : Shape := ⟨3, ![1, 1024, 2048]⟩
abbrev S512x1024 : Shape := ⟨2, ![512, 1024]⟩
abbrev S1x1x1024 : Shape := ⟨3, ![1, 1, 1024]⟩
abbrev S1024x2048 : Shape := ⟨2, ![1024, 2048]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg1 : BitVec 32 := BitVec.ofNat 32 (i 1).val
  let c0_i32_27 : BitVec 32 := 0#32
  let v53 : BitVec 1 := Scalar.cmpi .eq arg1 c0_i32_27
  let v54 : BitVec 32 := Scalar.extui v53
  let c0_i32_28 : BitVec 32 := 0#32
  let v55 : BitVec 1 := Scalar.cmpi .ne v54 c0_i32_28
  v55

def k0_cond5 (i : grid0.Coords) : BitVec 1 :=
  let arg1 : BitVec 32 := BitVec.ofNat 32 (i 1).val
  let c0_i32_27 : BitVec 32 := 0#32
  let v53 : BitVec 1 := Scalar.cmpi .eq arg1 c0_i32_27
  let v_true : BitVec 1 := 1#1
  let v56 : BitVec 1 := Scalar.xori v53 v_true
  let v57 : BitVec 32 := Scalar.extui v56
  let c0_i32_29 : BitVec 32 := 0#32
  let v58 : BitVec 1 := Scalar.cmpi .ne v57 c0_i32_29
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== HgrnInDx0Ideal.lean ====
  ![c0_i32.toNat, arg0.toNat, arg2.toNat]
  ![c1_i32.toNat, c0_i32.toNat, c0_i32_0.toNat]
  let c0_i32_0 : BitVec 32 := 0#32
-- ==== HgrnInDx0ReferenceIdeal.lean ====
abbrev S4096x4096 : Shape := ⟨2, ![4096, 4096]⟩
abbrev S2x1024x4096 : Shape := ⟨3, ![2, 1024, 4096]⟩
abbrev S4096x1024 : Shape := ⟨2, ![4096, 1024]⟩
abbrev S4x1x1024 : Shape := ⟨3, ![4, 1, 1024]⟩
abbrev S1x1024x4096 : Shape := ⟨3, ![1, 1024, 4096]⟩
abbrev S1024x4096 : Shape := ⟨2, ![1024, 4096]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S1x1024x4096, .bf16⟩
  | .hbm, ⟨6, _⟩ => ⟨S1024x4096, .bf16⟩
  | .hbm, ⟨7, _⟩ => ⟨S1x1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x4096, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== HgrnInDx1.lean ====
abbrev S4096x4096 : Shape := ⟨2, ![4096, 4096]⟩
abbrev S2x1024x4096 : Shape := ⟨3, ![2, 1024, 4096]⟩
abbrev S4096x1024 : Shape := ⟨2, ![4096, 1024]⟩
abbrev S4x1x1024 : Shape := ⟨3, ![4, 1, 1024]⟩
abbrev S1x1024 : Shape := ⟨2, ![1, 1024]⟩
abbrev S512x2048 : Shape := ⟨2, ![512, 2048]⟩
abbrev S1x1024x2048 : Shape := ⟨3, ![1, 1024, 2048]⟩
abbrev S512x1024 : Shape := ⟨2, ![512, 1024]⟩
abbrev S1x1x1024 : Shape := ⟨3, ![1, 1, 1024]⟩
abbrev S1024x2048 : Shape := ⟨2, ![1024, 2048]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg1 : BitVec 32 := BitVec.ofNat 32 (i 1).val
  let c0_i32_27 : BitVec 32 := 0#32
  let v53 : BitVec 1 := Scalar.cmpi .eq arg1 c0_i32_27
  let v54 : BitVec 32 := Scalar.extui v53
  let c0_i32_28 : BitVec 32 := 0#32
  let v55 : BitVec 1 := Scalar.cmpi .ne v54 c0_i32_28
  v55

def k0_cond5 (i : grid0.Coords) : BitVec 1 :=
  let arg1 : BitVec 32 := BitVec.ofNat 32 (i 1).val
  let c0_i32_27 : BitVec 32 := 0#32
  let v53 : BitVec 1 := Scalar.cmpi .eq arg1 c0_i32_27
  let v_true : BitVec 1 := 1#1
  let v56 : BitVec 1 := Scalar.xori v53 v_true
  let v57 : BitVec 32 := Scalar.extui v56
  let c0_i32_29 : BitVec 32 := 0#32
  let v58 : BitVec 1 := Scalar.cmpi .ne v57 c0_i32_29
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== HgrnInDx1ReferenceIdeal.lean ====
abbrev S4096x4096 : Shape := ⟨2, ![4096, 4096]⟩
abbrev S2x1024x4096 : Shape := ⟨3, ![2, 1024, 4096]⟩
abbrev S4096x1024 : Shape := ⟨2, ![4096, 1024]⟩
abbrev S4x1x1024 : Shape := ⟨3, ![4, 1, 1024]⟩
abbrev S1x1024x4096 : Shape := ⟨3, ![1, 1024, 4096]⟩
abbrev S1024x4096 : Shape := ⟨2, ![1024, 4096]⟩
abbrev S1x1x1024 : Shape := ⟨3, ![1, 1, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2x1024x4096, .bf16⟩
  | .hbm, ⟨2, _⟩ => ⟨S4096x1024, .f32⟩
  | .hbm, ⟨3, _⟩ => ⟨S4x1x1024, .f32⟩
  | .hbm, ⟨4, _⟩ => ⟨S4096x1024, .f32⟩
  | .hbm, ⟨5, _⟩ => ⟨S1x1024x4096, .bf16⟩
  | .hbm, ⟨6, _⟩ => ⟨S1024x4096, .bf16⟩
  | .hbm, ⟨7, _⟩ => ⟨S1x1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x4096, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x1, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_19 : BitVec 32 := 0#32
  let v53 : BitVec 1 := Scalar.cmpi .ne v52 c0_i32_19
  v53

def k0_cond2 (i : grid0.Coords) : BitVec 1 :=
  let arg0 : BitVec 32 := BitVec.ofNat 32 (i 0).val
  let c0_i32_20 : BitVec 32 := 0#32
  let v54 : BitVec 1 := Scalar.cmpi .sgt arg0 c0_i32_20
  let v55 : BitVec 32 := Scalar.extui v54
  let c0_i32_21 : BitVec 32 := 0#32
  let v56 : BitVec 1 := Scalar.cmpi .ne v55 c0_i32_21
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadReferenceIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1x1024, .f32⟩
  | .hbm, ⟨73, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AdamAttnIn.lean ====
abbrev S2048x384 : Shape := ⟨2, ![2048, 384]⟩
abbrev S512x384 : Shape := ⟨2, ![512, 384]⟩

abbrev nBuf : Space → Nat
  | .hbm => 7
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAttnInIdeal.lean ====
abbrev S2048x384 : Shape := ⟨2, ![2048, 384]⟩
abbrev S512x384 : Shape := ⟨2, ![512, 384]⟩

abbrev nBuf : Space → Nat
  | .hbm => 7
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAttnInReferenceIdeal.lean ====
abbrev S2048x384 : Shape := ⟨2, ![2048, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S_, .f32⟩
  | .hbm, ⟨12, _⟩ => ⟨S2048x384, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHgrnIn.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamHgrnInIdeal.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamHgrnInReferenceIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S4096x1408 : Shape := ⟨2, ![4096, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpReferenceIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S2816x1024 : Shape := ⟨2, ![2816, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownReferenceIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S12x1408 : Shape := ⟨2, ![12, 1408]⟩

abbrev nBuf : Space → Nat
  | .hbm => 7
  | .vmem => 7
  | .smem => 0
  | _ => 0

abbrev bufTy : (tb : Table) → Fin (tcTables nBuf tb) → BufTy
  | .hbm, ⟨0, _⟩ => ⟨S12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S12x1408, .f32⟩
  | .hbm, ⟨5, _⟩ => ⟨S12x1408, .f32⟩
  | .hbm, ⟨6, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S12x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S12x1408 : Shape := ⟨2, ![12, 1408]⟩

abbrev nBuf : Space → Nat
  | .hbm => 7
  | .vmem => 7
  | .smem => 0
  | _ => 0

abbrev bufTy : (tb : Table) → Fin (tcTables nBuf tb) → BufTy
  | .hbm, ⟨0, _⟩ => ⟨S12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S12x1408, .f32⟩
  | .hbm, ⟨5, _⟩ => ⟨S12x1408, .f32⟩
  | .hbm, ⟨6, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S12x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvReferenceIdeal.lean ====
abbrev S12x1408 : Shape := ⟨2, ![12, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S_, .f32⟩
  | .hbm, ⟨5, _⟩ => ⟨S12x1408, .f32⟩
  | .hbm, ⟨6, _⟩ => ⟨S12x1408, .f32⟩
  | .hbm, ⟨7, _⟩ => ⟨S_, .f32⟩
  | .hbm, ⟨8, _⟩ => ⟨S12x1408, .f32⟩
  | .hbm, ⟨9, _⟩ => ⟨S12x1408, .f32⟩
  | .hbm, ⟨10, _⟩ => ⟨S12x1408, .f32⟩
  | .hbm, ⟨11, _⟩ => ⟨S_, .f32⟩
  | .hbm, ⟨12, _⟩ => ⟨S12x1408, .f32⟩
  | .hbm, ⟨13, _⟩ => ⟨S12x1408, .f32⟩
  | .hbm, ⟨14, _⟩ => ⟨S12x1408, .f32⟩
  | .hbm, ⟨15, _⟩ => ⟨S_, .f32⟩
  | .hbm, ⟨16, _⟩ => ⟨S12x1408, .f32⟩
  | .hbm, ⟨17, _⟩ => ⟨S12x1408, .f32⟩
  | .hbm, ⟨18, _⟩ => ⟨S12x1408, .f32⟩
  | .hbm, ⟨19, _⟩ => ⟨S_, .f32⟩
  | .hbm, ⟨20, _⟩ => ⟨S12x1408, .f32⟩
  | .hbm, ⟨21, _⟩ => ⟨S12x1408, .f32⟩
  | .hbm, ⟨22, _⟩ => ⟨S_, .f32⟩
  | .hbm, ⟨23, _⟩ => ⟨S12x1408, .f32⟩
  | .hbm, ⟨24, _⟩ => ⟨S12x1408, .f32⟩
  | .hbm, ⟨25, _⟩ => ⟨S12x1408, .f32⟩
  | .hbm, ⟨26, _⟩ => ⟨S_, .f32⟩
  | .hbm, ⟨27, _⟩ => ⟨S12x1408, .f32⟩
  | .hbm, ⟨28, _⟩ => ⟨S12x1408, .f32⟩
  | .hbm, ⟨29, _⟩ => ⟨S12x1408, .f32⟩
  | .hbm, ⟨30, _⟩ => ⟨S_, .f32⟩
  | .hbm, ⟨31, _⟩ => ⟨S12x1408, .f32⟩
  | .hbm, ⟨32, _⟩ => ⟨S12x1408, .f32⟩
  | .hbm, ⟨33, _⟩ => ⟨S12x1408, .f32⟩
  | .hbm, ⟨34, _⟩ => ⟨S_, .f32⟩
  | .hbm, ⟨35, _⟩ => ⟨S12x1408, .f32⟩
  | .hbm, ⟨36, _⟩ => ⟨S12x1408, .f32⟩
  | _, _ => ⟨S12x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S288x128 : Shape := ⟨2, ![288, 128]⟩
abbrev S32x128 : Shape := ⟨2, ![32, 128]⟩

abbrev nBuf : Space → Nat
  | .hbm => 7
  | .vmem => 14
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S288x128, .f32⟩
  | .hbm, ⟨4, _⟩ => ⟨S288x128, .f32⟩
  | .hbm, ⟨5, _⟩ => ⟨S288x128, .f32⟩
  | .hbm, ⟨6, _⟩ => ⟨S288x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallReferenceIdeal.lean ====
abbrev S288x128 : Shape := ⟨2, ![288, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S288x128, .f32⟩
  | .hbm, ⟨4, _⟩ => ⟨S_, .f32⟩
  | .hbm, ⟨5, _⟩ => ⟨S288x128, .f32⟩
  | .hbm, ⟨6, _⟩ => ⟨S288x128, .f32⟩
  | .hbm, ⟨7, _⟩ => ⟨S_, .f32⟩
  | .hbm, ⟨8, _⟩ => ⟨S288x128, .f32⟩
  | .hbm, ⟨9, _⟩ => ⟨S288x128, .f32⟩
  | .hbm, ⟨10, _⟩ => ⟨S288x128, .f32⟩
  | .hbm, ⟨11, _⟩ => ⟨S_, .f32⟩
  | .hbm, ⟨12, _⟩ => ⟨S288x128, .f32⟩
  | .hbm, ⟨13, _⟩ => ⟨S288x128, .f32⟩
  | .hbm, ⟨14, _⟩ => ⟨S288x128, .f32⟩
  | .hbm, ⟨15, _⟩ => ⟨S_, .f32⟩
  | .hbm, ⟨16, _⟩ => ⟨S288x128, .f32⟩
  | .hbm, ⟨17, _⟩ => ⟨S288x128, .f32⟩
  | .hbm, ⟨18, _⟩ => ⟨S288x128, .f32⟩
  | .hbm, ⟨19, _⟩ => ⟨S_, .f32⟩
  | .hbm, ⟨20, _⟩ => ⟨S288x128, .f32⟩
  | .hbm, ⟨21, _⟩ => ⟨S288x128, .f32⟩
  | .hbm, ⟨22, _⟩ => ⟨S_, .f32⟩
  | .hbm, ⟨23, _⟩ => ⟨S288x128, .f32⟩
  | .hbm, ⟨24, _⟩ => ⟨S288x128, .f32⟩
  | .hbm, ⟨25, _⟩ => ⟨S288x128, .f32⟩
  | .hbm, ⟨26, _⟩ => ⟨S_, .f32⟩
  | .hbm, ⟨27, _⟩ => ⟨S288x128, .f32⟩
  | .hbm, ⟨28, _⟩ => ⟨S288x128, .f32⟩
  | .hbm, ⟨29, _⟩ => ⟨S288x128, .f32⟩
  | .hbm, ⟨30, _⟩ => ⟨S_, .f32⟩
  | .hbm, ⟨31, _⟩ => ⟨S288x128, .f32⟩
  | .hbm, ⟨32, _⟩ => ⟨S288x128, .f32⟩
  | .hbm, ⟨33, _⟩ => ⟨S288x128, .f32⟩
  | .hbm, ⟨34, _⟩ => ⟨S_, .f32⟩
  | .hbm, ⟨35, _⟩ => ⟨S288x128, .f32⟩
  | .hbm, ⟨36, _⟩ => ⟨S288x128, .f32⟩
  | _, _ => ⟨S288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.AttnFrame.lean ====
/- The frame certificate of the attention's backward call, stated as its generated frame module states it (the same
   definitions, over the same generated runs of the two cases of the body); the two lemmas `outsAt0_A` and `outsAt0_B`,
   which open what the outputs hold at a point, are proved here by rewriting. What each case leaves in the outputs and in
   the two carried arrays (`out0_A_8` …), point by point (`outsAt0`), the pipeline's proof data (`dats`), the body's
   obligation, the run (`run_main`) and the frame, at any reading of the floats. -/
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section A
variable (c : Dev nD) (i : grid0.Coords) (arg1 : Memref sig .tc .vmem S4x4x128x64 .bf16) (harg1 : arg1.IsWhole) (arg2 : Memref sig .tc .vmem S4x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x512x1 .f32) (harg6 : arg6.IsWhole) (arg7 : Memref sig .tc .vmem S4x512x1 .f32) (harg7 : arg7.IsWhole) (arg8 : Memref sig .tc .vmem S4x4x128x64 .bf16) (harg8 : arg8.IsWhole) (arg9 : Memref sig .tc .vmem S4x4x128x64 .bf16) (harg9 : arg9.IsWhole) (arg10 : Memref sig .tc .vmem S4x128x64 .bf16) (harg10 : arg10.IsWhole) (arg11 : Memref sig .tc .vmem S4x128x64 .bf16) (harg11 : arg11.IsWhole) (arg12 : Memref sig .tc .vmem S4x512x1 .f32) (harg12 : arg12.IsWhole) (arg13 : Memref sig .tc .vmem S4x128x64 .f32) (harg13 : arg13.IsWhole) (arg14 : Memref sig .tc .vmem S4x128x64 .f32) (harg14 : arg14.IsWhole)
  (hc0 : cond0_0 i) (x0 : Vec F S4x4x128x64 .bf16) (x1 : Vec F S4x128x64 .bf16) (x2 : Vec F S4x128x64 .bf16) (x3 : Vec F S4x128x64 .bf16) (x4 : Vec F S4x128x64 .bf16) (x5 : Vec F S4x512x1 .f32) (x6 : Vec F S4x512x1 .f32) (x7 : Vec F S4x4x128x64 .bf16)

/-! Case A: the pieces of each output and carried array tile its block (`cover0_A_8` …, `scover0_A_0` …), and what the case leaves is
    the pieces read back over junk (`out0_A_8` …, `sout0_A_0` …). -/

theorem cover0_A_8 (y : S4x4x128x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1, y ∈ pc.1.set :=
  View.cover_of_tiledL _ S4x4x128x64.size (by sl_kernel_rfl) y

def out0_A_8 : Vec F S4x4x128x64 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1)

theorem cover0_A_9 (y : S4x128x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1, y ∈ pc.1.set :=
  View.cover_of_tiledL _ S4x128x64.size (by sl_kernel_rfl) y

def out0_A_9 : Vec F S4x128x64 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1)

theorem cover0_A_10 (y : S4x128x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1, y ∈ pc.1.set :=
  View.cover_of_tiledL _ S4x128x64.size (by sl_kernel_rfl) y

def out0_A_10 : Vec F S4x128x64 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1)

theorem cover0_A_11 (y : S4x512x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1, y ∈ pc.1.set :=
  View.cover_of_tiledL _ S4x512x1.size (by sl_kernel_rfl) y

def out0_A_11 : Vec F S4x512x1 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1)

theorem scover0_A_0 (y : S4x128x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1, y ∈ pc.1.set :=
  View.cover_of_tiledL _ S4x128x64.size (by sl_kernel_rfl) y

def sout0_A_0 : Vec F S4x128x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1)

theorem scover0_A_1 (y : S4x128x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.2.1, y ∈ pc.1.set :=
  View.cover_of_tiledL _ S4x128x64.size (by sl_kernel_rfl) y

def sout0_A_1 : Vec F S4x128x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.2.1)

end A

section B
variable (c : Dev nD) (i : grid0.Coords) (arg1 : Memref sig .tc .vmem S4x4x128x64 .bf16) (harg1 : arg1.IsWhole) (arg2 : Memref sig .tc .vmem S4x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x512x1 .f32) (harg6 : arg6.IsWhole) (arg7 : Memref sig .tc .vmem S4x512x1 .f32) (harg7 : arg7.IsWhole) (arg8 : Memref sig .tc .vmem S4x4x128x64 .bf16) (harg8 : arg8.IsWhole) (arg9 : Memref sig .tc .vmem S4x4x128x64 .bf16) (harg9 : arg9.IsWhole) (arg10 : Memref sig .tc .vmem S4x128x64 .bf16) (harg10 : arg10.IsWhole) (arg11 : Memref sig .tc .vmem S4x128x64 .bf16) (harg11 : arg11.IsWhole) (arg12 : Memref sig .tc .vmem S4x512x1 .f32) (harg12 : arg12.IsWhole) (arg13 : Memref sig .tc .vmem S4x128x64 .f32) (harg13 : arg13.IsWhole) (arg14 : Memref sig .tc .vmem S4x128x64 .f32) (harg14 : arg14.IsWhole)
  (hc0 : ¬cond0_0 i) (x0 : Vec F S4x4x128x64 .bf16) (x1 : Vec F S4x128x64 .bf16) (x2 : Vec F S4x128x64 .bf16) (x3 : Vec F S4x128x64 .bf16) (x4 : Vec F S4x128x64 .bf16) (x5 : Vec F S4x512x1 .f32) (x6 : Vec F S4x512x1 .f32) (x7 : Vec F S4x4x128x64 .bf16) (xo11 : Vec F S4x512x1 .f32) (xs0 : Vec F S4x128x64 .f32) (xs1 : Vec F S4x128x64 .f32)

/-! Case B: the pieces of each output and carried array tile its block (`cover0_B_8` …, `scover0_B_0` …), and what the case leaves is
    the pieces read back over junk (`out0_B_8` …, `sout0_B_0` …; the last output and the carried arrays over what the point before left). -/

theorem cover0_B_8 (y : S4x4x128x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xs0 xs1).1, y ∈ pc.1.set :=
  View.cover_of_tiledL _ S4x4x128x64.size (by sl_kernel_rfl) y

def out0_B_8 : Vec F S4x4x128x64 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xs0 xs1).1)

theorem cover0_B_9 (y : S4x128x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xs0 xs1).2.1, y ∈ pc.1.set :=
  View.cover_of_tiledL _ S4x128x64.size (by sl_kernel_rfl) y

def out0_B_9 : Vec F S4x128x64 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xs0 xs1).2.1)

theorem cover0_B_10 (y : S4x128x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xs0 xs1).2.2.1, y ∈ pc.1.set :=
  View.cover_of_tiledL _ S4x128x64.size (by sl_kernel_rfl) y

def out0_B_10 : Vec F S4x128x64 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xs0 xs1).2.2.1)

theorem cover0_B_11 (y : S4x512x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xs0 xs1).2.2.2.1, y ∈ pc.1.set :=
  View.cover_of_tiledL _ S4x512x1.size (by sl_kernel_rfl) y

def out0_B_11 : Vec F S4x512x1 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xs0 xs1).2.2.2.1)

theorem scover0_B_0 (y : S4x128x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xs0 xs1).2.2.2.2.1, y ∈ pc.1.set :=
  View.cover_of_tiledL _ S4x128x64.size (by sl_kernel_rfl) y

def sout0_B_0 : Vec F S4x128x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xs0 xs1).2.2.2.2.1)

theorem scover0_B_1 (y : S4x128x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xs0 xs1).2.2.2.2.2.1, y ∈ pc.1.set :=
  View.cover_of_tiledL _ S4x128x64.size (by sl_kernel_rfl) y

def sout0_B_1 : Vec F S4x128x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo11 xs0 xs1).2.2.2.2.2.1)

end B

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4x4x128x64 .bf16 × Vec F S4x128x64 .bf16 × Vec F S4x128x64 .bf16 × Vec F S4x512x1 .f32 × Vec F S4x128x64 .f32 × Vec F S4x128x64 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 32 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 32 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => rw [outsAt0, dif_pos h0]

/-- `outsAt0` at a point of case B: that case's contents, over what the point before left. -/
theorem outsAt0_B (c : Dev nD) (t : Fin cfg0.N) (h0 : ¬t.val % 32 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n =>
    rw [outsAt0, dif_neg h0]
    rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 32 = 0) (d) :
    (dats m 0 c).before 11 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_8 out0_A_9 out0_A_10 out0_A_11 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, ⟨%e8, H8⟩, ⟨%e9, H9⟩, ⟨%e10, H10⟩, ⟨%e11, H11⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_11_B m c t h0]
      unfold out0_B_8 out0_B_9 out0_B_10 out0_B_11 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexact H11
      isplitl [HS0]; · iexact HS0
      isplitl [HS1]; · iexact HS1
      iintro ⟨H0, H1, H2, H3, H4, H5, H6, H7, ⟨%e8, H8⟩, ⟨%e9, H9⟩, ⟨%e10, H10⟩, ⟨%e11, H11⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Row.lean ====
/- One row of the attention's backward pass over the extended reals: the softmax of a row's scores and one sink, and
   the gradients of the scores and of the sink. The kernel writes it over the 256 keys with the sink apart; the
   reference over 257 columns, the sink being the last. Nothing here is about either program. -/
module

public import Idealize.ShloMosaic.PureOps.Ideal.Laws

@[expose] public section

noncomputable section

namespace Cert.Row

open Idealize.ShloMosaic

variable {n : ℕ}

/-- The row's maximum, the sink's logit counted in. -/
def top (Z : Fin n → EReal) (s : EReal) : EReal := max (Finset.univ.fold max ⊥ Z) s
/-- The exponential of a score, shifted by the maximum. -/
def ex (Z : Fin n → EReal) (s : EReal) (c : Fin n) : EReal := Ideal.exp (Z c - top Z s)
/-- The sink's exponential. -/
def exSink (Z : Fin n → EReal) (s : EReal) : EReal := Ideal.exp (s - top Z s)
/-- The softmax's denominator. -/
def den (Z : Fin n → EReal) (s : EReal) : EReal := (∑ c, ex Z s c) + exSink Z s
/-- A probability, as the kernel writes it. -/
def prob (Z : Fin n → EReal) (s : EReal) (c : Fin n) : EReal := ex Z s c * Ideal.div 1 (den Z s)
/-- The gradient of the denominator. -/
def dden (Z : Fin n → EReal) (s : EReal) (dp : Fin n → EReal) : EReal :=
  0 - (∑ c, ex Z s c * dp c) * Ideal.div 1 (den Z s * den Z s)
/-- The gradient of a score that is not masked. -/
def dscore (Z : Fin n → EReal) (s : EReal) (dp : Fin n → EReal) (c : Fin n) : EReal :=
  (dp c * Ideal.div 1 (den Z s) + dden Z s dp) * ex Z s c
/-- The gradient of the sink's logit. -/
def dsink (Z : Fin n → EReal) (s : EReal) (dp : Fin n → EReal) : EReal := dden Z s dp * exSink Z s

/-- The scores with the sink's logit as one more column. -/
def ext (Z : Fin n → EReal) (s : EReal) (x : Fin (n + 1)) : EReal := if h : x.val < n then Z ⟨x.val, h⟩ else s

theorem ext_castSucc (Z : Fin n → EReal) (s : EReal) (c : Fin n) : ext Z s c.castSucc = Z c := by simp [ext]
theorem ext_last (Z : Fin n → EReal) (s : EReal) : ext Z s (Fin.last n) = s := by simp [ext]

theorem fold_ext (Z : Fin n → EReal) (s : EReal) : Finset.univ.fold max ⊥ (ext Z s) = top Z s := by
  have e : ∀ {k : ℕ} (f : Fin k → EReal), Finset.univ.fold max ⊥ f = Finset.univ.sup f := fun f => rfl
  unfold top
  rw [e, e]
  apply le_antisymm
  · refine Finset.sup_le fun x _ => ?_
    unfold ext
    split
    · exact le_max_of_le_left (Finset.le_sup (f := Z) (Finset.mem_univ _))
    · exact le_max_right _ _
  · refine max_le (Finset.sup_le fun c _ => ?_) ?_
    · rw [← ext_castSucc Z s c]; exact Finset.le_sup (f := ext Z s) (Finset.mem_univ _)
    · conv_lhs => rw [← ext_last Z s]
      exact Finset.le_sup (f := ext Z s) (Finset.mem_univ _)

/-- The exponentials of the 257 columns are the exponentials of the scores, and the sink's. -/
theorem ex_ext (Z : Fin n → EReal) (s : EReal) (x : Fin (n + 1)) :
    Ideal.exp (ext Z s x - top Z s) = ext (ex Z s) (exSink Z s) x := by
  unfold ext ex exSink
  split <;> rfl

theorem sum_ext (f : Fin n → EReal) (t : EReal) : ∑ x, ext f t x = (∑ c, f c) + t := by
  rw [Fin.sum_univ_castSucc, ext_last]
  simp only [ext_castSucc]

theorem ext_mul (f g : Fin n → EReal) (a b : EReal) (x : Fin (n + 1)) : ext f a x * ext g b x = ext (fun c => f c * g c) (a * b) x := by
  unfold ext
  split <;> rfl

/-! ## Where the sink is finite and no score is `+∞`, the denominator is a positive real -/

section real

variable {Z : Fin n → EReal} {s : EReal} (hs : s ≠ ⊥) (hs' : s ≠ ⊤) (hZ : ∀ c, Z c ≠ ⊤)
include hs hs' hZ

theorem top_real : ∃ r : ℝ, top Z s = (r : EReal) := by
  have h1 : top Z s ≠ ⊥ := fun h => hs (le_bot_iff.mp (h ▸ le_max_right _ _))
  have h2 : top Z s ≠ ⊤ := by
    have : Finset.univ.sup Z < ⊤ := (Finset.sup_lt_iff (by simp)).mpr fun c _ => lt_top_iff_ne_top.mpr (hZ c)
    exact (max_lt this (lt_top_iff_ne_top.mpr hs')).ne
  exact ⟨(top Z s).toReal, (EReal.coe_toReal h2 h1).symm⟩

/-- Each score's exponential is a real number, not negative; a masked score's is 0. -/
theorem ex_real (c : Fin n) : ∃ r : ℝ, 0 ≤ r ∧ ex Z s c = (r : EReal) := by
  obtain ⟨t, ht⟩ := top_real hs hs' hZ
  unfold ex
  rw [ht]
  by_cases h : Z c = ⊥
  · exact ⟨0, le_rfl, by rw [h, EReal.bot_sub]; rfl⟩
  · obtain ⟨z, hz⟩ : ∃ z : ℝ, Z c = (z : EReal) := ⟨(Z c).toReal, (EReal.coe_toReal (hZ c) h).symm⟩
    exact ⟨Real.exp (z - t), (Real.exp_pos _).le, by rw [hz, ← EReal.coe_sub]; rfl⟩

theorem ex_bot (c : Fin n) (h : Z c = ⊥) : ex Z s c = 0 := by
  obtain ⟨t, ht⟩ := top_real hs hs' hZ
  unfold ex
  rw [ht, h]
  rw [EReal.bot_sub]
  rfl

theorem exSink_real : ∃ r : ℝ, 0 < r ∧ exSink Z s = (r : EReal) := by
  obtain ⟨t, ht⟩ := top_real hs hs' hZ
  obtain ⟨u, rfl⟩ : ∃ u : ℝ, s = (u : EReal) := ⟨s.toReal, (EReal.coe_toReal hs' hs).symm⟩
  exact ⟨Real.exp (u - t), Real.exp_pos _, by unfold exSink; rw [ht, ← EReal.coe_sub]; rfl⟩

omit hs hs' hZ in
theorem coe_sum {ι : Type*} (t : Finset ι) (f : ι → ℝ) : ((∑ c ∈ t, f c : ℝ) : EReal) = ∑ c ∈ t, (f c : EReal) :=
  map_sum (⟨⟨Real.toEReal, EReal.coe_zero⟩, EReal.coe_add⟩ : ℝ →+ EReal) f t

theorem den_real : ∃ r : ℝ, 0 < r ∧ den Z s = (r : EReal) := by
  obtain ⟨u, hu, eu⟩ := exSink_real hs hs' hZ
  choose f hf ef using ex_real hs hs' hZ
  refine ⟨(∑ c, f c) + u, add_pos_of_nonneg_of_pos (Finset.sum_nonneg fun c _ => hf c) hu, ?_⟩
  unfold den
  simp only [ef, eu, EReal.coe_add, coe_sum]

/-- Dividing by the denominator is multiplying by its reciprocal. -/
theorem div_den (x : EReal) : Ideal.div x (den Z s) = x * Ideal.div 1 (den Z s) := by
  obtain ⟨d, hd, ed⟩ := den_real hs hs' hZ
  have : den Z s ≠ 0 := by rw [ed]; exact_mod_cast hd.ne'
  unfold Ideal.div
  rw [if_neg this, if_neg this, one_mul]

theorem inv_sq : ∃ r : ℝ, 0 ≤ r ∧ Ideal.div 1 (den Z s * den Z s) = (r : EReal) := by
  obtain ⟨d, hd, ed⟩ := den_real hs hs' hZ
  refine ⟨1 / (d * d), by positivity, ?_⟩
  rw [ed, ← EReal.coe_mul, Ideal.div_coe (mul_pos hd hd).ne', one_mul]

/-- The gradient of the denominator as the reference sums it, over the 257 columns, the sink's being 0: a column whose
    exponential is 0 may hold anything. -/
theorem dden_ext (dp dp' : Fin n → EReal) (h : ∀ c, Z c = ⊥ ∨ dp' c = dp c) :
    -(∑ x, ext dp' 0 x * Ideal.div 1 (den Z s * den Z s) * ext (ex Z s) (exSink Z s) x) = dden Z s dp := by
  obtain ⟨w, hw, ew⟩ := inv_sq hs hs' hZ
  unfold dden
  rw [ew, sub_eq_add_neg, zero_add]
  congr 1
  have step : ∀ x, ext dp' 0 x * (w : EReal) * ext (ex Z s) (exSink Z s) x
      = ext (fun c => (ex Z s c * dp c) * (w : EReal)) 0 x := by
    intro x
    unfold ext
    split
    · rename_i hx
      rcases h ⟨x.val, hx⟩ with hb | he
      · simp only [ex_bot hs hs' hZ _ hb, mul_zero, zero_mul]
      · dsimp only
        rw [he, mul_comm (ex Z s _), mul_assoc, mul_assoc, mul_comm (w : EReal)]
    · simp
  simp only [step]
  rw [sum_ext, add_zero]
  have dist : ∀ (t : Finset (Fin n)) (f : Fin n → EReal), ∑ c ∈ t, f c * (w : EReal) = (∑ c ∈ t, f c) * (w : EReal) := by
    intro t f
    induction t using Finset.induction_on with
    | empty => simp
    | insert a t ha ih =>
      rw [Finset.sum_insert ha, Finset.sum_insert ha, ih,
        EReal.right_distrib_of_nonneg_of_ne_top (by exact_mod_cast hw) (EReal.coe_ne_top w)]
  exact dist _ _

/-- The gradients of the 257 columns, at a column of a key that is not masked. -/
theorem dscore_ext (dp dp' : Fin n → EReal) (h : ∀ c, Z c = ⊥ ∨ dp' c = dp c) (c : Fin n) (hc : dp' c = dp c) :
    (Ideal.div (dp' c) (den Z s) + -(∑ x, ext dp' 0 x * Ideal.div 1 (den Z s * den Z s) * ext (ex Z s) (exSink Z s) x)) * ex Z s c
      = dscore Z s dp c := by
  rw [dden_ext hs hs' hZ dp dp' h, div_den hs hs' hZ, hc]
  rfl

/-- The gradient of the last column. -/
theorem dsink_ext (dp dp' : Fin n → EReal) (h : ∀ c, Z c = ⊥ ∨ dp' c = dp c) :
    (Ideal.div 0 (den Z s) + -(∑ x, ext dp' 0 x * Ideal.div 1 (den Z s * den Z s) * ext (ex Z s) (exSink Z s) x)) * exSink Z s
      = dsink Z s dp := by
  rw [dden_ext hs hs' hZ dp dp' h, div_den hs hs' hZ, zero_mul, zero_add]
  rfl

end real

end Cert.Row

end
-- ==== Proof.Payload.lean ====
/- What the body of the attention's backward call computes at one element, expression by expression: row `512 h + r` of
   the 2048 rows of a grid point is row `r` (query head and query of the block) of key head `h`, column `c` the key `c`
   of the window of 256 keys. -/
module

public import proofs.«01_k».proof.Proof.Gen.KernelIdeal.Skeleton
public import proofs.«01_k».proof.Proof.Gen.KernelIdeal
public import proofs.«01_k».proof.Proof.Row
public import Idealize.ShloMosaic.Lib.Pointwise

@[expose] public section

set_option maxRecDepth 16384

noncomputable section

namespace Cert.KernelIdeal.Attn

open Idealize.ShloMosaic Cert.KernelIdeal Cert.KernelIdeal.Gen

/-- Row `r` of key head `h`, of the 2048 rows. -/
abbrev row (h : Fin 4) (r : Fin 512) : Fin 2048 := ⟨512 * h.val + r.val, by omega⟩

/-- The block's 512 rows of key head `h` (four query heads of 128 queries each). -/
def headRows (x : Vec Ideal S4x4x128x64 .bf16) (h : Fin 4) : FVec Ideal S512x64 .f32 :=
  fun j => x (ix4 h ⟨(j 0).val / 128, by have : (j 0).val < 512 := (j 0).isLt; omega⟩ ⟨(j 0).val % 128, by omega⟩ (j 1))

/-- The window's 256 keys (or values) of key head `h`: the previous block's and the block's own. -/
def headKeys (p c : Vec Ideal S4x128x64 .bf16) (h : Fin 4) : FVec Ideal S256x64 .f32 :=
  fun j => if hj : (j 0).val < 128 then p (ix3 h ⟨(j 0).val, hj⟩ (j 1))
    else c (ix3 h ⟨(j 0).val - 128, by have : (j 0).val < 256 := (j 0).isLt; omega⟩ (j 1))

theorem headRows_apply (x : Vec Ideal S4x4x128x64 .bf16) (h : Fin 4) (r : Fin 512) (d : Fin 64) :
    headRows x h (ix2 r d) = x (ix4 h ⟨r.val / 128, by omega⟩ ⟨r.val % 128, by omega⟩ d) := rfl

/-! ## The blocks of one head, as the body loads them -/

section heads

variable (x : Vec Ideal S4x4x128x64 .bf16) (p c : Vec Ideal S4x128x64 .bf16)

theorem rows0 (v : Vec Ideal S1x4x128x64 .bf16) (h : Fin 4) (hv : ∀ a b d, v (ix4 0 a b d) = x (ix4 h a b d)) : k0_pay7 v = headRows x h := by
  funext j; idx_vars j; pointwise [k0_pay7, headRows]; exact hv _ _ _
theorem rows1 (v : Vec Ideal S1x4x128x64 .bf16) (h : Fin 4) (hv : ∀ a b d, v (ix4 0 a b d) = x (ix4 h a b d)) : k0_pay8 v = headRows x h := rows0 x v h hv
theorem rows2 (v : Vec Ideal S1x4x128x64 .bf16) (h : Fin 4) (hv : ∀ a b d, v (ix4 0 a b d) = x (ix4 h a b d)) : k0_pay9 v = headRows x h := rows0 x v h hv
theorem rows3 (v : Vec Ideal S1x4x128x64 .bf16) (h : Fin 4) (hv : ∀ a b d, v (ix4 0 a b d) = x (ix4 h a b d)) : k0_pay10 v = headRows x h := rows0 x v h hv
theorem rows4 (v : Vec Ideal S1x4x128x64 .bf16) (h : Fin 4) (hv : ∀ a b d, v (ix4 0 a b d) = x (ix4 h a b d)) : k0_pay37 v = headRows x h := rows0 x v h hv
theorem rows5 (v : Vec Ideal S1x4x128x64 .bf16) (h : Fin 4) (hv : ∀ a b d, v (ix4 0 a b d) = x (ix4 h a b d)) : k0_pay38 v = headRows x h := rows0 x v h hv
theorem rows6 (v : Vec Ideal S1x4x128x64 .bf16) (h : Fin 4) (hv : ∀ a b d, v (ix4 0 a b d) = x (ix4 h a b d)) : k0_pay39 v = headRows x h := rows0 x v h hv
theorem rows7 (v : Vec Ideal S1x4x128x64 .bf16) (h : Fin 4) (hv : ∀ a b d, v (ix4 0 a b d) = x (ix4 h a b d)) : k0_pay40 v = headRows x h := rows0 x v h hv

theorem keys0 (v w : Vec Ideal S1x128x64 .bf16) (h : Fin 4) (hv : ∀ a d, v (ix3 0 a d) = p (ix3 h a d)) (hw : ∀ a d, w (ix3 0 a d) = c (ix3 h a d)) :
    k0_pay11 v w = headKeys p c h := by
  funext j; idx_vars j; pointwise [k0_pay11, headKeys]
  split
  · exact hv _ _
  · exact hw _ _
theorem keys1 (v w : Vec Ideal S1x128x64 .bf16) (h : Fin 4) (hv : ∀ a d, v (ix3 0 a d) = p (ix3 h a d)) (hw : ∀ a d, w (ix3 0 a d) = c (ix3 h a d)) :
    k0_pay13 (k0_pay12 v) w = headKeys p c h := keys0 p c v w h hv hw
theorem keys2 (v w : Vec Ideal S1x128x64 .bf16) (h : Fin 4) (hv : ∀ a d, v (ix3 0 a d) = p (ix3 h a d)) (hw : ∀ a d, w (ix3 0 a d) = c (ix3 h a d)) :
    k0_pay14 v w = headKeys p c h := keys0 p c v w h hv hw
theorem keys3 (v w : Vec Ideal S1x128x64 .bf16) (h : Fin 4) (hv : ∀ a d, v (ix3 0 a d) = p (ix3 h a d)) (hw : ∀ a d, w (ix3 0 a d) = c (ix3 h a d)) :
    k0_pay15 v w = headKeys p c h := keys0 p c v w h hv hw
theorem keys4 (v w : Vec Ideal S1x128x64 .bf16) (h : Fin 4) (hv : ∀ a d, v (ix3 0 a d) = p (ix3 h a d)) (hw : ∀ a d, w (ix3 0 a d) = c (ix3 h a d)) :
    k0_pay16 v w = headKeys p c h := keys0 p c v w h hv hw
theorem keys5 (v w : Vec Ideal S1x128x64 .bf16) (h : Fin 4) (hv : ∀ a d, v (ix3 0 a d) = p (ix3 h a d)) (hw : ∀ a d, w (ix3 0 a d) = c (ix3 h a d)) :
    k0_pay17 v w = headKeys p c h := keys0 p c v w h hv hw
theorem keys6 (v w : Vec Ideal S1x128x64 .bf16) (h : Fin 4) (hv : ∀ a d, v (ix3 0 a d) = p (ix3 h a d)) (hw : ∀ a d, w (ix3 0 a d) = c (ix3 h a d)) :
    k0_pay19 (k0_pay18 v) w = headKeys p c h := keys0 p c v w h hv hw
theorem keys7 (v w : Vec Ideal S1x128x64 .bf16) (h : Fin 4) (hv : ∀ a d, v (ix3 0 a d) = p (ix3 h a d)) (hw : ∀ a d, w (ix3 0 a d) = c (ix3 h a d)) :
    k0_pay20 v w = headKeys p c h := keys0 p c v w h hv hw

end heads

/-! ## The softmax of a row and the gradients of its scores -/

theorem neg_inf : Ideal.ofBits .f32 0xFF800000#32 = (⊥ : EReal) := by simp [Ideal.ofBits, Ideal.ieee]

section row

variable (b w : BitVec 32) (slope sink : FVec Ideal S2048x1 .f32) (sc : FVec Ideal S2048x256 .f32) (i94 i95 : IVec S2048x256 32)
variable (R : Fin 2048) (c : Fin 256)

theorem top_apply : k0_pay29 b slope sink sc w i94 i95 (ix2 R 0)
    = Row.top (fun c => k0_pay28 b slope sc w i94 i95 (ix2 R c)) (sink (ix2 R 0)) := by
  pointwise [k0_pay29]
  rw [neg_inf]
  rfl

theorem ex_apply : k0_pay30 b slope sink sc w i94 i95 (ix2 R c)
    = Row.ex (fun c => k0_pay28 b slope sc w i94 i95 (ix2 R c)) (sink (ix2 R 0)) c := by
  pointwise [k0_pay30]
  rw [top_apply]
  rfl

theorem exSink_apply : k0_pay31 b slope sink sc w i94 i95 (ix2 R 0)
    = Row.exSink (fun c => k0_pay28 b slope sc w i94 i95 (ix2 R c)) (sink (ix2 R 0)) := by
  pointwise [k0_pay31]
  rw [top_apply]
  rfl

theorem den_apply : k0_pay32 b slope sink sc w i94 i95 (ix2 R 0)
    = Row.den (fun c => k0_pay28 b slope sc w i94 i95 (ix2 R c)) (sink (ix2 R 0)) := by
  pointwise [k0_pay32]
  simp only [ex_apply, exSink_apply]
  rfl

theorem prob_apply : k0_pay35 b slope sink sc w i94 i95 (ix2 R c)
    = Row.prob (fun c => k0_pay28 b slope sc w i94 i95 (ix2 R c)) (sink (ix2 R 0)) c := by
  pointwise [k0_pay35, k0_pay33]
  rw [ex_apply, den_apply]
  rfl

variable (v50 : FVec Ideal S256x64 .f32) (v166 v172 v178 : FVec Ideal S512x256 .f32) (v182 : FVec Ideal S512x64 .bf16)

theorem dden_apply :
    k0_pay50 v50 (k0_pay30 b slope sink sc w i94 i95) (k0_pay34 b slope sink sc w i94 i95) v166 v172 v178 v182 (ix2 R 0)
      = Row.dden (fun c => k0_pay28 b slope sc w i94 i95 (ix2 R c)) (sink (ix2 R 0)) (fun c => k0_pay49 v50 v166 v172 v178 v182 (ix2 R c)) := by
  pointwise [k0_pay50, k0_pay34]
  simp only [ex_apply, den_apply]
  rfl

theorem dsink_apply :
    k0_pay51 v50 (k0_pay30 b slope sink sc w i94 i95) (k0_pay31 b slope sink sc w i94 i95) (k0_pay34 b slope sink sc w i94 i95) v166 v172 v178 v182 (ix2 R 0)
      = Row.dsink (fun c => k0_pay28 b slope sc w i94 i95 (ix2 R c)) (sink (ix2 R 0)) (fun c => k0_pay49 v50 v166 v172 v178 v182 (ix2 R c)) := by
  pointwise [k0_pay51]
  rw [dden_apply, exSink_apply]
  rfl

theorem dscore_apply (mask : IVec S2048x256 1) :
    k0_pay52 v50 mask (k0_pay30 b slope sink sc w i94 i95) (k0_pay33 b slope sink sc w i94 i95) (k0_pay34 b slope sink sc w i94 i95) v166 v172 v178 v182 (ix2 R c)
      = Scalar.select (mask (ix2 R c)) (Row.dscore (fun c => k0_pay28 b slope sc w i94 i95 (ix2 R c)) (sink (ix2 R 0)) (fun c => k0_pay49 v50 v166 v172 v178 v182 (ix2 R c)) c * Ideal.ofBits .f32 0x3E000000#32) (0 : EReal)
        := by
  pointwise [k0_pay52, k0_pay33]
  rw [Fin.sum_univ_one, dden_apply, ex_apply, den_apply]
  rfl

end row

/-! ## The products, one key head at a time -/

/-- A key head is one of four. -/
theorem head_cases (h : Fin 4) : h = 0 ∨ h = 1 ∨ h = 2 ∨ h = 3 := by revert h; decide

theorem score_apply (q : Fin 4 → FVec Ideal S512x64 .f32) (k : Fin 4 → FVec Ideal S256x64 .f32) (h : Fin 4) (r : Fin 512) (c : Fin 256) :
    k0_pay23 (q 0) (q 1) (q 2) (q 3) (k 0) (k 1) (k 2) (k 3) (ix2 (row h r) c)
      = (∑ d, q h (ix2 r d) * k h (ix2 c d)) * Ideal.ofBits .f32 0x3E000000#32 := by
  obtain rfl | rfl | rfl | rfl := head_cases h
  · pointwise [k0_pay23, row]
  · pointwise [k0_pay23, row]
  · pointwise [k0_pay23, row]
    simp only [show 1024 + r.val - 512 - 512 = r.val by omega, show ¬ 1024 + r.val < 512 by omega, show ¬ 1024 + r.val - 512 < 512 by omega, r.isLt, dite_true, dite_false]
  · pointwise [k0_pay23, row]
    simp only [show 1536 + r.val - 512 - 512 - 512 = r.val by omega, show ¬ 1536 + r.val < 512 by omega, show ¬ 1536 + r.val - 512 < 512 by omega, show ¬ 1536 + r.val - 512 - 512 < 512 by omega, dite_false]

section products

variable (q o : Fin 4 → FVec Ideal S512x64 .f32) (k v : Fin 4 → FVec Ideal S256x64 .f32)
variable (l0 l1 l2 l3 : Vec Ideal S1x4x128x64 .bf16)

/-- The gradient of the probabilities. -/
theorem dp_apply (h0 : k0_pay37 l0 = o 0) (h1 : k0_pay38 l1 = o 1) (h2 : k0_pay39 l2 = o 2) (h3 : k0_pay40 l3 = o 3)
    (h : Fin 4) (r : Fin 512) (c : Fin 256) :
    k0_pay49 (v 0) (k0_pay41 (v 3) l3) (k0_pay43 (v 2) l2) (k0_pay45 (v 1) l1) (k0_pay47 l0) (ix2 (row h r) c)
      = ∑ d, o h (ix2 r d) * v h (ix2 c d) := by
  have e0 : k0_pay47 l0 = fun j => o 0 j := by funext j; rw [← h0]; rfl
  have e1 : ∀ r c, k0_pay45 (v 1) l1 (ix2 r c) = ∑ d, o 1 (ix2 r d) * v 1 (ix2 c d) := by intro r c; pointwise [k0_pay45]; rw [h1]
  have e2 : ∀ r c, k0_pay43 (v 2) l2 (ix2 r c) = ∑ d, o 2 (ix2 r d) * v 2 (ix2 c d) := by intro r c; pointwise [k0_pay43]; rw [h2]
  have e3 : ∀ r c, k0_pay41 (v 3) l3 (ix2 r c) = ∑ d, o 3 (ix2 r d) * v 3 (ix2 c d) := by intro r c; pointwise [k0_pay41]; rw [h3]
  rw [e0]
  obtain rfl | rfl | rfl | rfl := head_cases h
  · pointwise [k0_pay49, row]
  · pointwise [k0_pay49, row]
    simp only [e1]
  · pointwise [k0_pay49, row]
    simp only [show 1024 + r.val - 512 - 512 = r.val by omega, show ¬ 1024 + r.val < 512 by omega, show ¬ 1024 + r.val - 512 < 512 by omega, r.isLt, dite_true, dite_false, e2]
  · pointwise [k0_pay49, row]
    simp only [show 1536 + r.val - 512 - 512 - 512 = r.val by omega, show ¬ 1536 + r.val < 512 by omega, show ¬ 1536 + r.val - 512 < 512 by omega, show ¬ 1536 + r.val - 512 - 512 < 512 by omega, dite_false, e3]

/-- The gradients of the values of a window, from the probabilities `p`. -/
theorem dv_apply (p : FVec Ideal S2048x256 .f32) (p0 : FVec Ideal S512x256 .f32) (hp : ∀ r c, p0 (ix2 r c) = p (ix2 (row 0 r) c))
    (h0 : k0_pay37 l0 = o 0) (h1 : k0_pay38 l1 = o 1) (h2 : k0_pay39 l2 = o 2) (h3 : k0_pay40 l3 = o 3)
    (h : Fin 4) (c : Fin 256) (d : Fin 64) :
    k0_pay65 (k0_pay42 p l3) (k0_pay44 p l2) (k0_pay46 p l1) (k0_pay48 p0 (k0_pay37 l0)) (ix3 h c d)
      = ∑ r, p (ix2 (row h r) c) * o h (ix2 r d) := by
  have e0 : ∀ c d, k0_pay48 p0 (k0_pay37 l0) (ix2 c d) = ∑ r, p (ix2 (row 0 r) c) * o 0 (ix2 r d) := by intro c d; pointwise [k0_pay48]; simp only [h0, hp]
  have e1 : ∀ c d, k0_pay46 p l1 (ix2 c d) = ∑ r, p (ix2 (row 1 r) c) * o 1 (ix2 r d) := by intro c d; pointwise [k0_pay46]; rw [h1]; rfl
  have e2 : ∀ c d, k0_pay44 p l2 (ix2 c d) = ∑ r, p (ix2 (row 2 r) c) * o 2 (ix2 r d) := by intro c d; pointwise [k0_pay44]; rw [h2]; rfl
  have e3 : ∀ c d, k0_pay42 p l3 (ix2 c d) = ∑ r, p (ix2 (row 3 r) c) * o 3 (ix2 r d) := by intro c d; pointwise [k0_pay42]; rw [h3]; rfl
  obtain rfl | rfl | rfl | rfl := head_cases h
  · pointwise [k0_pay65]; exact e0 c d
  · pointwise [k0_pay65]; exact e1 c d
  · pointwise [k0_pay65]; exact e2 c d
  · pointwise [k0_pay65]; exact e3 c d

variable (v50 : FVec Ideal S256x64 .f32) (v119 : IVec S2048x256 1) (v131 : FVec Ideal S2048x256 .f32) (v138 v141 : FVec Ideal S2048x1 .f32)
  (v166 v172 v178 : FVec Ideal S512x256 .f32) (v182 : FVec Ideal S512x64 .bf16)

/-- The gradients of the queries, from the gradients of the scores. -/
theorem dq_apply (h g : Fin 4) (i : Fin 128) (d : Fin 64) :
    k0_pay66 (k 0) (k0_pay53 v50 v119 v131 v138 v141 v166 v172 v178 v182) (k0_pay57 (k 3) v50 v119 v131 v138 v141 v166 v172 v178 v182)
        (k0_pay59 (k 2) v50 v119 v131 v138 v141 v166 v172 v178 v182) (k0_pay61 (k 1) v50 v119 v131 v138 v141 v166 v172 v178 v182) (ix4 h g i d)
      = ∑ c, k0_pay52 v50 v119 v131 v138 v141 v166 v172 v178 v182 (ix2 (row h ⟨128 * g.val + i.val, by omega⟩) c) * k h (ix2 c d) := by
  generalize hds : k0_pay52 v50 v119 v131 v138 v141 v166 v172 v178 v182 = ds
  obtain rfl | rfl | rfl | rfl := head_cases h
  · pointwise [k0_pay66, k0_pay53, row, hds]; simp only [mul_comm g.val]
  · pointwise [k0_pay66, k0_pay61, k0_pay54, row, hds]; simp only [mul_comm g.val]
  · pointwise [k0_pay66, k0_pay59, k0_pay55, row, hds]; simp only [mul_comm g.val]
  · pointwise [k0_pay66, k0_pay57, k0_pay56, row, hds]; simp only [mul_comm g.val]

/-- The gradients of the keys of a window, from the gradients of the scores. -/
theorem dk_apply (h : Fin 4) (c : Fin 256) (d : Fin 64) :
    k0_pay64 (q 0) (k0_pay53 v50 v119 v131 v138 v141 v166 v172 v178 v182) (k0_pay58 (q 3) v50 v119 v131 v138 v141 v166 v172 v178 v182)
        (k0_pay60 (q 2) v50 v119 v131 v138 v141 v166 v172 v178 v182) (k0_pay62 v50 v119 v131 v138 v141 v166 v172 v178 v182) (k0_pay63 (q 1)) (ix3 h c d)
      = ∑ r, k0_pay52 v50 v119 v131 v138 v141 v166 v172 v178 v182 (ix2 (row h r) c) * q h (ix2 r d) := by
  generalize hds : k0_pay52 v50 v119 v131 v138 v141 v166 v172 v178 v182 = ds
  obtain rfl | rfl | rfl | rfl := head_cases h
  · pointwise [k0_pay64, k0_pay53, row, hds]
  · pointwise [k0_pay64, k0_pay62, k0_pay63, k0_pay54, row, hds]
  · pointwise [k0_pay64, k0_pay60, k0_pay55, row, hds]
  · pointwise [k0_pay64, k0_pay58, k0_pay56, row, hds]

end products

end Cert.KernelIdeal.Attn

end
-- ==== Proof.Spec.lean ====
/- One block of the attention's backward pass, as mathematics: 128 queries of 16 heads against a window of 256 keys (the
   block before and the block itself) of 4 key heads, with a distance bias, a mask and one sink per query head. Row `r` of
   the 512 rows of a key head is query head `r / 128` of it and query `r % 128` of the block. -/
module

public import proofs.«01_k».proof.Proof.Row

@[expose] public section

noncomputable section

namespace Cert

open Idealize.ShloMosaic

/-- Key `c` of a window is seen by query `i` of the block: not later than the query, and at most 127 before it. -/
abbrev near (i : Fin 128) (c : Fin 256) : Prop := c.val ≤ i.val + 128 ∧ i.val < c.val

/-- The distance from query `i` of the block to key `c` of the window. -/
def dist (i : Fin 128) (c : Fin 256) : EReal :=
  FloatOps.sitofp (F := Ideal) .f32 (IntOp.subi (IntOp.addi (BitVec.ofNat 32 i.val) 128#32) (BitVec.ofNat 32 c.val))

/-- What a block is computed from. -/
structure Block where
  /-- 1 at the first block of the sequence, which has no block before it, and 0 at the others. -/
  first : Fin 2
  q : Fin 4 → Fin 512 → Fin 64 → EReal
  k : Fin 4 → Fin 256 → Fin 64 → EReal
  v : Fin 4 → Fin 256 → Fin 64 → EReal
  sink : Fin 4 → Fin 512 → EReal
  slope : Fin 4 → Fin 512 → EReal
  /-- The gradient of the block's outputs. -/
  o : Fin 4 → Fin 512 → Fin 64 → EReal

namespace Block

variable (B : Block)

/-- Row `r` sees key `c`. -/
abbrev live (r : Fin 512) (c : Fin 256) : Prop := near ⟨r.val % 128, by omega⟩ c ∧ 128 * B.first.val ≤ c.val

/-- The scale of the scores, 1/8. -/
abbrev scale : EReal := Ideal.ofBits .f32 0x3E000000#32

/-- The scores, masked. -/
def score (h : Fin 4) (r : Fin 512) (c : Fin 256) : EReal :=
  if B.live r c then (∑ d, B.q h r d * B.k h c d) * scale - B.slope h r * dist ⟨r.val % 128, by omega⟩ c else ⊥

/-- The gradient of the probabilities. -/
def dprob (h : Fin 4) (r : Fin 512) (c : Fin 256) : EReal := ∑ d, B.o h r d * B.v h c d

/-- The probabilities. -/
def prob (h : Fin 4) (r : Fin 512) (c : Fin 256) : EReal := Row.prob (B.score h r) (B.sink h r) c

/-- The gradient of the products of queries and keys. -/
def dscore (h : Fin 4) (r : Fin 512) (c : Fin 256) : EReal :=
  if B.live r c then Row.dscore (B.score h r) (B.sink h r) (B.dprob h r) c * scale else 0

/-- The gradient of the sink's logit, row by row. -/
def dsink (h : Fin 4) (r : Fin 512) : EReal := Row.dsink (B.score h r) (B.sink h r) (B.dprob h r)

/-- The gradients of the queries. -/
def dq (h : Fin 4) (r : Fin 512) (d : Fin 64) : EReal := ∑ c, B.dscore h r c * B.k h c d
/-- The gradients of the window's keys that come from this block. -/
def dk (h : Fin 4) (c : Fin 256) (d : Fin 64) : EReal := ∑ r, B.dscore h r c * B.q h r d
/-- The gradients of the window's values that come from this block. -/
def dv (h : Fin 4) (c : Fin 256) (d : Fin 64) : EReal := ∑ r, B.prob h r c * B.o h r d

end Block

end Cert

end
-- ==== Proof.Near.lean ====
/- The comparisons that say which keys of a window a query sees, decided over all queries and keys. -/
module

public import proofs.«01_k».proof.Proof.Spec

@[expose] public section

set_option maxRecDepth 16384

namespace Cert

open Idealize.ShloMosaic

theorem near_word : ∀ (i : Fin 128) (c : Fin 256),
    IntOp.andi (IntOp.cmpi .sge (IntOp.subi (IntOp.addi (BitVec.ofNat 32 i.val) 128#32) (BitVec.ofNat 32 c.val)) 0#32)
      (IntOp.cmpi .slt (IntOp.subi (IntOp.addi (BitVec.ofNat 32 i.val) 128#32) (BitVec.ofNat 32 c.val)) 128#32)
      = BitVec.ofBool (decide (near i c)) := by
  decide +kernel

end Cert
-- ==== Proof.Mask.lean ====
/- The mask of the attention's backward call, word by word: which keys of a window a query sees. -/
module

public import proofs.«01_k».proof.Proof.Gen.KernelIdeal.Skeleton
public import proofs.«01_k».proof.Proof.Gen.KernelIdeal
public import proofs.«01_k».proof.Proof.Spec
public import proofs.«01_k».proof.Proof.Near
public import Idealize.ShloMosaic.Lib.Pointwise

@[expose] public section

set_option maxRecDepth 16384

noncomputable section

namespace Cert.KernelIdeal.Attn

open Idealize.ShloMosaic Cert.KernelIdeal Cert.KernelIdeal.Gen

/-! ## The mask -/

/-- The distance from the query of row `R` to key `c`, as a word. -/
theorem dist_word (R : Fin 2048) (c : Fin 256) :
    k0_pay26 128#32 k0_pay24 k0_pay25 (ix2 R c)
      = IntOp.subi (IntOp.addi (BitVec.ofNat 32 (R.val % 128)) 128#32) (BitVec.ofNat 32 c.val) := by
  have key : ∀ R : Fin 2048, Scalar.select
      (IntOp.andi (IntOp.xori (IntOp.cmpi .slt (IntOp.remsi .vector (BitVec.ofNat 32 R.val) 128#32) 0#32) (Scalar.cmpi .slt 128#32 0#32))
        (IntOp.cmpi .ne (IntOp.remsi .vector (BitVec.ofNat 32 R.val) 128#32) 0#32))
      (IntOp.addi (IntOp.remsi .vector (BitVec.ofNat 32 R.val) 128#32) 128#32) (IntOp.remsi .vector (BitVec.ofNat 32 R.val) 128#32)
      = BitVec.ofNat 32 (R.val % 128) := by decide +kernel
  pointwise [k0_pay26, k0_pay24, k0_pay25]
  have w : Scalar.select (Scalar.cmpi .eq 128#32 0#32) 1#32 128#32 = 128#32 := by decide
  simp only [w]
  rw [← key R]

/-- The body's mask at a row and a key, where `b` is 1 at the first block of the sequence and 0 at the others. -/
theorem mask_apply (b : Fin 2) (R : Fin 2048) (c : Fin 256) :
    k0_pay27 (BitVec.ofNat 32 b.val) 128#32 k0_pay24 k0_pay25 (ix2 R c)
      = BitVec.ofBool (decide (near ⟨R.val % 128, by omega⟩ c ∧ 128 * b.val ≤ c.val)) := by
  have key : ∀ (b : Fin 2) (c : Fin 256), IntOp.cmpi .sge (BitVec.ofNat 32 c.val) (Scalar.muli 128#32 (BitVec.ofNat 32 b.val))
      = BitVec.ofBool (decide (128 * b.val ≤ c.val)) := by decide +kernel
  have both : ∀ p q : Bool, IntOp.andi (BitVec.ofBool p) (BitVec.ofBool q) = BitVec.ofBool (p && q) := by decide
  pointwise [k0_pay27]
  rw [dist_word, key, near_word ⟨R.val % 128, by omega⟩ c, both, ← Bool.decide_and]

end Cert.KernelIdeal.Attn

end
-- ==== Proof.Body.lean ====
/- What the body of the attention's backward call leaves at one grid point, as the mathematics of a block. -/
module

public import proofs.«01_k».proof.Proof.Payload
public import proofs.«01_k».proof.Proof.Mask
public import Idealize.ShloMosaic.Lib.Pipeline.ValueKit

@[expose] public section

set_option maxRecDepth 16384

noncomputable section

namespace Cert.KernelIdeal.Attn

open Idealize.ShloMosaic Cert.KernelIdeal Cert.KernelIdeal.Gen

/-- The blocks a grid point's windows show, and whether it is the first block of the sequence. -/
structure Win where
  first : Fin 2
  x0 : Vec Ideal S4x4x128x64 .bf16
  x1 : Vec Ideal S4x128x64 .bf16
  x2 : Vec Ideal S4x128x64 .bf16
  x3 : Vec Ideal S4x128x64 .bf16
  x4 : Vec Ideal S4x128x64 .bf16
  x5 : Vec Ideal S4x512x1 .f32
  x6 : Vec Ideal S4x512x1 .f32
  x7 : Vec Ideal S4x4x128x64 .bf16

namespace Win

variable (W : Win)

abbrev Q : Fin 4 → FVec Ideal S512x64 .f32 := headRows W.x0
abbrev K : Fin 4 → FVec Ideal S256x64 .f32 := headKeys W.x1 W.x2
abbrev V : Fin 4 → FVec Ideal S256x64 .f32 := headKeys W.x3 W.x4
abbrev O : Fin 4 → FVec Ideal S512x64 .f32 := headRows W.x7

/-- The block of mathematics that the windows hold. -/
def block : Block where
  first := W.first
  q h r d := W.Q h (ix2 r d)
  k h c d := W.K h (ix2 c d)
  v h c d := W.V h (ix2 c d)
  sink h r := W.x5 (ix3 h r 0)
  slope h r := W.x6 (ix3 h r 0)
  o h r d := W.O h (ix2 r d)

/-! The body's intermediate arrays over the windows. -/
abbrev bit : BitVec 32 := BitVec.ofNat 32 W.first.val
abbrev slope : FVec Ideal S2048x1 .f32 := k0_pay21 W.x6
abbrev sink : FVec Ideal S2048x1 .f32 := k0_pay22 W.x5
abbrev scores : FVec Ideal S2048x256 .f32 := k0_pay23 (W.Q 0) (W.Q 1) (W.Q 2) (W.Q 3) (W.K 0) (W.K 1) (W.K 2) (W.K 3)
abbrev mask : IVec S2048x256 1 := k0_pay27 W.bit 128#32 k0_pay24 k0_pay25
abbrev ex : FVec Ideal S2048x256 .f32 := k0_pay30 W.bit W.slope W.sink W.scores 128#32 k0_pay24 k0_pay25
abbrev exSink : FVec Ideal S2048x1 .f32 := k0_pay31 W.bit W.slope W.sink W.scores 128#32 k0_pay24 k0_pay25
abbrev inv : FVec Ideal S2048x1 .f32 := k0_pay33 W.bit W.slope W.sink W.scores 128#32 k0_pay24 k0_pay25
abbrev invSq : FVec Ideal S2048x1 .f32 := k0_pay34 W.bit W.slope W.sink W.scores 128#32 k0_pay24 k0_pay25
abbrev prob : FVec Ideal S2048x256 .f32 := k0_pay35 W.bit W.slope W.sink W.scores 128#32 k0_pay24 k0_pay25
abbrev prob0 : FVec Ideal S512x256 .f32 := k0_pay36 W.bit W.slope W.sink W.scores 128#32 k0_pay24 k0_pay25

theorem slope_apply (h : Fin 4) (r : Fin 512) : W.slope (ix2 (row h r) 0) = W.x6 (ix3 h r 0) := by
  pointwise [slope, k0_pay21, row]
  blk_ext
theorem sink_apply (h : Fin 4) (r : Fin 512) : W.sink (ix2 (row h r) 0) = W.x5 (ix3 h r 0) := by
  pointwise [sink, k0_pay22, row]
  blk_ext

theorem mask_apply' (h : Fin 4) (r : Fin 512) (c : Fin 256) :
    W.mask (ix2 (row h r) c) = BitVec.ofBool (decide (W.block.live r c)) := by
  unfold mask
  rw [mask_apply]
  simp only [show (row h r).val % 128 = r.val % 128 from by show (512 * h.val + r.val) % 128 = _; omega]
  rfl

theorem score_row (h : Fin 4) (r : Fin 512) (c : Fin 256) :
    k0_pay28 W.bit W.slope W.scores 128#32 k0_pay24 k0_pay25 (ix2 (row h r) c) = W.block.score h r c := by
  have e := W.mask_apply' h r c
  have q : W.scores (ix2 (row h r) c) = _ := score_apply W.Q W.K h r c
  have d := dist_word (row h r) c
  have s : W.slope (ix2 ⟨512 * h.val + r.val, by omega⟩ 0) = _ := W.slope_apply h r
  simp only [show (row h r).val % 128 = r.val % 128 from by show (512 * h.val + r.val) % 128 = _; omega] at d
  pointwise [k0_pay28]
  unfold mask at e
  rw [e, q, d, s, neg_inf]
  unfold Block.score
  by_cases hl : W.block.live r c
  · rw [if_pos hl, decide_eq_true hl]; rfl
  · rw [if_neg hl, decide_eq_false hl]; rfl

theorem score_fun (h : Fin 4) (r : Fin 512) :
    (fun c => k0_pay28 W.bit W.slope W.scores 128#32 k0_pay24 k0_pay25 (ix2 (row h r) c)) = W.block.score h r :=
  funext fun c => W.score_row h r c

theorem prob_row (h : Fin 4) (r : Fin 512) (c : Fin 256) : W.prob (ix2 (row h r) c) = W.block.prob h r c := by
  unfold prob
  rw [prob_apply, score_fun, sink_apply]
  rfl

section loads

variable (l0 l1 l2 l3 : Vec Ideal S1x4x128x64 .bf16)
  (h0 : k0_pay37 l0 = W.O 0) (h1 : k0_pay38 l1 = W.O 1) (h2 : k0_pay39 l2 = W.O 2) (h3 : k0_pay40 l3 = W.O 3)
include h0 h1 h2 h3

theorem dp_fun (h : Fin 4) (r : Fin 512) :
    (fun c => k0_pay49 (W.V 0) (k0_pay41 (W.V 3) l3) (k0_pay43 (W.V 2) l2) (k0_pay45 (W.V 1) l1) (k0_pay47 l0) (ix2 (row h r) c)) = W.block.dprob h r :=
  funext fun c => dp_apply W.O W.V l0 l1 l2 l3 h0 h1 h2 h3 h r c

theorem dscore_row (h : Fin 4) (r : Fin 512) (c : Fin 256) :
    k0_pay52 (W.V 0) W.mask W.ex W.inv W.invSq (k0_pay41 (W.V 3) l3) (k0_pay43 (W.V 2) l2) (k0_pay45 (W.V 1) l1) (k0_pay47 l0) (ix2 (row h r) c)
      = W.block.dscore h r c := by
  unfold ex inv invSq
  rw [dscore_apply, mask_apply', score_fun, sink_apply, W.dp_fun l0 l1 l2 l3 h0 h1 h2 h3]
  unfold Block.dscore
  by_cases hl : W.block.live r c
  · rw [if_pos hl, decide_eq_true hl]; rfl
  · rw [if_neg hl, decide_eq_false hl]; rfl

theorem dsink_row (h : Fin 4) (r : Fin 512) :
    k0_pay51 (W.V 0) W.ex W.exSink W.invSq (k0_pay41 (W.V 3) l3) (k0_pay43 (W.V 2) l2) (k0_pay45 (W.V 1) l1) (k0_pay47 l0) (ix2 (row h r) 0)
      = W.block.dsink h r := by
  unfold ex exSink invSq
  rw [dsink_apply, score_fun, sink_apply, W.dp_fun l0 l1 l2 l3 h0 h1 h2 h3]
  rfl

/-- The block's queries' gradients, as stored. -/
theorem dq_row (h g : Fin 4) (i : Fin 128) (d : Fin 64) :
    k0_pay66 (W.K 0)
        (k0_pay53 (W.V 0) W.mask W.ex W.inv W.invSq (k0_pay41 (W.V 3) l3) (k0_pay43 (W.V 2) l2) (k0_pay45 (W.V 1) l1) (k0_pay47 l0))
        (k0_pay57 (W.K 3) (W.V 0) W.mask W.ex W.inv W.invSq (k0_pay41 (W.V 3) l3) (k0_pay43 (W.V 2) l2) (k0_pay45 (W.V 1) l1) (k0_pay47 l0))
        (k0_pay59 (W.K 2) (W.V 0) W.mask W.ex W.inv W.invSq (k0_pay41 (W.V 3) l3) (k0_pay43 (W.V 2) l2) (k0_pay45 (W.V 1) l1) (k0_pay47 l0))
        (k0_pay61 (W.K 1) (W.V 0) W.mask W.ex W.inv W.invSq (k0_pay41 (W.V 3) l3) (k0_pay43 (W.V 2) l2) (k0_pay45 (W.V 1) l1) (k0_pay47 l0))
        (ix4 h g i d)
      = W.block.dq h ⟨128 * g.val + i.val, by omega⟩ d := by
  rw [dq_apply]
  simp only [W.dscore_row l0 l1 l2 l3 h0 h1 h2 h3]
  rfl

/-- The window's keys' gradients from this block. -/
theorem dk_row (h : Fin 4) (c : Fin 256) (d : Fin 64) :
    k0_pay64 (W.Q 0)
        (k0_pay53 (W.V 0) W.mask W.ex W.inv W.invSq (k0_pay41 (W.V 3) l3) (k0_pay43 (W.V 2) l2) (k0_pay45 (W.V 1) l1) (k0_pay47 l0))
        (k0_pay58 (W.Q 3) (W.V 0) W.mask W.ex W.inv W.invSq (k0_pay41 (W.V 3) l3) (k0_pay43 (W.V 2) l2) (k0_pay45 (W.V 1) l1) (k0_pay47 l0))
        (k0_pay60 (W.Q 2) (W.V 0) W.mask W.ex W.inv W.invSq (k0_pay41 (W.V 3) l3) (k0_pay43 (W.V 2) l2) (k0_pay45 (W.V 1) l1) (k0_pay47 l0))
        (k0_pay62 (W.V 0) W.mask W.ex W.inv W.invSq (k0_pay41 (W.V 3) l3) (k0_pay43 (W.V 2) l2) (k0_pay45 (W.V 1) l1) (k0_pay47 l0))
        (k0_pay63 (W.Q 1)) (ix3 h c d)
      = W.block.dk h c d := by
  rw [dk_apply]
  simp only [W.dscore_row l0 l1 l2 l3 h0 h1 h2 h3]
  rfl

/-- The window's values' gradients from this block. -/
theorem dv_row (h : Fin 4) (c : Fin 256) (d : Fin 64) :
    k0_pay65 (k0_pay42 W.prob l3) (k0_pay44 W.prob l2) (k0_pay46 W.prob l1) (k0_pay48 W.prob0 (k0_pay37 l0)) (ix3 h c d)
      = W.block.dv h c d := by
  rw [dv_apply W.O l0 l1 l2 l3 W.prob W.prob0 (fun r c => by pointwise [prob0, prob, k0_pay36, row]) h0 h1 h2 h3]
  simp only [prob_row]
  rfl

end loads

end Win

end Cert.KernelIdeal.Attn

end
-- ==== Proof.Loads.lean ====
/- The loads of the attention's backward body: what each brings of the blocks its windows show. -/
module

public import proofs.«01_k».proof.Proof.AttnFrame
public import proofs.«01_k».proof.Proof.Body
public import Idealize.ShloMosaic.Lib.Pipeline.ReadBack

@[expose] public section

set_option maxRecDepth 16384

noncomputable section

namespace Cert.KernelIdeal.Attn

open Idealize.ShloMosaic Idealize.ShloMosaic.TcCoe Cert.KernelIdeal Cert.KernelIdeal.Gen

variable (x : Vec Ideal S4x4x128x64 .bf16) (p y : Vec Ideal S4x128x64 .bf16)

/-- Key head 0 of a block of queries. -/
abbrev ldRows0 : Vec Ideal S1x4x128x64 .bf16 := View.ld x (Rect.unit ![0, 0, 0, 0] ![1, 4, 128, 64] inb_S4x4x128x64_S1x4x128x64_0_0_0_0)
/-- Key head 0 of a block of keys. -/
abbrev ldKeys0 : Vec Ideal S1x128x64 .bf16 := View.ld y (Rect.unit ![0, 0, 0] ![1, 128, 64] inb_S4x128x64_S1x128x64_0_0_0)
theorem ldRows0_apply (a : Fin 4) (b : Fin 128) (d : Fin 64) : ldRows0 x (ix4 0 a b d) = x (ix4 0 a b d) := by
  simp only [ldRows0, View.ld]
  blk_ext
  all_goals simp [LoadRect.idx_apply, Rect.unit]
theorem ldKeys0_apply (a : Fin 128) (d : Fin 64) : ldKeys0 y (ix3 0 a d) = y (ix3 0 a d) := by
  simp only [ldKeys0, View.ld]
  blk_ext
  all_goals simp [LoadRect.idx_apply, Rect.unit]
/-- Key head 1 of a block of queries. -/
abbrev ldRows1 : Vec Ideal S1x4x128x64 .bf16 := View.ld x (Rect.unit ![1, 0, 0, 0] ![1, 4, 128, 64] inb_S4x4x128x64_S1x4x128x64_1_0_0_0)
/-- Key head 1 of a block of keys. -/
abbrev ldKeys1 : Vec Ideal S1x128x64 .bf16 := View.ld y (Rect.unit ![1, 0, 0] ![1, 128, 64] inb_S4x128x64_S1x128x64_1_0_0)
theorem ldRows1_apply (a : Fin 4) (b : Fin 128) (d : Fin 64) : ldRows1 x (ix4 0 a b d) = x (ix4 1 a b d) := by
  simp only [ldRows1, View.ld]
  blk_ext
  all_goals simp [LoadRect.idx_apply, Rect.unit]
theorem ldKeys1_apply (a : Fin 128) (d : Fin 64) : ldKeys1 y (ix3 0 a d) = y (ix3 1 a d) := by
  simp only [ldKeys1, View.ld]
  blk_ext
  all_goals simp [LoadRect.idx_apply, Rect.unit]
/-- Key head 2 of a block of queries. -/
abbrev ldRows2 : Vec Ideal S1x4x128x64 .bf16 := View.ld x (Rect.unit ![2, 0, 0, 0] ![1, 4, 128, 64] inb_S4x4x128x64_S1x4x128x64_2_0_0_0)
/-- Key head 2 of a block of keys. -/
abbrev ldKeys2 : Vec Ideal S1x128x64 .bf16 := View.ld y (Rect.unit ![2, 0, 0] ![1, 128, 64] inb_S4x128x64_S1x128x64_2_0_0)
theorem ldRows2_apply (a : Fin 4) (b : Fin 128) (d : Fin 64) : ldRows2 x (ix4 0 a b d) = x (ix4 2 a b d) := by
  simp only [ldRows2, View.ld]
  blk_ext
  all_goals simp [LoadRect.idx_apply, Rect.unit]
theorem ldKeys2_apply (a : Fin 128) (d : Fin 64) : ldKeys2 y (ix3 0 a d) = y (ix3 2 a d) := by
  simp only [ldKeys2, View.ld]
  blk_ext
  all_goals simp [LoadRect.idx_apply, Rect.unit]
/-- Key head 3 of a block of queries. -/
abbrev ldRows3 : Vec Ideal S1x4x128x64 .bf16 := View.ld x (Rect.unit ![3, 0, 0, 0] ![1, 4, 128, 64] inb_S4x4x128x64_S1x4x128x64_3_0_0_0)
/-- Key head 3 of a block of keys. -/
abbrev ldKeys3 : Vec Ideal S1x128x64 .bf16 := View.ld y (Rect.unit ![3, 0, 0] ![1, 128, 64] inb_S4x128x64_S1x128x64_3_0_0)
theorem ldRows3_apply (a : Fin 4) (b : Fin 128) (d : Fin 64) : ldRows3 x (ix4 0 a b d) = x (ix4 3 a b d) := by
  simp only [ldRows3, View.ld]
  blk_ext
  all_goals simp [LoadRect.idx_apply, Rect.unit]
theorem ldKeys3_apply (a : Fin 128) (d : Fin 64) : ldKeys3 y (ix3 0 a d) = y (ix3 3 a d) := by
  simp only [ldKeys3, View.ld]
  blk_ext
  all_goals simp [LoadRect.idx_apply, Rect.unit]
theorem ld_rows0 : k0_pay7 (ldRows0 x) = headRows x 0 := rows0 _ _ _ (ldRows0_apply x)
theorem ld_rows1 : k0_pay8 (ldRows1 x) = headRows x 1 := rows1 _ _ _ (ldRows1_apply x)
theorem ld_rows2 : k0_pay9 (ldRows2 x) = headRows x 2 := rows2 _ _ _ (ldRows2_apply x)
theorem ld_rows3 : k0_pay10 (ldRows3 x) = headRows x 3 := rows3 _ _ _ (ldRows3_apply x)
theorem ld_rows4 : k0_pay37 (ldRows0 x) = headRows x 0 := rows4 _ _ _ (ldRows0_apply x)
theorem ld_rows5 : k0_pay38 (ldRows1 x) = headRows x 1 := rows5 _ _ _ (ldRows1_apply x)
theorem ld_rows6 : k0_pay39 (ldRows2 x) = headRows x 2 := rows6 _ _ _ (ldRows2_apply x)
theorem ld_rows7 : k0_pay40 (ldRows3 x) = headRows x 3 := rows7 _ _ _ (ldRows3_apply x)
theorem ld_keys0 : k0_pay11 (ldKeys0 p) (ldKeys0 y) = headKeys p y 0 := keys0 _ _ _ _ _ (ldKeys0_apply p) (ldKeys0_apply y)
theorem ld_keys1 : k0_pay13 (k0_pay12 (ldKeys1 p)) (ldKeys1 y) = headKeys p y 1 := keys1 _ _ _ _ _ (ldKeys1_apply p) (ldKeys1_apply y)
theorem ld_keys2 : k0_pay14 (ldKeys2 p) (ldKeys2 y) = headKeys p y 2 := keys2 _ _ _ _ _ (ldKeys2_apply p) (ldKeys2_apply y)
theorem ld_keys3 : k0_pay15 (ldKeys3 p) (ldKeys3 y) = headKeys p y 3 := keys3 _ _ _ _ _ (ldKeys3_apply p) (ldKeys3_apply y)
theorem ld_keys4 : k0_pay16 (ldKeys0 p) (ldKeys0 y) = headKeys p y 0 := keys4 _ _ _ _ _ (ldKeys0_apply p) (ldKeys0_apply y)
theorem ld_keys5 : k0_pay17 (ldKeys1 p) (ldKeys1 y) = headKeys p y 1 := keys5 _ _ _ _ _ (ldKeys1_apply p) (ldKeys1_apply y)
theorem ld_keys6 : k0_pay19 (k0_pay18 (ldKeys2 p)) (ldKeys2 y) = headKeys p y 2 := keys6 _ _ _ _ _ (ldKeys2_apply p) (ldKeys2_apply y)
theorem ld_keys7 : k0_pay20 (ldKeys3 p) (ldKeys3 y) = headKeys p y 3 := keys7 _ _ _ _ _ (ldKeys3_apply p) (ldKeys3_apply y)

end Cert.KernelIdeal.Attn

end
-- ==== Proof.Outs.lean ====
/- What one run of the attention's backward body leaves in its output blocks and its scratch, from the blocks it is given. -/
module

public import proofs.«01_k».proof.Proof.Loads

@[expose] public section

set_option maxRecDepth 16384

noncomputable section

namespace Cert.KernelIdeal.Attn

open Idealize.ShloMosaic Idealize.ShloMosaic.TcCoe Cert.KernelIdeal Cert.KernelIdeal.Gen

variable (c : Dev nD) (i : grid0.Coords) (arg1 : Memref sig .tc .vmem S4x4x128x64 .bf16) (harg1 : arg1.IsWhole) (arg2 : Memref sig .tc .vmem S4x128x64 .bf16) (harg2 : arg2.IsWhole) (arg3 : Memref sig .tc .vmem S4x128x64 .bf16) (harg3 : arg3.IsWhole) (arg4 : Memref sig .tc .vmem S4x128x64 .bf16) (harg4 : arg4.IsWhole) (arg5 : Memref sig .tc .vmem S4x128x64 .bf16) (harg5 : arg5.IsWhole) (arg6 : Memref sig .tc .vmem S4x512x1 .f32) (harg6 : arg6.IsWhole) (arg7 : Memref sig .tc .vmem S4x512x1 .f32) (harg7 : arg7.IsWhole) (arg8 : Memref sig .tc .vmem S4x4x128x64 .bf16) (harg8 : arg8.IsWhole) (arg9 : Memref sig .tc .vmem S4x4x128x64 .bf16) (harg9 : arg9.IsWhole) (arg10 : Memref sig .tc .vmem S4x128x64 .bf16) (harg10 : arg10.IsWhole) (arg11 : Memref sig .tc .vmem S4x128x64 .bf16) (harg11 : arg11.IsWhole) (arg12 : Memref sig .tc .vmem S4x512x1 .f32) (harg12 : arg12.IsWhole) (arg13 : Memref sig .tc .vmem S4x128x64 .f32) (harg13 : arg13.IsWhole) (arg14 : Memref sig .tc .vmem S4x128x64 .f32) (harg14 : arg14.IsWhole)
variable (first : Fin 2) (hb : (Scalar.extui (Scalar.cmpi .eq (BitVec.ofNat 32 (i 0).val) 31#32) : BitVec 32) = BitVec.ofNat 32 first.val)
variable (x0 : Vec Ideal S4x4x128x64 .bf16) (x1 x2 x3 x4 : Vec Ideal S4x128x64 .bf16) (x5 x6 : Vec Ideal S4x512x1 .f32) (x7 : Vec Ideal S4x4x128x64 .bf16)
variable (xd : Vec Ideal S4x512x1 .f32) (xk xv : Vec Ideal S4x128x64 .f32)

/-- The block of mathematics the body's blocks hold. -/
abbrev mathBlock : Block := (Win.mk first x0 x1 x2 x3 x4 x5 x6 x7).block

include hb in
theorem dq_A (hc0 : cond0_0 i) (h g : Fin 4) (a : Fin 128) (d : Fin 64) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix4 h g a d) = (mathBlock first x0 x1 x2 x3 x4 x5 x6 x7).dq h ⟨128 * g.val + a.val, by omega⟩ d := by
  frame_out
  simp only [hb, ld_rows0, ld_rows1, ld_rows2, ld_rows3, ld_keys0, ld_keys1, ld_keys2, ld_keys3, ld_keys4, ld_keys5, ld_keys6, ld_keys7]
  have e := (Win.mk first x0 x1 x2 x3 x4 x5 x6 x7).dq_row _ _ _ _ (ld_rows4 x7) (ld_rows5 x7) (ld_rows6 x7) (ld_rows7 x7) h g a d
  dsimp only [Win.K, Win.V, Win.Q, Win.mask, Win.ex, Win.exSink, Win.inv, Win.invSq, Win.prob, Win.prob0, Win.slope, Win.sink, Win.scores, Win.bit, ldRows0, ldRows1, ldRows2, ldRows3] at e
  exact e
include hb in
theorem dk_A (hc0 : cond0_0 i) (h : Fin 4) (a : Fin 128) (d : Fin 64) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 h a d) = (mathBlock first x0 x1 x2 x3 x4 x5 x6 x7).dk h ⟨128 + a.val, by omega⟩ d := by
  frame_out
  simp only [hb, ld_rows0, ld_rows1, ld_rows2, ld_rows3, ld_keys0, ld_keys1, ld_keys2, ld_keys3, ld_keys4, ld_keys5, ld_keys6, ld_keys7]
  try simp only [read_unread_whole]
  pointwise [k0_pay67, k0_pay4]
  have e := (Win.mk first x0 x1 x2 x3 x4 x5 x6 x7).dk_row _ _ _ _ (ld_rows4 x7) (ld_rows5 x7) (ld_rows6 x7) (ld_rows7 x7) h ⟨128 + a.val, by omega⟩ d
  dsimp only [Win.K, Win.V, Win.Q, Win.mask, Win.ex, Win.exSink, Win.inv, Win.invSq, Win.prob, Win.prob0, Win.slope, Win.sink, Win.scores, Win.bit, ldRows0, ldRows1, ldRows2, ldRows3] at e
  exact e
include hb in
theorem dk_carry_A (hc0 : cond0_0 i) (h : Fin 4) (a : Fin 128) (d : Fin 64) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 h a d) = (mathBlock first x0 x1 x2 x3 x4 x5 x6 x7).dk h ⟨a.val, by omega⟩ d := by
  frame_out
  simp only [hb, ld_rows0, ld_rows1, ld_rows2, ld_rows3, ld_keys0, ld_keys1, ld_keys2, ld_keys3, ld_keys4, ld_keys5, ld_keys6, ld_keys7]
  try simp only [read_unread_whole]
  pointwise [k0_pay1]
  have e := (Win.mk first x0 x1 x2 x3 x4 x5 x6 x7).dk_row _ _ _ _ (ld_rows4 x7) (ld_rows5 x7) (ld_rows6 x7) (ld_rows7 x7) h ⟨a.val, by omega⟩ d
  dsimp only [Win.K, Win.V, Win.Q, Win.mask, Win.ex, Win.exSink, Win.inv, Win.invSq, Win.prob, Win.prob0, Win.slope, Win.sink, Win.scores, Win.bit, ldRows0, ldRows1, ldRows2, ldRows3] at e
  exact e
include hb in
theorem dv_A (hc0 : cond0_0 i) (h : Fin 4) (a : Fin 128) (d : Fin 64) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 h a d) = (mathBlock first x0 x1 x2 x3 x4 x5 x6 x7).dv h ⟨128 + a.val, by omega⟩ d := by
  frame_out
  simp only [hb, ld_rows0, ld_rows1, ld_rows2, ld_rows3, ld_keys0, ld_keys1, ld_keys2, ld_keys3, ld_keys4, ld_keys5, ld_keys6, ld_keys7]
  try simp only [read_unread_whole]
  pointwise [k0_pay68, k0_pay5]
  have e := (Win.mk first x0 x1 x2 x3 x4 x5 x6 x7).dv_row _ _ _ _ (ld_rows4 x7) (ld_rows5 x7) (ld_rows6 x7) (ld_rows7 x7) h ⟨128 + a.val, by omega⟩ d
  dsimp only [Win.K, Win.V, Win.Q, Win.mask, Win.ex, Win.exSink, Win.inv, Win.invSq, Win.prob, Win.prob0, Win.slope, Win.sink, Win.scores, Win.bit, ldRows0, ldRows1, ldRows2, ldRows3] at e
  exact e
include hb in
theorem dv_carry_A (hc0 : cond0_0 i) (h : Fin 4) (a : Fin 128) (d : Fin 64) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 h a d) = (mathBlock first x0 x1 x2 x3 x4 x5 x6 x7).dv h ⟨a.val, by omega⟩ d := by
  frame_out
  simp only [hb, ld_rows0, ld_rows1, ld_rows2, ld_rows3, ld_keys0, ld_keys1, ld_keys2, ld_keys3, ld_keys4, ld_keys5, ld_keys6, ld_keys7]
  try simp only [read_unread_whole]
  pointwise [k0_pay2]
  have e := (Win.mk first x0 x1 x2 x3 x4 x5 x6 x7).dv_row _ _ _ _ (ld_rows4 x7) (ld_rows5 x7) (ld_rows6 x7) (ld_rows7 x7) h ⟨a.val, by omega⟩ d
  dsimp only [Win.K, Win.V, Win.Q, Win.mask, Win.ex, Win.exSink, Win.inv, Win.invSq, Win.prob, Win.prob0, Win.slope, Win.sink, Win.scores, Win.bit, ldRows0, ldRows1, ldRows2, ldRows3] at e
  exact e
include hb in
theorem dsink_A (hc0 : cond0_0 i) (h : Fin 4) (r : Fin 512) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 h r 0) = (mathBlock first x0 x1 x2 x3 x4 x5 x6 x7).dsink h r := by
  frame_out
  simp only [hb, ld_rows0, ld_rows1, ld_rows2, ld_rows3, ld_keys0, ld_keys1, ld_keys2, ld_keys3, ld_keys4, ld_keys5, ld_keys6, ld_keys7]
  try simp only [read_unread_whole]
  pointwise [k0_pay3, k0_pay6]
  simp only [mul_comm h.val 512]
  have e := (Win.mk first x0 x1 x2 x3 x4 x5 x6 x7).dsink_row _ _ _ _ (ld_rows4 x7) (ld_rows5 x7) (ld_rows6 x7) (ld_rows7 x7) h r
  dsimp only [Win.K, Win.V, Win.Q, Win.mask, Win.ex, Win.exSink, Win.inv, Win.invSq, Win.prob, Win.prob0, Win.slope, Win.sink, Win.scores, Win.bit, ldRows0, ldRows1, ldRows2, ldRows3] at e
  exact e
include hb in
theorem dq_B (hc0 : ¬cond0_0 i) (h g : Fin 4) (a : Fin 128) (d : Fin 64) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xd xk xv (ix4 h g a d) = (mathBlock first x0 x1 x2 x3 x4 x5 x6 x7).dq h ⟨128 * g.val + a.val, by omega⟩ d := by
  frame_out
  simp only [hb, ld_rows0, ld_rows1, ld_rows2, ld_rows3, ld_keys0, ld_keys1, ld_keys2, ld_keys3, ld_keys4, ld_keys5, ld_keys6, ld_keys7]
  have e := (Win.mk first x0 x1 x2 x3 x4 x5 x6 x7).dq_row _ _ _ _ (ld_rows4 x7) (ld_rows5 x7) (ld_rows6 x7) (ld_rows7 x7) h g a d
  dsimp only [Win.K, Win.V, Win.Q, Win.mask, Win.ex, Win.exSink, Win.inv, Win.invSq, Win.prob, Win.prob0, Win.slope, Win.sink, Win.scores, Win.bit, ldRows0, ldRows1, ldRows2, ldRows3] at e
  exact e
include hb in
theorem dk_B (hc0 : ¬cond0_0 i) (h : Fin 4) (a : Fin 128) (d : Fin 64) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xd xk xv (ix3 h a d) = (mathBlock first x0 x1 x2 x3 x4 x5 x6 x7).dk h ⟨128 + a.val, by omega⟩ d + xk (ix3 h a d) := by
  frame_out
  simp only [hb, ld_rows0, ld_rows1, ld_rows2, ld_rows3, ld_keys0, ld_keys1, ld_keys2, ld_keys3, ld_keys4, ld_keys5, ld_keys6, ld_keys7]
  try simp only [read_unread_whole]
  pointwise [k0_pay67, k0_pay4]
  have e := (Win.mk first x0 x1 x2 x3 x4 x5 x6 x7).dk_row _ _ _ _ (ld_rows4 x7) (ld_rows5 x7) (ld_rows6 x7) (ld_rows7 x7) h ⟨128 + a.val, by omega⟩ d
  dsimp only [Win.K, Win.V, Win.Q, Win.mask, Win.ex, Win.exSink, Win.inv, Win.invSq, Win.prob, Win.prob0, Win.slope, Win.sink, Win.scores, Win.bit, ldRows0, ldRows1, ldRows2, ldRows3] at e
  exact congrArg (· + _) e
include hb in
theorem dk_carry_B (hc0 : ¬cond0_0 i) (h : Fin 4) (a : Fin 128) (d : Fin 64) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xd xk xv (ix3 h a d) = (mathBlock first x0 x1 x2 x3 x4 x5 x6 x7).dk h ⟨a.val, by omega⟩ d := by
  frame_out
  simp only [hb, ld_rows0, ld_rows1, ld_rows2, ld_rows3, ld_keys0, ld_keys1, ld_keys2, ld_keys3, ld_keys4, ld_keys5, ld_keys6, ld_keys7]
  try simp only [read_unread_whole]
  pointwise [k0_pay1]
  have e := (Win.mk first x0 x1 x2 x3 x4 x5 x6 x7).dk_row _ _ _ _ (ld_rows4 x7) (ld_rows5 x7) (ld_rows6 x7) (ld_rows7 x7) h ⟨a.val, by omega⟩ d
  dsimp only [Win.K, Win.V, Win.Q, Win.mask, Win.ex, Win.exSink, Win.inv, Win.invSq, Win.prob, Win.prob0, Win.slope, Win.sink, Win.scores, Win.bit, ldRows0, ldRows1, ldRows2, ldRows3] at e
  exact e
include hb in
theorem dv_B (hc0 : ¬cond0_0 i) (h : Fin 4) (a : Fin 128) (d : Fin 64) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xd xk xv (ix3 h a d) = (mathBlock first x0 x1 x2 x3 x4 x5 x6 x7).dv h ⟨128 + a.val, by omega⟩ d + xv (ix3 h a d) := by
  frame_out
  simp only [hb, ld_rows0, ld_rows1, ld_rows2, ld_rows3, ld_keys0, ld_keys1, ld_keys2, ld_keys3, ld_keys4, ld_keys5, ld_keys6, ld_keys7]
  try simp only [read_unread_whole]
  pointwise [k0_pay68, k0_pay5]
  have e := (Win.mk first x0 x1 x2 x3 x4 x5 x6 x7).dv_row _ _ _ _ (ld_rows4 x7) (ld_rows5 x7) (ld_rows6 x7) (ld_rows7 x7) h ⟨128 + a.val, by omega⟩ d
  dsimp only [Win.K, Win.V, Win.Q, Win.mask, Win.ex, Win.exSink, Win.inv, Win.invSq, Win.prob, Win.prob0, Win.slope, Win.sink, Win.scores, Win.bit, ldRows0, ldRows1, ldRows2, ldRows3] at e
  exact congrArg (· + _) e
include hb in
theorem dv_carry_B (hc0 : ¬cond0_0 i) (h : Fin 4) (a : Fin 128) (d : Fin 64) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xd xk xv (ix3 h a d) = (mathBlock first x0 x1 x2 x3 x4 x5 x6 x7).dv h ⟨a.val, by omega⟩ d := by
  frame_out
  simp only [hb, ld_rows0, ld_rows1, ld_rows2, ld_rows3, ld_keys0, ld_keys1, ld_keys2, ld_keys3, ld_keys4, ld_keys5, ld_keys6, ld_keys7]
  try simp only [read_unread_whole]
  pointwise [k0_pay2]
  have e := (Win.mk first x0 x1 x2 x3 x4 x5 x6 x7).dv_row _ _ _ _ (ld_rows4 x7) (ld_rows5 x7) (ld_rows6 x7) (ld_rows7 x7) h ⟨a.val, by omega⟩ d
  dsimp only [Win.K, Win.V, Win.Q, Win.mask, Win.ex, Win.exSink, Win.inv, Win.invSq, Win.prob, Win.prob0, Win.slope, Win.sink, Win.scores, Win.bit, ldRows0, ldRows1, ldRows2, ldRows3] at e
  exact e
include hb in
theorem dsink_B (hc0 : ¬cond0_0 i) (h : Fin 4) (r : Fin 512) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xd xk xv (ix3 h r 0) = xd (ix3 h r 0) + (mathBlock first x0 x1 x2 x3 x4 x5 x6 x7).dsink h r := by
  frame_out
  simp only [hb, ld_rows0, ld_rows1, ld_rows2, ld_rows3, ld_keys0, ld_keys1, ld_keys2, ld_keys3, ld_keys4, ld_keys5, ld_keys6, ld_keys7]
  try simp only [read_unread_whole]
  pointwise [k0_pay3, k0_pay6]
  simp only [mul_comm h.val 512]
  have e := (Win.mk first x0 x1 x2 x3 x4 x5 x6 x7).dsink_row _ _ _ _ (ld_rows4 x7) (ld_rows5 x7) (ld_rows6 x7) (ld_rows7 x7) h r
  dsimp only [Win.K, Win.V, Win.Q, Win.mask, Win.ex, Win.exSink, Win.inv, Win.invSq, Win.prob, Win.prob0, Win.slope, Win.sink, Win.scores, Win.bit, ldRows0, ldRows1, ldRows2, ldRows3] at e
  exact congrArg (_ + ·) e

end Cert.KernelIdeal.Attn

end
-- ==== Proof.Points.lean ====
/- What each grid point of the attention's backward call leaves, over the blocks of all points. -/
module

public import proofs.«01_k».proof.Proof.Outs

@[expose] public section

set_option maxRecDepth 16384

noncomputable section

namespace Cert.KernelIdeal.Attn

open Idealize.ShloMosaic Idealize.ShloMosaic.TcCoe Cert.KernelIdeal Cert.KernelIdeal.Gen

variable (m : (ℓ : Loc nD τ sig) → Buf (Elt Ideal) ℓ)

/-- The first block of the sequence is met last. -/
def isFirst (t : Fin cfg0.N) : Fin 2 := if t.val = 31 then 1 else 0

theorem bit_eq : ∀ t : Fin cfg0.N, (Scalar.extui (Scalar.cmpi .eq (BitVec.ofNat 32 (grid0.coords t 0).val) 31#32) : BitVec 32) = BitVec.ofNat 32 (isFirst t).val := by
  decide +kernel

/-- The block of grid point `t`. -/
def blk (c : Dev nD) (t : Fin cfg0.N) : Block :=
  mathBlock (isFirst t) (iblk m c 0 t) (iblk m c 1 t) (iblk m c 2 t) (iblk m c 3 t) (iblk m c 4 t) (iblk m c 5 t) (iblk m c 6 t) (iblk m c 7 t)

variable (c : Dev nD) (t : Fin cfg0.N)

theorem point_zero (h0 : t.val % 32 = 0) : t.val = 0 := by
  have : t.val < 32 := t.isLt
  omega

theorem dq_at (h g : Fin 4) (a : Fin 128) (d : Fin 64) :
    (outsAt0 m c t.val t.isLt).1 (ix4 h g a d) = (blk m c t).dq h ⟨128 * g.val + a.val, by omega⟩ d := by
  by_cases h0 : t.val % 32 = 0
  · rw [outsAt0_A m c t h0]
    dsimp only
    exact dq_A (hb := bit_eq t) ..
  · rw [outsAt0_B m c t h0]
    dsimp only
    exact dq_B (hb := bit_eq t) ..

theorem dk_carry_at (h : Fin 4) (a : Fin 128) (d : Fin 64) :
    (outsAt0 m c t.val t.isLt).2.2.2.2.1 (ix3 h a d) = (blk m c t).dk h ⟨a.val, by omega⟩ d := by
  by_cases h0 : t.val % 32 = 0
  · rw [outsAt0_A m c t h0]
    dsimp only
    exact dk_carry_A (hb := bit_eq t) ..
  · rw [outsAt0_B m c t h0]
    dsimp only
    exact dk_carry_B (hb := bit_eq t) ..

theorem dv_carry_at (h : Fin 4) (a : Fin 128) (d : Fin 64) :
    (outsAt0 m c t.val t.isLt).2.2.2.2.2 (ix3 h a d) = (blk m c t).dv h ⟨a.val, by omega⟩ d := by
  by_cases h0 : t.val % 32 = 0
  · rw [outsAt0_A m c t h0]
    dsimp only
    exact dv_carry_A (hb := bit_eq t) ..
  · rw [outsAt0_B m c t h0]
    dsimp only
    exact dv_carry_B (hb := bit_eq t) ..

/-- The point before. -/
abbrev prev (t : Fin cfg0.N) : Fin cfg0.N := ⟨t.val - 1, by omega⟩

theorem dk_first (h0 : t.val % 32 = 0) (h : Fin 4) (a : Fin 128) (d : Fin 64) :
    (outsAt0 m c t.val t.isLt).2.1 (ix3 h a d) = (blk m c t).dk h ⟨128 + a.val, by omega⟩ d := by
  rw [outsAt0_A m c t h0]
  dsimp only
  exact dk_A (hb := bit_eq t) ..

theorem dk_next (h0 : ¬ t.val % 32 = 0) (h : Fin 4) (a : Fin 128) (d : Fin 64) :
    (outsAt0 m c t.val t.isLt).2.1 (ix3 h a d)
      = (blk m c t).dk h ⟨128 + a.val, by omega⟩ d + (blk m c (prev t)).dk h ⟨a.val, by omega⟩ d := by
  rw [outsAt0_B m c t h0, ← dk_carry_at m c (prev t)]
  dsimp only
  exact dk_B (hb := bit_eq t) ..

theorem dv_first (h0 : t.val % 32 = 0) (h : Fin 4) (a : Fin 128) (d : Fin 64) :
    (outsAt0 m c t.val t.isLt).2.2.1 (ix3 h a d) = (blk m c t).dv h ⟨128 + a.val, by omega⟩ d := by
  rw [outsAt0_A m c t h0]
  dsimp only
  exact dv_A (hb := bit_eq t) ..

theorem dv_next (h0 : ¬ t.val % 32 = 0) (h : Fin 4) (a : Fin 128) (d : Fin 64) :
    (outsAt0 m c t.val t.isLt).2.2.1 (ix3 h a d)
      = (blk m c t).dv h ⟨128 + a.val, by omega⟩ d + (blk m c (prev t)).dv h ⟨a.val, by omega⟩ d := by
  rw [outsAt0_B m c t h0, ← dv_carry_at m c (prev t)]
  dsimp only
  exact dv_B (hb := bit_eq t) ..

theorem dsink_first (h0 : t.val % 32 = 0) (h : Fin 4) (r : Fin 512) :
    (outsAt0 m c t.val t.isLt).2.2.2.1 (ix3 h r 0) = 0 + (blk m c t).dsink h r := by
  rw [outsAt0_A m c t h0, zero_add]
  dsimp only
  exact dsink_A (hb := bit_eq t) ..

theorem dsink_next (h0 : ¬ t.val % 32 = 0) (h : Fin 4) (r : Fin 512) :
    (outsAt0 m c t.val t.isLt).2.2.2.1 (ix3 h r 0)
      = (outsAt0 m c (t.val - 1) (prev t).isLt).2.2.2.1 (ix3 h r 0) + (blk m c t).dsink h r := by
  rw [outsAt0_B m c t h0]
  dsimp only
  exact dsink_B (hb := bit_eq t) ..

/-- The last point's block holds the sinks' gradients of all blocks. -/
theorem dsink_last (u : Fin cfg0.N) (hu : u.val + 1 = cfg0.N) (h : Fin 4) (r : Fin 512) :
    (outsAt0 m c u.val u.isLt).2.2.2.1 (ix3 h r 0) = ∑ t : Fin cfg0.N, (blk m c t).dsink h r := by
  rw [Pipeline.eq_sum_fin_of_reset_step_apply_last (fun n h => (outsAt0 m c n h).2.2.2.1) 32 (fun _ => 0)
    (fun t j => (blk m c t).dsink (j 0) (j 1))
    (fun t h0 j => by
      obtain ⟨a, b, rfl⟩ : ∃ a b, j = ix3 a b 0 := ⟨j 0, j 1, by funext k; fin_cases k <;> first | rfl | exact Subsingleton.elim (α := Fin 1) _ _⟩
      exact dsink_first m c t h0 a b)
    (fun t h0 j => by
      obtain ⟨a, b, rfl⟩ : ∃ a b, j = ix3 a b 0 := ⟨j 0, j 1, by funext k; fin_cases k <;> first | rfl | exact Subsingleton.elim (α := Fin 1) _ _⟩
      exact dsink_next m c t h0 a b)
    (by decide) u hu (ix3 h r 0)]
  rw [zero_add]
  rfl

end Cert.KernelIdeal.Attn

end
-- ==== Proof.Whole.lean ====
/- The attention's backward pass over the whole sequence, as mathematics: the blocks that the projected rows, the sinks and
   the gradient of the outputs hold, and the two results from the blocks. -/
module

public import proofs.«01_k».proof.Proof.Spec
public import Idealize.ShloMosaic.Lib.Pointwise

@[expose] public section

noncomputable section

namespace Cert

open Idealize.ShloMosaic

/-- The projected rows: 16 query heads, 4 key heads and 4 value heads of 64 each. -/
abbrev Proj : Type := (⟨2, ![4096, 1536]⟩ : Shape).Idx → EReal
abbrev Sinks : Type := (⟨1, ![16]⟩ : Shape).Idx → EReal
abbrev Grad : Type := (⟨2, ![4096, 1024]⟩ : Shape).Idx → EReal

/-- The slope of the distance bias of a query head, 2 to the power -(head + 1) / 2. -/
def slope (g : Fin 16) : EReal :=
  Ideal.exp (Ideal.ofBits .f32 0x3F317218#32 *
    Ideal.div (Ideal.ofBits .f32 0xC1000000#32 * (1 + FloatOps.sitofp (F := Ideal) .f32 (BitVec.ofNat 32 g.val)))
      (Ideal.ofBits .f32 0x41800000#32))

/-- The query head of row `r` of key head `h`. -/
abbrev headOf (h : Fin 4) (r : Fin 512) : Fin 16 := ⟨4 * h.val + r.val / 128, by omega⟩
/-- The position of query `r % 128` of block `n`. -/
abbrev posOf (n : Fin 32) (r : Fin 512) : Fin 4096 := ⟨128 * n.val + r.val % 128, by omega⟩
/-- The position of key `c` of block `n`'s window; the first block has no block before it and shows its own keys there. -/
abbrev keyPos (n : Fin 32) (c : Fin 256) : Fin 4096 :=
  ⟨if c.val < 128 then 128 * (n.val - 1) + c.val else 128 * n.val + (c.val - 128), by split <;> omega⟩

/-- Block `n`. -/
def block (p : Proj) (s : Sinks) (o : Grad) (n : Fin 32) : Block where
  first := if n.val = 0 then 1 else 0
  q h r d := p (ix2 (posOf n r) ⟨64 * (headOf h r).val + d.val, by omega⟩)
  k h c d := p (ix2 (keyPos n c) ⟨1024 + 64 * h.val + d.val, by omega⟩)
  v h c d := p (ix2 (keyPos n c) ⟨1280 + 64 * h.val + d.val, by omega⟩)
  sink h r := s (ix1 (headOf h r))
  slope h r := slope (headOf h r)
  o h r d := o (ix2 (posOf n r) ⟨64 * (headOf h r).val + d.val, by omega⟩)

variable (p : Proj) (s : Sinks) (o : Grad)

/-- The block after block `n`, if there is one. -/
abbrev next (n : Fin 32) (h : ¬ n.val = 31) : Fin 32 := ⟨n.val + 1, by omega⟩

/-- The gradient of key `a` of block `n`: what comes from the block itself, and what comes from the block after it. -/
def gradK (n : Fin 32) (h : Fin 4) (a : Fin 128) (d : Fin 64) : EReal :=
  (block p s o n).dk h ⟨128 + a.val, by omega⟩ d
    + if hn : n.val = 31 then 0 else (block p s o (next n hn)).dk h ⟨a.val, by omega⟩ d
/-- The gradient of value `a` of block `n`. -/
def gradV (n : Fin 32) (h : Fin 4) (a : Fin 128) (d : Fin 64) : EReal :=
  (block p s o n).dv h ⟨128 + a.val, by omega⟩ d
    + if hn : n.val = 31 then 0 else (block p s o (next n hn)).dv h ⟨a.val, by omega⟩ d
/-- The gradient of the query at position `a` of block `n`, query head `4 h + g`. -/
def gradQ (n : Fin 32) (h g : Fin 4) (a : Fin 128) (d : Fin 64) : EReal :=
  (block p s o n).dq h ⟨128 * g.val + a.val, by omega⟩ d
/-- The gradient of the sink of query head `4 h + g`. -/
def gradSink (h g : Fin 4) : EReal :=
  ∑ a : Fin 128, ∑ n : Fin 32, (block p s o n).dsink h ⟨128 * g.val + a.val, by omega⟩

/-- The gradient of the projected rows. -/
def gradProj (i : Fin 4096) (j : Fin 1536) : EReal :=
  let n : Fin 32 := ⟨i.val / 128, by omega⟩
  let a : Fin 128 := ⟨i.val % 128, by omega⟩
  let d : Fin 64 := ⟨j.val % 64, by omega⟩
  if h0 : j.val < 1024 then gradQ p s o n ⟨j.val / 256, by omega⟩ ⟨j.val / 64 % 4, by omega⟩ a d
  else if h1 : j.val < 1280 then gradK p s o n ⟨(j.val - 1024) / 64, by omega⟩ a d
  else gradV p s o n ⟨(j.val - 1280) / 64, by omega⟩ a d

end Cert

end
-- ==== Proof.Entry.lean ====
/- What the windows of the attention's backward call show at each grid point: the blocks of the arguments. -/
module

public import proofs.«01_k».proof.Proof.Points
public import proofs.«01_k».proof.Proof.Whole
public import Idealize.ShloMosaic.Lib.Claim
public import Idealize.ShloMosaic.Lib.StableHlo.ReadAt

@[expose] public section

set_option maxRecDepth 16384

noncomputable section

namespace Cert.KernelIdeal.Attn

open Idealize.ShloMosaic Idealize.ShloMosaic.TcCoe Cert.KernelIdeal Cert.KernelIdeal.Gen

variable (m : (ℓ : Loc nD τ sig) → Buf (Elt Ideal) ℓ) (c : Dev nD) (t : Fin cfg0.N)

/-- The block that grid point `t` handles: the blocks are met from the last to the first. -/
abbrev nOf (t : Fin cfg0.N) : Fin 32 := ⟨31 - t.val, by omega⟩

theorem idx0 : ∀ t : Fin cfg0.N, win0_0.index t = ![0, 0, 31 - t.val, 0] := by decide +kernel
theorem idx1 : ∀ t : Fin cfg0.N, win0_1.index t = ![0, 31 - t.val - 1, 0] := by decide +kernel
theorem idx2 : ∀ t : Fin cfg0.N, win0_2.index t = ![0, 31 - t.val, 0] := by decide +kernel
theorem idx3 : ∀ t : Fin cfg0.N, win0_3.index t = ![0, 31 - t.val - 1, 0] := by decide +kernel
theorem idx4 : ∀ t : Fin cfg0.N, win0_4.index t = ![0, 31 - t.val, 0] := by decide +kernel
theorem idx5 : ∀ t : Fin cfg0.N, win0_5.index t = ![0, 0, 0] := by decide +kernel
theorem idx6 : ∀ t : Fin cfg0.N, win0_6.index t = ![0, 0, 0] := by decide +kernel
theorem idx7 : ∀ t : Fin cfg0.N, win0_7.index t = ![0, 0, 31 - t.val, 0] := by decide +kernel

abbrev proj : Proj := m (c.tc.loc main_arg0)
abbrev sinks : Sinks := m (c.tc.loc main_arg1)
abbrev grad : Grad := m (c.tc.loc main_arg2)

/-! The arrays before the call. -/
theorem v17 (h g : Fin 4) (i : Fin 4096) (d : Fin 64) : V m c main_v17 (ix4 h g i d) = proj m c (ix2 i ⟨64 * (4 * h.val + g.val) + d.val, by omega⟩) := by
  unfold V V0
  after_reads_at
  exact congrArg (proj m c) (congrArg (ix2 i) (Fin.ext (by dsimp only; omega)))
theorem v20 (h : Fin 4) (i : Fin 4096) (d : Fin 64) : V m c main_v20 (ix3 h i d) = proj m c (ix2 i ⟨1024 + 64 * h.val + d.val, by omega⟩) := by
  unfold V V0
  after_reads_at
  exact congrArg (proj m c) (congrArg (ix2 i) (Fin.ext (by dsimp only; omega)))
theorem v23 (h : Fin 4) (i : Fin 4096) (d : Fin 64) : V m c main_v23 (ix3 h i d) = proj m c (ix2 i ⟨1280 + 64 * h.val + d.val, by omega⟩) := by
  unfold V V0
  after_reads_at
  exact congrArg (proj m c) (congrArg (ix2 i) (Fin.ext (by dsimp only; omega)))
theorem v13 (h : Fin 4) (r : Fin 512) : V m c main_v13 (ix3 h r 0) = slope (headOf h r) := by
  unfold V V0
  after_reads_at
  simp only [slope, mul_comm h.val 4]
theorem v27 (h : Fin 4) (r : Fin 512) : V m c main_v27 (ix3 h r 0) = sinks m c (ix1 (headOf h r)) := by
  unfold V V0
  after_reads_at
  exact congrArg (sinks m c) (congrArg ix1 (Fin.ext (by dsimp only; omega)))
theorem v30 (h g : Fin 4) (i : Fin 4096) (d : Fin 64) : V m c main_v30 (ix4 h g i d) = grad m c (ix2 i ⟨64 * (4 * h.val + g.val) + d.val, by omega⟩) := by
  unfold V V0
  after_reads_at
  exact congrArg (grad m c) (congrArg (ix2 i) (Fin.ext (by dsimp only; omega)))

/-! The windows over the arrays. -/
theorem read0 (h g : Fin 4) (a : Fin 128) (d : Fin 64) : iblk m c 0 t (ix4 h g a d) = V m c main_v17 (ix4 h g ⟨128 * (31 - t.val) + a.val, by omega⟩ d) := by
  blk_ext [iblk, idx0]
theorem read1 (h : Fin 4) (a : Fin 128) (d : Fin 64) : iblk m c 1 t (ix3 h a d) = V m c main_v20 (ix3 h ⟨128 * (31 - t.val - 1) + a.val, by omega⟩ d) := by
  blk_ext [iblk, idx1]
theorem read2 (h : Fin 4) (a : Fin 128) (d : Fin 64) : iblk m c 2 t (ix3 h a d) = V m c main_v20 (ix3 h ⟨128 * (31 - t.val) + a.val, by omega⟩ d) := by
  blk_ext [iblk, idx2]
theorem read3 (h : Fin 4) (a : Fin 128) (d : Fin 64) : iblk m c 3 t (ix3 h a d) = V m c main_v23 (ix3 h ⟨128 * (31 - t.val - 1) + a.val, by omega⟩ d) := by
  blk_ext [iblk, idx3]
theorem read4 (h : Fin 4) (a : Fin 128) (d : Fin 64) : iblk m c 4 t (ix3 h a d) = V m c main_v23 (ix3 h ⟨128 * (31 - t.val) + a.val, by omega⟩ d) := by
  blk_ext [iblk, idx4]
theorem read5 (h : Fin 4) (r : Fin 512) : iblk m c 5 t (ix3 h r 0) = V m c main_v27 (ix3 h r 0) := by
  blk_ext [iblk, idx5]
theorem read6 (h : Fin 4) (r : Fin 512) : iblk m c 6 t (ix3 h r 0) = V m c main_v13 (ix3 h r 0) := by
  blk_ext [iblk, idx6]
theorem read7 (h g : Fin 4) (a : Fin 128) (d : Fin 64) : iblk m c 7 t (ix4 h g a d) = V m c main_v30 (ix4 h g ⟨128 * (31 - t.val) + a.val, by omega⟩ d) := by
  blk_ext [iblk, idx7]

/-- The keys (or values) of a window, from the array they are blocks of. -/
theorem keys_of (A : Fin 4 → Fin 4096 → Fin 64 → EReal) (x y : Vec Ideal S4x128x64 .bf16)
    (hx : ∀ h (a : Fin 128) d, x (ix3 h a d) = A h ⟨128 * (31 - t.val - 1) + a.val, by omega⟩ d)
    (hy : ∀ h (a : Fin 128) d, y (ix3 h a d) = A h ⟨128 * (31 - t.val) + a.val, by omega⟩ d) (h : Fin 4) (k : Fin 256) (d : Fin 64) :
    headKeys x y h (ix2 k d) = A h (keyPos (nOf t) k) d := by
  by_cases hk : k.val < 128
  · have e : headKeys x y h (ix2 k d) = x (ix3 h ⟨k.val, hk⟩ d) := dif_pos hk
    rw [e, hx]
    congr 1
    exact Fin.ext (if_pos hk).symm
  · have e : headKeys x y h (ix2 k d) = y (ix3 h ⟨k.val - 128, by omega⟩ d) := dif_neg hk
    rw [e, hy]
    congr 1
    exact Fin.ext (if_neg hk).symm

/-- A block of mathematics from what the body's blocks hold. -/
theorem block_of (first : Fin 2) (x0 : Vec Ideal S4x4x128x64 .bf16) (x1 x2 x3 x4 : Vec Ideal S4x128x64 .bf16)
    (x5 x6 : Vec Ideal S4x512x1 .f32) (x7 : Vec Ideal S4x4x128x64 .bf16) (p : Proj) (s : Sinks) (o : Grad) (n : Fin 32)
    (hf : first = if n.val = 0 then 1 else 0)
    (hq : ∀ (h : Fin 4) (r : Fin 512) (d : Fin 64), headRows x0 h (ix2 r d) = p (ix2 (posOf n r) ⟨64 * (headOf h r).val + d.val, by omega⟩))
    (hk : ∀ (h : Fin 4) (k : Fin 256) (d : Fin 64), headKeys x1 x2 h (ix2 k d) = p (ix2 (keyPos n k) ⟨1024 + 64 * h.val + d.val, by omega⟩))
    (hv : ∀ (h : Fin 4) (k : Fin 256) (d : Fin 64), headKeys x3 x4 h (ix2 k d) = p (ix2 (keyPos n k) ⟨1280 + 64 * h.val + d.val, by omega⟩))
    (h5 : ∀ (h : Fin 4) (r : Fin 512), x5 (ix3 h r 0) = s (ix1 (headOf h r)))
    (h6 : ∀ (h : Fin 4) (r : Fin 512), x6 (ix3 h r 0) = slope (headOf h r))
    (ho : ∀ (h : Fin 4) (r : Fin 512) (d : Fin 64), headRows x7 h (ix2 r d) = o (ix2 (posOf n r) ⟨64 * (headOf h r).val + d.val, by omega⟩)) :
    mathBlock first x0 x1 x2 x3 x4 x5 x6 x7 = block p s o n := by
  refine Block.mk.injEq .. |>.mpr ⟨hf, ?_, ?_, ?_, ?_, ?_, ?_⟩
  · funext h r d; exact hq h r d
  · funext h k d; exact hk h k d
  · funext h k d; exact hv h k d
  · funext h r; exact h5 h r
  · funext h r; exact h6 h r
  · funext h r d; exact ho h r d

/-- The block of grid point `t` is block `31 - t` of the arguments. -/
theorem blk_eq : blk m c t = block (proj m c) (sinks m c) (grad m c) (nOf t) := by
  have ht : t.val < 32 := t.isLt
  have hf : isFirst t = if (nOf t).val = 0 then 1 else 0 := by
    unfold isFirst
    by_cases h : t.val = 31
    · rw [if_pos h, if_pos (show 31 - t.val = 0 by omega)]
    · rw [if_neg h, if_neg (show ¬ 31 - t.val = 0 by omega)]
  have hq : ∀ (h : Fin 4) (r : Fin 512) (d : Fin 64), headRows (iblk m c 0 t) h (ix2 r d)
      = proj m c (ix2 (posOf (nOf t) r) ⟨64 * (headOf h r).val + d.val, by omega⟩) := fun h r d => by
    rw [headRows_apply, read0, v17]
  have ho : ∀ (h : Fin 4) (r : Fin 512) (d : Fin 64), headRows (iblk m c 7 t) h (ix2 r d)
      = grad m c (ix2 (posOf (nOf t) r) ⟨64 * (headOf h r).val + d.val, by omega⟩) := fun h r d => by
    rw [headRows_apply, read7, v30]
  have hk : ∀ (h : Fin 4) (k : Fin 256) (d : Fin 64), headKeys (iblk m c 1 t) (iblk m c 2 t) h (ix2 k d)
      = proj m c (ix2 (keyPos (nOf t) k) ⟨1024 + 64 * h.val + d.val, by omega⟩) := fun h k d => by
    rw [keys_of t (fun h i d => V m c main_v20 (ix3 h i d)) _ _ (read1 m c t) (read2 m c t), v20]
  have hv : ∀ (h : Fin 4) (k : Fin 256) (d : Fin 64), headKeys (iblk m c 3 t) (iblk m c 4 t) h (ix2 k d)
      = proj m c (ix2 (keyPos (nOf t) k) ⟨1280 + 64 * h.val + d.val, by omega⟩) := fun h k d => by
    rw [keys_of t (fun h i d => V m c main_v23 (ix3 h i d)) _ _ (read3 m c t) (read4 m c t), v23]
  have h5 : ∀ (h : Fin 4) (r : Fin 512), iblk m c 5 t (ix3 h r 0) = sinks m c (ix1 (headOf h r)) := fun h r => by rw [read5, v27]
  have h6 : ∀ (h : Fin 4) (r : Fin 512), iblk m c 6 t (ix3 h r 0) = slope (headOf h r) := fun h r => by rw [read6, v13]
  unfold blk
  exact block_of _ _ _ _ _ _ _ _ _ _ _ _ _ hf hq hk hv h5 h6 ho

end Cert.KernelIdeal.Attn

end
-- ==== Proof.Arrays.lean ====
/- What the arrays of the attention's backward call hold when it ends. -/
module

public import proofs.«01_k».proof.Proof.Entry

@[expose] public section

set_option maxRecDepth 16384

noncomputable section

namespace Cert.KernelIdeal.Attn

open Idealize.ShloMosaic Idealize.ShloMosaic.TcCoe Cert.KernelIdeal Cert.KernelIdeal.Gen

variable (m : (ℓ : Loc nD τ sig) → Buf (Elt Ideal) ℓ) (c : Dev nD) (t : Fin cfg0.N)

theorem idx8 : ∀ t : Fin cfg0.N, win0_8.index t = ![0, 0, 31 - t.val, 0] := by decide +kernel
theorem idx9 : ∀ t : Fin cfg0.N, win0_9.index t = ![0, 31 - t.val, 0] := by decide +kernel
theorem idx10 : ∀ t : Fin cfg0.N, win0_10.index t = ![0, 31 - t.val, 0] := by decide +kernel

/-- The block and the place in it of a position. -/
abbrev blockNo (i : Fin 4096) : Fin 32 := ⟨i.val / 128, by omega⟩
abbrev place (i : Fin 4096) : Fin 128 := ⟨i.val % 128, by omega⟩

theorem dk_point (h : Fin 4) (a : Fin 128) (d : Fin 64) :
    (outsAt0 m c t.val t.isLt).2.1 (ix3 h a d) = gradK (proj m c) (sinks m c) (grad m c) (nOf t) h a d := by
  have ht : t.val < 32 := t.isLt
  unfold gradK
  by_cases h0 : t.val % 32 = 0
  · rw [dk_first m c t h0, blk_eq, dif_pos (show 31 - t.val = 31 by omega), add_zero]
  · rw [dk_next m c t h0, blk_eq, blk_eq, dif_neg (show ¬ 31 - t.val = 31 by omega)]
    rw [show nOf (prev t) = next (nOf t) (show ¬ 31 - t.val = 31 by omega) from Fin.ext (show 31 - (t.val - 1) = 31 - t.val + 1 by omega)]

theorem dv_point (h : Fin 4) (a : Fin 128) (d : Fin 64) :
    (outsAt0 m c t.val t.isLt).2.2.1 (ix3 h a d) = gradV (proj m c) (sinks m c) (grad m c) (nOf t) h a d := by
  have ht : t.val < 32 := t.isLt
  unfold gradV
  by_cases h0 : t.val % 32 = 0
  · rw [dv_first m c t h0, blk_eq, dif_pos (show 31 - t.val = 31 by omega), add_zero]
  · rw [dv_next m c t h0, blk_eq, blk_eq, dif_neg (show ¬ 31 - t.val = 31 by omega)]
    rw [show nOf (prev t) = next (nOf t) (show ¬ 31 - t.val = 31 by omega) from Fin.ext (show 31 - (t.val - 1) = 31 - t.val + 1 by omega)]

theorem emb8 (h g : Fin 4) (a : Fin 128) (d : Fin 64) :
    ((cfg0.win 8).blk t).view.emb (ix4 h g a d) = (ix4 h g (⟨128 * (31 - t.val) + a.val, by have ht : t.val < 32 := t.isLt; omega⟩ : Fin 4096) d : S4x4x4096x64.Idx) := by
  funext k
  fin_cases k
  · apply Fin.ext; blk_simp [idx8 t]; rfl
  · apply Fin.ext; blk_simp [idx8 t]; rfl
  · apply Fin.ext; blk_simp [idx8 t]; rw [mul_comm]; rfl
  · apply Fin.ext; blk_simp [idx8 t]; rfl

theorem arr8 : (dats m 0 c).arrAt 8 (cfgs 0).N
    = fun j : S4x4x4096x64.Idx => gradQ (proj m c) (sinks m c) (grad m c) (blockNo (j 2)) (j 0) (j 1) (place (j 2)) (j 3) := by
  refine (dats m 0 c).arrAt_eq_of_covers 8 _ (by decide +kernel) fun t hf y => ?_
  have ht : t.val < 32 := t.isLt
  obtain ⟨h, g, a, d, rfl⟩ : ∃ (h g : Fin 4) (a : Fin 128) (d : Fin 64), y = ix4 h g a d := ⟨y 0, y 1, y 2, y 3, by funext k; fin_cases k <;> rfl⟩
  blk_simp
  rw [after0_8, emb8]
  refine (dq_at m c t h g a d).trans ?_
  rw [blk_eq]
  show gradQ _ _ _ _ _ _ _ _ = gradQ _ _ _ _ _ _ _ _
  have e1 : nOf t = blockNo ⟨128 * (31 - t.val) + a.val, by omega⟩ := Fin.ext (by show 31 - t.val = (128 * (31 - t.val) + a.val) / 128; omega)
  have e2 : a = place ⟨128 * (31 - t.val) + a.val, by omega⟩ := Fin.ext (by show a.val = (128 * (31 - t.val) + a.val) % 128; omega)
  exact congrArg₂ (fun n a => gradQ _ _ _ n h g a d) e1 e2

theorem emb9 (h : Fin 4) (a : Fin 128) (d : Fin 64) :
    ((cfg0.win 9).blk t).view.emb (ix3 h a d) = (ix3 h (⟨128 * (31 - t.val) + a.val, by have ht : t.val < 32 := t.isLt; omega⟩ : Fin 4096) d : S4x4096x64.Idx) := by
  funext k
  fin_cases k
  · apply Fin.ext; blk_simp [idx9 t]; rfl
  · apply Fin.ext; blk_simp [idx9 t]; rw [mul_comm]; rfl
  · apply Fin.ext; blk_simp [idx9 t]; rfl

theorem arr9 : (dats m 0 c).arrAt 9 (cfgs 0).N
    = fun j : S4x4096x64.Idx => gradK (proj m c) (sinks m c) (grad m c) (blockNo (j 1)) (j 0) (place (j 1)) (j 2) := by
  refine (dats m 0 c).arrAt_eq_of_covers 9 _ (by decide +kernel) fun t hf y => ?_
  have ht : t.val < 32 := t.isLt
  obtain ⟨h, a, d, rfl⟩ : ∃ (h : Fin 4) (a : Fin 128) (d : Fin 64), y = ix3 h a d := ⟨y 0, y 1, y 2, by funext k; fin_cases k <;> rfl⟩
  blk_simp
  rw [after0_9, emb9]
  refine (dk_point m c t h a d).trans ?_
  show gradK _ _ _ _ _ _ _ = gradK _ _ _ _ _ _ _
  have e1 : nOf t = blockNo ⟨128 * (31 - t.val) + a.val, by omega⟩ := Fin.ext (by show 31 - t.val = (128 * (31 - t.val) + a.val) / 128; omega)
  have e2 : a = place ⟨128 * (31 - t.val) + a.val, by omega⟩ := Fin.ext (by show a.val = (128 * (31 - t.val) + a.val) % 128; omega)
  exact congrArg₂ (fun n a => gradK _ _ _ n h a d) e1 e2

theorem emb10 (h : Fin 4) (a : Fin 128) (d : Fin 64) :
    ((cfg0.win 10).blk t).view.emb (ix3 h a d) = (ix3 h (⟨128 * (31 - t.val) + a.val, by have ht : t.val < 32 := t.isLt; omega⟩ : Fin 4096) d : S4x4096x64.Idx) := by
  funext k
  fin_cases k
  · apply Fin.ext; blk_simp [idx10 t]; rfl
  · apply Fin.ext; blk_simp [idx10 t]; rw [mul_comm]; rfl
  · apply Fin.ext; blk_simp [idx10 t]; rfl

theorem arr10 : (dats m 0 c).arrAt 10 (cfgs 0).N
    = fun j : S4x4096x64.Idx => gradV (proj m c) (sinks m c) (grad m c) (blockNo (j 1)) (j 0) (place (j 1)) (j 2) := by
  refine (dats m 0 c).arrAt_eq_of_covers 10 _ (by decide +kernel) fun t hf y => ?_
  have ht : t.val < 32 := t.isLt
  obtain ⟨h, a, d, rfl⟩ : ∃ (h : Fin 4) (a : Fin 128) (d : Fin 64), y = ix3 h a d := ⟨y 0, y 1, y 2, by funext k; fin_cases k <;> rfl⟩
  blk_simp
  rw [after0_10, emb10]
  refine (dv_point m c t h a d).trans ?_
  show gradV _ _ _ _ _ _ _ = gradV _ _ _ _ _ _ _
  have e1 : nOf t = blockNo ⟨128 * (31 - t.val) + a.val, by omega⟩ := Fin.ext (by show 31 - t.val = (128 * (31 - t.val) + a.val) / 128; omega)
  have e2 : a = place ⟨128 * (31 - t.val) + a.val, by omega⟩ := Fin.ext (by show a.val = (128 * (31 - t.val) + a.val) % 128; omega)
  exact congrArg₂ (fun n a => gradV _ _ _ n h a d) e1 e2

/-- The last grid point: the first block of the sequence. -/
def tLast : Fin cfg0.N := ⟨31, by decide⟩

/-- The grid meets the blocks from the last to the first. -/
theorem sum_blocks (f : Fin 32 → EReal) : ∑ t : Fin cfg0.N, f (nOf t) = ∑ n : Fin 32, f n := by
  refine Finset.sum_bij' (fun (t : Fin cfg0.N) _ => nOf t) (fun (n : Fin 32) _ => (⟨31 - n.val, by show _ < 32; omega⟩ : Fin cfg0.N)) (fun _ _ => Finset.mem_univ _) (fun _ _ => Finset.mem_univ _) ?_ ?_ (fun _ _ => rfl)
  · intro t _
    have ht : t.val < 32 := t.isLt
    exact Fin.ext (show 31 - (31 - t.val) = t.val by omega)
  · intro n _
    exact Fin.ext (show 31 - (31 - n.val) = n.val by omega)

theorem dsink_point (u : Fin cfg0.N) (hu : u.val + 1 = cfg0.N) (j : S4x512x1.Idx) :
    (outsAt0 m c u.val u.isLt).2.2.2.1 j = ∑ n : Fin 32, (block (proj m c) (sinks m c) (grad m c) n).dsink (j 0) (j 1) := by
  obtain ⟨h, r, rfl⟩ : ∃ (h : Fin 4) (r : Fin 512), j = ix3 h r 0 := ⟨j 0, j 1, by
    funext k
    fin_cases k
    · rfl
    · rfl
    · exact Fin.ext (by have := (j 2).isLt; show (j 2).val = 0; have h1 : (j 2).val < 1 := this; omega)⟩
  refine (dsink_last m c u hu h r).trans ?_
  rw [← sum_blocks]
  exact Finset.sum_congr rfl fun t _ => by rw [blk_eq]; rfl

theorem arr11 : (dats m 0 c).arrAt 11 (cfgs 0).N
    = fun j : S4x512x1.Idx => ∑ n : Fin 32, (block (proj m c) (sinks m c) (grad m c) n).dsink (j 0) (j 1) := by
  refine (dats m 0 c).arrAt_eq_of_after_last 11 tLast (by decide +kernel) _ fun j => ?_
  blk_simp
  rw [after0_11]
  exact dsink_point m c tLast rfl j

end Cert.KernelIdeal.Attn

end
-- ==== Proof.Tail.lean ====
/- What the arrays that the attention's backward call hands on hold, once its outputs are laid side by side. -/
module

public import proofs.«01_k».proof.Proof.Arrays
public import Idealize.ShloMosaic.Lib.StableHlo.ReadAt
public import Idealize.ShloMosaic.Lib.Claim

@[expose] public section

set_option maxRecDepth 16384

noncomputable section

namespace Cert.KernelIdeal.Attn

open Idealize.ShloMosaic Idealize.ShloMosaic.TcCoe Cert.KernelIdeal Cert.KernelIdeal.Gen

variable (m : (ℓ : Loc nD τ sig) → Buf (Elt Ideal) ℓ) (c : Dev nD)

/-- Memory's arrays of the four gradients, by their indices. -/
abbrev dqOf (W : Valuation τ sig (Elt Ideal)) : S4x4x4096x64.Idx → EReal := W (Proc.devRef .tc main_v31_0)
abbrev dkOf (W : Valuation τ sig (Elt Ideal)) : S4x4096x64.Idx → EReal := W (Proc.devRef .tc main_v31_1)
abbrev dvOf (W : Valuation τ sig (Elt Ideal)) : S4x4096x64.Idx → EReal := W (Proc.devRef .tc main_v31_2)
abbrev dsinkOf (W : Valuation τ sig (Elt Ideal)) : S4x512x1.Idx → EReal := W (Proc.devRef .tc main_v31_3)

/-- The three gradients of the projected rows are laid side by side, head after head. -/
theorem tail39 (W : Valuation τ sig (Elt Ideal)) (i : Fin 4096) (j : Fin 1536) :
    (StableHlo.after hostOps1 W (Proc.devRef .tc main_v39) : Proj) (ix2 i j)
      = if h0 : j.val < 1024 then dqOf W (ix4 ⟨j.val / 256, by omega⟩ ⟨j.val / 64 % 4, by omega⟩ i ⟨j.val % 64, by omega⟩)
        else if h1 : j.val < 1280 then dkOf W (ix3 ⟨(j.val - 1024) / 64, by omega⟩ i ⟨j.val % 64, by omega⟩)
        else dvOf W (ix3 ⟨(j.val - 1280) / 64, by omega⟩ i ⟨j.val % 64, by omega⟩) := by
  after_reads_at
  split
  · after_reads_at
    exact congrArg (fun x : Fin 4 => dqOf W (ix4 x ⟨j.val / 64 % 4, by omega⟩ i ⟨j.val % 64, by omega⟩)) (Fin.ext (show j.val / 64 / 4 = j.val / 256 by omega))
  · split
    · after_reads_at
      rw [dif_pos (show j.val < 1280 by omega)]
      exact congrArg (fun x : Fin 64 => dkOf W (ix3 ⟨(j.val - 1024) / 64, by omega⟩ i x)) (Fin.ext (show (j.val - 1024) % 64 = j.val % 64 by omega))
    · after_reads_at
      rw [dif_neg (show ¬ j.val < 1280 by omega)]
      exact congrArg₂ (fun (x : Fin 4) (y : Fin 64) => dvOf W (ix3 x i y)) (Fin.ext (show (j.val - 1024 - 256) / 64 = (j.val - 1280) / 64 by omega)) (Fin.ext (show (j.val - 1024 - 256) % 64 = j.val % 64 by omega))

/-- The sinks' gradients are summed over the rows of each head. -/
theorem tail42 (W : Valuation τ sig (Elt Ideal)) (g : Fin 16) :
    (StableHlo.after hostOps1 W (Proc.devRef .tc main_v42) : Sinks) (ix1 g)
      = ∑ a : Fin 128, dsinkOf W (ix3 ⟨g.val / 4, by omega⟩ ⟨128 * (g.val % 4) + a.val, by omega⟩ 0) := by
  after_reads_at
  exact Finset.sum_congr rfl fun a _ => congrArg (fun x : Fin 512 => dsinkOf W (ix3 ⟨g.val / 4, by omega⟩ x 0)) (Fin.ext (show g.val % 4 * 128 + a.val = 128 * (g.val % 4) + a.val by omega))

/-- Memory as the call leaves it. -/
def left : Valuation τ sig (Elt Ideal) :=
  Pipeline.withArrays (cfgs 0).spec c (V0 m c) fun w => (dats m 0 c).arrAt w (cfgs 0).N

theorem left_arr (w : Fin (cfgs 0).W) : left m c (Proc.devRef .tc (Pipeline.arrRef (cfgs 0).spec w)) = (dats m 0 c).arrAt w (cfgs 0).N :=
  (dats m 0 c).withArrays_arrAt sharedIn0 (V0 m c) (A_eq m c) w

theorem left_dq : dqOf (left m c) = fun j => gradQ (proj m c) (sinks m c) (grad m c) (blockNo (j 2)) (j 0) (j 1) (place (j 2)) (j 3) :=
  (left_arr m c 8).trans (arr8 m c)
theorem left_dk : dkOf (left m c) = fun j => gradK (proj m c) (sinks m c) (grad m c) (blockNo (j 1)) (j 0) (place (j 1)) (j 2) :=
  (left_arr m c 9).trans (arr9 m c)
theorem left_dv : dvOf (left m c) = fun j => gradV (proj m c) (sinks m c) (grad m c) (blockNo (j 1)) (j 0) (place (j 1)) (j 2) :=
  (left_arr m c 10).trans (arr10 m c)
theorem left_dsink : dsinkOf (left m c) = fun j => ∑ n : Fin 32, (block (proj m c) (sinks m c) (grad m c) n).dsink (j 0) (j 1) :=
  (left_arr m c 11).trans (arr11 m c)

/-- The gradient of the projected rows that the program hands on. -/
theorem out39 (i : Fin 4096) (j : Fin 1536) :
    (Pipeline.afterTail₀ cfgs (dats m) 0 (V0 m) [hostOps1] c main_v39 : Proj) (ix2 i j) = gradProj (proj m c) (sinks m c) (grad m c) i j := by
  refine (tail39 (left m c) i j).trans ?_
  rw [left_dq, left_dk, left_dv]
  rfl

/-- The gradient of the sinks that the program hands on. -/
theorem out42 (g : Fin 16) :
    (Pipeline.afterTail₀ cfgs (dats m) 0 (V0 m) [hostOps1] c main_v42 : Sinks) (ix1 g) = gradSink (proj m c) (sinks m c) (grad m c) ⟨g.val / 4, by omega⟩ ⟨g.val % 4, by omega⟩ := by
  refine (tail42 (left m c) g).trans ?_
  rw [left_dsink]
  rfl

end Cert.KernelIdeal.Attn

end
-- ==== Proof.RefKeys.lean ====
/- The reference's queries, windows of keys and values, and masked scores, read at an index. -/
module

public import proofs.«01_k».proof.Proof.Whole
public import proofs.«01_k».proof.Proof.Near
public import proofs.«01_k».proof.Proof.Gen.ReferenceIdeal.Read

@[expose] public section

set_option maxRecDepth 16384

noncomputable section

namespace Cert.ReferenceIdeal.Attn

open Idealize.ShloMosaic Idealize.ShloMosaic.TcCoe Cert.ReferenceIdeal Cert.ReferenceIdeal.Read

variable (x0 : Proj) (x1 : Sinks) (x2 : Grad) (n : Fin 32) (h g : Fin 4) (a : Fin 128) (c : Fin 256) (d : Fin 64)

/-- The queries. -/
theorem q4 : val_main_v4 (F := Ideal) x0 (ix5 n a h g d) = x0 (ix2 ⟨128 * n.val + a.val, by omega⟩ ⟨64 * (4 * h.val + g.val) + d.val, by omega⟩) := by
  pointwise [val_main_v4, val_main_v1, val_main_v0]
  exact congrArg₂ (fun (i : Fin 4096) (j : Fin 1536) => x0 (ix2 i j)) (Fin.ext (by dsimp only; omega)) (Fin.ext (by dsimp only; omega))

theorem k8 (i : Fin 4224) : val_main_v8 (F := Ideal) x0 (ix3 i h d) = if hi : 128 ≤ i.val then x0 (ix2 ⟨i.val - 128, by omega⟩ ⟨1024 + 64 * h.val + d.val, by omega⟩) else 0 := by
  pointwise [val_main_v8, val_main_v7, val_main_cst, val_main_v5, val_main_v2, val_main_v0]
  by_cases hi : i.val < 128
  · rw [dif_pos hi, dif_neg (by omega)]
  · rw [dif_neg hi, dif_pos (by omega)]
    exact congrArg (fun (j : Fin 1536) => x0 (ix2 ⟨i.val - 128, by omega⟩ j)) (Fin.ext (by dsimp only; omega))

theorem v11 (i : Fin 4224) : val_main_v11 (F := Ideal) x0 (ix3 i h d) = if hi : 128 ≤ i.val then x0 (ix2 ⟨i.val - 128, by omega⟩ ⟨1280 + 64 * h.val + d.val, by omega⟩) else 0 := by
  pointwise [val_main_v11, val_main_v7, val_main_cst, val_main_v6, val_main_v3, val_main_v0]
  by_cases hi : i.val < 128
  · rw [dif_pos hi, dif_neg (by omega)]
  · rw [dif_neg hi, dif_pos (by omega)]
    exact congrArg (fun (j : Fin 1536) => x0 (ix2 ⟨i.val - 128, by omega⟩ j)) (Fin.ext (by dsimp only; omega))

theorem k16 : val_main_v16 (F := Ideal) x0 (ix4 n c h d) = val_main_v8 (F := Ideal) x0 (ix3 ⟨128 * n.val + c.val, by omega⟩ h d) := by
  pointwise [val_main_v16, val_main_v15, val_main_v14, val_main_v10]
  split
  · exact congrArg (fun (i : Fin 4224) => val_main_v8 (F := Ideal) x0 (ix3 i h d)) (Fin.ext (by dsimp only; omega))
  · exact congrArg (fun (i : Fin 4224) => val_main_v8 (F := Ideal) x0 (ix3 i h d)) (Fin.ext (by dsimp only; omega))

theorem v19 : val_main_v19 (F := Ideal) x0 (ix4 n c h d) = val_main_v11 (F := Ideal) x0 (ix3 ⟨128 * n.val + c.val, by omega⟩ h d) := by
  pointwise [val_main_v19, val_main_v18, val_main_v17, val_main_v13]
  split
  · exact congrArg (fun (i : Fin 4224) => val_main_v11 (F := Ideal) x0 (ix3 i h d)) (Fin.ext (by dsimp only; omega))
  · exact congrArg (fun (i : Fin 4224) => val_main_v11 (F := Ideal) x0 (ix3 i h d)) (Fin.ext (by dsimp only; omega))

theorem mask53 : val_main_v53 (F := Ideal) (ix3 n a c) = if near a c ∧ (n.val = 0 → 128 ≤ c.val) then 1#1 else 0#1 := by
  pointwise [val_main_v53, val_main_v52, val_main_v51, val_main_v50, val_main_v49, val_main_c_7, val_main_v48, val_main_v47, val_main_v46, val_main_v45, val_main_v44, val_main_v43, val_main_v42, val_main_v41, val_main_c_6, val_main_v40, val_main_v39, val_main_c_5, val_main_v38, val_main_v37, val_main_v36, val_main_v35, val_main_c_4, val_main_v34, val_main_v33, val_main_c_3, val_main_v32, val_main_v31, val_main_v30, val_main_v29, val_main_v28, val_main_c, val_main_v27, val_main_v26, val_main_v25, val_main_v24]
  have key : ∀ (n : Fin 32) (c : Fin 256), IntOp.cmpi .sge (IntOp.addi (IntOp.subi (IntOp.muli (BitVec.ofNat 32 n.val) 128#32) 128#32) (BitVec.ofNat 32 c.val)) 0#32
      = BitVec.ofBool (decide (n.val = 0 → 128 ≤ c.val)) := by decide +kernel
  have both : ∀ p q : Bool, IntOp.andi (BitVec.ofBool p) (BitVec.ofBool q) = BitVec.ofBool (p && q) := by decide
  have bit : ∀ p : Prop, [Decidable p] → BitVec.ofBool (decide p) = if p then 1#1 else 0#1 := fun p _ => by by_cases hp : p <;> simp [hp]
  rw [key, near_word a c, both, ← Bool.decide_and, bit]

theorem slope63 (i : Fin 16) : val_main_v63 (F := Ideal) (ix1 i) = slope i := by
  pointwise [val_main_v63, val_main_v62, val_main_v61, val_main_v60, val_main_v59, val_main_v58, val_main_v57, val_main_v56, val_main_v55, val_main_v54, val_main_cst_8, val_main_cst_9, val_main_cst_10, val_main_cst_11]
  rfl

theorem bias74 : val_main_v74 (F := Ideal) (ix5 n h g a c) = -(slope ⟨4 * h.val + g.val, by omega⟩) * dist a c := by
  pointwise [val_main_v74, val_main_v73, val_main_v71, val_main_v70, val_main_v69, val_main_v68, val_main_v67, val_main_v66, val_main_v65, val_main_v64, val_main_v32, val_main_v31, val_main_v30, val_main_v29, val_main_v28, val_main_c, val_main_v27, val_main_v26, val_main_v25, val_main_v24]
  rw [slope63]
  exact congrArg (fun i : Fin 16 => -slope i * dist a c) (Fin.ext (by dsimp only; omega))

theorem score23 : val_main_v23 (F := Ideal) x0 (ix5 n h g a c) = (∑ d, val_main_v16 (F := Ideal) x0 (ix4 n c h d) * val_main_v4 (F := Ideal) x0 (ix5 n a h g d)) * Block.scale := by
  pointwise [val_main_v23, val_main_v22, val_main_v21, val_main_v20, val_main_cst_2]

theorem masked76 : val_main_v76_0 (F := Ideal) x0 (ix5 n h g a c) = if near a c ∧ (n.val = 0 → 128 ≤ c.val) then val_main_v23 (F := Ideal) x0 (ix5 n h g a c) + val_main_v74 (F := Ideal) (ix5 n h g a c) else ⊥ := by
  pointwise [val_main_v76_0, val_main_v75, val_main_v76_1, val_main_v72, mask53, val_main_call0_v2, val_main_call0_v0, val_main_cst_12]
  by_cases hl : near a c ∧ (n.val = 0 → 128 ≤ c.val)
  · rw [if_pos hl, if_pos hl]; rfl
  · rw [if_neg hl, if_neg hl]
    exact (show Ideal.ofBits .f32 0xFF800000#32 = (⊥ : EReal) by simp [Ideal.ofBits, Ideal.ieee])

/-- Query `a` of query head `4 h + g`, as a row of key head `h`. -/
abbrev row (g : Fin 4) (a : Fin 128) : Fin 512 := ⟨128 * g.val + a.val, by omega⟩

theorem row_head : headOf h (row g a) = ⟨4 * h.val + g.val, by omega⟩ := Fin.ext (by dsimp only; omega)
theorem row_pos : posOf n (row g a) = ⟨128 * n.val + a.val, by omega⟩ := Fin.ext (by dsimp only; omega)
theorem row_place : (⟨(row g a).val % 128, by omega⟩ : Fin 128) = a := Fin.ext (by dsimp only; omega)

variable (p : Proj) (s : Sinks) (o : Grad)

theorem live_iff : (block p s o n).live (row g a) c ↔ near a c ∧ (n.val = 0 → 128 ≤ c.val) := by
  unfold Block.live
  rw [row_place]
  refine and_congr_right fun _ => ?_
  by_cases hn : n.val = 0
  · simp [block, hn]
  · simp [block, hn]

/-- A key that some query of the block sees is where the block has it. -/
theorem key_live (hl : n.val = 0 → 128 ≤ c.val) : val_main_v16 (F := Ideal) p (ix4 n c h d) = (block p s o n).k h c d := by
  rw [k16, k8, dif_pos (show 128 ≤ 128 * n.val + c.val by omega)]
  exact congrArg₂ (fun (i : Fin 4096) (j : Fin 1536) => p (ix2 i j)) (Fin.ext (by dsimp only; split <;> omega)) (Fin.ext rfl)
theorem value_live (hl : n.val = 0 → 128 ≤ c.val) : val_main_v19 (F := Ideal) p (ix4 n c h d) = (block p s o n).v h c d := by
  rw [v19, v11, dif_pos (show 128 ≤ 128 * n.val + c.val by omega)]
  exact congrArg₂ (fun (i : Fin 4096) (j : Fin 1536) => p (ix2 i j)) (Fin.ext (by dsimp only; split <;> omega)) (Fin.ext rfl)

theorem query_eq : val_main_v4 (F := Ideal) p (ix5 n a h g d) = (block p s o n).q h (row g a) d := by
  rw [q4]
  exact congrArg₂ (fun (i : Fin 4096) (j : Fin 1536) => p (ix2 i j)) (row_pos n g a).symm (Fin.ext (by dsimp only; omega))

/-- The masked scores. -/
theorem score76 : val_main_v76_0 (F := Ideal) p (ix5 n h g a c) = (block p s o n).score h (row g a) c := by
  rw [masked76]
  unfold Block.score
  by_cases hl : near a c ∧ (n.val = 0 → 128 ≤ c.val)
  · rw [if_pos hl, if_pos ((live_iff n g a c p s o).2 hl), score23, bias74, row_place, sub_eq_add_neg, EReal.neg_mul]
    refine congrArg₂ (· + ·) (congrArg (· * Block.scale) (Finset.sum_congr rfl fun d _ => ?_)) ?_
    · rw [key_live n h c d p s o hl.2, query_eq n h g a d p s o, mul_comm]
    · exact congrArg (fun i => -(slope i * dist a c)) (row_head h g a).symm
  · rw [if_neg hl, if_neg (fun x => hl ((live_iff n g a c p s o).1 x))]

end Cert.ReferenceIdeal.Attn

end
-- ==== Proof.RefRow.lean ====
/- The reference's softmax of 256 scores and a sink, and its gradients, row by row. -/
module

public import proofs.«01_k».proof.Proof.RefKeys

@[expose] public section

set_option maxRecDepth 16384

noncomputable section

namespace Cert.ReferenceIdeal.Attn

open Idealize.ShloMosaic Idealize.ShloMosaic.TcCoe Cert.ReferenceIdeal Cert.ReferenceIdeal.Read

variable (p : Proj) (s : Sinks) (o : Grad) (n : Fin 32) (h g : Fin 4) (a : Fin 128) (c : Fin 256) (x : Fin 257) (d : Fin 64)

abbrev Z : Fin 256 → EReal := (block p s o n).score h (row g a)
abbrev sink : EReal := (block p s o n).sink h (row g a)
/-- The gradients of the probabilities as the reference has them: before the first block its values are zeros. -/
def dp : EReal := ∑ d, (block p s o n).o h (row g a) d * val_main_v19 (F := Ideal) p (ix4 n c h d)

theorem r79 : val_main_v79 (F := Ideal) p s (ix5 n h g a x) = Row.ext (Z p s o n h g a) (sink p s o n h g a) x := by
  pointwise [val_main_v79, val_main_v78, val_main_v77]
  unfold Row.ext
  split
  · rw [score76 n h g a _ p s o]
  · exact congrArg (fun i => s (ix1 i)) (Fin.ext (by dsimp only; omega))

/-- The maximum over the last of five axes, at an index. -/
theorem rowMax (y : FVec Ideal S32x4x4x128x257 .f32) (init : FVec Ideal S_ .f32) (h0 : 0 < S_.numel) :
    Host.reduce FloatOps.maximumf y init Cert.ReferenceIdeal.Gen.reducesTo_S32x4x4x128x257_S32x4x4x128_d4 h0 (ix4 n h g a)
      = Finset.univ.fold max (init (Shape.Idx.first h0)) (fun x : Fin 257 => y (ix5 n h g a x)) := by
  rw [Host.reduce_eq_fold_single (FloatOps.maximumf (F := Ideal)) y init _ (by decide) h0]
  refine congrArg (fun f => Finset.univ.fold max (init (Shape.Idx.first h0)) f) (funext fun x => ?_)
  exact congrArg y (funext fun k => Fin.ext (by match k with | ⟨0, _⟩ => rfl | ⟨1, _⟩ => rfl | ⟨2, _⟩ => rfl | ⟨3, _⟩ => rfl | ⟨4, _⟩ => rfl))

theorem neg_inf : Ideal.ofBits .f32 0xFF800000#32 = (⊥ : EReal) := by simp [Ideal.ofBits, Ideal.ieee]

theorem r80 : val_main_v80 (F := Ideal) p s (ix4 n h g a) = Row.top (Z p s o n h g a) (sink p s o n h g a) := by
  unfold val_main_v80
  rw [rowMax, ← Row.fold_ext]
  simp only [r79 p s o]
  exact congrArg (fun b => Finset.univ.fold max b (Row.ext (Z p s o n h g a) (sink p s o n h g a))) neg_inf

theorem r87 : val_main_v87 (F := Ideal) p s (ix4 n h g a) = Row.top (Z p s o n h g a) (sink p s o n h g a) := by
  rw [val_main_v87_apply, r80 p s o, val_main_v86_apply, val_main_cst_15_apply]
  generalize Row.top (Z p s o n h g a) (sink p s o n h g a) = T
  exact (congrArg (fun b => max b T) neg_inf).trans (max_eq_right bot_le)

theorem r100 : val_main_v100 (F := Ideal) p s (ix5 n h g a x) = Row.ext (Row.ex (Z p s o n h g a) (sink p s o n h g a)) (Row.exSink (Z p s o n h g a) (sink p s o n h g a)) x := by
  pointwise [val_main_v100, val_main_v99, val_main_v98, val_main_v97, r79 p s o, r87 p s o]
  exact Row.ex_ext _ _ _

theorem r101 : val_main_v101 (F := Ideal) p s (ix4 n h g a) = Row.den (Z p s o n h g a) (sink p s o n h g a) := by
  pointwise [val_main_v101, val_main_cst_21, r100 p s o]
  exact Row.sum_ext _ _

theorem r108 : val_main_v108 (F := Ideal) p s (ix5 n h g a c) = Ideal.div (Row.ex (Z p s o n h g a) (sink p s o n h g a) c) (Row.den (Z p s o n h g a) (sink p s o n h g a)) := by
  pointwise [val_main_v108, val_main_v104, val_main_v103, val_main_v102, r101 p s o, r100 p s o]
  exact congrArg (fun e => Ideal.div e _) (Row.ext_castSucc _ _ c)

theorem r114 : val_main_v114 (F := Ideal) o (ix5 n h d g a) = (block p s o n).o h (row g a) d := by
  pointwise [val_main_v114, val_main_v113, val_main_v112]
  exact congrArg₂ (fun (i : Fin 4096) (j : Fin 1024) => o (ix2 i j)) (Fin.ext (by dsimp only; omega)) (Fin.ext (by dsimp only; omega))

theorem r115 : val_main_v115 (F := Ideal) p o (ix5 n h g a c) = dp p s o n h g a c := by
  pointwise [val_main_v115]
  exact Finset.sum_congr rfl fun d _ => by rw [r114 p s o]

theorem r118 : val_main_v118 (F := Ideal) p o (ix5 n h g a x) = Row.ext (dp p s o n h g a) 0 x := by
  pointwise [val_main_v118, val_main_cst_23]
  unfold Row.ext
  split
  · rw [r115 p s o]
  · rfl

theorem r130 : val_main_v130 (F := Ideal) p s o (ix5 n h g a x)
    = (Ideal.div (Row.ext (dp p s o n h g a) 0 x) (Row.den (Z p s o n h g a) (sink p s o n h g a))
        + -(∑ x, Row.ext (dp p s o n h g a) 0 x * Ideal.div 1 (Row.den (Z p s o n h g a) (sink p s o n h g a) * Row.den (Z p s o n h g a) (sink p s o n h g a))
          * Row.ext (Row.ex (Z p s o n h g a) (sink p s o n h g a)) (Row.exSink (Z p s o n h g a) (sink p s o n h g a)) x))
      * Row.ext (Row.ex (Z p s o n h g a) (sink p s o n h g a)) (Row.exSink (Z p s o n h g a) (sink p s o n h g a)) x := by
  pointwise [val_main_v130, val_main_v129, val_main_v128, val_main_v127, val_main_v126, val_main_v125, val_main_v124, val_main_v123, val_main_v122, val_main_v121, val_main_v120, val_main_v119, val_main_v107, val_main_v106, val_main_v105, val_main_v102, val_main_cst_22, val_main_cst_24, val_main_cst_25]
  simp only [Fin.sum_univ_one, r118 p s o, r101 p s o, r100 p s o]

end Cert.ReferenceIdeal.Attn

end
-- ==== Proof.SumBlocks.lean ====
/- The sum behind a sink's gradient: over the blocks and the queries of one pair of heads. -/
module

public import proofs.«01_k».proof.Proof.RefRow

@[expose] public section

set_option maxRecDepth 16384

noncomputable section

namespace Cert.ReferenceIdeal.Attn

open Idealize.ShloMosaic Idealize.ShloMosaic.TcCoe Cert.ReferenceIdeal

/-- A sum over the blocks, the queries and a last axis of one, at a key head and a query head. -/
theorem sumBlocks {N A : Nat} (hr : (⟨5, ![N, 4, 4, A, 1]⟩ : Shape).ReducesTo [0, 3, 4] (⟨2, ![4, 4]⟩ : Shape))
    (y : (⟨5, ![N, 4, 4, A, 1]⟩ : Shape).Idx → EReal) (h g : Fin 4) :
    Ideal.hostReduceAdd hr y 0 (ix2 h g) = ∑ a : Fin A, ∑ n : Fin N, y (ix5 n h g a 0) := by
  unfold Ideal.hostReduceAdd
  rw [zero_add, ← Finset.sum_product' (s := Finset.univ) (t := Finset.univ) (f := fun (a : Fin A) (n : Fin N) => y (ix5 n h g a 0))]
  symm
  refine Finset.sum_bij (fun (q : Fin A × Fin N) _ => (ix5 q.2 h g q.1 0 : (⟨5, ![N, 4, 4, A, 1]⟩ : Shape).Idx)) ?_ ?_ ?_ (fun _ _ => rfl)
  · intro q _
    refine Finset.mem_filter.2 ⟨Finset.mem_univ _, funext fun b => Fin.ext ?_⟩
    match b with
    | ⟨0, _⟩ => rfl
    | ⟨1, _⟩ => rfl
  · intro q _ q' _ e
    exact Prod.ext (congrFun e 3) (congrFun e 0)
  · intro i hi
    have e := (Finset.mem_filter.1 hi).2
    have e0 : i 1 = h := Fin.ext (congrArg Fin.val (congrFun e 0) :)
    have e1 : i 2 = g := Fin.ext (congrArg Fin.val (congrFun e 1) :)
    refine ⟨(i 3, i 0), Finset.mem_univ _, funext fun b => ?_⟩
    match b with
    | ⟨0, _⟩ => rfl
    | ⟨1, _⟩ => exact e0.symm
    | ⟨2, _⟩ => exact e1.symm
    | ⟨3, _⟩ => rfl
    | ⟨4, _⟩ => exact Subsingleton.elim (α := Fin 1) _ _

end Cert.ReferenceIdeal.Attn

end
-- ==== Proof.RefGrad.lean ====
/- The reference's gradients of the scores, and of the queries, keys, values and sinks, block by block. -/
module

public import proofs.«01_k».proof.Proof.RefRow
public import proofs.«01_k».proof.Proof.SumBlocks

@[expose] public section

set_option maxRecDepth 16384

noncomputable section

namespace Cert.ReferenceIdeal.Attn

open Idealize.ShloMosaic Idealize.ShloMosaic.TcCoe Cert.ReferenceIdeal Cert.ReferenceIdeal.Read

variable (p : Proj) (s : Sinks) (o : Grad) (n : Fin 32) (h g : Fin 4) (a : Fin 128) (c : Fin 256) (d : Fin 64)

theorem g138 : val_main_v138 (F := Ideal) p s o (ix5 n h g a c)
    = (if near a c ∧ (n.val = 0 → 128 ≤ c.val) then val_main_v130 (F := Ideal) p s o (ix5 n h g a ⟨c.val, by omega⟩) else 0) * Block.scale := by
  pointwise [val_main_v138, val_main_v137, val_main_cst_27, val_main_v136, val_main_v131, val_main_v76_1, val_main_v72, mask53, val_main_call1_v0, val_main_call1_cst]
  by_cases hl : near a c ∧ (n.val = 0 → 128 ≤ c.val)
  · rw [if_pos hl, if_pos hl]; rfl
  · rw [if_neg hl, if_neg hl, zero_mul]; rfl

theorem g133 : val_main_v133 (F := Ideal) p s o (ix2 h g)
    = ∑ a : Fin 128, ∑ n : Fin 32, val_main_v130 (F := Ideal) p s o (ix5 n h g a (Fin.last 256)) := by
  pointwise [val_main_v133, val_main_v132, val_main_cst_26]
  rw [sumBlocks]
  refine Finset.sum_congr rfl fun a _ => Finset.sum_congr rfl fun n _ => ?_
  pointwise
  rfl

theorem g135 (i : Fin 16) : val_main_v135 (F := Ideal) p s o (ix1 i)
    = ∑ a : Fin 128, ∑ n : Fin 32, val_main_v130 (F := Ideal) p s o (ix5 n ⟨i.val / 4, by omega⟩ ⟨i.val % 4, by omega⟩ a (Fin.last 256)) := by
  pointwise [val_main_v135, val_main_v134]
  exact g133 p s o _ _

theorem g116 : val_main_v116 (F := Ideal) p s o (ix4 n h d c) = ∑ g : Fin 4, ∑ a : Fin 128, val_main_v114 (F := Ideal) o (ix5 n h d g a) * val_main_v108 (F := Ideal) p s (ix5 n h g a c) := by
  pointwise [val_main_v116]

theorem g140 : val_main_v140 (F := Ideal) p s o (ix5 n h a g d) = ∑ c : Fin 256, val_main_v138 (F := Ideal) p s o (ix5 n h g a c) * val_main_v16 (F := Ideal) p (ix4 n c h d) := by
  pointwise [val_main_v140, val_main_v139]

theorem g142 : val_main_v142 (F := Ideal) p s o (ix4 n h c d) = ∑ a : Fin 128, ∑ g : Fin 4, val_main_v138 (F := Ideal) p s o (ix5 n h g a c) * val_main_v4 (F := Ideal) p (ix5 n a h g d) := by
  pointwise [val_main_v142, val_main_v139]

theorem g162 (i : Fin 4096) (j : Fin 1024) : val_main_v162 (F := Ideal) p s o (ix2 i j)
    = val_main_v140 (F := Ideal) p s o (ix5 ⟨i.val / 128, by omega⟩ ⟨j.val / 256, by omega⟩ ⟨i.val % 128, by omega⟩ ⟨j.val / 64 % 4, by omega⟩ ⟨j.val % 64, by omega⟩) := by
  pointwise [val_main_v162, val_main_v141]

theorem ix4_key (n n' : Fin 32) (h : Fin 4) (c c' : Fin 256) (d : Fin 64) (en : n.val = n'.val) (ec : c.val = c'.val) :
    ix4 n h c d = ix4 n' h c' d := by
  rw [Fin.ext en, Fin.ext ec]

theorem ix4_val (n n' : Fin 32) (h : Fin 4) (c c' : Fin 256) (d : Fin 64) (en : n.val = n'.val) (ec : c.val = c'.val) :
    ix4 n h d c = ix4 n' h d c' := by
  rw [Fin.ext en, Fin.ext ec]

theorem g161 (i : Fin 4096) (j : Fin 256) : val_main_v161 (F := Ideal) p s o (ix2 i j)
    = val_main_v142 (F := Ideal) p s o (ix4 ⟨i.val / 128, by omega⟩ ⟨j.val / 64, by omega⟩ ⟨128 + i.val % 128, by omega⟩ ⟨j.val % 64, by omega⟩)
      + if hn : i.val / 128 = 31 then 0 else val_main_v142 (F := Ideal) p s o (ix4 ⟨i.val / 128 + 1, by omega⟩ ⟨j.val / 64, by omega⟩ ⟨i.val % 128, by omega⟩ ⟨j.val % 64, by omega⟩) := by
  pointwise [val_main_v161, val_main_v159, val_main_v157, val_main_v153, val_main_v152, val_main_v151, val_main_v150, val_main_v149, val_main_v143, val_main_cst_30, val_main_cst_31]
  refine congrArg₂ (· + ·) ?_ ?_
  · split
    · exact congrArg (val_main_v142 (F := Ideal) p s o) (ix4_key _ _ _ _ _ _ (by dsimp only; omega) (by dsimp only; omega))
    · omega
  · split
    · split
      · omega
      · exact congrArg (val_main_v142 (F := Ideal) p s o) (ix4_key _ _ _ _ _ _ (by dsimp only; omega) (by dsimp only; omega))
    · split
      · rfl
      · omega

theorem g160 (i : Fin 4096) (j : Fin 256) : val_main_v160 (F := Ideal) p s o (ix2 i j)
    = val_main_v116 (F := Ideal) p s o (ix4 ⟨i.val / 128, by omega⟩ ⟨j.val / 64, by omega⟩ ⟨j.val % 64, by omega⟩ ⟨128 + i.val % 128, by omega⟩)
      + if hn : i.val / 128 = 31 then 0 else val_main_v116 (F := Ideal) p s o (ix4 ⟨i.val / 128 + 1, by omega⟩ ⟨j.val / 64, by omega⟩ ⟨j.val % 64, by omega⟩ ⟨i.val % 128, by omega⟩) := by
  pointwise [val_main_v160, val_main_v156, val_main_v154, val_main_v148, val_main_v147, val_main_v146, val_main_v145, val_main_v144, val_main_v117, val_main_cst_28, val_main_cst_29]
  refine congrArg₂ (· + ·) ?_ ?_
  · split
    · exact congrArg (val_main_v116 (F := Ideal) p s o) (ix4_val _ _ _ _ _ _ (by dsimp only; omega) (by dsimp only; omega))
    · omega
  · split
    · split
      · omega
      · exact congrArg (val_main_v116 (F := Ideal) p s o) (ix4_val _ _ _ _ _ _ (by dsimp only; omega) (by dsimp only; omega))
    · split
      · rfl
      · omega

theorem g164 (i : Fin 4096) (j : Fin 1536) : val_main_v164 (F := Ideal) p s o (ix2 i j)
    = if h0 : j.val < 1024 then val_main_v162 (F := Ideal) p s o (ix2 i ⟨j.val, h0⟩)
      else if h1 : j.val < 1280 then val_main_v161 (F := Ideal) p s o (ix2 i ⟨j.val - 1024, by omega⟩)
      else val_main_v160 (F := Ideal) p s o (ix2 i ⟨j.val - 1280, by omega⟩) := by
  pointwise [val_main_v164, val_main_v163]
  by_cases h0 : j.val < 1024
  · rw [dif_pos h0, dif_pos h0]
  · rw [dif_neg h0, dif_neg h0]
    by_cases h1 : j.val < 1280
    · rw [dif_pos h1, dif_pos (by omega)]
    · rw [dif_neg h1, dif_neg (by omega)]
      exact congrArg (fun j : Fin 256 => val_main_v160 (F := Ideal) p s o (ix2 i j)) (Fin.ext (by dsimp only; omega))

end Cert.ReferenceIdeal.Attn

end
-- ==== Proof.Finite.lean ====
/- Where the projected rows and the sinks are real numbers, no score is `+∞` and no sink is infinite. -/
module

public import proofs.«01_k».proof.Proof.Whole

@[expose] public section

noncomputable section

namespace Cert

open Idealize.ShloMosaic

/-- A real number among the extended reals. -/
def IsReal (x : EReal) : Prop := ∃ r : ℝ, x = (r : EReal)

namespace IsReal

variable {x y : EReal}

theorem add (hx : IsReal x) (hy : IsReal y) : IsReal (x + y) := by
  obtain ⟨a, rfl⟩ := hx
  obtain ⟨b, rfl⟩ := hy
  exact ⟨a + b, (EReal.coe_add a b).symm⟩
theorem mul (hx : IsReal x) (hy : IsReal y) : IsReal (x * y) := by
  obtain ⟨a, rfl⟩ := hx
  obtain ⟨b, rfl⟩ := hy
  exact ⟨a * b, (EReal.coe_mul a b).symm⟩
theorem sub (hx : IsReal x) (hy : IsReal y) : IsReal (x - y) := by
  obtain ⟨a, rfl⟩ := hx
  obtain ⟨b, rfl⟩ := hy
  exact ⟨a - b, (EReal.coe_sub a b).symm⟩
theorem sum {n : ℕ} {f : Fin n → EReal} (hf : ∀ i, IsReal (f i)) : IsReal (∑ i, f i) := by
  choose g hg using hf
  exact ⟨∑ i, g i, by rw [Row.coe_sum]; exact Finset.sum_congr rfl fun i _ => hg i⟩
theorem exp (hx : IsReal x) : IsReal (Ideal.exp x) := by
  obtain ⟨a, rfl⟩ := hx
  exact ⟨Real.exp a, rfl⟩
theorem div (hx : IsReal x) (hy : IsReal y) (h0 : y ≠ 0) : IsReal (Ideal.div x y) := by
  obtain ⟨a, rfl⟩ := hx
  obtain ⟨b, rfl⟩ := hy
  have hb : b ≠ 0 := fun h => h0 (by rw [h, EReal.coe_zero])
  exact ⟨a * (1 / b), by rw [Ideal.div_coe hb, EReal.coe_mul]⟩
theorem one : IsReal 1 := ⟨1, EReal.coe_one.symm⟩
theorem ne_top (hx : IsReal x) : x ≠ ⊤ := by
  obtain ⟨a, rfl⟩ := hx
  exact EReal.coe_ne_top a
theorem ne_bot (hx : IsReal x) : x ≠ ⊥ := by
  obtain ⟨a, rfl⟩ := hx
  exact EReal.coe_ne_bot a
/-- A 32-bit word whose exponent is not all ones is a real number. -/
theorem word (b : BitVec 32) (hb : (b.extractLsb' 23 8).toNat ≠ 2 ^ 8 - 1) : IsReal (Ideal.ofBits .f32 b) := by
  show IsReal (Ideal.ieee 8 23 b)
  unfold Ideal.ieee
  dsimp only
  rw [if_neg hb]
  split <;> exact ⟨_, rfl⟩
theorem sitofp {w : Nat} (b : BitVec w) : IsReal (FloatOps.sitofp (F := Ideal) .f32 b) := ⟨_, rfl⟩

end IsReal

theorem sixteen_ne : Ideal.ofBits .f32 0x41800000#32 ≠ 0 := by
  have : Ideal.ofBits .f32 0x41800000#32 = ((16 : ℝ) : EReal) := by
    simp [Ideal.ofBits, Ideal.ieee]
    rw [← EReal.coe_mul]
    norm_num
  rw [this]
  exact EReal.coe_ne_zero.2 (by norm_num)

theorem slope_real (g : Fin 16) : IsReal (slope g) :=
  ((IsReal.word _ (by decide)).mul ((((IsReal.word _ (by decide)).mul (IsReal.one.add (IsReal.sitofp _)))).div (IsReal.word _ (by decide)) sixteen_ne)).exp

theorem dist_real (a : Fin 128) (c : Fin 256) : IsReal (dist a c) := IsReal.sitofp _

variable (p : Proj) (s : Sinks) (o : Grad) (n : Fin 32) (h : Fin 4) (r : Fin 512)

theorem score_ne_top (hp : ∀ i, IsReal (p i)) (c : Fin 256) : (block p s o n).score h r c ≠ ⊤ := by
  unfold Block.score
  split
  · exact (((IsReal.sum fun d => (hp _).mul (hp _)).mul (IsReal.word _ (by decide))).sub ((slope_real _).mul (dist_real _ _))).ne_top
  · exact bot_ne_top

end Cert

end
-- ==== Proof.RefEq.lean ====
/- The reference's two results are the attention's gradients, where the sinks are finite and no score is `+∞`. -/
module

public import proofs.«01_k».proof.Proof.RefGrad
public import proofs.«01_k».proof.Proof.Finite

@[expose] public section

set_option maxRecDepth 16384

noncomputable section

namespace Cert.ReferenceIdeal.Attn

open Idealize.ShloMosaic Idealize.ShloMosaic.TcCoe Cert.ReferenceIdeal Cert.ReferenceIdeal.Read

variable (p : Proj) (s : Sinks) (o : Grad) (hp : ∀ i, IsReal (p i)) (hs : ∀ i, IsReal (s i))
variable (n : Fin 32) (h g : Fin 4) (a : Fin 128) (c : Fin 256) (d : Fin 64)
include hp hs

/-- The reference's gradient of a probability is the block's, or its score is masked. -/
theorem dp_eq : Z p s o n h g a c = ⊥ ∨ dp p s o n h g a c = (block p s o n).dprob h (row g a) c := by
  by_cases hl : near a c ∧ (n.val = 0 → 128 ≤ c.val)
  · refine Or.inr (Finset.sum_congr rfl fun d _ => ?_)
    rw [value_live n h c d p s o hl.2]
  · exact Or.inl (if_neg fun h' => hl ((live_iff n g a c p s o).1 h'))

theorem dscore_eq : val_main_v138 (F := Ideal) p s o (ix5 n h g a c) = (block p s o n).dscore h (row g a) c := by
  rw [g138]
  unfold Block.dscore
  by_cases hl : near a c ∧ (n.val = 0 → 128 ≤ c.val)
  · rw [if_pos hl, if_pos ((live_iff n g a c p s o).2 hl), r130]
    have hx : (⟨c.val, by omega⟩ : Fin 257) = c.castSucc := rfl
    rw [hx, Row.ext_castSucc, Row.ext_castSucc]
    have hc : dp p s o n h g a c = (block p s o n).dprob h (row g a) c :=
      Finset.sum_congr rfl fun d _ => by rw [value_live n h c d p s o hl.2]
    exact congrArg (· * Block.scale) (Row.dscore_ext (hs _).ne_bot (hs _).ne_top (score_ne_top p s o n h (row g a) hp) _ _ (fun c => dp_eq p s o hp hs n h g a c) c hc)
  · rw [if_neg hl, if_neg fun h' => hl ((live_iff n g a c p s o).1 h'), zero_mul]

theorem prob_eq : val_main_v108 (F := Ideal) p s (ix5 n h g a c) = (block p s o n).prob h (row g a) c := by
  rw [r108 p s o]
  exact Row.div_den (hs _).ne_bot (hs _).ne_top (score_ne_top p s o n h (row g a) hp) _

theorem dsink_eq : val_main_v130 (F := Ideal) p s o (ix5 n h g a (Fin.last 256)) = (block p s o n).dsink h (row g a) := by
  rw [r130, Row.ext_last, Row.ext_last]
  exact Row.dsink_ext (hs _).ne_bot (hs _).ne_top (score_ne_top p s o n h (row g a) hp) _ _ (fun c => dp_eq p s o hp hs n h g a c)

/-- The gradient of the queries. -/
theorem dq_eq : val_main_v140 (F := Ideal) p s o (ix5 n h a g d) = gradQ p s o n h g a d := by
  rw [g140]
  unfold gradQ Block.dq
  refine Finset.sum_congr rfl fun c _ => ?_
  rw [dscore_eq p s o hp hs]
  by_cases hl : near a c ∧ (n.val = 0 → 128 ≤ c.val)
  · rw [key_live n h c d p s o hl.2]
  · have e : (block p s o n).dscore h (row g a) c = 0 := if_neg fun h' => hl ((live_iff n g a c p s o).1 h')
    rw [e, zero_mul]
    exact (zero_mul _).symm

omit hp hs in
/-- A sum over the 512 rows, as one over the 4 query heads and one over their 128 queries. -/
theorem sum_rows (f : Fin 512 → EReal) : ∑ r, f r = ∑ g : Fin 4, ∑ a : Fin 128, f (row g a) := by
  rw [← Finset.sum_product' (s := Finset.univ) (t := Finset.univ) (f := fun (g : Fin 4) (a : Fin 128) => f (row g a))]
  refine Finset.sum_bij' (fun r _ => ((⟨r.val / 128, by omega⟩, ⟨r.val % 128, by omega⟩) : Fin 4 × Fin 128)) (fun q _ => row q.1 q.2)
    (fun _ _ => Finset.mem_univ _) (fun _ _ => Finset.mem_univ _) ?_ ?_ ?_
  · exact fun r _ => Fin.ext (by dsimp only; omega)
  · exact fun q _ => Prod.ext (Fin.ext (by dsimp only; omega)) (Fin.ext (by dsimp only; omega))
  · exact fun r _ => congrArg f (Fin.ext (by dsimp only; omega))

theorem dk_eq : val_main_v142 (F := Ideal) p s o (ix4 n h c d) = (block p s o n).dk h c d := by
  rw [g142]
  unfold Block.dk
  rw [sum_rows, Finset.sum_comm]
  refine Finset.sum_congr rfl fun g _ => Finset.sum_congr rfl fun a _ => ?_
  rw [dscore_eq p s o hp hs, query_eq n h g a d p s o]

theorem dv_eq : val_main_v116 (F := Ideal) p s o (ix4 n h d c) = (block p s o n).dv h c d := by
  rw [g116]
  unfold Block.dv
  rw [sum_rows]
  refine Finset.sum_congr rfl fun g _ => Finset.sum_congr rfl fun a _ => ?_
  rw [prob_eq p s o hp hs, r114 p s o, mul_comm]

/-- The reference's gradient of the projected rows. -/
theorem proj_eq (i : Fin 4096) (j : Fin 1536) : val_main_v164 (F := Ideal) p s o (ix2 i j) = gradProj p s o i j := by
  rw [g164]
  unfold gradProj
  dsimp only
  split
  · rw [g162, dq_eq p s o hp hs]
  · have h64 : ∀ k, k ≤ j.val → 64 ∣ k → (j.val - k) % 64 = j.val % 64 := fun k hk ⟨q, hq⟩ => by omega
    split
    · rw [g161]
      unfold gradK
      simp only [dk_eq p s o hp hs, h64 1024 (by omega) ⟨16, rfl⟩]
    · rw [g160]
      unfold gradV
      simp only [dv_eq p s o hp hs, h64 1280 (by omega) ⟨20, rfl⟩]

/-- The reference's gradient of the sinks. -/
theorem sink_eq (i : Fin 16) : val_main_v135 (F := Ideal) p s o (ix1 i) = gradSink p s o ⟨i.val / 4, by omega⟩ ⟨i.val % 4, by omega⟩ := by
  rw [g135]
  unfold gradSink
  exact Finset.sum_congr rfl fun a _ => Finset.sum_congr rfl fun n _ => dsink_eq p s o hp hs n _ _ a

end Cert.ReferenceIdeal.Attn

end
-- ==== Proof.PreFinite.lean ====
/- What the precondition says: every projected entry and every sink is a real number. -/
module

public import proofs.«01_k».proof.Defs
public import proofs.«01_k».proof.Proof.Finite
public import Idealize.ShloMosaic.Lib.ReduceAll
public import Idealize.ShloMosaic.Lib.Decide

@[expose] public section

noncomputable section

namespace Cert.Pre_finite

open Idealize.ShloMosaic

instance facts : Cert.Pre_finite.Facts where
  bitsLt_bf16_f32 := by decide
  bcast_S_S4096x1536 := by decide
  reducesTo_S4096x1536_S_d0_1 := by decide
  h_S_ := by decide
  bcast_S_S16 := by decide
  reducesTo_S16_S_d0 := by decide

theorem isReal_of_below {x : EReal} (h : Ideal.cmp .olt (max x (-x)) (Ideal.ofBits .f32 0x7F800000#32) = 1#1) : IsReal x := by
  have e : Ideal.ofBits .f32 0x7F800000#32 = (⊤ : EReal) := by simp [Ideal.ofBits, Ideal.ieee]
  rw [e] at h
  have lt : max x (-x) < ⊤ := by
    by_contra hn
    simp [Ideal.cmp, hn] at h
  have h1 : x ≠ ⊤ := fun hx => by simp [hx] at lt
  have h2 : x ≠ ⊥ := fun hx => by simp [hx] at lt
  exact ⟨x.toReal, (EReal.coe_toReal h1 h2).symm⟩

variable (p : Proj) (s : Sinks) (o : Grad)

theorem real_of_fn (e : fn (F := Ideal) p s o = fun _ => 1#1) : (∀ i, IsReal (p i)) ∧ ∀ i, IsReal (s i) := by
  have e0 := congrFun e (fun k => k.elim0)
  unfold fn at e0
  obtain ⟨ep, es⟩ := IntOp.andi_eq_one.1 e0
  have : Subsingleton S_.Idx := ⟨fun a b => funext fun k => k.elim0⟩
  exact ⟨fun i => isReal_of_below (Host.reduce_andi_all _ _ _ _ _ ep i), fun i => isReal_of_below (Host.reduce_andi_all _ _ _ _ _ es i)⟩

end Cert.Pre_finite

end
-- ==== Proof.Index.lean ====
/- Indices of two and three axes, by their entries; and equal functions at equal arguments. -/
module

public import Idealize.ShloMosaic.Lib.Pipeline.ReadBack
public import Idealize.ShloMosaic.Lib.Pipeline.ValueKit
public import Idealize.ShloMosaic.Lib.Pointwise

@[expose] public section

namespace Cert.Index

open Idealize.ShloMosaic

theorem ext2 {n : Fin 2 → ℕ} {p q : (⟨2, n⟩ : Shape).Idx} (h0 : p 0 = q 0) (h1 : p 1 = q 1) : p = q := funext fun a =>
  match a with
  | ⟨0, _⟩ => h0
  | ⟨1, _⟩ => h1
theorem ext3 {n : Fin 3 → ℕ} {p q : (⟨3, n⟩ : Shape).Idx} (h0 : p 0 = q 0) (h1 : p 1 = q 1) (h2 : p 2 = q 2) : p = q := funext fun a =>
  match a with
  | ⟨0, _⟩ => h0
  | ⟨1, _⟩ => h1
  | ⟨2, _⟩ => h2

theorem exists_ix2 {n0 n1 : ℕ} (y : (⟨2, ![n0, n1]⟩ : Shape).Idx) : ∃ (a : Fin n0) (b : Fin n1), y = ix2 a b :=
  ⟨y 0, y 1, ext2 rfl rfl⟩
theorem exists_ix3 {n1 n2 : ℕ} (y : (⟨3, ![1, n1, n2]⟩ : Shape).Idx) : ∃ (a : Fin n1) (b : Fin n2), y = ix3 0 a b :=
  ⟨y 1, y 2, ext3 (Subsingleton.elim (α := Fin 1) _ _) rfl rfl⟩

/-- Equal functions agree at equal arguments. -/
theorem eq_at {A B R : Type} {f k : A → B → R} (e : ∀ a b, f a b = k a b) {a a' : A} {b b' : B} (ha : a' = a) (hb : b' = b) :
    f a' b' = k a b := by
  subst ha hb
  exact e _ _
theorem eq_at3 {A B C R : Type} {f k : A → B → C → R} (e : ∀ a b c, f a b c = k a b c) {a a' : A} {b b' : B} {c c' : C}
    (ha : a' = a) (hb : b' = b) (hc : c' = c) : f a' b' c' = k a b c := by
  subst ha hb hc
  exact e _ _ _
theorem eq_at5 {A B C D E R : Type} {f k : A → B → C → D → E → R} (e : ∀ a b c d e, f a b c d e = k a b c d e) {a a' : A} {b b' : B} {c c' : C} {d d' : D} {e e' : E}
    (ha : a' = a) (hb : b' = b) (hc : c' = c) (hd : d' = d) (he : e' = e) : f a' b' c' d' e' = k a b c d e := by
  subst ha hb hc hd he
  exact e _ _ _ _ _
theorem eq_at4 {A B C D R : Type} {f k : A → B → C → D → R} (e : f = k) {a a' : A} {b b' : B} {c c' : C} {d d' : D}
    (ha : a' = a) (hb : b' = b) (hc : c' = c) (hd : d' = d) : f a' b' c' d' = k a b c d := by
  subst e ha hb hc hd
  rfl

end Cert.Index
-- ==== Proof.UpFwd0Value.lean ====
/- The up projection of layer 0: what the call leaves, and that its reference hands on the same. -/
module

public import proofs.«01_k».proof.Proof.Index
public import proofs.«01_k».proof.Proof.Gen.UpFwd0Ideal.Value
public import proofs.«01_k».proof.Proof.Gen.UpFwd0ReferenceIdeal.Read

@[expose] public section

set_option maxRecDepth 16384

noncomputable section

namespace Cert.UpFwd0Ideal.Product

open Idealize.ShloMosaic Idealize.ShloMosaic.TcCoe Cert.UpFwd0Ideal Cert.UpFwd0Ideal.Gen Cert.Index

abbrev Lhs : Type := (⟨2, ![4096, 1024]⟩ : Shape).Idx → EReal
abbrev Rhs : Type := (⟨3, ![4, 1024, 5632]⟩ : Shape).Idx → EReal
abbrev Res : Type := (⟨3, ![2, 4096, 2816]⟩ : Shape).Idx → EReal

/-- The product, entry by entry: column `j` of its half `s`. -/
def entry (x : Lhs) (w : Rhs) (s : Fin 2) (i : Fin 4096) (j : Fin 2816) : EReal := ∑ k : Fin 1024, x (ix2 i k) * w (ix3 0 k ⟨2816 * s.val + j.val, by omega⟩)
def result (x : Lhs) (w : Rhs) : Res := fun i => entry x w (i 0) (i 1) (i 2)

theorem out_apply (x : Vec Ideal S1024x1024 .bf16) (y : Vec Ideal S1x1024x2816 .bf16) (a : Fin 1024) (b : Fin 2816) :
    out0_2 x y (ix3 0 a b) = ∑ k : Fin 1024, x (ix2 a k) * y (ix3 0 k b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val % 4, 0] := by decide +kernel
theorem idx1 : ∀ t : Fin cfg0.N, win0_1.index t = ![0, 0, t.val / 4] := by decide +kernel
theorem idx2 : ∀ t : Fin cfg0.N, win0_2.index t = ![t.val / 4, t.val % 4, 0] := by decide +kernel

theorem read0 (a k : Fin 1024) :
    iblk m c 0 t (ix2 a k) = lhs m c (ix2 (⟨1024 * (t.val % 4) + a.val, by have ht : t.val < 8 := t.isLt; omega⟩ : Fin 4096) k) := by
  blk_ext [iblk, idx0]
theorem read1 (k : Fin 1024) (b : Fin 2816) :
    iblk m c 1 t (ix3 0 k b) = rhs m c (ix3 0 k (⟨2816 * (t.val / 4) + b.val, by have ht : t.val < 8 := t.isLt; omega⟩ : Fin 5632)) := by
  blk_ext [iblk, idx1]

theorem emb2 (a : Fin 1024) (b : Fin 2816) :
    ((cfg0.win 2).blk t).view.emb (ix3 0 a b) = (ix3 (⟨t.val / 4, by have ht : t.val < 8 := t.isLt; omega⟩ : Fin 2) (⟨1024 * (t.val % 4) + a.val, by have ht : t.val < 8 := t.isLt; omega⟩ : Fin 4096) b : S2x4096x2816.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 8 := t.isLt
  obtain ⟨a, b, rfl⟩ := exists_ix3 y
  blk_simp
  rw [after0_2, emb2]
  refine (out_apply ..).trans ?_
  show _ = entry _ _ _ _ _
  unfold entry
  refine Finset.sum_congr rfl fun k _ => ?_
  rw [read0, read1]
  rfl

end Cert.UpFwd0Ideal.Product

namespace Cert.UpFwd0ReferenceIdeal.Product

open Idealize.ShloMosaic Cert.UpFwd0ReferenceIdeal Cert.UpFwd0ReferenceIdeal.Read Cert.UpFwd0Ideal.Product Cert.Index

theorem value (x : Lhs) (w : Rhs) : val_main_v7 (F := Ideal) x w = result x w := funext fun i => by
  rw [val_main_v7_apply, val_main_v6_apply, val_main_v5_apply, val_main_v4_apply]
  show _ = entry x w (i 0) (i 1) (i 2)
  unfold entry
  refine Fin.sum_fin_congr fun k => ?_
  rw [val_main_v2_apply, val_main_v3_apply, val_main_v1_apply, val_main_v0_apply]
  refine (congrArg₂ (· * ·) (congrArg x ?_) (congrArg w ?_))
  · have h0 : (i 0).val < 2 := (i 0).isLt
    have h1 : (i 1).val < 4096 := (i 1).isLt
    have h2 : (i 2).val < 2816 := (i 2).isLt
    exact ext2 (Fin.ext (by show (((i 1).val * 2 + (i 0).val) * 2816 + (i 2).val) / 5632 = (i 1).val; omega)) rfl
  · have h0 : (i 0).val < 2 := (i 0).isLt
    have h1 : (i 1).val < 4096 := (i 1).isLt
    have h2 : (i 2).val < 2816 := (i 2).isLt
    exact ext3 rfl (Fin.ext (by show (k.val * 5632 + (((i 1).val * 2 + (i 0).val) * 2816 + (i 2).val) % 5632) / 5632 % 1024 = k.val; omega)) (Fin.ext (by show (k.val * 5632 + (((i 1).val * 2 + (i 0).val) * 2816 + (i 2).val) % 5632) % 5632 = 2816 * (i 0).val + (i 2).val; omega))

end Cert.UpFwd0ReferenceIdeal.Product

end
-- ==== Proof.UpFwd0Claim.lean ====
/- The claims for UpFwd0: the frame of its reference, and that the idealized call and the reference both hand on `result` of
   Proof/UpFwd0Value.lean. -/
module

public import proofs.«01_k».proof.Defs
public import proofs.«01_k».proof.Proof.UpFwd0Value
public import Idealize.ShloMosaic.Lib.Quiescent

@[expose] public section

noncomputable section

namespace Cert.UpFwd0Ideal.Product

open Idealize.ShloMosaic Idealize.ShloMosaic.StableHlo Idealize.SL.Sem

theorem frame_ref : Cert.quiescent_UpFwd0ReferenceIdeal (hUpFwd0ReferenceIdeal := Cert.UpFwd0ReferenceIdeal.Gen.facts) := fun m ρ _ =>
  (θ_run Cert.UpFwd0ReferenceIdeal.defs _ _).mono (fun r h => ⟨fun c => (h c).2, sem_eq_zero_of_no_sems (by decide) r.2⟩)
    (Cert.UpFwd0ReferenceIdeal.Value.run (F := Ideal) m ρ)

theorem algebraic : Cert.algebraic_UpFwd0Ideal_UpFwd0ReferenceIdeal (hUpFwd0Ideal := Cert.UpFwd0Ideal.Gen.facts)
    (hUpFwd0ReferenceIdeal := Cert.UpFwd0ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.UpFwd0Ideal.Value.run_blocks m g)
  · exact (θ_run _ _ _).mono (fun r h c => ⟨((h c).1.trans (Cert.UpFwd0ReferenceIdeal.Read.val_main_v7_eq _ _)).trans
      (Cert.Index.eq_at Cert.UpFwd0ReferenceIdeal.Product.value (hargs c).1 (hargs c).2), (h c).2⟩) (Cert.UpFwd0ReferenceIdeal.Value.run (F := Ideal) m' g')

end Cert.UpFwd0Ideal.Product

end
-- ==== Proof.UpFwd1Value.lean ====
/- The up projection of layer 1: what the call leaves, and that its reference hands on the same. -/
module

public import proofs.«01_k».proof.Proof.Index
public import proofs.«01_k».proof.Proof.Gen.UpFwd1Ideal.Value
public import proofs.«01_k».proof.Proof.Gen.UpFwd1ReferenceIdeal.Read

@[expose] public section

set_option maxRecDepth 16384

noncomputable section

namespace Cert.UpFwd1Ideal.Product

open Idealize.ShloMosaic Idealize.ShloMosaic.TcCoe Cert.UpFwd1Ideal Cert.UpFwd1Ideal.Gen Cert.Index

abbrev Lhs : Type := (⟨2, ![4096, 1024]⟩ : Shape).Idx → EReal
abbrev Rhs : Type := (⟨3, ![4, 1024, 5632]⟩ : Shape).Idx → EReal
abbrev Res : Type := (⟨3, ![2, 4096, 2816]⟩ : Shape).Idx → EReal

/-- The product, entry by entry: column `j` of its half `s`. -/
def entry (x : Lhs) (w : Rhs) (s : Fin 2) (i : Fin 4096) (j : Fin 2816) : EReal := ∑ k : Fin 1024, x (ix2 i k) * w (ix3 1 k ⟨2816 * s.val + j.val, by omega⟩)
def result (x : Lhs) (w : Rhs) : Res := fun i => entry x w (i 0) (i 1) (i 2)

theorem out_apply (x : Vec Ideal S1024x1024 .bf16) (y : Vec Ideal S1x1024x2816 .bf16) (a : Fin 1024) (b : Fin 2816) :
    out0_2 x y (ix3 0 a b) = ∑ k : Fin 1024, x (ix2 a k) * y (ix3 0 k b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val % 4, 0] := by decide +kernel
theorem idx1 : ∀ t : Fin cfg0.N, win0_1.index t = ![1, 0, t.val / 4] := by decide +kernel
theorem idx2 : ∀ t : Fin cfg0.N, win0_2.index t = ![t.val / 4, t.val % 4, 0] := by decide +kernel

theorem read0 (a k : Fin 1024) :
    iblk m c 0 t (ix2 a k) = lhs m c (ix2 (⟨1024 * (t.val % 4) + a.val, by have ht : t.val < 8 := t.isLt; omega⟩ : Fin 4096) k) := by
  blk_ext [iblk, idx0]
theorem read1 (k : Fin 1024) (b : Fin 2816) :
    iblk m c 1 t (ix3 0 k b) = rhs m c (ix3 1 k (⟨2816 * (t.val / 4) + b.val, by have ht : t.val < 8 := t.isLt; omega⟩ : Fin 5632)) := by
  blk_ext [iblk, idx1]

theorem emb2 (a : Fin 1024) (b : Fin 2816) :
    ((cfg0.win 2).blk t).view.emb (ix3 0 a b) = (ix3 (⟨t.val / 4, by have ht : t.val < 8 := t.isLt; omega⟩ : Fin 2) (⟨1024 * (t.val % 4) + a.val, by have ht : t.val < 8 := t.isLt; omega⟩ : Fin 4096) b : S2x4096x2816.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 8 := t.isLt
  obtain ⟨a, b, rfl⟩ := exists_ix3 y
  blk_simp
  rw [after0_2, emb2]
  refine (out_apply ..).trans ?_
  show _ = entry _ _ _ _ _
  unfold entry
  refine Finset.sum_congr rfl fun k _ => ?_
  rw [read0, read1]
  rfl

end Cert.UpFwd1Ideal.Product

namespace Cert.UpFwd1ReferenceIdeal.Product

open Idealize.ShloMosaic Cert.UpFwd1ReferenceIdeal Cert.UpFwd1ReferenceIdeal.Read Cert.UpFwd1Ideal.Product Cert.Index

theorem value (x : Lhs) (w : Rhs) : val_main_v7 (F := Ideal) x w = result x w := funext fun i => by
  rw [val_main_v7_apply, val_main_v6_apply, val_main_v5_apply, val_main_v4_apply]
  show _ = entry x w (i 0) (i 1) (i 2)
  unfold entry
  refine Fin.sum_fin_congr fun k => ?_
  rw [val_main_v2_apply, val_main_v3_apply, val_main_v1_apply, val_main_v0_apply]
  refine (congrArg₂ (· * ·) (congrArg x ?_) (congrArg w ?_))
  · have h0 : (i 0).val < 2 := (i 0).isLt
    have h1 : (i 1).val < 4096 := (i 1).isLt
    have h2 : (i 2).val < 2816 := (i 2).isLt
    exact ext2 (Fin.ext (by show (((i 1).val * 2 + (i 0).val) * 2816 + (i 2).val) / 5632 = (i 1).val; omega)) rfl
  · have h0 : (i 0).val < 2 := (i 0).isLt
    have h1 : (i 1).val < 4096 := (i 1).isLt
    have h2 : (i 2).val < 2816 := (i 2).isLt
    exact ext3 rfl (Fin.ext (by show (k.val * 5632 + (((i 1).val * 2 + (i 0).val) * 2816 + (i 2).val) % 5632) / 5632 % 1024 = k.val; omega)) (Fin.ext (by show (k.val * 5632 + (((i 1).val * 2 + (i 0).val) * 2816 + (i 2).val) % 5632) % 5632 = 2816 * (i 0).val + (i 2).val; omega))

end Cert.UpFwd1ReferenceIdeal.Product

end
-- ==== Proof.UpFwd1Claim.lean ====
/- The claims for UpFwd1: the frame of its reference, and that the idealized call and the reference both hand on `result` of
   Proof/UpFwd1Value.lean. -/
module

public import proofs.«01_k».proof.Defs
public import proofs.«01_k».proof.Proof.UpFwd1Value
public import Idealize.ShloMosaic.Lib.Quiescent

@[expose] public section

noncomputable section

namespace Cert.UpFwd1Ideal.Product

open Idealize.ShloMosaic Idealize.ShloMosaic.StableHlo Idealize.SL.Sem

theorem frame_ref : Cert.quiescent_UpFwd1ReferenceIdeal (hUpFwd1ReferenceIdeal := Cert.UpFwd1ReferenceIdeal.Gen.facts) := fun m ρ _ =>
  (θ_run Cert.UpFwd1ReferenceIdeal.defs _ _).mono (fun r h => ⟨fun c => (h c).2, sem_eq_zero_of_no_sems (by decide) r.2⟩)
    (Cert.UpFwd1ReferenceIdeal.Value.run (F := Ideal) m ρ)

theorem algebraic : Cert.algebraic_UpFwd1Ideal_UpFwd1ReferenceIdeal (hUpFwd1Ideal := Cert.UpFwd1Ideal.Gen.facts)
    (hUpFwd1ReferenceIdeal := Cert.UpFwd1ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.UpFwd1Ideal.Value.run_blocks m g)
  · exact (θ_run _ _ _).mono (fun r h c => ⟨((h c).1.trans (Cert.UpFwd1ReferenceIdeal.Read.val_main_v7_eq _ _)).trans
      (Cert.Index.eq_at Cert.UpFwd1ReferenceIdeal.Product.value (hargs c).1 (hargs c).2), (h c).2⟩) (Cert.UpFwd1ReferenceIdeal.Value.run (F := Ideal) m' g')

end Cert.UpFwd1Ideal.Product

end
-- ==== Proof.UpFwd2Value.lean ====
/- The up projection of layer 2: what the call leaves, and that its reference hands on the same. -/
module

public import proofs.«01_k».proof.Proof.Index
public import proofs.«01_k».proof.Proof.Gen.UpFwd2Ideal.Value
public import proofs.«01_k».proof.Proof.Gen.UpFwd2ReferenceIdeal.Read

@[expose] public section

set_option maxRecDepth 16384

noncomputable section

namespace Cert.UpFwd2Ideal.Product

open Idealize.ShloMosaic Idealize.ShloMosaic.TcCoe Cert.UpFwd2Ideal Cert.UpFwd2Ideal.Gen Cert.Index

abbrev Lhs : Type := (⟨2, ![4096, 1024]⟩ : Shape).Idx → EReal
abbrev Rhs : Type := (⟨3, ![4, 1024, 5632]⟩ : Shape).Idx → EReal
abbrev Res : Type := (⟨3, ![2, 4096, 2816]⟩ : Shape).Idx → EReal

/-- The product, entry by entry: column `j` of its half `s`. -/
def entry (x : Lhs) (w : Rhs) (s : Fin 2) (i : Fin 4096) (j : Fin 2816) : EReal := ∑ k : Fin 1024, x (ix2 i k) * w (ix3 2 k ⟨2816 * s.val + j.val, by omega⟩)
def result (x : Lhs) (w : Rhs) : Res := fun i => entry x w (i 0) (i 1) (i 2)

theorem out_apply (x : Vec Ideal S1024x1024 .bf16) (y : Vec Ideal S1x1024x2816 .bf16) (a : Fin 1024) (b : Fin 2816) :
    out0_2 x y (ix3 0 a b) = ∑ k : Fin 1024, x (ix2 a k) * y (ix3 0 k b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val % 4, 0] := by decide +kernel
theorem idx1 : ∀ t : Fin cfg0.N, win0_1.index t = ![2, 0, t.val / 4] := by decide +kernel
theorem idx2 : ∀ t : Fin cfg0.N, win0_2.index t = ![t.val / 4, t.val % 4, 0] := by decide +kernel

theorem read0 (a k : Fin 1024) :
    iblk m c 0 t (ix2 a k) = lhs m c (ix2 (⟨1024 * (t.val % 4) + a.val, by have ht : t.val < 8 := t.isLt; omega⟩ : Fin 4096) k) := by
  blk_ext [iblk, idx0]
theorem read1 (k : Fin 1024) (b : Fin 2816) :
    iblk m c 1 t (ix3 0 k b) = rhs m c (ix3 2 k (⟨2816 * (t.val / 4) + b.val, by have ht : t.val < 8 := t.isLt; omega⟩ : Fin 5632)) := by
  blk_ext [iblk, idx1]

theorem emb2 (a : Fin 1024) (b : Fin 2816) :
    ((cfg0.win 2).blk t).view.emb (ix3 0 a b) = (ix3 (⟨t.val / 4, by have ht : t.val < 8 := t.isLt; omega⟩ : Fin 2) (⟨1024 * (t.val % 4) + a.val, by have ht : t.val < 8 := t.isLt; omega⟩ : Fin 4096) b : S2x4096x2816.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 8 := t.isLt
  obtain ⟨a, b, rfl⟩ := exists_ix3 y
  blk_simp
  rw [after0_2, emb2]
  refine (out_apply ..).trans ?_
  show _ = entry _ _ _ _ _
  unfold entry
  refine Finset.sum_congr rfl fun k _ => ?_
  rw [read0, read1]
  rfl

end Cert.UpFwd2Ideal.Product

namespace Cert.UpFwd2ReferenceIdeal.Product

open Idealize.ShloMosaic Cert.UpFwd2ReferenceIdeal Cert.UpFwd2ReferenceIdeal.Read Cert.UpFwd2Ideal.Product Cert.Index

theorem value (x : Lhs) (w : Rhs) : val_main_v7 (F := Ideal) x w = result x w := funext fun i => by
  rw [val_main_v7_apply, val_main_v6_apply, val_main_v5_apply, val_main_v4_apply]
  show _ = entry x w (i 0) (i 1) (i 2)
  unfold entry
  refine Fin.sum_fin_congr fun k => ?_
  rw [val_main_v2_apply, val_main_v3_apply, val_main_v1_apply, val_main_v0_apply]
  refine (congrArg₂ (· * ·) (congrArg x ?_) (congrArg w ?_))
  · have h0 : (i 0).val < 2 := (i 0).isLt
    have h1 : (i 1).val < 4096 := (i 1).isLt
    have h2 : (i 2).val < 2816 := (i 2).isLt
    exact ext2 (Fin.ext (by show (((i 1).val * 2 + (i 0).val) * 2816 + (i 2).val) / 5632 = (i 1).val; omega)) rfl
  · have h0 : (i 0).val < 2 := (i 0).isLt
    have h1 : (i 1).val < 4096 := (i 1).isLt
    have h2 : (i 2).val < 2816 := (i 2).isLt
    exact ext3 rfl (Fin.ext (by show (k.val * 5632 + (((i 1).val * 2 + (i 0).val) * 2816 + (i 2).val) % 5632) / 5632 % 1024 = k.val; omega)) (Fin.ext (by show (k.val * 5632 + (((i 1).val * 2 + (i 0).val) * 2816 + (i 2).val) % 5632) % 5632 = 2816 * (i 0).val + (i 2).val; omega))

end Cert.UpFwd2ReferenceIdeal.Product

end
-- ==== Proof.UpFwd2Claim.lean ====
/- The claims for UpFwd2: the frame of its reference, and that the idealized call and the reference both hand on `result` of
   Proof/UpFwd2Value.lean. -/
module

public import proofs.«01_k».proof.Defs
public import proofs.«01_k».proof.Proof.UpFwd2Value
public import Idealize.ShloMosaic.Lib.Quiescent

@[expose] public section

noncomputable section

namespace Cert.UpFwd2Ideal.Product

open Idealize.ShloMosaic Idealize.ShloMosaic.StableHlo Idealize.SL.Sem

theorem frame_ref : Cert.quiescent_UpFwd2ReferenceIdeal (hUpFwd2ReferenceIdeal := Cert.UpFwd2ReferenceIdeal.Gen.facts) := fun m ρ _ =>
  (θ_run Cert.UpFwd2ReferenceIdeal.defs _ _).mono (fun r h => ⟨fun c => (h c).2, sem_eq_zero_of_no_sems (by decide) r.2⟩)
    (Cert.UpFwd2ReferenceIdeal.Value.run (F := Ideal) m ρ)

theorem algebraic : Cert.algebraic_UpFwd2Ideal_UpFwd2ReferenceIdeal (hUpFwd2Ideal := Cert.UpFwd2Ideal.Gen.facts)
    (hUpFwd2ReferenceIdeal := Cert.UpFwd2ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.UpFwd2Ideal.Value.run_blocks m g)
  · exact (θ_run _ _ _).mono (fun r h c => ⟨((h c).1.trans (Cert.UpFwd2ReferenceIdeal.Read.val_main_v7_eq _ _)).trans
      (Cert.Index.eq_at Cert.UpFwd2ReferenceIdeal.Product.value (hargs c).1 (hargs c).2), (h c).2⟩) (Cert.UpFwd2ReferenceIdeal.Value.run (F := Ideal) m' g')

end Cert.UpFwd2Ideal.Product

end
-- ==== Proof.UpFwd3Value.lean ====
/- The up projection of layer 3: what the call leaves, and that its reference hands on the same. -/
module

public import proofs.«01_k».proof.Proof.Index
public import proofs.«01_k».proof.Proof.Gen.UpFwd3Ideal.Value
public import proofs.«01_k».proof.Proof.Gen.UpFwd3ReferenceIdeal.Read

@[expose] public section

set_option maxRecDepth 16384

noncomputable section

namespace Cert.UpFwd3Ideal.Product

open Idealize.ShloMosaic Idealize.ShloMosaic.TcCoe Cert.UpFwd3Ideal Cert.UpFwd3Ideal.Gen Cert.Index

abbrev Lhs : Type := (⟨2, ![4096, 1024]⟩ : Shape).Idx → EReal
abbrev Rhs : Type := (⟨3, ![4, 1024, 5632]⟩ : Shape).Idx → EReal
abbrev Res : Type := (⟨3, ![2, 4096, 2816]⟩ : Shape).Idx → EReal

/-- The product, entry by entry: column `j` of its half `s`. -/
def entry (x : Lhs) (w : Rhs) (s : Fin 2) (i : Fin 4096) (j : Fin 2816) : EReal := ∑ k : Fin 1024, x (ix2 i k) * w (ix3 3 k ⟨2816 * s.val + j.val, by omega⟩)
def result (x : Lhs) (w : Rhs) : Res := fun i => entry x w (i 0) (i 1) (i 2)

theorem out_apply (x : Vec Ideal S1024x1024 .bf16) (y : Vec Ideal S1x1024x2816 .bf16) (a : Fin 1024) (b : Fin 2816) :
    out0_2 x y (ix3 0 a b) = ∑ k : Fin 1024, x (ix2 a k) * y (ix3 0 k b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val % 4, 0] := by decide +kernel
theorem idx1 : ∀ t : Fin cfg0.N, win0_1.index t = ![3, 0, t.val / 4] := by decide +kernel
theorem idx2 : ∀ t : Fin cfg0.N, win0_2.index t = ![t.val / 4, t.val % 4, 0] := by decide +kernel

theorem read0 (a k : Fin 1024) :
    iblk m c 0 t (ix2 a k) = lhs m c (ix2 (⟨1024 * (t.val % 4) + a.val, by have ht : t.val < 8 := t.isLt; omega⟩ : Fin 4096) k) := by
  blk_ext [iblk, idx0]
theorem read1 (k : Fin 1024) (b : Fin 2816) :
    iblk m c 1 t (ix3 0 k b) = rhs m c (ix3 3 k (⟨2816 * (t.val / 4) + b.val, by have ht : t.val < 8 := t.isLt; omega⟩ : Fin 5632)) := by
  blk_ext [iblk, idx1]

theorem emb2 (a : Fin 1024) (b : Fin 2816) :
    ((cfg0.win 2).blk t).view.emb (ix3 0 a b) = (ix3 (⟨t.val / 4, by have ht : t.val < 8 := t.isLt; omega⟩ : Fin 2) (⟨1024 * (t.val % 4) + a.val, by have ht : t.val < 8 := t.isLt; omega⟩ : Fin 4096) b : S2x4096x2816.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 8 := t.isLt
  obtain ⟨a, b, rfl⟩ := exists_ix3 y
  blk_simp
  rw [after0_2, emb2]
  refine (out_apply ..).trans ?_
  show _ = entry _ _ _ _ _
  unfold entry
  refine Finset.sum_congr rfl fun k _ => ?_
  rw [read0, read1]
  rfl

end Cert.UpFwd3Ideal.Product

namespace Cert.UpFwd3ReferenceIdeal.Product

open Idealize.ShloMosaic Cert.UpFwd3ReferenceIdeal Cert.UpFwd3ReferenceIdeal.Read Cert.UpFwd3Ideal.Product Cert.Index

theorem value (x : Lhs) (w : Rhs) : val_main_v7 (F := Ideal) x w = result x w := funext fun i => by
  rw [val_main_v7_apply, val_main_v6_apply, val_main_v5_apply, val_main_v4_apply]
  show _ = entry x w (i 0) (i 1) (i 2)
  unfold entry
  refine Fin.sum_fin_congr fun k => ?_
  rw [val_main_v2_apply, val_main_v3_apply, val_main_v1_apply, val_main_v0_apply]
  refine (congrArg₂ (· * ·) (congrArg x ?_) (congrArg w ?_))
  · have h0 : (i 0).val < 2 := (i 0).isLt
    have h1 : (i 1).val < 4096 := (i 1).isLt
    have h2 : (i 2).val < 2816 := (i 2).isLt
    exact ext2 (Fin.ext (by show (((i 1).val * 2 + (i 0).val) * 2816 + (i 2).val) / 5632 = (i 1).val; omega)) rfl
  · have h0 : (i 0).val < 2 := (i 0).isLt
    have h1 : (i 1).val < 4096 := (i 1).isLt
    have h2 : (i 2).val < 2816 := (i 2).isLt
    exact ext3 rfl (Fin.ext (by show (k.val * 5632 + (((i 1).val * 2 + (i 0).val) * 2816 + (i 2).val) % 5632) / 5632 % 1024 = k.val; omega)) (Fin.ext (by show (k.val * 5632 + (((i 1).val * 2 + (i 0).val) * 2816 + (i 2).val) % 5632) % 5632 = 2816 * (i 0).val + (i 2).val; omega))

end Cert.UpFwd3ReferenceIdeal.Product

end
-- ==== Proof.UpFwd3Claim.lean ====
/- The claims for UpFwd3: the frame of its reference, and that the idealized call and the reference both hand on `result` of
   Proof/UpFwd3Value.lean. -/
module

public import proofs.«01_k».proof.Defs
public import proofs.«01_k».proof.Proof.UpFwd3Value
public import Idealize.ShloMosaic.Lib.Quiescent

@[expose] public section

noncomputable section

namespace Cert.UpFwd3Ideal.Product

open Idealize.ShloMosaic Idealize.ShloMosaic.StableHlo Idealize.SL.Sem

theorem frame_ref : Cert.quiescent_UpFwd3ReferenceIdeal (hUpFwd3ReferenceIdeal := Cert.UpFwd3ReferenceIdeal.Gen.facts) := fun m ρ _ =>
  (θ_run Cert.UpFwd3ReferenceIdeal.defs _ _).mono (fun r h => ⟨fun c => (h c).2, sem_eq_zero_of_no_sems (by decide) r.2⟩)
    (Cert.UpFwd3ReferenceIdeal.Value.run (F := Ideal) m ρ)

theorem algebraic : Cert.algebraic_UpFwd3Ideal_UpFwd3ReferenceIdeal (hUpFwd3Ideal := Cert.UpFwd3Ideal.Gen.facts)
    (hUpFwd3ReferenceIdeal := Cert.UpFwd3ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.UpFwd3Ideal.Value.run_blocks m g)
  · exact (θ_run _ _ _).mono (fun r h c => ⟨((h c).1.trans (Cert.UpFwd3ReferenceIdeal.Read.val_main_v7_eq _ _)).trans
      (Cert.Index.eq_at Cert.UpFwd3ReferenceIdeal.Product.value (hargs c).1 (hargs c).2), (h c).2⟩) (Cert.UpFwd3ReferenceIdeal.Value.run (F := Ideal) m' g')

end Cert.UpFwd3Ideal.Product

end
-- ==== Proof.DownFwd0Value.lean ====
/- The down projection of layer 0, onto the residual: what the call leaves, and that its reference hands on the same. -/
module

public import proofs.«01_k».proof.Proof.Index
public import proofs.«01_k».proof.Proof.Gen.DownFwd0Ideal.Value
public import proofs.«01_k».proof.Proof.Gen.DownFwd0ReferenceIdeal.Read

@[expose] public section

set_option maxRecDepth 16384

noncomputable section

namespace Cert.DownFwd0Ideal.Product

open Idealize.ShloMosaic Idealize.ShloMosaic.TcCoe Cert.DownFwd0Ideal Cert.DownFwd0Ideal.Gen Cert.Index

abbrev Lhs : Type := (⟨2, ![4096, 2816]⟩ : Shape).Idx → EReal
abbrev Rhs : Type := (⟨3, ![4, 2816, 1024]⟩ : Shape).Idx → EReal
abbrev Add : Type := (⟨2, ![4096, 1024]⟩ : Shape).Idx → EReal
abbrev Res : Type := (⟨2, ![4096, 1024]⟩ : Shape).Idx → EReal

/-- The product, entry by entry, onto the residual. -/
def entry (x : Lhs) (w : Rhs) (h : Add) (i : Fin 4096) (j : Fin 1024) : EReal := (∑ k : Fin 2816, x (ix2 i k) * w (ix3 0 k j)) + h (ix2 i j)
def result (x : Lhs) (w : Rhs) (h : Add) : Res := fun i => entry x w h (i 0) (i 1)

theorem out_apply (x : Vec Ideal S512x2816 .bf16) (y : Vec Ideal S1x2816x1024 .bf16) (h : Vec Ideal S512x1024 .f32) (a : Fin 512) (b : Fin 1024) :
    out0_3 x y h (ix2 a b) = (∑ k : Fin 2816, x (ix2 a k) * y (ix3 0 k b)) + h (ix2 a b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)
abbrev add : Add := m (c.tc.loc main_arg2)

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![t.val, 0] := by decide +kernel
theorem idx3 : ∀ t : Fin cfg0.N, win0_3.index t = ![t.val, 0] := by decide +kernel

theorem read0 (a : Fin 512) (k : Fin 2816) :
    iblk m c 0 t (ix2 a k) = lhs m c (ix2 (⟨512 * t.val + a.val, by have ht : t.val < 8 := t.isLt; omega⟩ : Fin 4096) k) := by
  blk_ext [iblk, idx0]
theorem read1 (k : Fin 2816) (b : Fin 1024) :
    iblk m c 1 t (ix3 0 k b) = rhs m c (ix3 0 k b) := by
  blk_ext [iblk, idx1]
theorem read2 (a : Fin 512) (b : Fin 1024) :
    iblk m c 2 t (ix2 a b) = add m c (ix2 (⟨512 * t.val + a.val, by have ht : t.val < 8 := t.isLt; omega⟩ : Fin 4096) b) := by
  blk_ext [iblk, idx2]

theorem emb3 (a : Fin 512) (b : Fin 1024) :
    ((cfg0.win 3).blk t).view.emb (ix2 a b) = (ix2 (⟨512 * t.val + a.val, by have ht : t.val < 8 := t.isLt; omega⟩ : Fin 4096) b : S4096x1024.Idx) := by
  funext k; fin_cases k <;> (apply Fin.ext; blk_simp [idx3 t]; try first | rfl | (rw [mul_comm]; rfl))

theorem arr3 : (dats m 0 c).arrAt 3 cfg0.N = result (lhs m c) (rhs m c) (add m c) := by
  refine (dats m 0 c).arrAt_eq_of_covers 3 _ (by decide +kernel) fun t hf y => ?_
  have ht : t.val < 8 := t.isLt
  obtain ⟨a, b, rfl⟩ := exists_ix2 y
  blk_simp
  rw [after0_3, emb3]
  refine (out_apply ..).trans ?_
  show _ = entry _ _ _ _ _
  unfold entry
  refine congrArg₂ (· + ·) ?_ (read2 m c t _ _)
  refine Finset.sum_congr rfl fun k _ => ?_
  rw [read0, read1]
  rfl

end Cert.DownFwd0Ideal.Product

namespace Cert.DownFwd0ReferenceIdeal.Product

open Idealize.ShloMosaic Cert.DownFwd0ReferenceIdeal Cert.DownFwd0ReferenceIdeal.Read Cert.DownFwd0Ideal.Product Cert.Index

theorem value (x : Lhs) (w : Rhs) (h : Add) : val_main_v5 (F := Ideal) x w h = result x w h := funext fun i => by
  rw [val_main_v5_apply, val_main_v4_apply]
  show _ = entry x w h (i 0) (i 1)
  unfold entry
  refine (add_comm _ _).trans (congrArg₂ (· + ·) ?_ (congrArg h (funext fun a => by match a with
    | ⟨0, _⟩ => rfl
    | ⟨1, _⟩ => rfl)))
  refine Fin.sum_fin_congr fun k => ?_
  rw [val_main_v2_apply, val_main_v3_apply, val_main_v1_apply, val_main_v0_apply]
  refine (congrArg₂ (· * ·) (congrArg x ?_) (congrArg w ?_))
  · exact ext2 rfl rfl
  · have h0 : (i 1).val < 1024 := (i 1).isLt
    exact ext3 rfl (Fin.ext (by show (k.val * 1024 + (i 1).val) / 1024 % 2816 = k.val; omega)) (Fin.ext (by show (k.val * 1024 + (i 1).val) % 1024 = (i 1).val; omega))

end Cert.DownFwd0ReferenceIdeal.Product

end
-- ==== Proof.DownFwd0Claim.lean ====
/- The claims for DownFwd0: the frame of its reference, and that the idealized call and the reference both hand on `result` of
   Proof/DownFwd0Value.lean. -/
module

public import proofs.«01_k».proof.Defs
public import proofs.«01_k».proof.Proof.DownFwd0Value
public import Idealize.ShloMosaic.Lib.Quiescent

@[expose] public section

noncomputable section

namespace Cert.DownFwd0Ideal.Product

open Idealize.ShloMosaic Idealize.ShloMosaic.StableHlo Idealize.SL.Sem

theorem frame_ref : Cert.quiescent_DownFwd0ReferenceIdeal (hDownFwd0ReferenceIdeal := Cert.DownFwd0ReferenceIdeal.Gen.facts) := fun m ρ _ =>
  (θ_run Cert.DownFwd0ReferenceIdeal.defs _ _).mono (fun r h => ⟨fun c => (h c).2, sem_eq_zero_of_no_sems (by decide) r.2⟩)
    (Cert.DownFwd0ReferenceIdeal.Value.run (F := Ideal) m ρ)

theorem algebraic : Cert.algebraic_DownFwd0Ideal_DownFwd0ReferenceIdeal (hDownFwd0Ideal := Cert.DownFwd0Ideal.Gen.facts)
    (hDownFwd0ReferenceIdeal := Cert.DownFwd0ReferenceIdeal.Gen.facts) := by
  intro m g m' g' _ hargs
  refine ⟨fun c => result (lhs m c) (rhs m c) (add m c), ?_, ?_⟩
  · exact (θ_run _ _ _).mono (fun r h c => ⟨(h c).1.trans (arr3 m c), (h c).2⟩) (Cert.DownFwd0Ideal.Value.run_blocks m g)
  · exact (θ_run _ _ _).mono (fun r h c => ⟨((h c).1.trans (Cert.DownFwd0ReferenceIdeal.Read.val_main_v5_eq _ _ _)).trans
      (Cert.Index.eq_at3 Cert.DownFwd0ReferenceIdeal.Product.value (hargs c).1 (hargs c).2.1 (hargs c).2.2), (h c).2⟩) (Cert.DownFwd0ReferenceIdeal.Value.run (F := Ideal) m' g')

end Cert.DownFwd0Ideal.Product

end
-- ==== Proof.DownFwd1Value.lean ====
/- The down projection of layer 1, onto the residual: what the call leaves, and that its reference hands on the same. -/
module

public import proofs.«01_k».proof.Proof.Index
public import proofs.«01_k».proof.Proof.Gen.DownFwd1Ideal.Value
public import proofs.«01_k».proof.Proof.Gen.DownFwd1ReferenceIdeal.Read

@[expose] public section

set_option maxRecDepth 16384

noncomputable section

namespace Cert.DownFwd1Ideal.Product

open Idealize.ShloMosaic Idealize.ShloMosaic.TcCoe Cert.DownFwd1Ideal Cert.DownFwd1Ideal.Gen Cert.Index

abbrev Lhs : Type := (⟨2, ![4096, 2816]⟩ : Shape).Idx → EReal
abbrev Rhs : Type := (⟨3, ![4, 2816, 1024]⟩ : Shape).Idx → EReal
abbrev Add : Type := (⟨2, ![4096, 1024]⟩ : Shape).Idx → EReal
abbrev Res : Type := (⟨2, ![4096, 1024]⟩ : Shape).Idx → EReal

/-- The product, entry by entry, onto the residual. -/
def entry (x : Lhs) (w : Rhs) (h : Add) (i : Fin 4096) (j : Fin 1024) : EReal := (∑ k : Fin 2816, x (ix2 i k) * w (ix3 1 k j)) + h (ix2 i j)
def result (x : Lhs) (w : Rhs) (h : Add) : Res := fun i => entry x w h (i 0) (i 1)

theorem out_apply (x : Vec Ideal S512x2816 .bf16) (y : Vec Ideal S1x2816x1024 .bf16) (h : Vec Ideal S512x1024 .f32) (a : Fin 512) (b : Fin 1024) :
    out0_3 x y h (ix2 a b) = (∑ k : Fin 2816, x (ix2 a k) * y (ix3 0 k b)) + h (ix2 a b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)
abbrev add : Add := m (c.tc.loc main_arg2)

theorem idx0 : ∀ t : Fin cfg0.N, win0_0.index t = ![t.val, 0] := by decide +kernel
theorem idx1 : ∀ t : Fin cfg0.N, win0_1.index t = ![1, 0, 0] := by decide +kernel
theorem idx2 : ∀ t : Fin cfg0.N, win0_2.index t = ![t.val, 0] := by decide +kernel
theorem idx3 : ∀ t : Fin cfg0.N, win0_3.index t = ![t.val, 0] := by decide +kernel

theorem read0 (a : Fin 512) (k : Fin 2816) :
    iblk m c 0 t (ix2 a k) = lhs m c (ix2 (⟨512 * t.val + a.val, by have ht : t.val < 8 := t.isLt; omega⟩ : Fin 4096) k) := by
  blk_ext [iblk, idx0]
theorem read1 (k : Fin 2816) (b : Fin 1024) :
    iblk m c 1 t (ix3 0 k b) = rhs m c (ix3 1 k b) := by
  blk_ext [iblk, idx1]
theorem read2 (a : Fin 512) (b : Fin 1024) :
    iblk m c 2 t (ix2 a b) = add m c (ix2 (⟨512 * t.val + a.val, by have ht : t.val < 8 := t.isLt; omega⟩ : Fin 4096) b) := by
  blk_ext [iblk, idx2]

theorem emb3 (a : Fin 512) (b : Fin 1024) :
    ((cfg0.win 3).blk t).view.emb (ix2 a b) = (ix2 (⟨512 * t.val + a.val, by have ht : t.val < 8 := t.isLt; omega⟩ : Fin 4096) b : S4096x1024.Idx) := by
  funext k; fin_cases k <;> (apply Fin.ext; blk_simp [idx3 t]; try first | rfl | (rw [mul_comm]; rfl))

theorem arr3 : (dats m 0 c).arrAt 3 cfg0.N = result (lhs m c) (rhs m c) (add m c) := by
  refine (dats m 0 c).arrAt_eq_of_covers 3 _ (by decide +kernel) fun t hf y => ?_
  have ht : t.val < 8 := t.isLt
  obtain ⟨a, b, rfl⟩ := exists_ix2 y
  blk_simp
  rw [after0_3, emb3]
  refine (out_apply ..).trans ?_
  show _ = entry _ _ _ _ _
  unfold entry
  refine congrArg₂ (· + ·) ?_ (read2 m c t _ _)
  refine Finset.sum_congr rfl fun k _ => ?_
  rw [read0, read1]
  rfl

end Cert.DownFwd1Ideal.Product

namespace Cert.DownFwd1ReferenceIdeal.Product

open Idealize.ShloMosaic Cert.DownFwd1ReferenceIdeal Cert.DownFwd1ReferenceIdeal.Read Cert.DownFwd1Ideal.Product Cert.Index

theorem value (x : Lhs) (w : Rhs) (h : Add) : val_main_v5 (F := Ideal) x w h = result x w h := funext fun i => by
  rw [val_main_v5_apply, val_main_v4_apply]
  show _ = entry x w h (i 0) (i 1)
  unfold entry
  refine (add_comm _ _).trans (congrArg₂ (· + ·) ?_ (congrArg h (funext fun a => by match a with
    | ⟨0, _⟩ => rfl
    | ⟨1, _⟩ => rfl)))
  refine Fin.sum_fin_congr fun k => ?_
  rw [val_main_v2_apply, val_main_v3_apply, val_main_v1_apply, val_main_v0_apply]
  refine (congrArg₂ (· * ·) (congrArg x ?_) (congrArg w ?_))
  · exact ext2 rfl rfl
  · have h0 : (i 1).val < 1024 := (i 1).isLt
    exact ext3 rfl (Fin.ext (by show (k.val * 1024 + (i 1).val) / 1024 % 2816 = k.val; omega)) (Fin.ext (by show (k.val * 1024 + (i 1).val) % 1024 = (i 1).val; omega))

end Cert.DownFwd1ReferenceIdeal.Product

end
-- ==== Proof.DownFwd1Claim.lean ====
/- The claims for DownFwd1: the frame of its reference, and that the idealized call and the reference both hand on `result` of
   Proof/DownFwd1Value.lean. -/
module

public import proofs.«01_k».proof.Defs
public import proofs.«01_k».proof.Proof.DownFwd1Value
public import Idealize.ShloMosaic.Lib.Quiescent

@[expose] public section

noncomputable section

namespace Cert.DownFwd1Ideal.Product

open Idealize.ShloMosaic Idealize.ShloMosaic.StableHlo Idealize.SL.Sem

theorem frame_ref : Cert.quiescent_DownFwd1ReferenceIdeal (hDownFwd1ReferenceIdeal := Cert.DownFwd1ReferenceIdeal.Gen.facts) := fun m ρ _ =>
  (θ_run Cert.DownFwd1ReferenceIdeal.defs _ _).mono (fun r h => ⟨fun c => (h c).2, sem_eq_zero_of_no_sems (by decide) r.2⟩)
    (Cert.DownFwd1ReferenceIdeal.Value.run (F := Ideal) m ρ)

theorem algebraic : Cert.algebraic_DownFwd1Ideal_DownFwd1ReferenceIdeal (hDownFwd1Ideal := Cert.DownFwd1Ideal.Gen.facts)
    (hDownFwd1ReferenceIdeal := Cert.DownFwd1ReferenceIdeal.Gen.facts) := by
  intro m g m' g' _ hargs
  refine ⟨fun c => result (lhs m c) (rhs m c) (add m c), ?_, ?_⟩
  · exact (θ_run _ _ _).mono (fun r h c => ⟨(h c).1.trans (arr3 m c), (h c).2⟩) (Cert.DownFwd1Ideal.Value.run_blocks m g)
  · exact (θ_run _ _ _).mono (fun r h c => ⟨((h c).1.trans (Cert.DownFwd1ReferenceIdeal.Read.val_main_v5_eq _ _ _)).trans
      (Cert.Index.eq_at3 Cert.DownFwd1ReferenceIdeal.Product.value (hargs c).1 (hargs c).2.1 (hargs c).2.2), (h c).2⟩) (Cert.DownFwd1ReferenceIdeal.Value.run (F := Ideal) m' g')

end Cert.DownFwd1Ideal.Product

end
-- ==== Proof.DownFwd2Value.lean ====
/- The down projection of layer 2, onto the residual: what the call leaves, and that its reference hands on the same. -/
module

public import proofs.«01_k».proof.Proof.Index
public import proofs.«01_k».proof.Proof.Gen.DownFwd2Ideal.Value
public import proofs.«01_k».proof.Proof.Gen.DownFwd2ReferenceIdeal.Read

@[expose] public section

set_option maxRecDepth 16384

noncomputable section

namespace Cert.DownFwd2Ideal.Product

open Idealize.ShloMosaic Idealize.ShloMosaic.TcCoe Cert.DownFwd2Ideal Cert.DownFwd2Ideal.Gen Cert.Index

abbrev Lhs : Type := (⟨2, ![4096, 2816]⟩ : Shape).Idx → EReal
abbrev Rhs : Type := (⟨3, ![4, 2816, 1024]⟩ : Shape).Idx → EReal
abbrev Add : Type := (⟨2, ![4096, 1024]⟩ : Shape).Idx → EReal
abbrev Res : Type := (⟨2, ![4096, 1024]⟩ : Shape).Idx → EReal

/-- The product, entry by entry, onto the residual. -/
def entry (x : Lhs) (w : Rhs) (h : Add) (i : Fin 4096) (j : Fin 1024) : EReal := (∑ k : Fin 2816, x (ix2 i k) * w (ix3 2 k j)) + h (ix2 i j)
def result (x : Lhs) (w : Rhs) (h : Add) : Res := fun i => entry x w h (i 0) (i 1)

theorem out_apply (x : Vec Ideal S512x2816 .bf16) (y : Vec Ideal S1x2816x1024 .bf16) (h : Vec Ideal S512x1024 .f32) (a : Fin 512) (b : Fin 1024) :
    out0_3 x y h (ix2 a b) = (∑ k : Fin 2816, x (ix2 a k) * y (ix3 0 k b)) + h (ix2 a b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)
abbrev add : Add := m (c.tc.loc main_arg2)

theorem idx0 : ∀ t : Fin cfg0.N, win0_0.index t = ![t.val, 0] := by decide +kernel
theorem idx1 : ∀ t : Fin cfg0.N, win0_1.index t = ![2, 0, 0] := by decide +kernel
theorem idx2 : ∀ t : Fin cfg0.N, win0_2.index t = ![t.val, 0] := by decide +kernel
theorem idx3 : ∀ t : Fin cfg0.N, win0_3.index t = ![t.val, 0] := by decide +kernel

theorem read0 (a : Fin 512) (k : Fin 2816) :
    iblk m c 0 t (ix2 a k) = lhs m c (ix2 (⟨512 * t.val + a.val, by have ht : t.val < 8 := t.isLt; omega⟩ : Fin 4096) k) := by
  blk_ext [iblk, idx0]
theorem read1 (k : Fin 2816) (b : Fin 1024) :
    iblk m c 1 t (ix3 0 k b) = rhs m c (ix3 2 k b) := by
  blk_ext [iblk, idx1]
theorem read2 (a : Fin 512) (b : Fin 1024) :
    iblk m c 2 t (ix2 a b) = add m c (ix2 (⟨512 * t.val + a.val, by have ht : t.val < 8 := t.isLt; omega⟩ : Fin 4096) b) := by
  blk_ext [iblk, idx2]

theorem emb3 (a : Fin 512) (b : Fin 1024) :
    ((cfg0.win 3).blk t).view.emb (ix2 a b) = (ix2 (⟨512 * t.val + a.val, by have ht : t.val < 8 := t.isLt; omega⟩ : Fin 4096) b : S4096x1024.Idx) := by
  funext k; fin_cases k <;> (apply Fin.ext; blk_simp [idx3 t]; try first | rfl | (rw [mul_comm]; rfl))

theorem arr3 : (dats m 0 c).arrAt 3 cfg0.N = result (lhs m c) (rhs m c) (add m c) := by
  refine (dats m 0 c).arrAt_eq_of_covers 3 _ (by decide +kernel) fun t hf y => ?_
  have ht : t.val < 8 := t.isLt
  obtain ⟨a, b, rfl⟩ := exists_ix2 y
  blk_simp
  rw [after0_3, emb3]
  refine (out_apply ..).trans ?_
  show _ = entry _ _ _ _ _
  unfold entry
  refine congrArg₂ (· + ·) ?_ (read2 m c t _ _)
  refine Finset.sum_congr rfl fun k _ => ?_
  rw [read0, read1]
  rfl

end Cert.DownFwd2Ideal.Product

namespace Cert.DownFwd2ReferenceIdeal.Product

open Idealize.ShloMosaic Cert.DownFwd2ReferenceIdeal Cert.DownFwd2ReferenceIdeal.Read Cert.DownFwd2Ideal.Product Cert.Index

theorem value (x : Lhs) (w : Rhs) (h : Add) : val_main_v5 (F := Ideal) x w h = result x w h := funext fun i => by
  rw [val_main_v5_apply, val_main_v4_apply]
  show _ = entry x w h (i 0) (i 1)
  unfold entry
  refine (add_comm _ _).trans (congrArg₂ (· + ·) ?_ (congrArg h (funext fun a => by match a with
    | ⟨0, _⟩ => rfl
    | ⟨1, _⟩ => rfl)))
  refine Fin.sum_fin_congr fun k => ?_
  rw [val_main_v2_apply, val_main_v3_apply, val_main_v1_apply, val_main_v0_apply]
  refine (congrArg₂ (· * ·) (congrArg x ?_) (congrArg w ?_))
  · exact ext2 rfl rfl
  · have h0 : (i 1).val < 1024 := (i 1).isLt
    exact ext3 rfl (Fin.ext (by show (k.val * 1024 + (i 1).val) / 1024 % 2816 = k.val; omega)) (Fin.ext (by show (k.val * 1024 + (i 1).val) % 1024 = (i 1).val; omega))

end Cert.DownFwd2ReferenceIdeal.Product

end
-- ==== Proof.DownFwd2Claim.lean ====
/- The claims for DownFwd2: the frame of its reference, and that the idealized call and the reference both hand on `result` of
   Proof/DownFwd2Value.lean. -/
module

public import proofs.«01_k».proof.Defs
public import proofs.«01_k».proof.Proof.DownFwd2Value
public import Idealize.ShloMosaic.Lib.Quiescent

@[expose] public section

noncomputable section

namespace Cert.DownFwd2Ideal.Product

open Idealize.ShloMosaic Idealize.ShloMosaic.StableHlo Idealize.SL.Sem

theorem frame_ref : Cert.quiescent_DownFwd2ReferenceIdeal (hDownFwd2ReferenceIdeal := Cert.DownFwd2ReferenceIdeal.Gen.facts) := fun m ρ _ =>
  (θ_run Cert.DownFwd2ReferenceIdeal.defs _ _).mono (fun r h => ⟨fun c => (h c).2, sem_eq_zero_of_no_sems (by decide) r.2⟩)
    (Cert.DownFwd2ReferenceIdeal.Value.run (F := Ideal) m ρ)

theorem algebraic : Cert.algebraic_DownFwd2Ideal_DownFwd2ReferenceIdeal (hDownFwd2Ideal := Cert.DownFwd2Ideal.Gen.facts)
    (hDownFwd2ReferenceIdeal := Cert.DownFwd2ReferenceIdeal.Gen.facts) := by
  intro m g m' g' _ hargs
  refine ⟨fun c => result (lhs m c) (rhs m c) (add m c), ?_, ?_⟩
  · exact (θ_run _ _ _).mono (fun r h c => ⟨(h c).1.trans (arr3 m c), (h c).2⟩) (Cert.DownFwd2Ideal.Value.run_blocks m g)
  · exact (θ_run _ _ _).mono (fun r h c => ⟨((h c).1.trans (Cert.DownFwd2ReferenceIdeal.Read.val_main_v5_eq _ _ _)).trans
      (Cert.Index.eq_at3 Cert.DownFwd2ReferenceIdeal.Product.value (hargs c).1 (hargs c).2.1 (hargs c).2.2), (h c).2⟩) (Cert.DownFwd2ReferenceIdeal.Value.run (F := Ideal) m' g')

end Cert.DownFwd2Ideal.Product

end
-- ==== Proof.DownFwd3Value.lean ====
/- The down projection of layer 3, onto the residual: what the call leaves, and that its reference hands on the same. -/
module

public import proofs.«01_k».proof.Proof.Index
public import proofs.«01_k».proof.Proof.Gen.DownFwd3Ideal.Value
public import proofs.«01_k».proof.Proof.Gen.DownFwd3ReferenceIdeal.Read

@[expose] public section

set_option maxRecDepth 16384

noncomputable section

namespace Cert.DownFwd3Ideal.Product

open Idealize.ShloMosaic Idealize.ShloMosaic.TcCoe Cert.DownFwd3Ideal Cert.DownFwd3Ideal.Gen Cert.Index

abbrev Lhs : Type := (⟨2, ![4096, 2816]⟩ : Shape).Idx → EReal
abbrev Rhs : Type := (⟨3, ![4, 2816, 1024]⟩ : Shape).Idx → EReal
abbrev Add : Type := (⟨2, ![4096, 1024]⟩ : Shape).Idx → EReal
abbrev Res : Type := (⟨2, ![4096, 1024]⟩ : Shape).Idx → EReal

/-- The product, entry by entry, onto the residual. -/
def entry (x : Lhs) (w : Rhs) (h : Add) (i : Fin 4096) (j : Fin 1024) : EReal := (∑ k : Fin 2816, x (ix2 i k) * w (ix3 3 k j)) + h (ix2 i j)
def result (x : Lhs) (w : Rhs) (h : Add) : Res := fun i => entry x w h (i 0) (i 1)

theorem out_apply (x : Vec Ideal S512x2816 .bf16) (y : Vec Ideal S1x2816x1024 .bf16) (h : Vec Ideal S512x1024 .f32) (a : Fin 512) (b : Fin 1024) :
    out0_3 x y h (ix2 a b) = (∑ k : Fin 2816, x (ix2 a k) * y (ix3 0 k b)) + h (ix2 a b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)
abbrev add : Add := m (c.tc.loc main_arg2)

theorem idx0 : ∀ t : Fin cfg0.N, win0_0.index t = ![t.val, 0] := by decide +kernel
theorem idx1 : ∀ t : Fin cfg0.N, win0_1.index t = ![3, 0, 0] := by decide +kernel
theorem idx2 : ∀ t : Fin cfg0.N, win0_2.index t = ![t.val, 0] := by decide +kernel
theorem idx3 : ∀ t : Fin cfg0.N, win0_3.index t = ![t.val, 0] := by decide +kernel

theorem read0 (a : Fin 512) (k : Fin 2816) :
    iblk m c 0 t (ix2 a k) = lhs m c (ix2 (⟨512 * t.val + a.val, by have ht : t.val < 8 := t.isLt; omega⟩ : Fin 4096) k) := by
  blk_ext [iblk, idx0]
theorem read1 (k : Fin 2816) (b : Fin 1024) :
    iblk m c 1 t (ix3 0 k b) = rhs m c (ix3 3 k b) := by
  blk_ext [iblk, idx1]
theorem read2 (a : Fin 512) (b : Fin 1024) :
    iblk m c 2 t (ix2 a b) = add m c (ix2 (⟨512 * t.val + a.val, by have ht : t.val < 8 := t.isLt; omega⟩ : Fin 4096) b) := by
  blk_ext [iblk, idx2]

theorem emb3 (a : Fin 512) (b : Fin 1024) :
    ((cfg0.win 3).blk t).view.emb (ix2 a b) = (ix2 (⟨512 * t.val + a.val, by have ht : t.val < 8 := t.isLt; omega⟩ : Fin 4096) b : S4096x1024.Idx) := by
  funext k; fin_cases k <;> (apply Fin.ext; blk_simp [idx3 t]; try first | rfl | (rw [mul_comm]; rfl))

theorem arr3 : (dats m 0 c).arrAt 3 cfg0.N = result (lhs m c) (rhs m c) (add m c) := by
  refine (dats m 0 c).arrAt_eq_of_covers 3 _ (by decide +kernel) fun t hf y => ?_
  have ht : t.val < 8 := t.isLt
  obtain ⟨a, b, rfl⟩ := exists_ix2 y
  blk_simp
  rw [after0_3, emb3]
  refine (out_apply ..).trans ?_
  show _ = entry _ _ _ _ _
  unfold entry
  refine congrArg₂ (· + ·) ?_ (read2 m c t _ _)
  refine Finset.sum_congr rfl fun k _ => ?_
  rw [read0, read1]
  rfl

end Cert.DownFwd3Ideal.Product

namespace Cert.DownFwd3ReferenceIdeal.Product

open Idealize.ShloMosaic Cert.DownFwd3ReferenceIdeal Cert.DownFwd3ReferenceIdeal.Read Cert.DownFwd3Ideal.Product Cert.Index

theorem value (x : Lhs) (w : Rhs) (h : Add) : val_main_v5 (F := Ideal) x w h = result x w h := funext fun i => by
  rw [val_main_v5_apply, val_main_v4_apply]
  show _ = entry x w h (i 0) (i 1)
  unfold entry
  refine (add_comm _ _).trans (congrArg₂ (· + ·) ?_ (congrArg h (funext fun a => by match a with
    | ⟨0, _⟩ => rfl
    | ⟨1, _⟩ => rfl)))
  refine Fin.sum_fin_congr fun k => ?_
  rw [val_main_v2_apply, val_main_v3_apply, val_main_v1_apply, val_main_v0_apply]
  refine (congrArg₂ (· * ·) (congrArg x ?_) (congrArg w ?_))
  · exact ext2 rfl rfl
  · have h0 : (i 1).val < 1024 := (i 1).isLt
    exact ext3 rfl (Fin.ext (by show (k.val * 1024 + (i 1).val) / 1024 % 2816 = k.val; omega)) (Fin.ext (by show (k.val * 1024 + (i 1).val) % 1024 = (i 1).val; omega))

end Cert.DownFwd3ReferenceIdeal.Product

end
-- ==== Proof.DownFwd3Claim.lean ====
/- The claims for DownFwd3: the frame of its reference, and that the idealized call and the reference both hand on `result` of
   Proof/DownFwd3Value.lean. -/
module

public import proofs.«01_k».proof.Defs
public import proofs.«01_k».proof.Proof.DownFwd3Value
public import Idealize.ShloMosaic.Lib.Quiescent

@[expose] public section

noncomputable section

namespace Cert.DownFwd3Ideal.Product

open Idealize.ShloMosaic Idealize.ShloMosaic.StableHlo Idealize.SL.Sem

theorem frame_ref : Cert.quiescent_DownFwd3ReferenceIdeal (hDownFwd3ReferenceIdeal := Cert.DownFwd3ReferenceIdeal.Gen.facts) := fun m ρ _ =>
  (θ_run Cert.DownFwd3ReferenceIdeal.defs _ _).mono (fun r h => ⟨fun c => (h c).2, sem_eq_zero_of_no_sems (by decide) r.2⟩)
    (Cert.DownFwd3ReferenceIdeal.Value.run (F := Ideal) m ρ)

theorem algebraic : Cert.algebraic_DownFwd3Ideal_DownFwd3ReferenceIdeal (hDownFwd3Ideal := Cert.DownFwd3Ideal.Gen.facts)
    (hDownFwd3ReferenceIdeal := Cert.DownFwd3ReferenceIdeal.Gen.facts) := by
  intro m g m' g' _ hargs
  refine ⟨fun c => result (lhs m c) (rhs m c) (add m c), ?_, ?_⟩
  · exact (θ_run _ _ _).mono (fun r h c => ⟨(h c).1.trans (arr3 m c), (h c).2⟩) (Cert.DownFwd3Ideal.Value.run_blocks m g)
  · exact (θ_run _ _ _).mono (fun r h c => ⟨((h c).1.trans (Cert.DownFwd3ReferenceIdeal.Read.val_main_v5_eq _ _ _)).trans
      (Cert.Index.eq_at3 Cert.DownFwd3ReferenceIdeal.Product.value (hargs c).1 (hargs c).2.1 (hargs c).2.2), (h c).2⟩) (Cert.DownFwd3ReferenceIdeal.Value.run (F := Ideal) m' g')

end Cert.DownFwd3Ideal.Product

end
-- ==== Proof.AttnInFwd0Value.lean ====
/- The projection into attention 0: what the call leaves, and that its reference hands on the same. -/
module

public import proofs.«01_k».proof.Proof.Index
public import proofs.«01_k».proof.Proof.Gen.AttnInFwd0Ideal.Value
public import proofs.«01_k».proof.Proof.Gen.AttnInFwd0ReferenceIdeal.Read

@[expose] public section

set_option maxRecDepth 16384

noncomputable section

namespace Cert.AttnInFwd0Ideal.Product

open Idealize.ShloMosaic Idealize.ShloMosaic.TcCoe Cert.AttnInFwd0Ideal Cert.AttnInFwd0Ideal.Gen Cert.Index

abbrev Lhs : Type := (⟨2, ![4096, 1024]⟩ : Shape).Idx → EReal
abbrev Rhs : Type := (⟨3, ![2, 1024, 1536]⟩ : Shape).Idx → EReal
abbrev Res : Type := (⟨2, ![4096, 1536]⟩ : Shape).Idx → EReal

/-- The product, entry by entry. -/
def entry (x : Lhs) (w : Rhs) (i : Fin 4096) (j : Fin 1536) : EReal := ∑ k : Fin 1024, x (ix2 i k) * w (ix3 0 k j)
def result (x : Lhs) (w : Rhs) : Res := fun i => entry x w (i 0) (i 1)

theorem out_apply (x : Vec Ideal S1024x1024 .bf16) (y : Vec Ideal S1x1024x1536 .bf16) (a : Fin 1024) (b : Fin 1536) :
    out0_2 x y (ix2 a b) = ∑ k : Fin 1024, x (ix2 a k) * y (ix3 0 k b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![t.val, 0] := by decide +kernel

theorem read0 (a k : Fin 1024) :
    iblk m c 0 t (ix2 a k) = lhs m c (ix2 (⟨1024 * t.val + a.val, by have ht : t.val < 4 := t.isLt; omega⟩ : Fin 4096) k) := by
  blk_ext [iblk, idx0]
theorem read1 (k : Fin 1024) (b : Fin 1536) :
    iblk m c 1 t (ix3 0 k b) = rhs m c (ix3 0 k b) := by
  blk_ext [iblk, idx1]

theorem emb2 (a : Fin 1024) (b : Fin 1536) :
    ((cfg0.win 2).blk t).view.emb (ix2 a b) = (ix2 (⟨1024 * t.val + a.val, by have ht : t.val < 4 := t.isLt; omega⟩ : Fin 4096) b : S4096x1536.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 4 := t.isLt
  obtain ⟨a, b, rfl⟩ := exists_ix2 y
  blk_simp
  rw [after0_2, emb2]
  refine (out_apply ..).trans ?_
  show _ = entry _ _ _ _
  unfold entry
  refine Finset.sum_congr rfl fun k _ => ?_
  rw [read0, read1]
  rfl

end Cert.AttnInFwd0Ideal.Product

namespace Cert.AttnInFwd0ReferenceIdeal.Product

open Idealize.ShloMosaic Cert.AttnInFwd0ReferenceIdeal Cert.AttnInFwd0ReferenceIdeal.Read Cert.AttnInFwd0Ideal.Product Cert.Index

theorem value (x : Lhs) (w : Rhs) : val_main_v5 (F := Ideal) x w = result x w := funext fun i => by
  rw [val_main_v5_apply, val_main_v4_apply]
  show _ = entry x w (i 0) (i 1)
  unfold entry
  refine Fin.sum_fin_congr fun k => ?_
  rw [val_main_v2_apply, val_main_v3_apply, val_main_v1_apply, val_main_v0_apply]
  refine (congrArg₂ (· * ·) (congrArg x ?_) (congrArg w ?_))
  · exact ext2 rfl rfl
  · have h0 : (i 1).val < 1536 := (i 1).isLt
    exact ext3 rfl (Fin.ext (by show (k.val * 1536 + (i 1).val) / 1536 % 1024 = k.val; omega)) (Fin.ext (by show (k.val * 1536 + (i 1).val) % 1536 = (i 1).val; omega))

end Cert.AttnInFwd0ReferenceIdeal.Product

end
-- ==== Proof.AttnInFwd0Claim.lean ====
/- The claims for AttnInFwd0: the frame of its reference, and that the idealized call and the reference both hand on `result` of
   Proof/AttnInFwd0Value.lean. -/
module

public import proofs.«01_k».proof.Defs
public import proofs.«01_k».proof.Proof.AttnInFwd0Value
public import Idealize.ShloMosaic.Lib.Quiescent

@[expose] public section

noncomputable section

namespace Cert.AttnInFwd0Ideal.Product

open Idealize.ShloMosaic Idealize.ShloMosaic.StableHlo Idealize.SL.Sem

theorem frame_ref : Cert.quiescent_AttnInFwd0ReferenceIdeal (hAttnInFwd0ReferenceIdeal := Cert.AttnInFwd0ReferenceIdeal.Gen.facts) := fun m ρ _ =>
  (θ_run Cert.AttnInFwd0ReferenceIdeal.defs _ _).mono (fun r h => ⟨fun c => (h c).2, sem_eq_zero_of_no_sems (by decide) r.2⟩)
    (Cert.AttnInFwd0ReferenceIdeal.Value.run (F := Ideal) m ρ)

theorem algebraic : Cert.algebraic_AttnInFwd0Ideal_AttnInFwd0ReferenceIdeal (hAttnInFwd0Ideal := Cert.AttnInFwd0Ideal.Gen.facts)
    (hAttnInFwd0ReferenceIdeal := Cert.AttnInFwd0ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.AttnInFwd0Ideal.Value.run_blocks m g)
  · exact (θ_run _ _ _).mono (fun r h c => ⟨((h c).1.trans (Cert.AttnInFwd0ReferenceIdeal.Read.val_main_v5_eq _ _)).trans
      (Cert.Index.eq_at Cert.AttnInFwd0ReferenceIdeal.Product.value (hargs c).1 (hargs c).2), (h c).2⟩) (Cert.AttnInFwd0ReferenceIdeal.Value.run (F := Ideal) m' g')

end Cert.AttnInFwd0Ideal.Product

end
-- ==== Proof.AttnInFwd1Value.lean ====
/- The projection into attention 1: what the call leaves, and that its reference hands on the same. -/
module

public import proofs.«01_k».proof.Proof.Index
public import proofs.«01_k».proof.Proof.Gen.AttnInFwd1Ideal.Value
public import proofs.«01_k».proof.Proof.Gen.AttnInFwd1ReferenceIdeal.Read

@[expose] public section

set_option maxRecDepth 16384

noncomputable section

namespace Cert.AttnInFwd1Ideal.Product

open Idealize.ShloMosaic Idealize.ShloMosaic.TcCoe Cert.AttnInFwd1Ideal Cert.AttnInFwd1Ideal.Gen Cert.Index

abbrev Lhs : Type := (⟨2, ![4096, 1024]⟩ : Shape).Idx → EReal
abbrev Rhs : Type := (⟨3, ![2, 1024, 1536]⟩ : Shape).Idx → EReal
abbrev Res : Type := (⟨2, ![4096, 1536]⟩ : Shape).Idx → EReal

/-- The product, entry by entry. -/
def entry (x : Lhs) (w : Rhs) (i : Fin 4096) (j : Fin 1536) : EReal := ∑ k : Fin 1024, x (ix2 i k) * w (ix3 1 k j)
def result (x : Lhs) (w : Rhs) : Res := fun i => entry x w (i 0) (i 1)

theorem out_apply (x : Vec Ideal S1024x1024 .bf16) (y : Vec Ideal S1x1024x1536 .bf16) (a : Fin 1024) (b : Fin 1536) :
    out0_2 x y (ix2 a b) = ∑ k : Fin 1024, x (ix2 a k) * y (ix3 0 k b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val, 0] := by decide +kernel
theorem idx1 : ∀ t : Fin cfg0.N, win0_1.index t = ![1, 0, 0] := by decide +kernel
theorem idx2 : ∀ t : Fin cfg0.N, win0_2.index t = ![t.val, 0] := by decide +kernel

theorem read0 (a k : Fin 1024) :
    iblk m c 0 t (ix2 a k) = lhs m c (ix2 (⟨1024 * t.val + a.val, by have ht : t.val < 4 := t.isLt; omega⟩ : Fin 4096) k) := by
  blk_ext [iblk, idx0]
theorem read1 (k : Fin 1024) (b : Fin 1536) :
    iblk m c 1 t (ix3 0 k b) = rhs m c (ix3 1 k b) := by
  blk_ext [iblk, idx1]

theorem emb2 (a : Fin 1024) (b : Fin 1536) :
    ((cfg0.win 2).blk t).view.emb (ix2 a b) = (ix2 (⟨1024 * t.val + a.val, by have ht : t.val < 4 := t.isLt; omega⟩ : Fin 4096) b : S4096x1536.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 4 := t.isLt
  obtain ⟨a, b, rfl⟩ := exists_ix2 y
  blk_simp
  rw [after0_2, emb2]
  refine (out_apply ..).trans ?_
  show _ = entry _ _ _ _
  unfold entry
  refine Finset.sum_congr rfl fun k _ => ?_
  rw [read0, read1]
  rfl

end Cert.AttnInFwd1Ideal.Product

namespace Cert.AttnInFwd1ReferenceIdeal.Product

open Idealize.ShloMosaic Cert.AttnInFwd1ReferenceIdeal Cert.AttnInFwd1ReferenceIdeal.Read Cert.AttnInFwd1Ideal.Product Cert.Index

theorem value (x : Lhs) (w : Rhs) : val_main_v5 (F := Ideal) x w = result x w := funext fun i => by
  rw [val_main_v5_apply, val_main_v4_apply]
  show _ = entry x w (i 0) (i 1)
  unfold entry
  refine Fin.sum_fin_congr fun k => ?_
  rw [val_main_v2_apply, val_main_v3_apply, val_main_v1_apply, val_main_v0_apply]
  refine (congrArg₂ (· * ·) (congrArg x ?_) (congrArg w ?_))
  · exact ext2 rfl rfl
  · have h0 : (i 1).val < 1536 := (i 1).isLt
    exact ext3 rfl (Fin.ext (by show (k.val * 1536 + (i 1).val) / 1536 % 1024 = k.val; omega)) (Fin.ext (by show (k.val * 1536 + (i 1).val) % 1536 = (i 1).val; omega))

end Cert.AttnInFwd1ReferenceIdeal.Product

end
-- ==== Proof.AttnInFwd1Claim.lean ====
/- The claims for AttnInFwd1: the frame of its reference, and that the idealized call and the reference both hand on `result` of
   Proof/AttnInFwd1Value.lean. -/
module

public import proofs.«01_k».proof.Defs
public import proofs.«01_k».proof.Proof.AttnInFwd1Value
public import Idealize.ShloMosaic.Lib.Quiescent

@[expose] public section

noncomputable section

namespace Cert.AttnInFwd1Ideal.Product

open Idealize.ShloMosaic Idealize.ShloMosaic.StableHlo Idealize.SL.Sem

theorem frame_ref : Cert.quiescent_AttnInFwd1ReferenceIdeal (hAttnInFwd1ReferenceIdeal := Cert.AttnInFwd1ReferenceIdeal.Gen.facts) := fun m ρ _ =>
  (θ_run Cert.AttnInFwd1ReferenceIdeal.defs _ _).mono (fun r h => ⟨fun c => (h c).2, sem_eq_zero_of_no_sems (by decide) r.2⟩)
    (Cert.AttnInFwd1ReferenceIdeal.Value.run (F := Ideal) m ρ)

theorem algebraic : Cert.algebraic_AttnInFwd1Ideal_AttnInFwd1ReferenceIdeal (hAttnInFwd1Ideal := Cert.AttnInFwd1Ideal.Gen.facts)
    (hAttnInFwd1ReferenceIdeal := Cert.AttnInFwd1ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.AttnInFwd1Ideal.Value.run_blocks m g)
  · exact (θ_run _ _ _).mono (fun r h c => ⟨((h c).1.trans (Cert.AttnInFwd1ReferenceIdeal.Read.val_main_v5_eq _ _)).trans
      (Cert.Index.eq_at Cert.AttnInFwd1ReferenceIdeal.Product.value (hargs c).1 (hargs c).2), (h c).2⟩) (Cert.AttnInFwd1ReferenceIdeal.Value.run (F := Ideal) m' g')

end Cert.AttnInFwd1Ideal.Product

end
-- ==== Proof.HgrnInFwd0Value.lean ====
/- The projection into recurrence 0: what the call leaves, and that its reference hands on the same. -/
module

public import proofs.«01_k».proof.Proof.Index
public import proofs.«01_k».proof.Proof.Gen.HgrnInFwd0Ideal.Value
public import proofs.«01_k».proof.Proof.Gen.HgrnInFwd0ReferenceIdeal.Read

@[expose] public section

set_option maxRecDepth 16384

noncomputable section

namespace Cert.HgrnInFwd0Ideal.Product

open Idealize.ShloMosaic Idealize.ShloMosaic.TcCoe Cert.HgrnInFwd0Ideal Cert.HgrnInFwd0Ideal.Gen Cert.Index

abbrev Lhs : Type := (⟨2, ![4096, 1024]⟩ : Shape).Idx → EReal
abbrev Rhs : Type := (⟨3, ![2, 1024, 4096]⟩ : Shape).Idx → EReal
abbrev Res : Type := (⟨2, ![4096, 4096]⟩ : Shape).Idx → EReal

/-- The product, entry by entry. -/
def entry (x : Lhs) (w : Rhs) (i j : Fin 4096) : EReal := ∑ k : Fin 1024, x (ix2 i k) * w (ix3 0 k j)
def result (x : Lhs) (w : Rhs) : Res := fun i => entry x w (i 0) (i 1)

theorem out_apply (x : Vec Ideal S1024x1024 .bf16) (y : Vec Ideal S1x1024x2048 .bf16) (a : Fin 1024) (b : Fin 2048) :
    out0_2 x y (ix2 a b) = ∑ k : Fin 1024, x (ix2 a k) * y (ix3 0 k b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val % 4, 0] := by decide +kernel
theorem idx1 : ∀ t : Fin cfg0.N, win0_1.index t = ![0, 0, t.val / 4] := by decide +kernel
theorem idx2 : ∀ t : Fin cfg0.N, win0_2.index t = ![t.val % 4, t.val / 4] := by decide +kernel

theorem read0 (a k : Fin 1024) :
    iblk m c 0 t (ix2 a k) = lhs m c (ix2 (⟨1024 * (t.val % 4) + a.val, by have ht : t.val < 8 := t.isLt; omega⟩ : Fin 4096) k) := by
  blk_ext [iblk, idx0]
theorem read1 (k : Fin 1024) (b : Fin 2048) :
    iblk m c 1 t (ix3 0 k b) = rhs m c (ix3 0 k (⟨2048 * (t.val / 4) + b.val, by have ht : t.val < 8 := t.isLt; omega⟩ : Fin 4096)) := by
  blk_ext [iblk, idx1]

theorem emb2 (a : Fin 1024) (b : Fin 2048) :
    ((cfg0.win 2).blk t).view.emb (ix2 a b) = (ix2 (⟨1024 * (t.val % 4) + a.val, by have ht : t.val < 8 := t.isLt; omega⟩ : Fin 4096) (⟨2048 * (t.val / 4) + b.val, by have ht : t.val < 8 := t.isLt; omega⟩ : Fin 4096) : S4096x4096.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 8 := t.isLt
  obtain ⟨a, b, rfl⟩ := exists_ix2 y
  blk_simp
  rw [after0_2, emb2]
  refine (out_apply ..).trans ?_
  show _ = entry _ _ _ _
  unfold entry
  refine Finset.sum_congr rfl fun k _ => ?_
  rw [read0, read1]
  rfl

end Cert.HgrnInFwd0Ideal.Product

namespace Cert.HgrnInFwd0ReferenceIdeal.Product

open Idealize.ShloMosaic Cert.HgrnInFwd0ReferenceIdeal Cert.HgrnInFwd0ReferenceIdeal.Read Cert.HgrnInFwd0Ideal.Product Cert.Index

theorem value (x : Lhs) (w : Rhs) : val_main_v4 (F := Ideal) x w = result x w := funext fun i => by
  rw [val_main_v4_apply]
  show _ = entry x w (i 0) (i 1)
  unfold entry
  refine Fin.sum_fin_congr fun k => ?_
  rw [val_main_v2_apply, val_main_v3_apply, val_main_v1_apply, val_main_v0_apply]
  refine (congrArg₂ (· * ·) (congrArg x ?_) (congrArg w ?_))
  · exact ext2 rfl rfl
  · have h0 : (i 1).val < 4096 := (i 1).isLt
    exact ext3 rfl (Fin.ext (by show (k.val * 4096 + (i 1).val) / 4096 % 1024 = k.val; omega)) (Fin.ext (by show (k.val * 4096 + (i 1).val) % 4096 = (i 1).val; omega))

end Cert.HgrnInFwd0ReferenceIdeal.Product

end
-- ==== Proof.HgrnInFwd0Claim.lean ====
/- The claims for HgrnInFwd0: the frame of its reference, and that the idealized call and the reference both hand on `result` of
   Proof/HgrnInFwd0Value.lean. -/
module

public import proofs.«01_k».proof.Defs
public import proofs.«01_k».proof.Proof.HgrnInFwd0Value
public import Idealize.ShloMosaic.Lib.Quiescent

@[expose] public section

noncomputable section

namespace Cert.HgrnInFwd0Ideal.Product

open Idealize.ShloMosaic Idealize.ShloMosaic.StableHlo Idealize.SL.Sem

theorem frame_ref : Cert.quiescent_HgrnInFwd0ReferenceIdeal (hHgrnInFwd0ReferenceIdeal := Cert.HgrnInFwd0ReferenceIdeal.Gen.facts) := fun m ρ _ =>
  (θ_run Cert.HgrnInFwd0ReferenceIdeal.defs _ _).mono (fun r h => ⟨fun c => (h c).2, sem_eq_zero_of_no_sems (by decide) r.2⟩)
    (Cert.HgrnInFwd0ReferenceIdeal.Value.run (F := Ideal) m ρ)

theorem algebraic : Cert.algebraic_HgrnInFwd0Ideal_HgrnInFwd0ReferenceIdeal (hHgrnInFwd0Ideal := Cert.HgrnInFwd0Ideal.Gen.facts)
    (hHgrnInFwd0ReferenceIdeal := Cert.HgrnInFwd0ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.HgrnInFwd0Ideal.Value.run_blocks m g)
  · exact (θ_run _ _ _).mono (fun r h c => ⟨((h c).1.trans (Cert.HgrnInFwd0ReferenceIdeal.Read.val_main_v4_eq _ _)).trans
      (Cert.Index.eq_at Cert.HgrnInFwd0ReferenceIdeal.Product.value (hargs c).1 (hargs c).2), (h c).2⟩) (Cert.HgrnInFwd0ReferenceIdeal.Value.run (F := Ideal) m' g')

end Cert.HgrnInFwd0Ideal.Product

end
-- ==== Proof.HgrnInFwd1Value.lean ====
/- The projection into recurrence 1: what the call leaves, and that its reference hands on the same. -/
module

public import proofs.«01_k».proof.Proof.Index
public import proofs.«01_k».proof.Proof.Gen.HgrnInFwd1Ideal.Value
public import proofs.«01_k».proof.Proof.Gen.HgrnInFwd1ReferenceIdeal.Read

@[expose] public section

set_option maxRecDepth 16384

noncomputable section

namespace Cert.HgrnInFwd1Ideal.Product

open Idealize.ShloMosaic Idealize.ShloMosaic.TcCoe Cert.HgrnInFwd1Ideal Cert.HgrnInFwd1Ideal.Gen Cert.Index

abbrev Lhs : Type := (⟨2, ![4096, 1024]⟩ : Shape).Idx → EReal
abbrev Rhs : Type := (⟨3, ![2, 1024, 4096]⟩ : Shape).Idx → EReal
abbrev Res : Type := (⟨2, ![4096, 4096]⟩ : Shape).Idx → EReal

/-- The product, entry by entry. -/
def entry (x : Lhs) (w : Rhs) (i j : Fin 4096) : EReal := ∑ k : Fin 1024, x (ix2 i k) * w (ix3 1 k j)
def result (x : Lhs) (w : Rhs) : Res := fun i => entry x w (i 0) (i 1)

theorem out_apply (x : Vec Ideal S1024x1024 .bf16) (y : Vec Ideal S1x1024x2048 .bf16) (a : Fin 1024) (b : Fin 2048) :
    out0_2 x y (ix2 a b) = ∑ k : Fin 1024, x (ix2 a k) * y (ix3 0 k b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val % 4, 0] := by decide +kernel
theorem idx1 : ∀ t : Fin cfg0.N, win0_1.index t = ![1, 0, t.val / 4] := by decide +kernel
theorem idx2 : ∀ t : Fin cfg0.N, win0_2.index t = ![t.val % 4, t.val / 4] := by decide +kernel

theorem read0 (a k : Fin 1024) :
    iblk m c 0 t (ix2 a k) = lhs m c (ix2 (⟨1024 * (t.val % 4) + a.val, by have ht : t.val < 8 := t.isLt; omega⟩ : Fin 4096) k) := by
  blk_ext [iblk, idx0]
theorem read1 (k : Fin 1024) (b : Fin 2048) :
    iblk m c 1 t (ix3 0 k b) = rhs m c (ix3 1 k (⟨2048 * (t.val / 4) + b.val, by have ht : t.val < 8 := t.isLt; omega⟩ : Fin 4096)) := by
  blk_ext [iblk, idx1]

theorem emb2 (a : Fin 1024) (b : Fin 2048) :
    ((cfg0.win 2).blk t).view.emb (ix2 a b) = (ix2 (⟨1024 * (t.val % 4) + a.val, by have ht : t.val < 8 := t.isLt; omega⟩ : Fin 4096) (⟨2048 * (t.val / 4) + b.val, by have ht : t.val < 8 := t.isLt; omega⟩ : Fin 4096) : S4096x4096.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 8 := t.isLt
  obtain ⟨a, b, rfl⟩ := exists_ix2 y
  blk_simp
  rw [after0_2, emb2]
  refine (out_apply ..).trans ?_
  show _ = entry _ _ _ _
  unfold entry
  refine Finset.sum_congr rfl fun k _ => ?_
  rw [read0, read1]
  rfl

end Cert.HgrnInFwd1Ideal.Product

namespace Cert.HgrnInFwd1ReferenceIdeal.Product

open Idealize.ShloMosaic Cert.HgrnInFwd1ReferenceIdeal Cert.HgrnInFwd1ReferenceIdeal.Read Cert.HgrnInFwd1Ideal.Product Cert.Index

theorem value (x : Lhs) (w : Rhs) : val_main_v4 (F := Ideal) x w = result x w := funext fun i => by
  rw [val_main_v4_apply]
  show _ = entry x w (i 0) (i 1)
  unfold entry
  refine Fin.sum_fin_congr fun k => ?_
  rw [val_main_v2_apply, val_main_v3_apply, val_main_v1_apply, val_main_v0_apply]
  refine (congrArg₂ (· * ·) (congrArg x ?_) (congrArg w ?_))
  · exact ext2 rfl rfl
  · have h0 : (i 1).val < 4096 := (i 1).isLt
    exact ext3 rfl (Fin.ext (by show (k.val * 4096 + (i 1).val) / 4096 % 1024 = k.val; omega)) (Fin.ext (by show (k.val * 4096 + (i 1).val) % 4096 = (i 1).val; omega))

end Cert.HgrnInFwd1ReferenceIdeal.Product

end
-- ==== Proof.HgrnInFwd1Claim.lean ====
/- The claims for HgrnInFwd1: the frame of its reference, and that the idealized call and the reference both hand on `result` of
   Proof/HgrnInFwd1Value.lean. -/
module

public import proofs.«01_k».proof.Defs
public import proofs.«01_k».proof.Proof.HgrnInFwd1Value
public import Idealize.ShloMosaic.Lib.Quiescent

@[expose] public section

noncomputable section

namespace Cert.HgrnInFwd1Ideal.Product

open Idealize.ShloMosaic Idealize.ShloMosaic.StableHlo Idealize.SL.Sem

theorem frame_ref : Cert.quiescent_HgrnInFwd1ReferenceIdeal (hHgrnInFwd1ReferenceIdeal := Cert.HgrnInFwd1ReferenceIdeal.Gen.facts) := fun m ρ _ =>
  (θ_run Cert.HgrnInFwd1ReferenceIdeal.defs _ _).mono (fun r h => ⟨fun c => (h c).2, sem_eq_zero_of_no_sems (by decide) r.2⟩)
    (Cert.HgrnInFwd1ReferenceIdeal.Value.run (F := Ideal) m ρ)

theorem algebraic : Cert.algebraic_HgrnInFwd1Ideal_HgrnInFwd1ReferenceIdeal (hHgrnInFwd1Ideal := Cert.HgrnInFwd1Ideal.Gen.facts)
    (hHgrnInFwd1ReferenceIdeal := Cert.HgrnInFwd1ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.HgrnInFwd1Ideal.Value.run_blocks m g)
  · exact (θ_run _ _ _).mono (fun r h c => ⟨((h c).1.trans (Cert.HgrnInFwd1ReferenceIdeal.Read.val_main_v4_eq _ _)).trans
      (Cert.Index.eq_at Cert.HgrnInFwd1ReferenceIdeal.Product.value (hargs c).1 (hargs c).2), (h c).2⟩) (Cert.HgrnInFwd1ReferenceIdeal.Value.run (F := Ideal) m' g')

end Cert.HgrnInFwd1Ideal.Product

end
-- ==== Proof.OutFwd0Value.lean ====
/- The projection out of mixer 0 (attention or recurrence), onto the residual: what the call leaves, and that its reference hands on the same. -/
module

public import proofs.«01_k».proof.Proof.Index
public import proofs.«01_k».proof.Proof.Gen.OutFwd0Ideal.Value
public import proofs.«01_k».proof.Proof.Gen.OutFwd0ReferenceIdeal.Read

@[expose] public section

set_option maxRecDepth 16384

noncomputable section

namespace Cert.OutFwd0Ideal.Product

open Idealize.ShloMosaic Idealize.ShloMosaic.TcCoe Cert.OutFwd0Ideal Cert.OutFwd0Ideal.Gen Cert.Index

abbrev Lhs : Type := (⟨2, ![4096, 1024]⟩ : Shape).Idx → EReal
abbrev Rhs : Type := (⟨3, ![2, 1024, 1024]⟩ : Shape).Idx → EReal
abbrev Add : Type := (⟨2, ![4096, 1024]⟩ : Shape).Idx → EReal
abbrev Res : Type := (⟨2, ![4096, 1024]⟩ : Shape).Idx → EReal

/-- The product, entry by entry, onto the residual. -/
def entry (x : Lhs) (w : Rhs) (h : Add) (i : Fin 4096) (j : Fin 1024) : EReal := (∑ k : Fin 1024, x (ix2 i k) * w (ix3 0 k j)) + h (ix2 i j)
def result (x : Lhs) (w : Rhs) (h : Add) : Res := fun i => entry x w h (i 0) (i 1)

theorem out_apply (x : Vec Ideal S1024x1024 .bf16) (y : Vec Ideal S1x1024x1024 .bf16) (h : Vec Ideal S1024x1024 .f32) (a b : Fin 1024) :
    out0_3 x y h (ix2 a b) = (∑ k : Fin 1024, x (ix2 a k) * y (ix3 0 k b)) + h (ix2 a b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)
abbrev add : Add := m (c.tc.loc main_arg2)

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![t.val, 0] := by decide +kernel
theorem idx3 : ∀ t : Fin cfg0.N, win0_3.index t = ![t.val, 0] := by decide +kernel

theorem read0 (a k : Fin 1024) :
    iblk m c 0 t (ix2 a k) = lhs m c (ix2 (⟨1024 * t.val + a.val, by have ht : t.val < 4 := t.isLt; omega⟩ : Fin 4096) k) := by
  blk_ext [iblk, idx0]
theorem read1 (k b : Fin 1024) :
    iblk m c 1 t (ix3 0 k b) = rhs m c (ix3 0 k b) := by
  blk_ext [iblk, idx1]
theorem read2 (a b : Fin 1024) :
    iblk m c 2 t (ix2 a b) = add m c (ix2 (⟨1024 * t.val + a.val, by have ht : t.val < 4 := t.isLt; omega⟩ : Fin 4096) b) := by
  blk_ext [iblk, idx2]

theorem emb3 (a b : Fin 1024) :
    ((cfg0.win 3).blk t).view.emb (ix2 a b) = (ix2 (⟨1024 * t.val + a.val, by have ht : t.val < 4 := t.isLt; omega⟩ : Fin 4096) b : S4096x1024.Idx) := by
  funext k; fin_cases k <;> (apply Fin.ext; blk_simp [idx3 t]; try first | rfl | (rw [mul_comm]; rfl))

theorem arr3 : (dats m 0 c).arrAt 3 cfg0.N = result (lhs m c) (rhs m c) (add m c) := by
  refine (dats m 0 c).arrAt_eq_of_covers 3 _ (by decide +kernel) fun t hf y => ?_
  have ht : t.val < 4 := t.isLt
  obtain ⟨a, b, rfl⟩ := exists_ix2 y
  blk_simp
  rw [after0_3, emb3]
  refine (out_apply ..).trans ?_
  show _ = entry _ _ _ _ _
  unfold entry
  refine congrArg₂ (· + ·) ?_ (read2 m c t _ _)
  refine Finset.sum_congr rfl fun k _ => ?_
  rw [read0, read1]
  rfl

end Cert.OutFwd0Ideal.Product

namespace Cert.OutFwd0ReferenceIdeal.Product

open Idealize.ShloMosaic Cert.OutFwd0ReferenceIdeal Cert.OutFwd0ReferenceIdeal.Read Cert.OutFwd0Ideal.Product Cert.Index

theorem value (x : Lhs) (w : Rhs) (h : Add) : val_main_v5 (F := Ideal) x w h = result x w h := funext fun i => by
  rw [val_main_v5_apply, val_main_v4_apply]
  show _ = entry x w h (i 0) (i 1)
  unfold entry
  refine (add_comm _ _).trans (congrArg₂ (· + ·) ?_ (congrArg h (funext fun a => by match a with
    | ⟨0, _⟩ => rfl
    | ⟨1, _⟩ => rfl)))
  refine Fin.sum_fin_congr fun k => ?_
  rw [val_main_v2_apply, val_main_v3_apply, val_main_v1_apply, val_main_v0_apply]
  refine (congrArg₂ (· * ·) (congrArg x ?_) (congrArg w ?_))
  · exact ext2 rfl rfl
  · have h0 : (i 1).val < 1024 := (i 1).isLt
    exact ext3 rfl (Fin.ext (by show (k.val * 1024 + (i 1).val) / 1024 % 1024 = k.val; omega)) (Fin.ext (by show (k.val * 1024 + (i 1).val) % 1024 = (i 1).val; omega))

end Cert.OutFwd0ReferenceIdeal.Product

end
-- ==== Proof.OutFwd0Claim.lean ====
/- The claims for OutFwd0: the frame of its reference, and that the idealized call and the reference both hand on `result` of
   Proof/OutFwd0Value.lean. -/
module

public import proofs.«01_k».proof.Defs
public import proofs.«01_k».proof.Proof.OutFwd0Value
public import Idealize.ShloMosaic.Lib.Quiescent

@[expose] public section

noncomputable section

namespace Cert.OutFwd0Ideal.Product

open Idealize.ShloMosaic Idealize.ShloMosaic.StableHlo Idealize.SL.Sem

theorem frame_ref : Cert.quiescent_OutFwd0ReferenceIdeal (hOutFwd0ReferenceIdeal := Cert.OutFwd0ReferenceIdeal.Gen.facts) := fun m ρ _ =>
  (θ_run Cert.OutFwd0ReferenceIdeal.defs _ _).mono (fun r h => ⟨fun c => (h c).2, sem_eq_zero_of_no_sems (by decide) r.2⟩)
    (Cert.OutFwd0ReferenceIdeal.Value.run (F := Ideal) m ρ)

theorem algebraic : Cert.algebraic_OutFwd0Ideal_OutFwd0ReferenceIdeal (hOutFwd0Ideal := Cert.OutFwd0Ideal.Gen.facts)
    (hOutFwd0ReferenceIdeal := Cert.OutFwd0ReferenceIdeal.Gen.facts) := by
  intro m g m' g' _ hargs
  refine ⟨fun c => result (lhs m c) (rhs m c) (add m c), ?_, ?_⟩
  · exact (θ_run _ _ _).mono (fun r h c => ⟨(h c).1.trans (arr3 m c), (h c).2⟩) (Cert.OutFwd0Ideal.Value.run_blocks m g)
  · exact (θ_run _ _ _).mono (fun r h c => ⟨((h c).1.trans (Cert.OutFwd0ReferenceIdeal.Read.val_main_v5_eq _ _ _)).trans
      (Cert.Index.eq_at3 Cert.OutFwd0ReferenceIdeal.Product.value (hargs c).1 (hargs c).2.1 (hargs c).2.2), (h c).2⟩) (Cert.OutFwd0ReferenceIdeal.Value.run (F := Ideal) m' g')

end Cert.OutFwd0Ideal.Product

end
-- ==== Proof.OutFwd1Value.lean ====
/- The projection out of mixer 1 (attention or recurrence), onto the residual: what the call leaves, and that its reference hands on the same. -/
module

public import proofs.«01_k».proof.Proof.Index
public import proofs.«01_k».proof.Proof.Gen.OutFwd1Ideal.Value
public import proofs.«01_k».proof.Proof.Gen.OutFwd1ReferenceIdeal.Read

@[expose] public section

set_option maxRecDepth 16384

noncomputable section

namespace Cert.OutFwd1Ideal.Product

open Idealize.ShloMosaic Idealize.ShloMosaic.TcCoe Cert.OutFwd1Ideal Cert.OutFwd1Ideal.Gen Cert.Index

abbrev Lhs : Type := (⟨2, ![4096, 1024]⟩ : Shape).Idx → EReal
abbrev Rhs : Type := (⟨3, ![2, 1024, 1024]⟩ : Shape).Idx → EReal
abbrev Add : Type := (⟨2, ![4096, 1024]⟩ : Shape).Idx → EReal
abbrev Res : Type := (⟨2, ![4096, 1024]⟩ : Shape).Idx → EReal

/-- The product, entry by entry, onto the residual. -/
def entry (x : Lhs) (w : Rhs) (h : Add) (i : Fin 4096) (j : Fin 1024) : EReal := (∑ k : Fin 1024, x (ix2 i k) * w (ix3 1 k j)) + h (ix2 i j)
def result (x : Lhs) (w : Rhs) (h : Add) : Res := fun i => entry x w h (i 0) (i 1)

theorem out_apply (x : Vec Ideal S1024x1024 .bf16) (y : Vec Ideal S1x1024x1024 .bf16) (h : Vec Ideal S1024x1024 .f32) (a b : Fin 1024) :
    out0_3 x y h (ix2 a b) = (∑ k : Fin 1024, x (ix2 a k) * y (ix3 0 k b)) + h (ix2 a b) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)
abbrev add : Add := m (c.tc.loc main_arg2)

theorem idx0 : ∀ t : Fin cfg0.N, win0_0.index t = ![t.val, 0] := by decide +kernel
theorem idx1 : ∀ t : Fin cfg0.N, win0_1.index t = ![1, 0, 0] := by decide +kernel
theorem idx2 : ∀ t : Fin cfg0.N, win0_2.index t = ![t.val, 0] := by decide +kernel
theorem idx3 : ∀ t : Fin cfg0.N, win0_3.index t = ![t.val, 0] := by decide +kernel

theorem read0 (a k : Fin 1024) :
    iblk m c 0 t (ix2 a k) = lhs m c (ix2 (⟨1024 * t.val + a.val, by have ht : t.val < 4 := t.isLt; omega⟩ : Fin 4096) k) := by
  blk_ext [iblk, idx0]
theorem read1 (k b : Fin 1024) :
    iblk m c 1 t (ix3 0 k b) = rhs m c (ix3 1 k b) := by
  blk_ext [iblk, idx1]
theorem read2 (a b : Fin 1024) :
    iblk m c 2 t (ix2 a b) = add m c (ix2 (⟨1024 * t.val + a.val, by have ht : t.val < 4 := t.isLt; omega⟩ : Fin 4096) b) := by
  blk_ext [iblk, idx2]

theorem emb3 (a b : Fin 1024) :
    ((cfg0.win 3).blk t).view.emb (ix2 a b) = (ix2 (⟨1024 * t.val + a.val, by have ht : t.val < 4 := t.isLt; omega⟩ : Fin 4096) b : S4096x1024.Idx) := by
  funext k; fin_cases k <;> (apply Fin.ext; blk_simp [idx3 t]; try first | rfl | (rw [mul_comm]; rfl))

theorem arr3 : (dats m 0 c).arrAt 3 cfg0.N = result (lhs m c) (rhs m c) (add m c) := by
  refine (dats m 0 c).arrAt_eq_of_covers 3 _ (by decide +kernel) fun t hf y => ?_
  have ht : t.val < 4 := t.isLt
  obtain ⟨a, b, rfl⟩ := exists_ix2 y
  blk_simp
  rw [after0_3, emb3]
  refine (out_apply ..).trans ?_
  show _ = entry _ _ _ _ _
  unfold entry
  refine congrArg₂ (· + ·) ?_ (read2 m c t _ _)
  refine Finset.sum_congr rfl fun k _ => ?_
  rw [read0, read1]
  rfl

end Cert.OutFwd1Ideal.Product

namespace Cert.OutFwd1ReferenceIdeal.Product

open Idealize.ShloMosaic Cert.OutFwd1ReferenceIdeal Cert.OutFwd1ReferenceIdeal.Read Cert.OutFwd1Ideal.Product Cert.Index

theorem value (x : Lhs) (w : Rhs) (h : Add) : val_main_v5 (F := Ideal) x w h = result x w h := funext fun i => by
  rw [val_main_v5_apply, val_main_v4_apply]
  show _ = entry x w h (i 0) (i 1)
  unfold entry
  refine (add_comm _ _).trans (congrArg₂ (· + ·) ?_ (congrArg h (funext fun a => by match a with
    | ⟨0, _⟩ => rfl
    | ⟨1, _⟩ => rfl)))
  refine Fin.sum_fin_congr fun k => ?_
  rw [val_main_v2_apply, val_main_v3_apply, val_main_v1_apply, val_main_v0_apply]
  refine (congrArg₂ (· * ·) (congrArg x ?_) (congrArg w ?_))
  · exact ext2 rfl rfl
  · have h0 : (i 1).val < 1024 := (i 1).isLt
    exact ext3 rfl (Fin.ext (by show (k.val * 1024 + (i 1).val) / 1024 % 1024 = k.val; omega)) (Fin.ext (by show (k.val * 1024 + (i 1).val) % 1024 = (i 1).val; omega))

end Cert.OutFwd1ReferenceIdeal.Product

end
-- ==== Proof.OutFwd1Claim.lean ====
/- The claims for OutFwd1: the frame of its reference, and that the idealized call and the reference both hand on `result` of
   Proof/OutFwd1Value.lean. -/
module

public import proofs.«01_k».proof.Defs
public import proofs.«01_k».proof.Proof.OutFwd1Value
public import Idealize.ShloMosaic.Lib.Quiescent

@[expose] public section

noncomputable section

namespace Cert.OutFwd1Ideal.Product

open Idealize.ShloMosaic Idealize.ShloMosaic.StableHlo Idealize.SL.Sem

theorem frame_ref : Cert.quiescent_OutFwd1ReferenceIdeal (hOutFwd1ReferenceIdeal := Cert.OutFwd1ReferenceIdeal.Gen.facts) := fun m ρ _ =>
  (θ_run Cert.OutFwd1ReferenceIdeal.defs _ _).mono (fun r h => ⟨fun c => (h c).2, sem_eq_zero_of_no_sems (by decide) r.2⟩)
    (Cert.OutFwd1ReferenceIdeal.Value.run (F := Ideal) m ρ)

theorem algebraic : Cert.algebraic_OutFwd1Ideal_OutFwd1ReferenceIdeal (hOutFwd1Ideal := Cert.OutFwd1Ideal.Gen.facts)
    (hOutFwd1ReferenceIdeal := Cert.OutFwd1ReferenceIdeal.Gen.facts) := by
  intro m g m' g' _ hargs
  refine ⟨fun c => result (lhs m c) (rhs m c) (add m c), ?_, ?_⟩
  · exact (θ_run _ _ _).mono (fun r h c => ⟨(h c).1.trans (arr3 m c), (h c).2⟩) (Cert.OutFwd1Ideal.Value.run_blocks m g)
  · exact (θ_run _ _ _).mono (fun r h c => ⟨((h c).1.trans (Cert.OutFwd1ReferenceIdeal.Read.val_main_v5_eq _ _ _)).trans
      (Cert.Index.eq_at3 Cert.OutFwd1ReferenceIdeal.Product.value (hargs c).1 (hargs c).2.1 (hargs c).2.2), (h c).2⟩) (Cert.OutFwd1ReferenceIdeal.Value.run (F := Ideal) m' g')

end Cert.OutFwd1Ideal.Product

end
-- ==== Proof.DownDx0Value.lean ====
/- The gradient of the input of layer 0's down projection: what the call leaves, and that its reference hands on the same. -/
module

public import proofs.«01_k».proof.Proof.Index
public import proofs.«01_k».proof.Proof.Gen.DownDx0Ideal.Value
public import proofs.«01_k».proof.Proof.Gen.DownDx0ReferenceIdeal.Read

@[expose] public section

set_option maxRecDepth 16384

noncomputable section

namespace Cert.DownDx0Ideal.Product

open Idealize.ShloMosaic Idealize.ShloMosaic.TcCoe Cert.DownDx0Ideal Cert.DownDx0Ideal.Gen Cert.Index

abbrev Lhs : Type := (⟨2, ![4096, 1024]⟩ : Shape).Idx → EReal
abbrev Rhs : Type := (⟨3, ![4, 2816, 1024]⟩ : Shape).Idx → EReal
abbrev Res : Type := (⟨2, ![4096, 2816]⟩ : Shape).Idx → EReal

/-- The gradient of the left operand, entry by entry. -/
def entry (x : Lhs) (w : Rhs) (i : Fin 4096) (j : Fin 2816) : EReal := ∑ k : Fin 1024, x (ix2 i k) * w (ix3 0 j k)
def result (x : Lhs) (w : Rhs) : Res := fun i => entry x w (i 0) (i 1)

theorem out_apply (x : Vec Ideal S1024x1024 .f32) (y : Vec Ideal S1x1408x1024 .bf16) (a : Fin 1024) (b : Fin 1408) :
    out0_2 x y (ix2 a b) = ∑ k : Fin 1024, x (ix2 a k) * y (ix3 0 b k) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val % 4, 0] := by decide +kernel
theorem idx1 : ∀ t : Fin cfg0.N, win0_1.index t = ![0, t.val / 4, 0] := by decide +kernel
theorem idx2 : ∀ t : Fin cfg0.N, win0_2.index t = ![t.val % 4, t.val / 4] := by decide +kernel

theorem read0 (a k : Fin 1024) :
    iblk m c 0 t (ix2 a k) = lhs m c (ix2 (⟨1024 * (t.val % 4) + a.val, by have ht : t.val < 8 := t.isLt; omega⟩ : Fin 4096) k) := by
  blk_ext [iblk, idx0]
theorem read1 (b : Fin 1408) (k : Fin 1024) :
    iblk m c 1 t (ix3 0 b k) = rhs m c (ix3 0 (⟨1408 * (t.val / 4) + b.val, by have ht : t.val < 8 := t.isLt; omega⟩ : Fin 2816) k) := by
  blk_ext [iblk, idx1]

theorem emb2 (a : Fin 1024) (b : Fin 1408) :
    ((cfg0.win 2).blk t).view.emb (ix2 a b) = (ix2 (⟨1024 * (t.val % 4) + a.val, by have ht : t.val < 8 := t.isLt; omega⟩ : Fin 4096) (⟨1408 * (t.val / 4) + b.val, by have ht : t.val < 8 := t.isLt; omega⟩ : Fin 2816) : S4096x2816.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 8 := t.isLt
  obtain ⟨a, b, rfl⟩ := exists_ix2 y
  blk_simp
  rw [after0_2, emb2]
  refine (out_apply ..).trans ?_
  show _ = entry _ _ _ _
  unfold entry
  refine Finset.sum_congr rfl fun k _ => ?_
  rw [read0, read1]
  rfl

end Cert.DownDx0Ideal.Product

namespace Cert.DownDx0ReferenceIdeal.Product

open Idealize.ShloMosaic Cert.DownDx0ReferenceIdeal Cert.DownDx0ReferenceIdeal.Read Cert.DownDx0Ideal.Product Cert.Index

theorem value (x : Lhs) (w : Rhs) : val_main_v5 (F := Ideal) x w = result x w := funext fun i => by
  rw [val_main_v5_apply]
  show _ = entry x w (i 0) (i 1)
  unfold entry
  refine Fin.sum_fin_congr fun k => ?_
  rw [val_main_v3_apply, val_main_v2_apply, val_main_v1_apply]
  refine (congrArg₂ (· * ·) (congrArg x ?_) (congrArg w ?_))
  · exact ext2 rfl rfl
  · have h0 : (i 1).val < 2816 := (i 1).isLt
    exact ext3 rfl (Fin.ext (by show ((i 1).val * 1024 + k.val) / 1024 % 2816 = (i 1).val; omega)) (Fin.ext (by show ((i 1).val * 1024 + k.val) % 1024 = k.val; omega))

end Cert.DownDx0ReferenceIdeal.Product

end
-- ==== Proof.DownDx0Claim.lean ====
/- The claims for DownDx0: the frame of its reference, and that the idealized call and the reference both hand on `result` of
   Proof/DownDx0Value.lean. -/
module

public import proofs.«01_k».proof.Defs
public import proofs.«01_k».proof.Proof.DownDx0Value
public import Idealize.ShloMosaic.Lib.Quiescent

@[expose] public section

noncomputable section

namespace Cert.DownDx0Ideal.Product

open Idealize.ShloMosaic Idealize.ShloMosaic.StableHlo Idealize.SL.Sem

theorem frame_ref : Cert.quiescent_DownDx0ReferenceIdeal (hDownDx0ReferenceIdeal := Cert.DownDx0ReferenceIdeal.Gen.facts) := fun m ρ _ =>
  (θ_run Cert.DownDx0ReferenceIdeal.defs _ _).mono (fun r h => ⟨fun c => (h c).2, sem_eq_zero_of_no_sems (by decide) r.2⟩)
    (Cert.DownDx0ReferenceIdeal.Value.run (F := Ideal) m ρ)

theorem algebraic : Cert.algebraic_DownDx0Ideal_DownDx0ReferenceIdeal (hDownDx0Ideal := Cert.DownDx0Ideal.Gen.facts)
    (hDownDx0ReferenceIdeal := Cert.DownDx0ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.DownDx0Ideal.Value.run_blocks m g)
  · exact (θ_run _ _ _).mono (fun r h c => ⟨((h c).1.trans (Cert.DownDx0ReferenceIdeal.Read.val_main_v5_eq _ _)).trans
      (Cert.Index.eq_at Cert.DownDx0ReferenceIdeal.Product.value (hargs c).1 (hargs c).2), (h c).2⟩) (Cert.DownDx0ReferenceIdeal.Value.run (F := Ideal) m' g')

end Cert.DownDx0Ideal.Product

end
-- ==== Proof.DownDx1Value.lean ====
/- The gradient of the input of layer 1's down projection: what the call leaves, and that its reference hands on the same. -/
module

public import proofs.«01_k».proof.Proof.Index
public import proofs.«01_k».proof.Proof.Gen.DownDx1Ideal.Value
public import proofs.«01_k».proof.Proof.Gen.DownDx1ReferenceIdeal.Read

@[expose] public section

set_option maxRecDepth 16384

noncomputable section

namespace Cert.DownDx1Ideal.Product

open Idealize.ShloMosaic Idealize.ShloMosaic.TcCoe Cert.DownDx1Ideal Cert.DownDx1Ideal.Gen Cert.Index

abbrev Lhs : Type := (⟨2, ![4096, 1024]⟩ : Shape).Idx → EReal
abbrev Rhs : Type := (⟨3, ![4, 2816, 1024]⟩ : Shape).Idx → EReal
abbrev Res : Type := (⟨2, ![4096, 2816]⟩ : Shape).Idx → EReal

/-- The gradient of the left operand, entry by entry. -/
def entry (x : Lhs) (w : Rhs) (i : Fin 4096) (j : Fin 2816) : EReal := ∑ k : Fin 1024, x (ix2 i k) * w (ix3 1 j k)
def result (x : Lhs) (w : Rhs) : Res := fun i => entry x w (i 0) (i 1)

theorem out_apply (x : Vec Ideal S1024x1024 .f32) (y : Vec Ideal S1x1408x1024 .bf16) (a : Fin 1024) (b : Fin 1408) :
    out0_2 x y (ix2 a b) = ∑ k : Fin 1024, x (ix2 a k) * y (ix3 0 b k) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val % 4, 0] := by decide +kernel
theorem idx1 : ∀ t : Fin cfg0.N, win0_1.index t = ![1, t.val / 4, 0] := by decide +kernel
theorem idx2 : ∀ t : Fin cfg0.N, win0_2.index t = ![t.val % 4, t.val / 4] := by decide +kernel

theorem read0 (a k : Fin 1024) :
    iblk m c 0 t (ix2 a k) = lhs m c (ix2 (⟨1024 * (t.val % 4) + a.val, by have ht : t.val < 8 := t.isLt; omega⟩ : Fin 4096) k) := by
  blk_ext [iblk, idx0]
theorem read1 (b : Fin 1408) (k : Fin 1024) :
    iblk m c 1 t (ix3 0 b k) = rhs m c (ix3 1 (⟨1408 * (t.val / 4) + b.val, by have ht : t.val < 8 := t.isLt; omega⟩ : Fin 2816) k) := by
  blk_ext [iblk, idx1]

theorem emb2 (a : Fin 1024) (b : Fin 1408) :
    ((cfg0.win 2).blk t).view.emb (ix2 a b) = (ix2 (⟨1024 * (t.val % 4) + a.val, by have ht : t.val < 8 := t.isLt; omega⟩ : Fin 4096) (⟨1408 * (t.val / 4) + b.val, by have ht : t.val < 8 := t.isLt; omega⟩ : Fin 2816) : S4096x2816.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 8 := t.isLt
  obtain ⟨a, b, rfl⟩ := exists_ix2 y
  blk_simp
  rw [after0_2, emb2]
  refine (out_apply ..).trans ?_
  show _ = entry _ _ _ _
  unfold entry
  refine Finset.sum_congr rfl fun k _ => ?_
  rw [read0, read1]
  rfl

end Cert.DownDx1Ideal.Product

namespace Cert.DownDx1ReferenceIdeal.Product

open Idealize.ShloMosaic Cert.DownDx1ReferenceIdeal Cert.DownDx1ReferenceIdeal.Read Cert.DownDx1Ideal.Product Cert.Index

theorem value (x : Lhs) (w : Rhs) : val_main_v5 (F := Ideal) x w = result x w := funext fun i => by
  rw [val_main_v5_apply]
  show _ = entry x w (i 0) (i 1)
  unfold entry
  refine Fin.sum_fin_congr fun k => ?_
  rw [val_main_v3_apply, val_main_v2_apply, val_main_v1_apply]
  refine (congrArg₂ (· * ·) (congrArg x ?_) (congrArg w ?_))
  · exact ext2 rfl rfl
  · have h0 : (i 1).val < 2816 := (i 1).isLt
    exact ext3 rfl (Fin.ext (by show ((i 1).val * 1024 + k.val) / 1024 % 2816 = (i 1).val; omega)) (Fin.ext (by show ((i 1).val * 1024 + k.val) % 1024 = k.val; omega))

end Cert.DownDx1ReferenceIdeal.Product

end
-- ==== Proof.DownDx1Claim.lean ====
/- The claims for DownDx1: the frame of its reference, and that the idealized call and the reference both hand on `result` of
   Proof/DownDx1Value.lean. -/
module

public import proofs.«01_k».proof.Defs
public import proofs.«01_k».proof.Proof.DownDx1Value
public import Idealize.ShloMosaic.Lib.Quiescent

@[expose] public section

noncomputable section

namespace Cert.DownDx1Ideal.Product

open Idealize.ShloMosaic Idealize.ShloMosaic.StableHlo Idealize.SL.Sem

theorem frame_ref : Cert.quiescent_DownDx1ReferenceIdeal (hDownDx1ReferenceIdeal := Cert.DownDx1ReferenceIdeal.Gen.facts) := fun m ρ _ =>
  (θ_run Cert.DownDx1ReferenceIdeal.defs _ _).mono (fun r h => ⟨fun c => (h c).2, sem_eq_zero_of_no_sems (by decide) r.2⟩)
    (Cert.DownDx1ReferenceIdeal.Value.run (F := Ideal) m ρ)

theorem algebraic : Cert.algebraic_DownDx1Ideal_DownDx1ReferenceIdeal (hDownDx1Ideal := Cert.DownDx1Ideal.Gen.facts)
    (hDownDx1ReferenceIdeal := Cert.DownDx1ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.DownDx1Ideal.Value.run_blocks m g)
  · exact (θ_run _ _ _).mono (fun r h c => ⟨((h c).1.trans (Cert.DownDx1ReferenceIdeal.Read.val_main_v5_eq _ _)).trans
      (Cert.Index.eq_at Cert.DownDx1ReferenceIdeal.Product.value (hargs c).1 (hargs c).2), (h c).2⟩) (Cert.DownDx1ReferenceIdeal.Value.run (F := Ideal) m' g')

end Cert.DownDx1Ideal.Product

end
-- ==== Proof.DownDx2Value.lean ====
/- The gradient of the input of layer 2's down projection: what the call leaves, and that its reference hands on the same. -/
module

public import proofs.«01_k».proof.Proof.Index
public import proofs.«01_k».proof.Proof.Gen.DownDx2Ideal.Value
public import proofs.«01_k».proof.Proof.Gen.DownDx2ReferenceIdeal.Read

@[expose] public section

set_option maxRecDepth 16384

noncomputable section

namespace Cert.DownDx2Ideal.Product

open Idealize.ShloMosaic Idealize.ShloMosaic.TcCoe Cert.DownDx2Ideal Cert.DownDx2Ideal.Gen Cert.Index

abbrev Lhs : Type := (⟨2, ![4096, 1024]⟩ : Shape).Idx → EReal
abbrev Rhs : Type := (⟨3, ![4, 2816, 1024]⟩ : Shape).Idx → EReal
abbrev Res : Type := (⟨2, ![4096, 2816]⟩ : Shape).Idx → EReal

/-- The gradient of the left operand, entry by entry. -/
def entry (x : Lhs) (w : Rhs) (i : Fin 4096) (j : Fin 2816) : EReal := ∑ k : Fin 1024, x (ix2 i k) * w (ix3 2 j k)
def result (x : Lhs) (w : Rhs) : Res := fun i => entry x w (i 0) (i 1)

theorem out_apply (x : Vec Ideal S1024x1024 .f32) (y : Vec Ideal S1x1408x1024 .bf16) (a : Fin 1024) (b : Fin 1408) :
    out0_2 x y (ix2 a b) = ∑ k : Fin 1024, x (ix2 a k) * y (ix3 0 b k) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val % 4, 0] := by decide +kernel
theorem idx1 : ∀ t : Fin cfg0.N, win0_1.index t = ![2, t.val / 4, 0] := by decide +kernel
theorem idx2 : ∀ t : Fin cfg0.N, win0_2.index t = ![t.val % 4, t.val / 4] := by decide +kernel

theorem read0 (a k : Fin 1024) :
    iblk m c 0 t (ix2 a k) = lhs m c (ix2 (⟨1024 * (t.val % 4) + a.val, by have ht : t.val < 8 := t.isLt; omega⟩ : Fin 4096) k) := by
  blk_ext [iblk, idx0]
theorem read1 (b : Fin 1408) (k : Fin 1024) :
    iblk m c 1 t (ix3 0 b k) = rhs m c (ix3 2 (⟨1408 * (t.val / 4) + b.val, by have ht : t.val < 8 := t.isLt; omega⟩ : Fin 2816) k) := by
  blk_ext [iblk, idx1]

theorem emb2 (a : Fin 1024) (b : Fin 1408) :
    ((cfg0.win 2).blk t).view.emb (ix2 a b) = (ix2 (⟨1024 * (t.val % 4) + a.val, by have ht : t.val < 8 := t.isLt; omega⟩ : Fin 4096) (⟨1408 * (t.val / 4) + b.val, by have ht : t.val < 8 := t.isLt; omega⟩ : Fin 2816) : S4096x2816.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 8 := t.isLt
  obtain ⟨a, b, rfl⟩ := exists_ix2 y
  blk_simp
  rw [after0_2, emb2]
  refine (out_apply ..).trans ?_
  show _ = entry _ _ _ _
  unfold entry
  refine Finset.sum_congr rfl fun k _ => ?_
  rw [read0, read1]
  rfl

end Cert.DownDx2Ideal.Product

namespace Cert.DownDx2ReferenceIdeal.Product

open Idealize.ShloMosaic Cert.DownDx2ReferenceIdeal Cert.DownDx2ReferenceIdeal.Read Cert.DownDx2Ideal.Product Cert.Index

theorem value (x : Lhs) (w : Rhs) : val_main_v5 (F := Ideal) x w = result x w := funext fun i => by
  rw [val_main_v5_apply]
  show _ = entry x w (i 0) (i 1)
  unfold entry
  refine Fin.sum_fin_congr fun k => ?_
  rw [val_main_v3_apply, val_main_v2_apply, val_main_v1_apply]
  refine (congrArg₂ (· * ·) (congrArg x ?_) (congrArg w ?_))
  · exact ext2 rfl rfl
  · have h0 : (i 1).val < 2816 := (i 1).isLt
    exact ext3 rfl (Fin.ext (by show ((i 1).val * 1024 + k.val) / 1024 % 2816 = (i 1).val; omega)) (Fin.ext (by show ((i 1).val * 1024 + k.val) % 1024 = k.val; omega))

end Cert.DownDx2ReferenceIdeal.Product

end
-- ==== Proof.DownDx2Claim.lean ====
/- The claims for DownDx2: the frame of its reference, and that the idealized call and the reference both hand on `result` of
   Proof/DownDx2Value.lean. -/
module

public import proofs.«01_k».proof.Defs
public import proofs.«01_k».proof.Proof.DownDx2Value
public import Idealize.ShloMosaic.Lib.Quiescent

@[expose] public section

noncomputable section

namespace Cert.DownDx2Ideal.Product

open Idealize.ShloMosaic Idealize.ShloMosaic.StableHlo Idealize.SL.Sem

theorem frame_ref : Cert.quiescent_DownDx2ReferenceIdeal (hDownDx2ReferenceIdeal := Cert.DownDx2ReferenceIdeal.Gen.facts) := fun m ρ _ =>
  (θ_run Cert.DownDx2ReferenceIdeal.defs _ _).mono (fun r h => ⟨fun c => (h c).2, sem_eq_zero_of_no_sems (by decide) r.2⟩)
    (Cert.DownDx2ReferenceIdeal.Value.run (F := Ideal) m ρ)

theorem algebraic : Cert.algebraic_DownDx2Ideal_DownDx2ReferenceIdeal (hDownDx2Ideal := Cert.DownDx2Ideal.Gen.facts)
    (hDownDx2ReferenceIdeal := Cert.DownDx2ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.DownDx2Ideal.Value.run_blocks m g)
  · exact (θ_run _ _ _).mono (fun r h c => ⟨((h c).1.trans (Cert.DownDx2ReferenceIdeal.Read.val_main_v5_eq _ _)).trans
      (Cert.Index.eq_at Cert.DownDx2ReferenceIdeal.Product.value (hargs c).1 (hargs c).2), (h c).2⟩) (Cert.DownDx2ReferenceIdeal.Value.run (F := Ideal) m' g')

end Cert.DownDx2Ideal.Product

end
-- ==== Proof.DownDx3Value.lean ====
/- The gradient of the input of layer 3's down projection: what the call leaves, and that its reference hands on the same. -/
module

public import proofs.«01_k».proof.Proof.Index
public import proofs.«01_k».proof.Proof.Gen.DownDx3Ideal.Value
public import proofs.«01_k».proof.Proof.Gen.DownDx3ReferenceIdeal.Read

@[expose] public section

set_option maxRecDepth 16384

noncomputable section

namespace Cert.DownDx3Ideal.Product

open Idealize.ShloMosaic Idealize.ShloMosaic.TcCoe Cert.DownDx3Ideal Cert.DownDx3Ideal.Gen Cert.Index

abbrev Lhs : Type := (⟨2, ![4096, 1024]⟩ : Shape).Idx → EReal
abbrev Rhs : Type := (⟨3, ![4, 2816, 1024]⟩ : Shape).Idx → EReal
abbrev Res : Type := (⟨2, ![4096, 2816]⟩ : Shape).Idx → EReal

/-- The gradient of the left operand, entry by entry. -/
def entry (x : Lhs) (w : Rhs) (i : Fin 4096) (j : Fin 2816) : EReal := ∑ k : Fin 1024, x (ix2 i k) * w (ix3 3 j k)
def result (x : Lhs) (w : Rhs) : Res := fun i => entry x w (i 0) (i 1)

theorem out_apply (x : Vec Ideal S1024x1024 .f32) (y : Vec Ideal S1x1408x1024 .bf16) (a : Fin 1024) (b : Fin 1408) :
    out0_2 x y (ix2 a b) = ∑ k : Fin 1024, x (ix2 a k) * y (ix3 0 b k) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val % 4, 0] := by decide +kernel
theorem idx1 : ∀ t : Fin cfg0.N, win0_1.index t = ![3, t.val / 4, 0] := by decide +kernel
theorem idx2 : ∀ t : Fin cfg0.N, win0_2.index t = ![t.val % 4, t.val / 4] := by decide +kernel

theorem read0 (a k : Fin 1024) :
    iblk m c 0 t (ix2 a k) = lhs m c (ix2 (⟨1024 * (t.val % 4) + a.val, by have ht : t.val < 8 := t.isLt; omega⟩ : Fin 4096) k) := by
  blk_ext [iblk, idx0]
theorem read1 (b : Fin 1408) (k : Fin 1024) :
    iblk m c 1 t (ix3 0 b k) = rhs m c (ix3 3 (⟨1408 * (t.val / 4) + b.val, by have ht : t.val < 8 := t.isLt; omega⟩ : Fin 2816) k) := by
  blk_ext [iblk, idx1]

theorem emb2 (a : Fin 1024) (b : Fin 1408) :
    ((cfg0.win 2).blk t).view.emb (ix2 a b) = (ix2 (⟨1024 * (t.val % 4) + a.val, by have ht : t.val < 8 := t.isLt; omega⟩ : Fin 4096) (⟨1408 * (t.val / 4) + b.val, by have ht : t.val < 8 := t.isLt; omega⟩ : Fin 2816) : S4096x2816.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 8 := t.isLt
  obtain ⟨a, b, rfl⟩ := exists_ix2 y
  blk_simp
  rw [after0_2, emb2]
  refine (out_apply ..).trans ?_
  show _ = entry _ _ _ _
  unfold entry
  refine Finset.sum_congr rfl fun k _ => ?_
  rw [read0, read1]
  rfl

end Cert.DownDx3Ideal.Product

namespace Cert.DownDx3ReferenceIdeal.Product

open Idealize.ShloMosaic Cert.DownDx3ReferenceIdeal Cert.DownDx3ReferenceIdeal.Read Cert.DownDx3Ideal.Product Cert.Index

theorem value (x : Lhs) (w : Rhs) : val_main_v5 (F := Ideal) x w = result x w := funext fun i => by
  rw [val_main_v5_apply]
  show _ = entry x w (i 0) (i 1)
  unfold entry
  refine Fin.sum_fin_congr fun k => ?_
  rw [val_main_v3_apply, val_main_v2_apply, val_main_v1_apply]
  refine (congrArg₂ (· * ·) (congrArg x ?_) (congrArg w ?_))
  · exact ext2 rfl rfl
  · have h0 : (i 1).val < 2816 := (i 1).isLt
    exact ext3 rfl (Fin.ext (by show ((i 1).val * 1024 + k.val) / 1024 % 2816 = (i 1).val; omega)) (Fin.ext (by show ((i 1).val * 1024 + k.val) % 1024 = k.val; omega))

end Cert.DownDx3ReferenceIdeal.Product

end
-- ==== Proof.DownDx3Claim.lean ====
/- The claims for DownDx3: the frame of its reference, and that the idealized call and the reference both hand on `result` of
   Proof/DownDx3Value.lean. -/
module

public import proofs.«01_k».proof.Defs
public import proofs.«01_k».proof.Proof.DownDx3Value
public import Idealize.ShloMosaic.Lib.Quiescent

@[expose] public section

noncomputable section

namespace Cert.DownDx3Ideal.Product

open Idealize.ShloMosaic Idealize.ShloMosaic.StableHlo Idealize.SL.Sem

theorem frame_ref : Cert.quiescent_DownDx3ReferenceIdeal (hDownDx3ReferenceIdeal := Cert.DownDx3ReferenceIdeal.Gen.facts) := fun m ρ _ =>
  (θ_run Cert.DownDx3ReferenceIdeal.defs _ _).mono (fun r h => ⟨fun c => (h c).2, sem_eq_zero_of_no_sems (by decide) r.2⟩)
    (Cert.DownDx3ReferenceIdeal.Value.run (F := Ideal) m ρ)

theorem algebraic : Cert.algebraic_DownDx3Ideal_DownDx3ReferenceIdeal (hDownDx3Ideal := Cert.DownDx3Ideal.Gen.facts)
    (hDownDx3ReferenceIdeal := Cert.DownDx3ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.DownDx3Ideal.Value.run_blocks m g)
  · exact (θ_run _ _ _).mono (fun r h c => ⟨((h c).1.trans (Cert.DownDx3ReferenceIdeal.Read.val_main_v5_eq _ _)).trans
      (Cert.Index.eq_at Cert.DownDx3ReferenceIdeal.Product.value (hargs c).1 (hargs c).2), (h c).2⟩) (Cert.DownDx3ReferenceIdeal.Value.run (F := Ideal) m' g')

end Cert.DownDx3Ideal.Product

end
-- ==== Proof.HgrnOutDx0Value.lean ====
/- The gradient of what recurrence 0 hands its output projection: what the call leaves, and that its reference hands on the same. -/
module

public import proofs.«01_k».proof.Proof.Index
public import proofs.«01_k».proof.Proof.Gen.HgrnOutDx0Ideal.Value
public import proofs.«01_k».proof.Proof.Gen.HgrnOutDx0ReferenceIdeal.Read

@[expose] public section

set_option maxRecDepth 16384

noncomputable section

namespace Cert.HgrnOutDx0Ideal.Product

open Idealize.ShloMosaic Idealize.ShloMosaic.TcCoe Cert.HgrnOutDx0Ideal Cert.HgrnOutDx0Ideal.Gen Cert.Index

abbrev Lhs : Type := (⟨2, ![4096, 1024]⟩ : Shape).Idx → EReal
abbrev Rhs : Type := (⟨3, ![2, 1024, 1024]⟩ : Shape).Idx → EReal
abbrev Res : Type := (⟨2, ![4096, 1024]⟩ : Shape).Idx → EReal

/-- The gradient of the left operand, entry by entry. -/
def entry (x : Lhs) (w : Rhs) (i : Fin 4096) (j : Fin 1024) : EReal := ∑ k : Fin 1024, x (ix2 i k) * w (ix3 0 j k)
def result (x : Lhs) (w : Rhs) : Res := fun i => entry x w (i 0) (i 1)

theorem out_apply (x : Vec Ideal S1024x1024 .f32) (y : Vec Ideal S1x1024x1024 .bf16) (a b : Fin 1024) :
    out0_2 x y (ix2 a b) = ∑ k : Fin 1024, x (ix2 a k) * y (ix3 0 b k) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![t.val, 0] := by decide +kernel

theorem read0 (a k : Fin 1024) :
    iblk m c 0 t (ix2 a k) = lhs m c (ix2 (⟨1024 * t.val + a.val, by have ht : t.val < 4 := t.isLt; omega⟩ : Fin 4096) k) := by
  blk_ext [iblk, idx0]
theorem read1 (b k : Fin 1024) :
    iblk m c 1 t (ix3 0 b k) = rhs m c (ix3 0 b k) := by
  blk_ext [iblk, idx1]

theorem emb2 (a b : Fin 1024) :
    ((cfg0.win 2).blk t).view.emb (ix2 a b) = (ix2 (⟨1024 * t.val + a.val, by have ht : t.val < 4 := t.isLt; omega⟩ : Fin 4096) b : S4096x1024.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 4 := t.isLt
  obtain ⟨a, b, rfl⟩ := exists_ix2 y
  blk_simp
  rw [after0_2, emb2]
  refine (out_apply ..).trans ?_
  show _ = entry _ _ _ _
  unfold entry
  refine Finset.sum_congr rfl fun k _ => ?_
  rw [read0, read1]
  rfl

end Cert.HgrnOutDx0Ideal.Product

namespace Cert.HgrnOutDx0ReferenceIdeal.Product

open Idealize.ShloMosaic Cert.HgrnOutDx0ReferenceIdeal Cert.HgrnOutDx0ReferenceIdeal.Read Cert.HgrnOutDx0Ideal.Product Cert.Index

theorem value (x : Lhs) (w : Rhs) : val_main_v5 (F := Ideal) x w = result x w := funext fun i => by
  rw [val_main_v5_apply]
  show _ = entry x w (i 0) (i 1)
  unfold entry
  refine Fin.sum_fin_congr fun k => ?_
  rw [val_main_v3_apply, val_main_v2_apply, val_main_v1_apply]
  refine (congrArg₂ (· * ·) (congrArg x ?_) (congrArg w ?_))
  · exact ext2 rfl rfl
  · have h0 : (i 1).val < 1024 := (i 1).isLt
    exact ext3 rfl (Fin.ext (by show ((i 1).val * 1024 + k.val) / 1024 % 1024 = (i 1).val; omega)) (Fin.ext (by show ((i 1).val * 1024 + k.val) % 1024 = k.val; omega))

end Cert.HgrnOutDx0ReferenceIdeal.Product

end
-- ==== Proof.HgrnOutDx0Claim.lean ====
/- The claims for HgrnOutDx0: the frame of its reference, and that the idealized call and the reference both hand on `result` of
   Proof/HgrnOutDx0Value.lean. -/
module

public import proofs.«01_k».proof.Defs
public import proofs.«01_k».proof.Proof.HgrnOutDx0Value
public import Idealize.ShloMosaic.Lib.Quiescent

@[expose] public section

noncomputable section

namespace Cert.HgrnOutDx0Ideal.Product

open Idealize.ShloMosaic Idealize.ShloMosaic.StableHlo Idealize.SL.Sem

theorem frame_ref : Cert.quiescent_HgrnOutDx0ReferenceIdeal (hHgrnOutDx0ReferenceIdeal := Cert.HgrnOutDx0ReferenceIdeal.Gen.facts) := fun m ρ _ =>
  (θ_run Cert.HgrnOutDx0ReferenceIdeal.defs _ _).mono (fun r h => ⟨fun c => (h c).2, sem_eq_zero_of_no_sems (by decide) r.2⟩)
    (Cert.HgrnOutDx0ReferenceIdeal.Value.run (F := Ideal) m ρ)

theorem algebraic : Cert.algebraic_HgrnOutDx0Ideal_HgrnOutDx0ReferenceIdeal (hHgrnOutDx0Ideal := Cert.HgrnOutDx0Ideal.Gen.facts)
    (hHgrnOutDx0ReferenceIdeal := Cert.HgrnOutDx0ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.HgrnOutDx0Ideal.Value.run_blocks m g)
  · exact (θ_run _ _ _).mono (fun r h c => ⟨((h c).1.trans (Cert.HgrnOutDx0ReferenceIdeal.Read.val_main_v5_eq _ _)).trans
      (Cert.Index.eq_at Cert.HgrnOutDx0ReferenceIdeal.Product.value (hargs c).1 (hargs c).2), (h c).2⟩) (Cert.HgrnOutDx0ReferenceIdeal.Value.run (F := Ideal) m' g')

end Cert.HgrnOutDx0Ideal.Product

end
-- ==== Proof.HgrnOutDx1Value.lean ====
/- The gradient of what recurrence 1 hands its output projection: what the call leaves, and that its reference hands on the same. -/
module

public import proofs.«01_k».proof.Proof.Index
public import proofs.«01_k».proof.Proof.Gen.HgrnOutDx1Ideal.Value
public import proofs.«01_k».proof.Proof.Gen.HgrnOutDx1ReferenceIdeal.Read

@[expose] public section

set_option maxRecDepth 16384

noncomputable section

namespace Cert.HgrnOutDx1Ideal.Product

open Idealize.ShloMosaic Idealize.ShloMosaic.TcCoe Cert.HgrnOutDx1Ideal Cert.HgrnOutDx1Ideal.Gen Cert.Index

abbrev Lhs : Type := (⟨2, ![4096, 1024]⟩ : Shape).Idx → EReal
abbrev Rhs : Type := (⟨3, ![2, 1024, 1024]⟩ : Shape).Idx → EReal
abbrev Res : Type := (⟨2, ![4096, 1024]⟩ : Shape).Idx → EReal

/-- The gradient of the left operand, entry by entry. -/
def entry (x : Lhs) (w : Rhs) (i : Fin 4096) (j : Fin 1024) : EReal := ∑ k : Fin 1024, x (ix2 i k) * w (ix3 1 j k)
def result (x : Lhs) (w : Rhs) : Res := fun i => entry x w (i 0) (i 1)

theorem out_apply (x : Vec Ideal S1024x1024 .f32) (y : Vec Ideal S1x1024x1024 .bf16) (a b : Fin 1024) :
    out0_2 x y (ix2 a b) = ∑ k : Fin 1024, x (ix2 a k) * y (ix3 0 b k) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val, 0] := by decide +kernel
theorem idx1 : ∀ t : Fin cfg0.N, win0_1.index t = ![1, 0, 0] := by decide +kernel
theorem idx2 : ∀ t : Fin cfg0.N, win0_2.index t = ![t.val, 0] := by decide +kernel

theorem read0 (a k : Fin 1024) :
    iblk m c 0 t (ix2 a k) = lhs m c (ix2 (⟨1024 * t.val + a.val, by have ht : t.val < 4 := t.isLt; omega⟩ : Fin 4096) k) := by
  blk_ext [iblk, idx0]
theorem read1 (b k : Fin 1024) :
    iblk m c 1 t (ix3 0 b k) = rhs m c (ix3 1 b k) := by
  blk_ext [iblk, idx1]

theorem emb2 (a b : Fin 1024) :
    ((cfg0.win 2).blk t).view.emb (ix2 a b) = (ix2 (⟨1024 * t.val + a.val, by have ht : t.val < 4 := t.isLt; omega⟩ : Fin 4096) b : S4096x1024.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 4 := t.isLt
  obtain ⟨a, b, rfl⟩ := exists_ix2 y
  blk_simp
  rw [after0_2, emb2]
  refine (out_apply ..).trans ?_
  show _ = entry _ _ _ _
  unfold entry
  refine Finset.sum_congr rfl fun k _ => ?_
  rw [read0, read1]
  rfl

end Cert.HgrnOutDx1Ideal.Product

namespace Cert.HgrnOutDx1ReferenceIdeal.Product

open Idealize.ShloMosaic Cert.HgrnOutDx1ReferenceIdeal Cert.HgrnOutDx1ReferenceIdeal.Read Cert.HgrnOutDx1Ideal.Product Cert.Index

theorem value (x : Lhs) (w : Rhs) : val_main_v5 (F := Ideal) x w = result x w := funext fun i => by
  rw [val_main_v5_apply]
  show _ = entry x w (i 0) (i 1)
  unfold entry
  refine Fin.sum_fin_congr fun k => ?_
  rw [val_main_v3_apply, val_main_v2_apply, val_main_v1_apply]
  refine (congrArg₂ (· * ·) (congrArg x ?_) (congrArg w ?_))
  · exact ext2 rfl rfl
  · have h0 : (i 1).val < 1024 := (i 1).isLt
    exact ext3 rfl (Fin.ext (by show ((i 1).val * 1024 + k.val) / 1024 % 1024 = (i 1).val; omega)) (Fin.ext (by show ((i 1).val * 1024 + k.val) % 1024 = k.val; omega))

end Cert.HgrnOutDx1ReferenceIdeal.Product

end
-- ==== Proof.HgrnOutDx1Claim.lean ====
/- The claims for HgrnOutDx1: the frame of its reference, and that the idealized call and the reference both hand on `result` of
   Proof/HgrnOutDx1Value.lean. -/
module

public import proofs.«01_k».proof.Defs
public import proofs.«01_k».proof.Proof.HgrnOutDx1Value
public import Idealize.ShloMosaic.Lib.Quiescent

@[expose] public section

noncomputable section

namespace Cert.HgrnOutDx1Ideal.Product

open Idealize.ShloMosaic Idealize.ShloMosaic.StableHlo Idealize.SL.Sem

theorem frame_ref : Cert.quiescent_HgrnOutDx1ReferenceIdeal (hHgrnOutDx1ReferenceIdeal := Cert.HgrnOutDx1ReferenceIdeal.Gen.facts) := fun m ρ _ =>
  (θ_run Cert.HgrnOutDx1ReferenceIdeal.defs _ _).mono (fun r h => ⟨fun c => (h c).2, sem_eq_zero_of_no_sems (by decide) r.2⟩)
    (Cert.HgrnOutDx1ReferenceIdeal.Value.run (F := Ideal) m ρ)

theorem algebraic : Cert.algebraic_HgrnOutDx1Ideal_HgrnOutDx1ReferenceIdeal (hHgrnOutDx1Ideal := Cert.HgrnOutDx1Ideal.Gen.facts)
    (hHgrnOutDx1ReferenceIdeal := Cert.HgrnOutDx1ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.HgrnOutDx1Ideal.Value.run_blocks m g)
  · exact (θ_run _ _ _).mono (fun r h c => ⟨((h c).1.trans (Cert.HgrnOutDx1ReferenceIdeal.Read.val_main_v5_eq _ _)).trans
      (Cert.Index.eq_at Cert.HgrnOutDx1ReferenceIdeal.Product.value (hargs c).1 (hargs c).2), (h c).2⟩) (Cert.HgrnOutDx1ReferenceIdeal.Value.run (F := Ideal) m' g')

end Cert.HgrnOutDx1Ideal.Product

end
-- ==== Proof.AttnOutDx0Value.lean ====
/- The gradient of what attention 0 hands its output projection: what the call leaves, and that its reference hands on the same. -/
module

public import proofs.«01_k».proof.Proof.Index
public import proofs.«01_k».proof.Proof.Gen.AttnOutDx0Ideal.Value
public import proofs.«01_k».proof.Proof.Gen.AttnOutDx0ReferenceIdeal.Read

@[expose] public section

set_option maxRecDepth 16384

noncomputable section

namespace Cert.AttnOutDx0Ideal.Product

open Idealize.ShloMosaic Idealize.ShloMosaic.TcCoe Cert.AttnOutDx0Ideal Cert.AttnOutDx0Ideal.Gen Cert.Index

abbrev Lhs : Type := (⟨2, ![4096, 1024]⟩ : Shape).Idx → EReal
abbrev Rhs : Type := (⟨3, ![2, 1024, 1024]⟩ : Shape).Idx → EReal
abbrev Res : Type := (⟨2, ![4096, 1024]⟩ : Shape).Idx → EReal

/-- The gradient of the left operand, entry by entry. -/
def entry (x : Lhs) (w : Rhs) (i : Fin 4096) (j : Fin 1024) : EReal := ∑ k : Fin 1024, x (ix2 i k) * w (ix3 0 j k)
def result (x : Lhs) (w : Rhs) : Res := fun i => entry x w (i 0) (i 1)

theorem out_apply (x : Vec Ideal S1024x1024 .f32) (y : Vec Ideal S1x1024x1024 .bf16) (a b : Fin 1024) :
    out0_2 x y (ix2 a b) = ∑ k : Fin 1024, x (ix2 a k) * y (ix3 0 b k) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![t.val, 0] := by decide +kernel

theorem read0 (a k : Fin 1024) :
    iblk m c 0 t (ix2 a k) = lhs m c (ix2 (⟨1024 * t.val + a.val, by have ht : t.val < 4 := t.isLt; omega⟩ : Fin 4096) k) := by
  blk_ext [iblk, idx0]
theorem read1 (b k : Fin 1024) :
    iblk m c 1 t (ix3 0 b k) = rhs m c (ix3 0 b k) := by
  blk_ext [iblk, idx1]

theorem emb2 (a b : Fin 1024) :
    ((cfg0.win 2).blk t).view.emb (ix2 a b) = (ix2 (⟨1024 * t.val + a.val, by have ht : t.val < 4 := t.isLt; omega⟩ : Fin 4096) b : S4096x1024.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 4 := t.isLt
  obtain ⟨a, b, rfl⟩ := exists_ix2 y
  blk_simp
  rw [after0_2, emb2]
  refine (out_apply ..).trans ?_
  show _ = entry _ _ _ _
  unfold entry
  refine Finset.sum_congr rfl fun k _ => ?_
  rw [read0, read1]
  rfl

end Cert.AttnOutDx0Ideal.Product

namespace Cert.AttnOutDx0ReferenceIdeal.Product

open Idealize.ShloMosaic Cert.AttnOutDx0ReferenceIdeal Cert.AttnOutDx0ReferenceIdeal.Read Cert.AttnOutDx0Ideal.Product Cert.Index

theorem value (x : Lhs) (w : Rhs) : val_main_v6 (F := Ideal) x w = result x w := funext fun i => by
  rw [val_main_v6_apply, val_main_v5_apply]
  show _ = entry x w (i 0) (i 1)
  unfold entry
  refine Fin.sum_fin_congr fun k => ?_
  rw [val_main_v3_apply, val_main_v2_apply, val_main_v1_apply]
  refine (congrArg₂ (· * ·) (congrArg x ?_) (congrArg w ?_))
  · exact ext2 rfl rfl
  · have h0 : (i 1).val < 1024 := (i 1).isLt
    exact ext3 rfl (Fin.ext (by show ((i 1).val * 1024 + k.val) / 1024 % 1024 = (i 1).val; omega)) (Fin.ext (by show ((i 1).val * 1024 + k.val) % 1024 = k.val; omega))

end Cert.AttnOutDx0ReferenceIdeal.Product

end
-- ==== Proof.AttnOutDx0Claim.lean ====
/- The claims for AttnOutDx0: the frame of its reference, and that the idealized call and the reference both hand on `result` of
   Proof/AttnOutDx0Value.lean. -/
module

public import proofs.«01_k».proof.Defs
public import proofs.«01_k».proof.Proof.AttnOutDx0Value
public import Idealize.ShloMosaic.Lib.Quiescent

@[expose] public section

noncomputable section

namespace Cert.AttnOutDx0Ideal.Product

open Idealize.ShloMosaic Idealize.ShloMosaic.StableHlo Idealize.SL.Sem

theorem frame_ref : Cert.quiescent_AttnOutDx0ReferenceIdeal (hAttnOutDx0ReferenceIdeal := Cert.AttnOutDx0ReferenceIdeal.Gen.facts) := fun m ρ _ =>
  (θ_run Cert.AttnOutDx0ReferenceIdeal.defs _ _).mono (fun r h => ⟨fun c => (h c).2, sem_eq_zero_of_no_sems (by decide) r.2⟩)
    (Cert.AttnOutDx0ReferenceIdeal.Value.run (F := Ideal) m ρ)

theorem algebraic : Cert.algebraic_AttnOutDx0Ideal_AttnOutDx0ReferenceIdeal (hAttnOutDx0Ideal := Cert.AttnOutDx0Ideal.Gen.facts)
    (hAttnOutDx0ReferenceIdeal := Cert.AttnOutDx0ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.AttnOutDx0Ideal.Value.run_blocks m g)
  · exact (θ_run _ _ _).mono (fun r h c => ⟨((h c).1.trans (Cert.AttnOutDx0ReferenceIdeal.Read.val_main_v6_eq _ _)).trans
      (Cert.Index.eq_at Cert.AttnOutDx0ReferenceIdeal.Product.value (hargs c).1 (hargs c).2), (h c).2⟩) (Cert.AttnOutDx0ReferenceIdeal.Value.run (F := Ideal) m' g')

end Cert.AttnOutDx0Ideal.Product

end
-- ==== Proof.AttnOutDx1Value.lean ====
/- The gradient of what attention 1 hands its output projection: what the call leaves, and that its reference hands on the same. -/
module

public import proofs.«01_k».proof.Proof.Index
public import proofs.«01_k».proof.Proof.Gen.AttnOutDx1Ideal.Value
public import proofs.«01_k».proof.Proof.Gen.AttnOutDx1ReferenceIdeal.Read

@[expose] public section

set_option maxRecDepth 16384

noncomputable section

namespace Cert.AttnOutDx1Ideal.Product

open Idealize.ShloMosaic Idealize.ShloMosaic.TcCoe Cert.AttnOutDx1Ideal Cert.AttnOutDx1Ideal.Gen Cert.Index

abbrev Lhs : Type := (⟨2, ![4096, 1024]⟩ : Shape).Idx → EReal
abbrev Rhs : Type := (⟨3, ![2, 1024, 1024]⟩ : Shape).Idx → EReal
abbrev Res : Type := (⟨2, ![4096, 1024]⟩ : Shape).Idx → EReal

/-- The gradient of the left operand, entry by entry. -/
def entry (x : Lhs) (w : Rhs) (i : Fin 4096) (j : Fin 1024) : EReal := ∑ k : Fin 1024, x (ix2 i k) * w (ix3 1 j k)
def result (x : Lhs) (w : Rhs) : Res := fun i => entry x w (i 0) (i 1)

theorem out_apply (x : Vec Ideal S1024x1024 .f32) (y : Vec Ideal S1x1024x1024 .bf16) (a b : Fin 1024) :
    out0_2 x y (ix2 a b) = ∑ k : Fin 1024, x (ix2 a k) * y (ix3 0 b k) := by
  frame_out
  try simp only [read_unread_whole]
  pointwise [k0_pay1]

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val, 0] := by decide +kernel
theorem idx1 : ∀ t : Fin cfg0.N, win0_1.index t = ![1, 0, 0] := by decide +kernel
theorem idx2 : ∀ t : Fin cfg0.N, win0_2.index t = ![t.val, 0] := by decide +kernel

theorem read0 (a k : Fin 1024) :
    iblk m c 0 t (ix2 a k) = lhs m c (ix2 (⟨1024 * t.val + a.val, by have ht : t.val < 4 := t.isLt; omega⟩ : Fin 4096) k) := by
  blk_ext [iblk, idx0]
theorem read1 (b k : Fin 1024) :
    iblk m c 1 t (ix3 0 b k) = rhs m c (ix3 1 b k) := by
  blk_ext [iblk, idx1]

theorem emb2 (a b : Fin 1024) :
    ((cfg0.win 2).blk t).view.emb (ix2 a b) = (ix2 (⟨1024 * t.val + a.val, by have ht : t.val < 4 := t.isLt; omega⟩ : Fin 4096) b : S4096x1024.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 4 := t.isLt
  obtain ⟨a, b, rfl⟩ := exists_ix2 y
  blk_simp
  rw [after0_2, emb2]
  refine (out_apply ..).trans ?_
  show _ = entry _ _ _ _
  unfold entry
  refine Finset.sum_congr rfl fun k _ => ?_
  rw [read0, read1]
  rfl

end Cert.AttnOutDx1Ideal.Product

namespace Cert.AttnOutDx1ReferenceIdeal.Product

open Idealize.ShloMosaic Cert.AttnOutDx1ReferenceIdeal Cert.AttnOutDx1ReferenceIdeal.Read Cert.AttnOutDx1Ideal.Product Cert.Index

theorem value (x : Lhs) (w : Rhs) : val_main_v6 (F := Ideal) x w = result x w := funext fun i => by
  rw [val_main_v6_apply, val_main_v5_apply]
  show _ = entry x w (i 0) (i 1)
  unfold entry
  refine Fin.sum_fin_congr fun k => ?_
  rw [val_main_v3_apply, val_main_v2_apply, val_main_v1_apply]
  refine (congrArg₂ (· * ·) (congrArg x ?_) (congrArg w ?_))
  · exact ext2 rfl rfl
  · have h0 : (i 1).val < 1024 := (i 1).isLt
    exact ext3 rfl (Fin.ext (by show ((i 1).val * 1024 + k.val) / 1024 % 1024 = (i 1).val; omega)) (Fin.ext (by show ((i 1).val * 1024 + k.val) % 1024 = k.val; omega))

end Cert.AttnOutDx1ReferenceIdeal.Product

end
-- ==== Proof.AttnOutDx1Claim.lean ====
/- The claims for AttnOutDx1: the frame of its reference, and that the idealized call and the reference both hand on `result` of
   Proof/AttnOutDx1Value.lean. -/
module

public import proofs.«01_k».proof.Defs
public import proofs.«01_k».proof.Proof.AttnOutDx1Value
public import Idealize.ShloMosaic.Lib.Quiescent

@[expose] public section

noncomputable section

namespace Cert.AttnOutDx1Ideal.Product

open Idealize.ShloMosaic Idealize.ShloMosaic.StableHlo Idealize.SL.Sem

theorem frame_ref : Cert.quiescent_AttnOutDx1ReferenceIdeal (hAttnOutDx1ReferenceIdeal := Cert.AttnOutDx1ReferenceIdeal.Gen.facts) := fun m ρ _ =>
  (θ_run Cert.AttnOutDx1ReferenceIdeal.defs _ _).mono (fun r h => ⟨fun c => (h c).2, sem_eq_zero_of_no_sems (by decide) r.2⟩)
    (Cert.AttnOutDx1ReferenceIdeal.Value.run (F := Ideal) m ρ)

theorem algebraic : Cert.algebraic_AttnOutDx1Ideal_AttnOutDx1ReferenceIdeal (hAttnOutDx1Ideal := Cert.AttnOutDx1Ideal.Gen.facts)
    (hAttnOutDx1ReferenceIdeal := Cert.AttnOutDx1ReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.AttnOutDx1Ideal.Value.run_blocks m g)
  · exact (θ_run _ _ _).mono (fun r h c => ⟨((h c).1.trans (Cert.AttnOutDx1ReferenceIdeal.Read.val_main_v6_eq _ _)).trans
      (Cert.Index.eq_at Cert.AttnOutDx1ReferenceIdeal.Product.value (hargs c).1 (hargs c).2), (h c).2⟩) (Cert.AttnOutDx1ReferenceIdeal.Value.run (F := Ideal) m' g')

end Cert.AttnOutDx1Ideal.Product

end
-- ==== Proof.UpDwValue.lean ====
/- The gradient of the up projection's weights: what the call leaves, and that its reference hands on the same. -/
module

public import proofs.«01_k».proof.Proof.Index
public import proofs.«01_k».proof.Proof.Gen.UpDwIdeal.Value
public import proofs.«01_k».proof.Proof.Gen.UpDwReferenceIdeal.Read

@[expose] public section

set_option maxRecDepth 16384

noncomputable section

namespace Cert.UpDwIdeal.Product

open Idealize.ShloMosaic Idealize.ShloMosaic.TcCoe Cert.UpDwIdeal Cert.UpDwIdeal.Gen Cert.Index

abbrev Lhs : Type := (⟨2, ![1024, 4096]⟩ : Shape).Idx → EReal
abbrev Rhs : Type := (⟨3, ![2, 4096, 2816]⟩ : Shape).Idx → EReal
abbrev Res : Type := (⟨3, ![1, 1024, 5632]⟩ : Shape).Idx → EReal

/-- The gradient of a weight: over the positions, the feature times the gradient of the product's column, which lies in one of two halves. -/
def entry (x : Lhs) (w : Rhs) (i : Fin 1024) (j : Fin 5632) : EReal := ∑ k : Fin 4096, x (ix2 i k) * w (ix3 ⟨j.val / 2816, by omega⟩ k ⟨j.val % 2816, by omega⟩)
def result (x : Lhs) (w : Rhs) : Res := fun i => entry x w (i 1) (i 2)

section Body
variable (c : Dev nD) (i : grid0.Coords) (arg3 : Memref sig .tc .vmem S1024x4096 .bf16) (harg3 : arg3.IsWhole) (arg4 : Memref sig .tc .vmem S1x4096x256 .bf16) (harg4 : arg4.IsWhole) (arg5 : Memref sig .tc .vmem S1x1024x256 .f32) (harg5 : arg5.IsWhole) (hc0 : cond0_0 i) (hc1 : ¬cond0_1 i)
variable (x : Vec Ideal S1024x4096 .bf16) (y : Vec Ideal S1x4096x256 .bf16)

theorem out_apply (a : Fin 1024) (b : Fin 256) :
    out0_A_2 c i _ harg3 _ harg4 _ harg5 hc0 hc1 x y (ix3 0 a b) = ∑ k : Fin 4096, x (ix2 a k) * y (ix3 0 k b) := by
  frame_out
  try simp only [read_unread_whole]
  pointwise [k0_pay2, k0_pay1]
end Body

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![0, 0] := by decide +kernel
theorem idx1 : ∀ t : Fin cfg0.N, win0_1.index t = ![t.val / 11, 0, t.val % 11] := by decide +kernel
theorem idx2 : ∀ t : Fin cfg0.N, win0_2.index t = ![0, 0, t.val] := by decide +kernel

theorem read0 (a : Fin 1024) (k : Fin 4096) :
    iblk m c 0 t (ix2 a k) = lhs m c (ix2 a k) := by
  blk_ext [iblk, idx0]
theorem read1 (k : Fin 4096) (b : Fin 256) :
    iblk m c 1 t (ix3 0 k b) = rhs m c (ix3 (⟨t.val / 11, by have ht : t.val < 22 := t.isLt; omega⟩ : Fin 2) k (⟨256 * (t.val % 11) + b.val, by have ht : t.val < 22 := t.isLt; omega⟩ : Fin 2816)) := by
  blk_ext [iblk, idx1]

theorem emb2 (a : Fin 1024) (b : Fin 256) :
    ((cfg0.win 2).blk t).view.emb (ix3 0 a b) = (ix3 0 a (⟨256 * t.val + b.val, by have ht : t.val < 22 := t.isLt; omega⟩ : Fin 5632) : S1x1024x5632.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 22 := t.isLt
  obtain ⟨a, b, rfl⟩ := exists_ix3 y
  blk_simp
  rw [after0_2, emb2]
  unfold outsAt0
  refine (out_apply ..).trans ?_
  show _ = entry _ _ _ _
  unfold entry
  refine Finset.sum_congr rfl fun k _ => ?_
  rw [read0, read1]
  exact congrArg (fun z => _ * rhs m c z) (congrArg₂ (fun p q => ix3 p k q) (Fin.ext (by show t.val / 11 = (256 * t.val + b.val) / 2816; omega))
    (Fin.ext (by show 256 * (t.val % 11) + b.val = (256 * t.val + b.val) % 2816; omega)))

end Cert.UpDwIdeal.Product

namespace Cert.UpDwReferenceIdeal.Product

open Idealize.ShloMosaic Cert.UpDwReferenceIdeal Cert.UpDwReferenceIdeal.Read Cert.UpDwIdeal.Product Cert.Index

theorem value (x : Lhs) (w : Rhs) : val_main_v9 (F := Ideal) x w = result x w := funext fun i => by
  rw [val_main_v9_apply, val_main_v8_apply, val_main_v7_apply]
  show _ = entry x w (i 1) (i 2)
  unfold entry
  refine Fin.sum_fin_congr fun k => ?_
  rw [val_main_v4_apply, val_main_v2_apply, val_main_v6_apply, val_main_v1_apply, val_main_v0_apply]
  refine (mul_comm _ _).trans (congrArg₂ (· * ·) (congrArg x ?_) (congrArg w ?_))
  · exact ext2 rfl rfl
  · have h0 : (i 2).val < 5632 := (i 2).isLt
    exact ext3 (Fin.ext (by show (k.val * 5632 + (i 2).val) / 2816 % 2 = (i 2).val / 2816; omega)) (Fin.ext (by show (k.val * 5632 + (i 2).val) / 5632 = k.val; omega)) (Fin.ext (by show (k.val * 5632 + (i 2).val) % 2816 = (i 2).val % 2816; omega))

end Cert.UpDwReferenceIdeal.Product

end
-- ==== Proof.UpDwClaim.lean ====
/- The claims for UpDw: the frame of its reference, and that the idealized call and the reference both hand on `result` of
   Proof/UpDwValue.lean. -/
module

public import proofs.«01_k».proof.Defs
public import proofs.«01_k».proof.Proof.UpDwValue
public import Idealize.ShloMosaic.Lib.Quiescent

@[expose] public section

noncomputable section

namespace Cert.UpDwIdeal.Product

open Idealize.ShloMosaic Idealize.ShloMosaic.StableHlo Idealize.SL.Sem

theorem frame_ref : Cert.quiescent_UpDwReferenceIdeal (hUpDwReferenceIdeal := Cert.UpDwReferenceIdeal.Gen.facts) := fun m ρ _ =>
  (θ_run Cert.UpDwReferenceIdeal.defs _ _).mono (fun r h => ⟨fun c => (h c).2, sem_eq_zero_of_no_sems (by decide) r.2⟩)
    (Cert.UpDwReferenceIdeal.Value.run (F := Ideal) m ρ)

theorem algebraic : Cert.algebraic_UpDwIdeal_UpDwReferenceIdeal (hUpDwIdeal := Cert.UpDwIdeal.Gen.facts)
    (hUpDwReferenceIdeal := Cert.UpDwReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.UpDwIdeal.Value.run_blocks m g)
  · exact (θ_run _ _ _).mono (fun r h c => ⟨((h c).1.trans (Cert.UpDwReferenceIdeal.Read.val_main_v9_eq _ _)).trans
      (Cert.Index.eq_at Cert.UpDwReferenceIdeal.Product.value (hargs c).1 (hargs c).2), (h c).2⟩) (Cert.UpDwReferenceIdeal.Value.run (F := Ideal) m' g')

end Cert.UpDwIdeal.Product

end
-- ==== Proof.DownDwValue.lean ====
/- The call for the gradient of the down projection's weights: what it leaves, and that its reference hands on the same. -/
module

public import proofs.«01_k».proof.Proof.Index
public import proofs.«01_k».proof.Proof.Gen.DownDwIdeal.Value
public import proofs.«01_k».proof.Proof.Gen.DownDwReferenceIdeal.Read

@[expose] public section

set_option maxRecDepth 16384

noncomputable section

namespace Cert.DownDwIdeal.Product

open Idealize.ShloMosaic Idealize.ShloMosaic.TcCoe Cert.DownDwIdeal Cert.DownDwIdeal.Gen Cert.Index

abbrev Lhs : Type := (⟨2, ![2816, 4096]⟩ : Shape).Idx → EReal
abbrev Rhs : Type := (⟨2, ![4096, 1024]⟩ : Shape).Idx → EReal
abbrev Res : Type := (⟨3, ![1, 2816, 1024]⟩ : Shape).Idx → EReal

/-- The gradient of a weight: over the positions, the activation times the gradient of the product's column. -/
def entry (x : Lhs) (d : Rhs) (i : Fin 2816) (j : Fin 1024) : EReal := ∑ k : Fin 4096, x (ix2 i k) * d (ix2 k j)
def result (x : Lhs) (d : Rhs) : Res := fun i => entry x d (i 1) (i 2)

section Body
variable (c : Dev nD) (i : grid0.Coords) (arg3 : Memref sig .tc .vmem S1408x1024 .bf16) (harg3 : arg3.IsWhole) (arg4 : Memref sig .tc .vmem S1024x1024 .f32) (harg4 : arg4.IsWhole) (arg5 : Memref sig .tc .vmem S1x1408x1024 .f32) (harg5 : arg5.IsWhole)
variable (x : Vec Ideal S1408x1024 .bf16) (y : Vec Ideal S1024x1024 .f32) (o : Vec Ideal S1x1408x1024 .f32)

theorem first_apply (hc0 : cond0_0 i) (hc1 : ¬cond0_1 i) (a : Fin 1408) (b : Fin 1024) :
    out0_A_2 c i _ harg3 _ harg4 _ harg5 hc0 hc1 x y (ix3 0 a b) = ∑ k : Fin 1024, x (ix2 a k) * y (ix2 k b) := by
  frame_out
  try simp only [read_unread_whole]
  pointwise [k0_pay2, k0_pay1]
theorem next_apply (hc0 : ¬cond0_0 i) (hc1 : cond0_1 i) (a : Fin 1408) (b : Fin 1024) :
    out0_B_2 c i _ harg3 _ harg4 _ harg5 hc0 hc1 x y o (ix3 0 a b) = o (ix3 0 a b) + ∑ k : Fin 1024, x (ix2 a k) * y (ix2 k b) := by
  frame_out
  try simp only [read_unread_whole]
  pointwise [k0_pay3, k0_pay2, k0_pay1]
end Body

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![t.val / 4, t.val % 4] := by decide +kernel
theorem idx1 : ∀ t : Fin cfg0.N, win0_1.index t = ![t.val % 4, 0] := by decide +kernel
theorem idx2 : ∀ t : Fin cfg0.N, win0_2.index t = ![0, t.val / 4, 0] := by decide +kernel

theorem read0 (a : Fin 1408) (k : Fin 1024) :
    iblk m c 0 t (ix2 a k) = lhs m c (ix2 (⟨1408 * (t.val / 4) + a.val, by have ht : t.val < 8 := t.isLt; omega⟩ : Fin 2816) (⟨1024 * (t.val % 4) + k.val, by omega⟩ : Fin 4096)) := by
  blk_ext [iblk, idx0]
theorem read1 (k b : Fin 1024) :
    iblk m c 1 t (ix2 k b) = rhs m c (ix2 (⟨1024 * (t.val % 4) + k.val, by omega⟩ : Fin 4096) b) := by
  blk_ext [iblk, idx1]

theorem emb2 (a : Fin 1408) (b : Fin 1024) :
    ((cfg0.win 2).blk t).view.emb (ix3 0 a b) = (ix3 0 (⟨1408 * (t.val / 4) + a.val, by have ht : t.val < 8 := t.isLt; omega⟩ : Fin 2816) b : S1x2816x1024.Idx) := by
  funext k
  fin_cases k
  · apply Fin.ext; blk_simp [idx2 t]
  · apply Fin.ext; blk_simp [idx2 t]; rw [mul_comm]; rfl
  · apply Fin.ext; blk_simp [idx2 t]; rfl

/-- What point `s` adds to the block. -/
def step (x : S1408x1024.Idx → EReal) (d : S1024x1024.Idx → EReal) : S1x1408x1024.Idx → EReal :=
  fun y => ∑ k : Fin 1024, x (ix2 (y 1) k) * d (ix2 k (y 2))

theorem split (y : S1x1408x1024.Idx) : ∃ (a : Fin 1408) (b : Fin 1024), y = ix3 0 a b := exists_ix3 y

/-- Step `s` of the block of `t`. -/
def at4 (t : Fin cfg0.N) (s : Fin 4) : Fin cfg0.N := ⟨4 * (t.val / 4) + s.val, by have ht : t.val < 8 := t.isLt; show _ < 8; omega⟩

/-- At a flush the block holds the sum of its four steps. -/
theorem outs_flush (hf : t.val % 4 = 3) (y : S1x1408x1024.Idx) :
    outsAt0 m c t.val t.isLt y = ∑ s : Fin 4, step (iblk m c 0 (at4 t s)) (iblk m c 1 (at4 t s)) y := by
  have h := Pipeline.eq_sum_fin_of_reset_step_apply_of_flush (fun n (hn : n < cfg0.N) => (outsAt0 m c n hn : S1x1408x1024.Idx → EReal)) 4 (fun _ => 0) (fun s => step (iblk m c 0 s) (iblk m c 1 s)) ?_ ?_ t hf y
  · rw [zero_add] at h; exact h
  · intro n hr i
    obtain ⟨a, b, rfl⟩ := split i
    show (outsAt0 m c n.val n.isLt (ix3 0 a b) : EReal) = _
    rw [outsAt0_A m c n hr (by show ¬1 ≤ n.val % 4; omega)]
    refine Eq.trans ?_ (zero_add _).symm
    exact first_apply ..
  · intro n hr i
    obtain ⟨a, b, rfl⟩ := split i
    show (outsAt0 m c n.val n.isLt (ix3 0 a b) : EReal) = _
    rw [outsAt0_B m c n hr (by show 1 ≤ n.val % 4; omega)]
    exact next_apply ..

theorem arr2 : (dats m 0 c).arrAt 2 cfg0.N = result (lhs m c) (rhs m c) := by
  refine (dats m 0 c).arrAt_eq_of_covers 2 _ (by decide +kernel) fun t hf y => ?_
  have ht : t.val < 8 := t.isLt
  have hf4 : t.val % 4 = 3 := (flush0_2 t).mp hf
  obtain ⟨a, b, rfl⟩ := split y
  blk_simp
  rw [after0_2, emb2]
  refine (outs_flush m c t hf4 _).trans ?_
  show _ = entry _ _ _ _
  unfold entry step at4
  refine Fin.sum_mul_add_congr (fun s k hl => ?_)
  have e1 : (4 * (t.val / 4) + s.val) / 4 = t.val / 4 := by omega
  have e2 : 1024 * ((4 * (t.val / 4) + s.val) % 4) + k.val = s.val * 1024 + k.val := by omega
  refine congrArg₂ (· * ·) ((read0 m c (at4 t s) a k).trans ?_) ((read1 m c (at4 t s) k b).trans ?_)
  · refine congrArg (lhs m c) (congrArg₂ ix2 (Fin.ext ?_) (Fin.ext e2))
    show 1408 * ((4 * (t.val / 4) + s.val) / 4) + a.val = 1408 * (t.val / 4) + a.val
    rw [e1]
  · exact congrArg (rhs m c) (congrArg₂ ix2 (Fin.ext e2) rfl)

end Cert.DownDwIdeal.Product

namespace Cert.DownDwReferenceIdeal.Product

open Idealize.ShloMosaic Cert.DownDwReferenceIdeal Cert.DownDwReferenceIdeal.Read Cert.DownDwIdeal.Product Cert.Index

theorem value (x : Lhs) (d : Rhs) : val_main_v6 (F := Ideal) x d = result x d := funext fun i => by
  rw [val_main_v6_apply, val_main_v5_apply, val_main_v4_apply]
  show _ = entry x d (i 1) (i 2)
  unfold entry
  refine Fin.sum_fin_congr fun k => ?_
  rw [val_main_v2_apply, val_main_v0_apply, mul_comm]
  refine congrArg₂ (· * ·) (congrArg x (ext2 rfl rfl)) (congrArg d (ext2 rfl rfl))

end Cert.DownDwReferenceIdeal.Product

end
-- ==== Proof.DownDwClaim.lean ====
/- The claims for DownDw: the frame of its reference, and that the idealized call and the reference both hand on `result` of
   Proof/DownDwValue.lean. -/
module

public import proofs.«01_k».proof.Defs
public import proofs.«01_k».proof.Proof.DownDwValue
public import Idealize.ShloMosaic.Lib.Quiescent

@[expose] public section

noncomputable section

namespace Cert.DownDwIdeal.Product

open Idealize.ShloMosaic Idealize.ShloMosaic.StableHlo Idealize.SL.Sem

theorem frame_ref : Cert.quiescent_DownDwReferenceIdeal (hDownDwReferenceIdeal := Cert.DownDwReferenceIdeal.Gen.facts) := fun m ρ _ =>
  (θ_run Cert.DownDwReferenceIdeal.defs _ _).mono (fun r h => ⟨fun c => (h c).2, sem_eq_zero_of_no_sems (by decide) r.2⟩)
    (Cert.DownDwReferenceIdeal.Value.run (F := Ideal) m ρ)

theorem algebraic : Cert.algebraic_DownDwIdeal_DownDwReferenceIdeal (hDownDwIdeal := Cert.DownDwIdeal.Gen.facts)
    (hDownDwReferenceIdeal := Cert.DownDwReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.DownDwIdeal.Value.run_blocks m g)
  · exact (θ_run _ _ _).mono (fun r h c => ⟨((h c).1.trans (Cert.DownDwReferenceIdeal.Read.val_main_v6_eq _ _)).trans
      (Cert.Index.eq_at Cert.DownDwReferenceIdeal.Product.value (hargs c).1 (hargs c).2), (h c).2⟩) (Cert.DownDwReferenceIdeal.Value.run (F := Ideal) m' g')

end Cert.DownDwIdeal.Product

end
-- ==== Proof.AttnInDwValue.lean ====
/- The gradient of the weights into an attention: what the call leaves, and that its reference hands on the same. -/
module

public import proofs.«01_k».proof.Proof.Index
public import proofs.«01_k».proof.Proof.Gen.AttnInDwIdeal.Value
public import proofs.«01_k».proof.Proof.Gen.AttnInDwReferenceIdeal.Read

@[expose] public section

set_option maxRecDepth 16384

noncomputable section

namespace Cert.AttnInDwIdeal.Product

open Idealize.ShloMosaic Idealize.ShloMosaic.TcCoe Cert.AttnInDwIdeal Cert.AttnInDwIdeal.Gen Cert.Index

abbrev Lhs : Type := (⟨2, ![1024, 4096]⟩ : Shape).Idx → EReal
abbrev Rhs : Type := (⟨2, ![4096, 1536]⟩ : Shape).Idx → EReal
abbrev Res : Type := (⟨3, ![1, 1024, 1536]⟩ : Shape).Idx → EReal

/-- The gradient of a weight: over the positions, the feature times the gradient of the product's column. -/
def entry (x : Lhs) (w : Rhs) (i : Fin 1024) (j : Fin 1536) : EReal := ∑ k : Fin 4096, x (ix2 i k) * w (ix2 k j)
def result (x : Lhs) (w : Rhs) : Res := fun i => entry x w (i 1) (i 2)

section Body
variable (c : Dev nD) (i : grid0.Coords) (arg3 : Memref sig .tc .vmem S1024x4096 .bf16) (harg3 : arg3.IsWhole) (arg4 : Memref sig .tc .vmem S4096x512 .bf16) (harg4 : arg4.IsWhole) (arg5 : Memref sig .tc .vmem S1x1024x512 .f32) (harg5 : arg5.IsWhole) (hc0 : cond0_0 i) (hc1 : ¬cond0_1 i)
variable (x : Vec Ideal S1024x4096 .bf16) (y : Vec Ideal S4096x512 .bf16)

theorem out_apply (a : Fin 1024) (b : Fin 512) :
    out0_A_2 c i _ harg3 _ harg4 _ harg5 hc0 hc1 x y (ix3 0 a b) = ∑ k : Fin 4096, x (ix2 a k) * y (ix2 k b) := by
  frame_out
  try simp only [read_unread_whole]
  pointwise [k0_pay2, k0_pay1]
end Body

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![0, 0] := by decide +kernel
theorem idx1 : ∀ t : Fin cfg0.N, win0_1.index t = ![0, t.val] := by decide +kernel
theorem idx2 : ∀ t : Fin cfg0.N, win0_2.index t = ![0, 0, t.val] := by decide +kernel

theorem read0 (a : Fin 1024) (k : Fin 4096) :
    iblk m c 0 t (ix2 a k) = lhs m c (ix2 a k) := by
  blk_ext [iblk, idx0]
theorem read1 (k : Fin 4096) (b : Fin 512) :
    iblk m c 1 t (ix2 k b) = rhs m c (ix2 k (⟨512 * t.val + b.val, by have ht : t.val < 3 := t.isLt; omega⟩ : Fin 1536)) := by
  blk_ext [iblk, idx1]

theorem emb2 (a : Fin 1024) (b : Fin 512) :
    ((cfg0.win 2).blk t).view.emb (ix3 0 a b) = (ix3 0 a (⟨512 * t.val + b.val, by have ht : t.val < 3 := t.isLt; omega⟩ : Fin 1536) : S1x1024x1536.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 3 := t.isLt
  obtain ⟨a, b, rfl⟩ := exists_ix3 y
  blk_simp
  rw [after0_2, emb2]
  unfold outsAt0
  refine (out_apply ..).trans ?_
  show _ = entry _ _ _ _
  unfold entry
  refine Finset.sum_congr rfl fun k _ => ?_
  rw [read0, read1]
  rfl

end Cert.AttnInDwIdeal.Product

namespace Cert.AttnInDwReferenceIdeal.Product

open Idealize.ShloMosaic Cert.AttnInDwReferenceIdeal Cert.AttnInDwReferenceIdeal.Read Cert.AttnInDwIdeal.Product Cert.Index

theorem value (x : Lhs) (w : Rhs) : val_main_v7 (F := Ideal) x w = result x w := funext fun i => by
  rw [val_main_v7_apply, val_main_v6_apply, val_main_v5_apply]
  show _ = entry x w (i 1) (i 2)
  unfold entry
  refine Fin.sum_fin_congr fun k => ?_
  rw [val_main_v2_apply, val_main_v0_apply, val_main_v4_apply]
  refine (mul_comm _ _).trans (congrArg₂ (· * ·) (congrArg x ?_) (congrArg w ?_))
  · exact ext2 rfl rfl
  · exact ext2 rfl rfl

end Cert.AttnInDwReferenceIdeal.Product

end
-- ==== Proof.AttnInDwClaim.lean ====
/- The claims for AttnInDw: the frame of its reference, and that the idealized call and the reference both hand on `result` of
   Proof/AttnInDwValue.lean. -/
module

public import proofs.«01_k».proof.Defs
public import proofs.«01_k».proof.Proof.AttnInDwValue
public import Idealize.ShloMosaic.Lib.Quiescent

@[expose] public section

noncomputable section

namespace Cert.AttnInDwIdeal.Product

open Idealize.ShloMosaic Idealize.ShloMosaic.StableHlo Idealize.SL.Sem

theorem frame_ref : Cert.quiescent_AttnInDwReferenceIdeal (hAttnInDwReferenceIdeal := Cert.AttnInDwReferenceIdeal.Gen.facts) := fun m ρ _ =>
  (θ_run Cert.AttnInDwReferenceIdeal.defs _ _).mono (fun r h => ⟨fun c => (h c).2, sem_eq_zero_of_no_sems (by decide) r.2⟩)
    (Cert.AttnInDwReferenceIdeal.Value.run (F := Ideal) m ρ)

theorem algebraic : Cert.algebraic_AttnInDwIdeal_AttnInDwReferenceIdeal (hAttnInDwIdeal := Cert.AttnInDwIdeal.Gen.facts)
    (hAttnInDwReferenceIdeal := Cert.AttnInDwReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.AttnInDwIdeal.Value.run_blocks m g)
  · exact (θ_run _ _ _).mono (fun r h c => ⟨((h c).1.trans (Cert.AttnInDwReferenceIdeal.Read.val_main_v7_eq _ _)).trans
      (Cert.Index.eq_at Cert.AttnInDwReferenceIdeal.Product.value (hargs c).1 (hargs c).2), (h c).2⟩) (Cert.AttnInDwReferenceIdeal.Value.run (F := Ideal) m' g')

end Cert.AttnInDwIdeal.Product

end
-- ==== Proof.HgrnInDwValue.lean ====
/- The gradient of the weights into a recurrence: what the call leaves, and that its reference hands on the same. -/
module

public import proofs.«01_k».proof.Proof.Index
public import proofs.«01_k».proof.Proof.Gen.HgrnInDwIdeal.Value
public import proofs.«01_k».proof.Proof.Gen.HgrnInDwReferenceIdeal.Read

@[expose] public section

set_option maxRecDepth 16384

noncomputable section

namespace Cert.HgrnInDwIdeal.Product

open Idealize.ShloMosaic Idealize.ShloMosaic.TcCoe Cert.HgrnInDwIdeal Cert.HgrnInDwIdeal.Gen Cert.Index

abbrev Lhs : Type := (⟨2, ![1024, 4096]⟩ : Shape).Idx → EReal
abbrev Rhs : Type := (⟨2, ![4096, 4096]⟩ : Shape).Idx → EReal
abbrev Res : Type := (⟨3, ![1, 1024, 4096]⟩ : Shape).Idx → EReal

/-- The gradient of a weight: over the positions, the feature times the gradient of the product's column. -/
def entry (x : Lhs) (w : Rhs) (i : Fin 1024) (j : Fin 4096) : EReal := ∑ k : Fin 4096, x (ix2 i k) * w (ix2 k j)
def result (x : Lhs) (w : Rhs) : Res := fun i => entry x w (i 1) (i 2)

section Body
variable (c : Dev nD) (i : grid0.Coords) (arg3 : Memref sig .tc .vmem S1024x4096 .bf16) (harg3 : arg3.IsWhole) (arg4 : Memref sig .tc .vmem S4096x512 .bf16) (harg4 : arg4.IsWhole) (arg5 : Memref sig .tc .vmem S1x1024x512 .f32) (harg5 : arg5.IsWhole) (hc0 : cond0_0 i) (hc1 : ¬cond0_1 i)
variable (x : Vec Ideal S1024x4096 .bf16) (y : Vec Ideal S4096x512 .bf16)

theorem out_apply (a : Fin 1024) (b : Fin 512) :
    out0_A_2 c i _ harg3 _ harg4 _ harg5 hc0 hc1 x y (ix3 0 a b) = ∑ k : Fin 4096, x (ix2 a k) * y (ix2 k b) := by
  frame_out
  try simp only [read_unread_whole]
  pointwise [k0_pay2, k0_pay1]
end Body

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![0, 0] := by decide +kernel
theorem idx1 : ∀ t : Fin cfg0.N, win0_1.index t = ![0, t.val] := by decide +kernel
theorem idx2 : ∀ t : Fin cfg0.N, win0_2.index t = ![0, 0, t.val] := by decide +kernel

theorem read0 (a : Fin 1024) (k : Fin 4096) :
    iblk m c 0 t (ix2 a k) = lhs m c (ix2 a k) := by
  blk_ext [iblk, idx0]
theorem read1 (k : Fin 4096) (b : Fin 512) :
    iblk m c 1 t (ix2 k b) = rhs m c (ix2 k (⟨512 * t.val + b.val, by have ht : t.val < 8 := t.isLt; omega⟩ : Fin 4096)) := by
  blk_ext [iblk, idx1]

theorem emb2 (a : Fin 1024) (b : Fin 512) :
    ((cfg0.win 2).blk t).view.emb (ix3 0 a b) = (ix3 0 a (⟨512 * t.val + b.val, by have ht : t.val < 8 := t.isLt; omega⟩ : Fin 4096) : S1x1024x4096.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 8 := t.isLt
  obtain ⟨a, b, rfl⟩ := exists_ix3 y
  blk_simp
  rw [after0_2, emb2]
  unfold outsAt0
  refine (out_apply ..).trans ?_
  show _ = entry _ _ _ _
  unfold entry
  refine Finset.sum_congr rfl fun k _ => ?_
  rw [read0, read1]
  rfl

end Cert.HgrnInDwIdeal.Product

namespace Cert.HgrnInDwReferenceIdeal.Product

open Idealize.ShloMosaic Cert.HgrnInDwReferenceIdeal Cert.HgrnInDwReferenceIdeal.Read Cert.HgrnInDwIdeal.Product Cert.Index

theorem value (x : Lhs) (w : Rhs) : val_main_v7 (F := Ideal) x w = result x w := funext fun i => by
  rw [val_main_v7_apply, val_main_v6_apply, val_main_v5_apply]
  show _ = entry x w (i 1) (i 2)
  unfold entry
  refine Fin.sum_fin_congr fun k => ?_
  rw [val_main_v2_apply, val_main_v0_apply, val_main_v4_apply]
  refine (mul_comm _ _).trans (congrArg₂ (· * ·) (congrArg x ?_) (congrArg w ?_))
  · exact ext2 rfl rfl
  · exact ext2 rfl rfl

end Cert.HgrnInDwReferenceIdeal.Product

end
-- ==== Proof.HgrnInDwClaim.lean ====
/- The claims for HgrnInDw: the frame of its reference, and that the idealized call and the reference both hand on `result` of
   Proof/HgrnInDwValue.lean. -/
module

public import proofs.«01_k».proof.Defs
public import proofs.«01_k».proof.Proof.HgrnInDwValue
public import Idealize.ShloMosaic.Lib.Quiescent

@[expose] public section

noncomputable section

namespace Cert.HgrnInDwIdeal.Product

open Idealize.ShloMosaic Idealize.ShloMosaic.StableHlo Idealize.SL.Sem

theorem frame_ref : Cert.quiescent_HgrnInDwReferenceIdeal (hHgrnInDwReferenceIdeal := Cert.HgrnInDwReferenceIdeal.Gen.facts) := fun m ρ _ =>
  (θ_run Cert.HgrnInDwReferenceIdeal.defs _ _).mono (fun r h => ⟨fun c => (h c).2, sem_eq_zero_of_no_sems (by decide) r.2⟩)
    (Cert.HgrnInDwReferenceIdeal.Value.run (F := Ideal) m ρ)

theorem algebraic : Cert.algebraic_HgrnInDwIdeal_HgrnInDwReferenceIdeal (hHgrnInDwIdeal := Cert.HgrnInDwIdeal.Gen.facts)
    (hHgrnInDwReferenceIdeal := Cert.HgrnInDwReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.HgrnInDwIdeal.Value.run_blocks m g)
  · exact (θ_run _ _ _).mono (fun r h c => ⟨((h c).1.trans (Cert.HgrnInDwReferenceIdeal.Read.val_main_v7_eq _ _)).trans
      (Cert.Index.eq_at Cert.HgrnInDwReferenceIdeal.Product.value (hargs c).1 (hargs c).2), (h c).2⟩) (Cert.HgrnInDwReferenceIdeal.Value.run (F := Ideal) m' g')

end Cert.HgrnInDwIdeal.Product

end
-- ==== Proof.OutDwValue.lean ====
/- The gradient of the weights out of a mixer (attention or recurrence): what the call leaves, and that its reference hands on the same. -/
module

public import proofs.«01_k».proof.Proof.Index
public import proofs.«01_k».proof.Proof.Gen.OutDwIdeal.Value
public import proofs.«01_k».proof.Proof.Gen.OutDwReferenceIdeal.Read

@[expose] public section

set_option maxRecDepth 16384

noncomputable section

namespace Cert.OutDwIdeal.Product

open Idealize.ShloMosaic Idealize.ShloMosaic.TcCoe Cert.OutDwIdeal Cert.OutDwIdeal.Gen Cert.Index

abbrev Lhs : Type := (⟨2, ![4096, 1024]⟩ : Shape).Idx → EReal
abbrev Rhs : Type := (⟨2, ![4096, 1024]⟩ : Shape).Idx → EReal
abbrev Res : Type := (⟨3, ![1, 1024, 1024]⟩ : Shape).Idx → EReal

/-- The gradient of a weight: over the positions, the feature times the gradient of the product's column. -/
def entry (x : Lhs) (w : Rhs) (i j : Fin 1024) : EReal := ∑ k : Fin 4096, x (ix2 k i) * w (ix2 k j)
def result (x : Lhs) (w : Rhs) : Res := fun i => entry x w (i 1) (i 2)

section Body
variable (c : Dev nD) (i : grid0.Coords) (arg3 : Memref sig .tc .vmem S4096x512 .bf16) (harg3 : arg3.IsWhole) (arg4 : Memref sig .tc .vmem S4096x512 .f32) (harg4 : arg4.IsWhole) (arg5 : Memref sig .tc .vmem S1x512x512 .f32) (harg5 : arg5.IsWhole) (hc0 : cond0_0 i) (hc1 : ¬cond0_1 i)
variable (x : Vec Ideal S4096x512 .bf16) (y : Vec Ideal S4096x512 .f32)

theorem out_apply (a b : Fin 512) :
    out0_A_2 c i _ harg3 _ harg4 _ harg5 hc0 hc1 x y (ix3 0 a b) = ∑ k : Fin 4096, x (ix2 k a) * y (ix2 k b) := by
  frame_out
  try simp only [read_unread_whole]
  pointwise [k0_pay2, k0_pay1]
end Body

variable (m : (ℓ : Loc nD τ sig) → Buf (Elt Ideal) ℓ) (c : Dev nD) (t : Fin cfg0.N)

abbrev lhs : Lhs := m (c.tc.loc main_arg0)
abbrev rhs : Rhs := m (c.tc.loc main_arg1)

theorem idx0 : ∀ t : Fin cfg0.N, win0_0.index t = ![0, t.val / 2] := by decide +kernel
theorem idx1 : ∀ t : Fin cfg0.N, win0_1.index t = ![0, t.val % 2] := by decide +kernel
theorem idx2 : ∀ t : Fin cfg0.N, win0_2.index t = ![0, t.val / 2, t.val % 2] := by decide +kernel

theorem read0 (k : Fin 4096) (a : Fin 512) :
    iblk m c 0 t (ix2 k a) = lhs m c (ix2 k (⟨512 * (t.val / 2) + a.val, by have ht : t.val < 4 := t.isLt; omega⟩ : Fin 1024)) := by
  blk_ext [iblk, idx0]
theorem read1 (k : Fin 4096) (b : Fin 512) :
    iblk m c 1 t (ix2 k b) = rhs m c (ix2 k (⟨512 * (t.val % 2) + b.val, by have ht : t.val < 4 := t.isLt; omega⟩ : Fin 1024)) := by
  blk_ext [iblk, idx1]

theorem emb2 (a b : Fin 512) :
    ((cfg0.win 2).blk t).view.emb (ix3 0 a b) = (ix3 0 (⟨512 * (t.val / 2) + a.val, by have ht : t.val < 4 := t.isLt; omega⟩ : Fin 1024) (⟨512 * (t.val % 2) + b.val, by have ht : t.val < 4 := t.isLt; omega⟩ : Fin 1024) : S1x1024x1024.Idx) := by
  funext k; fin_cases k <;> (apply Fin.ext; blk_simp [idx2 t]; try first | rfl | (rw [mul_comm]; rfl))

theorem arr2 : (dats m 0 c).arrAt 2 cfg0.N = result (lhs m c) (rhs m c) := by
  refine (dats m 0 c).arrAt_eq_of_covers 2 _ (by decide +kernel) fun t hf y => ?_
  have ht : t.val < 4 := t.isLt
  obtain ⟨a, b, rfl⟩ := exists_ix3 y
  blk_simp
  rw [after0_2, emb2]
  unfold outsAt0
  refine (out_apply ..).trans ?_
  show _ = entry _ _ _ _
  unfold entry
  refine Finset.sum_congr rfl fun k _ => ?_
  rw [read0, read1]
  rfl

end Cert.OutDwIdeal.Product

namespace Cert.OutDwReferenceIdeal.Product

open Idealize.ShloMosaic Cert.OutDwReferenceIdeal Cert.OutDwReferenceIdeal.Read Cert.OutDwIdeal.Product Cert.Index

theorem value (x : Lhs) (w : Rhs) : val_main_v5 (F := Ideal) x w = result x w := funext fun i => by
  rw [val_main_v5_apply, val_main_v4_apply, val_main_v3_apply]
  show _ = entry x w (i 1) (i 2)
  unfold entry
  refine Fin.sum_fin_congr fun k => ?_
  rw [val_main_v1_apply]
  refine (mul_comm _ _).trans (congrArg₂ (· * ·) (congrArg x ?_) (congrArg w ?_))
  · exact ext2 rfl rfl
  · exact ext2 rfl rfl

end Cert.OutDwReferenceIdeal.Product

end
-- ==== Proof.OutDwClaim.lean ====
/- The claims for OutDw: the frame of its reference, and that the idealized call and the reference both hand on `result` of
   Proof/OutDwValue.lean. -/
module

public import proofs.«01_k».proof.Defs
public import proofs.«01_k».proof.Proof.OutDwValue
public import Idealize.ShloMosaic.Lib.Quiescent

@[expose] public section

noncomputable section

namespace Cert.OutDwIdeal.Product

open Idealize.ShloMosaic Idealize.ShloMosaic.StableHlo Idealize.SL.Sem

theorem frame_ref : Cert.quiescent_OutDwReferenceIdeal (hOutDwReferenceIdeal := Cert.OutDwReferenceIdeal.Gen.facts) := fun m ρ _ =>
  (θ_run Cert.OutDwReferenceIdeal.defs _ _).mono (fun r h => ⟨fun c => (h c).2, sem_eq_zero_of_no_sems (by decide) r.2⟩)
    (Cert.OutDwReferenceIdeal.Value.run (F := Ideal) m ρ)

theorem algebraic : Cert.algebraic_OutDwIdeal_OutDwReferenceIdeal (hOutDwIdeal := Cert.OutDwIdeal.Gen.facts)
    (hOutDwReferenceIdeal := Cert.OutDwReferenceIdeal.Gen.facts) := by
  intro m g m' g' _ hargs
  refine ⟨fun c => result (lhs m c) (rhs m c), ?_, ?_⟩
  · exact (θ_run _ _ _).mono (fun r h c => ⟨(h c).1.trans (arr2 m c), (h c).2⟩) (Cert.OutDwIdeal.Value.run_blocks m g)
  · exact (θ_run _ _ _).mono (fun r h c => ⟨((h c).1.trans (Cert.OutDwReferenceIdeal.Read.val_main_v5_eq _ _)).trans
      (Cert.Index.eq_at Cert.OutDwReferenceIdeal.Product.value (hargs c).1 (hargs c).2), (h c).2⟩) (Cert.OutDwReferenceIdeal.Value.run (F := Ideal) m' g')

end Cert.OutDwIdeal.Product

end
-- ==== Proof.NormGrad.lean ====
/- The gradient through the root-mean-square norm, row by row: what the calls for the gradient of a product's input add to
   the gradient they are given, and a row's part of the gradient of the norm's scale. A row is `x`, `a` is the gradient of
   the normed row, `g` the scale, `d` the gradient already there. -/
module

public import Idealize.ShloMosaic.Lib.Pointwise

@[expose] public section

noncomputable section

namespace Cert.NormGrad

open Idealize.ShloMosaic

/-- The arrays: the norm's input and its gradient, the scale of each layer, the gradient of a scale; and a row of the first. -/
abbrev Inp : Type := (⟨2, ![4096, 1024]⟩ : Shape).Idx → EReal
abbrev Sca : Type := (⟨3, ![4, 1, 1024]⟩ : Shape).Idx → EReal
abbrev GSca : Type := (⟨2, ![1, 1024]⟩ : Shape).Idx → EReal
def inp (h : Inp) (i : Fin 4096) : Fin 1024 → EReal := fun k => h (ix2 i k)

theorem split (y : (⟨2, ![1, 1024]⟩ : Shape).Idx) : ∃ b : Fin 1024, y = ix2 0 b := ⟨y 1, by
  funext k
  fin_cases k
  · exact Subsingleton.elim (α := Fin 1) _ _
  · rfl⟩

theorem zero_sum (x : EReal) : (FloatOps.ofBits .f32 0x00000000#32 : Ideal .f32) + x = x :=
  (congrArg (· + x) Ideal.ofBits_zero_f32).trans (zero_add x)

variable (x a g d : Fin 1024 → EReal)

/-- The mean of the squares, and the norm's small constant. -/
def meanSq : EReal := Ideal.div (∑ k, x k * x k) (Ideal.ofBits .f32 0x44800000#32) + Ideal.ofBits .f32 0x358637BD#32
/-- The reciprocal of the root of it. -/
def rs : EReal := Ideal.rsqrt (meanSq x)
/-- The gradient of the mean of the squares, to one of the 1024 entries. -/
def corr : EReal :=
  Ideal.div ((∑ k, x k * (a k * g k)) * (Ideal.ofBits .f32 0xBF000000#32 * Ideal.div (rs x) (meanSq x))) (Ideal.ofBits .f32 0x44800000#32)
/-- The gradient of the row: the one already there, the one through the scaled row, and the two of `x * x` in the mean. -/
def dx (j : Fin 1024) : EReal := d j + (((a j * g j) * rs x + x j * corr x a g) + corr x a g * x j)
/-- The row's part of the gradient of the scale. -/
def dg (j : Fin 1024) : EReal := (x j * rs x) * a j

theorem dx_eq (j : Fin 1024) : ((d j + (a j * g j) * rs x) + x j * corr x a g) + corr x a g * x j = dx x a g d j := by
  unfold dx; rw [add_assoc (d j), add_assoc (d j)]

end Cert.NormGrad

end
-- ==== Proof.UpDx0Value.lean ====
/- The gradient of the input of layer 0's up projection, through its norm: what the call leaves, and that its reference hands on the same. -/
module

public import proofs.«01_k».proof.Proof.Index
public import proofs.«01_k».proof.Proof.NormGrad
public import proofs.«01_k».proof.Proof.Gen.UpDx0Ideal.Value
public import proofs.«01_k».proof.Proof.Gen.UpDx0ReferenceIdeal.Read

@[expose] public section

set_option maxRecDepth 16384

noncomputable section

namespace Cert.UpDx0Ideal.Product

open Idealize.ShloMosaic Idealize.ShloMosaic.TcCoe Cert.UpDx0Ideal Cert.UpDx0Ideal.Gen Cert.NormGrad Cert.Index

section Body
variable (u : Vec Ideal S1x512x2816 .bf16) (w : Vec Ideal S1x1024x2816 .bf16) (x : Vec Ideal S512x1024 .f32) (v : Vec Ideal S1x1x1024 .f32) (d : Vec Ideal S512x1024 .f32) (y : Vec Ideal S512x1024 .f32)

/-- A block's rows (the norm's input, the gradient of the product's input, the gradient already there), the scale, and what one
    of the two steps of the product adds to a row. -/
def row (x : Vec Ideal S512x1024 .f32) (a : Fin 512) : Fin 1024 → EReal := fun k => x (ix2 a k)
def rowG : Fin 1024 → EReal := fun k => v (ix3 0 0 k)
def part (a : Fin 512) : Fin 1024 → EReal := fun k => ∑ q : Fin 2816, u (ix3 0 a q) * w (ix3 0 k q)

theorem pay1_apply (a : Fin 512) (b : Fin 1024) : k0_pay1 u w (ix2 a b) = part u w a b := by
  pointwise [k0_pay1]
  rfl
theorem pay2_apply (a : Fin 512) (b : Fin 1024) : k0_pay2 u w (ix2 a b) = part u w a b := by
  pointwise [k0_pay2]
  exact pay1_apply ..
theorem pay3_apply (a : Fin 512) (b : Fin 1024) : k0_pay3 u w y (ix2 a b) = y (ix2 a b) + part u w a b := by
  pointwise [k0_pay3]
  rw [pay1_apply]
theorem pay5_apply (a : Fin 512) : k0_pay5 x (ix2 a 0) = meanSq (row x a) := by
  pointwise [k0_pay5]
  rfl
theorem pay6_apply (a : Fin 512) : k0_pay6 x (ix2 a 0) = rs (row x a) := by
  pointwise [k0_pay6]
  rw [pay5_apply]
  rfl
theorem pay7_apply (b : Fin 1024) : k0_pay7 y x (ix2 0 b) = ∑ a : Fin 512, dg (row x a) (row y a) b := by
  pointwise [k0_pay7]
  refine Fin.sum_fin_congr fun a => ?_
  rw [pay6_apply]
  rfl
theorem pay8_apply (a : Fin 512) (b : Fin 1024) : k0_pay8 y x v d (ix2 a b) = dx (row x a) (row y a) (rowG v) (row d a) b := by
  pointwise [k0_pay8]
  simp only [pay6_apply, pay5_apply, Fin.sum_univ_one]
  rfl

variable (o : Vec Ideal S1x1024 .f32) (z : Vec Ideal S512x1024 .f32) (c : Dev nD) (i : grid0.Coords) (arg3 : Memref sig .tc .vmem S1x512x2816 .bf16) (harg3 : arg3.IsWhole) (arg4 : Memref sig .tc .vmem S1x1024x2816 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole)

theorem sum_apply (hc0 : cond0_0 i) (hc1 : ¬cond0_1 i) (hc2 : ¬cond0_2 i) (a : Fin 512) (b : Fin 1024) :
    sout0_A_0 c i _ harg3 _ harg4 _ harg5 _ harg6 _ harg7 _ harg8 _ harg9 _ harg10 hc0 hc1 hc2 u w x v d (ix2 a b) = part u w a b := by
  frame_out
  try simp only [read_unread_whole]
  exact pay2_apply ..
theorem row_add (a : Fin 512) : row (k0_pay3 u w z) a = fun k => z (ix2 a k) + part u w a k := funext fun k => pay3_apply ..
theorem first_apply (hc0 : ¬cond0_0 i) (hc1 : cond0_1 i) (hc2 : cond0_2 i) (hc3 : cond0_3 i) (hc4 : ¬cond0_4 i) (a : Fin 512) (b : Fin 1024) :
    out0_B_5 c i _ harg3 _ harg4 _ harg5 _ harg6 _ harg7 _ harg8 _ harg9 _ harg10 hc0 hc1 hc2 hc3 hc4 u w x v d z (ix2 a b) = dx (row x a) (fun k => z (ix2 a k) + part u w a k) (rowG v) (row d a) b := by
  rw [← row_add]
  frame_out
  try simp only [read_unread_whole]
  exact pay8_apply ..
theorem first_scale (hc0 : ¬cond0_0 i) (hc1 : cond0_1 i) (hc2 : cond0_2 i) (hc3 : cond0_3 i) (hc4 : ¬cond0_4 i) (b : Fin 1024) :
    out0_B_6 c i _ harg3 _ harg4 _ harg5 _ harg6 _ harg7 _ harg8 _ harg9 _ harg10 hc0 hc1 hc2 hc3 hc4 u w x v d z (ix2 0 b) = ∑ a : Fin 512, dg (row x a) (fun k => z (ix2 a k) + part u w a k) b := by
  simp only [← row_add]
  frame_out
  try simp only [read_unread_whole]
  exact pay7_apply ..
theorem next_apply (hc0 : ¬cond0_0 i) (hc1 : cond0_1 i) (hc2 : cond0_2 i) (hc3 : ¬cond0_3 i) (hc4 : cond0_4 i) (a : Fin 512) (b : Fin 1024) :
    out0_C_5 c i _ harg3 _ harg4 _ harg5 _ harg6 _ harg7 _ harg8 _ harg9 _ harg10 hc0 hc1 hc2 hc3 hc4 u w x v d o z (ix2 a b) = dx (row x a) (fun k => z (ix2 a k) + part u w a k) (rowG v) (row d a) b := by
  rw [← row_add]
  frame_out
  try simp only [read_unread_whole]
  exact pay8_apply ..
theorem next_scale (hc0 : ¬cond0_0 i) (hc1 : cond0_1 i) (hc2 : cond0_2 i) (hc3 : ¬cond0_3 i) (hc4 : cond0_4 i) (b : Fin 1024) :
    out0_C_6 c i _ harg3 _ harg4 _ harg5 _ harg6 _ harg7 _ harg8 _ harg9 _ harg10 hc0 hc1 hc2 hc3 hc4 u w x v d o z (ix2 0 b) = o (ix2 0 b) + ∑ a : Fin 512, dg (row x a) (fun k => z (ix2 a k) + part u w a k) b := by
  simp only [← row_add]
  frame_out
  try simp only [read_unread_whole]
  pointwise [k0_pay4]
  exact congrArg (o (ix2 0 b) + ·) (pay7_apply ..)
end Body

abbrev Lhs : Type := (⟨3, ![2, 4096, 2816]⟩ : Shape).Idx → EReal
abbrev Rhs : Type := (⟨3, ![4, 1024, 5632]⟩ : Shape).Idx → EReal

/-- The rows of the arrays; the gradient of the product's input is the product with the transposed weights, over the columns of
    the two halves. -/
def up (u : Lhs) (w : Rhs) (i : Fin 4096) : Fin 1024 → EReal := fun k =>
  ∑ s : Fin 2, ∑ q : Fin 2816, u (ix3 s i q) * w (ix3 0 k (⟨s.val * 2816 + q.val, by have hs : s.val < 2 := s.isLt; omega⟩ : Fin 5632))
def sca (g : Sca) : Fin 1024 → EReal := fun k => g (ix3 0 0 k)
def result (u : Lhs) (w : Rhs) (h : Inp) (g : Sca) (d : Inp) : Inp := fun i => dx (inp h (i 0)) (up u w (i 0)) (sca g) (inp d (i 0)) (i 1)
def scale (u : Lhs) (w : Rhs) (h : Inp) : GSca := fun i => ∑ k : Fin 4096, dg (inp h k) (up u w k) (i 1)

variable (m : (ℓ : Loc nD τ sig) → Buf (Elt Ideal) ℓ) (c : Dev nD) (t : Fin cfg0.N)

abbrev arg0 : Lhs := m (c.tc.loc main_arg0)
abbrev arg1 : Rhs := m (c.tc.loc main_arg1)
abbrev arg2 : Inp := m (c.tc.loc main_arg2)
abbrev arg3 : Sca := m (c.tc.loc main_arg3)
abbrev arg4 : Inp := m (c.tc.loc main_arg4)

theorem idx0 : ∀ t : Fin cfg0.N, win0_0.index t = ![t.val % 2, t.val / 2, 0] := by decide +kernel
theorem idx1 : ∀ t : Fin cfg0.N, win0_1.index t = ![0, 0, t.val % 2] := by decide +kernel
theorem idx2 : ∀ t : Fin cfg0.N, win0_2.index t = ![t.val / 2, 0] := by decide +kernel
theorem idx3 : ∀ t : Fin cfg0.N, win0_3.index t = ![0, 0, 0] := by decide +kernel
theorem idx4 : ∀ t : Fin cfg0.N, win0_4.index t = ![t.val / 2, 0] := by decide +kernel
theorem idx5 : ∀ t : Fin cfg0.N, win0_5.index t = ![t.val / 2, 0] := by decide +kernel
theorem idx6 : ∀ t : Fin cfg0.N, win0_6.index t = ![0, 0] := by decide +kernel

/-- Row `a` of the block of point `t`, and its step of the product. -/
def rowAt (t : Fin cfg0.N) (a : Fin 512) : Fin 4096 := ⟨512 * (t.val / 2) + a.val, by have ht : t.val < 16 := t.isLt; omega⟩

theorem read0 (a : Fin 512) (q : Fin 2816) : iblk m c 0 t (ix3 0 a q) = arg0 m c (ix3 (⟨t.val % 2, by omega⟩ : Fin 2) (rowAt t a) q) := by
  unfold rowAt; blk_ext [iblk, idx0]
theorem read1 (k : Fin 1024) (q : Fin 2816) :
    iblk m c 1 t (ix3 0 k q) = arg1 m c (ix3 0 k (⟨t.val % 2 * 2816 + q.val, by omega⟩ : Fin 5632)) := by
  blk_ext [iblk, idx1]
theorem read2 (a : Fin 512) (b : Fin 1024) : iblk m c 2 t (ix2 a b) = arg2 m c (ix2 (rowAt t a) b) := by
  unfold rowAt; blk_ext [iblk, idx2]
theorem read3 (b : Fin 1024) : iblk m c 3 t (ix3 0 0 b) = arg3 m c (ix3 0 0 b) := by
  blk_ext [iblk, idx3]
theorem read4 (a : Fin 512) (b : Fin 1024) : iblk m c 4 t (ix2 a b) = arg4 m c (ix2 (rowAt t a) b) := by
  unfold rowAt; blk_ext [iblk, idx4]

theorem row2 (a : Fin 512) : row (iblk m c 2 t) a = inp (arg2 m c) (rowAt t a) := funext fun k => read2 m c t a k
theorem row4 (a : Fin 512) : row (iblk m c 4 t) a = inp (arg4 m c) (rowAt t a) := funext fun k => read4 m c t a k
theorem rowG3 : rowG (iblk m c 3 t) = sca (arg3 m c) := funext fun k => read3 m c t k

theorem emb5 (a : Fin 512) (b : Fin 1024) : ((cfg0.win 5).blk t).view.emb (ix2 a b) = (ix2 (rowAt t a) b : S4096x1024.Idx) := by
  funext k; fin_cases k <;> (apply Fin.ext; blk_simp [idx5 t]; try first | rfl | (rw [mul_comm]; rfl))
theorem emb6 (b : Fin 1024) : ((cfg0.win 6).blk t).view.emb (ix2 0 b) = (ix2 0 b : S1x1024.Idx) := by
  funext k; fin_cases k <;> (apply Fin.ext; blk_simp [idx6 t]; try first | rfl | (rw [mul_comm]; rfl))

/-- The step of the product that point `t` takes, in the arrays. -/
theorem part_at (a : Fin 512) (k : Fin 1024) (s : Fin 2) (r : Fin 4096) (hs : t.val % 2 = s.val) (hr : rowAt t a = r) :
    part (iblk m c 0 t) (iblk m c 1 t) a k
      = ∑ q : Fin 2816, arg0 m c (ix3 s r q) * arg1 m c (ix3 0 k (⟨s.val * 2816 + q.val, by have hs : s.val < 2 := s.isLt; omega⟩ : Fin 5632)) :=
  Fin.sum_fin_congr fun q => by
    subst hr
    refine congrArg₂ (· * ·) ((read0 m c t a q).trans (congrArg (arg0 m c) (congrArg (ix3 · (rowAt t a) q) (Fin.ext hs))))
      ((read1 m c t k q).trans (congrArg (arg1 m c) (congrArg (ix3 0 k ·) (Fin.ext ?_))))
    show t.val % 2 * 2816 + q.val = s.val * 2816 + q.val
    rw [hs]

/-- At the second step of a block the sum is the whole product. -/
theorem acc_eq (hf : t.val % 2 = 1) (a : Fin 512) :
    (fun k => (outsAt0 m c (t.val - 1) (Nat.lt_of_le_of_lt (Nat.sub_le _ _) t.isLt)).2.2 (ix2 a k) + part (iblk m c 0 t) (iblk m c 1 t) a k)
      = up (arg0 m c) (arg1 m c) (rowAt t a) := funext fun k => by
  have ht : t.val < 16 := t.isLt
  unfold up
  rw [Fin.sum_univ_two]
  refine congrArg₂ (· + ·) ?_ (part_at m c t a k 1 _ hf rfl)
  have h0 : (t.val - 1) % 2 = 0 := by omega
  refine (congrFun (congrArg (fun p => p.2.2) (outsAt0_A m c (⟨t.val - 1, by show _ < 16; omega⟩ : Fin cfg0.N) h0 (by show ¬(t.val - 1) % 2 = 1; omega) (by show ¬(t.val - 1) % 2 = 1; omega))) _).trans ?_
  dsimp only
  refine (sum_apply ..).trans (part_at m c _ a k 0 _ h0 (Fin.ext ?_))
  show 512 * ((t.val - 1) / 2) + a.val = 512 * (t.val / 2) + a.val
  omega

theorem outs5 (hf : t.val % 2 = 1) (a : Fin 512) (b : Fin 1024) :
    (outsAt0 m c t.val t.isLt).1 (ix2 a b) = result (arg0 m c) (arg1 m c) (arg2 m c) (arg3 m c) (arg4 m c) (ix2 (rowAt t a) b) := by
  have ht : t.val < 16 := t.isLt
  show _ = dx (inp _ (rowAt t a)) (up _ _ (rowAt t a)) (sca _) (inp _ (rowAt t a)) b
  rw [← row2, ← acc_eq m c t hf, ← rowG3 m c t, ← row4]
  by_cases h3 : t.val < 2
  · rw [outsAt0_B m c t (by omega) hf hf h3 (by omega)]
    dsimp only
    generalize (outsAt0 m c (t.val - 1) _).2.2 = z
    exact first_apply ..
  · rw [outsAt0_C m c t (by omega) hf hf h3 (by omega)]
    dsimp only
    generalize (outsAt0 m c (t.val - 1) _).2.2 = z
    generalize (outsAt0 m c (t.val - 1) _).2.1 = o
    exact next_apply ..

theorem arr5 : (dats m 0 c).arrAt 5 cfg0.N = result (arg0 m c) (arg1 m c) (arg2 m c) (arg3 m c) (arg4 m c) := by
  refine (dats m 0 c).arrAt_eq_of_covers 5 _ (by decide +kernel) fun t hf y => ?_
  obtain ⟨a, b, rfl⟩ := exists_ix2 y
  blk_simp
  rw [after0_5, emb5]
  exact outs5 m c t ((flush0_5 t).mp hf) a b

/-- What the block of rows `s` adds to the gradient of the scale. -/
def step (b : Fin 1024) (s : ℕ) (hs : s < 8) : EReal :=
  ∑ a : Fin 512, dg (inp (arg2 m c) ⟨s * 512 + a.val, by omega⟩) (up (arg0 m c) (arg1 m c) ⟨s * 512 + a.val, by omega⟩) b

theorem rows_eq (hf : t.val % 2 = 1) (b : Fin 1024) (s : ℕ) (hs : s < 8) (e : t.val / 2 = s) :
    (∑ a : Fin 512, dg (row (iblk m c 2 t) a) (fun k => (outsAt0 m c (t.val - 1) (Nat.lt_of_le_of_lt (Nat.sub_le _ _) t.isLt)).2.2 (ix2 a k) + part (iblk m c 0 t) (iblk m c 1 t) a k) b)
      = step m c b s hs := Fin.sum_fin_congr fun a => by
  have er : rowAt t a = ⟨s * 512 + a.val, by omega⟩ := Fin.ext (by show 512 * (t.val / 2) + a.val = s * 512 + a.val; omega)
  rw [acc_eq m c t hf, row2, er]

/-- After the second step of block `n` the gradient of the scale has the blocks up to it. -/
theorem scale_at (b : Fin 1024) : ∀ (n : ℕ) (hn : n < 8) (h : 2 * n + 1 < cfg0.N),
    (outsAt0 m c (2 * n + 1) h).2.1 (ix2 0 b) = ∑ s : Fin (n + 1), step m c b s.val (by have := s.isLt; omega)
  | 0, hn, h => by
    rw [Fin.sum_univ_one]
    refine (congrFun (congrArg (fun p => p.2.1) (outsAt0_B m c (⟨1, h⟩ : Fin cfg0.N) (show ¬1 % 2 = 0 by decide) (show 1 % 2 = 1 by decide) (show 1 % 2 = 1 by decide) (show 1 < 2 by decide) (show ¬2 ≤ 1 by decide))) _).trans ?_
    dsimp only
    refine Eq.trans ?_ (rows_eq m c ⟨1, h⟩ (show 1 % 2 = 1 by decide) b 0 hn (show 1 / 2 = 0 by decide))
    exact first_scale ..
  | n + 1, hn, h => by
    rw [Fin.sum_univ_castSucc]
    have h2 : 2 * n + 2 < cfg0.N := by omega
    have h1 : 2 * n + 1 < cfg0.N := by omega
    refine (congrFun (congrArg (fun p => p.2.1) (outsAt0_C m c (⟨2 * (n + 1) + 1, h⟩ : Fin cfg0.N) (by show ¬(2 * (n + 1) + 1) % 2 = 0; omega) (by show (2 * (n + 1) + 1) % 2 = 1; omega)
      (by show (2 * (n + 1) + 1) % 2 = 1; omega) (by show ¬2 * (n + 1) + 1 < 2; omega) (by show 2 ≤ 2 * (n + 1) + 1; omega))) _).trans ?_
    dsimp only
    refine Eq.trans (next_scale ..) (congrArg₂ (· + ·) ?_ (rows_eq m c ⟨2 * (n + 1) + 1, h⟩ (by show (2 * (n + 1) + 1) % 2 = 1; omega) b (n + 1) hn (by show (2 * (n + 1) + 1) / 2 = n + 1; omega)))
    refine Eq.trans ?_ (scale_at b n (by omega) h1)
    exact congrFun (congrArg (fun p => p.2.1) (outsAt0_A m c (⟨2 * n + 2, h2⟩ : Fin cfg0.N) (by show (2 * n + 2) % 2 = 0; omega) (by show ¬(2 * n + 2) % 2 = 1; omega)
      (by show ¬(2 * n + 2) % 2 = 1; omega))) _

theorem arr6 : (dats m 0 c).arrAt 6 cfg0.N = scale (arg0 m c) (arg1 m c) (arg2 m c) := by
  refine (dats m 0 c).arrAt_eq_of_covers 6 _ (by decide +kernel) fun t hf y => ?_
  have ht : t.val < 16 := t.isLt
  have hf' : t.val % 16 = 15 := (flush0_6 t).mp hf
  obtain ⟨b, rfl⟩ := split y
  blk_simp
  rw [after0_6, emb6]
  obtain rfl : t = (⟨2 * 7 + 1, by decide⟩ : Fin cfg0.N) := Fin.ext (by show t.val = 15; omega)
  refine (scale_at m c b 7 (by decide) _).trans ?_
  show _ = ∑ k : Fin 4096, dg (inp _ k) (up _ _ k) b
  exact Fin.sum_mul_add_congr (fun s k hl => rfl)

end Cert.UpDx0Ideal.Product

namespace Cert.UpDx0ReferenceIdeal.Product

open Idealize.ShloMosaic Cert.UpDx0ReferenceIdeal Cert.UpDx0ReferenceIdeal.Read Cert.UpDx0Ideal.Product Cert.NormGrad Cert.Index

variable (u : Lhs) (w : Rhs) (h : Inp) (g : Sca) (d : Inp)

theorem meanSq_eq (i : Fin 4096) : val_main_v12 (F := Ideal) h (ix2 i 0) = meanSq (inp h i) := by
  rw [val_main_v12_apply, val_main_v11_apply, val_main_v10_apply, val_main_v9_apply, val_main_v8_apply, val_main_v7_apply]
  simp only [val_main_v6_apply, val_main_cst_1_apply, val_main_cst_0_apply, val_main_cst_apply]
  unfold meanSq
  refine congrArg (fun z => Ideal.div z _ + _) ((zero_sum _).trans (Fin.sum_fin_congr fun k => ?_))
  have e : idx_main_v7 (idx_main_v8 (ix2 i 0)) k = ix2 i k := ext2 rfl rfl
  rw [e]
  rfl
theorem rs_eq (i : Fin 4096) : val_main_v13 (F := Ideal) h (ix2 i 0) = rs (inp h i) := by
  rw [val_main_v13_apply, meanSq_eq]
  rfl
theorem up_eq (i : Fin 4096) (j : Fin 1024) : val_main_v24 (F := Ideal) u w (ix2 i j) = up u w i j := by
  rw [val_main_v24_apply]
  refine Eq.symm (Fin.sum_mul_add_congr (fun s q hl => ?_))
  have hq : q.val < 2816 := q.isLt
  have hs : s.val < 2 := s.isLt
  have hj : j.val < 1024 := j.isLt
  have hi : i.val < 4096 := i.isLt
  rw [val_main_v23_apply, val_main_v21_apply, val_main_v3_apply, val_main_v2_apply, val_main_v1_apply, val_main_v0_apply]
  refine congrArg₂ (· * ·) (congrArg u (funext fun a => ?_)) (congrArg w (funext fun a => ?_))
  · match a with
    | ⟨0, _⟩ => exact Fin.ext (by show s.val = (i.val * 5632 + (s.val * 2816 + q.val)) / 2816 % 2; omega)
    | ⟨1, _⟩ => exact Fin.ext (by show i.val = (i.val * 5632 + (s.val * 2816 + q.val)) / 5632; omega)
    | ⟨2, _⟩ => exact Fin.ext (by show q.val = (i.val * 5632 + (s.val * 2816 + q.val)) % 2816; omega)
  · match a with
    | ⟨0, _⟩ => rfl
    | ⟨1, _⟩ => exact Fin.ext (by show j.val = (j.val * 5632 + (s.val * 2816 + q.val)) / 5632 % 1024; omega)
    | ⟨2, _⟩ => exact Fin.ext (by show s.val * 2816 + q.val = (j.val * 5632 + (s.val * 2816 + q.val)) % 5632; omega)
theorem ag_eq (i : Fin 4096) (j : Fin 1024) : val_main_v29 (F := Ideal) u w g (ix2 i j) = up u w i j * sca g j := by
  rw [val_main_v29_apply, up_eq, val_main_v28_apply, val_main_v5_apply, val_main_v4_apply]
  refine congrArg (up u w i j * g ·) (funext fun a => ?_)
  have hj : j.val < 1024 := j.isLt
  match a with
  | ⟨0, _⟩ => rfl
  | ⟨1, _⟩ => rfl
  | ⟨2, _⟩ => exact Fin.ext (by show (0 * 1024 + j.val) % 1024 = j.val; omega)
theorem corr_eq (i : Fin 4096) (j : Fin 1024) : val_main_v40 (F := Ideal) u w h g (ix2 i j) = corr (inp h i) (up u w i) (sca g) := by
  rw [val_main_v40_apply, val_main_v39_apply, val_main_cst_6_apply]
  refine (zero_sum _).trans ((Fin.sum_univ_one _).trans ?_)
  have e : idx_main_v39 (idx_main_v40 (ix2 i j)) 0 = ix2 i 0 := ext2 rfl rfl
  rw [e, val_main_v38_apply, val_main_v36_apply, val_main_v37_apply, val_main_cst_5_apply, val_main_v32_apply, val_main_v31_apply, val_main_cst_4_apply,
    val_main_v16_apply, val_main_v15_apply, val_main_cst_2_apply, val_main_v14_apply, rs_eq, meanSq_eq]
  unfold corr
  refine congrArg (fun z => Ideal.div (z * _) _) ((zero_sum _).trans (Fin.sum_fin_congr fun k => ?_))
  have e : idx_main_v31 (idx_main_v32 (ix2 i 0)) k = ix2 i k := ext2 (Fin.ext (by show i.val * 1 + 0 = i.val; omega)) rfl
  rw [e, val_main_v30_apply, ag_eq]
  rfl

theorem value : val_main_v44 (F := Ideal) u w h g d = result u w h g d := funext fun i => by
  obtain ⟨a, b, rfl⟩ := exists_ix2 i
  rw [val_main_v44_apply, val_main_v43_apply, val_main_v42_apply, val_main_v41_apply, val_main_v35_apply, val_main_v34_apply, val_main_v33_apply, ag_eq, corr_eq]
  have e : idx_main_v33 (ix2 a b) = ix2 a 0 := ext2 rfl rfl
  rw [e, rs_eq]
  exact dx_eq (inp h a) (up u w a) (sca g) (inp d a) b

theorem scale_value : val_main_v27 (F := Ideal) u w h = scale u w h := funext fun i => by
  obtain ⟨b, rfl⟩ := split i
  rw [val_main_v27_apply, val_main_v26_apply, val_main_cst_3_apply]
  refine (zero_sum _).trans (Fin.sum_fin_congr fun k => ?_)
  have e : idx_main_v26 (idx_main_v27 (ix2 0 b)) k = ix2 k b := ext2 rfl (Fin.ext (by show 0 * 1024 + b.val = b.val; omega))
  have e' : idx_main_v17 (ix2 k b) = ix2 k 0 := ext2 rfl rfl
  rw [e, val_main_v25_apply, val_main_v18_apply, val_main_v17_apply, e', rs_eq, up_eq]
  rfl

end Cert.UpDx0ReferenceIdeal.Product

end
-- ==== Proof.UpDx0Claim.lean ====
/- The claims for UpDx0: the frame of its reference, and that the idealized call and the reference both hand on `result` and `scale` of
   Proof/UpDx0Value.lean. -/
module

public import proofs.«01_k».proof.Defs
public import proofs.«01_k».proof.Proof.UpDx0Value
public import Idealize.ShloMosaic.Lib.Quiescent

@[expose] public section

noncomputable section

namespace Cert.UpDx0Ideal.Product

open Idealize.ShloMosaic Idealize.ShloMosaic.StableHlo Idealize.SL.Sem Cert.NormGrad

theorem frame_ref : Cert.quiescent_UpDx0ReferenceIdeal (hUpDx0ReferenceIdeal := Cert.UpDx0ReferenceIdeal.Gen.facts) := fun m ρ _ =>
  (θ_run Cert.UpDx0ReferenceIdeal.defs _ _).mono (fun r h => ⟨fun c => (h c).2.2, sem_eq_zero_of_no_sems (by decide) r.2⟩)
    (Cert.UpDx0ReferenceIdeal.Value.run (F := Ideal) m ρ)

theorem algebraic : Cert.algebraic_UpDx0Ideal_UpDx0ReferenceIdeal (hUpDx0Ideal := Cert.UpDx0Ideal.Gen.facts)
    (hUpDx0ReferenceIdeal := Cert.UpDx0ReferenceIdeal.Gen.facts) := by
  intro m g m' g' _ hargs
  refine ⟨fun c => result (arg0 m c) (arg1 m c) (arg2 m c) (arg3 m c) (arg4 m c), fun c => scale (arg0 m c) (arg1 m c) (arg2 m c), ?_, ?_⟩
  · exact (θ_run _ _ _).mono (fun r h c => ⟨(h c).1.trans (arr5 m c), (h c).2.1.trans (arr6 m c), (h c).2.2⟩) (Cert.UpDx0Ideal.Value.run_blocks m g)
  · exact (θ_run _ _ _).mono (fun r h c =>
      ⟨((h c).1.trans (Cert.UpDx0ReferenceIdeal.Read.val_main_v44_eq m' c)).trans
        (Cert.Index.eq_at5 Cert.UpDx0ReferenceIdeal.Product.value (hargs c).1 (hargs c).2.1 (hargs c).2.2.1 (hargs c).2.2.2.1 (hargs c).2.2.2.2),
       ((h c).2.1.trans (Cert.UpDx0ReferenceIdeal.Read.val_main_v27_eq _ _ _)).trans
        (Cert.Index.eq_at3 Cert.UpDx0ReferenceIdeal.Product.scale_value (hargs c).1 (hargs c).2.1 (hargs c).2.2.1), (h c).2.2⟩)
      (Cert.UpDx0ReferenceIdeal.Value.run (F := Ideal) m' g')

end Cert.UpDx0Ideal.Product

end
-- ==== Proof.UpDx1Value.lean ====
/- The gradient of the input of layer 1's up projection, through its norm: what the call leaves, and that its reference hands on the same. -/
module

public import proofs.«01_k».proof.Proof.UpDx0Value
public import proofs.«01_k».proof.Proof.Gen.UpDx1Ideal.Value
public import proofs.«01_k».proof.Proof.Gen.UpDx1ReferenceIdeal.Read

@[expose] public section

set_option maxRecDepth 16384

noncomputable section

namespace Cert.UpDx1Ideal.Product

open Idealize.ShloMosaic Idealize.ShloMosaic.TcCoe Cert.UpDx1Ideal Cert.UpDx1Ideal.Gen Cert.NormGrad Cert.Index

open Cert.UpDx0Ideal.Product (row rowG part pay2_apply pay7_apply pay8_apply row_add)

section Body
variable (u : Vec Ideal S1x512x2816 .bf16) (w : Vec Ideal S1x1024x2816 .bf16) (x : Vec Ideal S512x1024 .f32) (v : Vec Ideal S1x1x1024 .f32) (d : Vec Ideal S512x1024 .f32) (y : Vec Ideal S512x1024 .f32)

variable (o : Vec Ideal S1x1024 .f32) (z : Vec Ideal S512x1024 .f32) (c : Dev nD) (i : grid0.Coords) (arg3 : Memref sig .tc .vmem S1x512x2816 .bf16) (harg3 : arg3.IsWhole) (arg4 : Memref sig .tc .vmem S1x1024x2816 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole)

theorem sum_apply (hc0 : cond0_0 i) (hc1 : ¬cond0_1 i) (hc2 : ¬cond0_2 i) (a : Fin 512) (b : Fin 1024) :
    sout0_A_0 c i _ harg3 _ harg4 _ harg5 _ harg6 _ harg7 _ harg8 _ harg9 _ harg10 hc0 hc1 hc2 u w x v d (ix2 a b) = part u w a b := by
  frame_out
  try simp only [read_unread_whole]
  exact pay2_apply ..
theorem first_apply (hc0 : ¬cond0_0 i) (hc1 : cond0_1 i) (hc2 : cond0_2 i) (hc3 : cond0_3 i) (hc4 : ¬cond0_4 i) (a : Fin 512) (b : Fin 1024) :
    out0_B_5 c i _ harg3 _ harg4 _ harg5 _ harg6 _ harg7 _ harg8 _ harg9 _ harg10 hc0 hc1 hc2 hc3 hc4 u w x v d z (ix2 a b) = dx (row x a) (fun k => z (ix2 a k) + part u w a k) (rowG v) (row d a) b := by
  rw [← row_add]
  frame_out
  try simp only [read_unread_whole]
  exact pay8_apply ..
theorem first_scale (hc0 : ¬cond0_0 i) (hc1 : cond0_1 i) (hc2 : cond0_2 i) (hc3 : cond0_3 i) (hc4 : ¬cond0_4 i) (b : Fin 1024) :
    out0_B_6 c i _ harg3 _ harg4 _ harg5 _ harg6 _ harg7 _ harg8 _ harg9 _ harg10 hc0 hc1 hc2 hc3 hc4 u w x v d z (ix2 0 b) = ∑ a : Fin 512, dg (row x a) (fun k => z (ix2 a k) + part u w a k) b := by
  simp only [← row_add]
  frame_out
  try simp only [read_unread_whole]
  exact pay7_apply ..
theorem next_apply (hc0 : ¬cond0_0 i) (hc1 : cond0_1 i) (hc2 : cond0_2 i) (hc3 : ¬cond0_3 i) (hc4 : cond0_4 i) (a : Fin 512) (b : Fin 1024) :
    out0_C_5 c i _ harg3 _ harg4 _ harg5 _ harg6 _ harg7 _ harg8 _ harg9 _ harg10 hc0 hc1 hc2 hc3 hc4 u w x v d o z (ix2 a b) = dx (row x a) (fun k => z (ix2 a k) + part u w a k) (rowG v) (row d a) b := by
  rw [← row_add]
  frame_out
  try simp only [read_unread_whole]
  exact pay8_apply ..
theorem next_scale (hc0 : ¬cond0_0 i) (hc1 : cond0_1 i) (hc2 : cond0_2 i) (hc3 : ¬cond0_3 i) (hc4 : cond0_4 i) (b : Fin 1024) :
    out0_C_6 c i _ harg3 _ harg4 _ harg5 _ harg6 _ harg7 _ harg8 _ harg9 _ harg10 hc0 hc1 hc2 hc3 hc4 u w x v d o z (ix2 0 b) = o (ix2 0 b) + ∑ a : Fin 512, dg (row x a) (fun k => z (ix2 a k) + part u w a k) b := by
  simp only [← row_add]
  frame_out
  try simp only [read_unread_whole]
  pointwise [k0_pay4]
  exact congrArg (o (ix2 0 b) + ·) (pay7_apply ..)
end Body

abbrev Lhs : Type := (⟨3, ![2, 4096, 2816]⟩ : Shape).Idx → EReal
abbrev Rhs : Type := (⟨3, ![4, 1024, 5632]⟩ : Shape).Idx → EReal

/-- The rows of the arrays; the gradient of the product's input is the product with the transposed weights, over the columns of
    the two halves. -/
def up (u : Lhs) (w : Rhs) (i : Fin 4096) : Fin 1024 → EReal := fun k =>
  ∑ s : Fin 2, ∑ q : Fin 2816, u (ix3 s i q) * w (ix3 1 k (⟨s.val * 2816 + q.val, by have hs : s.val < 2 := s.isLt; omega⟩ : Fin 5632))
def sca (g : Sca) : Fin 1024 → EReal := fun k => g (ix3 1 0 k)
def result (u : Lhs) (w : Rhs) (h : Inp) (g : Sca) (d : Inp) : Inp := fun i => dx (inp h (i 0)) (up u w (i 0)) (sca g) (inp d (i 0)) (i 1)
def scale (u : Lhs) (w : Rhs) (h : Inp) : GSca := fun i => ∑ k : Fin 4096, dg (inp h k) (up u w k) (i 1)

variable (m : (ℓ : Loc nD τ sig) → Buf (Elt Ideal) ℓ) (c : Dev nD) (t : Fin cfg0.N)

abbrev arg0 : Lhs := m (c.tc.loc main_arg0)
abbrev arg1 : Rhs := m (c.tc.loc main_arg1)
abbrev arg2 : Inp := m (c.tc.loc main_arg2)
abbrev arg3 : Sca := m (c.tc.loc main_arg3)
abbrev arg4 : Inp := m (c.tc.loc main_arg4)

theorem idx0 : ∀ t : Fin cfg0.N, win0_0.index t = ![t.val % 2, t.val / 2, 0] := by decide +kernel
theorem idx1 : ∀ t : Fin cfg0.N, win0_1.index t = ![1, 0, t.val % 2] := by decide +kernel
theorem idx2 : ∀ t : Fin cfg0.N, win0_2.index t = ![t.val / 2, 0] := by decide +kernel
theorem idx3 : ∀ t : Fin cfg0.N, win0_3.index t = ![1, 0, 0] := by decide +kernel
theorem idx4 : ∀ t : Fin cfg0.N, win0_4.index t = ![t.val / 2, 0] := by decide +kernel
theorem idx5 : ∀ t : Fin cfg0.N, win0_5.index t = ![t.val / 2, 0] := by decide +kernel
theorem idx6 : ∀ t : Fin cfg0.N, win0_6.index t = ![0, 0] := by decide +kernel

/-- Row `a` of the block of point `t`, and its step of the product. -/
def rowAt (t : Fin cfg0.N) (a : Fin 512) : Fin 4096 := ⟨512 * (t.val / 2) + a.val, by have ht : t.val < 16 := t.isLt; omega⟩

theorem read0 (a : Fin 512) (q : Fin 2816) : iblk m c 0 t (ix3 0 a q) = arg0 m c (ix3 (⟨t.val % 2, by omega⟩ : Fin 2) (rowAt t a) q) := by
  unfold rowAt; blk_ext [iblk, idx0]
theorem read1 (k : Fin 1024) (q : Fin 2816) :
    iblk m c 1 t (ix3 0 k q) = arg1 m c (ix3 1 k (⟨t.val % 2 * 2816 + q.val, by omega⟩ : Fin 5632)) := by
  blk_ext [iblk, idx1]
theorem read2 (a : Fin 512) (b : Fin 1024) : iblk m c 2 t (ix2 a b) = arg2 m c (ix2 (rowAt t a) b) := by
  unfold rowAt; blk_ext [iblk, idx2]
theorem read3 (b : Fin 1024) : iblk m c 3 t (ix3 0 0 b) = arg3 m c (ix3 1 0 b) := by
  blk_ext [iblk, idx3]
theorem read4 (a : Fin 512) (b : Fin 1024) : iblk m c 4 t (ix2 a b) = arg4 m c (ix2 (rowAt t a) b) := by
  unfold rowAt; blk_ext [iblk, idx4]

theorem row2 (a : Fin 512) : row (iblk m c 2 t) a = inp (arg2 m c) (rowAt t a) := funext fun k => read2 m c t a k
theorem row4 (a : Fin 512) : row (iblk m c 4 t) a = inp (arg4 m c) (rowAt t a) := funext fun k => read4 m c t a k
theorem rowG3 : rowG (iblk m c 3 t) = sca (arg3 m c) := funext fun k => read3 m c t k

theorem emb5 (a : Fin 512) (b : Fin 1024) : ((cfg0.win 5).blk t).view.emb (ix2 a b) = (ix2 (rowAt t a) b : S4096x1024.Idx) := by
  funext k; fin_cases k <;> (apply Fin.ext; blk_simp [idx5 t]; try first | rfl | (rw [mul_comm]; rfl))
theorem emb6 (b : Fin 1024) : ((cfg0.win 6).blk t).view.emb (ix2 0 b) = (ix2 0 b : S1x1024.Idx) := by
  funext k; fin_cases k <;> (apply Fin.ext; blk_simp [idx6 t]; try first | rfl | (rw [mul_comm]; rfl))

/-- The step of the product that point `t` takes, in the arrays. -/
theorem part_at (a : Fin 512) (k : Fin 1024) (s : Fin 2) (r : Fin 4096) (hs : t.val % 2 = s.val) (hr : rowAt t a = r) :
    part (iblk m c 0 t) (iblk m c 1 t) a k
      = ∑ q : Fin 2816, arg0 m c (ix3 s r q) * arg1 m c (ix3 1 k (⟨s.val * 2816 + q.val, by have hs : s.val < 2 := s.isLt; omega⟩ : Fin 5632)) :=
  Fin.sum_fin_congr fun q => by
    subst hr
    refine congrArg₂ (· * ·) ((read0 m c t a q).trans (congrArg (arg0 m c) (congrArg (ix3 · (rowAt t a) q) (Fin.ext hs))))
      ((read1 m c t k q).trans (congrArg (arg1 m c) (congrArg (ix3 1 k ·) (Fin.ext ?_))))
    show t.val % 2 * 2816 + q.val = s.val * 2816 + q.val
    rw [hs]

/-- At the second step of a block the sum is the whole product. -/
theorem acc_eq (hf : t.val % 2 = 1) (a : Fin 512) :
    (fun k => (outsAt0 m c (t.val - 1) (Nat.lt_of_le_of_lt (Nat.sub_le _ _) t.isLt)).2.2 (ix2 a k) + part (iblk m c 0 t) (iblk m c 1 t) a k)
      = up (arg0 m c) (arg1 m c) (rowAt t a) := funext fun k => by
  have ht : t.val < 16 := t.isLt
  unfold up
  rw [Fin.sum_univ_two]
  refine congrArg₂ (· + ·) ?_ (part_at m c t a k 1 _ hf rfl)
  have h0 : (t.val - 1) % 2 = 0 := by omega
  refine (congrFun (congrArg (fun p => p.2.2) (outsAt0_A m c (⟨t.val - 1, by show _ < 16; omega⟩ : Fin cfg0.N) h0 (by show ¬(t.val - 1) % 2 = 1; omega) (by show ¬(t.val - 1) % 2 = 1; omega))) _).trans ?_
  dsimp only
  refine (sum_apply ..).trans (part_at m c _ a k 0 _ h0 (Fin.ext ?_))
  show 512 * ((t.val - 1) / 2) + a.val = 512 * (t.val / 2) + a.val
  omega

theorem outs5 (hf : t.val % 2 = 1) (a : Fin 512) (b : Fin 1024) :
    (outsAt0 m c t.val t.isLt).1 (ix2 a b) = result (arg0 m c) (arg1 m c) (arg2 m c) (arg3 m c) (arg4 m c) (ix2 (rowAt t a) b) := by
  have ht : t.val < 16 := t.isLt
  show _ = dx (inp _ (rowAt t a)) (up _ _ (rowAt t a)) (sca _) (inp _ (rowAt t a)) b
  rw [← row2, ← acc_eq m c t hf, ← rowG3 m c t, ← row4]
  by_cases h3 : t.val < 2
  · rw [outsAt0_B m c t (by omega) hf hf h3 (by omega)]
    dsimp only
    generalize (outsAt0 m c (t.val - 1) _).2.2 = z
    exact first_apply ..
  · rw [outsAt0_C m c t (by omega) hf hf h3 (by omega)]
    dsimp only
    generalize (outsAt0 m c (t.val - 1) _).2.2 = z
    generalize (outsAt0 m c (t.val - 1) _).2.1 = o
    exact next_apply ..

theorem arr5 : (dats m 0 c).arrAt 5 cfg0.N = result (arg0 m c) (arg1 m c) (arg2 m c) (arg3 m c) (arg4 m c) := by
  refine (dats m 0 c).arrAt_eq_of_covers 5 _ (by decide +kernel) fun t hf y => ?_
  obtain ⟨a, b, rfl⟩ := exists_ix2 y
  blk_simp
  rw [after0_5, emb5]
  exact outs5 m c t ((flush0_5 t).mp hf) a b

/-- What the block of rows `s` adds to the gradient of the scale. -/
def step (b : Fin 1024) (s : ℕ) (hs : s < 8) : EReal :=
  ∑ a : Fin 512, dg (inp (arg2 m c) ⟨s * 512 + a.val, by omega⟩) (up (arg0 m c) (arg1 m c) ⟨s * 512 + a.val, by omega⟩) b

theorem rows_eq (hf : t.val % 2 = 1) (b : Fin 1024) (s : ℕ) (hs : s < 8) (e : t.val / 2 = s) :
    (∑ a : Fin 512, dg (row (iblk m c 2 t) a) (fun k => (outsAt0 m c (t.val - 1) (Nat.lt_of_le_of_lt (Nat.sub_le _ _) t.isLt)).2.2 (ix2 a k) + part (iblk m c 0 t) (iblk m c 1 t) a k) b)
      = step m c b s hs := Fin.sum_fin_congr fun a => by
  have er : rowAt t a = ⟨s * 512 + a.val, by omega⟩ := Fin.ext (by show 512 * (t.val / 2) + a.val = s * 512 + a.val; omega)
  rw [acc_eq m c t hf, row2, er]

/-- After the second step of block `n` the gradient of the scale has the blocks up to it. -/
theorem scale_at (b : Fin 1024) : ∀ (n : ℕ) (hn : n < 8) (h : 2 * n + 1 < cfg0.N),
    (outsAt0 m c (2 * n + 1) h).2.1 (ix2 0 b) = ∑ s : Fin (n + 1), step m c b s.val (by have := s.isLt; omega)
  | 0, hn, h => by
    rw [Fin.sum_univ_one]
    refine (congrFun (congrArg (fun p => p.2.1) (outsAt0_B m c (⟨1, h⟩ : Fin cfg0.N) (show ¬1 % 2 = 0 by decide) (show 1 % 2 = 1 by decide) (show 1 % 2 = 1 by decide) (show 1 < 2 by decide) (show ¬2 ≤ 1 by decide))) _).trans ?_
    dsimp only
    refine Eq.trans ?_ (rows_eq m c ⟨1, h⟩ (show 1 % 2 = 1 by decide) b 0 hn (show 1 / 2 = 0 by decide))
    exact first_scale ..
  | n + 1, hn, h => by
    rw [Fin.sum_univ_castSucc]
    have h2 : 2 * n + 2 < cfg0.N := by omega
    have h1 : 2 * n + 1 < cfg0.N := by omega
    refine (congrFun (congrArg (fun p => p.2.1) (outsAt0_C m c (⟨2 * (n + 1) + 1, h⟩ : Fin cfg0.N) (by show ¬(2 * (n + 1) + 1) % 2 = 0; omega) (by show (2 * (n + 1) + 1) % 2 = 1; omega)
      (by show (2 * (n + 1) + 1) % 2 = 1; omega) (by show ¬2 * (n + 1) + 1 < 2; omega) (by show 2 ≤ 2 * (n + 1) + 1; omega))) _).trans ?_
    dsimp only
    refine Eq.trans (next_scale ..) (congrArg₂ (· + ·) ?_ (rows_eq m c ⟨2 * (n + 1) + 1, h⟩ (by show (2 * (n + 1) + 1) % 2 = 1; omega) b (n + 1) hn (by show (2 * (n + 1) + 1) / 2 = n + 1; omega)))
    refine Eq.trans ?_ (scale_at b n (by omega) h1)
    exact congrFun (congrArg (fun p => p.2.1) (outsAt0_A m c (⟨2 * n + 2, h2⟩ : Fin cfg0.N) (by show (2 * n + 2) % 2 = 0; omega) (by show ¬(2 * n + 2) % 2 = 1; omega)
      (by show ¬(2 * n + 2) % 2 = 1; omega))) _

theorem arr6 : (dats m 0 c).arrAt 6 cfg0.N = scale (arg0 m c) (arg1 m c) (arg2 m c) := by
  refine (dats m 0 c).arrAt_eq_of_covers 6 _ (by decide +kernel) fun t hf y => ?_
  have ht : t.val < 16 := t.isLt
  have hf' : t.val % 16 = 15 := (flush0_6 t).mp hf
  obtain ⟨b, rfl⟩ := split y
  blk_simp
  rw [after0_6, emb6]
  obtain rfl : t = (⟨2 * 7 + 1, by decide⟩ : Fin cfg0.N) := Fin.ext (by show t.val = 15; omega)
  refine (scale_at m c b 7 (by decide) _).trans ?_
  show _ = ∑ k : Fin 4096, dg (inp _ k) (up _ _ k) b
  exact Fin.sum_mul_add_congr (fun s k hl => rfl)

end Cert.UpDx1Ideal.Product

namespace Cert.UpDx1ReferenceIdeal.Product

open Idealize.ShloMosaic Cert.UpDx1ReferenceIdeal Cert.UpDx1ReferenceIdeal.Read Cert.UpDx1Ideal.Product Cert.NormGrad Cert.Index

variable (u : Lhs) (w : Rhs) (h : Inp) (g : Sca) (d : Inp)

theorem meanSq_eq (i : Fin 4096) : val_main_v12 (F := Ideal) h (ix2 i 0) = meanSq (inp h i) :=
  Cert.UpDx0ReferenceIdeal.Product.meanSq_eq h i
theorem rs_eq (i : Fin 4096) : val_main_v13 (F := Ideal) h (ix2 i 0) = rs (inp h i) :=
  Cert.UpDx0ReferenceIdeal.Product.rs_eq h i
theorem up_eq (i : Fin 4096) (j : Fin 1024) : val_main_v24 (F := Ideal) u w (ix2 i j) = up u w i j := by
  rw [val_main_v24_apply]
  refine Eq.symm (Fin.sum_mul_add_congr (fun s q hl => ?_))
  have hq : q.val < 2816 := q.isLt
  have hs : s.val < 2 := s.isLt
  have hj : j.val < 1024 := j.isLt
  have hi : i.val < 4096 := i.isLt
  rw [val_main_v23_apply, val_main_v21_apply, val_main_v3_apply, val_main_v2_apply, val_main_v1_apply, val_main_v0_apply]
  refine congrArg₂ (· * ·) (congrArg u (funext fun a => ?_)) (congrArg w (funext fun a => ?_))
  · match a with
    | ⟨0, _⟩ => exact Fin.ext (by show s.val = (i.val * 5632 + (s.val * 2816 + q.val)) / 2816 % 2; omega)
    | ⟨1, _⟩ => exact Fin.ext (by show i.val = (i.val * 5632 + (s.val * 2816 + q.val)) / 5632; omega)
    | ⟨2, _⟩ => exact Fin.ext (by show q.val = (i.val * 5632 + (s.val * 2816 + q.val)) % 2816; omega)
  · match a with
    | ⟨0, _⟩ => rfl
    | ⟨1, _⟩ => exact Fin.ext (by show j.val = (j.val * 5632 + (s.val * 2816 + q.val)) / 5632 % 1024; omega)
    | ⟨2, _⟩ => exact Fin.ext (by show s.val * 2816 + q.val = (j.val * 5632 + (s.val * 2816 + q.val)) % 5632; omega)
theorem ag_eq (i : Fin 4096) (j : Fin 1024) : val_main_v29 (F := Ideal) u w g (ix2 i j) = up u w i j * sca g j := by
  rw [val_main_v29_apply, up_eq, val_main_v28_apply, val_main_v5_apply, val_main_v4_apply]
  refine congrArg (up u w i j * g ·) (funext fun a => ?_)
  have hj : j.val < 1024 := j.isLt
  match a with
  | ⟨0, _⟩ => rfl
  | ⟨1, _⟩ => rfl
  | ⟨2, _⟩ => exact Fin.ext (by show (0 * 1024 + j.val) % 1024 = j.val; omega)
theorem corr_eq (i : Fin 4096) (j : Fin 1024) : val_main_v40 (F := Ideal) u w h g (ix2 i j) = corr (inp h i) (up u w i) (sca g) := by
  rw [val_main_v40_apply, val_main_v39_apply, val_main_cst_6_apply]
  refine (zero_sum _).trans ((Fin.sum_univ_one _).trans ?_)
  have e : idx_main_v39 (idx_main_v40 (ix2 i j)) 0 = ix2 i 0 := ext2 rfl rfl
  rw [e, val_main_v38_apply, val_main_v36_apply, val_main_v37_apply, val_main_cst_5_apply, val_main_v32_apply, val_main_v31_apply, val_main_cst_4_apply,
    val_main_v16_apply, val_main_v15_apply, val_main_cst_2_apply, val_main_v14_apply, rs_eq, meanSq_eq]
  unfold corr
  refine congrArg (fun z => Ideal.div (z * _) _) ((zero_sum _).trans (Fin.sum_fin_congr fun k => ?_))
  have e : idx_main_v31 (idx_main_v32 (ix2 i 0)) k = ix2 i k := ext2 (Fin.ext (by show i.val * 1 + 0 = i.val; omega)) rfl
  rw [e, val_main_v30_apply, ag_eq]
  rfl

theorem value : val_main_v44 (F := Ideal) u w h g d = result u w h g d := funext fun i => by
  obtain ⟨a, b, rfl⟩ := exists_ix2 i
  rw [val_main_v44_apply, val_main_v43_apply, val_main_v42_apply, val_main_v41_apply, val_main_v35_apply, val_main_v34_apply, val_main_v33_apply, ag_eq, corr_eq]
  have e : idx_main_v33 (ix2 a b) = ix2 a 0 := ext2 rfl rfl
  rw [e, rs_eq]
  exact dx_eq (inp h a) (up u w a) (sca g) (inp d a) b

theorem scale_value : val_main_v27 (F := Ideal) u w h = scale u w h := funext fun i => by
  obtain ⟨b, rfl⟩ := split i
  rw [val_main_v27_apply, val_main_v26_apply, val_main_cst_3_apply]
  refine (zero_sum _).trans (Fin.sum_fin_congr fun k => ?_)
  have e : idx_main_v26 (idx_main_v27 (ix2 0 b)) k = ix2 k b := ext2 rfl (Fin.ext (by show 0 * 1024 + b.val = b.val; omega))
  have e' : idx_main_v17 (ix2 k b) = ix2 k 0 := ext2 rfl rfl
  rw [e, val_main_v25_apply, val_main_v18_apply, val_main_v17_apply, e', rs_eq, up_eq]
  rfl

end Cert.UpDx1ReferenceIdeal.Product

end
-- ==== Proof.UpDx1Claim.lean ====
/- The claims for UpDx1: the frame of its reference, and that the idealized call and the reference both hand on `result` and `scale` of
   Proof/UpDx1Value.lean. -/
module

public import proofs.«01_k».proof.Defs
public import proofs.«01_k».proof.Proof.UpDx1Value
public import Idealize.ShloMosaic.Lib.Quiescent

@[expose] public section

noncomputable section

namespace Cert.UpDx1Ideal.Product

open Idealize.ShloMosaic Idealize.ShloMosaic.StableHlo Idealize.SL.Sem Cert.NormGrad

theorem frame_ref : Cert.quiescent_UpDx1ReferenceIdeal (hUpDx1ReferenceIdeal := Cert.UpDx1ReferenceIdeal.Gen.facts) := fun m ρ _ =>
  (θ_run Cert.UpDx1ReferenceIdeal.defs _ _).mono (fun r h => ⟨fun c => (h c).2.2, sem_eq_zero_of_no_sems (by decide) r.2⟩)
    (Cert.UpDx1ReferenceIdeal.Value.run (F := Ideal) m ρ)

theorem algebraic : Cert.algebraic_UpDx1Ideal_UpDx1ReferenceIdeal (hUpDx1Ideal := Cert.UpDx1Ideal.Gen.facts)
    (hUpDx1ReferenceIdeal := Cert.UpDx1ReferenceIdeal.Gen.facts) := by
  intro m g m' g' _ hargs
  refine ⟨fun c => result (arg0 m c) (arg1 m c) (arg2 m c) (arg3 m c) (arg4 m c), fun c => scale (arg0 m c) (arg1 m c) (arg2 m c), ?_, ?_⟩
  · exact (θ_run _ _ _).mono (fun r h c => ⟨(h c).1.trans (arr5 m c), (h c).2.1.trans (arr6 m c), (h c).2.2⟩) (Cert.UpDx1Ideal.Value.run_blocks m g)
  · exact (θ_run _ _ _).mono (fun r h c =>
      ⟨((h c).1.trans (Cert.UpDx1ReferenceIdeal.Read.val_main_v44_eq m' c)).trans
        (Cert.Index.eq_at5 Cert.UpDx1ReferenceIdeal.Product.value (hargs c).1 (hargs c).2.1 (hargs c).2.2.1 (hargs c).2.2.2.1 (hargs c).2.2.2.2),
       ((h c).2.1.trans (Cert.UpDx1ReferenceIdeal.Read.val_main_v27_eq _ _ _)).trans
        (Cert.Index.eq_at3 Cert.UpDx1ReferenceIdeal.Product.scale_value (hargs c).1 (hargs c).2.1 (hargs c).2.2.1), (h c).2.2⟩)
      (Cert.UpDx1ReferenceIdeal.Value.run (F := Ideal) m' g')

end Cert.UpDx1Ideal.Product

end
-- ==== Proof.UpDx2Value.lean ====
/- The gradient of the input of layer 2's up projection, through its norm: what the call leaves, and that its reference hands on the same. -/
module

public import proofs.«01_k».proof.Proof.UpDx0Value
public import proofs.«01_k».proof.Proof.Gen.UpDx2Ideal.Value
public import proofs.«01_k».proof.Proof.Gen.UpDx2ReferenceIdeal.Read

@[expose] public section

set_option maxRecDepth 16384

noncomputable section

namespace Cert.UpDx2Ideal.Product

open Idealize.ShloMosaic Idealize.ShloMosaic.TcCoe Cert.UpDx2Ideal Cert.UpDx2Ideal.Gen Cert.NormGrad Cert.Index

open Cert.UpDx0Ideal.Product (row rowG part pay2_apply pay7_apply pay8_apply row_add)

section Body
variable (u : Vec Ideal S1x512x2816 .bf16) (w : Vec Ideal S1x1024x2816 .bf16) (x : Vec Ideal S512x1024 .f32) (v : Vec Ideal S1x1x1024 .f32) (d : Vec Ideal S512x1024 .f32) (y : Vec Ideal S512x1024 .f32)

variable (o : Vec Ideal S1x1024 .f32) (z : Vec Ideal S512x1024 .f32) (c : Dev nD) (i : grid0.Coords) (arg3 : Memref sig .tc .vmem S1x512x2816 .bf16) (harg3 : arg3.IsWhole) (arg4 : Memref sig .tc .vmem S1x1024x2816 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole)

theorem sum_apply (hc0 : cond0_0 i) (hc1 : ¬cond0_1 i) (hc2 : ¬cond0_2 i) (a : Fin 512) (b : Fin 1024) :
    sout0_A_0 c i _ harg3 _ harg4 _ harg5 _ harg6 _ harg7 _ harg8 _ harg9 _ harg10 hc0 hc1 hc2 u w x v d (ix2 a b) = part u w a b := by
  frame_out
  try simp only [read_unread_whole]
  exact pay2_apply ..
theorem first_apply (hc0 : ¬cond0_0 i) (hc1 : cond0_1 i) (hc2 : cond0_2 i) (hc3 : cond0_3 i) (hc4 : ¬cond0_4 i) (a : Fin 512) (b : Fin 1024) :
    out0_B_5 c i _ harg3 _ harg4 _ harg5 _ harg6 _ harg7 _ harg8 _ harg9 _ harg10 hc0 hc1 hc2 hc3 hc4 u w x v d z (ix2 a b) = dx (row x a) (fun k => z (ix2 a k) + part u w a k) (rowG v) (row d a) b := by
  rw [← row_add]
  frame_out
  try simp only [read_unread_whole]
  exact pay8_apply ..
theorem first_scale (hc0 : ¬cond0_0 i) (hc1 : cond0_1 i) (hc2 : cond0_2 i) (hc3 : cond0_3 i) (hc4 : ¬cond0_4 i) (b : Fin 1024) :
    out0_B_6 c i _ harg3 _ harg4 _ harg5 _ harg6 _ harg7 _ harg8 _ harg9 _ harg10 hc0 hc1 hc2 hc3 hc4 u w x v d z (ix2 0 b) = ∑ a : Fin 512, dg (row x a) (fun k => z (ix2 a k) + part u w a k) b := by
  simp only [← row_add]
  frame_out
  try simp only [read_unread_whole]
  exact pay7_apply ..
theorem next_apply (hc0 : ¬cond0_0 i) (hc1 : cond0_1 i) (hc2 : cond0_2 i) (hc3 : ¬cond0_3 i) (hc4 : cond0_4 i) (a : Fin 512) (b : Fin 1024) :
    out0_C_5 c i _ harg3 _ harg4 _ harg5 _ harg6 _ harg7 _ harg8 _ harg9 _ harg10 hc0 hc1 hc2 hc3 hc4 u w x v d o z (ix2 a b) = dx (row x a) (fun k => z (ix2 a k) + part u w a k) (rowG v) (row d a) b := by
  rw [← row_add]
  frame_out
  try simp only [read_unread_whole]
  exact pay8_apply ..
theorem next_scale (hc0 : ¬cond0_0 i) (hc1 : cond0_1 i) (hc2 : cond0_2 i) (hc3 : ¬cond0_3 i) (hc4 : cond0_4 i) (b : Fin 1024) :
    out0_C_6 c i _ harg3 _ harg4 _ harg5 _ harg6 _ harg7 _ harg8 _ harg9 _ harg10 hc0 hc1 hc2 hc3 hc4 u w x v d o z (ix2 0 b) = o (ix2 0 b) + ∑ a : Fin 512, dg (row x a) (fun k => z (ix2 a k) + part u w a k) b := by
  simp only [← row_add]
  frame_out
  try simp only [read_unread_whole]
  pointwise [k0_pay4]
  exact congrArg (o (ix2 0 b) + ·) (pay7_apply ..)
end Body

abbrev Lhs : Type := (⟨3, ![2, 4096, 2816]⟩ : Shape).Idx → EReal
abbrev Rhs : Type := (⟨3, ![4, 1024, 5632]⟩ : Shape).Idx → EReal

/-- The rows of the arrays; the gradient of the product's input is the product with the transposed weights, over the columns of
    the two halves. -/
def up (u : Lhs) (w : Rhs) (i : Fin 4096) : Fin 1024 → EReal := fun k =>
  ∑ s : Fin 2, ∑ q : Fin 2816, u (ix3 s i q) * w (ix3 2 k (⟨s.val * 2816 + q.val, by have hs : s.val < 2 := s.isLt; omega⟩ : Fin 5632))
def sca (g : Sca) : Fin 1024 → EReal := fun k => g (ix3 2 0 k)
def result (u : Lhs) (w : Rhs) (h : Inp) (g : Sca) (d : Inp) : Inp := fun i => dx (inp h (i 0)) (up u w (i 0)) (sca g) (inp d (i 0)) (i 1)
def scale (u : Lhs) (w : Rhs) (h : Inp) : GSca := fun i => ∑ k : Fin 4096, dg (inp h k) (up u w k) (i 1)

variable (m : (ℓ : Loc nD τ sig) → Buf (Elt Ideal) ℓ) (c : Dev nD) (t : Fin cfg0.N)

abbrev arg0 : Lhs := m (c.tc.loc main_arg0)
abbrev arg1 : Rhs := m (c.tc.loc main_arg1)
abbrev arg2 : Inp := m (c.tc.loc main_arg2)
abbrev arg3 : Sca := m (c.tc.loc main_arg3)
abbrev arg4 : Inp := m (c.tc.loc main_arg4)

theorem idx0 : ∀ t : Fin cfg0.N, win0_0.index t = ![t.val % 2, t.val / 2, 0] := by decide +kernel
theorem idx1 : ∀ t : Fin cfg0.N, win0_1.index t = ![2, 0, t.val % 2] := by decide +kernel
theorem idx2 : ∀ t : Fin cfg0.N, win0_2.index t = ![t.val / 2, 0] := by decide +kernel
theorem idx3 : ∀ t : Fin cfg0.N, win0_3.index t = ![2, 0, 0] := by decide +kernel
theorem idx4 : ∀ t : Fin cfg0.N, win0_4.index t = ![t.val / 2, 0] := by decide +kernel
theorem idx5 : ∀ t : Fin cfg0.N, win0_5.index t = ![t.val / 2, 0] := by decide +kernel
theorem idx6 : ∀ t : Fin cfg0.N, win0_6.index t = ![0, 0] := by decide +kernel

/-- Row `a` of the block of point `t`, and its step of the product. -/
def rowAt (t : Fin cfg0.N) (a : Fin 512) : Fin 4096 := ⟨512 * (t.val / 2) + a.val, by have ht : t.val < 16 := t.isLt; omega⟩

theorem read0 (a : Fin 512) (q : Fin 2816) : iblk m c 0 t (ix3 0 a q) = arg0 m c (ix3 (⟨t.val % 2, by omega⟩ : Fin 2) (rowAt t a) q) := by
  unfold rowAt; blk_ext [iblk, idx0]
theorem read1 (k : Fin 1024) (q : Fin 2816) :
    iblk m c 1 t (ix3 0 k q) = arg1 m c (ix3 2 k (⟨t.val % 2 * 2816 + q.val, by omega⟩ : Fin 5632)) := by
  blk_ext [iblk, idx1]
theorem read2 (a : Fin 512) (b : Fin 1024) : iblk m c 2 t (ix2 a b) = arg2 m c (ix2 (rowAt t a) b) := by
  unfold rowAt; blk_ext [iblk, idx2]
theorem read3 (b : Fin 1024) : iblk m c 3 t (ix3 0 0 b) = arg3 m c (ix3 2 0 b) := by
  blk_ext [iblk, idx3]
theorem read4 (a : Fin 512) (b : Fin 1024) : iblk m c 4 t (ix2 a b) = arg4 m c (ix2 (rowAt t a) b) := by
  unfold rowAt; blk_ext [iblk, idx4]

theorem row2 (a : Fin 512) : row (iblk m c 2 t) a = inp (arg2 m c) (rowAt t a) := funext fun k => read2 m c t a k
theorem row4 (a : Fin 512) : row (iblk m c 4 t) a = inp (arg4 m c) (rowAt t a) := funext fun k => read4 m c t a k
theorem rowG3 : rowG (iblk m c 3 t) = sca (arg3 m c) := funext fun k => read3 m c t k

theorem emb5 (a : Fin 512) (b : Fin 1024) : ((cfg0.win 5).blk t).view.emb (ix2 a b) = (ix2 (rowAt t a) b : S4096x1024.Idx) := by
  funext k; fin_cases k <;> (apply Fin.ext; blk_simp [idx5 t]; try first | rfl | (rw [mul_comm]; rfl))
theorem emb6 (b : Fin 1024) : ((cfg0.win 6).blk t).view.emb (ix2 0 b) = (ix2 0 b : S1x1024.Idx) := by
  funext k; fin_cases k <;> (apply Fin.ext; blk_simp [idx6 t]; try first | rfl | (rw [mul_comm]; rfl))

/-- The step of the product that point `t` takes, in the arrays. -/
theorem part_at (a : Fin 512) (k : Fin 1024) (s : Fin 2) (r : Fin 4096) (hs : t.val % 2 = s.val) (hr : rowAt t a = r) :
    part (iblk m c 0 t) (iblk m c 1 t) a k
      = ∑ q : Fin 2816, arg0 m c (ix3 s r q) * arg1 m c (ix3 2 k (⟨s.val * 2816 + q.val, by have hs : s.val < 2 := s.isLt; omega⟩ : Fin 5632)) :=
  Fin.sum_fin_congr fun q => by
    subst hr
    refine congrArg₂ (· * ·) ((read0 m c t a q).trans (congrArg (arg0 m c) (congrArg (ix3 · (rowAt t a) q) (Fin.ext hs))))
      ((read1 m c t k q).trans (congrArg (arg1 m c) (congrArg (ix3 2 k ·) (Fin.ext ?_))))
    show t.val % 2 * 2816 + q.val = s.val * 2816 + q.val
    rw [hs]

/-- At the second step of a block the sum is the whole product. -/
theorem acc_eq (hf : t.val % 2 = 1) (a : Fin 512) :
    (fun k => (outsAt0 m c (t.val - 1) (Nat.lt_of_le_of_lt (Nat.sub_le _ _) t.isLt)).2.2 (ix2 a k) + part (iblk m c 0 t) (iblk m c 1 t) a k)
      = up (arg0 m c) (arg1 m c) (rowAt t a) := funext fun k => by
  have ht : t.val < 16 := t.isLt
  unfold up
  rw [Fin.sum_univ_two]
  refine congrArg₂ (· + ·) ?_ (part_at m c t a k 1 _ hf rfl)
  have h0 : (t.val - 1) % 2 = 0 := by omega
  refine (congrFun (congrArg (fun p => p.2.2) (outsAt0_A m c (⟨t.val - 1, by show _ < 16; omega⟩ : Fin cfg0.N) h0 (by show ¬(t.val - 1) % 2 = 1; omega) (by show ¬(t.val - 1) % 2 = 1; omega))) _).trans ?_
  dsimp only
  refine (sum_apply ..).trans (part_at m c _ a k 0 _ h0 (Fin.ext ?_))
  show 512 * ((t.val - 1) / 2) + a.val = 512 * (t.val / 2) + a.val
  omega

theorem outs5 (hf : t.val % 2 = 1) (a : Fin 512) (b : Fin 1024) :
    (outsAt0 m c t.val t.isLt).1 (ix2 a b) = result (arg0 m c) (arg1 m c) (arg2 m c) (arg3 m c) (arg4 m c) (ix2 (rowAt t a) b) := by
  have ht : t.val < 16 := t.isLt
  show _ = dx (inp _ (rowAt t a)) (up _ _ (rowAt t a)) (sca _) (inp _ (rowAt t a)) b
  rw [← row2, ← acc_eq m c t hf, ← rowG3 m c t, ← row4]
  by_cases h3 : t.val < 2
  · rw [outsAt0_B m c t (by omega) hf hf h3 (by omega)]
    dsimp only
    generalize (outsAt0 m c (t.val - 1) _).2.2 = z
    exact first_apply ..
  · rw [outsAt0_C m c t (by omega) hf hf h3 (by omega)]
    dsimp only
    generalize (outsAt0 m c (t.val - 1) _).2.2 = z
    generalize (outsAt0 m c (t.val - 1) _).2.1 = o
    exact next_apply ..

theorem arr5 : (dats m 0 c).arrAt 5 cfg0.N = result (arg0 m c) (arg1 m c) (arg2 m c) (arg3 m c) (arg4 m c) := by
  refine (dats m 0 c).arrAt_eq_of_covers 5 _ (by decide +kernel) fun t hf y => ?_
  obtain ⟨a, b, rfl⟩ := exists_ix2 y
  blk_simp
  rw [after0_5, emb5]
  exact outs5 m c t ((flush0_5 t).mp hf) a b

/-- What the block of rows `s` adds to the gradient of the scale. -/
def step (b : Fin 1024) (s : ℕ) (hs : s < 8) : EReal :=
  ∑ a : Fin 512, dg (inp (arg2 m c) ⟨s * 512 + a.val, by omega⟩) (up (arg0 m c) (arg1 m c) ⟨s * 512 + a.val, by omega⟩) b

theorem rows_eq (hf : t.val % 2 = 1) (b : Fin 1024) (s : ℕ) (hs : s < 8) (e : t.val / 2 = s) :
    (∑ a : Fin 512, dg (row (iblk m c 2 t) a) (fun k => (outsAt0 m c (t.val - 1) (Nat.lt_of_le_of_lt (Nat.sub_le _ _) t.isLt)).2.2 (ix2 a k) + part (iblk m c 0 t) (iblk m c 1 t) a k) b)
      = step m c b s hs := Fin.sum_fin_congr fun a => by
  have er : rowAt t a = ⟨s * 512 + a.val, by omega⟩ := Fin.ext (by show 512 * (t.val / 2) + a.val = s * 512 + a.val; omega)
  rw [acc_eq m c t hf, row2, er]

/-- After the second step of block `n` the gradient of the scale has the blocks up to it. -/
theorem scale_at (b : Fin 1024) : ∀ (n : ℕ) (hn : n < 8) (h : 2 * n + 1 < cfg0.N),
    (outsAt0 m c (2 * n + 1) h).2.1 (ix2 0 b) = ∑ s : Fin (n + 1), step m c b s.val (by have := s.isLt; omega)
  | 0, hn, h => by
    rw [Fin.sum_univ_one]
    refine (congrFun (congrArg (fun p => p.2.1) (outsAt0_B m c (⟨1, h⟩ : Fin cfg0.N) (show ¬1 % 2 = 0 by decide) (show 1 % 2 = 1 by decide) (show 1 % 2 = 1 by decide) (show 1 < 2 by decide) (show ¬2 ≤ 1 by decide))) _).trans ?_
    dsimp only
    refine Eq.trans ?_ (rows_eq m c ⟨1, h⟩ (show 1 % 2 = 1 by decide) b 0 hn (show 1 / 2 = 0 by decide))
    exact first_scale ..
  | n + 1, hn, h => by
    rw [Fin.sum_univ_castSucc]
    have h2 : 2 * n + 2 < cfg0.N := by omega
    have h1 : 2 * n + 1 < cfg0.N := by omega
    refine (congrFun (congrArg (fun p => p.2.1) (outsAt0_C m c (⟨2 * (n + 1) + 1, h⟩ : Fin cfg0.N) (by show ¬(2 * (n + 1) + 1) % 2 = 0; omega) (by show (2 * (n + 1) + 1) % 2 = 1; omega)
      (by show (2 * (n + 1) + 1) % 2 = 1; omega) (by show ¬2 * (n + 1) + 1 < 2; omega) (by show 2 ≤ 2 * (n + 1) + 1; omega))) _).trans ?_
    dsimp only
    refine Eq.trans (next_scale ..) (congrArg₂ (· + ·) ?_ (rows_eq m c ⟨2 * (n + 1) + 1, h⟩ (by show (2 * (n + 1) + 1) % 2 = 1; omega) b (n + 1) hn (by show (2 * (n + 1) + 1) / 2 = n + 1; omega)))
    refine Eq.trans ?_ (scale_at b n (by omega) h1)
    exact congrFun (congrArg (fun p => p.2.1) (outsAt0_A m c (⟨2 * n + 2, h2⟩ : Fin cfg0.N) (by show (2 * n + 2) % 2 = 0; omega) (by show ¬(2 * n + 2) % 2 = 1; omega)
      (by show ¬(2 * n + 2) % 2 = 1; omega))) _

theorem arr6 : (dats m 0 c).arrAt 6 cfg0.N = scale (arg0 m c) (arg1 m c) (arg2 m c) := by
  refine (dats m 0 c).arrAt_eq_of_covers 6 _ (by decide +kernel) fun t hf y => ?_
  have ht : t.val < 16 := t.isLt
  have hf' : t.val % 16 = 15 := (flush0_6 t).mp hf
  obtain ⟨b, rfl⟩ := split y
  blk_simp
  rw [after0_6, emb6]
  obtain rfl : t = (⟨2 * 7 + 1, by decide⟩ : Fin cfg0.N) := Fin.ext (by show t.val = 15; omega)
  refine (scale_at m c b 7 (by decide) _).trans ?_
  show _ = ∑ k : Fin 4096, dg (inp _ k) (up _ _ k) b
  exact Fin.sum_mul_add_congr (fun s k hl => rfl)

end Cert.UpDx2Ideal.Product

namespace Cert.UpDx2ReferenceIdeal.Product

open Idealize.ShloMosaic Cert.UpDx2ReferenceIdeal Cert.UpDx2ReferenceIdeal.Read Cert.UpDx2Ideal.Product Cert.NormGrad Cert.Index

variable (u : Lhs) (w : Rhs) (h : Inp) (g : Sca) (d : Inp)

theorem meanSq_eq (i : Fin 4096) : val_main_v12 (F := Ideal) h (ix2 i 0) = meanSq (inp h i) :=
  Cert.UpDx0ReferenceIdeal.Product.meanSq_eq h i
theorem rs_eq (i : Fin 4096) : val_main_v13 (F := Ideal) h (ix2 i 0) = rs (inp h i) :=
  Cert.UpDx0ReferenceIdeal.Product.rs_eq h i
theorem up_eq (i : Fin 4096) (j : Fin 1024) : val_main_v24 (F := Ideal) u w (ix2 i j) = up u w i j := by
  rw [val_main_v24_apply]
  refine Eq.symm (Fin.sum_mul_add_congr (fun s q hl => ?_))
  have hq : q.val < 2816 := q.isLt
  have hs : s.val < 2 := s.isLt
  have hj : j.val < 1024 := j.isLt
  have hi : i.val < 4096 := i.isLt
  rw [val_main_v23_apply, val_main_v21_apply, val_main_v3_apply, val_main_v2_apply, val_main_v1_apply, val_main_v0_apply]
  refine congrArg₂ (· * ·) (congrArg u (funext fun a => ?_)) (congrArg w (funext fun a => ?_))
  · match a with
    | ⟨0, _⟩ => exact Fin.ext (by show s.val = (i.val * 5632 + (s.val * 2816 + q.val)) / 2816 % 2; omega)
    | ⟨1, _⟩ => exact Fin.ext (by show i.val = (i.val * 5632 + (s.val * 2816 + q.val)) / 5632; omega)
    | ⟨2, _⟩ => exact Fin.ext (by show q.val = (i.val * 5632 + (s.val * 2816 + q.val)) % 2816; omega)
  · match a with
    | ⟨0, _⟩ => rfl
    | ⟨1, _⟩ => exact Fin.ext (by show j.val = (j.val * 5632 + (s.val * 2816 + q.val)) / 5632 % 1024; omega)
    | ⟨2, _⟩ => exact Fin.ext (by show s.val * 2816 + q.val = (j.val * 5632 + (s.val * 2816 + q.val)) % 5632; omega)
theorem ag_eq (i : Fin 4096) (j : Fin 1024) : val_main_v29 (F := Ideal) u w g (ix2 i j) = up u w i j * sca g j := by
  rw [val_main_v29_apply, up_eq, val_main_v28_apply, val_main_v5_apply, val_main_v4_apply]
  refine congrArg (up u w i j * g ·) (funext fun a => ?_)
  have hj : j.val < 1024 := j.isLt
  match a with
  | ⟨0, _⟩ => rfl
  | ⟨1, _⟩ => rfl
  | ⟨2, _⟩ => exact Fin.ext (by show (0 * 1024 + j.val) % 1024 = j.val; omega)
theorem corr_eq (i : Fin 4096) (j : Fin 1024) : val_main_v40 (F := Ideal) u w h g (ix2 i j) = corr (inp h i) (up u w i) (sca g) := by
  rw [val_main_v40_apply, val_main_v39_apply, val_main_cst_6_apply]
  refine (zero_sum _).trans ((Fin.sum_univ_one _).trans ?_)
  have e : idx_main_v39 (idx_main_v40 (ix2 i j)) 0 = ix2 i 0 := ext2 rfl rfl
  rw [e, val_main_v38_apply, val_main_v36_apply, val_main_v37_apply, val_main_cst_5_apply, val_main_v32_apply, val_main_v31_apply, val_main_cst_4_apply,
    val_main_v16_apply, val_main_v15_apply, val_main_cst_2_apply, val_main_v14_apply, rs_eq, meanSq_eq]
  unfold corr
  refine congrArg (fun z => Ideal.div (z * _) _) ((zero_sum _).trans (Fin.sum_fin_congr fun k => ?_))
  have e : idx_main_v31 (idx_main_v32 (ix2 i 0)) k = ix2 i k := ext2 (Fin.ext (by show i.val * 1 + 0 = i.val; omega)) rfl
  rw [e, val_main_v30_apply, ag_eq]
  rfl

theorem value : val_main_v44 (F := Ideal) u w h g d = result u w h g d := funext fun i => by
  obtain ⟨a, b, rfl⟩ := exists_ix2 i
  rw [val_main_v44_apply, val_main_v43_apply, val_main_v42_apply, val_main_v41_apply, val_main_v35_apply, val_main_v34_apply, val_main_v33_apply, ag_eq, corr_eq]
  have e : idx_main_v33 (ix2 a b) = ix2 a 0 := ext2 rfl rfl
  rw [e, rs_eq]
  exact dx_eq (inp h a) (up u w a) (sca g) (inp d a) b

theorem scale_value : val_main_v27 (F := Ideal) u w h = scale u w h := funext fun i => by
  obtain ⟨b, rfl⟩ := split i
  rw [val_main_v27_apply, val_main_v26_apply, val_main_cst_3_apply]
  refine (zero_sum _).trans (Fin.sum_fin_congr fun k => ?_)
  have e : idx_main_v26 (idx_main_v27 (ix2 0 b)) k = ix2 k b := ext2 rfl (Fin.ext (by show 0 * 1024 + b.val = b.val; omega))
  have e' : idx_main_v17 (ix2 k b) = ix2 k 0 := ext2 rfl rfl
  rw [e, val_main_v25_apply, val_main_v18_apply, val_main_v17_apply, e', rs_eq, up_eq]
  rfl

end Cert.UpDx2ReferenceIdeal.Product

end
-- ==== Proof.UpDx2Claim.lean ====
/- The claims for UpDx2: the frame of its reference, and that the idealized call and the reference both hand on `result` and `scale` of
   Proof/UpDx2Value.lean. -/
module

public import proofs.«01_k».proof.Defs
public import proofs.«01_k».proof.Proof.UpDx2Value
public import Idealize.ShloMosaic.Lib.Quiescent

@[expose] public section

noncomputable section

namespace Cert.UpDx2Ideal.Product

open Idealize.ShloMosaic Idealize.ShloMosaic.StableHlo Idealize.SL.Sem Cert.NormGrad

theorem frame_ref : Cert.quiescent_UpDx2ReferenceIdeal (hUpDx2ReferenceIdeal := Cert.UpDx2ReferenceIdeal.Gen.facts) := fun m ρ _ =>
  (θ_run Cert.UpDx2ReferenceIdeal.defs _ _).mono (fun r h => ⟨fun c => (h c).2.2, sem_eq_zero_of_no_sems (by decide) r.2⟩)
    (Cert.UpDx2ReferenceIdeal.Value.run (F := Ideal) m ρ)

theorem algebraic : Cert.algebraic_UpDx2Ideal_UpDx2ReferenceIdeal (hUpDx2Ideal := Cert.UpDx2Ideal.Gen.facts)
    (hUpDx2ReferenceIdeal := Cert.UpDx2ReferenceIdeal.Gen.facts) := by
  intro m g m' g' _ hargs
  refine ⟨fun c => result (arg0 m c) (arg1 m c) (arg2 m c) (arg3 m c) (arg4 m c), fun c => scale (arg0 m c) (arg1 m c) (arg2 m c), ?_, ?_⟩
  · exact (θ_run _ _ _).mono (fun r h c => ⟨(h c).1.trans (arr5 m c), (h c).2.1.trans (arr6 m c), (h c).2.2⟩) (Cert.UpDx2Ideal.Value.run_blocks m g)
  · exact (θ_run _ _ _).mono (fun r h c =>
      ⟨((h c).1.trans (Cert.UpDx2ReferenceIdeal.Read.val_main_v44_eq m' c)).trans
        (Cert.Index.eq_at5 Cert.UpDx2ReferenceIdeal.Product.value (hargs c).1 (hargs c).2.1 (hargs c).2.2.1 (hargs c).2.2.2.1 (hargs c).2.2.2.2),
       ((h c).2.1.trans (Cert.UpDx2ReferenceIdeal.Read.val_main_v27_eq _ _ _)).trans
        (Cert.Index.eq_at3 Cert.UpDx2ReferenceIdeal.Product.scale_value (hargs c).1 (hargs c).2.1 (hargs c).2.2.1), (h c).2.2⟩)
      (Cert.UpDx2ReferenceIdeal.Value.run (F := Ideal) m' g')

end Cert.UpDx2Ideal.Product

end
-- ==== Proof.UpDx3Value.lean ====
/- The gradient of the input of layer 3's up projection, through its norm: what the call leaves, and that its reference hands on the same. -/
module

public import proofs.«01_k».proof.Proof.UpDx0Value
public import proofs.«01_k».proof.Proof.Gen.UpDx3Ideal.Value
public import proofs.«01_k».proof.Proof.Gen.UpDx3ReferenceIdeal.Read

@[expose] public section

set_option maxRecDepth 16384

noncomputable section

namespace Cert.UpDx3Ideal.Product

open Idealize.ShloMosaic Idealize.ShloMosaic.TcCoe Cert.UpDx3Ideal Cert.UpDx3Ideal.Gen Cert.NormGrad Cert.Index

open Cert.UpDx0Ideal.Product (row rowG part pay2_apply pay7_apply pay8_apply row_add)

section Body
variable (u : Vec Ideal S1x512x2816 .bf16) (w : Vec Ideal S1x1024x2816 .bf16) (x : Vec Ideal S512x1024 .f32) (v : Vec Ideal S1x1x1024 .f32) (d : Vec Ideal S512x1024 .f32) (y : Vec Ideal S512x1024 .f32)

variable (o : Vec Ideal S1x1024 .f32) (z : Vec Ideal S512x1024 .f32) (c : Dev nD) (i : grid0.Coords) (arg3 : Memref sig .tc .vmem S1x512x2816 .bf16) (harg3 : arg3.IsWhole) (arg4 : Memref sig .tc .vmem S1x1024x2816 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole)

theorem sum_apply (hc0 : cond0_0 i) (hc1 : ¬cond0_1 i) (hc2 : ¬cond0_2 i) (a : Fin 512) (b : Fin 1024) :
    sout0_A_0 c i _ harg3 _ harg4 _ harg5 _ harg6 _ harg7 _ harg8 _ harg9 _ harg10 hc0 hc1 hc2 u w x v d (ix2 a b) = part u w a b := by
  frame_out
  try simp only [read_unread_whole]
  exact pay2_apply ..
theorem first_apply (hc0 : ¬cond0_0 i) (hc1 : cond0_1 i) (hc2 : cond0_2 i) (hc3 : cond0_3 i) (hc4 : ¬cond0_4 i) (a : Fin 512) (b : Fin 1024) :
    out0_B_5 c i _ harg3 _ harg4 _ harg5 _ harg6 _ harg7 _ harg8 _ harg9 _ harg10 hc0 hc1 hc2 hc3 hc4 u w x v d z (ix2 a b) = dx (row x a) (fun k => z (ix2 a k) + part u w a k) (rowG v) (row d a) b := by
  rw [← row_add]
  frame_out
  try simp only [read_unread_whole]
  exact pay8_apply ..
theorem first_scale (hc0 : ¬cond0_0 i) (hc1 : cond0_1 i) (hc2 : cond0_2 i) (hc3 : cond0_3 i) (hc4 : ¬cond0_4 i) (b : Fin 1024) :
    out0_B_6 c i _ harg3 _ harg4 _ harg5 _ harg6 _ harg7 _ harg8 _ harg9 _ harg10 hc0 hc1 hc2 hc3 hc4 u w x v d z (ix2 0 b) = ∑ a : Fin 512, dg (row x a) (fun k => z (ix2 a k) + part u w a k) b := by
  simp only [← row_add]
  frame_out
  try simp only [read_unread_whole]
  exact pay7_apply ..
theorem next_apply (hc0 : ¬cond0_0 i) (hc1 : cond0_1 i) (hc2 : cond0_2 i) (hc3 : ¬cond0_3 i) (hc4 : cond0_4 i) (a : Fin 512) (b : Fin 1024) :
    out0_C_5 c i _ harg3 _ harg4 _ harg5 _ harg6 _ harg7 _ harg8 _ harg9 _ harg10 hc0 hc1 hc2 hc3 hc4 u w x v d o z (ix2 a b) = dx (row x a) (fun k => z (ix2 a k) + part u w a k) (rowG v) (row d a) b := by
  rw [← row_add]
  frame_out
  try simp only [read_unread_whole]
  exact pay8_apply ..
theorem next_scale (hc0 : ¬cond0_0 i) (hc1 : cond0_1 i) (hc2 : cond0_2 i) (hc3 : ¬cond0_3 i) (hc4 : cond0_4 i) (b : Fin 1024) :
    out0_C_6 c i _ harg3 _ harg4 _ harg5 _ harg6 _ harg7 _ harg8 _ harg9 _ harg10 hc0 hc1 hc2 hc3 hc4 u w x v d o z (ix2 0 b) = o (ix2 0 b) + ∑ a : Fin 512, dg (row x a) (fun k => z (ix2 a k) + part u w a k) b := by
  simp only [← row_add]
  frame_out
  try simp only [read_unread_whole]
  pointwise [k0_pay4]
  exact congrArg (o (ix2 0 b) + ·) (pay7_apply ..)
end Body

abbrev Lhs : Type := (⟨3, ![2, 4096, 2816]⟩ : Shape).Idx → EReal
abbrev Rhs : Type := (⟨3, ![4, 1024, 5632]⟩ : Shape).Idx → EReal

/-- The rows of the arrays; the gradient of the product's input is the product with the transposed weights, over the columns of
    the two halves. -/
def up (u : Lhs) (w : Rhs) (i : Fin 4096) : Fin 1024 → EReal := fun k =>
  ∑ s : Fin 2, ∑ q : Fin 2816, u (ix3 s i q) * w (ix3 3 k (⟨s.val * 2816 + q.val, by have hs : s.val < 2 := s.isLt; omega⟩ : Fin 5632))
def sca (g : Sca) : Fin 1024 → EReal := fun k => g (ix3 3 0 k)
def result (u : Lhs) (w : Rhs) (h : Inp) (g : Sca) (d : Inp) : Inp := fun i => dx (inp h (i 0)) (up u w (i 0)) (sca g) (inp d (i 0)) (i 1)
def scale (u : Lhs) (w : Rhs) (h : Inp) : GSca := fun i => ∑ k : Fin 4096, dg (inp h k) (up u w k) (i 1)

variable (m : (ℓ : Loc nD τ sig) → Buf (Elt Ideal) ℓ) (c : Dev nD) (t : Fin cfg0.N)

abbrev arg0 : Lhs := m (c.tc.loc main_arg0)
abbrev arg1 : Rhs := m (c.tc.loc main_arg1)
abbrev arg2 : Inp := m (c.tc.loc main_arg2)
abbrev arg3 : Sca := m (c.tc.loc main_arg3)
abbrev arg4 : Inp := m (c.tc.loc main_arg4)

theorem idx0 : ∀ t : Fin cfg0.N, win0_0.index t = ![t.val % 2, t.val / 2, 0] := by decide +kernel
theorem idx1 : ∀ t : Fin cfg0.N, win0_1.index t = ![3, 0, t.val % 2] := by decide +kernel
theorem idx2 : ∀ t : Fin cfg0.N, win0_2.index t = ![t.val / 2, 0] := by decide +kernel
theorem idx3 : ∀ t : Fin cfg0.N, win0_3.index t = ![3, 0, 0] := by decide +kernel
theorem idx4 : ∀ t : Fin cfg0.N, win0_4.index t = ![t.val / 2, 0] := by decide +kernel
theorem idx5 : ∀ t : Fin cfg0.N, win0_5.index t = ![t.val / 2, 0] := by decide +kernel
theorem idx6 : ∀ t : Fin cfg0.N, win0_6.index t = ![0, 0] := by decide +kernel

/-- Row `a` of the block of point `t`, and its step of the product. -/
def rowAt (t : Fin cfg0.N) (a : Fin 512) : Fin 4096 := ⟨512 * (t.val / 2) + a.val, by have ht : t.val < 16 := t.isLt; omega⟩

theorem read0 (a : Fin 512) (q : Fin 2816) : iblk m c 0 t (ix3 0 a q) = arg0 m c (ix3 (⟨t.val % 2, by omega⟩ : Fin 2) (rowAt t a) q) := by
  unfold rowAt; blk_ext [iblk, idx0]
theorem read1 (k : Fin 1024) (q : Fin 2816) :
    iblk m c 1 t (ix3 0 k q) = arg1 m c (ix3 3 k (⟨t.val % 2 * 2816 + q.val, by omega⟩ : Fin 5632)) := by
  blk_ext [iblk, idx1]
theorem read2 (a : Fin 512) (b : Fin 1024) : iblk m c 2 t (ix2 a b) = arg2 m c (ix2 (rowAt t a) b) := by
  unfold rowAt; blk_ext [iblk, idx2]
theorem read3 (b : Fin 1024) : iblk m c 3 t (ix3 0 0 b) = arg3 m c (ix3 3 0 b) := by
  blk_ext [iblk, idx3]
theorem read4 (a : Fin 512) (b : Fin 1024) : iblk m c 4 t (ix2 a b) = arg4 m c (ix2 (rowAt t a) b) := by
  unfold rowAt; blk_ext [iblk, idx4]

theorem row2 (a : Fin 512) : row (iblk m c 2 t) a = inp (arg2 m c) (rowAt t a) := funext fun k => read2 m c t a k
theorem row4 (a : Fin 512) : row (iblk m c 4 t) a = inp (arg4 m c) (rowAt t a) := funext fun k => read4 m c t a k
theorem rowG3 : rowG (iblk m c 3 t) = sca (arg3 m c) := funext fun k => read3 m c t k

theorem emb5 (a : Fin 512) (b : Fin 1024) : ((cfg0.win 5).blk t).view.emb (ix2 a b) = (ix2 (rowAt t a) b : S4096x1024.Idx) := by
  funext k; fin_cases k <;> (apply Fin.ext; blk_simp [idx5 t]; try first | rfl | (rw [mul_comm]; rfl))
theorem emb6 (b : Fin 1024) : ((cfg0.win 6).blk t).view.emb (ix2 0 b) = (ix2 0 b : S1x1024.Idx) := by
  funext k; fin_cases k <;> (apply Fin.ext; blk_simp [idx6 t]; try first | rfl | (rw [mul_comm]; rfl))

/-- The step of the product that point `t` takes, in the arrays. -/
theorem part_at (a : Fin 512) (k : Fin 1024) (s : Fin 2) (r : Fin 4096) (hs : t.val % 2 = s.val) (hr : rowAt t a = r) :
    part (iblk m c 0 t) (iblk m c 1 t) a k
      = ∑ q : Fin 2816, arg0 m c (ix3 s r q) * arg1 m c (ix3 3 k (⟨s.val * 2816 + q.val, by have hs : s.val < 2 := s.isLt; omega⟩ : Fin 5632)) :=
  Fin.sum_fin_congr fun q => by
    subst hr
    refine congrArg₂ (· * ·) ((read0 m c t a q).trans (congrArg (arg0 m c) (congrArg (ix3 · (rowAt t a) q) (Fin.ext hs))))
      ((read1 m c t k q).trans (congrArg (arg1 m c) (congrArg (ix3 3 k ·) (Fin.ext ?_))))
    show t.val % 2 * 2816 + q.val = s.val * 2816 + q.val
    rw [hs]

/-- At the second step of a block the sum is the whole product. -/
theorem acc_eq (hf : t.val % 2 = 1) (a : Fin 512) :
    (fun k => (outsAt0 m c (t.val - 1) (Nat.lt_of_le_of_lt (Nat.sub_le _ _) t.isLt)).2.2 (ix2 a k) + part (iblk m c 0 t) (iblk m c 1 t) a k)
      = up (arg0 m c) (arg1 m c) (rowAt t a) := funext fun k => by
  have ht : t.val < 16 := t.isLt
  unfold up
  rw [Fin.sum_univ_two]
  refine congrArg₂ (· + ·) ?_ (part_at m c t a k 1 _ hf rfl)
  have h0 : (t.val - 1) % 2 = 0 := by omega
  refine (congrFun (congrArg (fun p => p.2.2) (outsAt0_A m c (⟨t.val - 1, by show _ < 16; omega⟩ : Fin cfg0.N) h0 (by show ¬(t.val - 1) % 2 = 1; omega) (by show ¬(t.val - 1) % 2 = 1; omega))) _).trans ?_
  dsimp only
  refine (sum_apply ..).trans (part_at m c _ a k 0 _ h0 (Fin.ext ?_))
  show 512 * ((t.val - 1) / 2) + a.val = 512 * (t.val / 2) + a.val
  omega

theorem outs5 (hf : t.val % 2 = 1) (a : Fin 512) (b : Fin 1024) :
    (outsAt0 m c t.val t.isLt).1 (ix2 a b) = result (arg0 m c) (arg1 m c) (arg2 m c) (arg3 m c) (arg4 m c) (ix2 (rowAt t a) b) := by
  have ht : t.val < 16 := t.isLt
  show _ = dx (inp _ (rowAt t a)) (up _ _ (rowAt t a)) (sca _) (inp _ (rowAt t a)) b
  rw [← row2, ← acc_eq m c t hf, ← rowG3 m c t, ← row4]
  by_cases h3 : t.val < 2
  · rw [outsAt0_B m c t (by omega) hf hf h3 (by omega)]
    dsimp only
    generalize (outsAt0 m c (t.val - 1) _).2.2 = z
    exact first_apply ..
  · rw [outsAt0_C m c t (by omega) hf hf h3 (by omega)]
    dsimp only
    generalize (outsAt0 m c (t.val - 1) _).2.2 = z
    generalize (outsAt0 m c (t.val - 1) _).2.1 = o
    exact next_apply ..

theorem arr5 : (dats m 0 c).arrAt 5 cfg0.N = result (arg0 m c) (arg1 m c) (arg2 m c) (arg3 m c) (arg4 m c) := by
  refine (dats m 0 c).arrAt_eq_of_covers 5 _ (by decide +kernel) fun t hf y => ?_
  obtain ⟨a, b, rfl⟩ := exists_ix2 y
  blk_simp
  rw [after0_5, emb5]
  exact outs5 m c t ((flush0_5 t).mp hf) a b

/-- What the block of rows `s` adds to the gradient of the scale. -/
def step (b : Fin 1024) (s : ℕ) (hs : s < 8) : EReal :=
  ∑ a : Fin 512, dg (inp (arg2 m c) ⟨s * 512 + a.val, by omega⟩) (up (arg0 m c) (arg1 m c) ⟨s * 512 + a.val, by omega⟩) b

theorem rows_eq (hf : t.val % 2 = 1) (b : Fin 1024) (s : ℕ) (hs : s < 8) (e : t.val / 2 = s) :
    (∑ a : Fin 512, dg (row (iblk m c 2 t) a) (fun k => (outsAt0 m c (t.val - 1) (Nat.lt_of_le_of_lt (Nat.sub_le _ _) t.isLt)).2.2 (ix2 a k) + part (iblk m c 0 t) (iblk m c 1 t) a k) b)
      = step m c b s hs := Fin.sum_fin_congr fun a => by
  have er : rowAt t a = ⟨s * 512 + a.val, by omega⟩ := Fin.ext (by show 512 * (t.val / 2) + a.val = s * 512 + a.val; omega)
  rw [acc_eq m c t hf, row2, er]

/-- After the second step of block `n` the gradient of the scale has the blocks up to it. -/
theorem scale_at (b : Fin 1024) : ∀ (n : ℕ) (hn : n < 8) (h : 2 * n + 1 < cfg0.N),
    (outsAt0 m c (2 * n + 1) h).2.1 (ix2 0 b) = ∑ s : Fin (n + 1), step m c b s.val (by have := s.isLt; omega)
  | 0, hn, h => by
    rw [Fin.sum_univ_one]
    refine (congrFun (congrArg (fun p => p.2.1) (outsAt0_B m c (⟨1, h⟩ : Fin cfg0.N) (show ¬1 % 2 = 0 by decide) (show 1 % 2 = 1 by decide) (show 1 % 2 = 1 by decide) (show 1 < 2 by decide) (show ¬2 ≤ 1 by decide))) _).trans ?_
    dsimp only
    refine Eq.trans ?_ (rows_eq m c ⟨1, h⟩ (show 1 % 2 = 1 by decide) b 0 hn (show 1 / 2 = 0 by decide))
    exact first_scale ..
  | n + 1, hn, h => by
    rw [Fin.sum_univ_castSucc]
    have h2 : 2 * n + 2 < cfg0.N := by omega
    have h1 : 2 * n + 1 < cfg0.N := by omega
    refine (congrFun (congrArg (fun p => p.2.1) (outsAt0_C m c (⟨2 * (n + 1) + 1, h⟩ : Fin cfg0.N) (by show ¬(2 * (n + 1) + 1) % 2 = 0; omega) (by show (2 * (n + 1) + 1) % 2 = 1; omega)
      (by show (2 * (n + 1) + 1) % 2 = 1; omega) (by show ¬2 * (n + 1) + 1 < 2; omega) (by show 2 ≤ 2 * (n + 1) + 1; omega))) _).trans ?_
    dsimp only
    refine Eq.trans (next_scale ..) (congrArg₂ (· + ·) ?_ (rows_eq m c ⟨2 * (n + 1) + 1, h⟩ (by show (2 * (n + 1) + 1) % 2 = 1; omega) b (n + 1) hn (by show (2 * (n + 1) + 1) / 2 = n + 1; omega)))
    refine Eq.trans ?_ (scale_at b n (by omega) h1)
    exact congrFun (congrArg (fun p => p.2.1) (outsAt0_A m c (⟨2 * n + 2, h2⟩ : Fin cfg0.N) (by show (2 * n + 2) % 2 = 0; omega) (by show ¬(2 * n + 2) % 2 = 1; omega)
      (by show ¬(2 * n + 2) % 2 = 1; omega))) _

theorem arr6 : (dats m 0 c).arrAt 6 cfg0.N = scale (arg0 m c) (arg1 m c) (arg2 m c) := by
  refine (dats m 0 c).arrAt_eq_of_covers 6 _ (by decide +kernel) fun t hf y => ?_
  have ht : t.val < 16 := t.isLt
  have hf' : t.val % 16 = 15 := (flush0_6 t).mp hf
  obtain ⟨b, rfl⟩ := split y
  blk_simp
  rw [after0_6, emb6]
  obtain rfl : t = (⟨2 * 7 + 1, by decide⟩ : Fin cfg0.N) := Fin.ext (by show t.val = 15; omega)
  refine (scale_at m c b 7 (by decide) _).trans ?_
  show _ = ∑ k : Fin 4096, dg (inp _ k) (up _ _ k) b
  exact Fin.sum_mul_add_congr (fun s k hl => rfl)

end Cert.UpDx3Ideal.Product

namespace Cert.UpDx3ReferenceIdeal.Product

open Idealize.ShloMosaic Cert.UpDx3ReferenceIdeal Cert.UpDx3ReferenceIdeal.Read Cert.UpDx3Ideal.Product Cert.NormGrad Cert.Index

variable (u : Lhs) (w : Rhs) (h : Inp) (g : Sca) (d : Inp)

theorem meanSq_eq (i : Fin 4096) : val_main_v12 (F := Ideal) h (ix2 i 0) = meanSq (inp h i) :=
  Cert.UpDx0ReferenceIdeal.Product.meanSq_eq h i
theorem rs_eq (i : Fin 4096) : val_main_v13 (F := Ideal) h (ix2 i 0) = rs (inp h i) :=
  Cert.UpDx0ReferenceIdeal.Product.rs_eq h i
theorem up_eq (i : Fin 4096) (j : Fin 1024) : val_main_v24 (F := Ideal) u w (ix2 i j) = up u w i j := by
  rw [val_main_v24_apply]
  refine Eq.symm (Fin.sum_mul_add_congr (fun s q hl => ?_))
  have hq : q.val < 2816 := q.isLt
  have hs : s.val < 2 := s.isLt
  have hj : j.val < 1024 := j.isLt
  have hi : i.val < 4096 := i.isLt
  rw [val_main_v23_apply, val_main_v21_apply, val_main_v3_apply, val_main_v2_apply, val_main_v1_apply, val_main_v0_apply]
  refine congrArg₂ (· * ·) (congrArg u (funext fun a => ?_)) (congrArg w (funext fun a => ?_))
  · match a with
    | ⟨0, _⟩ => exact Fin.ext (by show s.val = (i.val * 5632 + (s.val * 2816 + q.val)) / 2816 % 2; omega)
    | ⟨1, _⟩ => exact Fin.ext (by show i.val = (i.val * 5632 + (s.val * 2816 + q.val)) / 5632; omega)
    | ⟨2, _⟩ => exact Fin.ext (by show q.val = (i.val * 5632 + (s.val * 2816 + q.val)) % 2816; omega)
  · match a with
    | ⟨0, _⟩ => rfl
    | ⟨1, _⟩ => exact Fin.ext (by show j.val = (j.val * 5632 + (s.val * 2816 + q.val)) / 5632 % 1024; omega)
    | ⟨2, _⟩ => exact Fin.ext (by show s.val * 2816 + q.val = (j.val * 5632 + (s.val * 2816 + q.val)) % 5632; omega)
theorem ag_eq (i : Fin 4096) (j : Fin 1024) : val_main_v29 (F := Ideal) u w g (ix2 i j) = up u w i j * sca g j := by
  rw [val_main_v29_apply, up_eq, val_main_v28_apply, val_main_v5_apply, val_main_v4_apply]
  refine congrArg (up u w i j * g ·) (funext fun a => ?_)
  have hj : j.val < 1024 := j.isLt
  match a with
  | ⟨0, _⟩ => rfl
  | ⟨1, _⟩ => rfl
  | ⟨2, _⟩ => exact Fin.ext (by show (0 * 1024 + j.val) % 1024 = j.val; omega)
theorem corr_eq (i : Fin 4096) (j : Fin 1024) : val_main_v40 (F := Ideal) u w h g (ix2 i j) = corr (inp h i) (up u w i) (sca g) := by
  rw [val_main_v40_apply, val_main_v39_apply, val_main_cst_6_apply]
  refine (zero_sum _).trans ((Fin.sum_univ_one _).trans ?_)
  have e : idx_main_v39 (idx_main_v40 (ix2 i j)) 0 = ix2 i 0 := ext2 rfl rfl
  rw [e, val_main_v38_apply, val_main_v36_apply, val_main_v37_apply, val_main_cst_5_apply, val_main_v32_apply, val_main_v31_apply, val_main_cst_4_apply,
    val_main_v16_apply, val_main_v15_apply, val_main_cst_2_apply, val_main_v14_apply, rs_eq, meanSq_eq]
  unfold corr
  refine congrArg (fun z => Ideal.div (z * _) _) ((zero_sum _).trans (Fin.sum_fin_congr fun k => ?_))
  have e : idx_main_v31 (idx_main_v32 (ix2 i 0)) k = ix2 i k := ext2 (Fin.ext (by show i.val * 1 + 0 = i.val; omega)) rfl
  rw [e, val_main_v30_apply, ag_eq]
  rfl

theorem value : val_main_v44 (F := Ideal) u w h g d = result u w h g d := funext fun i => by
  obtain ⟨a, b, rfl⟩ := exists_ix2 i
  rw [val_main_v44_apply, val_main_v43_apply, val_main_v42_apply, val_main_v41_apply, val_main_v35_apply, val_main_v34_apply, val_main_v33_apply, ag_eq, corr_eq]
  have e : idx_main_v33 (ix2 a b) = ix2 a 0 := ext2 rfl rfl
  rw [e, rs_eq]
  exact dx_eq (inp h a) (up u w a) (sca g) (inp d a) b

theorem scale_value : val_main_v27 (F := Ideal) u w h = scale u w h := funext fun i => by
  obtain ⟨b, rfl⟩ := split i
  rw [val_main_v27_apply, val_main_v26_apply, val_main_cst_3_apply]
  refine (zero_sum _).trans (Fin.sum_fin_congr fun k => ?_)
  have e : idx_main_v26 (idx_main_v27 (ix2 0 b)) k = ix2 k b := ext2 rfl (Fin.ext (by show 0 * 1024 + b.val = b.val; omega))
  have e' : idx_main_v17 (ix2 k b) = ix2 k 0 := ext2 rfl rfl
  rw [e, val_main_v25_apply, val_main_v18_apply, val_main_v17_apply, e', rs_eq, up_eq]
  rfl

end Cert.UpDx3ReferenceIdeal.Product

end
-- ==== Proof.UpDx3Claim.lean ====
/- The claims for UpDx3: the frame of its reference, and that the idealized call and the reference both hand on `result` and `scale` of
   Proof/UpDx3Value.lean. -/
module

public import proofs.«01_k».proof.Defs
public import proofs.«01_k».proof.Proof.UpDx3Value
public import Idealize.ShloMosaic.Lib.Quiescent

@[expose] public section

noncomputable section

namespace Cert.UpDx3Ideal.Product

open Idealize.ShloMosaic Idealize.ShloMosaic.StableHlo Idealize.SL.Sem Cert.NormGrad

theorem frame_ref : Cert.quiescent_UpDx3ReferenceIdeal (hUpDx3ReferenceIdeal := Cert.UpDx3ReferenceIdeal.Gen.facts) := fun m ρ _ =>
  (θ_run Cert.UpDx3ReferenceIdeal.defs _ _).mono (fun r h => ⟨fun c => (h c).2.2, sem_eq_zero_of_no_sems (by decide) r.2⟩)
    (Cert.UpDx3ReferenceIdeal.Value.run (F := Ideal) m ρ)

theorem algebraic : Cert.algebraic_UpDx3Ideal_UpDx3ReferenceIdeal (hUpDx3Ideal := Cert.UpDx3Ideal.Gen.facts)
    (hUpDx3ReferenceIdeal := Cert.UpDx3ReferenceIdeal.Gen.facts) := by
  intro m g m' g' _ hargs
  refine ⟨fun c => result (arg0 m c) (arg1 m c) (arg2 m c) (arg3 m c) (arg4 m c), fun c => scale (arg0 m c) (arg1 m c) (arg2 m c), ?_, ?_⟩
  · exact (θ_run _ _ _).mono (fun r h c => ⟨(h c).1.trans (arr5 m c), (h c).2.1.trans (arr6 m c), (h c).2.2⟩) (Cert.UpDx3Ideal.Value.run_blocks m g)
  · exact (θ_run _ _ _).mono (fun r h c =>
      ⟨((h c).1.trans (Cert.UpDx3ReferenceIdeal.Read.val_main_v44_eq m' c)).trans
        (Cert.Index.eq_at5 Cert.UpDx3ReferenceIdeal.Product.value (hargs c).1 (hargs c).2.1 (hargs c).2.2.1 (hargs c).2.2.2.1 (hargs c).2.2.2.2),
       ((h c).2.1.trans (Cert.UpDx3ReferenceIdeal.Read.val_main_v27_eq _ _ _)).trans
        (Cert.Index.eq_at3 Cert.UpDx3ReferenceIdeal.Product.scale_value (hargs c).1 (hargs c).2.1 (hargs c).2.2.1), (h c).2.2⟩)
      (Cert.UpDx3ReferenceIdeal.Value.run (F := Ideal) m' g')

end Cert.UpDx3Ideal.Product

end
-- ==== Proof.AttnInDx0Value.lean ====
/- The gradient of the input of layer 0's attention projection, through its norm: what the call leaves, and that its reference hands on the same. -/
module

public import proofs.«01_k».proof.Proof.UpDx0Value
public import proofs.«01_k».proof.Proof.Gen.AttnInDx0Ideal.Value
public import proofs.«01_k».proof.Proof.Gen.AttnInDx0ReferenceIdeal.Read

@[expose] public section

set_option maxRecDepth 16384

noncomputable section

namespace Cert.AttnInDx0Ideal.Product

open Idealize.ShloMosaic Idealize.ShloMosaic.TcCoe Cert.AttnInDx0Ideal Cert.AttnInDx0Ideal.Gen Cert.NormGrad Cert.Index

section Body
variable (u : Vec Ideal S512x1536 .bf16) (w : Vec Ideal S1x1024x1536 .bf16) (x : Vec Ideal S512x1024 .f32) (v : Vec Ideal S1x1x1024 .f32) (d : Vec Ideal S512x1024 .f32)

/-- A block's rows: the norm's input, the gradient of the product's input, the scale, the gradient already there. -/
def rowX (a : Fin 512) : Fin 1024 → EReal := fun k => x (ix2 a k)
def rowA (a : Fin 512) : Fin 1024 → EReal := fun k => ∑ q : Fin 1536, u (ix2 a q) * w (ix3 0 k q)
def rowG : Fin 1024 → EReal := fun k => v (ix3 0 0 k)

theorem pay3_apply (a : Fin 512) (b : Fin 1024) : k0_pay3 u w (ix2 a b) = rowA u w a b := by
  pointwise [k0_pay3]
  rfl
theorem pay4_apply (a : Fin 512) : k0_pay4 x (ix2 a 0) = meanSq (rowX x a) := by
  pointwise [k0_pay4]
  rfl
theorem pay5_apply (a : Fin 512) : k0_pay5 x (ix2 a 0) = rs (rowX x a) := by
  pointwise [k0_pay5]
  rw [pay4_apply]
  rfl
theorem pay6_apply (b : Fin 1024) : k0_pay6 u w x (ix2 0 b) = ∑ a : Fin 512, dg (rowX x a) (rowA u w a) b := by
  pointwise [k0_pay6]
  refine Fin.sum_fin_congr fun a => ?_
  rw [pay5_apply, pay3_apply]
  rfl
theorem pay7_apply (a : Fin 512) (b : Fin 1024) : k0_pay7 u w v (ix2 a b) = rowA u w a b * rowG v b := by
  pointwise [k0_pay7]
  rw [pay3_apply]
  rfl
theorem pay8_apply (a : Fin 512) (b : Fin 1024) : k0_pay8 u w x v (ix2 a b) = corr (rowX x a) (rowA u w a) (rowG v) := by
  pointwise [k0_pay8]
  refine (Fin.sum_univ_one _).trans ?_
  simp only [pay7_apply, pay5_apply, pay4_apply]
  rfl
theorem pay9_apply (a : Fin 512) (b : Fin 1024) :
    k0_pay9 u w x v (ix2 a b) = (rowA u w a b * rowG v b) * rs (rowX x a) + rowX x a b * corr (rowX x a) (rowA u w a) (rowG v) := by
  pointwise [k0_pay9]
  rw [pay7_apply, pay8_apply, pay5_apply]
  rfl
theorem pay1_apply (a : Fin 512) (b : Fin 1024) :
    k0_pay1 x (k0_pay8 u w x v) (k0_pay9 u w x v) d (ix2 a b) = dx (rowX x a) (rowA u w a) (rowG v) (rowX d a) b := by
  pointwise [k0_pay1]
  rw [pay9_apply, pay8_apply]
  rfl

variable (o : Vec Ideal S1x1024 .f32) (c : Dev nD) (i : grid0.Coords) (arg3 : Memref sig .tc .vmem S512x1536 .bf16) (harg3 : arg3.IsWhole) (arg4 : Memref sig .tc .vmem S1x1024x1536 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole)

theorem first_apply (hc0 : cond0_0 i) (hc1 : ¬cond0_1 i) (a : Fin 512) (b : Fin 1024) :
    out0_A_5 c i _ harg3 _ harg4 _ harg5 _ harg6 _ harg7 _ harg8 _ harg9 hc0 hc1 u w x v d (ix2 a b) = dx (rowX x a) (rowA u w a) (rowG v) (rowX d a) b := by
  frame_out
  try simp only [read_unread_whole]
  exact pay1_apply ..
theorem first_scale (hc0 : cond0_0 i) (hc1 : ¬cond0_1 i) (b : Fin 1024) :
    out0_A_6 c i _ harg3 _ harg4 _ harg5 _ harg6 _ harg7 _ harg8 _ harg9 hc0 hc1 u w x v d (ix2 0 b) = ∑ a : Fin 512, dg (rowX x a) (rowA u w a) b := by
  frame_out
  try simp only [read_unread_whole]
  exact pay6_apply ..
theorem next_apply (hc0 : ¬cond0_0 i) (hc1 : cond0_1 i) (a : Fin 512) (b : Fin 1024) :
    out0_B_5 c i _ harg3 _ harg4 _ harg5 _ harg6 _ harg7 _ harg8 _ harg9 hc0 hc1 u w x v d o (ix2 a b) = dx (rowX x a) (rowA u w a) (rowG v) (rowX d a) b := by
  frame_out
  try simp only [read_unread_whole]
  exact pay1_apply ..
theorem next_scale (hc0 : ¬cond0_0 i) (hc1 : cond0_1 i) (b : Fin 1024) :
    out0_B_6 c i _ harg3 _ harg4 _ harg5 _ harg6 _ harg7 _ harg8 _ harg9 hc0 hc1 u w x v d o (ix2 0 b) = o (ix2 0 b) + ∑ a : Fin 512, dg (rowX x a) (rowA u w a) b := by
  frame_out
  try simp only [read_unread_whole]
  pointwise [k0_pay2]
  exact congrArg (o (ix2 0 b) + ·) (pay6_apply ..)
end Body

abbrev Lhs : Type := (⟨2, ![4096, 1536]⟩ : Shape).Idx → EReal
abbrev Rhs : Type := (⟨3, ![2, 1024, 1536]⟩ : Shape).Idx → EReal

/-- The rows of the arrays; the gradient of the product's input is the product with the transposed weights. -/
def up (u : Lhs) (w : Rhs) (i : Fin 4096) : Fin 1024 → EReal := fun k => ∑ q : Fin 1536, u (ix2 i q) * w (ix3 0 k q)
def sca (g : Sca) : Fin 1024 → EReal := fun k => g (ix3 0 0 k)
def result (u : Lhs) (w : Rhs) (h : Inp) (g : Sca) (d : Inp) : Inp := fun i => dx (inp h (i 0)) (up u w (i 0)) (sca g) (inp d (i 0)) (i 1)
def scale (u : Lhs) (w : Rhs) (h : Inp) : GSca := fun i => ∑ k : Fin 4096, dg (inp h k) (up u w k) (i 1)

variable (m : (ℓ : Loc nD τ sig) → Buf (Elt Ideal) ℓ) (c : Dev nD) (t : Fin cfg0.N)

abbrev arg0 : Lhs := m (c.tc.loc main_arg0)
abbrev arg1 : Rhs := m (c.tc.loc main_arg1)
abbrev arg2 : Inp := m (c.tc.loc main_arg2)
abbrev arg3 : Sca := m (c.tc.loc main_arg3)
abbrev arg4 : Inp := m (c.tc.loc main_arg4)

theorem idx0 : ∀ t : Fin cfg0.N, win0_0.index t = ![t.val, 0] := by decide +kernel
theorem idx1 : ∀ t : Fin cfg0.N, win0_1.index t = ![0, 0, 0] := by decide +kernel
theorem idx2 : ∀ t : Fin cfg0.N, win0_2.index t = ![t.val, 0] := by decide +kernel
theorem idx3 : ∀ t : Fin cfg0.N, win0_3.index t = ![0, 0, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![0, 0] := by decide +kernel

/-- Row `a` of the block of point `t`. -/
def rowAt (t : Fin cfg0.N) (a : Fin 512) : Fin 4096 := ⟨512 * t.val + a.val, by have ht : t.val < 8 := t.isLt; omega⟩

theorem read0 (a : Fin 512) (k : Fin 1536) : iblk m c 0 t (ix2 a k) = arg0 m c (ix2 (rowAt t a) k) := by
  unfold rowAt; blk_ext [iblk, idx0]
theorem read1 (k : Fin 1024) (b : Fin 1536) : iblk m c 1 t (ix3 0 k b) = arg1 m c (ix3 0 k b) := by
  blk_ext [iblk, idx1]
theorem read2 (a : Fin 512) (b : Fin 1024) : iblk m c 2 t (ix2 a b) = arg2 m c (ix2 (rowAt t a) b) := by
  unfold rowAt; blk_ext [iblk, idx2]
theorem read3 (b : Fin 1024) : iblk m c 3 t (ix3 0 0 b) = arg3 m c (ix3 0 0 b) := by
  blk_ext [iblk, idx3]
theorem read4 (a : Fin 512) (b : Fin 1024) : iblk m c 4 t (ix2 a b) = arg4 m c (ix2 (rowAt t a) b) := by
  unfold rowAt; blk_ext [iblk, idx4]

theorem rowX2 (a : Fin 512) : rowX (iblk m c 2 t) a = inp (arg2 m c) (rowAt t a) := funext fun k => read2 m c t a k
theorem rowX4 (a : Fin 512) : rowX (iblk m c 4 t) a = inp (arg4 m c) (rowAt t a) := funext fun k => read4 m c t a k
theorem rowG3 : rowG (iblk m c 3 t) = sca (arg3 m c) := funext fun k => read3 m c t k
theorem rowA01 (a : Fin 512) : rowA (iblk m c 0 t) (iblk m c 1 t) a = up (arg0 m c) (arg1 m c) (rowAt t a) := funext fun k =>
  Fin.sum_fin_congr fun q => congrArg₂ (· * ·) (read0 m c t a q) (read1 m c t k q)

theorem emb5 (a : Fin 512) (b : Fin 1024) : ((cfg0.win 5).blk t).view.emb (ix2 a b) = (ix2 (rowAt t a) b : S4096x1024.Idx) := by
  funext k; fin_cases k <;> (apply Fin.ext; blk_simp [idx5 t]; try first | rfl | (rw [mul_comm]; rfl))
theorem emb6 (b : Fin 1024) : ((cfg0.win 6).blk t).view.emb (ix2 0 b) = (ix2 0 b : S1x1024.Idx) := by
  funext k; fin_cases k <;> (apply Fin.ext; blk_simp [idx6 t]; try first | rfl | (rw [mul_comm]; rfl))

theorem outs5 (a : Fin 512) (b : Fin 1024) :
    (outsAt0 m c t.val t.isLt).1 (ix2 a b) = result (arg0 m c) (arg1 m c) (arg2 m c) (arg3 m c) (arg4 m c) (ix2 (rowAt t a) b) := by
  have ht : t.val < 8 := t.isLt
  show _ = dx (inp _ (rowAt t a)) (up _ _ (rowAt t a)) (sca _) (inp _ (rowAt t a)) b
  rw [← rowX2, ← rowA01, ← rowG3 m c t, ← rowX4]
  by_cases h0 : t.val % 8 = 0
  · rw [outsAt0_A m c t h0 (by omega)]
    dsimp only
    exact first_apply ..
  · rw [outsAt0_B m c t h0 (by omega)]
    dsimp only
    generalize (outsAt0 m c (t.val - 1) _).2 = o
    exact next_apply ..

theorem arr5 : (dats m 0 c).arrAt 5 cfg0.N = result (arg0 m c) (arg1 m c) (arg2 m c) (arg3 m c) (arg4 m c) := by
  refine (dats m 0 c).arrAt_eq_of_covers 5 _ (by decide +kernel) fun t hf y => ?_
  obtain ⟨a, b, rfl⟩ := exists_ix2 y
  blk_simp
  rw [after0_5, emb5]
  exact outs5 m c t a b

/-- What point `s` adds to the gradient of the scale. -/
def step (u : Vec Ideal S512x1536 .bf16) (w : Vec Ideal S1x1024x1536 .bf16) (x : Vec Ideal S512x1024 .f32) : S1x1024.Idx → EReal :=
  fun y => ∑ a : Fin 512, dg (rowX x a) (rowA u w a) (y 1)
/-- Step `s` of the block of `t`. -/
def at8 (t : Fin cfg0.N) (s : Fin 8) : Fin cfg0.N := ⟨8 * (t.val / 8) + s.val, by have ht : t.val < 8 := t.isLt; show _ < 8; omega⟩

theorem outs_flush (hf : t.val % 8 = 7) (y : S1x1024.Idx) :
    (outsAt0 m c t.val t.isLt).2 y = ∑ s : Fin 8, step (iblk m c 0 (at8 t s)) (iblk m c 1 (at8 t s)) (iblk m c 2 (at8 t s)) y := by
  have h := Pipeline.eq_sum_fin_of_reset_step_apply_of_flush (fun n (hn : n < cfg0.N) => ((outsAt0 m c n hn).2 : S1x1024.Idx → EReal)) 8 (fun _ => 0)
    (fun s => step (iblk m c 0 s) (iblk m c 1 s) (iblk m c 2 s)) ?_ ?_ t hf y
  · rw [zero_add] at h; exact h
  · intro n hr i
    obtain ⟨b, rfl⟩ := split i
    have hn : n.val < 8 := n.isLt
    show ((outsAt0 m c n.val n.isLt).2 (ix2 0 b) : EReal) = _
    rw [outsAt0_A m c n hr (by omega)]
    dsimp only
    refine Eq.trans ?_ (zero_add _).symm
    exact first_scale ..
  · intro n hr i
    obtain ⟨b, rfl⟩ := split i
    show ((outsAt0 m c n.val n.isLt).2 (ix2 0 b) : EReal) = _
    rw [outsAt0_B m c n hr (by omega)]
    dsimp only
    generalize (outsAt0 m c (n.val - 1) _).2 = o
    exact next_scale ..

theorem arr6 : (dats m 0 c).arrAt 6 cfg0.N = scale (arg0 m c) (arg1 m c) (arg2 m c) := by
  refine (dats m 0 c).arrAt_eq_of_covers 6 _ (by decide +kernel) fun t hf y => ?_
  have ht : t.val < 8 := t.isLt
  obtain ⟨b, rfl⟩ := split y
  blk_simp
  rw [after0_6, emb6]
  refine (outs_flush m c t ((flush0_6 t).mp hf) _).trans ?_
  show _ = ∑ k : Fin 4096, dg (inp _ k) (up _ _ k) b
  unfold step
  refine Fin.sum_mul_add_congr (fun s k hl => ?_)
  have e : rowAt (at8 t s) k = ⟨s.val * 512 + k.val, hl⟩ := Fin.ext (by
    show 512 * (8 * (t.val / 8) + s.val) + k.val = s.val * 512 + k.val; omega)
  rw [← e, ← rowX2, ← rowA01]
  rfl

end Cert.AttnInDx0Ideal.Product

namespace Cert.AttnInDx0ReferenceIdeal.Product

open Idealize.ShloMosaic Cert.AttnInDx0ReferenceIdeal Cert.AttnInDx0ReferenceIdeal.Read Cert.AttnInDx0Ideal.Product Cert.NormGrad Cert.Index

variable (u : Lhs) (w : Rhs) (h : Inp) (g : Sca) (d : Inp)

theorem meanSq_eq (i : Fin 4096) : val_main_v10 (F := Ideal) h (ix2 i 0) = meanSq (inp h i) :=
  Cert.UpDx0ReferenceIdeal.Product.meanSq_eq h i
theorem rs_eq (i : Fin 4096) : val_main_v11 (F := Ideal) h (ix2 i 0) = rs (inp h i) :=
  Cert.UpDx0ReferenceIdeal.Product.rs_eq h i
theorem up_eq (i : Fin 4096) (j : Fin 1024) : val_main_v22 (F := Ideal) u w (ix2 i j) = up u w i j := by
  rw [val_main_v22_apply]
  refine Fin.sum_fin_congr fun k => ?_
  rw [val_main_v21_apply, val_main_v19_apply, val_main_v1_apply, val_main_v0_apply]
  refine congrArg₂ (· * ·) (congrArg u ?_) (congrArg w ?_)
  · exact ext2 rfl rfl
  · have hj : j.val < 1024 := j.isLt
    exact ext3 rfl (Fin.ext (by show (j.val * 1536 + k.val) / 1536 % 1024 = j.val; omega)) (Fin.ext (by show (j.val * 1536 + k.val) % 1536 = k.val; omega))
theorem ag_eq (i : Fin 4096) (j : Fin 1024) : val_main_v27 (F := Ideal) u w g (ix2 i j) = up u w i j * sca g j := by
  rw [val_main_v27_apply, up_eq, val_main_v26_apply, val_main_v3_apply, val_main_v2_apply]
  refine congrArg (up u w i j * g ·) (funext fun a => ?_)
  have hj : j.val < 1024 := j.isLt
  match a with
  | ⟨0, _⟩ => rfl
  | ⟨1, _⟩ => rfl
  | ⟨2, _⟩ => exact Fin.ext (by show (0 * 1024 + j.val) % 1024 = j.val; omega)
theorem corr_eq (i : Fin 4096) (j : Fin 1024) : val_main_v38 (F := Ideal) u w h g (ix2 i j) = corr (inp h i) (up u w i) (sca g) := by
  rw [val_main_v38_apply, val_main_v37_apply, val_main_cst_6_apply]
  refine (zero_sum _).trans ((Fin.sum_univ_one _).trans ?_)
  have e : idx_main_v37 (idx_main_v38 (ix2 i j)) 0 = ix2 i 0 := ext2 rfl rfl
  rw [e, val_main_v36_apply, val_main_v34_apply, val_main_v35_apply, val_main_cst_5_apply, val_main_v30_apply, val_main_v29_apply, val_main_cst_4_apply,
    val_main_v14_apply, val_main_v13_apply, val_main_cst_2_apply, val_main_v12_apply, rs_eq, meanSq_eq]
  unfold corr
  refine congrArg (fun z => Ideal.div (z * _) _) ((zero_sum _).trans (Fin.sum_fin_congr fun k => ?_))
  have e : idx_main_v29 (idx_main_v30 (ix2 i 0)) k = ix2 i k := ext2 (Fin.ext (by show i.val * 1 + 0 = i.val; omega)) rfl
  rw [e, val_main_v28_apply, ag_eq]
  rfl

theorem value : val_main_v42 (F := Ideal) u w h g d = result u w h g d := funext fun i => by
  obtain ⟨a, b, rfl⟩ := exists_ix2 i
  rw [val_main_v42_apply, val_main_v41_apply, val_main_v40_apply, val_main_v39_apply, val_main_v33_apply, val_main_v32_apply, val_main_v31_apply, ag_eq, corr_eq]
  have e : idx_main_v31 (ix2 a b) = ix2 a 0 := ext2 rfl rfl
  rw [e, rs_eq]
  exact dx_eq (inp h a) (up u w a) (sca g) (inp d a) b

theorem scale_value : val_main_v25 (F := Ideal) u w h = scale u w h := funext fun i => by
  obtain ⟨b, rfl⟩ := split i
  rw [val_main_v25_apply, val_main_v24_apply, val_main_cst_3_apply]
  refine (zero_sum _).trans (Fin.sum_fin_congr fun k => ?_)
  have e : idx_main_v24 (idx_main_v25 (ix2 0 b)) k = ix2 k b := ext2 rfl (Fin.ext (by show 0 * 1024 + b.val = b.val; omega))
  have e' : idx_main_v15 (ix2 k b) = ix2 k 0 := ext2 rfl rfl
  rw [e, val_main_v23_apply, val_main_v16_apply, val_main_v15_apply, e', rs_eq, up_eq]
  rfl

end Cert.AttnInDx0ReferenceIdeal.Product

end
-- ==== Proof.AttnInDx0Claim.lean ====
/- The claims for AttnInDx0: the frame of its reference, and that the idealized call and the reference both hand on `result` and `scale` of
   Proof/AttnInDx0Value.lean. -/
module

public import proofs.«01_k».proof.Defs
public import proofs.«01_k».proof.Proof.AttnInDx0Value
public import Idealize.ShloMosaic.Lib.Quiescent

@[expose] public section

noncomputable section

namespace Cert.AttnInDx0Ideal.Product

open Idealize.ShloMosaic Idealize.ShloMosaic.StableHlo Idealize.SL.Sem Cert.NormGrad

theorem frame_ref : Cert.quiescent_AttnInDx0ReferenceIdeal (hAttnInDx0ReferenceIdeal := Cert.AttnInDx0ReferenceIdeal.Gen.facts) := fun m ρ _ =>
  (θ_run Cert.AttnInDx0ReferenceIdeal.defs _ _).mono (fun r h => ⟨fun c => (h c).2.2, sem_eq_zero_of_no_sems (by decide) r.2⟩)
    (Cert.AttnInDx0ReferenceIdeal.Value.run (F := Ideal) m ρ)

theorem algebraic : Cert.algebraic_AttnInDx0Ideal_AttnInDx0ReferenceIdeal (hAttnInDx0Ideal := Cert.AttnInDx0Ideal.Gen.facts)
    (hAttnInDx0ReferenceIdeal := Cert.AttnInDx0ReferenceIdeal.Gen.facts) := by
  intro m g m' g' _ hargs
  refine ⟨fun c => result (arg0 m c) (arg1 m c) (arg2 m c) (arg3 m c) (arg4 m c), fun c => scale (arg0 m c) (arg1 m c) (arg2 m c), ?_, ?_⟩
  · exact (θ_run _ _ _).mono (fun r h c => ⟨(h c).1.trans (arr5 m c), (h c).2.1.trans (arr6 m c), (h c).2.2⟩) (Cert.AttnInDx0Ideal.Value.run_blocks m g)
  · exact (θ_run _ _ _).mono (fun r h c =>
      ⟨((h c).1.trans (Cert.AttnInDx0ReferenceIdeal.Read.val_main_v42_eq m' c)).trans
        (Cert.Index.eq_at5 Cert.AttnInDx0ReferenceIdeal.Product.value (hargs c).1 (hargs c).2.1 (hargs c).2.2.1 (hargs c).2.2.2.1 (hargs c).2.2.2.2),
       ((h c).2.1.trans (Cert.AttnInDx0ReferenceIdeal.Read.val_main_v25_eq _ _ _)).trans
        (Cert.Index.eq_at3 Cert.AttnInDx0ReferenceIdeal.Product.scale_value (hargs c).1 (hargs c).2.1 (hargs c).2.2.1), (h c).2.2⟩)
      (Cert.AttnInDx0ReferenceIdeal.Value.run (F := Ideal) m' g')

end Cert.AttnInDx0Ideal.Product

end
-- ==== Proof.AttnInDx1Value.lean ====
/- The gradient of the input of layer 2's attention projection, through its norm: what the call leaves, and that its reference hands on the same. -/
module

public import proofs.«01_k».proof.Proof.AttnInDx0Value
public import proofs.«01_k».proof.Proof.Gen.AttnInDx1Ideal.Value
public import proofs.«01_k».proof.Proof.Gen.AttnInDx1ReferenceIdeal.Read

@[expose] public section

set_option maxRecDepth 16384

noncomputable section

namespace Cert.AttnInDx1Ideal.Product

open Idealize.ShloMosaic Idealize.ShloMosaic.TcCoe Cert.AttnInDx1Ideal Cert.AttnInDx1Ideal.Gen Cert.NormGrad Cert.Index

open Cert.AttnInDx0Ideal.Product (rowX rowA rowG pay6_apply pay1_apply)

section Body
variable (u : Vec Ideal S512x1536 .bf16) (w : Vec Ideal S1x1024x1536 .bf16) (x : Vec Ideal S512x1024 .f32) (v : Vec Ideal S1x1x1024 .f32) (d : Vec Ideal S512x1024 .f32)

variable (o : Vec Ideal S1x1024 .f32) (c : Dev nD) (i : grid0.Coords) (arg3 : Memref sig .tc .vmem S512x1536 .bf16) (harg3 : arg3.IsWhole) (arg4 : Memref sig .tc .vmem S1x1024x1536 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole)

theorem first_apply (hc0 : cond0_0 i) (hc1 : ¬cond0_1 i) (a : Fin 512) (b : Fin 1024) :
    out0_A_5 c i _ harg3 _ harg4 _ harg5 _ harg6 _ harg7 _ harg8 _ harg9 hc0 hc1 u w x v d (ix2 a b) = dx (rowX x a) (rowA u w a) (rowG v) (rowX d a) b := by
  frame_out
  try simp only [read_unread_whole]
  exact pay1_apply ..
theorem first_scale (hc0 : cond0_0 i) (hc1 : ¬cond0_1 i) (b : Fin 1024) :
    out0_A_6 c i _ harg3 _ harg4 _ harg5 _ harg6 _ harg7 _ harg8 _ harg9 hc0 hc1 u w x v d (ix2 0 b) = ∑ a : Fin 512, dg (rowX x a) (rowA u w a) b := by
  frame_out
  try simp only [read_unread_whole]
  exact pay6_apply ..
theorem next_apply (hc0 : ¬cond0_0 i) (hc1 : cond0_1 i) (a : Fin 512) (b : Fin 1024) :
    out0_B_5 c i _ harg3 _ harg4 _ harg5 _ harg6 _ harg7 _ harg8 _ harg9 hc0 hc1 u w x v d o (ix2 a b) = dx (rowX x a) (rowA u w a) (rowG v) (rowX d a) b := by
  frame_out
  try simp only [read_unread_whole]
  exact pay1_apply ..
theorem next_scale (hc0 : ¬cond0_0 i) (hc1 : cond0_1 i) (b : Fin 1024) :
    out0_B_6 c i _ harg3 _ harg4 _ harg5 _ harg6 _ harg7 _ harg8 _ harg9 hc0 hc1 u w x v d o (ix2 0 b) = o (ix2 0 b) + ∑ a : Fin 512, dg (rowX x a) (rowA u w a) b := by
  frame_out
  try simp only [read_unread_whole]
  pointwise [k0_pay2]
  exact congrArg (o (ix2 0 b) + ·) (pay6_apply ..)
end Body

abbrev Lhs : Type := (⟨2, ![4096, 1536]⟩ : Shape).Idx → EReal
abbrev Rhs : Type := (⟨3, ![2, 1024, 1536]⟩ : Shape).Idx → EReal

/-- The rows of the arrays; the gradient of the product's input is the product with the transposed weights. -/
def up (u : Lhs) (w : Rhs) (i : Fin 4096) : Fin 1024 → EReal := fun k => ∑ q : Fin 1536, u (ix2 i q) * w (ix3 1 k q)
def sca (g : Sca) : Fin 1024 → EReal := fun k => g (ix3 2 0 k)
def result (u : Lhs) (w : Rhs) (h : Inp) (g : Sca) (d : Inp) : Inp := fun i => dx (inp h (i 0)) (up u w (i 0)) (sca g) (inp d (i 0)) (i 1)
def scale (u : Lhs) (w : Rhs) (h : Inp) : GSca := fun i => ∑ k : Fin 4096, dg (inp h k) (up u w k) (i 1)

variable (m : (ℓ : Loc nD τ sig) → Buf (Elt Ideal) ℓ) (c : Dev nD) (t : Fin cfg0.N)

abbrev arg0 : Lhs := m (c.tc.loc main_arg0)
abbrev arg1 : Rhs := m (c.tc.loc main_arg1)
abbrev arg2 : Inp := m (c.tc.loc main_arg2)
abbrev arg3 : Sca := m (c.tc.loc main_arg3)
abbrev arg4 : Inp := m (c.tc.loc main_arg4)

theorem idx0 : ∀ t : Fin cfg0.N, win0_0.index t = ![t.val, 0] := by decide +kernel
theorem idx1 : ∀ t : Fin cfg0.N, win0_1.index t = ![1, 0, 0] := by decide +kernel
theorem idx2 : ∀ t : Fin cfg0.N, win0_2.index t = ![t.val, 0] := by decide +kernel
theorem idx3 : ∀ t : Fin cfg0.N, win0_3.index t = ![2, 0, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![0, 0] := by decide +kernel

/-- Row `a` of the block of point `t`. -/
def rowAt (t : Fin cfg0.N) (a : Fin 512) : Fin 4096 := ⟨512 * t.val + a.val, by have ht : t.val < 8 := t.isLt; omega⟩

theorem read0 (a : Fin 512) (k : Fin 1536) : iblk m c 0 t (ix2 a k) = arg0 m c (ix2 (rowAt t a) k) := by
  unfold rowAt; blk_ext [iblk, idx0]
theorem read1 (k : Fin 1024) (b : Fin 1536) : iblk m c 1 t (ix3 0 k b) = arg1 m c (ix3 1 k b) := by
  blk_ext [iblk, idx1]
theorem read2 (a : Fin 512) (b : Fin 1024) : iblk m c 2 t (ix2 a b) = arg2 m c (ix2 (rowAt t a) b) := by
  unfold rowAt; blk_ext [iblk, idx2]
theorem read3 (b : Fin 1024) : iblk m c 3 t (ix3 0 0 b) = arg3 m c (ix3 2 0 b) := by
  blk_ext [iblk, idx3]
theorem read4 (a : Fin 512) (b : Fin 1024) : iblk m c 4 t (ix2 a b) = arg4 m c (ix2 (rowAt t a) b) := by
  unfold rowAt; blk_ext [iblk, idx4]

theorem rowX2 (a : Fin 512) : rowX (iblk m c 2 t) a = inp (arg2 m c) (rowAt t a) := funext fun k => read2 m c t a k
theorem rowX4 (a : Fin 512) : rowX (iblk m c 4 t) a = inp (arg4 m c) (rowAt t a) := funext fun k => read4 m c t a k
theorem rowG3 : rowG (iblk m c 3 t) = sca (arg3 m c) := funext fun k => read3 m c t k
theorem rowA01 (a : Fin 512) : rowA (iblk m c 0 t) (iblk m c 1 t) a = up (arg0 m c) (arg1 m c) (rowAt t a) := funext fun k =>
  Fin.sum_fin_congr fun q => congrArg₂ (· * ·) (read0 m c t a q) (read1 m c t k q)

theorem emb5 (a : Fin 512) (b : Fin 1024) : ((cfg0.win 5).blk t).view.emb (ix2 a b) = (ix2 (rowAt t a) b : S4096x1024.Idx) := by
  funext k; fin_cases k <;> (apply Fin.ext; blk_simp [idx5 t]; try first | rfl | (rw [mul_comm]; rfl))
theorem emb6 (b : Fin 1024) : ((cfg0.win 6).blk t).view.emb (ix2 0 b) = (ix2 0 b : S1x1024.Idx) := by
  funext k; fin_cases k <;> (apply Fin.ext; blk_simp [idx6 t]; try first | rfl | (rw [mul_comm]; rfl))

theorem outs5 (a : Fin 512) (b : Fin 1024) :
    (outsAt0 m c t.val t.isLt).1 (ix2 a b) = result (arg0 m c) (arg1 m c) (arg2 m c) (arg3 m c) (arg4 m c) (ix2 (rowAt t a) b) := by
  have ht : t.val < 8 := t.isLt
  show _ = dx (inp _ (rowAt t a)) (up _ _ (rowAt t a)) (sca _) (inp _ (rowAt t a)) b
  rw [← rowX2, ← rowA01, ← rowG3 m c t, ← rowX4]
  by_cases h0 : t.val % 8 = 0
  · rw [outsAt0_A m c t h0 (by omega)]
    dsimp only
    exact first_apply ..
  · rw [outsAt0_B m c t h0 (by omega)]
    dsimp only
    generalize (outsAt0 m c (t.val - 1) _).2 = o
    exact next_apply ..

theorem arr5 : (dats m 0 c).arrAt 5 cfg0.N = result (arg0 m c) (arg1 m c) (arg2 m c) (arg3 m c) (arg4 m c) := by
  refine (dats m 0 c).arrAt_eq_of_covers 5 _ (by decide +kernel) fun t hf y => ?_
  obtain ⟨a, b, rfl⟩ := exists_ix2 y
  blk_simp
  rw [after0_5, emb5]
  exact outs5 m c t a b

/-- What point `s` adds to the gradient of the scale. -/
def step (u : Vec Ideal S512x1536 .bf16) (w : Vec Ideal S1x1024x1536 .bf16) (x : Vec Ideal S512x1024 .f32) : S1x1024.Idx → EReal :=
  fun y => ∑ a : Fin 512, dg (rowX x a) (rowA u w a) (y 1)
/-- Step `s` of the block of `t`. -/
def at8 (t : Fin cfg0.N) (s : Fin 8) : Fin cfg0.N := ⟨8 * (t.val / 8) + s.val, by have ht : t.val < 8 := t.isLt; show _ < 8; omega⟩

theorem outs_flush (hf : t.val % 8 = 7) (y : S1x1024.Idx) :
    (outsAt0 m c t.val t.isLt).2 y = ∑ s : Fin 8, step (iblk m c 0 (at8 t s)) (iblk m c 1 (at8 t s)) (iblk m c 2 (at8 t s)) y := by
  have h := Pipeline.eq_sum_fin_of_reset_step_apply_of_flush (fun n (hn : n < cfg0.N) => ((outsAt0 m c n hn).2 : S1x1024.Idx → EReal)) 8 (fun _ => 0)
    (fun s => step (iblk m c 0 s) (iblk m c 1 s) (iblk m c 2 s)) ?_ ?_ t hf y
  · rw [zero_add] at h; exact h
  · intro n hr i
    obtain ⟨b, rfl⟩ := split i
    have hn : n.val < 8 := n.isLt
    show ((outsAt0 m c n.val n.isLt).2 (ix2 0 b) : EReal) = _
    rw [outsAt0_A m c n hr (by omega)]
    dsimp only
    refine Eq.trans ?_ (zero_add _).symm
    exact first_scale ..
  · intro n hr i
    obtain ⟨b, rfl⟩ := split i
    show ((outsAt0 m c n.val n.isLt).2 (ix2 0 b) : EReal) = _
    rw [outsAt0_B m c n hr (by omega)]
    dsimp only
    generalize (outsAt0 m c (n.val - 1) _).2 = o
    exact next_scale ..

theorem arr6 : (dats m 0 c).arrAt 6 cfg0.N = scale (arg0 m c) (arg1 m c) (arg2 m c) := by
  refine (dats m 0 c).arrAt_eq_of_covers 6 _ (by decide +kernel) fun t hf y => ?_
  have ht : t.val < 8 := t.isLt
  obtain ⟨b, rfl⟩ := split y
  blk_simp
  rw [after0_6, emb6]
  refine (outs_flush m c t ((flush0_6 t).mp hf) _).trans ?_
  show _ = ∑ k : Fin 4096, dg (inp _ k) (up _ _ k) b
  unfold step
  refine Fin.sum_mul_add_congr (fun s k hl => ?_)
  have e : rowAt (at8 t s) k = ⟨s.val * 512 + k.val, hl⟩ := Fin.ext (by
    show 512 * (8 * (t.val / 8) + s.val) + k.val = s.val * 512 + k.val; omega)
  rw [← e, ← rowX2, ← rowA01]
  rfl

end Cert.AttnInDx1Ideal.Product

namespace Cert.AttnInDx1ReferenceIdeal.Product

open Idealize.ShloMosaic Cert.AttnInDx1ReferenceIdeal Cert.AttnInDx1ReferenceIdeal.Read Cert.AttnInDx1Ideal.Product Cert.NormGrad Cert.Index

variable (u : Lhs) (w : Rhs) (h : Inp) (g : Sca) (d : Inp)

theorem meanSq_eq (i : Fin 4096) : val_main_v10 (F := Ideal) h (ix2 i 0) = meanSq (inp h i) :=
  Cert.AttnInDx0ReferenceIdeal.Product.meanSq_eq h i
theorem rs_eq (i : Fin 4096) : val_main_v11 (F := Ideal) h (ix2 i 0) = rs (inp h i) :=
  Cert.AttnInDx0ReferenceIdeal.Product.rs_eq h i
theorem up_eq (i : Fin 4096) (j : Fin 1024) : val_main_v22 (F := Ideal) u w (ix2 i j) = up u w i j := by
  rw [val_main_v22_apply]
  refine Fin.sum_fin_congr fun k => ?_
  rw [val_main_v21_apply, val_main_v19_apply, val_main_v1_apply, val_main_v0_apply]
  refine congrArg₂ (· * ·) (congrArg u ?_) (congrArg w ?_)
  · exact ext2 rfl rfl
  · have hj : j.val < 1024 := j.isLt
    exact ext3 rfl (Fin.ext (by show (j.val * 1536 + k.val) / 1536 % 1024 = j.val; omega)) (Fin.ext (by show (j.val * 1536 + k.val) % 1536 = k.val; omega))
theorem ag_eq (i : Fin 4096) (j : Fin 1024) : val_main_v27 (F := Ideal) u w g (ix2 i j) = up u w i j * sca g j := by
  rw [val_main_v27_apply, up_eq, val_main_v26_apply, val_main_v3_apply, val_main_v2_apply]
  refine congrArg (up u w i j * g ·) (funext fun a => ?_)
  have hj : j.val < 1024 := j.isLt
  match a with
  | ⟨0, _⟩ => rfl
  | ⟨1, _⟩ => rfl
  | ⟨2, _⟩ => exact Fin.ext (by show (0 * 1024 + j.val) % 1024 = j.val; omega)
theorem corr_eq (i : Fin 4096) (j : Fin 1024) : val_main_v38 (F := Ideal) u w h g (ix2 i j) = corr (inp h i) (up u w i) (sca g) := by
  rw [val_main_v38_apply, val_main_v37_apply, val_main_cst_6_apply]
  refine (zero_sum _).trans ((Fin.sum_univ_one _).trans ?_)
  have e : idx_main_v37 (idx_main_v38 (ix2 i j)) 0 = ix2 i 0 := ext2 rfl rfl
  rw [e, val_main_v36_apply, val_main_v34_apply, val_main_v35_apply, val_main_cst_5_apply, val_main_v30_apply, val_main_v29_apply, val_main_cst_4_apply,
    val_main_v14_apply, val_main_v13_apply, val_main_cst_2_apply, val_main_v12_apply, rs_eq, meanSq_eq]
  unfold corr
  refine congrArg (fun z => Ideal.div (z * _) _) ((zero_sum _).trans (Fin.sum_fin_congr fun k => ?_))
  have e : idx_main_v29 (idx_main_v30 (ix2 i 0)) k = ix2 i k := ext2 (Fin.ext (by show i.val * 1 + 0 = i.val; omega)) rfl
  rw [e, val_main_v28_apply, ag_eq]
  rfl

theorem value : val_main_v42 (F := Ideal) u w h g d = result u w h g d := funext fun i => by
  obtain ⟨a, b, rfl⟩ := exists_ix2 i
  rw [val_main_v42_apply, val_main_v41_apply, val_main_v40_apply, val_main_v39_apply, val_main_v33_apply, val_main_v32_apply, val_main_v31_apply, ag_eq, corr_eq]
  have e : idx_main_v31 (ix2 a b) = ix2 a 0 := ext2 rfl rfl
  rw [e, rs_eq]
  exact dx_eq (inp h a) (up u w a) (sca g) (inp d a) b

theorem scale_value : val_main_v25 (F := Ideal) u w h = scale u w h := funext fun i => by
  obtain ⟨b, rfl⟩ := split i
  rw [val_main_v25_apply, val_main_v24_apply, val_main_cst_3_apply]
  refine (zero_sum _).trans (Fin.sum_fin_congr fun k => ?_)
  have e : idx_main_v24 (idx_main_v25 (ix2 0 b)) k = ix2 k b := ext2 rfl (Fin.ext (by show 0 * 1024 + b.val = b.val; omega))
  have e' : idx_main_v15 (ix2 k b) = ix2 k 0 := ext2 rfl rfl
  rw [e, val_main_v23_apply, val_main_v16_apply, val_main_v15_apply, e', rs_eq, up_eq]
  rfl

end Cert.AttnInDx1ReferenceIdeal.Product

end
-- ==== Proof.AttnInDx1Claim.lean ====
/- The claims for AttnInDx1: the frame of its reference, and that the idealized call and the reference both hand on `result` and `scale` of
   Proof/AttnInDx1Value.lean. -/
module

public import proofs.«01_k».proof.Defs
public import proofs.«01_k».proof.Proof.AttnInDx1Value
public import Idealize.ShloMosaic.Lib.Quiescent

@[expose] public section

noncomputable section

namespace Cert.AttnInDx1Ideal.Product

open Idealize.ShloMosaic Idealize.ShloMosaic.StableHlo Idealize.SL.Sem Cert.NormGrad

theorem frame_ref : Cert.quiescent_AttnInDx1ReferenceIdeal (hAttnInDx1ReferenceIdeal := Cert.AttnInDx1ReferenceIdeal.Gen.facts) := fun m ρ _ =>
  (θ_run Cert.AttnInDx1ReferenceIdeal.defs _ _).mono (fun r h => ⟨fun c => (h c).2.2, sem_eq_zero_of_no_sems (by decide) r.2⟩)
    (Cert.AttnInDx1ReferenceIdeal.Value.run (F := Ideal) m ρ)

theorem algebraic : Cert.algebraic_AttnInDx1Ideal_AttnInDx1ReferenceIdeal (hAttnInDx1Ideal := Cert.AttnInDx1Ideal.Gen.facts)
    (hAttnInDx1ReferenceIdeal := Cert.AttnInDx1ReferenceIdeal.Gen.facts) := by
  intro m g m' g' _ hargs
  refine ⟨fun c => result (arg0 m c) (arg1 m c) (arg2 m c) (arg3 m c) (arg4 m c), fun c => scale (arg0 m c) (arg1 m c) (arg2 m c), ?_, ?_⟩
  · exact (θ_run _ _ _).mono (fun r h c => ⟨(h c).1.trans (arr5 m c), (h c).2.1.trans (arr6 m c), (h c).2.2⟩) (Cert.AttnInDx1Ideal.Value.run_blocks m g)
  · exact (θ_run _ _ _).mono (fun r h c =>
      ⟨((h c).1.trans (Cert.AttnInDx1ReferenceIdeal.Read.val_main_v42_eq m' c)).trans
        (Cert.Index.eq_at5 Cert.AttnInDx1ReferenceIdeal.Product.value (hargs c).1 (hargs c).2.1 (hargs c).2.2.1 (hargs c).2.2.2.1 (hargs c).2.2.2.2),
       ((h c).2.1.trans (Cert.AttnInDx1ReferenceIdeal.Read.val_main_v25_eq _ _ _)).trans
        (Cert.Index.eq_at3 Cert.AttnInDx1ReferenceIdeal.Product.scale_value (hargs c).1 (hargs c).2.1 (hargs c).2.2.1), (h c).2.2⟩)
      (Cert.AttnInDx1ReferenceIdeal.Value.run (F := Ideal) m' g')

end Cert.AttnInDx1Ideal.Product

end
-- ==== Proof.HgrnInDx0Value.lean ====
/- The gradient of the input of layer 1's recurrence's projection, through its norm: what the call leaves, and that its reference hands on the same. -/
module

public import proofs.«01_k».proof.Proof.UpDx0Value
public import proofs.«01_k».proof.Proof.Gen.HgrnInDx0Ideal.Value
public import proofs.«01_k».proof.Proof.Gen.HgrnInDx0ReferenceIdeal.Read

@[expose] public section

set_option maxRecDepth 16384

noncomputable section

namespace Cert.HgrnInDx0Ideal.Product

open Idealize.ShloMosaic Idealize.ShloMosaic.TcCoe Cert.HgrnInDx0Ideal Cert.HgrnInDx0Ideal.Gen Cert.NormGrad Cert.Index

section Body
variable (u : Vec Ideal S512x2048 .bf16) (w : Vec Ideal S1x1024x2048 .bf16) (x : Vec Ideal S512x1024 .f32) (v : Vec Ideal S1x1x1024 .f32) (d : Vec Ideal S512x1024 .f32) (y : Vec Ideal S512x1024 .f32)

/-- A block's rows (the norm's input, the gradient of the product's input, the gradient already there), the scale, and what one
    of the two steps of the product adds to a row. -/
def row (x : Vec Ideal S512x1024 .f32) (a : Fin 512) : Fin 1024 → EReal := fun k => x (ix2 a k)
def rowG : Fin 1024 → EReal := fun k => v (ix3 0 0 k)
def part (a : Fin 512) : Fin 1024 → EReal := fun k => ∑ q : Fin 2048, u (ix2 a q) * w (ix3 0 k q)

theorem pay1_apply (a : Fin 512) (b : Fin 1024) : k0_pay1 u w (ix2 a b) = part u w a b := by
  pointwise [k0_pay1]
  rfl
theorem pay2_apply (a : Fin 512) (b : Fin 1024) : k0_pay2 u w (ix2 a b) = part u w a b := by
  pointwise [k0_pay2]
  exact pay1_apply ..
theorem pay3_apply (a : Fin 512) (b : Fin 1024) : k0_pay3 u w y (ix2 a b) = y (ix2 a b) + part u w a b := by
  pointwise [k0_pay3]
  rw [pay1_apply]
theorem pay5_apply (a : Fin 512) : k0_pay5 x (ix2 a 0) = meanSq (row x a) := by
  pointwise [k0_pay5]
  rfl
theorem pay6_apply (a : Fin 512) : k0_pay6 x (ix2 a 0) = rs (row x a) := by
  pointwise [k0_pay6]
  rw [pay5_apply]
  rfl
theorem pay7_apply (b : Fin 1024) : k0_pay7 y x (ix2 0 b) = ∑ a : Fin 512, dg (row x a) (row y a) b := by
  pointwise [k0_pay7]
  refine Fin.sum_fin_congr fun a => ?_
  rw [pay6_apply]
  rfl
theorem pay8_apply (a : Fin 512) (b : Fin 1024) : k0_pay8 y x v d (ix2 a b) = dx (row x a) (row y a) (rowG v) (row d a) b := by
  pointwise [k0_pay8]
  simp only [pay6_apply, pay5_apply, Fin.sum_univ_one]
  rfl

variable (o : Vec Ideal S1x1024 .f32) (z : Vec Ideal S512x1024 .f32) (c : Dev nD) (i : grid0.Coords) (arg3 : Memref sig .tc .vmem S512x2048 .bf16) (harg3 : arg3.IsWhole) (arg4 : Memref sig .tc .vmem S1x1024x2048 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole)

theorem sum_apply (hc0 : cond0_0 i) (hc1 : ¬cond0_1 i) (hc2 : ¬cond0_2 i) (a : Fin 512) (b : Fin 1024) :
    sout0_A_0 c i _ harg3 _ harg4 _ harg5 _ harg6 _ harg7 _ harg8 _ harg9 _ harg10 hc0 hc1 hc2 u w x v d (ix2 a b) = part u w a b := by
  frame_out
  try simp only [read_unread_whole]
  exact pay2_apply ..
theorem row_add (a : Fin 512) : row (k0_pay3 u w z) a = fun k => z (ix2 a k) + part u w a k := funext fun k => pay3_apply ..
theorem first_apply (hc0 : ¬cond0_0 i) (hc1 : cond0_1 i) (hc2 : cond0_2 i) (hc3 : cond0_3 i) (hc4 : ¬cond0_4 i) (a : Fin 512) (b : Fin 1024) :
    out0_B_5 c i _ harg3 _ harg4 _ harg5 _ harg6 _ harg7 _ harg8 _ harg9 _ harg10 hc0 hc1 hc2 hc3 hc4 u w x v d z (ix2 a b) = dx (row x a) (fun k => z (ix2 a k) + part u w a k) (rowG v) (row d a) b := by
  rw [← row_add]
  frame_out
  try simp only [read_unread_whole]
  exact pay8_apply ..
theorem first_scale (hc0 : ¬cond0_0 i) (hc1 : cond0_1 i) (hc2 : cond0_2 i) (hc3 : cond0_3 i) (hc4 : ¬cond0_4 i) (b : Fin 1024) :
    out0_B_6 c i _ harg3 _ harg4 _ harg5 _ harg6 _ harg7 _ harg8 _ harg9 _ harg10 hc0 hc1 hc2 hc3 hc4 u w x v d z (ix2 0 b) = ∑ a : Fin 512, dg (row x a) (fun k => z (ix2 a k) + part u w a k) b := by
  simp only [← row_add]
  frame_out
  try simp only [read_unread_whole]
  exact pay7_apply ..
theorem next_apply (hc0 : ¬cond0_0 i) (hc1 : cond0_1 i) (hc2 : cond0_2 i) (hc3 : ¬cond0_3 i) (hc4 : cond0_4 i) (a : Fin 512) (b : Fin 1024) :
    out0_C_5 c i _ harg3 _ harg4 _ harg5 _ harg6 _ harg7 _ harg8 _ harg9 _ harg10 hc0 hc1 hc2 hc3 hc4 u w x v d o z (ix2 a b) = dx (row x a) (fun k => z (ix2 a k) + part u w a k) (rowG v) (row d a) b := by
  rw [← row_add]
  frame_out
  try simp only [read_unread_whole]
  exact pay8_apply ..
theorem next_scale (hc0 : ¬cond0_0 i) (hc1 : cond0_1 i) (hc2 : cond0_2 i) (hc3 : ¬cond0_3 i) (hc4 : cond0_4 i) (b : Fin 1024) :
    out0_C_6 c i _ harg3 _ harg4 _ harg5 _ harg6 _ harg7 _ harg8 _ harg9 _ harg10 hc0 hc1 hc2 hc3 hc4 u w x v d o z (ix2 0 b) = o (ix2 0 b) + ∑ a : Fin 512, dg (row x a) (fun k => z (ix2 a k) + part u w a k) b := by
  simp only [← row_add]
  frame_out
  try simp only [read_unread_whole]
  pointwise [k0_pay4]
  exact congrArg (o (ix2 0 b) + ·) (pay7_apply ..)
end Body

abbrev Lhs : Type := (⟨2, ![4096, 4096]⟩ : Shape).Idx → EReal
abbrev Rhs : Type := (⟨3, ![2, 1024, 4096]⟩ : Shape).Idx → EReal

/-- The rows of the arrays; the gradient of the product's input is the product with the transposed weights, over the two
    halves of the columns. -/
def up (u : Lhs) (w : Rhs) (i : Fin 4096) : Fin 1024 → EReal := fun k =>
  ∑ s : Fin 2, ∑ q : Fin 2048, u (ix2 i (⟨s.val * 2048 + q.val, by have hs : s.val < 2 := s.isLt; omega⟩ : Fin 4096)) * w (ix3 0 k (⟨s.val * 2048 + q.val, by have hs : s.val < 2 := s.isLt; omega⟩ : Fin 4096))
def sca (g : Sca) : Fin 1024 → EReal := fun k => g (ix3 1 0 k)
def result (u : Lhs) (w : Rhs) (h : Inp) (g : Sca) (d : Inp) : Inp := fun i => dx (inp h (i 0)) (up u w (i 0)) (sca g) (inp d (i 0)) (i 1)
def scale (u : Lhs) (w : Rhs) (h : Inp) : GSca := fun i => ∑ k : Fin 4096, dg (inp h k) (up u w k) (i 1)

variable (m : (ℓ : Loc nD τ sig) → Buf (Elt Ideal) ℓ) (c : Dev nD) (t : Fin cfg0.N)

abbrev arg0 : Lhs := m (c.tc.loc main_arg0)
abbrev arg1 : Rhs := m (c.tc.loc main_arg1)
abbrev arg2 : Inp := m (c.tc.loc main_arg2)
abbrev arg3 : Sca := m (c.tc.loc main_arg3)
abbrev arg4 : Inp := m (c.tc.loc main_arg4)

theorem idx0 : ∀ t : Fin cfg0.N, win0_0.index t = ![t.val / 2, t.val % 2] := by decide +kernel
theorem idx1 : ∀ t : Fin cfg0.N, win0_1.index t = ![0, 0, t.val % 2] := by decide +kernel
theorem idx2 : ∀ t : Fin cfg0.N, win0_2.index t = ![t.val / 2, 0] := by decide +kernel
theorem idx3 : ∀ t : Fin cfg0.N, win0_3.index t = ![1, 0, 0] := by decide +kernel
theorem idx4 : ∀ t : Fin cfg0.N, win0_4.index t = ![t.val / 2, 0] := by decide +kernel
theorem idx5 : ∀ t : Fin cfg0.N, win0_5.index t = ![t.val / 2, 0] := by decide +kernel
theorem idx6 : ∀ t : Fin cfg0.N, win0_6.index t = ![0, 0] := by decide +kernel

/-- Row `a` of the block of point `t`, and its step of the product. -/
def rowAt (t : Fin cfg0.N) (a : Fin 512) : Fin 4096 := ⟨512 * (t.val / 2) + a.val, by have ht : t.val < 16 := t.isLt; omega⟩

theorem read0 (a : Fin 512) (q : Fin 2048) : iblk m c 0 t (ix2 a q) = arg0 m c (ix2 (rowAt t a) (⟨t.val % 2 * 2048 + q.val, by omega⟩ : Fin 4096)) := by
  unfold rowAt; blk_ext [iblk, idx0]
theorem read1 (k : Fin 1024) (q : Fin 2048) :
    iblk m c 1 t (ix3 0 k q) = arg1 m c (ix3 0 k (⟨t.val % 2 * 2048 + q.val, by omega⟩ : Fin 4096)) := by
  blk_ext [iblk, idx1]
theorem read2 (a : Fin 512) (b : Fin 1024) : iblk m c 2 t (ix2 a b) = arg2 m c (ix2 (rowAt t a) b) := by
  unfold rowAt; blk_ext [iblk, idx2]
theorem read3 (b : Fin 1024) : iblk m c 3 t (ix3 0 0 b) = arg3 m c (ix3 1 0 b) := by
  blk_ext [iblk, idx3]
theorem read4 (a : Fin 512) (b : Fin 1024) : iblk m c 4 t (ix2 a b) = arg4 m c (ix2 (rowAt t a) b) := by
  unfold rowAt; blk_ext [iblk, idx4]

theorem row2 (a : Fin 512) : row (iblk m c 2 t) a = inp (arg2 m c) (rowAt t a) := funext fun k => read2 m c t a k
theorem row4 (a : Fin 512) : row (iblk m c 4 t) a = inp (arg4 m c) (rowAt t a) := funext fun k => read4 m c t a k
theorem rowG3 : rowG (iblk m c 3 t) = sca (arg3 m c) := funext fun k => read3 m c t k

theorem emb5 (a : Fin 512) (b : Fin 1024) : ((cfg0.win 5).blk t).view.emb (ix2 a b) = (ix2 (rowAt t a) b : S4096x1024.Idx) := by
  funext k; fin_cases k <;> (apply Fin.ext; blk_simp [idx5 t]; try first | rfl | (rw [mul_comm]; rfl))
theorem emb6 (b : Fin 1024) : ((cfg0.win 6).blk t).view.emb (ix2 0 b) = (ix2 0 b : S1x1024.Idx) := by
  funext k; fin_cases k <;> (apply Fin.ext; blk_simp [idx6 t]; try first | rfl | (rw [mul_comm]; rfl))

/-- The step of the product that point `t` takes, in the arrays. -/
theorem part_at (a : Fin 512) (k : Fin 1024) (s : Fin 2) (r : Fin 4096) (hs : t.val % 2 = s.val) (hr : rowAt t a = r) :
    part (iblk m c 0 t) (iblk m c 1 t) a k
      = ∑ q : Fin 2048, arg0 m c (ix2 r (⟨s.val * 2048 + q.val, by have hs : s.val < 2 := s.isLt; omega⟩ : Fin 4096)) * arg1 m c (ix3 0 k (⟨s.val * 2048 + q.val, by have hs : s.val < 2 := s.isLt; omega⟩ : Fin 4096)) :=
  Fin.sum_fin_congr fun q => by
    subst hr
    refine congrArg₂ (· * ·) ((read0 m c t a q).trans (congrArg (arg0 m c) (congrArg (ix2 (rowAt t a) ·) (Fin.ext ?_))))
      ((read1 m c t k q).trans (congrArg (arg1 m c) (congrArg (ix3 0 k ·) (Fin.ext ?_)))) <;>
      (show t.val % 2 * 2048 + q.val = s.val * 2048 + q.val; rw [hs])

/-- At the second step of a block the sum is the whole product. -/
theorem acc_eq (hf : t.val % 2 = 1) (a : Fin 512) :
    (fun k => (outsAt0 m c (t.val - 1) (Nat.lt_of_le_of_lt (Nat.sub_le _ _) t.isLt)).2.2 (ix2 a k) + part (iblk m c 0 t) (iblk m c 1 t) a k)
      = up (arg0 m c) (arg1 m c) (rowAt t a) := funext fun k => by
  have ht : t.val < 16 := t.isLt
  unfold up
  rw [Fin.sum_univ_two]
  refine congrArg₂ (· + ·) ?_ (part_at m c t a k 1 _ hf rfl)
  have h0 : (t.val - 1) % 2 = 0 := by omega
  refine (congrFun (congrArg (fun p => p.2.2) (outsAt0_A m c (⟨t.val - 1, by show _ < 16; omega⟩ : Fin cfg0.N) h0 (by show ¬(t.val - 1) % 2 = 1; omega) (by show ¬(t.val - 1) % 2 = 1; omega))) _).trans ?_
  dsimp only
  refine (sum_apply ..).trans (part_at m c _ a k 0 _ h0 (Fin.ext ?_))
  show 512 * ((t.val - 1) / 2) + a.val = 512 * (t.val / 2) + a.val
  omega

theorem outs5 (hf : t.val % 2 = 1) (a : Fin 512) (b : Fin 1024) :
    (outsAt0 m c t.val t.isLt).1 (ix2 a b) = result (arg0 m c) (arg1 m c) (arg2 m c) (arg3 m c) (arg4 m c) (ix2 (rowAt t a) b) := by
  have ht : t.val < 16 := t.isLt
  show _ = dx (inp _ (rowAt t a)) (up _ _ (rowAt t a)) (sca _) (inp _ (rowAt t a)) b
  rw [← row2, ← acc_eq m c t hf, ← rowG3 m c t, ← row4]
  by_cases h3 : t.val < 2
  · rw [outsAt0_B m c t (by omega) hf hf h3 (by omega)]
    dsimp only
    generalize (outsAt0 m c (t.val - 1) _).2.2 = z
    exact first_apply ..
  · rw [outsAt0_C m c t (by omega) hf hf h3 (by omega)]
    dsimp only
    generalize (outsAt0 m c (t.val - 1) _).2.2 = z
    generalize (outsAt0 m c (t.val - 1) _).2.1 = o
    exact next_apply ..

theorem arr5 : (dats m 0 c).arrAt 5 cfg0.N = result (arg0 m c) (arg1 m c) (arg2 m c) (arg3 m c) (arg4 m c) := by
  refine (dats m 0 c).arrAt_eq_of_covers 5 _ (by decide +kernel) fun t hf y => ?_
  obtain ⟨a, b, rfl⟩ := exists_ix2 y
  blk_simp
  rw [after0_5, emb5]
  exact outs5 m c t ((flush0_5 t).mp hf) a b

/-- What the block of rows `s` adds to the gradient of the scale. -/
def step (b : Fin 1024) (s : ℕ) (hs : s < 8) : EReal :=
  ∑ a : Fin 512, dg (inp (arg2 m c) ⟨s * 512 + a.val, by omega⟩) (up (arg0 m c) (arg1 m c) ⟨s * 512 + a.val, by omega⟩) b

theorem rows_eq (hf : t.val % 2 = 1) (b : Fin 1024) (s : ℕ) (hs : s < 8) (e : t.val / 2 = s) :
    (∑ a : Fin 512, dg (row (iblk m c 2 t) a) (fun k => (outsAt0 m c (t.val - 1) (Nat.lt_of_le_of_lt (Nat.sub_le _ _) t.isLt)).2.2 (ix2 a k) + part (iblk m c 0 t) (iblk m c 1 t) a k) b)
      = step m c b s hs := Fin.sum_fin_congr fun a => by
  have er : rowAt t a = ⟨s * 512 + a.val, by omega⟩ := Fin.ext (by show 512 * (t.val / 2) + a.val = s * 512 + a.val; omega)
  rw [acc_eq m c t hf, row2, er]

/-- After the second step of block `n` the gradient of the scale has the blocks up to it. -/
theorem scale_at (b : Fin 1024) : ∀ (n : ℕ) (hn : n < 8) (h : 2 * n + 1 < cfg0.N),
    (outsAt0 m c (2 * n + 1) h).2.1 (ix2 0 b) = ∑ s : Fin (n + 1), step m c b s.val (by have := s.isLt; omega)
  | 0, hn, h => by
    rw [Fin.sum_univ_one]
    refine (congrFun (congrArg (fun p => p.2.1) (outsAt0_B m c (⟨1, h⟩ : Fin cfg0.N) (show ¬1 % 2 = 0 by decide) (show 1 % 2 = 1 by decide) (show 1 % 2 = 1 by decide) (show 1 < 2 by decide) (show ¬2 ≤ 1 by decide))) _).trans ?_
    dsimp only
    refine Eq.trans ?_ (rows_eq m c ⟨1, h⟩ (show 1 % 2 = 1 by decide) b 0 hn (show 1 / 2 = 0 by decide))
    exact first_scale ..
  | n + 1, hn, h => by
    rw [Fin.sum_univ_castSucc]
    have h2 : 2 * n + 2 < cfg0.N := by omega
    have h1 : 2 * n + 1 < cfg0.N := by omega
    refine (congrFun (congrArg (fun p => p.2.1) (outsAt0_C m c (⟨2 * (n + 1) + 1, h⟩ : Fin cfg0.N) (by show ¬(2 * (n + 1) + 1) % 2 = 0; omega) (by show (2 * (n + 1) + 1) % 2 = 1; omega)
      (by show (2 * (n + 1) + 1) % 2 = 1; omega) (by show ¬2 * (n + 1) + 1 < 2; omega) (by show 2 ≤ 2 * (n + 1) + 1; omega))) _).trans ?_
    dsimp only
    refine Eq.trans (next_scale ..) (congrArg₂ (· + ·) ?_ (rows_eq m c ⟨2 * (n + 1) + 1, h⟩ (by show (2 * (n + 1) + 1) % 2 = 1; omega) b (n + 1) hn (by show (2 * (n + 1) + 1) / 2 = n + 1; omega)))
    refine Eq.trans ?_ (scale_at b n (by omega) h1)
    exact congrFun (congrArg (fun p => p.2.1) (outsAt0_A m c (⟨2 * n + 2, h2⟩ : Fin cfg0.N) (by show (2 * n + 2) % 2 = 0; omega) (by show ¬(2 * n + 2) % 2 = 1; omega)
      (by show ¬(2 * n + 2) % 2 = 1; omega))) _

theorem arr6 : (dats m 0 c).arrAt 6 cfg0.N = scale (arg0 m c) (arg1 m c) (arg2 m c) := by
  refine (dats m 0 c).arrAt_eq_of_covers 6 _ (by decide +kernel) fun t hf y => ?_
  have ht : t.val < 16 := t.isLt
  have hf' : t.val % 16 = 15 := (flush0_6 t).mp hf
  obtain ⟨b, rfl⟩ := split y
  blk_simp
  rw [after0_6, emb6]
  obtain rfl : t = (⟨2 * 7 + 1, by decide⟩ : Fin cfg0.N) := Fin.ext (by show t.val = 15; omega)
  refine (scale_at m c b 7 (by decide) _).trans ?_
  show _ = ∑ k : Fin 4096, dg (inp _ k) (up _ _ k) b
  exact Fin.sum_mul_add_congr (fun s k hl => rfl)

end Cert.HgrnInDx0Ideal.Product

namespace Cert.HgrnInDx0ReferenceIdeal.Product

open Idealize.ShloMosaic Cert.HgrnInDx0ReferenceIdeal Cert.HgrnInDx0ReferenceIdeal.Read Cert.HgrnInDx0Ideal.Product Cert.NormGrad Cert.Index

variable (u : Lhs) (w : Rhs) (h : Inp) (g : Sca) (d : Inp)

theorem meanSq_eq (i : Fin 4096) : val_main_v10 (F := Ideal) h (ix2 i 0) = meanSq (inp h i) :=
  Cert.UpDx0ReferenceIdeal.Product.meanSq_eq h i
theorem rs_eq (i : Fin 4096) : val_main_v11 (F := Ideal) h (ix2 i 0) = rs (inp h i) :=
  Cert.UpDx0ReferenceIdeal.Product.rs_eq h i
theorem up_eq (i : Fin 4096) (j : Fin 1024) : val_main_v22 (F := Ideal) u w (ix2 i j) = up u w i j := by
  rw [val_main_v22_apply]
  refine Eq.symm (Fin.sum_mul_add_congr (fun s q hl => ?_))
  have hq : q.val < 2048 := q.isLt
  have hs : s.val < 2 := s.isLt
  have hj : j.val < 1024 := j.isLt
  rw [val_main_v21_apply, val_main_v19_apply, val_main_v1_apply, val_main_v0_apply]
  refine congrArg₂ (· * ·) (congrArg u (funext fun a => ?_)) (congrArg w (funext fun a => ?_))
  · match a with
    | ⟨0, _⟩ => rfl
    | ⟨1, _⟩ => rfl
  · match a with
    | ⟨0, _⟩ => rfl
    | ⟨1, _⟩ => exact Fin.ext (by show j.val = (j.val * 4096 + (s.val * 2048 + q.val)) / 4096 % 1024; omega)
    | ⟨2, _⟩ => exact Fin.ext (by show s.val * 2048 + q.val = (j.val * 4096 + (s.val * 2048 + q.val)) % 4096; omega)
theorem ag_eq (i : Fin 4096) (j : Fin 1024) : val_main_v27 (F := Ideal) u w g (ix2 i j) = up u w i j * sca g j := by
  rw [val_main_v27_apply, up_eq, val_main_v26_apply, val_main_v3_apply, val_main_v2_apply]
  refine congrArg (up u w i j * g ·) (funext fun a => ?_)
  have hj : j.val < 1024 := j.isLt
  match a with
  | ⟨0, _⟩ => rfl
  | ⟨1, _⟩ => rfl
  | ⟨2, _⟩ => exact Fin.ext (by show (0 * 1024 + j.val) % 1024 = j.val; omega)
theorem corr_eq (i : Fin 4096) (j : Fin 1024) : val_main_v38 (F := Ideal) u w h g (ix2 i j) = corr (inp h i) (up u w i) (sca g) := by
  rw [val_main_v38_apply, val_main_v37_apply, val_main_cst_6_apply]
  refine (zero_sum _).trans ((Fin.sum_univ_one _).trans ?_)
  have e : idx_main_v37 (idx_main_v38 (ix2 i j)) 0 = ix2 i 0 := ext2 rfl rfl
  rw [e, val_main_v36_apply, val_main_v34_apply, val_main_v35_apply, val_main_cst_5_apply, val_main_v30_apply, val_main_v29_apply, val_main_cst_4_apply,
    val_main_v14_apply, val_main_v13_apply, val_main_cst_2_apply, val_main_v12_apply, rs_eq, meanSq_eq]
  unfold corr
  refine congrArg (fun z => Ideal.div (z * _) _) ((zero_sum _).trans (Fin.sum_fin_congr fun k => ?_))
  have e : idx_main_v29 (idx_main_v30 (ix2 i 0)) k = ix2 i k := ext2 (Fin.ext (by show i.val * 1 + 0 = i.val; omega)) rfl
  rw [e, val_main_v28_apply, ag_eq]
  rfl

theorem value : val_main_v42 (F := Ideal) u w h g d = result u w h g d := funext fun i => by
  obtain ⟨a, b, rfl⟩ := exists_ix2 i
  rw [val_main_v42_apply, val_main_v41_apply, val_main_v40_apply, val_main_v39_apply, val_main_v33_apply, val_main_v32_apply, val_main_v31_apply, ag_eq, corr_eq]
  have e : idx_main_v31 (ix2 a b) = ix2 a 0 := ext2 rfl rfl
  rw [e, rs_eq]
  exact dx_eq (inp h a) (up u w a) (sca g) (inp d a) b

theorem scale_value : val_main_v25 (F := Ideal) u w h = scale u w h := funext fun i => by
  obtain ⟨b, rfl⟩ := split i
  rw [val_main_v25_apply, val_main_v24_apply, val_main_cst_3_apply]
  refine (zero_sum _).trans (Fin.sum_fin_congr fun k => ?_)
  have e : idx_main_v24 (idx_main_v25 (ix2 0 b)) k = ix2 k b := ext2 rfl (Fin.ext (by show 0 * 1024 + b.val = b.val; omega))
  have e' : idx_main_v15 (ix2 k b) = ix2 k 0 := ext2 rfl rfl
  rw [e, val_main_v23_apply, val_main_v16_apply, val_main_v15_apply, e', rs_eq, up_eq]
  rfl

end Cert.HgrnInDx0ReferenceIdeal.Product

end
-- ==== Proof.HgrnInDx0Claim.lean ====
/- The claims for HgrnInDx0: the frame of its reference, and that the idealized call and the reference both hand on `result` and `scale` of
   Proof/HgrnInDx0Value.lean. -/
module

public import proofs.«01_k».proof.Defs
public import proofs.«01_k».proof.Proof.HgrnInDx0Value
public import Idealize.ShloMosaic.Lib.Quiescent

@[expose] public section

noncomputable section

namespace Cert.HgrnInDx0Ideal.Product

open Idealize.ShloMosaic Idealize.ShloMosaic.StableHlo Idealize.SL.Sem Cert.NormGrad

theorem frame_ref : Cert.quiescent_HgrnInDx0ReferenceIdeal (hHgrnInDx0ReferenceIdeal := Cert.HgrnInDx0ReferenceIdeal.Gen.facts) := fun m ρ _ =>
  (θ_run Cert.HgrnInDx0ReferenceIdeal.defs _ _).mono (fun r h => ⟨fun c => (h c).2.2, sem_eq_zero_of_no_sems (by decide) r.2⟩)
    (Cert.HgrnInDx0ReferenceIdeal.Value.run (F := Ideal) m ρ)

theorem algebraic : Cert.algebraic_HgrnInDx0Ideal_HgrnInDx0ReferenceIdeal (hHgrnInDx0Ideal := Cert.HgrnInDx0Ideal.Gen.facts)
    (hHgrnInDx0ReferenceIdeal := Cert.HgrnInDx0ReferenceIdeal.Gen.facts) := by
  intro m g m' g' _ hargs
  refine ⟨fun c => result (arg0 m c) (arg1 m c) (arg2 m c) (arg3 m c) (arg4 m c), fun c => scale (arg0 m c) (arg1 m c) (arg2 m c), ?_, ?_⟩
  · exact (θ_run _ _ _).mono (fun r h c => ⟨(h c).1.trans (arr5 m c), (h c).2.1.trans (arr6 m c), (h c).2.2⟩) (Cert.HgrnInDx0Ideal.Value.run_blocks m g)
  · exact (θ_run _ _ _).mono (fun r h c =>
      ⟨((h c).1.trans (Cert.HgrnInDx0ReferenceIdeal.Read.val_main_v42_eq m' c)).trans
        (Cert.Index.eq_at5 Cert.HgrnInDx0ReferenceIdeal.Product.value (hargs c).1 (hargs c).2.1 (hargs c).2.2.1 (hargs c).2.2.2.1 (hargs c).2.2.2.2),
       ((h c).2.1.trans (Cert.HgrnInDx0ReferenceIdeal.Read.val_main_v25_eq _ _ _)).trans
        (Cert.Index.eq_at3 Cert.HgrnInDx0ReferenceIdeal.Product.scale_value (hargs c).1 (hargs c).2.1 (hargs c).2.2.1), (h c).2.2⟩)
      (Cert.HgrnInDx0ReferenceIdeal.Value.run (F := Ideal) m' g')

end Cert.HgrnInDx0Ideal.Product

end
-- ==== Proof.HgrnInDx1Value.lean ====
/- The gradient of the input of layer 3's recurrence's projection, through its norm: what the call leaves, and that its reference hands on the same. -/
module

public import proofs.«01_k».proof.Proof.HgrnInDx0Value
public import proofs.«01_k».proof.Proof.Gen.HgrnInDx1Ideal.Value
public import proofs.«01_k».proof.Proof.Gen.HgrnInDx1ReferenceIdeal.Read

@[expose] public section

set_option maxRecDepth 16384

noncomputable section

namespace Cert.HgrnInDx1Ideal.Product

open Idealize.ShloMosaic Idealize.ShloMosaic.TcCoe Cert.HgrnInDx1Ideal Cert.HgrnInDx1Ideal.Gen Cert.NormGrad Cert.Index

open Cert.HgrnInDx0Ideal.Product (row rowG part pay2_apply pay7_apply pay8_apply row_add)

section Body
variable (u : Vec Ideal S512x2048 .bf16) (w : Vec Ideal S1x1024x2048 .bf16) (x : Vec Ideal S512x1024 .f32) (v : Vec Ideal S1x1x1024 .f32) (d : Vec Ideal S512x1024 .f32) (y : Vec Ideal S512x1024 .f32)

variable (o : Vec Ideal S1x1024 .f32) (z : Vec Ideal S512x1024 .f32) (c : Dev nD) (i : grid0.Coords) (arg3 : Memref sig .tc .vmem S512x2048 .bf16) (harg3 : arg3.IsWhole) (arg4 : Memref sig .tc .vmem S1x1024x2048 .bf16) (harg4 : arg4.IsWhole) (arg5 : Memref sig .tc .vmem S512x1024 .f32) (harg5 : arg5.IsWhole) (arg6 : Memref sig .tc .vmem S1x1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole)

theorem sum_apply (hc0 : cond0_0 i) (hc1 : ¬cond0_1 i) (hc2 : ¬cond0_2 i) (a : Fin 512) (b : Fin 1024) :
    sout0_A_0 c i _ harg3 _ harg4 _ harg5 _ harg6 _ harg7 _ harg8 _ harg9 _ harg10 hc0 hc1 hc2 u w x v d (ix2 a b) = part u w a b := by
  frame_out
  try simp only [read_unread_whole]
  exact pay2_apply ..
theorem first_apply (hc0 : ¬cond0_0 i) (hc1 : cond0_1 i) (hc2 : cond0_2 i) (hc3 : cond0_3 i) (hc4 : ¬cond0_4 i) (a : Fin 512) (b : Fin 1024) :
    out0_B_5 c i _ harg3 _ harg4 _ harg5 _ harg6 _ harg7 _ harg8 _ harg9 _ harg10 hc0 hc1 hc2 hc3 hc4 u w x v d z (ix2 a b) = dx (row x a) (fun k => z (ix2 a k) + part u w a k) (rowG v) (row d a) b := by
  rw [← row_add]
  frame_out
  try simp only [read_unread_whole]
  exact pay8_apply ..
theorem first_scale (hc0 : ¬cond0_0 i) (hc1 : cond0_1 i) (hc2 : cond0_2 i) (hc3 : cond0_3 i) (hc4 : ¬cond0_4 i) (b : Fin 1024) :
    out0_B_6 c i _ harg3 _ harg4 _ harg5 _ harg6 _ harg7 _ harg8 _ harg9 _ harg10 hc0 hc1 hc2 hc3 hc4 u w x v d z (ix2 0 b) = ∑ a : Fin 512, dg (row x a) (fun k => z (ix2 a k) + part u w a k) b := by
  simp only [← row_add]
  frame_out
  try simp only [read_unread_whole]
  exact pay7_apply ..
theorem next_apply (hc0 : ¬cond0_0 i) (hc1 : cond0_1 i) (hc2 : cond0_2 i) (hc3 : ¬cond0_3 i) (hc4 : cond0_4 i) (a : Fin 512) (b : Fin 1024) :
    out0_C_5 c i _ harg3 _ harg4 _ harg5 _ harg6 _ harg7 _ harg8 _ harg9 _ harg10 hc0 hc1 hc2 hc3 hc4 u w x v d o z (ix2 a b) = dx (row x a) (fun k => z (ix2 a k) + part u w a k) (rowG v) (row d a) b := by
  rw [← row_add]
  frame_out
  try simp only [read_unread_whole]
  exact pay8_apply ..
theorem next_scale (hc0 : ¬cond0_0 i) (hc1 : cond0_1 i) (hc2 : cond0_2 i) (hc3 : ¬cond0_3 i) (hc4 : cond0_4 i) (b : Fin 1024) :
    out0_C_6 c i _ harg3 _ harg4 _ harg5 _ harg6 _ harg7 _ harg8 _ harg9 _ harg10 hc0 hc1 hc2 hc3 hc4 u w x v d o z (ix2 0 b) = o (ix2 0 b) + ∑ a : Fin 512, dg (row x a) (fun k => z (ix2 a k) + part u w a k) b := by
  simp only [← row_add]
  frame_out
  try simp only [read_unread_whole]
  pointwise [k0_pay4]
  exact congrArg (o (ix2 0 b) + ·) (pay7_apply ..)
end Body

abbrev Lhs : Type := (⟨2, ![4096, 4096]⟩ : Shape).Idx → EReal
abbrev Rhs : Type := (⟨3, ![2, 1024, 4096]⟩ : Shape).Idx → EReal

/-- The rows of the arrays; the gradient of the product's input is the product with the transposed weights, over the two
    halves of the columns. -/
def up (u : Lhs) (w : Rhs) (i : Fin 4096) : Fin 1024 → EReal := fun k =>
  ∑ s : Fin 2, ∑ q : Fin 2048, u (ix2 i (⟨s.val * 2048 + q.val, by have hs : s.val < 2 := s.isLt; omega⟩ : Fin 4096)) * w (ix3 1 k (⟨s.val * 2048 + q.val, by have hs : s.val < 2 := s.isLt; omega⟩ : Fin 4096))
def sca (g : Sca) : Fin 1024 → EReal := fun k => g (ix3 3 0 k)
def result (u : Lhs) (w : Rhs) (h : Inp) (g : Sca) (d : Inp) : Inp := fun i => dx (inp h (i 0)) (up u w (i 0)) (sca g) (inp d (i 0)) (i 1)
def scale (u : Lhs) (w : Rhs) (h : Inp) : GSca := fun i => ∑ k : Fin 4096, dg (inp h k) (up u w k) (i 1)

variable (m : (ℓ : Loc nD τ sig) → Buf (Elt Ideal) ℓ) (c : Dev nD) (t : Fin cfg0.N)

abbrev arg0 : Lhs := m (c.tc.loc main_arg0)
abbrev arg1 : Rhs := m (c.tc.loc main_arg1)
abbrev arg2 : Inp := m (c.tc.loc main_arg2)
abbrev arg3 : Sca := m (c.tc.loc main_arg3)
abbrev arg4 : Inp := m (c.tc.loc main_arg4)

theorem idx0 : ∀ t : Fin cfg0.N, win0_0.index t = ![t.val / 2, t.val % 2] := by decide +kernel
theorem idx1 : ∀ t : Fin cfg0.N, win0_1.index t = ![1, 0, t.val % 2] := by decide +kernel
theorem idx2 : ∀ t : Fin cfg0.N, win0_2.index t = ![t.val / 2, 0] := by decide +kernel
theorem idx3 : ∀ t : Fin cfg0.N, win0_3.index t = ![3, 0, 0] := by decide +kernel
theorem idx4 : ∀ t : Fin cfg0.N, win0_4.index t = ![t.val / 2, 0] := by decide +kernel
theorem idx5 : ∀ t : Fin cfg0.N, win0_5.index t = ![t.val / 2, 0] := by decide +kernel
theorem idx6 : ∀ t : Fin cfg0.N, win0_6.index t = ![0, 0] := by decide +kernel

/-- Row `a` of the block of point `t`, and its step of the product. -/
def rowAt (t : Fin cfg0.N) (a : Fin 512) : Fin 4096 := ⟨512 * (t.val / 2) + a.val, by have ht : t.val < 16 := t.isLt; omega⟩

theorem read0 (a : Fin 512) (q : Fin 2048) : iblk m c 0 t (ix2 a q) = arg0 m c (ix2 (rowAt t a) (⟨t.val % 2 * 2048 + q.val, by omega⟩ : Fin 4096)) := by
  unfold rowAt; blk_ext [iblk, idx0]
theorem read1 (k : Fin 1024) (q : Fin 2048) :
    iblk m c 1 t (ix3 0 k q) = arg1 m c (ix3 1 k (⟨t.val % 2 * 2048 + q.val, by omega⟩ : Fin 4096)) := by
  blk_ext [iblk, idx1]
theorem read2 (a : Fin 512) (b : Fin 1024) : iblk m c 2 t (ix2 a b) = arg2 m c (ix2 (rowAt t a) b) := by
  unfold rowAt; blk_ext [iblk, idx2]
theorem read3 (b : Fin 1024) : iblk m c 3 t (ix3 0 0 b) = arg3 m c (ix3 3 0 b) := by
  blk_ext [iblk, idx3]
theorem read4 (a : Fin 512) (b : Fin 1024) : iblk m c 4 t (ix2 a b) = arg4 m c (ix2 (rowAt t a) b) := by
  unfold rowAt; blk_ext [iblk, idx4]

theorem row2 (a : Fin 512) : row (iblk m c 2 t) a = inp (arg2 m c) (rowAt t a) := funext fun k => read2 m c t a k
theorem row4 (a : Fin 512) : row (iblk m c 4 t) a = inp (arg4 m c) (rowAt t a) := funext fun k => read4 m c t a k
theorem rowG3 : rowG (iblk m c 3 t) = sca (arg3 m c) := funext fun k => read3 m c t k

theorem emb5 (a : Fin 512) (b : Fin 1024) : ((cfg0.win 5).blk t).view.emb (ix2 a b) = (ix2 (rowAt t a) b : S4096x1024.Idx) := by
  funext k; fin_cases k <;> (apply Fin.ext; blk_simp [idx5 t]; try first | rfl | (rw [mul_comm]; rfl))
theorem emb6 (b : Fin 1024) : ((cfg0.win 6).blk t).view.emb (ix2 0 b) = (ix2 0 b : S1x1024.Idx) := by
  funext k; fin_cases k <;> (apply Fin.ext; blk_simp [idx6 t]; try first | rfl | (rw [mul_comm]; rfl))

/-- The step of the product that point `t` takes, in the arrays. -/
theorem part_at (a : Fin 512) (k : Fin 1024) (s : Fin 2) (r : Fin 4096) (hs : t.val % 2 = s.val) (hr : rowAt t a = r) :
    part (iblk m c 0 t) (iblk m c 1 t) a k
      = ∑ q : Fin 2048, arg0 m c (ix2 r (⟨s.val * 2048 + q.val, by have hs : s.val < 2 := s.isLt; omega⟩ : Fin 4096)) * arg1 m c (ix3 1 k (⟨s.val * 2048 + q.val, by have hs : s.val < 2 := s.isLt; omega⟩ : Fin 4096)) :=
  Fin.sum_fin_congr fun q => by
    subst hr
    refine congrArg₂ (· * ·) ((read0 m c t a q).trans (congrArg (arg0 m c) (congrArg (ix2 (rowAt t a) ·) (Fin.ext ?_))))
      ((read1 m c t k q).trans (congrArg (arg1 m c) (congrArg (ix3 1 k ·) (Fin.ext ?_)))) <;>
      (show t.val % 2 * 2048 + q.val = s.val * 2048 + q.val; rw [hs])

/-- At the second step of a block the sum is the whole product. -/
theorem acc_eq (hf : t.val % 2 = 1) (a : Fin 512) :
    (fun k => (outsAt0 m c (t.val - 1) (Nat.lt_of_le_of_lt (Nat.sub_le _ _) t.isLt)).2.2 (ix2 a k) + part (iblk m c 0 t) (iblk m c 1 t) a k)
      = up (arg0 m c) (arg1 m c) (rowAt t a) := funext fun k => by
  have ht : t.val < 16 := t.isLt
  unfold up
  rw [Fin.sum_univ_two]
  refine congrArg₂ (· + ·) ?_ (part_at m c t a k 1 _ hf rfl)
  have h0 : (t.val - 1) % 2 = 0 := by omega
  refine (congrFun (congrArg (fun p => p.2.2) (outsAt0_A m c (⟨t.val - 1, by show _ < 16; omega⟩ : Fin cfg0.N) h0 (by show ¬(t.val - 1) % 2 = 1; omega) (by show ¬(t.val - 1) % 2 = 1; omega))) _).trans ?_
  dsimp only
  refine (sum_apply ..).trans (part_at m c _ a k 0 _ h0 (Fin.ext ?_))
  show 512 * ((t.val - 1) / 2) + a.val = 512 * (t.val / 2) + a.val
  omega

theorem outs5 (hf : t.val % 2 = 1) (a : Fin 512) (b : Fin 1024) :
    (outsAt0 m c t.val t.isLt).1 (ix2 a b) = result (arg0 m c) (arg1 m c) (arg2 m c) (arg3 m c) (arg4 m c) (ix2 (rowAt t a) b) := by
  have ht : t.val < 16 := t.isLt
  show _ = dx (inp _ (rowAt t a)) (up _ _ (rowAt t a)) (sca _) (inp _ (rowAt t a)) b
  rw [← row2, ← acc_eq m c t hf, ← rowG3 m c t, ← row4]
  by_cases h3 : t.val < 2
  · rw [outsAt0_B m c t (by omega) hf hf h3 (by omega)]
    dsimp only
    generalize (outsAt0 m c (t.val - 1) _).2.2 = z
    exact first_apply ..
  · rw [outsAt0_C m c t (by omega) hf hf h3 (by omega)]
    dsimp only
    generalize (outsAt0 m c (t.val - 1) _).2.2 = z
    generalize (outsAt0 m c (t.val - 1) _).2.1 = o
    exact next_apply ..

theorem arr5 : (dats m 0 c).arrAt 5 cfg0.N = result (arg0 m c) (arg1 m c) (arg2 m c) (arg3 m c) (arg4 m c) := by
  refine (dats m 0 c).arrAt_eq_of_covers 5 _ (by decide +kernel) fun t hf y => ?_
  obtain ⟨a, b, rfl⟩ := exists_ix2 y
  blk_simp
  rw [after0_5, emb5]
  exact outs5 m c t ((flush0_5 t).mp hf) a b

/-- What the block of rows `s` adds to the gradient of the scale. -/
def step (b : Fin 1024) (s : ℕ) (hs : s < 8) : EReal :=
  ∑ a : Fin 512, dg (inp (arg2 m c) ⟨s * 512 + a.val, by omega⟩) (up (arg0 m c) (arg1 m c) ⟨s * 512 + a.val, by omega⟩) b

theorem rows_eq (hf : t.val % 2 = 1) (b : Fin 1024) (s : ℕ) (hs : s < 8) (e : t.val / 2 = s) :
    (∑ a : Fin 512, dg (row (iblk m c 2 t) a) (fun k => (outsAt0 m c (t.val - 1) (Nat.lt_of_le_of_lt (Nat.sub_le _ _) t.isLt)).2.2 (ix2 a k) + part (iblk m c 0 t) (iblk m c 1 t) a k) b)
      = step m c b s hs := Fin.sum_fin_congr fun a => by
  have er : rowAt t a = ⟨s * 512 + a.val, by omega⟩ := Fin.ext (by show 512 * (t.val / 2) + a.val = s * 512 + a.val; omega)
  rw [acc_eq m c t hf, row2, er]

/-- After the second step of block `n` the gradient of the scale has the blocks up to it. -/
theorem scale_at (b : Fin 1024) : ∀ (n : ℕ) (hn : n < 8) (h : 2 * n + 1 < cfg0.N),
    (outsAt0 m c (2 * n + 1) h).2.1 (ix2 0 b) = ∑ s : Fin (n + 1), step m c b s.val (by have := s.isLt; omega)
  | 0, hn, h => by
    rw [Fin.sum_univ_one]
    refine (congrFun (congrArg (fun p => p.2.1) (outsAt0_B m c (⟨1, h⟩ : Fin cfg0.N) (show ¬1 % 2 = 0 by decide) (show 1 % 2 = 1 by decide) (show 1 % 2 = 1 by decide) (show 1 < 2 by decide) (show ¬2 ≤ 1 by decide))) _).trans ?_
    dsimp only
    refine Eq.trans ?_ (rows_eq m c ⟨1, h⟩ (show 1 % 2 = 1 by decide) b 0 hn (show 1 / 2 = 0 by decide))
    exact first_scale ..
  | n + 1, hn, h => by
    rw [Fin.sum_univ_castSucc]
    have h2 : 2 * n + 2 < cfg0.N := by omega
    have h1 : 2 * n + 1 < cfg0.N := by omega
    refine (congrFun (congrArg (fun p => p.2.1) (outsAt0_C m c (⟨2 * (n + 1) + 1, h⟩ : Fin cfg0.N) (by show ¬(2 * (n + 1) + 1) % 2 = 0; omega) (by show (2 * (n + 1) + 1) % 2 = 1; omega)
      (by show (2 * (n + 1) + 1) % 2 = 1; omega) (by show ¬2 * (n + 1) + 1 < 2; omega) (by show 2 ≤ 2 * (n + 1) + 1; omega))) _).trans ?_
    dsimp only
    refine Eq.trans (next_scale ..) (congrArg₂ (· + ·) ?_ (rows_eq m c ⟨2 * (n + 1) + 1, h⟩ (by show (2 * (n + 1) + 1) % 2 = 1; omega) b (n + 1) hn (by show (2 * (n + 1) + 1) / 2 = n + 1; omega)))
    refine Eq.trans ?_ (scale_at b n (by omega) h1)
    exact congrFun (congrArg (fun p => p.2.1) (outsAt0_A m c (⟨2 * n + 2, h2⟩ : Fin cfg0.N) (by show (2 * n + 2) % 2 = 0; omega) (by show ¬(2 * n + 2) % 2 = 1; omega)
      (by show ¬(2 * n + 2) % 2 = 1; omega))) _

theorem arr6 : (dats m 0 c).arrAt 6 cfg0.N = scale (arg0 m c) (arg1 m c) (arg2 m c) := by
  refine (dats m 0 c).arrAt_eq_of_covers 6 _ (by decide +kernel) fun t hf y => ?_
  have ht : t.val < 16 := t.isLt
  have hf' : t.val % 16 = 15 := (flush0_6 t).mp hf
  obtain ⟨b, rfl⟩ := split y
  blk_simp
  rw [after0_6, emb6]
  obtain rfl : t = (⟨2 * 7 + 1, by decide⟩ : Fin cfg0.N) := Fin.ext (by show t.val = 15; omega)
  refine (scale_at m c b 7 (by decide) _).trans ?_
  show _ = ∑ k : Fin 4096, dg (inp _ k) (up _ _ k) b
  exact Fin.sum_mul_add_congr (fun s k hl => rfl)

end Cert.HgrnInDx1Ideal.Product

namespace Cert.HgrnInDx1ReferenceIdeal.Product

open Idealize.ShloMosaic Cert.HgrnInDx1ReferenceIdeal Cert.HgrnInDx1ReferenceIdeal.Read Cert.HgrnInDx1Ideal.Product Cert.NormGrad Cert.Index

variable (u : Lhs) (w : Rhs) (h : Inp) (g : Sca) (d : Inp)

theorem meanSq_eq (i : Fin 4096) : val_main_v10 (F := Ideal) h (ix2 i 0) = meanSq (inp h i) :=
  Cert.HgrnInDx0ReferenceIdeal.Product.meanSq_eq h i
theorem rs_eq (i : Fin 4096) : val_main_v11 (F := Ideal) h (ix2 i 0) = rs (inp h i) :=
  Cert.HgrnInDx0ReferenceIdeal.Product.rs_eq h i
theorem up_eq (i : Fin 4096) (j : Fin 1024) : val_main_v22 (F := Ideal) u w (ix2 i j) = up u w i j := by
  rw [val_main_v22_apply]
  refine Eq.symm (Fin.sum_mul_add_congr (fun s q hl => ?_))
  have hq : q.val < 2048 := q.isLt
  have hs : s.val < 2 := s.isLt
  have hj : j.val < 1024 := j.isLt
  rw [val_main_v21_apply, val_main_v19_apply, val_main_v1_apply, val_main_v0_apply]
  refine congrArg₂ (· * ·) (congrArg u (funext fun a => ?_)) (congrArg w (funext fun a => ?_))
  · match a with
    | ⟨0, _⟩ => rfl
    | ⟨1, _⟩ => rfl
  · match a with
    | ⟨0, _⟩ => rfl
    | ⟨1, _⟩ => exact Fin.ext (by show j.val = (j.val * 4096 + (s.val * 2048 + q.val)) / 4096 % 1024; omega)
    | ⟨2, _⟩ => exact Fin.ext (by show s.val * 2048 + q.val = (j.val * 4096 + (s.val * 2048 + q.val)) % 4096; omega)
theorem ag_eq (i : Fin 4096) (j : Fin 1024) : val_main_v27 (F := Ideal) u w g (ix2 i j) = up u w i j * sca g j := by
  rw [val_main_v27_apply, up_eq, val_main_v26_apply, val_main_v3_apply, val_main_v2_apply]
  refine congrArg (up u w i j * g ·) (funext fun a => ?_)
  have hj : j.val < 1024 := j.isLt
  match a with
  | ⟨0, _⟩ => rfl
  | ⟨1, _⟩ => rfl
  | ⟨2, _⟩ => exact Fin.ext (by show (0 * 1024 + j.val) % 1024 = j.val; omega)
theorem corr_eq (i : Fin 4096) (j : Fin 1024) : val_main_v38 (F := Ideal) u w h g (ix2 i j) = corr (inp h i) (up u w i) (sca g) := by
  rw [val_main_v38_apply, val_main_v37_apply, val_main_cst_6_apply]
  refine (zero_sum _).trans ((Fin.sum_univ_one _).trans ?_)
  have e : idx_main_v37 (idx_main_v38 (ix2 i j)) 0 = ix2 i 0 := ext2 rfl rfl
  rw [e, val_main_v36_apply, val_main_v34_apply, val_main_v35_apply, val_main_cst_5_apply, val_main_v30_apply, val_main_v29_apply, val_main_cst_4_apply,
    val_main_v14_apply, val_main_v13_apply, val_main_cst_2_apply, val_main_v12_apply, rs_eq, meanSq_eq]
  unfold corr
  refine congrArg (fun z => Ideal.div (z * _) _) ((zero_sum _).trans (Fin.sum_fin_congr fun k => ?_))
  have e : idx_main_v29 (idx_main_v30 (ix2 i 0)) k = ix2 i k := ext2 (Fin.ext (by show i.val * 1 + 0 = i.val; omega)) rfl
  rw [e, val_main_v28_apply, ag_eq]
  rfl

theorem value : val_main_v42 (F := Ideal) u w h g d = result u w h g d := funext fun i => by
  obtain ⟨a, b, rfl⟩ := exists_ix2 i
  rw [val_main_v42_apply, val_main_v41_apply, val_main_v40_apply, val_main_v39_apply, val_main_v33_apply, val_main_v32_apply, val_main_v31_apply, ag_eq, corr_eq]
  have e : idx_main_v31 (ix2 a b) = ix2 a 0 := ext2 rfl rfl
  rw [e, rs_eq]
  exact dx_eq (inp h a) (up u w a) (sca g) (inp d a) b

theorem scale_value : val_main_v25 (F := Ideal) u w h = scale u w h := funext fun i => by
  obtain ⟨b, rfl⟩ := split i
  rw [val_main_v25_apply, val_main_v24_apply, val_main_cst_3_apply]
  refine (zero_sum _).trans (Fin.sum_fin_congr fun k => ?_)
  have e : idx_main_v24 (idx_main_v25 (ix2 0 b)) k = ix2 k b := ext2 rfl (Fin.ext (by show 0 * 1024 + b.val = b.val; omega))
  have e' : idx_main_v15 (ix2 k b) = ix2 k 0 := ext2 rfl rfl
  rw [e, val_main_v23_apply, val_main_v16_apply, val_main_v15_apply, e', rs_eq, up_eq]
  rfl

end Cert.HgrnInDx1ReferenceIdeal.Product

end
-- ==== Proof.HgrnInDx1Claim.lean ====
/- The claims for HgrnInDx1: the frame of its reference, and that the idealized call and the reference both hand on `result` and `scale` of
   Proof/HgrnInDx1Value.lean. -/
module

public import proofs.«01_k».proof.Defs
public import proofs.«01_k».proof.Proof.HgrnInDx1Value
public import Idealize.ShloMosaic.Lib.Quiescent

@[expose] public section

noncomputable section

namespace Cert.HgrnInDx1Ideal.Product

open Idealize.ShloMosaic Idealize.ShloMosaic.StableHlo Idealize.SL.Sem Cert.NormGrad

theorem frame_ref : Cert.quiescent_HgrnInDx1ReferenceIdeal (hHgrnInDx1ReferenceIdeal := Cert.HgrnInDx1ReferenceIdeal.Gen.facts) := fun m ρ _ =>
  (θ_run Cert.HgrnInDx1ReferenceIdeal.defs _ _).mono (fun r h => ⟨fun c => (h c).2.2, sem_eq_zero_of_no_sems (by decide) r.2⟩)
    (Cert.HgrnInDx1ReferenceIdeal.Value.run (F := Ideal) m ρ)

theorem algebraic : Cert.algebraic_HgrnInDx1Ideal_HgrnInDx1ReferenceIdeal (hHgrnInDx1Ideal := Cert.HgrnInDx1Ideal.Gen.facts)
    (hHgrnInDx1ReferenceIdeal := Cert.HgrnInDx1ReferenceIdeal.Gen.facts) := by
  intro m g m' g' _ hargs
  refine ⟨fun c => result (arg0 m c) (arg1 m c) (arg2 m c) (arg3 m c) (arg4 m c), fun c => scale (arg0 m c) (arg1 m c) (arg2 m c), ?_, ?_⟩
  · exact (θ_run _ _ _).mono (fun r h c => ⟨(h c).1.trans (arr5 m c), (h c).2.1.trans (arr6 m c), (h c).2.2⟩) (Cert.HgrnInDx1Ideal.Value.run_blocks m g)
  · exact (θ_run _ _ _).mono (fun r h c =>
      ⟨((h c).1.trans (Cert.HgrnInDx1ReferenceIdeal.Read.val_main_v42_eq m' c)).trans
        (Cert.Index.eq_at5 Cert.HgrnInDx1ReferenceIdeal.Product.value (hargs c).1 (hargs c).2.1 (hargs c).2.2.1 (hargs c).2.2.2.1 (hargs c).2.2.2.2),
       ((h c).2.1.trans (Cert.HgrnInDx1ReferenceIdeal.Read.val_main_v25_eq _ _ _)).trans
        (Cert.Index.eq_at3 Cert.HgrnInDx1ReferenceIdeal.Product.scale_value (hargs c).1 (hargs c).2.1 (hargs c).2.2.1), (h c).2.2⟩)
      (Cert.HgrnInDx1ReferenceIdeal.Value.run (F := Ideal) m' g')

end Cert.HgrnInDx1Ideal.Product

end
-- ==== Proof.LossHeadValue.lean ====
/- The loss and its gradient through the last norm: what the call leaves, and that its reference hands on the same. -/
module

public import proofs.«01_k».proof.Proof.UpDx0Value
public import proofs.«01_k».proof.Proof.Gen.LossHeadIdeal.Value
public import proofs.«01_k».proof.Proof.Gen.LossHeadReferenceIdeal.Read

@[expose] public section

set_option maxRecDepth 16384

noncomputable section

namespace Cert.LossHeadIdeal.Product

open Idealize.ShloMosaic Idealize.ShloMosaic.TcCoe Cert.LossHeadIdeal Cert.LossHeadIdeal.Gen Cert.NormGrad Cert.Index

section Row
variable (x g t : Fin 1024 → EReal)

/-- A row: its normed entries less the target's, the mean of their squares, and the gradient of half of that. -/
def err (j : Fin 1024) : EReal := (x j * rs x) * g j - t j
def sqErr : EReal := Ideal.div (∑ k, err x g t k * err x g t k) (Ideal.ofBits .f32 0x44800000#32)
def grad (j : Fin 1024) : EReal := Ideal.div (err x g t j) (Ideal.ofBits .f32 0x44800000#32)
/-- The gradient of the row, through the norm. -/
def back (j : Fin 1024) : EReal := ((grad x g t j * g j) * rs x + x j * corr x (grad x g t) g) + corr x (grad x g t) g * x j
end Row

def half : EReal := Ideal.ofBits .f32 0x3F000000#32
theorem half_eq : half = ((1 / 2 : ℝ) : EReal) := by
  unfold half
  simp [Ideal.ofBits, Ideal.ieee]
  rw [← EReal.coe_mul]
  norm_num

theorem half_sum {n : ℕ} (f : Fin n → EReal) : ∑ i, half * f i = half * ∑ i, f i := by
  have h0 : (0 : EReal) ≤ half := by rw [half_eq]; exact EReal.coe_nonneg.mpr (by norm_num)
  have ht : half ≠ ⊤ := by rw [half_eq]; exact EReal.coe_ne_top _
  let φ : EReal →+ EReal := ⟨⟨(half * ·), mul_zero _⟩, EReal.left_distrib_of_nonneg_of_ne_top h0 ht⟩
  exact (map_sum φ f Finset.univ).symm

section Body
variable (x : Vec Ideal S512x1024 .f32) (v : Vec Ideal S1x1024 .f32) (z : Vec Ideal S512x1024 .f32)

/-- A block's rows, and the scale. -/
def row (a : Fin 512) : Fin 1024 → EReal := fun k => x (ix2 a k)
def rowG : Fin 1024 → EReal := fun k => v (ix2 0 k)

theorem pay4_apply (a : Fin 512) : k0_pay4 x (ix2 a 0) = meanSq (row x a) := by
  pointwise [k0_pay4]
  rfl
theorem pay5_apply (a : Fin 512) : k0_pay5 x (ix2 a 0) = rs (row x a) := by
  pointwise [k0_pay5]
  rw [pay4_apply]
  rfl
theorem pay6_apply (a : Fin 512) (b : Fin 1024) : k0_pay6 x (ix2 a b) = row x a b * rs (row x a) := by
  pointwise [k0_pay6]
  rw [pay5_apply]
  rfl
theorem pay7_apply (a : Fin 512) (b : Fin 1024) : k0_pay7 x v z (ix2 a b) = err (row x a) (rowG v) (row z a) b := by
  pointwise [k0_pay7]
  rw [pay6_apply]
  rfl
theorem pay8_apply : k0_pay8 x v z (ix2 0 0) = half * ∑ a : Fin 512, sqErr (row x a) (rowG v) (row z a) := by
  pointwise [k0_pay8]
  refine congrArg (half * ·) (Fin.sum_fin_congr fun a => ?_)
  simp only [pay7_apply]
  rfl
theorem pay9_apply (a : Fin 512) (b : Fin 1024) : k0_pay9 x v z (ix2 a b) = grad (row x a) (rowG v) (row z a) b := by
  pointwise [k0_pay9]
  rw [pay7_apply]
  rfl
theorem pay10_apply (b : Fin 1024) : k0_pay10 x v z (ix2 0 b) = ∑ a : Fin 512, dg (row x a) (grad (row x a) (rowG v) (row z a)) b := by
  pointwise [k0_pay10]
  refine Fin.sum_fin_congr fun a => ?_
  rw [pay6_apply, pay9_apply]
  rfl
theorem pay11_apply (a : Fin 512) (b : Fin 1024) : k0_pay11 x v z (ix2 a b) = grad (row x a) (rowG v) (row z a) b * rowG v b := by
  pointwise [k0_pay11]
  rw [pay9_apply]
  rfl
theorem pay12_apply (a : Fin 512) (b : Fin 1024) :
    k0_pay12 x v z (ix2 a b) = (grad (row x a) (rowG v) (row z a) b * rowG v b) * rs (row x a) := by
  pointwise [k0_pay12]
  rw [pay11_apply, pay5_apply]
theorem pay13_apply (a : Fin 512) : k0_pay13 x v z (ix2 a 0)
    = (∑ k, row x a k * (grad (row x a) (rowG v) (row z a) k * rowG v k)) * (Ideal.ofBits .f32 0xBF000000#32 * Ideal.div (rs (row x a)) (meanSq (row x a))) := by
  pointwise [k0_pay13]
  simp only [pay11_apply, pay5_apply, pay4_apply]
  rfl
theorem pay1_apply (a : Fin 512) (b : Fin 1024) :
    k0_pay1 x (k0_pay12 x v z) (k0_pay13 x v z) (Scalar.ofBits .f32 0x44800000#32) (ix2 a b) = back (row x a) (rowG v) (row z a) b := by
  have e : Ideal.div (k0_pay13 x v z (ix2 a 0)) (Ideal.ofBits .f32 0x44800000#32) = corr (row x a) (grad (row x a) (rowG v) (row z a)) (rowG v) := by
    rw [pay13_apply]; rfl
  unfold back
  rw [← pay12_apply, ← e]
  pointwise [k0_pay1]
  simp only [Fin.sum_univ_one]
  rfl

variable (l : Vec Ideal S1x1 .f32) (o : Vec Ideal S1x1024 .f32) (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S1x1 .f32) (harg4 : arg4.IsWhole) (arg5 : Memref sig .tc .vmem S512x1024 .f32) (harg5 : arg5.IsWhole) (arg6 : Memref sig .tc .vmem S1x1024 .f32) (harg6 : arg6.IsWhole)

section First
variable (hc0 : cond0_0 i) (hc1 : ¬cond0_1 i)
theorem first_loss : out0_A_3 c i _ harg1 _ harg2 _ harg3 _ harg4 _ harg5 _ harg6 hc0 hc1 x v z (ix2 0 0)
    = half * ∑ a : Fin 512, sqErr (row x a) (rowG v) (row z a) := by
  frame_out
  try simp only [read_unread_whole]
  exact pay8_apply ..
theorem first_apply (a : Fin 512) (b : Fin 1024) :
    out0_A_4 c i _ harg1 _ harg2 _ harg3 _ harg4 _ harg5 _ harg6 hc0 hc1 x v z (ix2 a b) = back (row x a) (rowG v) (row z a) b := by
  frame_out
  try simp only [read_unread_whole]
  exact pay1_apply ..
theorem first_scale (b : Fin 1024) : out0_A_5 c i _ harg1 _ harg2 _ harg3 _ harg4 _ harg5 _ harg6 hc0 hc1 x v z (ix2 0 b)
    = ∑ a : Fin 512, dg (row x a) (grad (row x a) (rowG v) (row z a)) b := by
  frame_out
  try simp only [read_unread_whole]
  exact pay10_apply ..
end First

section Next
variable (hc0 : ¬cond0_0 i) (hc1 : cond0_1 i)
theorem next_loss : out0_B_3 c i _ harg1 _ harg2 _ harg3 _ harg4 _ harg5 _ harg6 hc0 hc1 x v z l o (ix2 0 0)
    = l (ix2 0 0) + half * ∑ a : Fin 512, sqErr (row x a) (rowG v) (row z a) := by
  frame_out
  try simp only [read_unread_whole]
  pointwise [k0_pay3]
  exact congrArg (l (ix2 0 0) + ·) (pay8_apply ..)
theorem next_apply (a : Fin 512) (b : Fin 1024) :
    out0_B_4 c i _ harg1 _ harg2 _ harg3 _ harg4 _ harg5 _ harg6 hc0 hc1 x v z l o (ix2 a b) = back (row x a) (rowG v) (row z a) b := by
  frame_out
  try simp only [read_unread_whole]
  exact pay1_apply ..
theorem next_scale (b : Fin 1024) : out0_B_5 c i _ harg1 _ harg2 _ harg3 _ harg4 _ harg5 _ harg6 hc0 hc1 x v z l o (ix2 0 b)
    = o (ix2 0 b) + ∑ a : Fin 512, dg (row x a) (grad (row x a) (rowG v) (row z a)) b := by
  frame_out
  try simp only [read_unread_whole]
  pointwise [k0_pay2]
  exact congrArg (o (ix2 0 b) + ·) (pay10_apply ..)
end Next
end Body

abbrev One : Type := (⟨2, ![1, 1]⟩ : Shape).Idx → EReal

def sca (g : GSca) : Fin 1024 → EReal := fun k => g (ix2 0 k)
def loss (h : Inp) (g : GSca) (z : Inp) : One := fun _ => half * ∑ i : Fin 4096, sqErr (inp h i) (sca g) (inp z i)
def result (h : Inp) (g : GSca) (z : Inp) : Inp := fun i => back (inp h (i 0)) (sca g) (inp z (i 0)) (i 1)
def scale (h : Inp) (g : GSca) (z : Inp) : GSca := fun i => ∑ k : Fin 4096, dg (inp h k) (grad (inp h k) (sca g) (inp z k)) (i 1)

theorem one (y : (⟨2, ![1, 1]⟩ : Shape).Idx) : y = ix2 0 0 := by
  funext k
  fin_cases k
  · exact Subsingleton.elim (α := Fin 1) _ _
  · exact Subsingleton.elim (α := Fin 1) _ _

variable (m : (ℓ : Loc nD τ sig) → Buf (Elt Ideal) ℓ) (c : Dev nD) (t : Fin cfg0.N)

abbrev arg0 : Inp := m (c.tc.loc main_arg0)
abbrev arg1 : GSca := m (c.tc.loc main_arg1)
abbrev arg2 : Inp := m (c.tc.loc main_arg2)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![0, 0] := by decide +kernel

/-- Row `a` of the block of point `t`. -/
def rowAt (t : Fin cfg0.N) (a : Fin 512) : Fin 4096 := ⟨512 * t.val + a.val, by have ht : t.val < 8 := t.isLt; omega⟩

theorem read0 (a : Fin 512) (k : Fin 1024) : iblk m c 0 t (ix2 a k) = arg0 m c (ix2 (rowAt t a) k) := by
  unfold rowAt; blk_ext [iblk, idx0]
theorem read1 (k : Fin 1024) : iblk m c 1 t (ix2 0 k) = arg1 m c (ix2 0 k) := by
  blk_ext [iblk, idx1]
theorem read2 (a : Fin 512) (k : Fin 1024) : iblk m c 2 t (ix2 a k) = arg2 m c (ix2 (rowAt t a) k) := by
  unfold rowAt; blk_ext [iblk, idx2]

theorem row0 (a : Fin 512) : row (iblk m c 0 t) a = inp (arg0 m c) (rowAt t a) := funext fun k => read0 m c t a k
theorem rowG1 : rowG (iblk m c 1 t) = sca (arg1 m c) := funext fun k => read1 m c t k
theorem row2 (a : Fin 512) : row (iblk m c 2 t) a = inp (arg2 m c) (rowAt t a) := funext fun k => read2 m c t a k

theorem emb3 : ((cfg0.win 3).blk t).view.emb (ix2 0 0) = (ix2 0 0 : S1x1.Idx) := by
  funext k; fin_cases k <;> (apply Fin.ext; blk_simp [idx3 t]; try first | rfl | (rw [mul_comm]; rfl))
theorem emb4 (a : Fin 512) (b : Fin 1024) : ((cfg0.win 4).blk t).view.emb (ix2 a b) = (ix2 (rowAt t a) b : S4096x1024.Idx) := by
  funext k; fin_cases k <;> (apply Fin.ext; blk_simp [idx4 t]; try first | rfl | (rw [mul_comm]; rfl))
theorem emb5 (b : Fin 1024) : ((cfg0.win 5).blk t).view.emb (ix2 0 b) = (ix2 0 b : S1x1024.Idx) := by
  funext k; fin_cases k <;> (apply Fin.ext; blk_simp [idx5 t]; try first | rfl | (rw [mul_comm]; rfl))

theorem outs4 (a : Fin 512) (b : Fin 1024) :
    (outsAt0 m c t.val t.isLt).2.1 (ix2 a b) = result (arg0 m c) (arg1 m c) (arg2 m c) (ix2 (rowAt t a) b) := by
  have ht : t.val < 8 := t.isLt
  show _ = back (inp _ (rowAt t a)) (sca _) (inp _ (rowAt t a)) b
  rw [← row0, ← rowG1 m c t, ← row2]
  by_cases h0 : t.val % 8 = 0
  · rw [outsAt0_A m c t h0 (by omega)]
    dsimp only
    exact first_apply ..
  · rw [outsAt0_B m c t h0 (by omega)]
    dsimp only
    generalize outsAt0 m c (t.val - 1) _ = o
    exact next_apply ..

theorem arr4 : (dats m 0 c).arrAt 4 cfg0.N = result (arg0 m c) (arg1 m c) (arg2 m c) := by
  refine (dats m 0 c).arrAt_eq_of_covers 4 _ (by decide +kernel) fun t hf y => ?_
  obtain ⟨a, b, rfl⟩ := exists_ix2 y
  blk_simp
  rw [after0_4, emb4]
  exact outs4 m c t a b

/-- What a point adds to the loss and to the gradient of the scale. -/
def stepLoss (x : Vec Ideal S512x1024 .f32) (v : Vec Ideal S1x1024 .f32) (z : Vec Ideal S512x1024 .f32) : S1x1.Idx → EReal :=
  fun _ => half * ∑ a : Fin 512, sqErr (row x a) (rowG v) (row z a)
def step (x : Vec Ideal S512x1024 .f32) (v : Vec Ideal S1x1024 .f32) (z : Vec Ideal S512x1024 .f32) : S1x1024.Idx → EReal :=
  fun y => ∑ a : Fin 512, dg (row x a) (grad (row x a) (rowG v) (row z a)) (y 1)
/-- Step `s` of the block of `t`. -/
def at8 (t : Fin cfg0.N) (s : Fin 8) : Fin cfg0.N := ⟨8 * (t.val / 8) + s.val, by have ht : t.val < 8 := t.isLt; show _ < 8; omega⟩

theorem loss_flush (hf : t.val % 8 = 7) (y : S1x1.Idx) :
    (outsAt0 m c t.val t.isLt).1 y = ∑ s : Fin 8, stepLoss (iblk m c 0 (at8 t s)) (iblk m c 1 (at8 t s)) (iblk m c 2 (at8 t s)) y := by
  have h := Pipeline.eq_sum_fin_of_reset_step_apply_of_flush (fun n (hn : n < cfg0.N) => ((outsAt0 m c n hn).1 : S1x1.Idx → EReal)) 8 (fun _ => 0)
    (fun s => stepLoss (iblk m c 0 s) (iblk m c 1 s) (iblk m c 2 s)) ?_ ?_ t hf y
  · rw [zero_add] at h; exact h
  · intro n hr i
    obtain rfl := one i
    have hn : n.val < 8 := n.isLt
    show ((outsAt0 m c n.val n.isLt).1 (ix2 0 0) : EReal) = _
    rw [outsAt0_A m c n hr (by omega)]
    dsimp only
    refine Eq.trans ?_ (zero_add _).symm
    exact first_loss ..
  · intro n hr i
    obtain rfl := one i
    show ((outsAt0 m c n.val n.isLt).1 (ix2 0 0) : EReal) = _
    rw [outsAt0_B m c n hr (by omega)]
    dsimp only
    generalize outsAt0 m c (n.val - 1) _ = o
    exact next_loss ..

theorem scale_flush (hf : t.val % 8 = 7) (y : S1x1024.Idx) :
    (outsAt0 m c t.val t.isLt).2.2 y = ∑ s : Fin 8, step (iblk m c 0 (at8 t s)) (iblk m c 1 (at8 t s)) (iblk m c 2 (at8 t s)) y := by
  have h := Pipeline.eq_sum_fin_of_reset_step_apply_of_flush (fun n (hn : n < cfg0.N) => ((outsAt0 m c n hn).2.2 : S1x1024.Idx → EReal)) 8 (fun _ => 0)
    (fun s => step (iblk m c 0 s) (iblk m c 1 s) (iblk m c 2 s)) ?_ ?_ t hf y
  · rw [zero_add] at h; exact h
  · intro n hr i
    obtain ⟨b, rfl⟩ := split i
    have hn : n.val < 8 := n.isLt
    show ((outsAt0 m c n.val n.isLt).2.2 (ix2 0 b) : EReal) = _
    rw [outsAt0_A m c n hr (by omega)]
    dsimp only
    refine Eq.trans ?_ (zero_add _).symm
    exact first_scale ..
  · intro n hr i
    obtain ⟨b, rfl⟩ := split i
    show ((outsAt0 m c n.val n.isLt).2.2 (ix2 0 b) : EReal) = _
    rw [outsAt0_B m c n hr (by omega)]
    dsimp only
    generalize outsAt0 m c (n.val - 1) _ = o
    exact next_scale ..

theorem rowAt_at8 (s : Fin 8) (k : Fin 512) (hl : s.val * 512 + k.val < 4096) : rowAt (at8 t s) k = ⟨s.val * 512 + k.val, hl⟩ := Fin.ext (by
  have ht : t.val < 8 := t.isLt
  show 512 * (8 * (t.val / 8) + s.val) + k.val = s.val * 512 + k.val; omega)

theorem arr3 : (dats m 0 c).arrAt 3 cfg0.N = loss (arg0 m c) (arg1 m c) (arg2 m c) := by
  refine (dats m 0 c).arrAt_eq_of_covers 3 _ (by decide +kernel) fun t hf y => ?_
  obtain rfl := one y
  blk_simp
  rw [after0_3, emb3]
  refine (loss_flush m c t ((flush0_3 t).mp hf) _).trans ?_
  unfold stepLoss loss
  refine (half_sum _).trans (congrArg (half * ·) (Fin.sum_mul_add_congr (fun s k hl => ?_)))
  rw [← rowAt_at8 t s k hl, row0, rowG1, row2]

theorem arr5 : (dats m 0 c).arrAt 5 cfg0.N = scale (arg0 m c) (arg1 m c) (arg2 m c) := by
  refine (dats m 0 c).arrAt_eq_of_covers 5 _ (by decide +kernel) fun t hf y => ?_
  obtain ⟨b, rfl⟩ := split y
  blk_simp
  rw [after0_5, emb5]
  refine (scale_flush m c t ((flush0_5 t).mp hf) _).trans ?_
  show _ = ∑ k : Fin 4096, dg (inp _ k) (grad (inp _ k) (sca _) (inp _ k)) b
  unfold step
  refine Fin.sum_mul_add_congr (fun s k hl => ?_)
  rw [← rowAt_at8 t s k hl, row0, rowG1, row2]
  rfl

end Cert.LossHeadIdeal.Product

namespace Cert.LossHeadReferenceIdeal.Product

open Idealize.ShloMosaic Cert.LossHeadReferenceIdeal Cert.LossHeadReferenceIdeal.Read Cert.LossHeadIdeal.Product Cert.NormGrad Cert.Index

variable (h : Inp) (g : GSca) (z : Inp)

theorem meanSq_eq (i : Fin 4096) : val_main_v7 (F := Ideal) h (ix2 i 0) = meanSq (inp h i) :=
  Cert.UpDx0ReferenceIdeal.Product.meanSq_eq h i
theorem rs_eq (i : Fin 4096) : val_main_v8 (F := Ideal) h (ix2 i 0) = rs (inp h i) :=
  Cert.UpDx0ReferenceIdeal.Product.rs_eq h i
theorem normed_eq (i : Fin 4096) (j : Fin 1024) : val_main_v13 (F := Ideal) h (ix2 i j) = inp h i j * rs (inp h i) := by
  have e : idx_main_v12 (ix2 i j) = ix2 i 0 := ext2 rfl rfl
  rw [val_main_v13_apply, val_main_v12_apply, e, rs_eq]
  rfl
theorem sca_eq (b : Fin 1024) : val_main_v14 (F := Ideal) g (ix2 0 b) = sca g b := by
  rw [val_main_v14_apply, val_main_v0_apply]
  refine congrArg g (funext fun a => ?_)
  have hb : b.val < 1024 := b.isLt
  match a with
  | ⟨0, _⟩ => rfl
  | ⟨1, _⟩ => exact Fin.ext (by show b.val % 1024 = b.val; omega)
theorem err_eq (i : Fin 4096) (j : Fin 1024) : val_main_v17 (F := Ideal) h g z (ix2 i j) = err (inp h i) (sca g) (inp z i) j := by
  have e : idx_main_v15 (ix2 i j) = ix2 0 j := ext2 rfl rfl
  rw [val_main_v17_apply, val_main_v16_apply, normed_eq, val_main_v15_apply, e, sca_eq]
  rfl
theorem sq_eq (i : Fin 4096) : val_main_v23 (F := Ideal) h g z (ix1 i) = sqErr (inp h i) (sca g) (inp z i) := by
  rw [val_main_v23_apply, val_main_v22_apply, val_main_cst_5_apply, val_main_v21_apply, val_main_cst_4_apply]
  unfold sqErr
  refine congrArg (fun z => Ideal.div z _) ((zero_sum _).trans (Fin.sum_fin_congr fun k => ?_))
  have e : idx_main_v21 (ix1 i) k = ix2 i k := ext2 rfl rfl
  rw [e, val_main_v18_apply, err_eq]
  rfl

theorem thousand : Ideal.ofBits .f32 0x44800000#32 = ((1024 : ℝ) : EReal) := by
  simp [Ideal.ofBits, Ideal.ieee]
  rw [← EReal.coe_mul]
  norm_num
theorem unit_eq : Ideal.ofBits .f32 0x3F800000#32 = ((1 : ℝ) : EReal) := by
  simp [Ideal.ofBits, Ideal.ieee]
  rw [← EReal.coe_mul]
  norm_num
theorem two_eq : Ideal.ofBits .f32 0x40000000#32 = ((2 : ℝ) : EReal) := by
  simp [Ideal.ofBits, Ideal.ieee]
  rw [← EReal.coe_mul]
  norm_num
/-- Half of twice an entry, to one of the 1024. -/
theorem half_twice (e : EReal) : Ideal.div (half * Ideal.ofBits .f32 0x3F800000#32) (Ideal.ofBits .f32 0x44800000#32) * (Ideal.ofBits .f32 0x40000000#32 * e)
    = Ideal.div e (Ideal.ofBits .f32 0x44800000#32) := by
  rw [half_eq, thousand, unit_eq, two_eq, Ideal.div_coe (by norm_num), Ideal.div_coe (by norm_num), ← mul_assoc, ← EReal.coe_mul, ← EReal.coe_mul, ← EReal.coe_mul,
    mul_comm]
  refine congrArg (fun r : ℝ => e * (r : EReal)) ?_
  norm_num
theorem grad_eq (i : Fin 4096) (j : Fin 1024) : val_main_v31 (F := Ideal) h g z (ix2 i j) = grad (inp h i) (sca g) (inp z i) j := by
  rw [val_main_v31_apply, val_main_v30_apply, val_main_v29_apply, val_main_v28_apply, val_main_cst_10_apply, val_main_v27_apply, val_main_v26_apply,
    val_main_cst_9_apply, val_main_cst_8_apply, val_main_v20_apply, val_main_v19_apply, val_main_cst_3_apply, err_eq]
  exact half_twice _
theorem ag_eq (i : Fin 4096) (j : Fin 1024) : val_main_v36 (F := Ideal) h g z (ix2 i j) = grad (inp h i) (sca g) (inp z i) j * sca g j := by
  have e : idx_main_v35 (ix2 i j) = ix2 0 j := ext2 rfl rfl
  rw [val_main_v36_apply, grad_eq, val_main_v35_apply, e, sca_eq]
  rfl
theorem corr_eq (i : Fin 4096) (j : Fin 1024) : val_main_v47 (F := Ideal) h g z (ix2 i j) = corr (inp h i) (grad (inp h i) (sca g) (inp z i)) (sca g) := by
  rw [val_main_v47_apply, val_main_v46_apply, val_main_cst_15_apply]
  refine (zero_sum _).trans ((Fin.sum_univ_one _).trans ?_)
  have e : idx_main_v46 (idx_main_v47 (ix2 i j)) 0 = ix2 i 0 := ext2 rfl rfl
  rw [e, val_main_v45_apply, val_main_v43_apply, val_main_v44_apply, val_main_cst_14_apply, val_main_v40_apply, val_main_v39_apply, val_main_cst_13_apply,
    val_main_v11_apply, val_main_v10_apply, val_main_cst_2_apply, val_main_v9_apply, rs_eq, meanSq_eq]
  unfold corr
  refine congrArg (fun z => Ideal.div (z * _) _) ((zero_sum _).trans (Fin.sum_fin_congr fun k => ?_))
  have e : idx_main_v39 (idx_main_v40 (ix2 i 0)) k = ix2 i k := ext2 (Fin.ext (by show i.val * 1 + 0 = i.val; omega)) rfl
  rw [e, val_main_v38_apply, ag_eq]
  rfl

theorem value : val_main_v51 (F := Ideal) h g z = result h g z := funext fun i => by
  obtain ⟨a, b, rfl⟩ := exists_ix2 i
  have e : idx_main_v41 (ix2 a b) = ix2 a 0 := ext2 rfl rfl
  rw [val_main_v51_apply, val_main_v50_apply, val_main_v49_apply, val_main_v48_apply, val_main_v42_apply, val_main_v41_apply, ag_eq, corr_eq, e, rs_eq]
  rfl

theorem scale_value : val_main_v52 (F := Ideal) h g z = scale h g z := funext fun i => by
  obtain ⟨b, rfl⟩ := split i
  rw [val_main_v52_apply, val_main_v37_apply, val_main_cst_12_apply]
  refine (zero_sum _).trans ((Fin.sum_univ_one _).trans ?_)
  rw [val_main_v34_apply, val_main_v33_apply, val_main_cst_11_apply]
  refine (zero_sum _).trans (Fin.sum_fin_congr fun k => ?_)
  have e : idx_main_v33 (idx_main_v34 (idx_main_v37 (idx_main_v52 (ix2 0 b)) 0)) k = ix2 k b := ext2 rfl (Fin.ext (by show 0 * 1024 + b.val = b.val; omega))
  rw [e, val_main_v32_apply, normed_eq, grad_eq]
  rfl

theorem loss_value : val_main_v53 (F := Ideal) h g z = loss h g z := funext fun i => by
  have e : val_main_v53 (F := Ideal) h g z i = val_main_v25 (F := Ideal) h g z (fun a => a.elim0) := by
    unfold val_main_v53
    generalize val_main_v25 (F := Ideal) h g z = y
    exact congrArg y (funext fun a => a.elim0)
  rw [e, val_main_v25_apply, val_main_cst_7_apply, val_main_v24_apply, val_main_cst_6_apply]
  refine congrArg (half * ·) ((zero_sum _).trans ?_)
  refine Fintype.sum_equiv ⟨fun j : S4096.Idx => (j 0 : Fin 4096), fun k => ix1 k, fun j => funext fun a => by
    match a with
    | ⟨0, _⟩ => rfl, fun _ => rfl⟩ _ _ fun j => ?_
  obtain ⟨k, rfl⟩ : ∃ k : Fin 4096, j = ix1 k := ⟨j 0, funext fun a => by
    match a with
    | ⟨0, _⟩ => rfl⟩
  exact sq_eq h g z k

end Cert.LossHeadReferenceIdeal.Product

end
-- ==== Proof.LossHeadClaim.lean ====
/- The claims for LossHead: the frame of its reference, and that the idealized call and the reference both hand on `loss`, `result` and
   `scale` of Proof/LossHeadValue.lean. -/
module

public import proofs.«01_k».proof.Defs
public import proofs.«01_k».proof.Proof.LossHeadValue
public import Idealize.ShloMosaic.Lib.Quiescent

@[expose] public section

noncomputable section

namespace Cert.LossHeadIdeal.Product

open Idealize.ShloMosaic Idealize.ShloMosaic.StableHlo Idealize.SL.Sem Cert.NormGrad

theorem frame_ref : Cert.quiescent_LossHeadReferenceIdeal (hLossHeadReferenceIdeal := Cert.LossHeadReferenceIdeal.Gen.facts) := fun m ρ _ =>
  (θ_run Cert.LossHeadReferenceIdeal.defs _ _).mono (fun r h => ⟨fun c => (h c).2.2.2, sem_eq_zero_of_no_sems (by decide) r.2⟩)
    (Cert.LossHeadReferenceIdeal.Value.run (F := Ideal) m ρ)

section Reference
variable {h h' : Inp} {g g' : GSca} {z z' : Inp} (eh : h' = h) (eg : g' = g) (ez : z' = z)
include eh eg ez

theorem loss_eq : Cert.LossHeadReferenceIdeal.Read.val_main_v53 (F := Ideal) h' g' z' = loss h g z := by
  subst eh eg ez
  exact Cert.LossHeadReferenceIdeal.Product.loss_value _ _ _
theorem result_eq : Cert.LossHeadReferenceIdeal.Read.val_main_v51 (F := Ideal) h' g' z' = result h g z := by
  subst eh eg ez
  exact Cert.LossHeadReferenceIdeal.Product.value _ _ _
theorem scale_eq : Cert.LossHeadReferenceIdeal.Read.val_main_v52 (F := Ideal) h' g' z' = scale h g z := by
  subst eh eg ez
  exact Cert.LossHeadReferenceIdeal.Product.scale_value _ _ _
end Reference

theorem algebraic : Cert.algebraic_LossHeadIdeal_LossHeadReferenceIdeal (hLossHeadIdeal := Cert.LossHeadIdeal.Gen.facts)
    (hLossHeadReferenceIdeal := Cert.LossHeadReferenceIdeal.Gen.facts) := by
  intro m g m' g' _ hargs
  refine ⟨fun c => loss (arg0 m c) (arg1 m c) (arg2 m c), fun c => result (arg0 m c) (arg1 m c) (arg2 m c),
    fun c => scale (arg0 m c) (arg1 m c) (arg2 m c), ?_, ?_⟩
  · exact (θ_run _ _ _).mono (fun r h c => ⟨(h c).1.trans (arr3 m c), (h c).2.1.trans (arr4 m c), (h c).2.2.1.trans (arr5 m c), (h c).2.2.2⟩)
      (Cert.LossHeadIdeal.Value.run_blocks m g)
  · exact (θ_run _ _ _).mono (fun r h c =>
      ⟨((h c).1.trans (Cert.LossHeadReferenceIdeal.Read.val_main_v53_eq _ _ _)).trans (loss_eq (hargs c).1 (hargs c).2.1 (hargs c).2.2),
       ((h c).2.1.trans (Cert.LossHeadReferenceIdeal.Read.val_main_v51_eq m' c)).trans (result_eq (hargs c).1 (hargs c).2.1 (hargs c).2.2),
       ((h c).2.2.1.trans (Cert.LossHeadReferenceIdeal.Read.val_main_v52_eq _ _ _)).trans (scale_eq (hargs c).1 (hargs c).2.1 (hargs c).2.2),
       (h c).2.2.2⟩) (Cert.LossHeadReferenceIdeal.Value.run (F := Ideal) m' g')

end Cert.LossHeadIdeal.Product

end
-- ==== Proof.AdamClaim.lean ====
/- The claims for the updates of the weights: for each of the seven groups of weights the frame of its reference, and that the
   idealized call and the reference hand on the same change of the weights and the same moments, entry by entry. -/
module

public import proofs.«01_k».proof.Defs
public import proofs.«01_k».proof.Proof.Index
public import proofs.«01_k».proof.Proof.Gen.AdamAttnInIdeal.Value
public import proofs.«01_k».proof.Proof.Gen.AdamAttnInReferenceIdeal.Read
public import proofs.«01_k».proof.Proof.Gen.AdamHgrnInIdeal.Value
public import proofs.«01_k».proof.Proof.Gen.AdamHgrnInReferenceIdeal.Read
public import proofs.«01_k».proof.Proof.Gen.AdamOutIdeal.Value
public import proofs.«01_k».proof.Proof.Gen.AdamOutReferenceIdeal.Read
public import proofs.«01_k».proof.Proof.Gen.AdamUpIdeal.Value
public import proofs.«01_k».proof.Proof.Gen.AdamUpReferenceIdeal.Read
public import proofs.«01_k».proof.Proof.Gen.AdamDownIdeal.Value
public import proofs.«01_k».proof.Proof.Gen.AdamDownReferenceIdeal.Read
public import proofs.«01_k».proof.Proof.Gen.AdamConvIdeal.Value
public import proofs.«01_k».proof.Proof.Gen.AdamConvReferenceIdeal.Read
public import proofs.«01_k».proof.Proof.Gen.AdamSmallIdeal.Value
public import proofs.«01_k».proof.Proof.Gen.AdamSmallReferenceIdeal.Read
public import Idealize.ShloMosaic.Lib.Quiescent

@[expose] public section

noncomputable section

open Idealize.ShloMosaic Idealize.ShloMosaic.StableHlo Idealize.SL.Sem Cert.Index

namespace Cert.AdamAttnInIdeal.Update

open Cert.AdamAttnInIdeal.Value

theorem frame_ref : Cert.quiescent_AdamAttnInReferenceIdeal (hAdamAttnInReferenceIdeal := Cert.AdamAttnInReferenceIdeal.Gen.facts) := fun m ρ _ =>
  (θ_run Cert.AdamAttnInReferenceIdeal.defs _ _).mono (fun r h => ⟨fun c => (h c).2.2.2, sem_eq_zero_of_no_sems (by decide) r.2⟩) (Cert.AdamAttnInReferenceIdeal.Value.run (F := Ideal) m ρ)

theorem algebraic : Cert.algebraic_AdamAttnInIdeal_AdamAttnInReferenceIdeal (hAdamAttnInIdeal := Cert.AdamAttnInIdeal.Gen.facts)
    (hAdamAttnInReferenceIdeal := Cert.AdamAttnInReferenceIdeal.Gen.facts) := by
  intro m g m' g' _ hargs
  refine ⟨_, _, _, (θ_run _ _ _).mono (fun r h c => h c) (run (F := Ideal) m g), ?_⟩
  exact (θ_run _ _ _).mono (fun r h c =>
    ⟨((h c).1.trans (Cert.AdamAttnInReferenceIdeal.Read.val_main_v23_eq _ _ _ _)).trans
      (eq_at4 (f := Cert.AdamAttnInReferenceIdeal.Read.val_main_v23 (F := Ideal)) (k := G4 (F := Ideal)) rfl (hargs c).1 (hargs c).2.1 (hargs c).2.2.1 (hargs c).2.2.2),
     ((h c).2.1.trans (Cert.AdamAttnInReferenceIdeal.Read.val_main_v4_eq _ _)).trans
      (eq_at (f := Cert.AdamAttnInReferenceIdeal.Read.val_main_v4 (F := Ideal)) (k := G5 (F := Ideal)) (fun _ _ => rfl) (hargs c).2.1 (hargs c).2.2.1),
     ((h c).2.2.1.trans (Cert.AdamAttnInReferenceIdeal.Read.val_main_v10_eq _ _)).trans
      (eq_at (f := Cert.AdamAttnInReferenceIdeal.Read.val_main_v10 (F := Ideal)) (k := G6 (F := Ideal)) (fun _ _ => rfl) (hargs c).2.1 (hargs c).2.2.2),
     (h c).2.2.2⟩) (Cert.AdamAttnInReferenceIdeal.Value.run (F := Ideal) m' g')

end Cert.AdamAttnInIdeal.Update

namespace Cert.AdamHgrnInIdeal.Update

open Cert.AdamHgrnInIdeal.Value

theorem frame_ref : Cert.quiescent_AdamHgrnInReferenceIdeal (hAdamHgrnInReferenceIdeal := Cert.AdamHgrnInReferenceIdeal.Gen.facts) := fun m ρ _ =>
  (θ_run Cert.AdamHgrnInReferenceIdeal.defs _ _).mono (fun r h => ⟨fun c => (h c).2.2.2, sem_eq_zero_of_no_sems (by decide) r.2⟩) (Cert.AdamHgrnInReferenceIdeal.Value.run (F := Ideal) m ρ)

theorem algebraic : Cert.algebraic_AdamHgrnInIdeal_AdamHgrnInReferenceIdeal (hAdamHgrnInIdeal := Cert.AdamHgrnInIdeal.Gen.facts)
    (hAdamHgrnInReferenceIdeal := Cert.AdamHgrnInReferenceIdeal.Gen.facts) := by
  intro m g m' g' _ hargs
  refine ⟨_, _, _, (θ_run _ _ _).mono (fun r h c => h c) (run (F := Ideal) m g), ?_⟩
  exact (θ_run _ _ _).mono (fun r h c =>
    ⟨((h c).1.trans (Cert.AdamHgrnInReferenceIdeal.Read.val_main_v23_eq _ _ _ _)).trans
      (eq_at4 (f := Cert.AdamHgrnInReferenceIdeal.Read.val_main_v23 (F := Ideal)) (k := G4 (F := Ideal)) rfl (hargs c).1 (hargs c).2.1 (hargs c).2.2.1 (hargs c).2.2.2),
     ((h c).2.1.trans (Cert.AdamHgrnInReferenceIdeal.Read.val_main_v4_eq _ _)).trans
      (eq_at (f := Cert.AdamHgrnInReferenceIdeal.Read.val_main_v4 (F := Ideal)) (k := G5 (F := Ideal)) (fun _ _ => rfl) (hargs c).2.1 (hargs c).2.2.1),
     ((h c).2.2.1.trans (Cert.AdamHgrnInReferenceIdeal.Read.val_main_v10_eq _ _)).trans
      (eq_at (f := Cert.AdamHgrnInReferenceIdeal.Read.val_main_v10 (F := Ideal)) (k := G6 (F := Ideal)) (fun _ _ => rfl) (hargs c).2.1 (hargs c).2.2.2),
     (h c).2.2.2⟩) (Cert.AdamHgrnInReferenceIdeal.Value.run (F := Ideal) m' g')

end Cert.AdamHgrnInIdeal.Update

namespace Cert.AdamOutIdeal.Update

open Cert.AdamOutIdeal.Value

theorem frame_ref : Cert.quiescent_AdamOutReferenceIdeal (hAdamOutReferenceIdeal := Cert.AdamOutReferenceIdeal.Gen.facts) := fun m ρ _ =>
  (θ_run Cert.AdamOutReferenceIdeal.defs _ _).mono (fun r h => ⟨fun c => (h c).2.2.2, sem_eq_zero_of_no_sems (by decide) r.2⟩) (Cert.AdamOutReferenceIdeal.Value.run (F := Ideal) m ρ)

theorem algebraic : Cert.algebraic_AdamOutIdeal_AdamOutReferenceIdeal (hAdamOutIdeal := Cert.AdamOutIdeal.Gen.facts)
    (hAdamOutReferenceIdeal := Cert.AdamOutReferenceIdeal.Gen.facts) := by
  intro m g m' g' _ hargs
  refine ⟨_, _, _, (θ_run _ _ _).mono (fun r h c => h c) (run (F := Ideal) m g), ?_⟩
  exact (θ_run _ _ _).mono (fun r h c =>
    ⟨((h c).1.trans (Cert.AdamOutReferenceIdeal.Read.val_main_v23_eq _ _ _ _)).trans
      (eq_at4 (f := Cert.AdamOutReferenceIdeal.Read.val_main_v23 (F := Ideal)) (k := G4 (F := Ideal)) rfl (hargs c).1 (hargs c).2.1 (hargs c).2.2.1 (hargs c).2.2.2),
     ((h c).2.1.trans (Cert.AdamOutReferenceIdeal.Read.val_main_v4_eq _ _)).trans
      (eq_at (f := Cert.AdamOutReferenceIdeal.Read.val_main_v4 (F := Ideal)) (k := G5 (F := Ideal)) (fun _ _ => rfl) (hargs c).2.1 (hargs c).2.2.1),
     ((h c).2.2.1.trans (Cert.AdamOutReferenceIdeal.Read.val_main_v10_eq _ _)).trans
      (eq_at (f := Cert.AdamOutReferenceIdeal.Read.val_main_v10 (F := Ideal)) (k := G6 (F := Ideal)) (fun _ _ => rfl) (hargs c).2.1 (hargs c).2.2.2),
     (h c).2.2.2⟩) (Cert.AdamOutReferenceIdeal.Value.run (F := Ideal) m' g')

end Cert.AdamOutIdeal.Update

namespace Cert.AdamUpIdeal.Update

open Cert.AdamUpIdeal.Value

theorem frame_ref : Cert.quiescent_AdamUpReferenceIdeal (hAdamUpReferenceIdeal := Cert.AdamUpReferenceIdeal.Gen.facts) := fun m ρ _ =>
  (θ_run Cert.AdamUpReferenceIdeal.defs _ _).mono (fun r h => ⟨fun c => (h c).2.2.2, sem_eq_zero_of_no_sems (by decide) r.2⟩) (Cert.AdamUpReferenceIdeal.Value.run (F := Ideal) m ρ)

theorem algebraic : Cert.algebraic_AdamUpIdeal_AdamUpReferenceIdeal (hAdamUpIdeal := Cert.AdamUpIdeal.Gen.facts)
    (hAdamUpReferenceIdeal := Cert.AdamUpReferenceIdeal.Gen.facts) := by
  intro m g m' g' _ hargs
  refine ⟨_, _, _, (θ_run _ _ _).mono (fun r h c => h c) (run (F := Ideal) m g), ?_⟩
  exact (θ_run _ _ _).mono (fun r h c =>
    ⟨((h c).1.trans (Cert.AdamUpReferenceIdeal.Read.val_main_v23_eq _ _ _ _)).trans
      (eq_at4 (f := Cert.AdamUpReferenceIdeal.Read.val_main_v23 (F := Ideal)) (k := G4 (F := Ideal)) rfl (hargs c).1 (hargs c).2.1 (hargs c).2.2.1 (hargs c).2.2.2),
     ((h c).2.1.trans (Cert.AdamUpReferenceIdeal.Read.val_main_v4_eq _ _)).trans
      (eq_at (f := Cert.AdamUpReferenceIdeal.Read.val_main_v4 (F := Ideal)) (k := G5 (F := Ideal)) (fun _ _ => rfl) (hargs c).2.1 (hargs c).2.2.1),
     ((h c).2.2.1.trans (Cert.AdamUpReferenceIdeal.Read.val_main_v10_eq _ _)).trans
      (eq_at (f := Cert.AdamUpReferenceIdeal.Read.val_main_v10 (F := Ideal)) (k := G6 (F := Ideal)) (fun _ _ => rfl) (hargs c).2.1 (hargs c).2.2.2),
     (h c).2.2.2⟩) (Cert.AdamUpReferenceIdeal.Value.run (F := Ideal) m' g')

end Cert.AdamUpIdeal.Update

namespace Cert.AdamDownIdeal.Update

open Cert.AdamDownIdeal.Value

theorem frame_ref : Cert.quiescent_AdamDownReferenceIdeal (hAdamDownReferenceIdeal := Cert.AdamDownReferenceIdeal.Gen.facts) := fun m ρ _ =>
  (θ_run Cert.AdamDownReferenceIdeal.defs _ _).mono (fun r h => ⟨fun c => (h c).2.2.2, sem_eq_zero_of_no_sems (by decide) r.2⟩) (Cert.AdamDownReferenceIdeal.Value.run (F := Ideal) m ρ)

theorem algebraic : Cert.algebraic_AdamDownIdeal_AdamDownReferenceIdeal (hAdamDownIdeal := Cert.AdamDownIdeal.Gen.facts)
    (hAdamDownReferenceIdeal := Cert.AdamDownReferenceIdeal.Gen.facts) := by
  intro m g m' g' _ hargs
  refine ⟨_, _, _, (θ_run _ _ _).mono (fun r h c => h c) (run (F := Ideal) m g), ?_⟩
  exact (θ_run _ _ _).mono (fun r h c =>
    ⟨((h c).1.trans (Cert.AdamDownReferenceIdeal.Read.val_main_v23_eq _ _ _ _)).trans
      (eq_at4 (f := Cert.AdamDownReferenceIdeal.Read.val_main_v23 (F := Ideal)) (k := G4 (F := Ideal)) rfl (hargs c).1 (hargs c).2.1 (hargs c).2.2.1 (hargs c).2.2.2),
     ((h c).2.1.trans (Cert.AdamDownReferenceIdeal.Read.val_main_v4_eq _ _)).trans
      (eq_at (f := Cert.AdamDownReferenceIdeal.Read.val_main_v4 (F := Ideal)) (k := G5 (F := Ideal)) (fun _ _ => rfl) (hargs c).2.1 (hargs c).2.2.1),
     ((h c).2.2.1.trans (Cert.AdamDownReferenceIdeal.Read.val_main_v10_eq _ _)).trans
      (eq_at (f := Cert.AdamDownReferenceIdeal.Read.val_main_v10 (F := Ideal)) (k := G6 (F := Ideal)) (fun _ _ => rfl) (hargs c).2.1 (hargs c).2.2.2),
     (h c).2.2.2⟩) (Cert.AdamDownReferenceIdeal.Value.run (F := Ideal) m' g')

end Cert.AdamDownIdeal.Update

namespace Cert.AdamConvIdeal.Update

open Cert.AdamConvIdeal.Value

theorem frame_ref : Cert.quiescent_AdamConvReferenceIdeal (hAdamConvReferenceIdeal := Cert.AdamConvReferenceIdeal.Gen.facts) := fun m ρ _ =>
  (θ_run Cert.AdamConvReferenceIdeal.defs _ _).mono (fun r h => ⟨fun c => (h c).2.2.2, sem_eq_zero_of_no_sems (by decide) r.2⟩) (Cert.AdamConvReferenceIdeal.Value.run (F := Ideal) m ρ)

theorem algebraic : Cert.algebraic_AdamConvIdeal_AdamConvReferenceIdeal (hAdamConvIdeal := Cert.AdamConvIdeal.Gen.facts)
    (hAdamConvReferenceIdeal := Cert.AdamConvReferenceIdeal.Gen.facts) := by
  intro m g m' g' _ hargs
  refine ⟨_, _, _, (θ_run _ _ _).mono (fun r h c => h c) (run (F := Ideal) m g), ?_⟩
  exact (θ_run _ _ _).mono (fun r h c =>
    ⟨((h c).1.trans (Cert.AdamConvReferenceIdeal.Read.val_main_v23_eq _ _ _ _)).trans
      (eq_at4 (f := Cert.AdamConvReferenceIdeal.Read.val_main_v23 (F := Ideal)) (k := G4 (F := Ideal)) rfl (hargs c).1 (hargs c).2.1 (hargs c).2.2.1 (hargs c).2.2.2),
     ((h c).2.1.trans (Cert.AdamConvReferenceIdeal.Read.val_main_v4_eq _ _)).trans
      (eq_at (f := Cert.AdamConvReferenceIdeal.Read.val_main_v4 (F := Ideal)) (k := G5 (F := Ideal)) (fun _ _ => rfl) (hargs c).2.1 (hargs c).2.2.1),
     ((h c).2.2.1.trans (Cert.AdamConvReferenceIdeal.Read.val_main_v10_eq _ _)).trans
      (eq_at (f := Cert.AdamConvReferenceIdeal.Read.val_main_v10 (F := Ideal)) (k := G6 (F := Ideal)) (fun _ _ => rfl) (hargs c).2.1 (hargs c).2.2.2),
     (h c).2.2.2⟩) (Cert.AdamConvReferenceIdeal.Value.run (F := Ideal) m' g')

end Cert.AdamConvIdeal.Update

namespace Cert.AdamSmallIdeal.Update

open Cert.AdamSmallIdeal.Value

theorem frame_ref : Cert.quiescent_AdamSmallReferenceIdeal (hAdamSmallReferenceIdeal := Cert.AdamSmallReferenceIdeal.Gen.facts) := fun m ρ _ =>
  (θ_run Cert.AdamSmallReferenceIdeal.defs _ _).mono (fun r h => ⟨fun c => (h c).2.2.2, sem_eq_zero_of_no_sems (by decide) r.2⟩) (Cert.AdamSmallReferenceIdeal.Value.run (F := Ideal) m ρ)

theorem algebraic : Cert.algebraic_AdamSmallIdeal_AdamSmallReferenceIdeal (hAdamSmallIdeal := Cert.AdamSmallIdeal.Gen.facts)
    (hAdamSmallReferenceIdeal := Cert.AdamSmallReferenceIdeal.Gen.facts) := by
  intro m g m' g' _ hargs
  refine ⟨_, _, _, (θ_run _ _ _).mono (fun r h c => h c) (run (F := Ideal) m g), ?_⟩
  exact (θ_run _ _ _).mono (fun r h c =>
    ⟨((h c).1.trans (Cert.AdamSmallReferenceIdeal.Read.val_main_v23_eq _ _ _ _)).trans
      (eq_at4 (f := Cert.AdamSmallReferenceIdeal.Read.val_main_v23 (F := Ideal)) (k := G4 (F := Ideal)) rfl (hargs c).1 (hargs c).2.1 (hargs c).2.2.1 (hargs c).2.2.2),
     ((h c).2.1.trans (Cert.AdamSmallReferenceIdeal.Read.val_main_v4_eq _ _)).trans
      (eq_at (f := Cert.AdamSmallReferenceIdeal.Read.val_main_v4 (F := Ideal)) (k := G5 (F := Ideal)) (fun _ _ => rfl) (hargs c).2.1 (hargs c).2.2.1),
     ((h c).2.2.1.trans (Cert.AdamSmallReferenceIdeal.Read.val_main_v10_eq _ _)).trans
      (eq_at (f := Cert.AdamSmallReferenceIdeal.Read.val_main_v10 (F := Ideal)) (k := G6 (F := Ideal)) (fun _ _ => rfl) (hargs c).2.1 (hargs c).2.2.2),
     (h c).2.2.2⟩) (Cert.AdamSmallReferenceIdeal.Value.run (F := Ideal) m' g')

end Cert.AdamSmallIdeal.Update

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Tail
public import proofs.«01_k».proof.Proof.RefEq
public import proofs.«01_k».proof.Proof.PreFinite
public import proofs.«01_k».proof.Proof.Gen.UpFwd0.Frame
public import proofs.«01_k».proof.Proof.UpFwd0Claim
public import proofs.«01_k».proof.Proof.Gen.UpFwd1.Frame
public import proofs.«01_k».proof.Proof.UpFwd1Claim
public import proofs.«01_k».proof.Proof.Gen.UpFwd2.Frame
public import proofs.«01_k».proof.Proof.UpFwd2Claim
public import proofs.«01_k».proof.Proof.Gen.UpFwd3.Frame
public import proofs.«01_k».proof.Proof.UpFwd3Claim
public import proofs.«01_k».proof.Proof.Gen.DownFwd0.Frame
public import proofs.«01_k».proof.Proof.DownFwd0Claim
public import proofs.«01_k».proof.Proof.Gen.DownFwd1.Frame
public import proofs.«01_k».proof.Proof.DownFwd1Claim
public import proofs.«01_k».proof.Proof.Gen.DownFwd2.Frame
public import proofs.«01_k».proof.Proof.DownFwd2Claim
public import proofs.«01_k».proof.Proof.Gen.DownFwd3.Frame
public import proofs.«01_k».proof.Proof.DownFwd3Claim
public import proofs.«01_k».proof.Proof.Gen.AttnInFwd0.Frame
public import proofs.«01_k».proof.Proof.AttnInFwd0Claim
public import proofs.«01_k».proof.Proof.Gen.AttnInFwd1.Frame
public import proofs.«01_k».proof.Proof.AttnInFwd1Claim
public import proofs.«01_k».proof.Proof.Gen.HgrnInFwd0.Frame
public import proofs.«01_k».proof.Proof.HgrnInFwd0Claim
public import proofs.«01_k».proof.Proof.Gen.HgrnInFwd1.Frame
public import proofs.«01_k».proof.Proof.HgrnInFwd1Claim
public import proofs.«01_k».proof.Proof.Gen.OutFwd0.Frame
public import proofs.«01_k».proof.Proof.OutFwd0Claim
public import proofs.«01_k».proof.Proof.Gen.OutFwd1.Frame
public import proofs.«01_k».proof.Proof.OutFwd1Claim
public import proofs.«01_k».proof.Proof.Gen.DownDx0.Frame
public import proofs.«01_k».proof.Proof.DownDx0Claim
public import proofs.«01_k».proof.Proof.Gen.DownDx1.Frame
public import proofs.«01_k».proof.Proof.DownDx1Claim
public import proofs.«01_k».proof.Proof.Gen.DownDx2.Frame
public import proofs.«01_k».proof.Proof.DownDx2Claim
public import proofs.«01_k».proof.Proof.Gen.DownDx3.Frame
public import proofs.«01_k».proof.Proof.DownDx3Claim
public import proofs.«01_k».proof.Proof.Gen.HgrnOutDx0.Frame
public import proofs.«01_k».proof.Proof.HgrnOutDx0Claim
public import proofs.«01_k».proof.Proof.Gen.HgrnOutDx1.Frame
public import proofs.«01_k».proof.Proof.HgrnOutDx1Claim
public import proofs.«01_k».proof.Proof.Gen.AttnOutDx0.Frame
public import proofs.«01_k».proof.Proof.AttnOutDx0Claim
public import proofs.«01_k».proof.Proof.Gen.AttnOutDx1.Frame
public import proofs.«01_k».proof.Proof.AttnOutDx1Claim
public import proofs.«01_k».proof.Proof.Gen.UpDw.Frame
public import proofs.«01_k».proof.Proof.UpDwClaim
public import proofs.«01_k».proof.Proof.Gen.DownDw.Frame
public import proofs.«01_k».proof.Proof.DownDwClaim
public import proofs.«01_k».proof.Proof.Gen.AttnInDw.Frame
public import proofs.«01_k».proof.Proof.AttnInDwClaim
public import proofs.«01_k».proof.Proof.Gen.HgrnInDw.Frame
public import proofs.«01_k».proof.Proof.HgrnInDwClaim
public import proofs.«01_k».proof.Proof.Gen.OutDw.Frame
public import proofs.«01_k».proof.Proof.OutDwClaim
public import proofs.«01_k».proof.Proof.Gen.UpDx0.Frame
public import proofs.«01_k».proof.Proof.UpDx0Claim
public import proofs.«01_k».proof.Proof.Gen.UpDx1.Frame
public import proofs.«01_k».proof.Proof.UpDx1Claim
public import proofs.«01_k».proof.Proof.Gen.UpDx2.Frame
public import proofs.«01_k».proof.Proof.UpDx2Claim
public import proofs.«01_k».proof.Proof.Gen.UpDx3.Frame
public import proofs.«01_k».proof.Proof.UpDx3Claim
public import proofs.«01_k».proof.Proof.Gen.AttnInDx0.Frame
public import proofs.«01_k».proof.Proof.AttnInDx0Claim
public import proofs.«01_k».proof.Proof.Gen.AttnInDx1.Frame
public import proofs.«01_k».proof.Proof.AttnInDx1Claim
public import proofs.«01_k».proof.Proof.Gen.HgrnInDx0.Frame
public import proofs.«01_k».proof.Proof.HgrnInDx0Claim
public import proofs.«01_k».proof.Proof.Gen.HgrnInDx1.Frame
public import proofs.«01_k».proof.Proof.HgrnInDx1Claim
public import proofs.«01_k».proof.Proof.Gen.LossHead.Frame
public import proofs.«01_k».proof.Proof.LossHeadClaim
public import proofs.«01_k».proof.Proof.Gen.AdamAttnIn.Frame
public import proofs.«01_k».proof.Proof.AdamClaim
public import proofs.«01_k».proof.Proof.Gen.AdamHgrnIn.Frame
public import proofs.«01_k».proof.Proof.Gen.AdamOut.Frame
public import proofs.«01_k».proof.Proof.Gen.AdamUp.Frame
public import proofs.«01_k».proof.Proof.Gen.AdamDown.Frame
public import proofs.«01_k».proof.Proof.Gen.AdamConv.Frame
public import proofs.«01_k».proof.Proof.Gen.AdamSmall.Frame
public import Idealize.ShloMosaic.Lib.Quiescent
public import Idealize.ShloMosaic.Lib.Claim

@[expose] public section

noncomputable section

namespace Cert.Proof

open Idealize.ShloMosaic Idealize.ShloMosaic.StableHlo Idealize.SL.Sem

theorem frame_ref : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-! ## The two results -/

/-- The gradient of the projected rows, as an array. -/
def projArr (p : Proj) (s : Sinks) (o : Grad) : Proj := fun i => gradProj p s o (i 0) (i 1)
/-- The gradient of the sinks, as an array. -/
def sinkArr (p : Proj) (s : Sinks) (o : Grad) : Sinks := fun i =>
  gradSink p s o ⟨(i 0).val / 4, by have h : (i 0).val < 16 := (i 0).isLt; omega⟩ ⟨(i 0).val % 4, by omega⟩

theorem ext2 {x y : Proj} (h : ∀ i j, x (ix2 i j) = y (ix2 i j)) : x = y := funext fun i => by
  have e : i = ix2 (i 0) (i 1) := funext fun k => by
    match k with
    | ⟨0, _⟩ => rfl
    | ⟨1, _⟩ => rfl
  rw [e]
  exact h _ _
theorem ext1 {x y : Sinks} (h : ∀ i, x (ix1 i) = y (ix1 i)) : x = y := funext fun i => by
  have e : i = ix1 (i 0) := funext fun k => by
    match k with
    | ⟨0, _⟩ => rfl
  rw [e]
  exact h _

theorem ref_proj {p p' : Proj} {s s' : Sinks} {o o' : Grad} (ep : p' = p) (es : s' = s) (eo : o' = o) (hp : ∀ i, IsReal (p i)) (hs : ∀ i, IsReal (s i)) :
    Cert.ReferenceIdeal.Read.val_main_v164 (F := Ideal) p' s' o' = projArr p s o := by
  subst ep es eo
  exact ext2 fun i j => Cert.ReferenceIdeal.Attn.proj_eq _ _ _ hp hs i j
theorem ref_sink {p p' : Proj} {s s' : Sinks} {o o' : Grad} (ep : p' = p) (es : s' = s) (eo : o' = o) (hp : ∀ i, IsReal (p i)) (hs : ∀ i, IsReal (s i)) :
    Cert.ReferenceIdeal.Read.val_main_v135 (F := Ideal) p' s' o' = sinkArr p s o := by
  subst ep es eo
  exact ext1 fun i => Cert.ReferenceIdeal.Attn.sink_eq _ _ _ hp hs i

open Cert.KernelIdeal.Attn (proj sinks grad) in
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  refine ⟨fun c => projArr (proj m c) (sinks m c) (grad m c), fun c => sinkArr (proj m c) (sinks m c) (grad m c), ?_, ?_⟩
  · refine (θ_run _ _ _).mono (fun r h c => ⟨?_, ?_, h.2 c⟩) (θ_run_and (Cert.KernelIdeal.Gen.run_main m g) (Cert.KernelIdeal.Gen.unchanged m g))
    · exact ((h.1 c).2 Cert.KernelIdeal.main_v39 (Pipeline.mem_restRefs_of Cert.KernelIdeal.main_v39 (by decide) (by decide))).trans
        (ext2 fun i j => Cert.KernelIdeal.Attn.out39 m c i j)
    · exact ((h.1 c).2 Cert.KernelIdeal.main_v42 (Pipeline.mem_restRefs_of Cert.KernelIdeal.main_v42 (by decide) (by decide))).trans
        (ext1 fun i => Cert.KernelIdeal.Attn.out42 m c i)
  · refine (θ_run _ _ _).mono (fun r h c => ⟨?_, ?_, (h c).2.2⟩) (Cert.ReferenceIdeal.Value.run (F := Ideal) m' g')
    · exact ((h c).1.trans (Cert.ReferenceIdeal.Read.val_main_v164_eq (launchContents m' c))).trans
        (ref_proj (hargs c).1 (hargs c).2.1 (hargs c).2.2 (Cert.Pre_finite.real_of_fn _ _ _ (hpre c)).1 (Cert.Pre_finite.real_of_fn _ _ _ (hpre c)).2)
    · exact ((h c).2.1.trans (Cert.ReferenceIdeal.Read.val_main_v135_eq (launchContents m' c))).trans
        (ref_sink (hargs c).1 (hargs c).2.1 (hargs c).2.2 (Cert.Pre_finite.real_of_fn _ _ _ (hpre c)).1 (Cert.Pre_finite.real_of_fn _ _ _ (hpre c)).2)

theorem claim : Cert.Claim := ⟨
  Cert.Kernel.Gen.facts,
  Cert.KernelIdeal.Gen.facts,
  Cert.ReferenceIdeal.Gen.facts,
  Cert.UpFwd0.Gen.facts, Cert.UpFwd0Ideal.Gen.facts, Cert.UpFwd0ReferenceIdeal.Gen.facts,
  Cert.UpFwd1.Gen.facts, Cert.UpFwd1Ideal.Gen.facts, Cert.UpFwd1ReferenceIdeal.Gen.facts,
  Cert.UpFwd2.Gen.facts, Cert.UpFwd2Ideal.Gen.facts, Cert.UpFwd2ReferenceIdeal.Gen.facts,
  Cert.UpFwd3.Gen.facts, Cert.UpFwd3Ideal.Gen.facts, Cert.UpFwd3ReferenceIdeal.Gen.facts,
  Cert.DownFwd0.Gen.facts, Cert.DownFwd0Ideal.Gen.facts, Cert.DownFwd0ReferenceIdeal.Gen.facts,
  Cert.DownFwd1.Gen.facts, Cert.DownFwd1Ideal.Gen.facts, Cert.DownFwd1ReferenceIdeal.Gen.facts,
  Cert.DownFwd2.Gen.facts, Cert.DownFwd2Ideal.Gen.facts, Cert.DownFwd2ReferenceIdeal.Gen.facts,
  Cert.DownFwd3.Gen.facts, Cert.DownFwd3Ideal.Gen.facts, Cert.DownFwd3ReferenceIdeal.Gen.facts,
  Cert.AttnInFwd0.Gen.facts, Cert.AttnInFwd0Ideal.Gen.facts, Cert.AttnInFwd0ReferenceIdeal.Gen.facts,
  Cert.AttnInFwd1.Gen.facts, Cert.AttnInFwd1Ideal.Gen.facts, Cert.AttnInFwd1ReferenceIdeal.Gen.facts,
  Cert.HgrnInFwd0.Gen.facts, Cert.HgrnInFwd0Ideal.Gen.facts, Cert.HgrnInFwd0ReferenceIdeal.Gen.facts,
  Cert.HgrnInFwd1.Gen.facts, Cert.HgrnInFwd1Ideal.Gen.facts, Cert.HgrnInFwd1ReferenceIdeal.Gen.facts,
  Cert.OutFwd0.Gen.facts, Cert.OutFwd0Ideal.Gen.facts, Cert.OutFwd0ReferenceIdeal.Gen.facts,
  Cert.OutFwd1.Gen.facts, Cert.OutFwd1Ideal.Gen.facts, Cert.OutFwd1ReferenceIdeal.Gen.facts,
  Cert.DownDx0.Gen.facts, Cert.DownDx0Ideal.Gen.facts, Cert.DownDx0ReferenceIdeal.Gen.facts,
  Cert.DownDx1.Gen.facts, Cert.DownDx1Ideal.Gen.facts, Cert.DownDx1ReferenceIdeal.Gen.facts,
  Cert.DownDx2.Gen.facts, Cert.DownDx2Ideal.Gen.facts, Cert.DownDx2ReferenceIdeal.Gen.facts,
  Cert.DownDx3.Gen.facts, Cert.DownDx3Ideal.Gen.facts, Cert.DownDx3ReferenceIdeal.Gen.facts,
  Cert.HgrnOutDx0.Gen.facts, Cert.HgrnOutDx0Ideal.Gen.facts, Cert.HgrnOutDx0ReferenceIdeal.Gen.facts,
  Cert.HgrnOutDx1.Gen.facts, Cert.HgrnOutDx1Ideal.Gen.facts, Cert.HgrnOutDx1ReferenceIdeal.Gen.facts,
  Cert.AttnOutDx0.Gen.facts, Cert.AttnOutDx0Ideal.Gen.facts, Cert.AttnOutDx0ReferenceIdeal.Gen.facts,
  Cert.AttnOutDx1.Gen.facts, Cert.AttnOutDx1Ideal.Gen.facts, Cert.AttnOutDx1ReferenceIdeal.Gen.facts,
  Cert.UpDw.Gen.facts, Cert.UpDwIdeal.Gen.facts, Cert.UpDwReferenceIdeal.Gen.facts,
  Cert.DownDw.Gen.facts, Cert.DownDwIdeal.Gen.facts, Cert.DownDwReferenceIdeal.Gen.facts,
  Cert.AttnInDw.Gen.facts, Cert.AttnInDwIdeal.Gen.facts, Cert.AttnInDwReferenceIdeal.Gen.facts,
  Cert.HgrnInDw.Gen.facts, Cert.HgrnInDwIdeal.Gen.facts, Cert.HgrnInDwReferenceIdeal.Gen.facts,
  Cert.OutDw.Gen.facts, Cert.OutDwIdeal.Gen.facts, Cert.OutDwReferenceIdeal.Gen.facts,
  Cert.UpDx0.Gen.facts, Cert.UpDx0Ideal.Gen.facts, Cert.UpDx0ReferenceIdeal.Gen.facts,
  Cert.UpDx1.Gen.facts, Cert.UpDx1Ideal.Gen.facts, Cert.UpDx1ReferenceIdeal.Gen.facts,
  Cert.UpDx2.Gen.facts, Cert.UpDx2Ideal.Gen.facts, Cert.UpDx2ReferenceIdeal.Gen.facts,
  Cert.UpDx3.Gen.facts, Cert.UpDx3Ideal.Gen.facts, Cert.UpDx3ReferenceIdeal.Gen.facts,
  Cert.AttnInDx0.Gen.facts, Cert.AttnInDx0Ideal.Gen.facts, Cert.AttnInDx0ReferenceIdeal.Gen.facts,
  Cert.AttnInDx1.Gen.facts, Cert.AttnInDx1Ideal.Gen.facts, Cert.AttnInDx1ReferenceIdeal.Gen.facts,
  Cert.HgrnInDx0.Gen.facts, Cert.HgrnInDx0Ideal.Gen.facts, Cert.HgrnInDx0ReferenceIdeal.Gen.facts,
  Cert.HgrnInDx1.Gen.facts, Cert.HgrnInDx1Ideal.Gen.facts, Cert.HgrnInDx1ReferenceIdeal.Gen.facts,
  Cert.LossHead.Gen.facts, Cert.LossHeadIdeal.Gen.facts, Cert.LossHeadReferenceIdeal.Gen.facts,
  Cert.AdamAttnIn.Gen.facts, Cert.AdamAttnInIdeal.Gen.facts, Cert.AdamAttnInReferenceIdeal.Gen.facts,
  Cert.AdamHgrnIn.Gen.facts, Cert.AdamHgrnInIdeal.Gen.facts, Cert.AdamHgrnInReferenceIdeal.Gen.facts,
  Cert.AdamOut.Gen.facts, Cert.AdamOutIdeal.Gen.facts, Cert.AdamOutReferenceIdeal.Gen.facts,
  Cert.AdamUp.Gen.facts, Cert.AdamUpIdeal.Gen.facts, Cert.AdamUpReferenceIdeal.Gen.facts,
  Cert.AdamDown.Gen.facts, Cert.AdamDownIdeal.Gen.facts, Cert.AdamDownReferenceIdeal.Gen.facts,
  Cert.AdamConv.Gen.facts, Cert.AdamConvIdeal.Gen.facts, Cert.AdamConvReferenceIdeal.Gen.facts,
  Cert.AdamSmall.Gen.facts, Cert.AdamSmallIdeal.Gen.facts, Cert.AdamSmallReferenceIdeal.Gen.facts,
  Cert.Pre_finite.facts,
  fun m ρ _ => Cert.Kernel.Gen.frame m ρ,
  fun m ρ _ => Cert.KernelIdeal.Gen.frame m ρ,
  fun m ρ _ => Cert.KernelIdeal.Gen.frame m ρ,
  frame_ref,
  fun m ρ _ => frame_ref m ρ trivial,
  fun m ρ _ => Cert.UpFwd0.Gen.frame m ρ, fun m ρ _ => Cert.UpFwd0Ideal.Gen.frame m ρ, Cert.UpFwd0Ideal.Product.frame_ref,
  fun m ρ _ => Cert.UpFwd1.Gen.frame m ρ, fun m ρ _ => Cert.UpFwd1Ideal.Gen.frame m ρ, Cert.UpFwd1Ideal.Product.frame_ref,
  fun m ρ _ => Cert.UpFwd2.Gen.frame m ρ, fun m ρ _ => Cert.UpFwd2Ideal.Gen.frame m ρ, Cert.UpFwd2Ideal.Product.frame_ref,
  fun m ρ _ => Cert.UpFwd3.Gen.frame m ρ, fun m ρ _ => Cert.UpFwd3Ideal.Gen.frame m ρ, Cert.UpFwd3Ideal.Product.frame_ref,
  fun m ρ _ => Cert.DownFwd0.Gen.frame m ρ, fun m ρ _ => Cert.DownFwd0Ideal.Gen.frame m ρ, Cert.DownFwd0Ideal.Product.frame_ref,
  fun m ρ _ => Cert.DownFwd1.Gen.frame m ρ, fun m ρ _ => Cert.DownFwd1Ideal.Gen.frame m ρ, Cert.DownFwd1Ideal.Product.frame_ref,
  fun m ρ _ => Cert.DownFwd2.Gen.frame m ρ, fun m ρ _ => Cert.DownFwd2Ideal.Gen.frame m ρ, Cert.DownFwd2Ideal.Product.frame_ref,
  fun m ρ _ => Cert.DownFwd3.Gen.frame m ρ, fun m ρ _ => Cert.DownFwd3Ideal.Gen.frame m ρ, Cert.DownFwd3Ideal.Product.frame_ref,
  fun m ρ _ => Cert.AttnInFwd0.Gen.frame m ρ, fun m ρ _ => Cert.AttnInFwd0Ideal.Gen.frame m ρ, Cert.AttnInFwd0Ideal.Product.frame_ref,
  fun m ρ _ => Cert.AttnInFwd1.Gen.frame m ρ, fun m ρ _ => Cert.AttnInFwd1Ideal.Gen.frame m ρ, Cert.AttnInFwd1Ideal.Product.frame_ref,
  fun m ρ _ => Cert.HgrnInFwd0.Gen.frame m ρ, fun m ρ _ => Cert.HgrnInFwd0Ideal.Gen.frame m ρ, Cert.HgrnInFwd0Ideal.Product.frame_ref,
  fun m ρ _ => Cert.HgrnInFwd1.Gen.frame m ρ, fun m ρ _ => Cert.HgrnInFwd1Ideal.Gen.frame m ρ, Cert.HgrnInFwd1Ideal.Product.frame_ref,
  fun m ρ _ => Cert.OutFwd0.Gen.frame m ρ, fun m ρ _ => Cert.OutFwd0Ideal.Gen.frame m ρ, Cert.OutFwd0Ideal.Product.frame_ref,
  fun m ρ _ => Cert.OutFwd1.Gen.frame m ρ, fun m ρ _ => Cert.OutFwd1Ideal.Gen.frame m ρ, Cert.OutFwd1Ideal.Product.frame_ref,
  fun m ρ _ => Cert.DownDx0.Gen.frame m ρ, fun m ρ _ => Cert.DownDx0Ideal.Gen.frame m ρ, Cert.DownDx0Ideal.Product.frame_ref,
  fun m ρ _ => Cert.DownDx1.Gen.frame m ρ, fun m ρ _ => Cert.DownDx1Ideal.Gen.frame m ρ, Cert.DownDx1Ideal.Product.frame_ref,
  fun m ρ _ => Cert.DownDx2.Gen.frame m ρ, fun m ρ _ => Cert.DownDx2Ideal.Gen.frame m ρ, Cert.DownDx2Ideal.Product.frame_ref,
  fun m ρ _ => Cert.DownDx3.Gen.frame m ρ, fun m ρ _ => Cert.DownDx3Ideal.Gen.frame m ρ, Cert.DownDx3Ideal.Product.frame_ref,
  fun m ρ _ => Cert.HgrnOutDx0.Gen.frame m ρ, fun m ρ _ => Cert.HgrnOutDx0Ideal.Gen.frame m ρ, Cert.HgrnOutDx0Ideal.Product.frame_ref,
  fun m ρ _ => Cert.HgrnOutDx1.Gen.frame m ρ, fun m ρ _ => Cert.HgrnOutDx1Ideal.Gen.frame m ρ, Cert.HgrnOutDx1Ideal.Product.frame_ref,
  fun m ρ _ => Cert.AttnOutDx0.Gen.frame m ρ, fun m ρ _ => Cert.AttnOutDx0Ideal.Gen.frame m ρ, Cert.AttnOutDx0Ideal.Product.frame_ref,
  fun m ρ _ => Cert.AttnOutDx1.Gen.frame m ρ, fun m ρ _ => Cert.AttnOutDx1Ideal.Gen.frame m ρ, Cert.AttnOutDx1Ideal.Product.frame_ref,
  fun m ρ _ => Cert.UpDw.Gen.frame m ρ, fun m ρ _ => Cert.UpDwIdeal.Gen.frame m ρ, Cert.UpDwIdeal.Product.frame_ref,
  fun m ρ _ => Cert.DownDw.Gen.frame m ρ, fun m ρ _ => Cert.DownDwIdeal.Gen.frame m ρ, Cert.DownDwIdeal.Product.frame_ref,
  fun m ρ _ => Cert.AttnInDw.Gen.frame m ρ, fun m ρ _ => Cert.AttnInDwIdeal.Gen.frame m ρ, Cert.AttnInDwIdeal.Product.frame_ref,
  fun m ρ _ => Cert.HgrnInDw.Gen.frame m ρ, fun m ρ _ => Cert.HgrnInDwIdeal.Gen.frame m ρ, Cert.HgrnInDwIdeal.Product.frame_ref,
  fun m ρ _ => Cert.OutDw.Gen.frame m ρ, fun m ρ _ => Cert.OutDwIdeal.Gen.frame m ρ, Cert.OutDwIdeal.Product.frame_ref,
  fun m ρ _ => Cert.UpDx0.Gen.frame m ρ, fun m ρ _ => Cert.UpDx0Ideal.Gen.frame m ρ, Cert.UpDx0Ideal.Product.frame_ref,
  fun m ρ _ => Cert.UpDx1.Gen.frame m ρ, fun m ρ _ => Cert.UpDx1Ideal.Gen.frame m ρ, Cert.UpDx1Ideal.Product.frame_ref,
  fun m ρ _ => Cert.UpDx2.Gen.frame m ρ, fun m ρ _ => Cert.UpDx2Ideal.Gen.frame m ρ, Cert.UpDx2Ideal.Product.frame_ref,
  fun m ρ _ => Cert.UpDx3.Gen.frame m ρ, fun m ρ _ => Cert.UpDx3Ideal.Gen.frame m ρ, Cert.UpDx3Ideal.Product.frame_ref,
  fun m ρ _ => Cert.AttnInDx0.Gen.frame m ρ, fun m ρ _ => Cert.AttnInDx0Ideal.Gen.frame m ρ, Cert.AttnInDx0Ideal.Product.frame_ref,
  fun m ρ _ => Cert.AttnInDx1.Gen.frame m ρ, fun m ρ _ => Cert.AttnInDx1Ideal.Gen.frame m ρ, Cert.AttnInDx1Ideal.Product.frame_ref,
  fun m ρ _ => Cert.HgrnInDx0.Gen.frame m ρ, fun m ρ _ => Cert.HgrnInDx0Ideal.Gen.frame m ρ, Cert.HgrnInDx0Ideal.Product.frame_ref,
  fun m ρ _ => Cert.HgrnInDx1.Gen.frame m ρ, fun m ρ _ => Cert.HgrnInDx1Ideal.Gen.frame m ρ, Cert.HgrnInDx1Ideal.Product.frame_ref,
  fun m ρ _ => Cert.LossHead.Gen.frame m ρ, fun m ρ _ => Cert.LossHeadIdeal.Gen.frame m ρ, Cert.LossHeadIdeal.Product.frame_ref,
  fun m ρ _ => Cert.AdamAttnIn.Gen.frame m ρ, fun m ρ _ => Cert.AdamAttnInIdeal.Gen.frame m ρ, Cert.AdamAttnInIdeal.Update.frame_ref,
  fun m ρ _ => Cert.AdamHgrnIn.Gen.frame m ρ, fun m ρ _ => Cert.AdamHgrnInIdeal.Gen.frame m ρ, Cert.AdamHgrnInIdeal.Update.frame_ref,
  fun m ρ _ => Cert.AdamOut.Gen.frame m ρ, fun m ρ _ => Cert.AdamOutIdeal.Gen.frame m ρ, Cert.AdamOutIdeal.Update.frame_ref,
  fun m ρ _ => Cert.AdamUp.Gen.frame m ρ, fun m ρ _ => Cert.AdamUpIdeal.Gen.frame m ρ, Cert.AdamUpIdeal.Update.frame_ref,
  fun m ρ _ => Cert.AdamDown.Gen.frame m ρ, fun m ρ _ => Cert.AdamDownIdeal.Gen.frame m ρ, Cert.AdamDownIdeal.Update.frame_ref,
  fun m ρ _ => Cert.AdamConv.Gen.frame m ρ, fun m ρ _ => Cert.AdamConvIdeal.Gen.frame m ρ, Cert.AdamConvIdeal.Update.frame_ref,
  fun m ρ _ => Cert.AdamSmall.Gen.frame m ρ, fun m ρ _ => Cert.AdamSmallIdeal.Gen.frame m ρ, Cert.AdamSmallIdeal.Update.frame_ref,
  trivial, algebraic,
  trivial, Cert.UpFwd0Ideal.Product.algebraic,
  trivial, Cert.UpFwd1Ideal.Product.algebraic,
  trivial, Cert.UpFwd2Ideal.Product.algebraic,
  trivial, Cert.UpFwd3Ideal.Product.algebraic,
  trivial, Cert.DownFwd0Ideal.Product.algebraic,
  trivial, Cert.DownFwd1Ideal.Product.algebraic,
  trivial, Cert.DownFwd2Ideal.Product.algebraic,
  trivial, Cert.DownFwd3Ideal.Product.algebraic,
  trivial, Cert.AttnInFwd0Ideal.Product.algebraic,
  trivial, Cert.AttnInFwd1Ideal.Product.algebraic,
  trivial, Cert.HgrnInFwd0Ideal.Product.algebraic,
  trivial, Cert.HgrnInFwd1Ideal.Product.algebraic,
  trivial, Cert.OutFwd0Ideal.Product.algebraic,
  trivial, Cert.OutFwd1Ideal.Product.algebraic,
  trivial, Cert.DownDx0Ideal.Product.algebraic,
  trivial, Cert.DownDx1Ideal.Product.algebraic,
  trivial, Cert.DownDx2Ideal.Product.algebraic,
  trivial, Cert.DownDx3Ideal.Product.algebraic,
  trivial, Cert.HgrnOutDx0Ideal.Product.algebraic,
  trivial, Cert.HgrnOutDx1Ideal.Product.algebraic,
  trivial, Cert.AttnOutDx0Ideal.Product.algebraic,
  trivial, Cert.AttnOutDx1Ideal.Product.algebraic,
  trivial, Cert.UpDwIdeal.Product.algebraic,
  trivial, Cert.DownDwIdeal.Product.algebraic,
  trivial, Cert.AttnInDwIdeal.Product.algebraic,
  trivial, Cert.HgrnInDwIdeal.Product.algebraic,
  trivial, Cert.OutDwIdeal.Product.algebraic,
  trivial, Cert.UpDx0Ideal.Product.algebraic,
  trivial, Cert.UpDx1Ideal.Product.algebraic,
  trivial, Cert.UpDx2Ideal.Product.algebraic,
  trivial, Cert.UpDx3Ideal.Product.algebraic,
  trivial, Cert.AttnInDx0Ideal.Product.algebraic,
  trivial, Cert.AttnInDx1Ideal.Product.algebraic,
  trivial, Cert.HgrnInDx0Ideal.Product.algebraic,
  trivial, Cert.HgrnInDx1Ideal.Product.algebraic,
  trivial, Cert.LossHeadIdeal.Product.algebraic,
  trivial, Cert.AdamAttnInIdeal.Update.algebraic,
  trivial, Cert.AdamHgrnInIdeal.Update.algebraic,
  trivial, Cert.AdamOutIdeal.Update.algebraic,
  trivial, Cert.AdamUpIdeal.Update.algebraic,
  trivial, Cert.AdamDownIdeal.Update.algebraic,
  trivial, Cert.AdamConvIdeal.Update.algebraic,
  trivial, Cert.AdamSmallIdeal.Update.algebraic⟩

end Cert.Proof

end
